-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inproj [hPre_finite_inproj : Cert.Pre_finite_inproj.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inproj.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inproj [hPre_finite_inproj : Cert.Pre_finite_inproj.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inproj.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_inproj [hKernel2Ideal : Cert.Kernel2Ideal.Facts] [hPre_finite_inproj : Cert.Pre_finite_inproj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inproj m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_inproj [hReference2Ideal : Cert.Reference2Ideal.Facts] [hPre_finite_inproj : Cert.Pre_finite_inproj.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inproj m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)) (v6 : (c : Dev Cert.KernelIdeal.nD) → Buf (Elt Ideal) ((c.tc : Thread Cert.KernelIdeal.nD Cert.KernelIdeal.τ).loc Cert.KernelIdeal.main_v18_6)) (v7 : (c : Dev Cert.KernelIdeal.nD) → Buf (Elt Ideal) ((c.tc : Thread Cert.KernelIdeal.nD Cert.KernelIdeal.τ).loc Cert.KernelIdeal.main_v18_7)) (v8 : (c : Dev Cert.KernelIdeal.nD) → Buf (Elt Ideal) ((c.tc : Thread Cert.KernelIdeal.nD Cert.KernelIdeal.τ).loc Cert.KernelIdeal.main_v18_8)) (v9 : (c : Dev Cert.KernelIdeal.nD) → Buf (Elt Ideal) ((c.tc : Thread Cert.KernelIdeal.nD Cert.KernelIdeal.τ).loc Cert.KernelIdeal.main_v18_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_v18_6) = v6 c
          ∧ r.2.mem ((c.tc : Thread Cert.KernelIdeal.nD Cert.KernelIdeal.τ).loc Cert.KernelIdeal.main_v18_7) = v7 c
          ∧ r.2.mem ((c.tc : Thread Cert.KernelIdeal.nD Cert.KernelIdeal.τ).loc Cert.KernelIdeal.main_v18_8) = v8 c
          ∧ r.2.mem ((c.tc : Thread Cert.KernelIdeal.nD Cert.KernelIdeal.τ).loc Cert.KernelIdeal.main_v18_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v138) = v6 c
          ∧ r.2.mem ((c.tc : Thread Cert.ReferenceIdeal.nD Cert.ReferenceIdeal.τ).loc Cert.ReferenceIdeal.main_v127) = v7 c
          ∧ r.2.mem ((c.tc : Thread Cert.ReferenceIdeal.nD Cert.ReferenceIdeal.τ).loc Cert.ReferenceIdeal.main_v128) = v8 c
          ∧ r.2.mem ((c.tc : Thread Cert.ReferenceIdeal.nD Cert.ReferenceIdeal.τ).loc Cert.ReferenceIdeal.main_v132) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_inproj [hKernel2Ideal : Cert.Kernel2Ideal.Facts] [hReference2Ideal : Cert.Reference2Ideal.Facts] [hPre_finite_inproj : Cert.Pre_finite_inproj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inproj m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hKernel7 : Cert.Kernel7.Facts) (hKernel7Ideal : Cert.Kernel7Ideal.Facts) (hReference7Ideal : Cert.Reference7Ideal.Facts) (hPre_finite : Cert.Pre_finite.Facts) (hPre_finite_inproj : Cert.Pre_finite_inproj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_inproj (hKernel2Ideal := hKernel2Ideal) (hPre_finite_inproj := hPre_finite_inproj)
    ∧ quiescent_Reference2Ideal (hReference2Ideal := hReference2Ideal)
    ∧ quiescent_Reference2Ideal_pre_finite_inproj (hReference2Ideal := hReference2Ideal) (hPre_finite_inproj := hPre_finite_inproj)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_inproj (hKernel2Ideal := hKernel2Ideal) (hReference2Ideal := hReference2Ideal) (hPre_finite_inproj := hPre_finite_inproj)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ preserves_Kernel7_Kernel7Ideal
    ∧ algebraic_Kernel7Ideal_Reference7Ideal (hKernel7Ideal := hKernel7Ideal) (hReference7Ideal := hReference7Ideal)
-- ==== Pre_finite.lean ====
abbrev S4224x512 : Shape := ⟨2, ![4224, 512]⟩
abbrev S2x2048x1024 : Shape := ⟨3, ![2, 2048, 1024]⟩
abbrev S16x1024 : Shape := ⟨2, ![16, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S8x128 : Shape := ⟨2, ![8, 128]⟩
abbrev S_ : Shape := ⟨0, ![]⟩

class Facts : Prop where
  bitsLt_bf16_f32 : FTy.bits .bf16 < FTy.bits .f32
  bcast_S_S4224x512 : S_.BroadcastsInDim S4224x512 (![] : Fin 0 → Fin S4224x512.rank)
  reducesTo_S4224x512_S_d0_1 : S4224x512.ReducesTo [0, 1] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg10 : FVec F S1024 .f32) (main_v46 : IVec S_ 1) (main_v50 : IVec S_ 1) : IVec S_ 1 :=
  let main_v51 : IVec S_ 1 := andi main_v46 main_v50
  let main_v52 : FVec F S1024 .f32 := Host.absf main_arg10
  let main_cst_19 : FVec F S_ .f32 := constant S_ .f32 0x7F800000#32
  let main_v53 : FVec F S1024 .f32 := broadcastInDim S1024 ![] bcast_S_S1024 main_cst_19
  let main_v54 : IVec S1024 1 := cmpf .olt main_v52 main_v53
  let main_c_20 : IVec S_ 1 := constantI S_ 1 1#1
  let main_v55 : IVec S_ 1 := (fun x v => Host.reduce IntOp.andi x v reducesTo_S1024_S_d0 h_S_) main_v54 main_c_20
  let main_v56 : IVec S_ 1 := andi main_v51 main_v55
  main_v56

def fn_part2 {F : FTy → Type} [FloatOps F] (main_arg7 : FVec F S1x1024x2816 .f32) (main_arg8 : FVec F S1x2816x1024 .f32) (main_arg9 : FVec F S1x1024 .f32) (main_arg10 : FVec F S1024 .f32) (main_v31 : IVec S_ 1) (main_v32 : FVec F S1x1024x2816 .f32) (main_v33 : FVec F S1x1024x2816 .f32) : IVec S_ 1 :=
  let main_v34 : IVec S1x1024x2816 1 := cmpf .olt main_v32 main_v33
  let main_c_12 : IVec S_ 1 := constantI S_ 1 1#1
  let main_v35 : IVec S_ 1 := (fun x v => Host.reduce IntOp.andi x v reducesTo_S1x1024x2816_S_d0_1_2 h_S_) main_v34 main_c_12
  let main_v36 : IVec S_ 1 := andi main_v31 main_v35
  let main_v37 : FVec F S1x1024x2816 .f32 := Host.absf main_arg7
  let main_cst_13 : FVec F S_ .f32 := constant S_ .f32 0x7F800000#32
  let main_v38 : FVec F S1x1024x2816 .f32 := broadcastInDim S1x1024x2816 ![] bcast_S_S1x1024x2816 main_cst_13
  let main_v39 : IVec S1x1024x2816 1 := cmpf .olt main_v37 main_v38
  let main_c_14 : IVec S_ 1 := constantI S_ 1 1#1
  let main_v40 : IVec S_ 1 := (fun x v => Host.reduce IntOp.andi x v reducesTo_S1x1024x2816_S_d0_1_2 h_S_) main_v39 main_c_14
  let main_v41 : IVec S_ 1 := andi main_v36 main_v40
  let main_v42 : FVec F S1x2816x1024 .f32 := Host.absf main_arg8
  let main_cst_15 : FVec F S_ .f32 := constant S_ .f32 0x7F800000#32
  let main_v43 : FVec F S1x2816x1024 .f32 := broadcastInDim S1x2816x1024 ![] bcast_S_S1x2816x1024 main_cst_15
  let main_v44 : IVec S1x2816x1024 1 := cmpf .olt main_v42 main_v43
  let main_c_16 : IVec S_ 1 := constantI S_ 1 1#1
  let main_v45 : IVec S_ 1 := (fun x v => Host.reduce IntOp.andi x v reducesTo_S1x2816x1024_S_d0_1_2 h_S_) main_v44 main_c_16
  let main_v46 : IVec S_ 1 := andi main_v41 main_v45
  let main_v47 : FVec F S1x1024 .f32 := Host.absf main_arg9
  let main_cst_17 : FVec F S_ .f32 := constant S_ .f32 0x7F800000#32
  let main_v48 : FVec F S1x1024 .f32 := broadcastInDim S1x1024 ![] bcast_S_S1x1024 main_cst_17
  let main_v49 : IVec S1x1024 1 := cmpf .olt main_v47 main_v48
  let main_c_18 : IVec S_ 1 := constantI S_ 1 1#1
  let main_v50 : IVec S_ 1 := (fun x v => Host.reduce IntOp.andi x v reducesTo_S1x1024_S_d0_1 h_S_) main_v49 main_c_18
  fn_part3 (F := F) main_arg10 main_v46 main_v50

def fn_part1 {F : FTy → Type} [FloatOps F] (main_arg3 : FVec F S16x1024 .f32) (main_arg4 : FVec F S2x2048x1024 .f32) (main_arg5 : FVec F S1x1024x1024 .f32) (main_arg6 : FVec F S1x1024x2816 .f32) (main_arg7 : FVec F S1x1024x2816 .f32) (main_arg8 : FVec F S1x2816x1024 .f32) (main_arg9 : FVec F S1x1024 .f32) (main_arg10 : FVec F S1024 .f32) (main_v16 : IVec S_ 1) : IVec S_ 1 :=
  let main_v17 : FVec F S16x1024 .f32 := Host.absf main_arg3
  let main_cst_5 : FVec F S_ .f32 := constant S_ .f32 0x7F800000#32
  let main_v18 : FVec F S16x1024 .f32 := broadcastInDim S16x1024 ![] bcast_S_S16x1024 main_cst_5
  let main_v19 : IVec S16x1024 1 := cmpf .olt main_v17 main_v18
  let main_c_6 : IVec S_ 1 := constantI S_ 1 1#1
  let main_v20 : IVec S_ 1 := (fun x v => Host.reduce IntOp.andi x v reducesTo_S16x1024_S_d0_1 h_S_) main_v19 main_c_6
  let main_v21 : IVec S_ 1 := andi main_v16 main_v20
  let main_v22 : FVec F S2x2048x1024 .f32 := Host.absf main_arg4
  let main_cst_7 : FVec F S_ .f32 := constant S_ .f32 0x7F800000#32
  let main_v23 : FVec F S2x2048x1024 .f32 := broadcastInDim S2x2048x1024 ![] bcast_S_S2x2048x1024 main_cst_7
  let main_v24 : IVec S2x2048x1024 1 := cmpf .olt main_v22 main_v23
  let main_c_8 : IVec S_ 1 := constantI S_ 1 1#1
  let main_v25 : IVec S_ 1 := (fun x v => Host.reduce IntOp.andi x v reducesTo_S2x2048x1024_S_d0_1_2 h_S_) main_v24 main_c_8
  let main_v26 : IVec S_ 1 := andi main_v21 main_v25
  let main_v27 : FVec F S1x1024x1024 .f32 := Host.absf main_arg5
  let main_cst_9 : FVec F S_ .f32 := constant S_ .f32 0x7F800000#32
  let main_v28 : FVec F S1x1024x1024 .f32 := broadcastInDim S1x1024x1024 ![] bcast_S_S1x1024x1024 main_cst_9
  let main_v29 : IVec S1x1024x1024 1 := cmpf .olt main_v27 main_v28
  let main_c_10 : IVec S_ 1 := constantI S_ 1 1#1
  let main_v30 : IVec S_ 1 := (fun x v => Host.reduce IntOp.andi x v reducesTo_S1x1024x1024_S_d0_1_2 h_S_) main_v29 main_c_10
  let main_v31 : IVec S_ 1 := andi main_v26 main_v30
  let main_v32 : FVec F S1x1024x2816 .f32 := Host.absf main_arg6
  let main_cst_11 : FVec F S_ .f32 := constant S_ .f32 0x7F800000#32
  let main_v33 : FVec F S1x1024x2816 .f32 := broadcastInDim S1x1024x2816 ![] bcast_S_S1x1024x2816 main_cst_11
  fn_part2 (F := F) main_arg7 main_arg8 main_arg9 main_arg10 main_v31 main_v32 main_v33

def fn {F : FTy → Type} [FloatOps F] (main_arg0 : FVec F S4224x512 .bf16) (main_arg1 : FVec F S4224x512 .bf16) (main_arg2 : FVec F S2x2048x1024 .f32) (main_arg3 : FVec F S16x1024 .f32) (main_arg4 : FVec F S2x2048x1024 .f32) (main_arg5 : FVec F S1x1024x1024 .f32) (main_arg6 : FVec F S1x1024x2816 .f32) (main_arg7 : FVec F S1x1024x2816 .f32) (main_arg8 : FVec F S1x2816x1024 .f32) (main_arg9 : FVec F S1x1024 .f32) (main_arg10 : FVec F S1024 .f32) (main_arg11 : FVec F S8x128 .f32) : IVec S_ 1 :=
  let main_v0 : FVec F S4224x512 .f32 := (extf .f32 · bitsLt_bf16_f32) main_arg0
  let main_v1 : FVec F S4224x512 .f32 := (extf .f32 · bitsLt_bf16_f32) main_arg1
  let main_v2 : FVec F S4224x512 .f32 := Host.absf main_v0
  let main_cst : FVec F S_ .f32 := constant S_ .f32 0x7F800000#32
  let main_v3 : FVec F S4224x512 .f32 := broadcastInDim S4224x512 ![] bcast_S_S4224x512 main_cst
  let main_v4 : IVec S4224x512 1 := cmpf .olt main_v2 main_v3
  let main_c : IVec S_ 1 := constantI S_ 1 1#1
  let main_v5 : IVec S_ 1 := (fun x v => Host.reduce IntOp.andi x v reducesTo_S4224x512_S_d0_1 h_S_) main_v4 main_c
  let main_c_0 : IVec S_ 1 := constantI S_ 1 1#1
  let main_v6 : IVec S_ 1 := andi main_c_0 main_v5
  let main_v7 : FVec F S4224x512 .f32 := Host.absf main_v1
  let main_cst_1 : FVec F S_ .f32 := constant S_ .f32 0x7F800000#32
  let main_v8 : FVec F S4224x512 .f32 := broadcastInDim S4224x512 ![] bcast_S_S4224x512 main_cst_1
  let main_v9 : IVec S4224x512 1 := cmpf .olt main_v7 main_v8
  let main_c_2 : IVec S_ 1 := constantI S_ 1 1#1
  let main_v10 : IVec S_ 1 := (fun x v => Host.reduce IntOp.andi x v reducesTo_S4224x512_S_d0_1 h_S_) main_v9 main_c_2
  let main_v11 : IVec S_ 1 := andi main_v6 main_v10
  let main_v12 : FVec F S2x2048x1024 .f32 := Host.absf main_arg2
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  let main_c_4 : IVec S_ 1 := constantI S_ 1 1#1
  let main_v15 : IVec S_ 1 := (fun x v => Host.reduce IntOp.andi x v reducesTo_S2x2048x1024_S_d0_1_2 h_S_) main_v14 main_c_4
  let main_v16 : IVec S_ 1 := andi main_v11 main_v15
  fn_part1 (F := F) main_arg3 main_arg4 main_arg5 main_arg6 main_arg7 main_arg8 main_arg9 main_arg10 main_v16
-- ==== Pre_finite_inproj.lean ====
abbrev S4224x1024 : Shape := ⟨2, ![4224, 1024]⟩
abbrev S4224x512 : Shape := ⟨2, ![4224, 512]⟩
abbrev S4224x128 : Shape := ⟨2, ![4224, 128]⟩
abbrev S2x2048x1024 : Shape := ⟨3, ![2, 2048, 1024]⟩
abbrev S16x1024 : Shape := ⟨2, ![16, 1024]⟩
abbrev S1x1024x2576 : Shape := ⟨3, ![1, 1024, 2576]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S4224x128 : S_.BroadcastsInDim S4224x128 (![] : Fin 0 → Fin S4224x128.rank)
  reducesTo_S4224x128_S_d0_1 : S4224x128.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S1x1024x2576 : S_.BroadcastsInDim S1x1024x2576 (![] : Fin 0 → Fin S1x1024x2576.rank)
  reducesTo_S1x1024x2576_S_d0_1_2 : S1x1024x2576.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024x2576 .f32) (main_arg8 : FVec F S1x1024 .f32) (main_v33 : IVec S_ 1) (main_v34 : FVec F S16x1024 .f32) : IVec S_ 1 :=
  let main_cst_11 : FVec F S_ .f32 := constant S_ .f32 0x7F800000#32
  let main_v35 : FVec F S16x1024 .f32 := broadcastInDim S16x1024 ![] bcast_S_S16x1024 main_cst_11
  let main_v36 : IVec S16x1024 1 := cmpf .olt main_v34 main_v35
  let main_c_12 : IVec S_ 1 := constantI S_ 1 1#1
  let main_v37 : IVec S_ 1 := (fun x v => Host.reduce IntOp.andi x v reducesTo_S16x1024_S_d0_1 h_S_) main_v36 main_c_12
  let main_v38 : IVec S_ 1 := andi main_v33 main_v37
  let main_v39 : FVec F S1x1024x2576 .f32 := Host.absf main_arg7
  let main_cst_13 : FVec F S_ .f32 := constant S_ .f32 0x7F800000#32
  let main_v40 : FVec F S1x1024x2576 .f32 := broadcastInDim S1x1024x2576 ![] bcast_S_S1x1024x2576 main_cst_13
  let main_v41 : IVec S1x1024x2576 1 := cmpf .olt main_v39 main_v40
  let main_c_14 : IVec S_ 1 := constantI S_ 1 1#1
  let main_v42 : IVec S_ 1 := (fun x v => Host.reduce IntOp.andi x v reducesTo_S1x1024x2576_S_d0_1_2 h_S_) main_v41 main_c_14
  let main_v43 : IVec S_ 1 := andi main_v38 main_v42
  let main_v44 : FVec F S1x1024 .f32 := Host.absf main_arg8
  let main_cst_15 : FVec F S_ .f32 := constant S_ .f32 0x7F800000#32
  let main_v45 : FVec F S1x1024 .f32 := broadcastInDim S1x1024 ![] bcast_S_S1x1024 main_cst_15
  let main_v46 : IVec S1x1024 1 := cmpf .olt main_v44 main_v45
  let main_c_16 : IVec S_ 1 := constantI S_ 1 1#1
  let main_v47 : IVec S_ 1 := (fun x v => Host.reduce IntOp.andi x v reducesTo_S1x1024_S_d0_1 h_S_) main_v46 main_c_16
  let main_v48 : IVec S_ 1 := andi main_v43 main_v47
  main_v48

def fn_part1 {F : FTy → Type} [FloatOps F] (main_arg4 : FVec F S4224x1024 .f32) (main_arg5 : FVec F S2x2048x1024 .f32) (main_arg6 : FVec F S16x1024 .f32) (main_arg7 : FVec F S1x1024x2576 .f32) (main_arg8 : FVec F S1x1024 .f32) (main_v3 : FVec F S4224x128 .f32) (main_v13 : IVec S_ 1) (main_v16 : IVec S4224x1024 1) (main_c_4 : IVec S_ 1) : IVec S_ 1 :=
  let main_v17 : IVec S_ 1 := (fun x v => Host.reduce IntOp.andi x v reducesTo_S4224x1024_S_d0_1 h_S_) main_v16 main_c_4
  let main_v18 : IVec S_ 1 := andi main_v13 main_v17
  let main_v19 : FVec F S4224x128 .f32 := Host.absf main_v3
  let main_cst_5 : FVec F S_ .f32 := constant S_ .f32 0x7F800000#32
  let main_v20 : FVec F S4224x128 .f32 := broadcastInDim S4224x128 ![] bcast_S_S4224x128 main_cst_5
  let main_v21 : IVec S4224x128 1 := cmpf .olt main_v19 main_v20
  let main_c_6 : IVec S_ 1 := constantI S_ 1 1#1
  let main_v22 : IVec S_ 1 := (fun x v => Host.reduce IntOp.andi x v reducesTo_S4224x128_S_d0_1 h_S_) main_v21 main_c_6
  let main_v23 : IVec S_ 1 := andi main_v18 main_v22
  let main_v24 : FVec F S4224x1024 .f32 := Host.absf main_arg4
  let main_cst_7 : FVec F S_ .f32 := constant S_ .f32 0x7F800000#32
  let main_v25 : FVec F S4224x1024 .f32 := broadcastInDim S4224x1024 ![] bcast_S_S4224x1024 main_cst_7
  let main_v26 : IVec S4224x1024 1 := cmpf .olt main_v24 main_v25
  let main_c_8 : IVec S_ 1 := constantI S_ 1 1#1
  let main_v27 : IVec S_ 1 := (fun x v => Host.reduce IntOp.andi x v reducesTo_S4224x1024_S_d0_1 h_S_) main_v26 main_c_8
  let main_v28 : IVec S_ 1 := andi main_v23 main_v27
  let main_v29 : FVec F S2x2048x1024 .f32 := Host.absf main_arg5
  let main_cst_9 : FVec F S_ .f32 := constant S_ .f32 0x7F800000#32
  let main_v30 : FVec F S2x2048x1024 .f32 := broadcastInDim S2x2048x1024 ![] bcast_S_S2x2048x1024 main_cst_9
  let main_v31 : IVec S2x2048x1024 1 := cmpf .olt main_v29 main_v30
  let main_c_10 : IVec S_ 1 := constantI S_ 1 1#1
  let main_v32 : IVec S_ 1 := (fun x v => Host.reduce IntOp.andi x v reducesTo_S2x2048x1024_S_d0_1_2 h_S_) main_v31 main_c_10
  let main_v33 : IVec S_ 1 := andi main_v28 main_v32
  let main_v34 : FVec F S16x1024 .f32 := Host.absf main_arg6
  fn_part2 (F := F) main_arg7 main_arg8 main_v33 main_v34

def fn {F : FTy → Type} [FloatOps F] (main_arg0 : FVec F S4224x1024 .bf16) (main_arg1 : FVec F S4224x512 .bf16) (main_arg2 : FVec F S4224x1024 .bf16) (main_arg3 : FVec F S4224x128 .bf16) (main_arg4 : FVec F S4224x1024 .f32) (main_arg5 : FVec F S2x2048x1024 .f32) (main_arg6 : FVec F S16x1024 .f32) (main_arg7 : FVec F S1x1024x2576 .f32) (main_arg8 : FVec F S1x1024 .f32) (main_arg9 : FVec F S8x128 .f32) : IVec S_ 1 :=
  let main_v0 : FVec F S4224x1024 .f32 := (extf .f32 · bitsLt_bf16_f32) main_arg0
  let main_v1 : FVec F S4224x512 .f32 := (extf .f32 · bitsLt_bf16_f32) main_arg1
  let main_v2 : FVec F S4224x1024 .f32 := (extf .f32 · bitsLt_bf16_f32) main_arg2
  let main_v3 : FVec F S4224x128 .f32 := (extf .f32 · bitsLt_bf16_f32) main_arg3
  let main_v4 : FVec F S4224x1024 .f32 := Host.absf main_v0
  let main_cst : FVec F S_ .f32 := constant S_ .f32 0x7F800000#32
  let main_v5 : FVec F S4224x1024 .f32 := broadcastInDim S4224x1024 ![] bcast_S_S4224x1024 main_cst
  let main_v6 : IVec S4224x1024 1 := cmpf .olt main_v4 main_v5
  let main_c : IVec S_ 1 := constantI S_ 1 1#1
  let main_v7 : IVec S_ 1 := (fun x v => Host.reduce IntOp.andi x v reducesTo_S4224x1024_S_d0_1 h_S_) main_v6 main_c
  let main_c_0 : IVec S_ 1 := constantI S_ 1 1#1
  let main_v8 : IVec S_ 1 := andi main_c_0 main_v7
  let main_v9 : FVec F S4224x512 .f32 := Host.absf main_v1
  let main_cst_1 : FVec F S_ .f32 := constant S_ .f32 0x7F800000#32
  let main_v10 : FVec F S4224x512 .f32 := broadcastInDim S4224x512 ![] bcast_S_S4224x512 main_cst_1
  let main_v11 : IVec S4224x512 1 := cmpf .olt main_v9 main_v10
  let main_c_2 : IVec S_ 1 := constantI S_ 1 1#1
  let main_v12 : IVec S_ 1 := (fun x v => Host.reduce IntOp.andi x v reducesTo_S4224x512_S_d0_1 h_S_) main_v11 main_c_2
  let main_v13 : IVec S_ 1 := andi main_v8 main_v12
  let main_v14 : FVec F S4224x1024 .f32 := Host.absf main_v2
  let main_cst_3 : FVec F S_ .f32 := constant S_ .f32 0x7F800000#32
  let main_v15 : FVec F S4224x1024 .f32 := broadcastInDim S4224x1024 ![] bcast_S_S4224x1024 main_cst_3
  let main_v16 : IVec S4224x1024 1 := cmpf .olt main_v14 main_v15
  let main_c_4 : IVec S_ 1 := constantI S_ 1 1#1
  fn_part1 (F := F) main_arg4 main_arg5 main_arg6 main_arg7 main_arg8 main_v3 main_v13 main_v16 main_c_4
-- ==== Kernel.lean ====
abbrev S4224x512 : Shape := ⟨2, ![4224, 512]⟩
abbrev S2x2048x1024 : Shape := ⟨3, ![2, 2048, 1024]⟩
abbrev S16x1024 : Shape := ⟨2, ![16, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S8x128 : Shape := ⟨2, ![8, 128]⟩
abbrev S_ : Shape := ⟨0, ![]⟩
abbrev S2x2112x1024 : Shape := ⟨3, ![2, 2112, 1024]⟩
abbrev S1x16x1024 : Shape := ⟨3, ![1, 16, 1024]⟩
abbrev S2x16x1024 : Shape := ⟨3, ![2, 16, 1024]⟩
abbrev S4224x1024 : Shape := ⟨2, ![4224, 1024]⟩
abbrev S1024x1024 : Shape := ⟨2, ![1024, 1024]⟩
abbrev S1024x2816 : Shape := ⟨2, ![1024, 2816]⟩
abbrev S2816x1024 : Shape := ⟨2, ![2816, 1024]⟩
abbrev S4224x2816 : Shape := ⟨2, ![4224, 2816]⟩
abbrev S8x1024 : Shape := ⟨2, ![8, 1024]⟩
abbrev S352x512 : Shape := ⟨2, ![352, 512]⟩
abbrev S352x1024 : Shape := ⟨2, ![352, 1024]⟩
abbrev S352x2816 : Shape := ⟨2, ![352, 2816]⟩
abbrev S512x1024 : Shape := ⟨2, ![512, 1024]⟩
abbrev S352 : Shape := ⟨1, ![352]⟩
abbrev S352x1 : Shape := ⟨2, ![352, 1]⟩
abbrev S1536x1024 : Shape := ⟨2, ![1536, 1024]⟩
abbrev S352x1536 : Shape := ⟨2, ![352, 1536]⟩
abbrev S1280x1024 : Shape := ⟨2, ![1280, 1024]⟩
abbrev S352x1280 : Shape := ⟨2, ![352, 1280]⟩
abbrev S1 : Shape := ⟨1, ![1]⟩
abbrev S1x1 : Shape := ⟨2, ![1, 1]⟩

abbrev nBuf : Space → Nat
  | .hbm => 47
  | .vmem => 34
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S2x2048x1024, .f32⟩
  | .hbm, ⟨3, _⟩ => ⟨S16x1024, .f32⟩
  | .hbm, ⟨4, _⟩ => ⟨S2x2048x1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1024, .f32⟩
  | .hbm, ⟨11, _⟩ => ⟨S8x128, .f32⟩
  | .hbm, ⟨12, _⟩ => ⟨S_, .i32⟩
  | .hbm, ⟨13, _⟩ => ⟨S_, .f32⟩
  | .hbm, ⟨14, _⟩ => ⟨S2x2112x1024, .f32⟩
  | .hbm, ⟨15, _⟩ => ⟨S_, .i32⟩
  | .hbm, ⟨16, _⟩ => ⟨S_, .f32⟩
  | .hbm, ⟨17, _⟩ => ⟨S2x2112x1024, .f32⟩
  | .hbm, ⟨18, _⟩ => ⟨S1x16x1024, .f32⟩
  | .hbm, ⟨19, _⟩ => ⟨S2x16x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2x2112x1024, .f32⟩
  | .hbm, ⟨24, _⟩ => ⟨S4224x1024, .f32⟩
  | .hbm, ⟨25, _⟩ => ⟨S4224x1024, .f32⟩
  | .hbm, ⟨26, _⟩ => ⟨S1024x1024, .f32⟩
  | .hbm, ⟨27, _⟩ => ⟨S1024x1024, .bf16⟩
  | .hbm, ⟨28, _⟩ => ⟨S1024x2816, .f32⟩
  | .hbm, ⟨29, _⟩ => ⟨S2816x1024, .f32⟩
  | .hbm, ⟨30, _⟩ => ⟨S2816x1024, .bf16⟩
  | .hbm, ⟨31, _⟩ => ⟨S1024x2816, .f32⟩
  | .hbm, ⟨32, _⟩ => ⟨S2816x1024, .f32⟩
  | .hbm, ⟨33, _⟩ => ⟨S2816x1024, .bf16⟩
  | .hbm, ⟨34, _⟩ => ⟨S2816x1024, .f32⟩
  | .hbm, ⟨35, _⟩ => ⟨S2816x1024, .bf16⟩
  | .hbm, ⟨36, _⟩ => ⟨S1x1024, .f32⟩
  | .hbm, ⟨37, _⟩ => ⟨S4224x1024, .bf16⟩
  | .hbm, ⟨38, _⟩ => ⟨S4224x2816, .bf16⟩
  | .hbm, ⟨39, _⟩ => ⟨S4224x2816, .bf16⟩
  | .hbm, ⟨40, _⟩ => ⟨S4224x2816, .bf16⟩
  | .hbm, ⟨41, _⟩ => ⟨S4224x1024, .bf16⟩
  | .hbm, ⟨42, _⟩ => ⟨S4224x1024, .f32⟩
  | .hbm, ⟨43, _⟩ => ⟨S4224x1024, .bf16⟩
  | .hbm, ⟨44, _⟩ => ⟨S4224x512, .f32⟩
  | .hbm, ⟨45, _⟩ => ⟨S4224x512, .f32⟩
  | .hbm, ⟨46, _⟩ => ⟨S8x1024, .f32⟩
  | .local _ .vmem, ⟨0, _⟩ => ⟨S352x512, .bf16⟩
  | .local _ .vmem, ⟨1, _⟩ => ⟨S352x512, .bf16⟩
  | .local _ .vmem, ⟨2, _⟩ => ⟨S352x512, .bf16⟩
  | .local _ .vmem, ⟨3, _⟩ => ⟨S352x512, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S1024x1024, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | .local _ .vmem, ⟨15, _⟩ => ⟨S352x1024, .bf16⟩
  | .local _ .vmem, ⟨16, _⟩ => ⟨S352x1024, .bf16⟩
  | .local _ .vmem, ⟨17, _⟩ => ⟨S352x2816, .bf16⟩
  | .local _ .vmem, ⟨18, _⟩ => ⟨S352x2816, .bf16⟩
  | .local _ .vmem, ⟨19, _⟩ => ⟨S352x2816, .bf16⟩
  | .local _ .vmem, ⟨20, _⟩ => ⟨S352x2816, .bf16⟩
  | .local _ .vmem, ⟨21, _⟩ => ⟨S352x2816, .bf16⟩
  | .local _ .vmem, ⟨22, _⟩ => ⟨S352x2816, .bf16⟩
  | .local _ .vmem, ⟨23, _⟩ => ⟨S352x1024, .bf16⟩
  | .local _ .vmem, ⟨24, _⟩ => ⟨S352x1024, .bf16⟩
  | .local _ .vmem, ⟨25, _⟩ => ⟨S352x1024, .f32⟩
  | .local _ .vmem, ⟨26, _⟩ => ⟨S352x1024, .f32⟩
  | .local _ .vmem, ⟨27, _⟩ => ⟨S352x1024, .bf16⟩
  | .local _ .vmem, ⟨28, _⟩ => ⟨S352x1024, .bf16⟩
  | .local _ .vmem, ⟨29, _⟩ => ⟨S352x512, .f32⟩
  | .local _ .vmem, ⟨30, _⟩ => ⟨S352x512, .f32⟩
  | .local _ .vmem, ⟨31, _⟩ => ⟨S352x512, .f32⟩
  | .local _ .vmem, ⟨32, _⟩ => ⟨S352x512, .f32⟩
  | .local _ .vmem, ⟨33, _⟩ => ⟨S8x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_c_3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_v18_6 : Ref sig .tc := ⟨.hbm, 43, rfl⟩
abbrev main_v18_7 : Ref sig .tc := ⟨.hbm, 44, rfl⟩
abbrev main_v18_8 : Ref sig .tc := ⟨.hbm, 45, rfl⟩
abbrev main_v18_9 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S352x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S352x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S352x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S352x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S352x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S352x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S352x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S352x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S352x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S4224x512 : Shape := ⟨2, ![4224, 512]⟩
abbrev S2x2048x1024 : Shape := ⟨3, ![2, 2048, 1024]⟩
abbrev S16x1024 : Shape := ⟨2, ![16, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S8x128 : Shape := ⟨2, ![8, 128]⟩
abbrev S1x16x1024 : Shape := ⟨3, ![1, 16, 1024]⟩
abbrev S2x16x1024 : Shape := ⟨3, ![2, 16, 1024]⟩
abbrev S_ : Shape := ⟨0, ![]⟩
abbrev S2x48x1024 : Shape := ⟨3, ![2, 48, 1024]⟩
abbrev S2x2112x1024 : Shape := ⟨3, ![2, 2112, 1024]⟩
abbrev S4224x1024 : Shape := ⟨2, ![4224, 1024]⟩
abbrev S4224x2816 : Shape := ⟨2, ![4224, 2816]⟩
abbrev S1024x1024 : Shape := ⟨2, ![1024, 1024]⟩
abbrev S4224 : Shape := ⟨1, ![4224]⟩
abbrev S4224x1 : Shape := ⟨2, ![4224, 1]⟩
abbrev S1024x2816 : Shape := ⟨2, ![1024, 2816]⟩
abbrev S2816x1024 : Shape := ⟨2, ![2816, 1024]⟩
abbrev S2x2048 : Shape := ⟨2, ![2, 2048]⟩
abbrev S5x1024 : Shape := ⟨2, ![5, 1024]⟩
abbrev S8x1024 : Shape := ⟨2, ![8, 1024]⟩

abbrev nBuf : Space → Nat
  | .hbm => 197
  | .vmem => 0
  | .smem => 0
  | _ => 0

abbrev hbmTy0_0 (i : Nat) : BufTy := match i % 128 with
  | 0 => ⟨S4224x512, .bf16⟩
  | 1 => ⟨S4224x512, .bf16⟩
  | 2 => ⟨S2x2048x1024, .f32⟩
  | 3 => ⟨S16x1024, .f32⟩
  | 4 => ⟨S2x2048x1024, .f32⟩
  | 5 => ⟨S1x1024x1024, .f32⟩
  | 6 => ⟨S1x1024x2816, .f32⟩
  | 7 => ⟨S1x1024x2816, .f32⟩
  | 8 => ⟨S1x2816x1024, .f32⟩
  | 9 => ⟨S1x1024, .f32⟩
  | 10 => ⟨S1024, .f32⟩
  | 11 => ⟨S8x128, .f32⟩
  | 12 => ⟨S1x16x1024, .f32⟩
  | 13 => ⟨S2x16x1024, .f32⟩
  | 14 => ⟨S_, .f32⟩
  | 15 => ⟨S2x48x1024, .f32⟩
  | 16 => ⟨S2x2112x1024, .f32⟩
  | 17 => ⟨S4224x1024, .f32⟩
  | 18 => ⟨S_, .f32⟩
  | 19 => ⟨S4224x2816, .f32⟩
  | 20 => ⟨S_, .f32⟩
  | 21 => ⟨S4224x1024, .f32⟩
  | 22 => ⟨S4224x512, .f32⟩
  | 23 => ⟨S4224x512, .f32⟩
  | 24 => ⟨S4224x1024, .f32⟩
  | 25 => ⟨S1024x1024, .f32⟩
  | 26 => ⟨S4224x1024, .f32⟩
  | 27 => ⟨S4224x1024, .f32⟩
  | 28 => ⟨S1024, .f32⟩
  | 29 => ⟨S4224x1024, .f32⟩
  | 30 => ⟨S_, .f32⟩
  | 31 => ⟨S4224, .f32⟩
  | 32 => ⟨S4224x1, .f32⟩
  | 33 => ⟨S_, .f32⟩
  | 34 => ⟨S4224x1, .f32⟩
  | 35 => ⟨S4224x1, .f32⟩
  | 36 => ⟨S_, .f32⟩
  | 37 => ⟨S4224x1, .f32⟩
  | 38 => ⟨S4224x1, .f32⟩
  | 39 => ⟨S4224x1, .f32⟩
  | 40 => ⟨S4224x1, .f32⟩
  | 41 => ⟨S_, .f32⟩
  | 42 => ⟨S4224x1, .f32⟩
  | 43 => ⟨S4224x1, .f32⟩
  | 44 => ⟨S4224x1024, .f32⟩
  | 45 => ⟨S4224x1024, .f32⟩
  | 46 => ⟨S1x1024, .f32⟩
  | 47 => ⟨S4224x1024, .f32⟩
  | 48 => ⟨S4224x1024, .f32⟩
  | 49 => ⟨S1024x2816, .f32⟩
  | 50 => ⟨S4224x2816, .f32⟩
  | 51 => ⟨S4224x2816, .f32⟩
  | 52 => ⟨S1024x2816, .f32⟩
  | 53 => ⟨S4224x2816, .f32⟩
  | 54 => ⟨S4224x2816, .f32⟩
  | 55 => ⟨S4224x2816, .f32⟩
  | 56 => ⟨S4224x2816, .f32⟩
  | 57 => ⟨S_, .f32⟩
  | 58 => ⟨S4224x2816, .f32⟩
  | 59 => ⟨S4224x2816, .f32⟩
  | 60 => ⟨S_, .f32⟩
  | 61 => ⟨S4224x2816, .f32⟩
  | 62 => ⟨S4224x2816, .f32⟩
  | 63 => ⟨S_, .f32⟩
  | 64 => ⟨S4224x2816, .f32⟩
  | 65 => ⟨S4224x2816, .f32⟩
  | 66 => ⟨S4224x2816, .f32⟩
  | 67 => ⟨S4224x2816, .f32⟩
  | 68 => ⟨S4224x2816, .f32⟩
  | 69 => ⟨S2816x1024, .f32⟩
  | 70 => ⟨S4224x1024, .f32⟩
  | 71 => ⟨S4224x1024, .f32⟩
  | 72 => ⟨S4224x1024, .f32⟩
  | 73 => ⟨S4224x1024, .f32⟩
  | 74 => ⟨S_, .f32⟩
  | 75 => ⟨S4224, .f32⟩
  | 76 => ⟨S4224x1, .f32⟩
  | 77 => ⟨S_, .f32⟩
  | 78 => ⟨S4224x1, .f32⟩
  | 79 => ⟨S4224x1, .f32⟩
  | 80 => ⟨S_, .f32⟩
  | 81 => ⟨S4224x1, .f32⟩
  | 82 => ⟨S4224x1, .f32⟩
  | 83 => ⟨S4224x1, .f32⟩
  | 84 => ⟨S4224x1, .f32⟩
  | 85 => ⟨S_, .f32⟩
  | 86 => ⟨S4224x1, .f32⟩
  | 87 => ⟨S4224x1, .f32⟩
  | 88 => ⟨S4224x1024, .f32⟩
  | 89 => ⟨S4224x1024, .f32⟩
  | 90 => ⟨S1x1024, .f32⟩
  | 91 => ⟨S4224x1024, .f32⟩
  | 92 => ⟨S4224x1024, .f32⟩
  | 93 => ⟨S2x2112x1024, .f32⟩
  | 94 => ⟨S2x2048x1024, .f32⟩
  | 95 => ⟨S2x2048x1024, .f32⟩
  | 96 => ⟨S2x2048x1024, .f32⟩
  | 97 => ⟨S_, .f32⟩
  | 98 => ⟨S2x2048x1024, .f32⟩
  | 99 => ⟨S2x2048x1024, .f32⟩
  | 100 => ⟨S_, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S2x2048, .f32⟩
  | 113 => ⟨S_, .f32⟩
  | 114 => ⟨S2x2048, .f32⟩
  | 115 => ⟨S2x2048, .f32⟩
  | 116 => ⟨S2x2048x1024, .f32⟩
  | 117 => ⟨S2x2048x1024, .f32⟩
  | 118 => ⟨S_, .f32⟩
  | 119 => ⟨S2x2112x1024, .f32⟩
  | 120 => ⟨S4224x1024, .f32⟩
  | 121 => ⟨S4224x1024, .f32⟩
  | 122 => ⟨S_, .f32⟩
  | 123 => ⟨S1024, .f32⟩
  | 124 => ⟨S1x1024, .f32⟩
  | 125 => ⟨S4224x1024, .f32⟩
  | 126 => ⟨S4224x1024, .f32⟩
  | 127 => ⟨S_, .f32⟩
  | _ => ⟨S4224x512, .bf16⟩

abbrev hbmTy0_1 (i : Nat) : BufTy := match i % 128 with
  | 0 => ⟨S1024, .f32⟩
  | 1 => ⟨S4224x1024, .f32⟩
  | 2 => ⟨S_, .f32⟩
  | 3 => ⟨S4224, .f32⟩
  | 4 => ⟨S4224x1, .f32⟩
  | 5 => ⟨S4224x1024, .f32⟩
  | 6 => ⟨S4224x1024, .f32⟩
  | 7 => ⟨S4224x1, .f32⟩
  | 8 => ⟨S_, .f32⟩
  | 9 => ⟨S4224x1, .f32⟩
  | 10 => ⟨S4224x1, .f32⟩
  | 11 => ⟨S_, .f32⟩
  | 12 => ⟨S4224, .f32⟩
  | 13 => ⟨S4224x1024, .f32⟩
  | 14 => ⟨S4224x1024, .f32⟩
  | 15 => ⟨S4224x1024, .f32⟩
  | 16 => ⟨S4224x1024, .f32⟩
  | 17 => ⟨S4224x1024, .f32⟩
  | 18 => ⟨S4224x2816, .f32⟩
  | 19 => ⟨S4224x2816, .f32⟩
  | 20 => ⟨S4224x2816, .f32⟩
  | 21 => ⟨S4224x2816, .f32⟩
  | 22 => ⟨S4224x2816, .f32⟩
  | 23 => ⟨S4224x2816, .f32⟩
  | 24 => ⟨S4224x2816, .f32⟩
  | 25 => ⟨S4224x1024, .f32⟩
  | 26 => ⟨S4224x1024, .f32⟩
  | 27 => ⟨S4224x1024, .f32⟩
  | 28 => ⟨S4224x1024, .f32⟩
  | 29 => ⟨S_, .f32⟩
  | 30 => ⟨S1024, .f32⟩
  | 31 => ⟨S1x1024, .f32⟩
  | 32 => ⟨S4224x1024, .f32⟩
  | 33 => ⟨S4224x1024, .f32⟩
  | 34 => ⟨S_, .f32⟩
  | 35 => ⟨S1024, .f32⟩
  | 36 => ⟨S4224x1024, .f32⟩
  | 37 => ⟨S_, .f32⟩
  | 38 => ⟨S4224, .f32⟩
  | 39 => ⟨S4224x1, .f32⟩
  | 40 => ⟨S4224x1024, .f32⟩
  | 41 => ⟨S4224x1024, .f32⟩
  | 42 => ⟨S4224x1024, .f32⟩
  | 43 => ⟨S4224x1, .f32⟩
  | 44 => ⟨S_, .f32⟩
  | 45 => ⟨S4224x1, .f32⟩
  | 46 => ⟨S4224x1, .f32⟩
  | 47 => ⟨S_, .f32⟩
  | 48 => ⟨S4224, .f32⟩
  | 49 => ⟨S4224x1024, .f32⟩
  | 50 => ⟨S4224x1024, .f32⟩
  | 51 => ⟨S4224x1024, .f32⟩
  | 52 => ⟨S4224x1024, .f32⟩
  | 53 => ⟨S4224x1024, .f32⟩
  | 54 => ⟨S1x1024, .f32⟩
  | 55 => ⟨S4224x1024, .f32⟩
  | 56 => ⟨S4224x512, .f32⟩
  | 57 => ⟨S4224x512, .f32⟩
  | 58 => ⟨S1x1024, .f32⟩
  | 59 => ⟨S1x1024, .f32⟩
  | 60 => ⟨S_, .f32⟩
  | 61 => ⟨S5x1024, .f32⟩
  | 62 => ⟨S8x1024, .f32⟩
  | 63 => ⟨S4224x1024, .bf16⟩
  | 64 => ⟨S4224x2816, .bf16⟩
  | 65 => ⟨S4224x2816, .bf16⟩
  | 66 => ⟨S4224x2816, .bf16⟩
  | 67 => ⟨S4224x1024, .bf16⟩
  | 68 => ⟨S4224x1024, .bf16⟩
  | _ => ⟨S4224x512, .bf16⟩

abbrev hbmTy (i : Nat) : BufTy := match i / 128 with
  | 0 => hbmTy0_0 i
  | 1 => hbmTy0_1 i
  | _ => ⟨S4224x512, .bf16⟩

abbrev bufTy : (tb : Table) → Fin (tcTables nBuf tb) → BufTy
  | .hbm, ⟨i, _⟩ => hbmTy i
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v36_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v36_1 : Ref sig .tc := ⟨.hbm, 66, rfl⟩
abbrev main_v36_0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_cst_12 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_cst_14 : Ref sig .tc := ⟨.hbm, 107, rfl⟩
abbrev main_v68 : Ref sig .tc := ⟨.hbm, 108, rfl⟩
abbrev main_cst_15 : Ref sig .tc := ⟨.hbm, 109, rfl⟩
abbrev main_cst_16 : Ref sig .tc := ⟨.hbm, 110, rfl⟩
abbrev main_v69 : Ref sig .tc := ⟨.hbm, 111, rfl⟩
abbrev main_v70 : Ref sig .tc := ⟨.hbm, 112, rfl⟩
abbrev main_cst_17 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_18 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_19 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_20 : Ref sig .tc := ⟨.hbm, 127, rfl⟩
abbrev main_v82 : Ref sig .tc := ⟨.hbm, 128, rfl⟩
abbrev main_v83 : Ref sig .tc := ⟨.hbm, 129, rfl⟩
abbrev main_cst_21 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_22 : Ref sig .tc := ⟨.hbm, 136, rfl⟩
abbrev main_v89 : Ref sig .tc := ⟨.hbm, 137, rfl⟩
abbrev main_v90 : Ref sig .tc := ⟨.hbm, 138, rfl⟩
abbrev main_cst_23 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_24 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_25 : Ref sig .tc := ⟨.hbm, 162, rfl⟩
abbrev main_v109 : Ref sig .tc := ⟨.hbm, 163, rfl⟩
abbrev main_v110 : Ref sig .tc := ⟨.hbm, 164, rfl⟩
abbrev main_cst_26 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_27 : Ref sig .tc := ⟨.hbm, 172, rfl⟩
abbrev main_v117 : Ref sig .tc := ⟨.hbm, 173, rfl⟩
abbrev main_v118 : Ref sig .tc := ⟨.hbm, 174, rfl⟩
abbrev main_cst_28 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_29 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩

abbrev nD : Nat := 1
abbrev τ : Topo := Topo.v7x

variable {F : FTy → Type} [FloatOps F]
-- ==== Kernel2.lean ====
abbrev S4224x1024 : Shape := ⟨2, ![4224, 1024]⟩
abbrev S4224x512 : Shape := ⟨2, ![4224, 512]⟩
abbrev S4224x128 : Shape := ⟨2, ![4224, 128]⟩
abbrev S2x2048x1024 : Shape := ⟨3, ![2, 2048, 1024]⟩
abbrev S16x1024 : Shape := ⟨2, ![16, 1024]⟩
abbrev S1x1024x2576 : Shape := ⟨3, ![1, 1024, 2576]⟩
abbrev S1x1024 : Shape := ⟨2, ![1, 1024]⟩
abbrev S8x128 : Shape := ⟨2, ![8, 128]⟩
abbrev S_ : Shape := ⟨0, ![]⟩
abbrev S2x2112x1024 : Shape := ⟨3, ![2, 2112, 1024]⟩
abbrev S1x16x1024 : Shape := ⟨3, ![1, 16, 1024]⟩
abbrev S2x16x1024 : Shape := ⟨3, ![2, 16, 1024]⟩
abbrev S1024x2576 : Shape := ⟨2, ![1024, 2576]⟩
abbrev S1024x2688 : Shape := ⟨2, ![1024, 2688]⟩
abbrev S8x1024 : Shape := ⟨2, ![8, 1024]⟩
abbrev S1056x1024 : Shape := ⟨2, ![1056, 1024]⟩
abbrev S1056x512 : Shape := ⟨2, ![1056, 512]⟩
abbrev S1056x128 : Shape := ⟨2, ![1056, 128]⟩
abbrev S2x1056x1024 : Shape := ⟨3, ![2, 1056, 1024]⟩
abbrev S2 : Shape := ⟨1, ![2]⟩
abbrev S1024x1024 : Shape := ⟨2, ![1024, 1024]⟩
abbrev S1024x512 : Shape := ⟨2, ![1024, 512]⟩
abbrev S1024x128 : Shape := ⟨2, ![1024, 128]⟩
abbrev S1056 : Shape := ⟨1, ![1056]⟩
abbrev S1056x1 : Shape := ⟨2, ![1056, 1]⟩
abbrev S1024 : Shape := ⟨1, ![1024]⟩
abbrev S1 : Shape := ⟨1, ![1]⟩
abbrev S1x992x1024 : Shape := ⟨3, ![1, 992, 1024]⟩
abbrev S992x1024 : Shape := ⟨2, ![992, 1024]⟩
abbrev S1x1056x1024 : Shape := ⟨3, ![1, 1056, 1024]⟩

abbrev nBuf : Space → Nat
  | .hbm => 28
  | .vmem => 18
  | .smem => 0
  | _ => 0

abbrev bufTy : (tb : Table) → Fin (tcTables nBuf tb) → BufTy
  | .hbm, ⟨0, _⟩ => ⟨S4224x1024, .bf16⟩
  | .hbm, ⟨1, _⟩ => ⟨S4224x512, .bf16⟩
  | .hbm, ⟨2, _⟩ => ⟨S4224x1024, .bf16⟩
  | .hbm, ⟨3, _⟩ => ⟨S4224x128, .bf16⟩
  | .hbm, ⟨4, _⟩ => ⟨S4224x1024, .f32⟩
  | .hbm, ⟨5, _⟩ => ⟨S2x2048x1024, .f32⟩
  | .hbm, ⟨6, _⟩ => ⟨S16x1024, .f32⟩
  | .hbm, ⟨7, _⟩ => ⟨S1x1024x2576, .f32⟩
  | .hbm, ⟨8, _⟩ => ⟨S1x1024, .f32⟩
  | .hbm, ⟨9, _⟩ => ⟨S8x128, .f32⟩
  | .hbm, ⟨10, _⟩ => ⟨S_, .i32⟩
  | .hbm, ⟨11, _⟩ => ⟨S_, .f32⟩
  | .hbm, ⟨12, _⟩ => ⟨S2x2112x1024, .f32⟩
  | .hbm, ⟨13, _⟩ => ⟨S1x16x1024, .f32⟩
  | .hbm, ⟨14, _⟩ => ⟨S2x16x1024, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2x2112x1024, .f32⟩
  | .hbm, ⟨19, _⟩ => ⟨S4224x1024, .f32⟩
  | .hbm, ⟨20, _⟩ => ⟨S1024x2576, .f32⟩
  | .hbm, ⟨21, _⟩ => ⟨S1024x2576, .bf16⟩
  | .hbm, ⟨22, _⟩ => ⟨S_, .i32⟩
  | .hbm, ⟨23, _⟩ => ⟨S_, .bf16⟩
  | .hbm, ⟨24, _⟩ => ⟨S1024x2688, .bf16⟩
  | .hbm, ⟨25, _⟩ => ⟨S2x2048x1024, .f32⟩
  | .hbm, ⟨26, _⟩ => ⟨S8x1024, .f32⟩
  | .hbm, ⟨27, _⟩ => ⟨S16x1024, .f32⟩
  | .local _ .vmem, ⟨0, _⟩ => ⟨S1056x1024, .bf16⟩
  | .local _ .vmem, ⟨1, _⟩ => ⟨S1056x1024, .bf16⟩
  | .local _ .vmem, ⟨2, _⟩ => ⟨S1056x512, .bf16⟩
  | .local _ .vmem, ⟨3, _⟩ => ⟨S1056x512, .bf16⟩
  | .local _ .vmem, ⟨4, _⟩ => ⟨S1056x1024, .bf16⟩
  | .local _ .vmem, ⟨5, _⟩ => ⟨S1056x1024, .bf16⟩
  | .local _ .vmem, ⟨6, _⟩ => ⟨S1056x128, .bf16⟩
  | .local _ .vmem, ⟨7, _⟩ => ⟨S1056x128, .bf16⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .f32⟩
  | .local _ .vmem, ⟨12, _⟩ => ⟨S1024x2688, .bf16⟩
  | .local _ .vmem, ⟨13, _⟩ => ⟨S1x1024, .f32⟩
  | .local _ .vmem, ⟨14, _⟩ => ⟨S8x128, .f32⟩
  | .local _ .vmem, ⟨15, _⟩ => ⟨S8x1024, .f32⟩
  | .local _ .vmem, ⟨16, _⟩ => ⟨S16x1024, .f32⟩
  | .local _ .vmem, ⟨17, _⟩ => ⟨S2x1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_call1_v0 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v49 : BitVec 1 := Scalar.cmpi .sge arg0 c2_i32
  let v50 : BitVec 32 := Scalar.extui v49
  let c0_i32 : BitVec 32 := 0#32
  let v51 : BitVec 1 := Scalar.cmpi .ne v50 c0_i32
  v51

def k0_mult1 (i : grid0.Coords) : BitVec 32 :=
  let arg0 : BitVec 32 := BitVec.ofNat 32 (i 0).val
  let c2_i32_73 : BitVec 32 := 2#32
  let v136 : BitVec 32 := Scalar.subi arg0 c2_i32_73
  let c2_i32_87 : BitVec 32 := 2#32
  let c0_i32_88 : BitVec 32 := 0#32
  let v164 : BitVec 1 := Scalar.cmpi .eq c2_i32_87 c0_i32_88
  let c1_i32_89 : BitVec 32 := 1#32
  let v165 : BitVec 32 := Scalar.select v164 c1_i32_89 c2_i32_87
  let v166 : BitVec 32 := Scalar.remsi v136 v165
  let c0_i32_91 : BitVec 32 := 0#32
  let v168 : BitVec 1 := Scalar.cmpi .slt v166 c0_i32_91
  let c0_i32_92 : BitVec 32 := 0#32
  let v169 : BitVec 1 := Scalar.cmpi .slt v165 c0_i32_92
  let v170 : BitVec 1 := Scalar.xori v168 v169
  let c0_i32_90 : BitVec 32 := 0#32
  let v167 : BitVec 1 := Scalar.cmpi .ne v166 c0_i32_90
  let v171 : BitVec 1 := Scalar.andi v170 v167
  let v172 : BitVec 32 := Scalar.addi v166 v165
  let v173 : BitVec 32 := Scalar.select v171 v172 v166
  let c1056_i32_95 : BitVec 32 := 1056#32
  let v176 : BitVec 32 := Scalar.muli v173 c1056_i32_95
  let c64_i32_96 : BitVec 32 := 64#32
  let v177 : BitVec 32 := Scalar.subi v176 c64_i32_96
  let c0_i32_97 : BitVec 32 := 0#32
  let v178 : BitVec 32 := Scalar.maxsi v177 c0_i32_97
  v178
def k0_cond2 (i : grid0.Coords) : BitVec 1 :=
  let arg0 : BitVec 32 := BitVec.ofNat 32 (i 0).val
  let c2_i32_73 : BitVec 32 := 2#32
  let v136 : BitVec 32 := Scalar.subi arg0 c2_i32_73
  let c2_i32_87 : BitVec 32 := 2#32
  let c0_i32_88 : BitVec 32 := 0#32
  let v164 : BitVec 1 := Scalar.cmpi .eq c2_i32_87 c0_i32_88
  let c1_i32_89 : BitVec 32 := 1#32
  let v165 : BitVec 32 := Scalar.select v164 c1_i32_89 c2_i32_87
  let v166 : BitVec 32 := Scalar.remsi v136 v165
  let c0_i32_91 : BitVec 32 := 0#32
  let v168 : BitVec 1 := Scalar.cmpi .slt v166 c0_i32_91
  let c0_i32_92 : BitVec 32 := 0#32
  let v169 : BitVec 1 := Scalar.cmpi .slt v165 c0_i32_92
  let v170 : BitVec 1 := Scalar.xori v168 v169
  let c0_i32_90 : BitVec 32 := 0#32
  let v167 : BitVec 1 := Scalar.cmpi .ne v166 c0_i32_90
  let v171 : BitVec 1 := Scalar.andi v170 v167
  let v172 : BitVec 32 := Scalar.addi v166 v165
  let v173 : BitVec 32 := Scalar.select v171 v172 v166
  let c0_i32_93 : BitVec 32 := 0#32
  let v174 : BitVec 1 := Scalar.cmpi .eq v173 c0_i32_93
  let v180 : BitVec 32 := Scalar.extui v174
  let c0_i32_98 : BitVec 32 := 0#32
  let v181 : BitVec 1 := Scalar.cmpi .ne v180 c0_i32_98
  v181

def k0_off1 (i : grid0.Coords) : Fin 1 → Nat :=
  let arg0 : BitVec 32 := BitVec.ofNat 32 (i 0).val
  let c2_i32_73 : BitVec 32 := 2#32
  let v136 : BitVec 32 := Scalar.subi arg0 c2_i32_73
  let c2_i32_74 : BitVec 32 := 2#32
  let c0_i32_75 : BitVec 32 := 0#32
  let v137 : BitVec 1 := Scalar.cmpi .eq c2_i32_74 c0_i32_75
  let c1_i32_76 : BitVec 32 := 1#32
  let v138 : BitVec 32 := Scalar.select v137 c1_i32_76 c2_i32_74
  let v139 : BitVec 32 := Scalar.remsi v136 v138
  let c0_i32_78 : BitVec 32 := 0#32
  let v141 : BitVec 1 := Scalar.cmpi .slt v139 c0_i32_78
  let c0_i32_79 : BitVec 32 := 0#32
  let v142 : BitVec 1 := Scalar.cmpi .slt v138 c0_i32_79
  let v143 : BitVec 1 := Scalar.xori v141 v142
  let c0_i32_77 : BitVec 32 := 0#32
  let v140 : BitVec 1 := Scalar.cmpi .ne v139 c0_i32_77
  let v144 : BitVec 1 := Scalar.andi v143 v140
  let v145 : BitVec 32 := Scalar.addi v139 v138
  let v146 : BitVec 32 := Scalar.select v144 v145 v139
  ![v146.toNat]
def k0_off2 (i : grid0.Coords) : Fin 3 → Nat :=
  let arg0 : BitVec 32 := BitVec.ofNat 32 (i 0).val
  let c2_i32_73 : BitVec 32 := 2#32
  let v136 : BitVec 32 := Scalar.subi arg0 c2_i32_73
  let c0_i32_81 : BitVec 32 := 0#32
  let v148 : BitVec 1 := Scalar.cmpi .sgt v136 c0_i32_81
  let v149 : BitVec 32 := Scalar.extui v148
  let c0_i32_82 : BitVec 32 := 0#32
  let v150 : BitVec 1 := Scalar.cmpi .slt v136 c0_i32_82
  let v151 : BitVec 32 := Scalar.extui v150
  let v152 : BitVec 32 := Scalar.subi v149 v151
  let c2_i32_80 : BitVec 32 := 2#32
  let c0_i32_83 : BitVec 32 := 0#32
  let v153 : BitVec 1 := Scalar.cmpi .sgt c2_i32_80 c0_i32_83
  let v154 : BitVec 32 := Scalar.extui v153
  let c0_i32_84 : BitVec 32 := 0#32
  let v155 : BitVec 1 := Scalar.cmpi .slt c2_i32_80 c0_i32_84
  let v156 : BitVec 32 := Scalar.extui v155
  let v157 : BitVec 32 := Scalar.subi v154 v156
  let v158 : BitVec 1 := Scalar.cmpi .ne v152 v157
  let v159 : BitVec 32 := Scalar.remsi v136 c2_i32_80
  let c0_i32_85 : BitVec 32 := 0#32
  let v160 : BitVec 1 := Scalar.cmpi .ne v159 c0_i32_85
  let v161 : BitVec 1 := Scalar.andi v158 v160
  let v147 : BitVec 32 := Scalar.divsi v136 c2_i32_80
  let c1_i32_86 : BitVec 32 := 1#32
  let v162 : BitVec 32 := Scalar.subi v147 c1_i32_86
  let v163 : BitVec 32 := Scalar.select v161 v162 v147
  let c0_i32_100 : BitVec 32 := 0#32
  let c0_i32_101 : BitVec 32 := 0#32
  ![v163.toNat, 0, 0]
def k0_off3 (i : grid0.Coords) : Fin 3 → Nat :=
  let arg0 : BitVec 32 := BitVec.ofNat 32 (i 0).val
  let c2_i32_73 : BitVec 32 := 2#32
  let v136 : BitVec 32 := Scalar.subi arg0 c2_i32_73
  let c2_i32_74 : BitVec 32 := 2#32
  let c0_i32_75 : BitVec 32 := 0#32
  let v137 : BitVec 1 := Scalar.cmpi .eq c2_i32_74 c0_i32_75
  let c1_i32_76 : BitVec 32 := 1#32
  let v138 : BitVec 32 := Scalar.select v137 c1_i32_76 c2_i32_74
  let v139 : BitVec 32 := Scalar.remsi v136 v138
  let c0_i32_78 : BitVec 32 := 0#32
  let v141 : BitVec 1 := Scalar.cmpi .slt v139 c0_i32_78
  let c0_i32_79 : BitVec 32 := 0#32
  let v142 : BitVec 1 := Scalar.cmpi .slt v138 c0_i32_79
  let v143 : BitVec 1 := Scalar.xori v141 v142
  let c0_i32_77 : BitVec 32 := 0#32
  let v140 : BitVec 1 := Scalar.cmpi .ne v139 c0_i32_77
  let v144 : BitVec 1 := Scalar.andi v143 v140
  let v145 : BitVec 32 := Scalar.addi v139 v138
  let v146 : BitVec 32 := Scalar.select v144 v145 v139
  let c64_i32_102 : BitVec 32 := 64#32
  let c0_i32_103 : BitVec 32 := 0#32
  ![v146.toNat, 64, 0]
def k0_cond3 (i : grid0.Coords) : BitVec 1 :=
  let arg0 : BitVec 32 := BitVec.ofNat 32 (i 0).val
  let c2_i32_73 : BitVec 32 := 2#32
  let v136 : BitVec 32 := Scalar.subi arg0 c2_i32_73
  let c2_i32_87 : BitVec 32 := 2#32
  let c0_i32_88 : BitVec 32 := 0#32
  let v164 : BitVec 1 := Scalar.cmpi .eq c2_i32_87 c0_i32_88
  let c1_i32_89 : BitVec 32 := 1#32
  let v165 : BitVec 32 := Scalar.select v164 c1_i32_89 c2_i32_87
  let v166 : BitVec 32 := Scalar.remsi v136 v165
  let c0_i32_91 : BitVec 32 := 0#32
  let v168 : BitVec 1 := Scalar.cmpi .slt v166 c0_i32_91
  let c0_i32_92 : BitVec 32 := 0#32
  let v169 : BitVec 1 := Scalar.cmpi .slt v165 c0_i32_92
  let v170 : BitVec 1 := Scalar.xori v168 v169
  let c0_i32_90 : BitVec 32 := 0#32
  let v167 : BitVec 1 := Scalar.cmpi .ne v166 c0_i32_90
  let v171 : BitVec 1 := Scalar.andi v170 v167
  let v172 : BitVec 32 := Scalar.addi v166 v165
  let v173 : BitVec 32 := Scalar.select v171 v172 v166
  let c0_i32_94 : BitVec 32 := 0#32
  let v175 : BitVec 1 := Scalar.cmpi .ne v173 c0_i32_94
  let v182 : BitVec 32 := Scalar.extui v175
  let c0_i32_99 : BitVec 32 := 0#32
  let v183 : BitVec 1 := Scalar.cmpi .ne v182 c0_i32_99
  v183

def k0_off4 (i : grid0.Coords) : Fin 1 → Nat :=
  let arg0 : BitVec 32 := BitVec.ofNat 32 (i 0).val
  let c2_i32_73 : BitVec 32 := 2#32
  let v136 : BitVec 32 := Scalar.subi arg0 c2_i32_73
  let c2_i32_74 : BitVec 32 := 2#32
  let c0_i32_75 : BitVec 32 := 0#32
  let v137 : BitVec 1 := Scalar.cmpi .eq c2_i32_74 c0_i32_75
  let c1_i32_76 : BitVec 32 := 1#32
  let v138 : BitVec 32 := Scalar.select v137 c1_i32_76 c2_i32_74
  let v139 : BitVec 32 := Scalar.remsi v136 v138
  let c0_i32_78 : BitVec 32 := 0#32
  let v141 : BitVec 1 := Scalar.cmpi .slt v139 c0_i32_78
  let c0_i32_79 : BitVec 32 := 0#32
  let v142 : BitVec 1 := Scalar.cmpi .slt v138 c0_i32_79
  let v143 : BitVec 1 := Scalar.xori v141 v142
  let c0_i32_77 : BitVec 32 := 0#32
  let v140 : BitVec 1 := Scalar.cmpi .ne v139 c0_i32_77
  let v144 : BitVec 1 := Scalar.andi v143 v140
  let v145 : BitVec 32 := Scalar.addi v139 v138
  let v146 : BitVec 32 := Scalar.select v144 v145 v139
  ![v146.toNat]
def k0_off5 (i : grid0.Coords) : Fin 3 → Nat :=
  let arg0 : BitVec 32 := BitVec.ofNat 32 (i 0).val
  let c2_i32_73 : BitVec 32 := 2#32
  let v136 : BitVec 32 := Scalar.subi arg0 c2_i32_73
  let c0_i32_81 : BitVec 32 := 0#32
  let v148 : BitVec 1 := Scalar.cmpi .sgt v136 c0_i32_81
  let v149 : BitVec 32 := Scalar.extui v148
  let c0_i32_82 : BitVec 32 := 0#32
  let v150 : BitVec 1 := Scalar.cmpi .slt v136 c0_i32_82
  let v151 : BitVec 32 := Scalar.extui v150
  let v152 : BitVec 32 := Scalar.subi v149 v151
  let c2_i32_80 : BitVec 32 := 2#32
  let c0_i32_83 : BitVec 32 := 0#32
  let v153 : BitVec 1 := Scalar.cmpi .sgt c2_i32_80 c0_i32_83
  let v154 : BitVec 32 := Scalar.extui v153
  let c0_i32_84 : BitVec 32 := 0#32
  let v155 : BitVec 1 := Scalar.cmpi .slt c2_i32_80 c0_i32_84
  let v156 : BitVec 32 := Scalar.extui v155
  let v157 : BitVec 32 := Scalar.subi v154 v156
  let v158 : BitVec 1 := Scalar.cmpi .ne v152 v157
  let v159 : BitVec 32 := Scalar.remsi v136 c2_i32_80
  let c0_i32_85 : BitVec 32 := 0#32
  let v160 : BitVec 1 := Scalar.cmpi .ne v159 c0_i32_85
  let v161 : BitVec 1 := Scalar.andi v158 v160
  let v147 : BitVec 32 := Scalar.divsi v136 c2_i32_80
  let c1_i32_86 : BitVec 32 := 1#32
  let v162 : BitVec 32 := Scalar.subi v147 c1_i32_86
  let v163 : BitVec 32 := Scalar.select v161 v162 v147
  let c2_i32_87 : BitVec 32 := 2#32
  let c0_i32_88 : BitVec 32 := 0#32
  let v164 : BitVec 1 := Scalar.cmpi .eq c2_i32_87 c0_i32_88
  let c1_i32_89 : BitVec 32 := 1#32
  let v165 : BitVec 32 := Scalar.select v164 c1_i32_89 c2_i32_87
  let v166 : BitVec 32 := Scalar.remsi v136 v165
  let c0_i32_91 : BitVec 32 := 0#32
  let v168 : BitVec 1 := Scalar.cmpi .slt v166 c0_i32_91
  let c0_i32_92 : BitVec 32 := 0#32
  let v169 : BitVec 1 := Scalar.cmpi .slt v165 c0_i32_92
  let v170 : BitVec 1 := Scalar.xori v168 v169
  let c0_i32_90 : BitVec 32 := 0#32
  let v167 : BitVec 1 := Scalar.cmpi .ne v166 c0_i32_90
  let v171 : BitVec 1 := Scalar.andi v170 v167
  let v172 : BitVec 32 := Scalar.addi v166 v165
  let v173 : BitVec 32 := Scalar.select v171 v172 v166
  let c1056_i32_95 : BitVec 32 := 1056#32
  let v176 : BitVec 32 := Scalar.muli v173 c1056_i32_95
  let c64_i32_96 : BitVec 32 := 64#32
  let v177 : BitVec 32 := Scalar.subi v176 c64_i32_96
  let c0_i32_97 : BitVec 32 := 0#32
  let v178 : BitVec 32 := Scalar.maxsi v177 c0_i32_97
  let v179 : BitVec 32 := v178
  let c0_i32_100 : BitVec 32 := 0#32
  ![v163.toNat, v179.toNat, 0]
def k0_off6 (i : grid0.Coords) : Fin 3 → Nat :=
  let arg0 : BitVec 32 := BitVec.ofNat 32 (i 0).val
  let c2_i32_73 : BitVec 32 := 2#32
  let v136 : BitVec 32 := Scalar.subi arg0 c2_i32_73
  let c2_i32_74 : BitVec 32 := 2#32
  let c0_i32_75 : BitVec 32 := 0#32
  let v137 : BitVec 1 := Scalar.cmpi .eq c2_i32_74 c0_i32_75
  let c1_i32_76 : BitVec 32 := 1#32
  let v138 : BitVec 32 := Scalar.select v137 c1_i32_76 c2_i32_74
  let v139 : BitVec 32 := Scalar.remsi v136 v138
  let c0_i32_78 : BitVec 32 := 0#32
  let v141 : BitVec 1 := Scalar.cmpi .slt v139 c0_i32_78
  let c0_i32_79 : BitVec 32 := 0#32
  let v142 : BitVec 1 := Scalar.cmpi .slt v138 c0_i32_79
  let v143 : BitVec 1 := Scalar.xori v141 v142
  let c0_i32_77 : BitVec 32 := 0#32
  let v140 : BitVec 1 := Scalar.cmpi .ne v139 c0_i32_77
  let v144 : BitVec 1 := Scalar.andi v143 v140
  let v145 : BitVec 32 := Scalar.addi v139 v138
  let v146 : BitVec 32 := Scalar.select v144 v145 v139
  let c0_i32_101 : BitVec 32 := 0#32
  let c0_i32_102 : BitVec 32 := 0#32
  ![v146.toNat, 0, 0]
def k0_off7 (i : grid0.Coords) : Fin 3 → Nat :=
  let arg0 : BitVec 32 := BitVec.ofNat 32 (i 0).val
  let c2_i32_27 : BitVec 32 := 2#32
  let c0_i32_28 : BitVec 32 := 0#32
  let v52 : BitVec 1 := Scalar.cmpi .eq c2_i32_27 c0_i32_28
  let c1_i32 : BitVec 32 := 1#32
  let v53 : BitVec 32 := Scalar.select v52 c1_i32 c2_i32_27
  let v54 : BitVec 32 := Scalar.remsi arg0 v53
  let c0_i32_30 : BitVec 32 := 0#32
  let v56 : BitVec 1 := Scalar.cmpi .slt v54 c0_i32_30
  let c0_i32_31 : BitVec 32 := 0#32
  let v57 : BitVec 1 := Scalar.cmpi .slt v53 c0_i32_31
  let v58 : BitVec 1 := Scalar.xori v56 v57
  let c0_i32_29 : BitVec 32 := 0#32
  let v55 : BitVec 1 := Scalar.cmpi .ne v54 c0_i32_29
  let v59 : BitVec 1 := Scalar.andi v58 v55
  let v60 : BitVec 32 := Scalar.addi v54 v53
  let v61 : BitVec 32 := Scalar.select v59 v60 v54
  let v62 : Index := Scalar.indexCast v61
  let c0_32 : Index := 0#32
  let c0_33 : Index := 0#32
  ![v62.toNat, 0, 0]
def k0_mult2 (i : grid0.Coords) : BitVec 32 :=
  let arg0 : BitVec 32 := BitVec.ofNat 32 (i 0).val
  let c2_i32_47 : BitVec 32 := 2#32
  let c0_i32_48 : BitVec 32 := 0#32
  let v93 : BitVec 1 := Scalar.cmpi .eq c2_i32_47 c0_i32_48
  let c1_i32_49 : BitVec 32 := 1#32
  let v94 : BitVec 32 := Scalar.select v93 c1_i32_49 c2_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c1056_i32 : BitVec 32 := 1056#32
  let v105 : BitVec 32 := Scalar.muli v102 c1056_i32
  let c64_i32 : BitVec 32 := 64#32
  let v106 : BitVec 32 := Scalar.subi v105 c64_i32
  let c0_i32_55 : BitVec 32 := 0#32
  let v107 : BitVec 32 := Scalar.maxsi v106 c0_i32_55
  v107
def k0_cond4 (i : grid0.Coords) : BitVec 1 :=
  let arg0 : BitVec 32 := BitVec.ofNat 32 (i 0).val
  let c2_i32_47 : BitVec 32 := 2#32
  let c0_i32_48 : BitVec 32 := 0#32
  let v93 : BitVec 1 := Scalar.cmpi .eq c2_i32_47 c0_i32_48
  let c1_i32_49 : BitVec 32 := 1#32
  let v94 : BitVec 32 := Scalar.select v93 c1_i32_49 c2_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c0_i32_53 : BitVec 32 := 0#32
  let v103 : BitVec 1 := Scalar.cmpi .eq v102 c0_i32_53
  let v109 : BitVec 32 := Scalar.extui v103
  let c0_i32_56 : BitVec 32 := 0#32
  let v110 : BitVec 1 := Scalar.cmpi .ne v109 c0_i32_56
  v110

def k0_off8 (i : grid0.Coords) : Fin 1 → Nat :=
  let arg0 : BitVec 32 := BitVec.ofNat 32 (i 0).val
  let c2_i32_34 : BitVec 32 := 2#32
  let c0_i32_35 : BitVec 32 := 0#32
  let v66 : BitVec 1 := Scalar.cmpi .eq c2_i32_34 c0_i32_35
  let c1_i32_36 : BitVec 32 := 1#32
  let v67 : BitVec 32 := Scalar.select v66 c1_i32_36 c2_i32_34
  let v68 : BitVec 32 := Scalar.remsi arg0 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  ![v75.toNat]
def k0_off9 (i : grid0.Coords) : Fin 3 → Nat :=
  let arg0 : BitVec 32 := BitVec.ofNat 32 (i 0).val
  let c0_i32_41 : BitVec 32 := 0#32
  let v77 : BitVec 1 := Scalar.cmpi .sgt arg0 c0_i32_41
  let v78 : BitVec 32 := Scalar.extui v77
  let c0_i32_42 : BitVec 32 := 0#32
  let v79 : BitVec 1 := Scalar.cmpi .slt arg0 c0_i32_42
  let v80 : BitVec 32 := Scalar.extui v79
  let v81 : BitVec 32 := Scalar.subi v78 v80
  let c2_i32_40 : BitVec 32 := 2#32
  let c0_i32_43 : BitVec 32 := 0#32
  let v82 : BitVec 1 := Scalar.cmpi .sgt c2_i32_40 c0_i32_43
  let v83 : BitVec 32 := Scalar.extui v82
  let c0_i32_44 : BitVec 32 := 0#32
  let v84 : BitVec 1 := Scalar.cmpi .slt c2_i32_40 c0_i32_44
  let v85 : BitVec 32 := Scalar.extui v84
  let v86 : BitVec 32 := Scalar.subi v83 v85
  let v87 : BitVec 1 := Scalar.cmpi .ne v81 v86
  let v88 : BitVec 32 := Scalar.remsi arg0 c2_i32_40
  let c0_i32_45 : BitVec 32 := 0#32
  let v89 : BitVec 1 := Scalar.cmpi .ne v88 c0_i32_45
  let v90 : BitVec 1 := Scalar.andi v87 v89
  let v76 : BitVec 32 := Scalar.divsi arg0 c2_i32_40
  let c1_i32_46 : BitVec 32 := 1#32
  let v91 : BitVec 32 := Scalar.subi v76 c1_i32_46
  let v92 : BitVec 32 := Scalar.select v90 v91 v76
  let c0_i32_73 : BitVec 32 := 0#32
  let c0_i32_74 : BitVec 32 := 0#32
  ![v92.toNat, 0, 0]
def k0_off10 (i : grid0.Coords) : Fin 3 → Nat :=
  let arg0 : BitVec 32 := BitVec.ofNat 32 (i 0).val
  let c2_i32_34 : BitVec 32 := 2#32
  let c0_i32_35 : BitVec 32 := 0#32
  let v66 : BitVec 1 := Scalar.cmpi .eq c2_i32_34 c0_i32_35
  let c1_i32_36 : BitVec 32 := 1#32
  let v67 : BitVec 32 := Scalar.select v66 c1_i32_36 c2_i32_34
  let v68 : BitVec 32 := Scalar.remsi arg0 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  let c64_i32_75 : BitVec 32 := 64#32
  let c0_i32_76 : BitVec 32 := 0#32
  ![v75.toNat, 64, 0]
def k0_cond5 (i : grid0.Coords) : BitVec 1 :=
  let arg0 : BitVec 32 := BitVec.ofNat 32 (i 0).val
  let c2_i32_47 : BitVec 32 := 2#32
  let c0_i32_48 : BitVec 32 := 0#32
  let v93 : BitVec 1 := Scalar.cmpi .eq c2_i32_47 c0_i32_48
  let c1_i32_49 : BitVec 32 := 1#32
  let v94 : BitVec 32 := Scalar.select v93 c1_i32_49 c2_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c0_i32_54 : BitVec 32 := 0#32
  let v104 : BitVec 1 := Scalar.cmpi .ne v102 c0_i32_54
  let v111 : BitVec 32 := Scalar.extui v104
  let c0_i32_57 : BitVec 32 := 0#32
  let v112 : BitVec 1 := Scalar.cmpi .ne v111 c0_i32_57
  v112

def k0_off11 (i : grid0.Coords) : Fin 1 → Nat :=
  let arg0 : BitVec 32 := BitVec.ofNat 32 (i 0).val
  let c2_i32_34 : BitVec 32 := 2#32
  let c0_i32_35 : BitVec 32 := 0#32
  let v66 : BitVec 1 := Scalar.cmpi .eq c2_i32_34 c0_i32_35
  let c1_i32_36 : BitVec 32 := 1#32
  let v67 : BitVec 32 := Scalar.select v66 c1_i32_36 c2_i32_34
  let v68 : BitVec 32 := Scalar.remsi arg0 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  ![v75.toNat]
def k0_off12 (i : grid0.Coords) : Fin 3 → Nat :=
  let arg0 : BitVec 32 := BitVec.ofNat 32 (i 0).val
  let c0_i32_41 : BitVec 32 := 0#32
  let v77 : BitVec 1 := Scalar.cmpi .sgt arg0 c0_i32_41
  let v78 : BitVec 32 := Scalar.extui v77
  let c0_i32_42 : BitVec 32 := 0#32
  let v79 : BitVec 1 := Scalar.cmpi .slt arg0 c0_i32_42
  let v80 : BitVec 32 := Scalar.extui v79
  let v81 : BitVec 32 := Scalar.subi v78 v80
  let c2_i32_40 : BitVec 32 := 2#32
  let c0_i32_43 : BitVec 32 := 0#32
  let v82 : BitVec 1 := Scalar.cmpi .sgt c2_i32_40 c0_i32_43
  let v83 : BitVec 32 := Scalar.extui v82
  let c0_i32_44 : BitVec 32 := 0#32
  let v84 : BitVec 1 := Scalar.cmpi .slt c2_i32_40 c0_i32_44
  let v85 : BitVec 32 := Scalar.extui v84
  let v86 : BitVec 32 := Scalar.subi v83 v85
  let v87 : BitVec 1 := Scalar.cmpi .ne v81 v86
  let v88 : BitVec 32 := Scalar.remsi arg0 c2_i32_40
  let c0_i32_45 : BitVec 32 := 0#32
  let v89 : BitVec 1 := Scalar.cmpi .ne v88 c0_i32_45
  let v90 : BitVec 1 := Scalar.andi v87 v89
  let v76 : BitVec 32 := Scalar.divsi arg0 c2_i32_40
  let c1_i32_46 : BitVec 32 := 1#32
  let v91 : BitVec 32 := Scalar.subi v76 c1_i32_46
  let v92 : BitVec 32 := Scalar.select v90 v91 v76
  let c2_i32_47 : BitVec 32 := 2#32
  let c0_i32_48 : BitVec 32 := 0#32
  let v93 : BitVec 1 := Scalar.cmpi .eq c2_i32_47 c0_i32_48
  let c1_i32_49 : BitVec 32 := 1#32
  let v94 : BitVec 32 := Scalar.select v93 c1_i32_49 c2_i32_47
  let v95 : BitVec 32 := Scalar.remsi arg0 v94
  let c0_i32_51 : BitVec 32 := 0#32
  let v97 : BitVec 1 := Scalar.cmpi .slt v95 c0_i32_51
  let c0_i32_52 : BitVec 32 := 0#32
  let v98 : BitVec 1 := Scalar.cmpi .slt v94 c0_i32_52
  let v99 : BitVec 1 := Scalar.xori v97 v98
  let c0_i32_50 : BitVec 32 := 0#32
  let v96 : BitVec 1 := Scalar.cmpi .ne v95 c0_i32_50
  let v100 : BitVec 1 := Scalar.andi v99 v96
  let v101 : BitVec 32 := Scalar.addi v95 v94
  let v102 : BitVec 32 := Scalar.select v100 v101 v95
  let c1056_i32 : BitVec 32 := 1056#32
  let v105 : BitVec 32 := Scalar.muli v102 c1056_i32
  let c64_i32 : BitVec 32 := 64#32
  let v106 : BitVec 32 := Scalar.subi v105 c64_i32
  let c0_i32_55 : BitVec 32 := 0#32
  let v107 : BitVec 32 := Scalar.maxsi v106 c0_i32_55
  let v108 : BitVec 32 := v107
  let c0_i32_73 : BitVec 32 := 0#32
  ![v92.toNat, v108.toNat, 0]
def k0_off13 (i : grid0.Coords) : Fin 3 → Nat :=
  let arg0 : BitVec 32 := BitVec.ofNat 32 (i 0).val
  let c2_i32_34 : BitVec 32 := 2#32
  let c0_i32_35 : BitVec 32 := 0#32
  let v66 : BitVec 1 := Scalar.cmpi .eq c2_i32_34 c0_i32_35
  let c1_i32_36 : BitVec 32 := 1#32
  let v67 : BitVec 32 := Scalar.select v66 c1_i32_36 c2_i32_34
  let v68 : BitVec 32 := Scalar.remsi arg0 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  let c0_i32_74 : BitVec 32 := 0#32
  let c0_i32_75 : BitVec 32 := 0#32
  ![v75.toNat, 0, 0]
def k0_cond6 (i : grid0.Coords) : BitVec 1 :=
  let arg0 : BitVec 32 := BitVec.ofNat 32 (i 0).val
  let c3_i32 : BitVec 32 := 3#32
  let v113 : BitVec 1 := Scalar.cmpi .eq arg0 c3_i32
  let v114 : BitVec 32 := Scalar.extui v113
  let c0_i32_58 : BitVec 32 := 0#32
  let v115 : BitVec 1 := Scalar.cmpi .ne v114 c0_i32_58
  v115

def k0_mult3 (i : grid0.Coords) : BitVec 32 :=
  let arg0 : BitVec 32 := BitVec.ofNat 32 (i 0).val
  let c2_i32_86 : BitVec 32 := 2#32
  let c0_i32_87 : BitVec 32 := 0#32
  let v163 : BitVec 1 := Scalar.cmpi .eq c2_i32_86 c0_i32_87
  let c1_i32_88 : BitVec 32 := 1#32
  let v164 : BitVec 32 := Scalar.select v163 c1_i32_88 c2_i32_86
  let v165 : BitVec 32 := Scalar.remsi arg0 v164
  let c0_i32_90 : BitVec 32 := 0#32
  let v167 : BitVec 1 := Scalar.cmpi .slt v165 c0_i32_90
  let c0_i32_91 : BitVec 32 := 0#32
  let v168 : BitVec 1 := Scalar.cmpi .slt v164 c0_i32_91
  let v169 : BitVec 1 := Scalar.xori v167 v168
  let c0_i32_89 : BitVec 32 := 0#32
  let v166 : BitVec 1 := Scalar.cmpi .ne v165 c0_i32_89
  let v170 : BitVec 1 := Scalar.andi v169 v166
  let v171 : BitVec 32 := Scalar.addi v165 v164
  let v172 : BitVec 32 := Scalar.select v170 v171 v165
  let c1056_i32_94 : BitVec 32 := 1056#32
  let v175 : BitVec 32 := Scalar.muli v172 c1056_i32_94
  let c64_i32_95 : BitVec 32 := 64#32
  let v176 : BitVec 32 := Scalar.subi v175 c64_i32_95
  let c0_i32_96 : BitVec 32 := 0#32
  let v177 : BitVec 32 := Scalar.maxsi v176 c0_i32_96
  v177
def k0_cond7 (i : grid0.Coords) : BitVec 1 :=
  let arg0 : BitVec 32 := BitVec.ofNat 32 (i 0).val
  let c2_i32_86 : BitVec 32 := 2#32
  let c0_i32_87 : BitVec 32 := 0#32
  let v163 : BitVec 1 := Scalar.cmpi .eq c2_i32_86 c0_i32_87
  let c1_i32_88 : BitVec 32 := 1#32
  let v164 : BitVec 32 := Scalar.select v163 c1_i32_88 c2_i32_86
  let v165 : BitVec 32 := Scalar.remsi arg0 v164
  let c0_i32_90 : BitVec 32 := 0#32
  let v167 : BitVec 1 := Scalar.cmpi .slt v165 c0_i32_90
  let c0_i32_91 : BitVec 32 := 0#32
  let v168 : BitVec 1 := Scalar.cmpi .slt v164 c0_i32_91
  let v169 : BitVec 1 := Scalar.xori v167 v168
  let c0_i32_89 : BitVec 32 := 0#32
  let v166 : BitVec 1 := Scalar.cmpi .ne v165 c0_i32_89
  let v170 : BitVec 1 := Scalar.andi v169 v166
  let v171 : BitVec 32 := Scalar.addi v165 v164
  let v172 : BitVec 32 := Scalar.select v170 v171 v165
  let c0_i32_92 : BitVec 32 := 0#32
  let v173 : BitVec 1 := Scalar.cmpi .eq v172 c0_i32_92
  let v179 : BitVec 32 := Scalar.extui v173
  let c0_i32_97 : BitVec 32 := 0#32
  let v180 : BitVec 1 := Scalar.cmpi .ne v179 c0_i32_97
  v180

def k0_off14 (i : grid0.Coords) : Fin 1 → Nat :=
  let arg0 : BitVec 32 := BitVec.ofNat 32 (i 0).val
  let c2_i32_73 : BitVec 32 := 2#32
  let c0_i32_74 : BitVec 32 := 0#32
  let v136 : BitVec 1 := Scalar.cmpi .eq c2_i32_73 c0_i32_74
  let c1_i32_75 : BitVec 32 := 1#32
  let v137 : BitVec 32 := Scalar.select v136 c1_i32_75 c2_i32_73
  let v138 : BitVec 32 := Scalar.remsi arg0 v137
  let c0_i32_77 : BitVec 32 := 0#32
  let v140 : BitVec 1 := Scalar.cmpi .slt v138 c0_i32_77
  let c0_i32_78 : BitVec 32 := 0#32
  let v141 : BitVec 1 := Scalar.cmpi .slt v137 c0_i32_78
  let v142 : BitVec 1 := Scalar.xori v140 v141
  let c0_i32_76 : BitVec 32 := 0#32
  let v139 : BitVec 1 := Scalar.cmpi .ne v138 c0_i32_76
  let v143 : BitVec 1 := Scalar.andi v142 v139
  let v144 : BitVec 32 := Scalar.addi v138 v137
  let v145 : BitVec 32 := Scalar.select v143 v144 v138
  ![v145.toNat]
def k0_off15 (i : grid0.Coords) : Fin 3 → Nat :=
  let arg0 : BitVec 32 := BitVec.ofNat 32 (i 0).val
  let c0_i32_80 : BitVec 32 := 0#32
  let v147 : BitVec 1 := Scalar.cmpi .sgt arg0 c0_i32_80
  let v148 : BitVec 32 := Scalar.extui v147
  let c0_i32_81 : BitVec 32 := 0#32
  let v149 : BitVec 1 := Scalar.cmpi .slt arg0 c0_i32_81
  let v150 : BitVec 32 := Scalar.extui v149
  let v151 : BitVec 32 := Scalar.subi v148 v150
  let c2_i32_79 : BitVec 32 := 2#32
  let c0_i32_82 : BitVec 32 := 0#32
  let v152 : BitVec 1 := Scalar.cmpi .sgt c2_i32_79 c0_i32_82
  let v153 : BitVec 32 := Scalar.extui v152
  let c0_i32_83 : BitVec 32 := 0#32
  let v154 : BitVec 1 := Scalar.cmpi .slt c2_i32_79 c0_i32_83
  let v155 : BitVec 32 := Scalar.extui v154
  let v156 : BitVec 32 := Scalar.subi v153 v155
  let v157 : BitVec 1 := Scalar.cmpi .ne v151 v156
  let v158 : BitVec 32 := Scalar.remsi arg0 c2_i32_79
  let c0_i32_84 : BitVec 32 := 0#32
  let v159 : BitVec 1 := Scalar.cmpi .ne v158 c0_i32_84
  let v160 : BitVec 1 := Scalar.andi v157 v159
  let v146 : BitVec 32 := Scalar.divsi arg0 c2_i32_79
  let c1_i32_85 : BitVec 32 := 1#32
  let v161 : BitVec 32 := Scalar.subi v146 c1_i32_85
  let v162 : BitVec 32 := Scalar.select v160 v161 v146
  let c0_i32_126 : BitVec 32 := 0#32
  let c0_i32_127 : BitVec 32 := 0#32
  ![v162.toNat, 0, 0]
def k0_off16 (i : grid0.Coords) : Fin 3 → Nat :=
  let arg0 : BitVec 32 := BitVec.ofNat 32 (i 0).val
  let c2_i32_73 : BitVec 32 := 2#32
  let c0_i32_74 : BitVec 32 := 0#32
  let v136 : BitVec 1 := Scalar.cmpi .eq c2_i32_73 c0_i32_74
  let c1_i32_75 : BitVec 32 := 1#32
  let v137 : BitVec 32 := Scalar.select v136 c1_i32_75 c2_i32_73
  let v138 : BitVec 32 := Scalar.remsi arg0 v137
  let c0_i32_77 : BitVec 32 := 0#32
  let v140 : BitVec 1 := Scalar.cmpi .slt v138 c0_i32_77
  let c0_i32_78 : BitVec 32 := 0#32
  let v141 : BitVec 1 := Scalar.cmpi .slt v137 c0_i32_78
  let v142 : BitVec 1 := Scalar.xori v140 v141
  let c0_i32_76 : BitVec 32 := 0#32
  let v139 : BitVec 1 := Scalar.cmpi .ne v138 c0_i32_76
  let v143 : BitVec 1 := Scalar.andi v142 v139
  let v144 : BitVec 32 := Scalar.addi v138 v137
  let v145 : BitVec 32 := Scalar.select v143 v144 v138
  let c64_i32_128 : BitVec 32 := 64#32
  let c0_i32_129 : BitVec 32 := 0#32
  ![v145.toNat, 64, 0]
def k0_cond8 (i : grid0.Coords) : BitVec 1 :=
  let arg0 : BitVec 32 := BitVec.ofNat 32 (i 0).val
  let c2_i32_86 : BitVec 32 := 2#32
  let c0_i32_87 : BitVec 32 := 0#32
  let v163 : BitVec 1 := Scalar.cmpi .eq c2_i32_86 c0_i32_87
  let c1_i32_88 : BitVec 32 := 1#32
  let v164 : BitVec 32 := Scalar.select v163 c1_i32_88 c2_i32_86
  let v165 : BitVec 32 := Scalar.remsi arg0 v164
  let c0_i32_90 : BitVec 32 := 0#32
  let v167 : BitVec 1 := Scalar.cmpi .slt v165 c0_i32_90
  let c0_i32_91 : BitVec 32 := 0#32
  let v168 : BitVec 1 := Scalar.cmpi .slt v164 c0_i32_91
  let v169 : BitVec 1 := Scalar.xori v167 v168
  let c0_i32_89 : BitVec 32 := 0#32
  let v166 : BitVec 1 := Scalar.cmpi .ne v165 c0_i32_89
  let v170 : BitVec 1 := Scalar.andi v169 v166
  let v171 : BitVec 32 := Scalar.addi v165 v164
  let v172 : BitVec 32 := Scalar.select v170 v171 v165
  let c0_i32_93 : BitVec 32 := 0#32
  let v174 : BitVec 1 := Scalar.cmpi .ne v172 c0_i32_93
  let v181 : BitVec 32 := Scalar.extui v174
  let c0_i32_98 : BitVec 32 := 0#32
  let v182 : BitVec 1 := Scalar.cmpi .ne v181 c0_i32_98
  v182

def k0_off17 (i : grid0.Coords) : Fin 1 → Nat :=
  let arg0 : BitVec 32 := BitVec.ofNat 32 (i 0).val
  let c2_i32_73 : BitVec 32 := 2#32
  let c0_i32_74 : BitVec 32 := 0#32
  let v136 : BitVec 1 := Scalar.cmpi .eq c2_i32_73 c0_i32_74
  let c1_i32_75 : BitVec 32 := 1#32
  let v137 : BitVec 32 := Scalar.select v136 c1_i32_75 c2_i32_73
  let v138 : BitVec 32 := Scalar.remsi arg0 v137
  let c0_i32_77 : BitVec 32 := 0#32
  let v140 : BitVec 1 := Scalar.cmpi .slt v138 c0_i32_77
  let c0_i32_78 : BitVec 32 := 0#32
  let v141 : BitVec 1 := Scalar.cmpi .slt v137 c0_i32_78
  let v142 : BitVec 1 := Scalar.xori v140 v141
  let c0_i32_76 : BitVec 32 := 0#32
  let v139 : BitVec 1 := Scalar.cmpi .ne v138 c0_i32_76
  let v143 : BitVec 1 := Scalar.andi v142 v139
  let v144 : BitVec 32 := Scalar.addi v138 v137
  let v145 : BitVec 32 := Scalar.select v143 v144 v138
  ![v145.toNat]
def k0_off18 (i : grid0.Coords) : Fin 3 → Nat :=
  let arg0 : BitVec 32 := BitVec.ofNat 32 (i 0).val
  let c0_i32_80 : BitVec 32 := 0#32
  let v147 : BitVec 1 := Scalar.cmpi .sgt arg0 c0_i32_80
  let v148 : BitVec 32 := Scalar.extui v147
  let c0_i32_81 : BitVec 32 := 0#32
  let v149 : BitVec 1 := Scalar.cmpi .slt arg0 c0_i32_81
  let v150 : BitVec 32 := Scalar.extui v149
  let v151 : BitVec 32 := Scalar.subi v148 v150
  let c2_i32_79 : BitVec 32 := 2#32
  let c0_i32_82 : BitVec 32 := 0#32
  let v152 : BitVec 1 := Scalar.cmpi .sgt c2_i32_79 c0_i32_82
  let v153 : BitVec 32 := Scalar.extui v152
  let c0_i32_83 : BitVec 32 := 0#32
  let v154 : BitVec 1 := Scalar.cmpi .slt c2_i32_79 c0_i32_83
  let v155 : BitVec 32 := Scalar.extui v154
  let v156 : BitVec 32 := Scalar.subi v153 v155
  let v157 : BitVec 1 := Scalar.cmpi .ne v151 v156
  let v158 : BitVec 32 := Scalar.remsi arg0 c2_i32_79
  let c0_i32_84 : BitVec 32 := 0#32
  let v159 : BitVec 1 := Scalar.cmpi .ne v158 c0_i32_84
  let v160 : BitVec 1 := Scalar.andi v157 v159
  let v146 : BitVec 32 := Scalar.divsi arg0 c2_i32_79
  let c1_i32_85 : BitVec 32 := 1#32
  let v161 : BitVec 32 := Scalar.subi v146 c1_i32_85
  let v162 : BitVec 32 := Scalar.select v160 v161 v146
  let c2_i32_86 : BitVec 32 := 2#32
  let c0_i32_87 : BitVec 32 := 0#32
  let v163 : BitVec 1 := Scalar.cmpi .eq c2_i32_86 c0_i32_87
  let c1_i32_88 : BitVec 32 := 1#32
  let v164 : BitVec 32 := Scalar.select v163 c1_i32_88 c2_i32_86
  let v165 : BitVec 32 := Scalar.remsi arg0 v164
  let c0_i32_90 : BitVec 32 := 0#32
  let v167 : BitVec 1 := Scalar.cmpi .slt v165 c0_i32_90
  let c0_i32_91 : BitVec 32 := 0#32
  let v168 : BitVec 1 := Scalar.cmpi .slt v164 c0_i32_91
  let v169 : BitVec 1 := Scalar.xori v167 v168
  let c0_i32_89 : BitVec 32 := 0#32
  let v166 : BitVec 1 := Scalar.cmpi .ne v165 c0_i32_89
  let v170 : BitVec 1 := Scalar.andi v169 v166
  let v171 : BitVec 32 := Scalar.addi v165 v164
  let v172 : BitVec 32 := Scalar.select v170 v171 v165
  let c1056_i32_94 : BitVec 32 := 1056#32
  let v175 : BitVec 32 := Scalar.muli v172 c1056_i32_94
  let c64_i32_95 : BitVec 32 := 64#32
  let v176 : BitVec 32 := Scalar.subi v175 c64_i32_95
  let c0_i32_96 : BitVec 32 := 0#32
  let v177 : BitVec 32 := Scalar.maxsi v176 c0_i32_96
  let v178 : BitVec 32 := v177
  let c0_i32_126 : BitVec 32 := 0#32
  ![v162.toNat, v178.toNat, 0]
def k0_off19 (i : grid0.Coords) : Fin 3 → Nat :=
  let arg0 : BitVec 32 := BitVec.ofNat 32 (i 0).val
  let c2_i32_73 : BitVec 32 := 2#32
  let c0_i32_74 : BitVec 32 := 0#32
  let v136 : BitVec 1 := Scalar.cmpi .eq c2_i32_73 c0_i32_74
  let c1_i32_75 : BitVec 32 := 1#32
  let v137 : BitVec 32 := Scalar.select v136 c1_i32_75 c2_i32_73
  let v138 : BitVec 32 := Scalar.remsi arg0 v137
  let c0_i32_77 : BitVec 32 := 0#32
  let v140 : BitVec 1 := Scalar.cmpi .slt v138 c0_i32_77
  let c0_i32_78 : BitVec 32 := 0#32
  let v141 : BitVec 1 := Scalar.cmpi .slt v137 c0_i32_78
  let v142 : BitVec 1 := Scalar.xori v140 v141
  let c0_i32_76 : BitVec 32 := 0#32
  let v139 : BitVec 1 := Scalar.cmpi .ne v138 c0_i32_76
  let v143 : BitVec 1 := Scalar.andi v142 v139
  let v144 : BitVec 32 := Scalar.addi v138 v137
  let v145 : BitVec 32 := Scalar.select v143 v144 v138
  let c0_i32_127 : BitVec 32 := 0#32
  let c0_i32_128 : BitVec 32 := 0#32
  ![v145.toNat, 0, 0]
def k0_mult4 (i : grid0.Coords) : BitVec 32 :=
  let arg0 : BitVec 32 := BitVec.ofNat 32 (i 0).val
  let c1_i32_99 : BitVec 32 := 1#32
  let v183 : BitVec 32 := Scalar.subi arg0 c1_i32_99
  let c2_i32_113 : BitVec 32 := 2#32
  let c0_i32_114 : BitVec 32 := 0#32
  let v211 : BitVec 1 := Scalar.cmpi .eq c2_i32_113 c0_i32_114
  let c1_i32_115 : BitVec 32 := 1#32
  let v212 : BitVec 32 := Scalar.select v211 c1_i32_115 c2_i32_113
  let v213 : BitVec 32 := Scalar.remsi v183 v212
  let c0_i32_117 : BitVec 32 := 0#32
  let v215 : BitVec 1 := Scalar.cmpi .slt v213 c0_i32_117
  let c0_i32_118 : BitVec 32 := 0#32
  let v216 : BitVec 1 := Scalar.cmpi .slt v212 c0_i32_118
  let v217 : BitVec 1 := Scalar.xori v215 v216
  let c0_i32_116 : BitVec 32 := 0#32
  let v214 : BitVec 1 := Scalar.cmpi .ne v213 c0_i32_116
  let v218 : BitVec 1 := Scalar.andi v217 v214
  let v219 : BitVec 32 := Scalar.addi v213 v212
  let v220 : BitVec 32 := Scalar.select v218 v219 v213
  let c1056_i32_121 : BitVec 32 := 1056#32
  let v223 : BitVec 32 := Scalar.muli v220 c1056_i32_121
  let c64_i32_122 : BitVec 32 := 64#32
  let v224 : BitVec 32 := Scalar.subi v223 c64_i32_122
  let c0_i32_123 : BitVec 32 := 0#32
  let v225 : BitVec 32 := Scalar.maxsi v224 c0_i32_123
  v225
def k0_cond9 (i : grid0.Coords) : BitVec 1 :=
  let arg0 : BitVec 32 := BitVec.ofNat 32 (i 0).val
  let c1_i32_99 : BitVec 32 := 1#32
  let v183 : BitVec 32 := Scalar.subi arg0 c1_i32_99
  let c2_i32_113 : BitVec 32 := 2#32
  let c0_i32_114 : BitVec 32 := 0#32
  let v211 : BitVec 1 := Scalar.cmpi .eq c2_i32_113 c0_i32_114
  let c1_i32_115 : BitVec 32 := 1#32
  let v212 : BitVec 32 := Scalar.select v211 c1_i32_115 c2_i32_113
  let v213 : BitVec 32 := Scalar.remsi v183 v212
  let c0_i32_117 : BitVec 32 := 0#32
  let v215 : BitVec 1 := Scalar.cmpi .slt v213 c0_i32_117
  let c0_i32_118 : BitVec 32 := 0#32
  let v216 : BitVec 1 := Scalar.cmpi .slt v212 c0_i32_118
  let v217 : BitVec 1 := Scalar.xori v215 v216
  let c0_i32_116 : BitVec 32 := 0#32
  let v214 : BitVec 1 := Scalar.cmpi .ne v213 c0_i32_116
  let v218 : BitVec 1 := Scalar.andi v217 v214
  let v219 : BitVec 32 := Scalar.addi v213 v212
  let v220 : BitVec 32 := Scalar.select v218 v219 v213
  let c0_i32_119 : BitVec 32 := 0#32
  let v221 : BitVec 1 := Scalar.cmpi .eq v220 c0_i32_119
  let v227 : BitVec 32 := Scalar.extui v221
  let c0_i32_124 : BitVec 32 := 0#32
  let v228 : BitVec 1 := Scalar.cmpi .ne v227 c0_i32_124
  v228

def k0_off20 (i : grid0.Coords) : Fin 1 → Nat :=
  let arg0 : BitVec 32 := BitVec.ofNat 32 (i 0).val
  let c1_i32_99 : BitVec 32 := 1#32
  let v183 : BitVec 32 := Scalar.subi arg0 c1_i32_99
  let c2_i32_100 : BitVec 32 := 2#32
  let c0_i32_101 : BitVec 32 := 0#32
  let v184 : BitVec 1 := Scalar.cmpi .eq c2_i32_100 c0_i32_101
  let c1_i32_102 : BitVec 32 := 1#32
  let v185 : BitVec 32 := Scalar.select v184 c1_i32_102 c2_i32_100
  let v186 : BitVec 32 := Scalar.remsi v183 v185
  let c0_i32_104 : BitVec 32 := 0#32
  let v188 : BitVec 1 := Scalar.cmpi .slt v186 c0_i32_104
  let c0_i32_105 : BitVec 32 := 0#32
  let v189 : BitVec 1 := Scalar.cmpi .slt v185 c0_i32_105
  let v190 : BitVec 1 := Scalar.xori v188 v189
  let c0_i32_103 : BitVec 32 := 0#32
  let v187 : BitVec 1 := Scalar.cmpi .ne v186 c0_i32_103
  let v191 : BitVec 1 := Scalar.andi v190 v187
  let v192 : BitVec 32 := Scalar.addi v186 v185
  let v193 : BitVec 32 := Scalar.select v191 v192 v186
  ![v193.toNat]
def k0_off21 (i : grid0.Coords) : Fin 3 → Nat :=
  let arg0 : BitVec 32 := BitVec.ofNat 32 (i 0).val
  let c1_i32_99 : BitVec 32 := 1#32
  let v183 : BitVec 32 := Scalar.subi arg0 c1_i32_99
  let c0_i32_107 : BitVec 32 := 0#32
  let v195 : BitVec 1 := Scalar.cmpi .sgt v183 c0_i32_107
  let v196 : BitVec 32 := Scalar.extui v195
  let c0_i32_108 : BitVec 32 := 0#32
  let v197 : BitVec 1 := Scalar.cmpi .slt v183 c0_i32_108
  let v198 : BitVec 32 := Scalar.extui v197
  let v199 : BitVec 32 := Scalar.subi v196 v198
  let c2_i32_106 : BitVec 32 := 2#32
  let c0_i32_109 : BitVec 32 := 0#32
  let v200 : BitVec 1 := Scalar.cmpi .sgt c2_i32_106 c0_i32_109
  let v201 : BitVec 32 := Scalar.extui v200
  let c0_i32_110 : BitVec 32 := 0#32
  let v202 : BitVec 1 := Scalar.cmpi .slt c2_i32_106 c0_i32_110
  let v203 : BitVec 32 := Scalar.extui v202
  let v204 : BitVec 32 := Scalar.subi v201 v203
  let v205 : BitVec 1 := Scalar.cmpi .ne v199 v204
  let v206 : BitVec 32 := Scalar.remsi v183 c2_i32_106
  let c0_i32_111 : BitVec 32 := 0#32
  let v207 : BitVec 1 := Scalar.cmpi .ne v206 c0_i32_111
  let v208 : BitVec 1 := Scalar.andi v205 v207
  let v194 : BitVec 32 := Scalar.divsi v183 c2_i32_106
  let c1_i32_112 : BitVec 32 := 1#32
  let v209 : BitVec 32 := Scalar.subi v194 c1_i32_112
  let v210 : BitVec 32 := Scalar.select v208 v209 v194
  let c0_i32_126 : BitVec 32 := 0#32
  let c0_i32_127 : BitVec 32 := 0#32
  ![v210.toNat, 0, 0]
def k0_off22 (i : grid0.Coords) : Fin 3 → Nat :=
  let arg0 : BitVec 32 := BitVec.ofNat 32 (i 0).val
  let c1_i32_99 : BitVec 32 := 1#32
  let v183 : BitVec 32 := Scalar.subi arg0 c1_i32_99
  let c2_i32_100 : BitVec 32 := 2#32
  let c0_i32_101 : BitVec 32 := 0#32
  let v184 : BitVec 1 := Scalar.cmpi .eq c2_i32_100 c0_i32_101
  let c1_i32_102 : BitVec 32 := 1#32
  let v185 : BitVec 32 := Scalar.select v184 c1_i32_102 c2_i32_100
  let v186 : BitVec 32 := Scalar.remsi v183 v185
  let c0_i32_104 : BitVec 32 := 0#32
  let v188 : BitVec 1 := Scalar.cmpi .slt v186 c0_i32_104
  let c0_i32_105 : BitVec 32 := 0#32
  let v189 : BitVec 1 := Scalar.cmpi .slt v185 c0_i32_105
  let v190 : BitVec 1 := Scalar.xori v188 v189
  let c0_i32_103 : BitVec 32 := 0#32
  let v187 : BitVec 1 := Scalar.cmpi .ne v186 c0_i32_103
  let v191 : BitVec 1 := Scalar.andi v190 v187
  let v192 : BitVec 32 := Scalar.addi v186 v185
  let v193 : BitVec 32 := Scalar.select v191 v192 v186
  let c64_i32_128 : BitVec 32 := 64#32
  let c0_i32_129 : BitVec 32 := 0#32
  ![v193.toNat, 64, 0]
def k0_cond10 (i : grid0.Coords) : BitVec 1 :=
  let arg0 : BitVec 32 := BitVec.ofNat 32 (i 0).val
  let c1_i32_99 : BitVec 32 := 1#32
  let v183 : BitVec 32 := Scalar.subi arg0 c1_i32_99
  let c2_i32_113 : BitVec 32 := 2#32
  let c0_i32_114 : BitVec 32 := 0#32
  let v211 : BitVec 1 := Scalar.cmpi .eq c2_i32_113 c0_i32_114
  let c1_i32_115 : BitVec 32 := 1#32
  let v212 : BitVec 32 := Scalar.select v211 c1_i32_115 c2_i32_113
  let v213 : BitVec 32 := Scalar.remsi v183 v212
  let c0_i32_117 : BitVec 32 := 0#32
  let v215 : BitVec 1 := Scalar.cmpi .slt v213 c0_i32_117
  let c0_i32_118 : BitVec 32 := 0#32
  let v216 : BitVec 1 := Scalar.cmpi .slt v212 c0_i32_118
  let v217 : BitVec 1 := Scalar.xori v215 v216
  let c0_i32_116 : BitVec 32 := 0#32
  let v214 : BitVec 1 := Scalar.cmpi .ne v213 c0_i32_116
  let v218 : BitVec 1 := Scalar.andi v217 v214
  let v219 : BitVec 32 := Scalar.addi v213 v212
  let v220 : BitVec 32 := Scalar.select v218 v219 v213
  let c0_i32_120 : BitVec 32 := 0#32
  let v222 : BitVec 1 := Scalar.cmpi .ne v220 c0_i32_120
  let v229 : BitVec 32 := Scalar.extui v222
  let c0_i32_125 : BitVec 32 := 0#32
  let v230 : BitVec 1 := Scalar.cmpi .ne v229 c0_i32_125
  v230

def k0_off23 (i : grid0.Coords) : Fin 1 → Nat :=
  let arg0 : BitVec 32 := BitVec.ofNat 32 (i 0).val
  let c1_i32_99 : BitVec 32 := 1#32
  let v183 : BitVec 32 := Scalar.subi arg0 c1_i32_99
  let c2_i32_100 : BitVec 32 := 2#32
  let c0_i32_101 : BitVec 32 := 0#32
  let v184 : BitVec 1 := Scalar.cmpi .eq c2_i32_100 c0_i32_101
  let c1_i32_102 : BitVec 32 := 1#32
  let v185 : BitVec 32 := Scalar.select v184 c1_i32_102 c2_i32_100
  let v186 : BitVec 32 := Scalar.remsi v183 v185
  let c0_i32_104 : BitVec 32 := 0#32
  let v188 : BitVec 1 := Scalar.cmpi .slt v186 c0_i32_104
  let c0_i32_105 : BitVec 32 := 0#32
  let v189 : BitVec 1 := Scalar.cmpi .slt v185 c0_i32_105
  let v190 : BitVec 1 := Scalar.xori v188 v189
  let c0_i32_103 : BitVec 32 := 0#32
  let v187 : BitVec 1 := Scalar.cmpi .ne v186 c0_i32_103
  let v191 : BitVec 1 := Scalar.andi v190 v187
  let v192 : BitVec 32 := Scalar.addi v186 v185
  let v193 : BitVec 32 := Scalar.select v191 v192 v186
  ![v193.toNat]
def k0_off24 (i : grid0.Coords) : Fin 3 → Nat :=
  let arg0 : BitVec 32 := BitVec.ofNat 32 (i 0).val
  let c1_i32_99 : BitVec 32 := 1#32
  let v183 : BitVec 32 := Scalar.subi arg0 c1_i32_99
  let c0_i32_107 : BitVec 32 := 0#32
  let v195 : BitVec 1 := Scalar.cmpi .sgt v183 c0_i32_107
  let v196 : BitVec 32 := Scalar.extui v195
  let c0_i32_108 : BitVec 32 := 0#32
  let v197 : BitVec 1 := Scalar.cmpi .slt v183 c0_i32_108
  let v198 : BitVec 32 := Scalar.extui v197
  let v199 : BitVec 32 := Scalar.subi v196 v198
  let c2_i32_106 : BitVec 32 := 2#32
  let c0_i32_109 : BitVec 32 := 0#32
  let v200 : BitVec 1 := Scalar.cmpi .sgt c2_i32_106 c0_i32_109
  let v201 : BitVec 32 := Scalar.extui v200
  let c0_i32_110 : BitVec 32 := 0#32
  let v202 : BitVec 1 := Scalar.cmpi .slt c2_i32_106 c0_i32_110
  let v203 : BitVec 32 := Scalar.extui v202
  let v204 : BitVec 32 := Scalar.subi v201 v203
  let v205 : BitVec 1 := Scalar.cmpi .ne v199 v204
  let v206 : BitVec 32 := Scalar.remsi v183 c2_i32_106
  let c0_i32_111 : BitVec 32 := 0#32
  let v207 : BitVec 1 := Scalar.cmpi .ne v206 c0_i32_111
  let v208 : BitVec 1 := Scalar.andi v205 v207
  let v194 : BitVec 32 := Scalar.divsi v183 c2_i32_106
  let c1_i32_112 : BitVec 32 := 1#32
  let v209 : BitVec 32 := Scalar.subi v194 c1_i32_112
  let v210 : BitVec 32 := Scalar.select v208 v209 v194
  let c2_i32_113 : BitVec 32 := 2#32
  let c0_i32_114 : BitVec 32 := 0#32
  let v211 : BitVec 1 := Scalar.cmpi .eq c2_i32_113 c0_i32_114
  let c1_i32_115 : BitVec 32 := 1#32
  let v212 : BitVec 32 := Scalar.select v211 c1_i32_115 c2_i32_113
  let v213 : BitVec 32 := Scalar.remsi v183 v212
  let c0_i32_117 : BitVec 32 := 0#32
  let v215 : BitVec 1 := Scalar.cmpi .slt v213 c0_i32_117
  let c0_i32_118 : BitVec 32 := 0#32
  let v216 : BitVec 1 := Scalar.cmpi .slt v212 c0_i32_118
  let v217 : BitVec 1 := Scalar.xori v215 v216
  let c0_i32_116 : BitVec 32 := 0#32
  let v214 : BitVec 1 := Scalar.cmpi .ne v213 c0_i32_116
  let v218 : BitVec 1 := Scalar.andi v217 v214
  let v219 : BitVec 32 := Scalar.addi v213 v212
  let v220 : BitVec 32 := Scalar.select v218 v219 v213
  let c1056_i32_121 : BitVec 32 := 1056#32
  let v223 : BitVec 32 := Scalar.muli v220 c1056_i32_121
  let c64_i32_122 : BitVec 32 := 64#32
  let v224 : BitVec 32 := Scalar.subi v223 c64_i32_122
  let c0_i32_123 : BitVec 32 := 0#32
  let v225 : BitVec 32 := Scalar.maxsi v224 c0_i32_123
  let v226 : BitVec 32 := v225
  let c0_i32_126 : BitVec 32 := 0#32
  ![v210.toNat, v226.toNat, 0]
def k0_off25 (i : grid0.Coords) : Fin 3 → Nat :=
  let arg0 : BitVec 32 := BitVec.ofNat 32 (i 0).val
  let c1_i32_99 : BitVec 32 := 1#32
  let v183 : BitVec 32 := Scalar.subi arg0 c1_i32_99
  let c2_i32_100 : BitVec 32 := 2#32
  let c0_i32_101 : BitVec 32 := 0#32
  let v184 : BitVec 1 := Scalar.cmpi .eq c2_i32_100 c0_i32_101
  let c1_i32_102 : BitVec 32 := 1#32
  let v185 : BitVec 32 := Scalar.select v184 c1_i32_102 c2_i32_100
  let v186 : BitVec 32 := Scalar.remsi v183 v185
  let c0_i32_104 : BitVec 32 := 0#32
  let v188 : BitVec 1 := Scalar.cmpi .slt v186 c0_i32_104
  let c0_i32_105 : BitVec 32 := 0#32
  let v189 : BitVec 1 := Scalar.cmpi .slt v185 c0_i32_105
  let v190 : BitVec 1 := Scalar.xori v188 v189
  let c0_i32_103 : BitVec 32 := 0#32
  let v187 : BitVec 1 := Scalar.cmpi .ne v186 c0_i32_103
  let v191 : BitVec 1 := Scalar.andi v190 v187
  let v192 : BitVec 32 := Scalar.addi v186 v185
  let v193 : BitVec 32 := Scalar.select v191 v192 v186
  let c0_i32_127 : BitVec 32 := 0#32
  let c0_i32_128 : BitVec 32 := 0#32
  ![v193.toNat, 0, 0]
def k0_cond11 (i : grid0.Coords) : BitVec 1 :=
  let arg0 : BitVec 32 := BitVec.ofNat 32 (i 0).val
  let c0_i32_59 : BitVec 32 := 0#32
  let v116 : BitVec 1 := Scalar.cmpi .eq arg0 c0_i32_59
  let v117 : BitVec 32 := Scalar.extui v116
  let c0_i32_60 : BitVec 32 := 0#32
  let v118 : BitVec 1 := Scalar.cmpi .ne v117 c0_i32_60
  v118

def k0_cond12 (i : grid0.Coords) : BitVec 1 :=
  let arg0 : BitVec 32 := BitVec.ofNat 32 (i 0).val
  let c2_i32_65 : BitVec 32 := 2#32
  let c0_i32_66 : BitVec 32 := 0#32
  let v123 : BitVec 1 := Scalar.cmpi .eq c2_i32_65 c0_i32_66
  let c1_i32_67 : BitVec 32 := 1#32
  let v124 : BitVec 32 := Scalar.select v123 c1_i32_67 c2_i32_65
  let v125 : BitVec 32 := Scalar.remsi arg0 v124
  let c0_i32_69 : BitVec 32 := 0#32
  let v127 : BitVec 1 := Scalar.cmpi .slt v125 c0_i32_69
  let c0_i32_70 : BitVec 32 := 0#32
  let v128 : BitVec 1 := Scalar.cmpi .slt v124 c0_i32_70
  let v129 : BitVec 1 := Scalar.xori v127 v128
  let c0_i32_68 : BitVec 32 := 0#32
  let v126 : BitVec 1 := Scalar.cmpi .ne v125 c0_i32_68
  let v130 : BitVec 1 := Scalar.andi v129 v126
  let v131 : BitVec 32 := Scalar.addi v125 v124
  let v132 : BitVec 32 := Scalar.select v130 v131 v125
  let c0_i32_71 : BitVec 32 := 0#32
  let v133 : BitVec 1 := Scalar.cmpi .eq v132 c0_i32_71
  let v134 : BitVec 32 := Scalar.extui v133
  let c0_i32_72 : BitVec 32 := 0#32
  let v135 : BitVec 1 := Scalar.cmpi .ne v134 c0_i32_72
  v135

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1056x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2688 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4224x1024 : Shape := ⟨2, ![4224, 1024]⟩
abbrev S4224x512 : Shape := ⟨2, ![4224, 512]⟩
abbrev S4224x128 : Shape := ⟨2, ![4224, 128]⟩
abbrev S2x2048x1024 : Shape := ⟨3, ![2, 2048, 1024]⟩
abbrev S16x1024 : Shape := ⟨2, ![16, 1024]⟩
abbrev S1x1024x2576 : Shape := ⟨3, ![1, 1024, 2576]⟩
abbrev S1x1024 : Shape := ⟨2, ![1, 1024]⟩
abbrev S8x128 : Shape := ⟨2, ![8, 128]⟩
abbrev S4224x16 : Shape := ⟨2, ![4224, 16]⟩
abbrev S4224x2576 : Shape := ⟨2, ![4224, 2576]⟩
abbrev S1x16x1024 : Shape := ⟨3, ![1, 16, 1024]⟩
abbrev S2x16x1024 : Shape := ⟨3, ![2, 16, 1024]⟩
abbrev S_ : Shape := ⟨0, ![]⟩
abbrev S2x48x1024 : Shape := ⟨3, ![2, 48, 1024]⟩
abbrev S2x2112x1024 : Shape := ⟨3, ![2, 2112, 1024]⟩
abbrev S1024 : Shape := ⟨1, ![1024]⟩
abbrev S4224 : Shape := ⟨1, ![4224]⟩
abbrev S4224x1 : Shape := ⟨2, ![4224, 1]⟩
abbrev S1024x2576 : Shape := ⟨2, ![1024, 2576]⟩
abbrev S7x1024 : Shape := ⟨2, ![7, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x512, .bf16⟩
  | .hbm, ⟨2, _⟩ => ⟨S4224x1024, .bf16⟩
  | .hbm, ⟨3, _⟩ => ⟨S4224x128, .bf16⟩
  | .hbm, ⟨4, _⟩ => ⟨S4224x1024, .f32⟩
  | .hbm, ⟨5, _⟩ => ⟨S2x2048x1024, .f32⟩
  | .hbm, ⟨6, _⟩ => ⟨S16x1024, .f32⟩
  | .hbm, ⟨7, _⟩ => ⟨S1x1024x2576, .f32⟩
  | .hbm, ⟨8, _⟩ => ⟨S1x1024, .f32⟩
  | .hbm, ⟨9, _⟩ => ⟨S8x128, .f32⟩
  | .hbm, ⟨10, _⟩ => ⟨S4224x1024, .f32⟩
  | .hbm, ⟨11, _⟩ => ⟨S4224x512, .f32⟩
  | .hbm, ⟨12, _⟩ => ⟨S4224x1024, .f32⟩
  | .hbm, ⟨13, _⟩ => ⟨S4224x16, .bf16⟩
  | .hbm, ⟨14, _⟩ => ⟨S4224x16, .f32⟩
  | .hbm, ⟨15, _⟩ => ⟨S4224x2576, .f32⟩
  | .hbm, ⟨16, _⟩ => ⟨S1x16x1024, .f32⟩
  | .hbm, ⟨17, _⟩ => ⟨S2x16x1024, .f32⟩
  | .hbm, ⟨18, _⟩ => ⟨S_, .f32⟩
  | .hbm, ⟨19, _⟩ => ⟨S2x48x1024, .f32⟩
  | .hbm, ⟨20, _⟩ => ⟨S2x2112x1024, .f32⟩
  | .hbm, ⟨21, _⟩ => ⟨S_, .f32⟩
  | .hbm, ⟨22, _⟩ => ⟨S2x48x1024, .f32⟩
  | .hbm, ⟨23, _⟩ => ⟨S4224x1024, .f32⟩
  | .hbm, ⟨24, _⟩ => ⟨S1024, .f32⟩
  | .hbm, ⟨25, _⟩ => ⟨S4224x1024, .f32⟩
  | .hbm, ⟨26, _⟩ => ⟨S_, .f32⟩
  | .hbm, ⟨27, _⟩ => ⟨S4224, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S_, .f32⟩
  | .hbm, ⟨33, _⟩ => ⟨S4224x1, .f32⟩
  | .hbm, ⟨34, _⟩ => ⟨S4224x1, .f32⟩
  | .hbm, ⟨35, _⟩ => ⟨S4224x1, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S4224x1024, .f32⟩
  | .hbm, ⟨41, _⟩ => ⟨S4224x1024, .f32⟩
  | .hbm, ⟨42, _⟩ => ⟨S1x1024, .f32⟩
  | .hbm, ⟨43, _⟩ => ⟨S4224x1024, .f32⟩
  | .hbm, ⟨44, _⟩ => ⟨S4224x1024, .f32⟩
  | .hbm, ⟨45, _⟩ => ⟨S1024x2576, .f32⟩
  | .hbm, ⟨46, _⟩ => ⟨S4224x2576, .f32⟩
  | .hbm, ⟨47, _⟩ => ⟨S4224x1024, .f32⟩
  | .hbm, ⟨48, _⟩ => ⟨S4224x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4224x1024, .f32⟩
  | .hbm, ⟨53, _⟩ => ⟨S4224x1024, .f32⟩
  | .hbm, ⟨54, _⟩ => ⟨S_, .f32⟩
  | .hbm, ⟨55, _⟩ => ⟨S1024, .f32⟩
  | .hbm, ⟨56, _⟩ => ⟨S4224x1024, .f32⟩
  | .hbm, ⟨57, _⟩ => ⟨S_, .f32⟩
  | .hbm, ⟨58, _⟩ => ⟨S4224, .f32⟩
  | .hbm, ⟨59, _⟩ => ⟨S4224x1, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S1x1024, .f32⟩
  | .hbm, ⟨75, _⟩ => ⟨S2x2112x1024, .f32⟩
  | .hbm, ⟨76, _⟩ => ⟨S2x48x1024, .f32⟩
  | .hbm, ⟨77, _⟩ => ⟨S2x16x1024, .f32⟩
  | .hbm, ⟨78, _⟩ => ⟨S2x2048x1024, .f32⟩
  | .hbm, ⟨79, _⟩ => ⟨S_, .f32⟩
  | .hbm, ⟨80, _⟩ => ⟨S16x1024, .f32⟩
  | .hbm, ⟨81, _⟩ => ⟨S1x16x1024, .f32⟩
  | .hbm, ⟨82, _⟩ => ⟨S_, .f32⟩
  | .hbm, ⟨83, _⟩ => ⟨S16x1024, .f32⟩
  | .hbm, ⟨84, _⟩ => ⟨S_, .f32⟩
  | .hbm, ⟨85, _⟩ => ⟨S7x1024, .f32⟩
  | .hbm, ⟨86, _⟩ => ⟨S8x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel3.lean ====
abbrev S2x2048x1024 : Shape := ⟨3, ![2, 2048, 1024]⟩
abbrev S16x1024 : Shape := ⟨2, ![16, 1024]⟩
abbrev S1x1024x2576 : Shape := ⟨3, ![1, 1024, 2576]⟩
abbrev S1x1024 : Shape := ⟨2, ![1, 1024]⟩
abbrev S_ : Shape := ⟨0, ![]⟩
abbrev S2x2112x1024 : Shape := ⟨3, ![2, 2112, 1024]⟩
abbrev S1x16x1024 : Shape := ⟨3, ![1, 16, 1024]⟩
abbrev S2x16x1024 : Shape := ⟨3, ![2, 16, 1024]⟩
abbrev S4224x1024 : Shape := ⟨2, ![4224, 1024]⟩
abbrev S1024x2576 : Shape := ⟨2, ![1024, 2576]⟩
abbrev S1024x2688 : Shape := ⟨2, ![1024, 2688]⟩
abbrev S4224x512 : Shape := ⟨2, ![4224, 512]⟩
abbrev S4224x128 : Shape := ⟨2, ![4224, 128]⟩
abbrev S1056x1024 : Shape := ⟨2, ![1056, 1024]⟩
abbrev S1056x512 : Shape := ⟨2, ![1056, 512]⟩
abbrev S1056x128 : Shape := ⟨2, ![1056, 128]⟩
abbrev S1056 : Shape := ⟨1, ![1056]⟩
abbrev S1056x1 : Shape := ⟨2, ![1056, 1]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 24
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S1x1024x2576, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S2x2112x1024, .f32⟩
  | .hbm, ⟨7, _⟩ => ⟨S1x16x1024, .f32⟩
  | .hbm, ⟨8, _⟩ => ⟨S2x16x1024, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2x2112x1024, .f32⟩
  | .hbm, ⟨13, _⟩ => ⟨S4224x1024, .f32⟩
  | .hbm, ⟨14, _⟩ => ⟨S1024x2576, .f32⟩
  | .hbm, ⟨15, _⟩ => ⟨S1024x2576, .bf16⟩
  | .hbm, ⟨16, _⟩ => ⟨S_, .i32⟩
  | .hbm, ⟨17, _⟩ => ⟨S_, .bf16⟩
  | .hbm, ⟨18, _⟩ => ⟨S1024x2688, .bf16⟩
  | .hbm, ⟨19, _⟩ => ⟨S4224x1024, .bf16⟩
  | .hbm, ⟨20, _⟩ => ⟨S4224x512, .bf16⟩
  | .hbm, ⟨21, _⟩ => ⟨S4224x1024, .bf16⟩
  | .hbm, ⟨22, _⟩ => ⟨S4224x128, .bf16⟩
  | .hbm, ⟨23, _⟩ => ⟨S4224x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1024x2688, .bf16⟩
  | .local _ .vmem, ⟨4, _⟩ => ⟨S1056x1024, .bf16⟩
  | .local _ .vmem, ⟨5, _⟩ => ⟨S1056x1024, .bf16⟩
  | .local _ .vmem, ⟨6, _⟩ => ⟨S1056x512, .bf16⟩
  | .local _ .vmem, ⟨7, _⟩ => ⟨S1056x512, .bf16⟩
  | .local _ .vmem, ⟨8, _⟩ => ⟨S1056x1024, .bf16⟩
  | .local _ .vmem, ⟨9, _⟩ => ⟨S1056x1024, .bf16⟩
  | .local _ .vmem, ⟨10, _⟩ => ⟨S1056x128, .bf16⟩
  | .local _ .vmem, ⟨11, _⟩ => ⟨S1056x128, .bf16⟩
  | .local _ .vmem, ⟨12, _⟩ => ⟨S1056x1024, .bf16⟩
  | .local _ .vmem, ⟨13, _⟩ => ⟨S1056x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_call1_v0 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1056x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1056x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x2048x1024 : Shape := ⟨3, ![2, 2048, 1024]⟩
abbrev S16x1024 : Shape := ⟨2, ![16, 1024]⟩
abbrev S1x1024x2576 : Shape := ⟨3, ![1, 1024, 2576]⟩
abbrev S1x1024 : Shape := ⟨2, ![1, 1024]⟩
abbrev S1x16x1024 : Shape := ⟨3, ![1, 16, 1024]⟩
abbrev S2x16x1024 : Shape := ⟨3, ![2, 16, 1024]⟩
abbrev S_ : Shape := ⟨0, ![]⟩
abbrev S2x48x1024 : Shape := ⟨3, ![2, 48, 1024]⟩
abbrev S2x2112x1024 : Shape := ⟨3, ![2, 2112, 1024]⟩
abbrev S4224x1024 : Shape := ⟨2, ![4224, 1024]⟩
abbrev S1024 : Shape := ⟨1, ![1024]⟩
abbrev S4224 : Shape := ⟨1, ![4224]⟩
abbrev S4224x1 : Shape := ⟨2, ![4224, 1]⟩
abbrev S1024x2576 : Shape := ⟨2, ![1024, 2576]⟩
abbrev S4224x2576 : Shape := ⟨2, ![4224, 2576]⟩
abbrev S4224x512 : Shape := ⟨2, ![4224, 512]⟩
abbrev S4224x16 : Shape := ⟨2, ![4224, 16]⟩
abbrev S4224x128 : Shape := ⟨2, ![4224, 128]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S1x1024x2576, .f32⟩
  | .hbm, ⟨3, _⟩ => ⟨S1x1024, .f32⟩
  | .hbm, ⟨4, _⟩ => ⟨S1x16x1024, .f32⟩
  | .hbm, ⟨5, _⟩ => ⟨S2x16x1024, .f32⟩
  | .hbm, ⟨6, _⟩ => ⟨S_, .f32⟩
  | .hbm, ⟨7, _⟩ => ⟨S2x48x1024, .f32⟩
  | .hbm, ⟨8, _⟩ => ⟨S2x2112x1024, .f32⟩
  | .hbm, ⟨9, _⟩ => ⟨S4224x1024, .f32⟩
  | .hbm, ⟨10, _⟩ => ⟨S1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S1024x2576, .f32⟩
  | .hbm, ⟨28, _⟩ => ⟨S4224x2576, .f32⟩
  | .hbm, ⟨29, _⟩ => ⟨S4224x2576, .bf16⟩
  | .hbm, ⟨30, _⟩ => ⟨S4224x1024, .bf16⟩
  | .hbm, ⟨31, _⟩ => ⟨S4224x512, .bf16⟩
  | .hbm, ⟨32, _⟩ => ⟨S4224x1024, .bf16⟩
  | .hbm, ⟨33, _⟩ => ⟨S4224x16, .bf16⟩
  | .hbm, ⟨34, _⟩ => ⟨S_, .i32⟩
  | .hbm, ⟨35, _⟩ => ⟨S_, .bf16⟩
  | .hbm, ⟨36, _⟩ => ⟨S4224x128, .bf16⟩
  | .hbm, ⟨37, _⟩ => ⟨S4224x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel4.lean ====
abbrev S4224x1024 : Shape := ⟨2, ![4224, 1024]⟩
abbrev S1x31x512 : Shape := ⟨3, ![1, 31, 512]⟩
abbrev S1x512 : Shape := ⟨2, ![1, 512]⟩
abbrev S8x128 : Shape := ⟨2, ![8, 128]⟩
abbrev S31x512 : Shape := ⟨2, ![31, 512]⟩
abbrev S_ : Shape := ⟨0, ![]⟩
abbrev S32x512 : Shape := ⟨2, ![32, 512]⟩
abbrev S4224x512 : Shape := ⟨2, ![4224, 512]⟩
abbrev S2112x1024 : Shape := ⟨2, ![2112, 1024]⟩
abbrev S2112x512 : Shape := ⟨2, ![2112, 512]⟩
abbrev S2176x512 : Shape := ⟨2, ![2176, 512]⟩
abbrev S64x512 : Shape := ⟨2, ![64, 512]⟩
abbrev S96x128 : Shape := ⟨2, ![96, 128]⟩
abbrev S1x128 : Shape := ⟨2, ![1, 128]⟩
abbrev S64x128 : Shape := ⟨2, ![64, 128]⟩
abbrev S352x512 : Shape := ⟨2, ![352, 512]⟩
abbrev S352 : Shape := ⟨1, ![352]⟩
abbrev S352x1 : Shape := ⟨2, ![352, 1]⟩

abbrev nBuf : Space → Nat
  | .hbm => 12
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x128, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S4224x512, .f32⟩
  | .hbm, ⟨11, _⟩ => ⟨S4224x512, .bf16⟩
  | .local _ .vmem, ⟨0, _⟩ => ⟨S2112x1024, .bf16⟩
  | .local _ .vmem, ⟨1, _⟩ => ⟨S2112x1024, .bf16⟩
  | .local _ .vmem, ⟨2, _⟩ => ⟨S32x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S8x128, .f32⟩
  | .local _ .vmem, ⟨7, _⟩ => ⟨S2112x512, .f32⟩
  | .local _ .vmem, ⟨8, _⟩ => ⟨S2112x512, .f32⟩
  | .local _ .vmem, ⟨9, _⟩ => ⟨S2112x512, .bf16⟩
  | .local _ .vmem, ⟨10, _⟩ => ⟨S2112x512, .bf16⟩
  | .local _ .vmem, ⟨11, _⟩ => ⟨S2176x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c33_i32 : BitVec 32 := 33#32
  let v4 : BitVec 32 := Scalar.addi c0_i32 c33_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32 : BitVec 32 := 64#32
  let v7 : BitVec 32 := Scalar.muli arg10 c64_i32
  v7
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v7 : BitVec 32 := Scalar.muli arg10 c64_i32
  let v8 : BitVec 32 := v7
  let v9 : Index := Scalar.indexCast v8
  let c0_9 : Index := 0#32
  ![v9.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v7 : BitVec 32 := Scalar.muli arg10 c64_i32
  let v8 : BitVec 32 := v7
  let v12 : Index := Scalar.indexCast v8
  let c512 : Index := 512#32
  ![v12.toNat, 512]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v7 : BitVec 32 := Scalar.muli arg10 c64_i32
  let v8 : BitVec 32 := v7
  let c64_i32_13 : BitVec 32 := 64#32
  let v23 : BitVec 32 := Scalar.addi v8 c64_i32_13
  let v24 : Index := Scalar.indexCast v23
  let c0_14 : Index := 0#32
  ![v24.toNat, 0]
@[reducible] def k0_t2_loop : Scf.Loop 32 :=
  let c0_i32_2 : BitVec 32 := 0#32
  let c33_i32_3 : BitVec 32 := 33#32
  let v5 : BitVec 32 := Scalar.addi c0_i32_2 c33_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  v7
def k0_off4 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let c64_i32_9 : BitVec 32 := 64#32
  let v9 : BitVec 32 := Scalar.addi v8 c64_i32_9
  let c32_i32 : BitVec 32 := 32#32
  let v10 : BitVec 32 := Scalar.subi v9 c32_i32
  let v11 : Index := Scalar.indexCast v10
  let c0_10 : Index := 0#32
  ![v11.toNat, 0]
def k0_off5 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let v209 : Index := Scalar.indexCast v8
  let c0_45 : Index := 0#32
  ![v209.toNat, 0]
def k0_off6 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let c64_i32_46 : BitVec 32 := 64#32
  let v211 : BitVec 32 := Scalar.addi v8 c64_i32_46
  let c32_i32_47 : BitVec 32 := 32#32
  let v212 : BitVec 32 := Scalar.subi v211 c32_i32_47
  let v213 : Index := Scalar.indexCast v212
  let c128 : Index := 128#32
  ![v213.toNat, 128]
def k0_off7 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let v411 : Index := Scalar.indexCast v8
  let c128_119 : Index := 128#32
  ![v411.toNat, 128]
def k0_off8 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let c64_i32_120 : BitVec 32 := 64#32
  let v413 : BitVec 32 := Scalar.addi v8 c64_i32_120
  let c32_i32_121 : BitVec 32 := 32#32
  let v414 : BitVec 32 := Scalar.subi v413 c32_i32_121
  let v415 : Index := Scalar.indexCast v414
  let c256 : Index := 256#32
  ![v415.toNat, 256]
def k0_off9 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let v613 : Index := Scalar.indexCast v8
  let c256_193 : Index := 256#32
  ![v613.toNat, 256]
def k0_off10 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let c64_i32_194 : BitVec 32 := 64#32
  let v615 : BitVec 32 := Scalar.addi v8 c64_i32_194
  let c32_i32_195 : BitVec 32 := 32#32
  let v616 : BitVec 32 := Scalar.subi v615 c32_i32_195
  let v617 : Index := Scalar.indexCast v616
  let c384 : Index := 384#32
  ![v617.toNat, 384]
def k0_off11 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := v7
  let v815 : Index := Scalar.indexCast v8
  let c384_267 : Index := 384#32
  ![v815.toNat, 384]
@[reducible] def k0_t3_loop : Scf.Loop 32 :=
  let c0_i32_6 : BitVec 32 := 0#32
  let c6_i32 : BitVec 32 := 6#32
  let v6 : BitVec 32 := Scalar.addi c0_i32_6 c6_i32
  let c1_i32_7 : BitVec 32 := 1#32
  ⟨c0_i32_6, v6, c1_i32_7⟩
def k0_mult3 (k0_t3 : Fin k0_t3_loop.trips) : BitVec 32 :=
  let c0_i32_6 : BitVec 32 := 0#32
  let c1_i32_7 : BitVec 32 := 1#32
  let arg10 : BitVec 32 := Scf.iv c0_i32_6 c1_i32_7 k0_t3
  let c352_i32 : BitVec 32 := 352#32
  let v7 : BitVec 32 := Scalar.muli arg10 c352_i32
  v7
def k0_off12 (k0_t3 : Fin k0_t3_loop.trips) : Fin 2 → Nat :=
  let c0_i32_6 : BitVec 32 := 0#32
  let c1_i32_7 : BitVec 32 := 1#32
  let arg10 : BitVec 32 := Scf.iv c0_i32_6 c1_i32_7 k0_t3
  let c352_i32 : BitVec 32 := 352#32
  let v7 : BitVec 32 := Scalar.muli arg10 c352_i32
  let v8 : BitVec 32 := v7
  let v9 : Index := Scalar.indexCast v8
  let c0_9 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2112x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2112x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4224x1024 : Shape := ⟨2, ![4224, 1024]⟩
abbrev S1x31x512 : Shape := ⟨3, ![1, 31, 512]⟩
abbrev S1x512 : Shape := ⟨2, ![1, 512]⟩
abbrev S8x128 : Shape := ⟨2, ![8, 128]⟩
abbrev S2x2112x1024 : Shape := ⟨3, ![2, 2112, 1024]⟩
abbrev S2x2112x512 : Shape := ⟨3, ![2, 2112, 512]⟩
abbrev S_ : Shape := ⟨0, ![]⟩
abbrev S2x2142x512 : Shape := ⟨3, ![2, 2142, 512]⟩
abbrev S2112 : Shape := ⟨1, ![2112]⟩
abbrev S2112x1 : Shape := ⟨2, ![2112, 1]⟩
abbrev S31 : Shape := ⟨1, ![31]⟩
abbrev S1x31 : Shape := ⟨2, ![1, 31]⟩
abbrev S2112x31 : Shape := ⟨2, ![2112, 31]⟩
abbrev S2112x31x1 : Shape := ⟨3, ![2112, 31, 1]⟩
abbrev S2x2112x31x512 : Shape := ⟨4, ![2, 2112, 31, 512]⟩
abbrev S31x512 : Shape := ⟨2, ![31, 512]⟩
abbrev S1x1x31x512 : Shape := ⟨4, ![1, 1, 31, 512]⟩
abbrev S512 : Shape := ⟨1, ![512]⟩
abbrev S1x1x512 : Shape := ⟨3, ![1, 1, 512]⟩
abbrev S2x2112 : Shape := ⟨2, ![2, 2112]⟩
abbrev S2x2112x1 : Shape := ⟨3, ![2, 2112, 1]⟩
abbrev S4224x512 : Shape := ⟨2, ![4224, 512]⟩

abbrev nBuf : Space → Nat
  | .hbm => 91
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x128, .f32⟩
  | .hbm, ⟨6, _⟩ => ⟨S4224x1024, .f32⟩
  | .hbm, ⟨7, _⟩ => ⟨S2x2112x1024, .f32⟩
  | .hbm, ⟨8, _⟩ => ⟨S2x2112x512, .f32⟩
  | .hbm, ⟨9, _⟩ => ⟨S2x2112x512, .f32⟩
  | .hbm, ⟨10, _⟩ => ⟨S2x2112x512, .f32⟩
  | .hbm, ⟨11, _⟩ => ⟨S2x2112x512, .f32⟩
  | .hbm, ⟨12, _⟩ => ⟨S_, .f32⟩
  | .hbm, ⟨13, _⟩ => ⟨S2x2112x512, .f32⟩
  | .hbm, ⟨14, _⟩ => ⟨S2x2112x512, .f32⟩
  | .hbm, ⟨15, _⟩ => ⟨S_, .f32⟩
  | .hbm, ⟨16, _⟩ => ⟨S2x2112x512, .f32⟩
  | .hbm, ⟨17, _⟩ => ⟨S2x2112x512, .f32⟩
  | .hbm, ⟨18, _⟩ => ⟨S2x2112x512, .f32⟩
  | .hbm, ⟨19, _⟩ => ⟨S_, .i32⟩
  | .hbm, ⟨20, _⟩ => ⟨S_, .f32⟩
  | .hbm, ⟨21, _⟩ => ⟨S2x2142x512, .f32⟩
  | .hbm, ⟨22, _⟩ => ⟨S2112, .i32⟩
  | .hbm, ⟨23, _⟩ => ⟨S2112x1, .i32⟩
  | .hbm, ⟨24, _⟩ => ⟨S31, .i32⟩
  | .hbm, ⟨25, _⟩ => ⟨S1x31, .i32⟩
  | .hbm, ⟨26, _⟩ => ⟨S2112x31, .i32⟩
  | .hbm, ⟨27, _⟩ => ⟨S2112x31, .i32⟩
  | .hbm, ⟨28, _⟩ => ⟨S2112x31, .i32⟩
  | .hbm, ⟨29, _⟩ => ⟨S_, .i32⟩
  | .hbm, ⟨30, _⟩ => ⟨S2112x31, .i32⟩
  | .hbm, ⟨31, _⟩ => ⟨S2112x31, .i1⟩
  | .hbm, ⟨32, _⟩ => ⟨S_, .i32⟩
  | .hbm, ⟨33, _⟩ => ⟨S2112x31, .i32⟩
  | .hbm, ⟨34, _⟩ => ⟨S2112x31, .i32⟩
  | .hbm, ⟨35, _⟩ => ⟨S2112x31, .i32⟩
  | .hbm, ⟨36, _⟩ => ⟨S2112x31x1, .i32⟩
  | .hbm, ⟨37, _⟩ => ⟨S2x2112x31x512, .f32⟩
  | .hbm, ⟨38, _⟩ => ⟨S31x512, .f32⟩
  | .hbm, ⟨39, _⟩ => ⟨S1x1x31x512, .f32⟩
  | .hbm, ⟨40, _⟩ => ⟨S2x2112x31x512, .f32⟩
  | .hbm, ⟨41, _⟩ => ⟨S2x2112x31x512, .f32⟩
  | .hbm, ⟨42, _⟩ => ⟨S_, .f32⟩
  | .hbm, ⟨43, _⟩ => ⟨S2x2112x512, .f32⟩
  | .hbm, ⟨44, _⟩ => ⟨S512, .f32⟩
  | .hbm, ⟨45, _⟩ => ⟨S1x1x512, .f32⟩
  | .hbm, ⟨46, _⟩ => ⟨S2x2112x512, .f32⟩
  | .hbm, ⟨47, _⟩ => ⟨S2x2112x512, .f32⟩
  | .hbm, ⟨48, _⟩ => ⟨S_, .f32⟩
  | .hbm, ⟨49, _⟩ => ⟨S2x2112, .f32⟩
  | .hbm, ⟨50, _⟩ => ⟨S2x2112x1, .f32⟩
  | .hbm, ⟨51, _⟩ => ⟨S_, .f32⟩
  | .hbm, ⟨52, _⟩ => ⟨S2x2112x1, .f32⟩
  | .hbm, ⟨53, _⟩ => ⟨S2x2112x1, .f32⟩
  | .hbm, ⟨54, _⟩ => ⟨S2x2112x512, .f32⟩
  | .hbm, ⟨55, _⟩ => ⟨S2x2112x512, .f32⟩
  | .hbm, ⟨56, _⟩ => ⟨S2x2112x512, .f32⟩
  | .hbm, ⟨57, _⟩ => ⟨S_, .f32⟩
  | .hbm, ⟨58, _⟩ => ⟨S2x2112, .f32⟩
  | .hbm, ⟨59, _⟩ => ⟨S2x2112x1, .f32⟩
  | .hbm, ⟨60, _⟩ => ⟨S_, .f32⟩
  | .hbm, ⟨61, _⟩ => ⟨S2x2112x1, .f32⟩
  | .hbm, ⟨62, _⟩ => ⟨S2x2112x1, .f32⟩
  | .hbm, ⟨63, _⟩ => ⟨S2x2112x512, .f32⟩
  | .hbm, ⟨64, _⟩ => ⟨S2x2112x512, .f32⟩
  | .hbm, ⟨65, _⟩ => ⟨S_, .f32⟩
  | .hbm, ⟨66, _⟩ => ⟨S2x2112x1, .f32⟩
  | .hbm, ⟨67, _⟩ => ⟨S2x2112x1, .f32⟩
  | .hbm, ⟨68, _⟩ => ⟨S2x2112x1, .f32⟩
  | .hbm, ⟨69, _⟩ => ⟨S2x2112x512, .f32⟩
  | .hbm, ⟨70, _⟩ => ⟨S2x2112x512, .f32⟩
  | .hbm, ⟨71, _⟩ => ⟨S512, .f32⟩
  | .hbm, ⟨72, _⟩ => ⟨S1x1x512, .f32⟩
  | .hbm, ⟨73, _⟩ => ⟨S2x2112x512, .f32⟩
  | .hbm, ⟨74, _⟩ => ⟨S2x2112x512, .f32⟩
  | .hbm, ⟨75, _⟩ => ⟨S512, .f32⟩
  | .hbm, ⟨76, _⟩ => ⟨S1x1x512, .f32⟩
  | .hbm, ⟨77, _⟩ => ⟨S2x2112x512, .f32⟩
  | .hbm, ⟨78, _⟩ => ⟨S2x2112x512, .f32⟩
  | .hbm, ⟨79, _⟩ => ⟨S4224x512, .f32⟩
  | .hbm, ⟨80, _⟩ => ⟨S2x2112x512, .f32⟩
  | .hbm, ⟨81, _⟩ => ⟨S2x2112x512, .f32⟩
  | .hbm, ⟨82, _⟩ => ⟨S_, .f32⟩
  | .hbm, ⟨83, _⟩ => ⟨S2x2112x512, .f32⟩
  | .hbm, ⟨84, _⟩ => ⟨S2x2112x512, .f32⟩
  | .hbm, ⟨85, _⟩ => ⟨S_, .f32⟩
  | .hbm, ⟨86, _⟩ => ⟨S2x2112x512, .f32⟩
  | .hbm, ⟨87, _⟩ => ⟨S2x2112x512, .f32⟩
  | .hbm, ⟨88, _⟩ => ⟨S2x2112x512, .f32⟩
  | .hbm, ⟨89, _⟩ => ⟨S4224x512, .f32⟩
  | .hbm, ⟨90, _⟩ => ⟨S4224x512, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel5.lean ====
abbrev S4224x1024 : Shape := ⟨2, ![4224, 1024]⟩
abbrev S4224x512 : Shape := ⟨2, ![4224, 512]⟩
abbrev S1x31x512 : Shape := ⟨3, ![1, 31, 512]⟩
abbrev S1x512 : Shape := ⟨2, ![1, 512]⟩
abbrev S8x128 : Shape := ⟨2, ![8, 128]⟩
abbrev S2x2112x1024 : Shape := ⟨3, ![2, 2112, 1024]⟩
abbrev S2x2112x512 : Shape := ⟨3, ![2, 2112, 512]⟩
abbrev S_ : Shape := ⟨0, ![]⟩
abbrev S2x2142x512 : Shape := ⟨3, ![2, 2142, 512]⟩
abbrev S2112 : Shape := ⟨1, ![2112]⟩
abbrev S2112x1 : Shape := ⟨2, ![2112, 1]⟩
abbrev S31 : Shape := ⟨1, ![31]⟩
abbrev S1x31 : Shape := ⟨2, ![1, 31]⟩
abbrev S2112x31 : Shape := ⟨2, ![2112, 31]⟩
abbrev S2112x31x1 : Shape := ⟨3, ![2112, 31, 1]⟩
abbrev S2x2112x31x512 : Shape := ⟨4, ![2, 2112, 31, 512]⟩
abbrev S31x512 : Shape := ⟨2, ![31, 512]⟩
abbrev S1x1x31x512 : Shape := ⟨4, ![1, 1, 31, 512]⟩
abbrev S512 : Shape := ⟨1, ![512]⟩
abbrev S1x1x512 : Shape := ⟨3, ![1, 1, 512]⟩
abbrev S32x512 : Shape := ⟨2, ![32, 512]⟩
abbrev S8x512 : Shape := ⟨2, ![8, 512]⟩
abbrev S2112x1024 : Shape := ⟨2, ![2112, 1024]⟩
abbrev S2112x512 : Shape := ⟨2, ![2112, 512]⟩
abbrev S2176x512 : Shape := ⟨2, ![2176, 512]⟩
abbrev S256x512 : Shape := ⟨2, ![256, 512]⟩
abbrev S64x512 : Shape := ⟨2, ![64, 512]⟩
abbrev S352x512 : Shape := ⟨2, ![352, 512]⟩
abbrev S352 : Shape := ⟨1, ![352]⟩
abbrev S352x1 : Shape := ⟨2, ![352, 1]⟩
abbrev S96x128 : Shape := ⟨2, ![96, 128]⟩
abbrev S64x128 : Shape := ⟨2, ![64, 128]⟩
abbrev S1x128 : Shape := ⟨2, ![1, 128]⟩
abbrev S8x8x128 : Shape := ⟨3, ![8, 8, 128]⟩

abbrev nBuf : Space → Nat
  | .hbm => 57
  | .vmem => 17
  | .smem => 0
  | _ => 0

abbrev bufTy : (tb : Table) → Fin (tcTables nBuf tb) → BufTy
  | .hbm, ⟨0, _⟩ => ⟨S4224x1024, .bf16⟩
  | .hbm, ⟨1, _⟩ => ⟨S4224x512, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S8x128, .f32⟩
  | .hbm, ⟨7, _⟩ => ⟨S4224x1024, .f32⟩
  | .hbm, ⟨8, _⟩ => ⟨S2x2112x1024, .f32⟩
  | .hbm, ⟨9, _⟩ => ⟨S2x2112x512, .f32⟩
  | .hbm, ⟨10, _⟩ => ⟨S2x2112x512, .f32⟩
  | .hbm, ⟨11, _⟩ => ⟨S2x2112x512, .f32⟩
  | .hbm, ⟨12, _⟩ => ⟨S2x2112x512, .f32⟩
  | .hbm, ⟨13, _⟩ => ⟨S_, .f32⟩
  | .hbm, ⟨14, _⟩ => ⟨S2x2112x512, .f32⟩
  | .hbm, ⟨15, _⟩ => ⟨S2x2112x512, .f32⟩
  | .hbm, ⟨16, _⟩ => ⟨S_, .f32⟩
  | .hbm, ⟨17, _⟩ => ⟨S2x2112x512, .f32⟩
  | .hbm, ⟨18, _⟩ => ⟨S2x2112x512, .f32⟩
  | .hbm, ⟨19, _⟩ => ⟨S2x2112x512, .f32⟩
  | .hbm, ⟨20, _⟩ => ⟨S_, .i32⟩
  | .hbm, ⟨21, _⟩ => ⟨S_, .f32⟩
  | .hbm, ⟨22, _⟩ => ⟨S2x2142x512, .f32⟩
  | .hbm, ⟨23, _⟩ => ⟨S2112, .i32⟩
  | .hbm, ⟨24, _⟩ => ⟨S2112x1, .i32⟩
  | .hbm, ⟨25, _⟩ => ⟨S31, .i32⟩
  | .hbm, ⟨26, _⟩ => ⟨S1x31, .i32⟩
  | .hbm, ⟨27, _⟩ => ⟨S2112x31, .i32⟩
  | .hbm, ⟨28, _⟩ => ⟨S2112x31, .i32⟩
  | .hbm, ⟨29, _⟩ => ⟨S2112x31, .i32⟩
  | .hbm, ⟨30, _⟩ => ⟨S_, .i32⟩
  | .hbm, ⟨31, _⟩ => ⟨S2112x31, .i32⟩
  | .hbm, ⟨32, _⟩ => ⟨S2112x31, .i1⟩
  | .hbm, ⟨33, _⟩ => ⟨S_, .i32⟩
  | .hbm, ⟨34, _⟩ => ⟨S2112x31, .i32⟩
  | .hbm, ⟨35, _⟩ => ⟨S2112x31, .i32⟩
  | .hbm, ⟨36, _⟩ => ⟨S2112x31, .i32⟩
  | .hbm, ⟨37, _⟩ => ⟨S2112x31x1, .i32⟩
  | .hbm, ⟨38, _⟩ => ⟨S2x2112x31x512, .f32⟩
  | .hbm, ⟨39, _⟩ => ⟨S31x512, .f32⟩
  | .hbm, ⟨40, _⟩ => ⟨S1x1x31x512, .f32⟩
  | .hbm, ⟨41, _⟩ => ⟨S2x2112x31x512, .f32⟩
  | .hbm, ⟨42, _⟩ => ⟨S2x2112x31x512, .f32⟩
  | .hbm, ⟨43, _⟩ => ⟨S_, .f32⟩
  | .hbm, ⟨44, _⟩ => ⟨S2x2112x512, .f32⟩
  | .hbm, ⟨45, _⟩ => ⟨S512, .f32⟩
  | .hbm, ⟨46, _⟩ => ⟨S1x1x512, .f32⟩
  | .hbm, ⟨47, _⟩ => ⟨S2x2112x512, .f32⟩
  | .hbm, ⟨48, _⟩ => ⟨S2x2112x512, .f32⟩
  | .hbm, ⟨49, _⟩ => ⟨S4224x512, .f32⟩
  | .hbm, ⟨50, _⟩ => ⟨S31x512, .f32⟩
  | .hbm, ⟨51, _⟩ => ⟨S_, .i32⟩
  | .hbm, ⟨52, _⟩ => ⟨S_, .f32⟩
  | .hbm, ⟨53, _⟩ => ⟨S32x512, .f32⟩
  | .hbm, ⟨54, _⟩ => ⟨S4224x1024, .bf16⟩
  | .hbm, ⟨55, _⟩ => ⟨S32x512, .f32⟩
  | .hbm, ⟨56, _⟩ => ⟨S8x512, .f32⟩
  | .local _ .vmem, ⟨0, _⟩ => ⟨S2112x1024, .bf16⟩
  | .local _ .vmem, ⟨1, _⟩ => ⟨S2112x1024, .bf16⟩
  | .local _ .vmem, ⟨2, _⟩ => ⟨S2112x512, .f32⟩
  | .local _ .vmem, ⟨3, _⟩ => ⟨S2112x512, .f32⟩
  | .local _ .vmem, ⟨4, _⟩ => ⟨S2112x512, .f32⟩
  | .local _ .vmem, ⟨5, _⟩ => ⟨S2112x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S8x128, .f32⟩
  | .local _ .vmem, ⟨10, _⟩ => ⟨S2112x1024, .bf16⟩
  | .local _ .vmem, ⟨11, _⟩ => ⟨S2112x1024, .bf16⟩
  | .local _ .vmem, ⟨12, _⟩ => ⟨S32x512, .f32⟩
  | .local _ .vmem, ⟨13, _⟩ => ⟨S8x512, .f32⟩
  | .local _ .vmem, ⟨14, _⟩ => ⟨S2176x512, .f32⟩
  | .local _ .vmem, ⟨15, _⟩ => ⟨S2176x512, .f32⟩
  | .local _ .vmem, ⟨16, _⟩ => ⟨S256x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_call1_v0 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c33_i32 : BitVec 32 := 33#32
  let v4 : BitVec 32 := Scalar.addi c0_i32 c33_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32 : BitVec 32 := 64#32
  let v249 : BitVec 32 := Scalar.muli arg14 c64_i32
  v249
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c64_i32 : BitVec 32 := 64#32
  let v249 : BitVec 32 := Scalar.muli arg14 c64_i32
  let v250 : BitVec 32 := v249
  let v251 : Index := Scalar.indexCast v250
  let c0_189 : Index := 0#32
  ![v251.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c64_i32 : BitVec 32 := 64#32
  let v249 : BitVec 32 := Scalar.muli arg14 c64_i32
  let v250 : BitVec 32 := v249
  let v254 : Index := Scalar.indexCast v250
  let c512 : Index := 512#32
  ![v254.toNat, 512]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c64_i32 : BitVec 32 := 64#32
  let v249 : BitVec 32 := Scalar.muli arg14 c64_i32
  let v250 : BitVec 32 := v249
  let c64_i32_193 : BitVec 32 := 64#32
  let v265 : BitVec 32 := Scalar.addi v250 c64_i32_193
  let v266 : Index := Scalar.indexCast v265
  let c0_194 : Index := 0#32
  ![v266.toNat, 0]
@[reducible] def k0_t2_loop : Scf.Loop 32 :=
  let c0_i32_8 : BitVec 32 := 0#32
  let c6_i32 : BitVec 32 := 6#32
  let v14 : BitVec 32 := Scalar.addi c0_i32_8 c6_i32
  let c1_i32_9 : BitVec 32 := 1#32
  ⟨c0_i32_8, v14, c1_i32_9⟩
def k0_mult2 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c352_i32 : BitVec 32 := 352#32
  let v249 : BitVec 32 := Scalar.muli arg14 c352_i32
  v249
def k0_off4 (k0_t2 : Fin k0_t2_loop.trips) : Fin 2 → Nat :=
  let c0_i32_8 : BitVec 32 := 0#32
  let c1_i32_9 : BitVec 32 := 1#32
  let arg14 : BitVec 32 := Scf.iv c0_i32_8 c1_i32_9 k0_t2
  let c352_i32 : BitVec 32 := 352#32
  let v249 : BitVec 32 := Scalar.muli arg14 c352_i32
  let v250 : BitVec 32 := v249
  let v251 : Index := Scalar.indexCast v250
  let c0_189 : Index := 0#32
  ![v251.toNat, 0]
def k0_off5 (k0_t2 : Fin k0_t2_loop.trips) : Fin 2 → Nat :=
  let c0_i32_8 : BitVec 32 := 0#32
  let c1_i32_9 : BitVec 32 := 1#32
  let arg14 : BitVec 32 := Scf.iv c0_i32_8 c1_i32_9 k0_t2
  let c352_i32 : BitVec 32 := 352#32
  let v249 : BitVec 32 := Scalar.muli arg14 c352_i32
  let v250 : BitVec 32 := v249
  let v311 : Index := Scalar.indexCast v250
  let c0_211 : Index := 0#32
  ![v311.toNat, 0]
@[reducible] def k0_t3_loop : Scf.Loop 32 :=
  let c0_i32_23 : BitVec 32 := 0#32
  let c33_i32_24 : BitVec 32 := 33#32
  let v31 : BitVec 32 := Scalar.addi c0_i32_23 c33_i32_24
  let c1_i32_25 : BitVec 32 := 1#32
  ⟨c0_i32_23, v31, c1_i32_25⟩
def k0_mult3 (k0_t3 : Fin k0_t3_loop.trips) : BitVec 32 :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  v249
def k0_off6 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v251 : Index := Scalar.indexCast v250
  let c0_189 : Index := 0#32
  ![v251.toNat, 0]
def k0_off7 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let c64_i32_190 : BitVec 32 := 64#32
  let v253 : BitVec 32 := Scalar.addi v250 c64_i32_190
  let c32_i32 : BitVec 32 := 32#32
  let v254 : BitVec 32 := Scalar.subi v253 c32_i32
  let v255 : Index := Scalar.indexCast v254
  let c0_191 : Index := 0#32
  ![v255.toNat, 0]
def k0_off8 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v738 : Index := Scalar.indexCast v250
  let c0_417 : Index := 0#32
  ![v738.toNat, 0]
def k0_off9 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v741 : Index := Scalar.indexCast v250
  let c512 : Index := 512#32
  ![v741.toNat, 512]
def k0_off10 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v763 : Index := Scalar.indexCast v250
  let c128_424 : Index := 128#32
  ![v763.toNat, 128]
def k0_off11 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let c64_i32_425 : BitVec 32 := 64#32
  let v765 : BitVec 32 := Scalar.addi v250 c64_i32_425
  let c32_i32_426 : BitVec 32 := 32#32
  let v766 : BitVec 32 := Scalar.subi v765 c32_i32_426
  let v767 : Index := Scalar.indexCast v766
  let c128_427 : Index := 128#32
  ![v767.toNat, 128]
def k0_off12 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1250 : Index := Scalar.indexCast v250
  let c128_660 : Index := 128#32
  ![v1250.toNat, 128]
def k0_off13 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1253 : Index := Scalar.indexCast v250
  let c640 : Index := 640#32
  ![v1253.toNat, 640]
def k0_off14 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1275 : Index := Scalar.indexCast v250
  let c256 : Index := 256#32
  ![v1275.toNat, 256]
def k0_off15 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let c64_i32_667 : BitVec 32 := 64#32
  let v1277 : BitVec 32 := Scalar.addi v250 c64_i32_667
  let c32_i32_668 : BitVec 32 := 32#32
  let v1278 : BitVec 32 := Scalar.subi v1277 c32_i32_668
  let v1279 : Index := Scalar.indexCast v1278
  let c256_669 : Index := 256#32
  ![v1279.toNat, 256]
def k0_off16 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1762 : Index := Scalar.indexCast v250
  let c256_902 : Index := 256#32
  ![v1762.toNat, 256]
def k0_off17 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1765 : Index := Scalar.indexCast v250
  let c768 : Index := 768#32
  ![v1765.toNat, 768]
def k0_off18 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v1787 : Index := Scalar.indexCast v250
  let c384 : Index := 384#32
  ![v1787.toNat, 384]
def k0_off19 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let c64_i32_909 : BitVec 32 := 64#32
  let v1789 : BitVec 32 := Scalar.addi v250 c64_i32_909
  let c32_i32_910 : BitVec 32 := 32#32
  let v1790 : BitVec 32 := Scalar.subi v1789 c32_i32_910
  let v1791 : Index := Scalar.indexCast v1790
  let c384_911 : Index := 384#32
  ![v1791.toNat, 384]
def k0_off20 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v2274 : Index := Scalar.indexCast v250
  let c384_1144 : Index := 384#32
  ![v2274.toNat, 384]
def k0_off21 (k0_t3 : Fin k0_t3_loop.trips) : Fin 2 → Nat :=
  let c0_i32_23 : BitVec 32 := 0#32
  let c1_i32_25 : BitVec 32 := 1#32
  let arg14 : BitVec 32 := Scf.iv c0_i32_23 c1_i32_25 k0_t3
  let c64_i32 : BitVec 32 := 64#32
  let v249 : BitVec 32 := Scalar.muli arg14 c64_i32
  let v250 : BitVec 32 := v249
  let v2277 : Index := Scalar.indexCast v250
  let c896 : Index := 896#32
  ![v2277.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2112x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel6.lean ====
abbrev S4224x512 : Shape := ⟨2, ![4224, 512]⟩
abbrev S4224x1024 : Shape := ⟨2, ![4224, 1024]⟩
abbrev S4224x128 : Shape := ⟨2, ![4224, 128]⟩
abbrev S66x2x128x128 : Shape := ⟨4, ![66, 2, 128, 128]⟩
abbrev S128x256 : Shape := ⟨2, ![128, 256]⟩
abbrev S1x256 : Shape := ⟨2, ![1, 256]⟩
abbrev S1x128 : Shape := ⟨2, ![1, 128]⟩
abbrev S8x128 : Shape := ⟨2, ![8, 128]⟩
abbrev S8x256 : Shape := ⟨2, ![8, 256]⟩
abbrev S1024x1024 : Shape := ⟨2, ![1024, 1024]⟩
abbrev S704x512 : Shape := ⟨2, ![704, 512]⟩
abbrev S704x1024 : Shape := ⟨2, ![704, 1024]⟩
abbrev S704x128 : Shape := ⟨2, ![704, 128]⟩
abbrev S11x2x128x128 : Shape := ⟨4, ![11, 2, 128, 128]⟩
abbrev S2x128x128 : Shape := ⟨3, ![2, 128, 128]⟩
abbrev S704x256 : Shape := ⟨2, ![704, 256]⟩
abbrev S512x1024 : Shape := ⟨2, ![512, 1024]⟩
abbrev S64x256 : Shape := ⟨2, ![64, 256]⟩
abbrev S256x256 : Shape := ⟨2, ![256, 256]⟩
abbrev S256x512 : Shape := ⟨2, ![256, 512]⟩
abbrev S64x1 : Shape := ⟨2, ![64, 1]⟩
abbrev S64x128 : Shape := ⟨2, ![64, 128]⟩
abbrev S64x512 : Shape := ⟨2, ![64, 512]⟩
abbrev S1x128x128 : Shape := ⟨3, ![1, 128, 128]⟩
abbrev S128x128 : Shape := ⟨2, ![128, 128]⟩
abbrev S512x256 : Shape := ⟨2, ![512, 256]⟩
abbrev S1x1x128x128 : Shape := ⟨4, ![1, 1, 128, 128]⟩
abbrev S64 : Shape := ⟨1, ![64]⟩
abbrev S128 : Shape := ⟨1, ![128]⟩
abbrev S1x512 : Shape := ⟨2, ![1, 512]⟩
abbrev S256 : Shape := ⟨1, ![256]⟩

abbrev nBuf : Space → Nat
  | .hbm => 19
  | .vmem => 34
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S4224x128, .bf16⟩
  | .hbm, ⟨3, _⟩ => ⟨S4224x512, .f32⟩
  | .hbm, ⟨4, _⟩ => ⟨S66x2x128x128, .f32⟩
  | .hbm, ⟨5, _⟩ => ⟨S4224x512, .f32⟩
  | .hbm, ⟨6, _⟩ => ⟨S128x256, .bf16⟩
  | .hbm, ⟨7, _⟩ => ⟨S1x256, .f32⟩
  | .hbm, ⟨8, _⟩ => ⟨S1x128, .f32⟩
  | .hbm, ⟨9, _⟩ => ⟨S4224x512, .bf16⟩
  | .hbm, ⟨10, _⟩ => ⟨S4224x512, .bf16⟩
  | .hbm, ⟨11, _⟩ => ⟨S4224x1024, .bf16⟩
  | .hbm, ⟨12, _⟩ => ⟨S8x128, .f32⟩
  | .hbm, ⟨13, _⟩ => ⟨S4224x512, .bf16⟩
  | .hbm, ⟨14, _⟩ => ⟨S4224x1024, .bf16⟩
  | .hbm, ⟨15, _⟩ => ⟨S4224x128, .bf16⟩
  | .hbm, ⟨16, _⟩ => ⟨S128x256, .f32⟩
  | .hbm, ⟨17, _⟩ => ⟨S8x256, .f32⟩
  | .hbm, ⟨18, _⟩ => ⟨S1024x1024, .bf16⟩
  | .local _ .vmem, ⟨0, _⟩ => ⟨S704x512, .bf16⟩
  | .local _ .vmem, ⟨1, _⟩ => ⟨S704x512, .bf16⟩
  | .local _ .vmem, ⟨2, _⟩ => ⟨S704x1024, .bf16⟩
  | .local _ .vmem, ⟨3, _⟩ => ⟨S704x1024, .bf16⟩
  | .local _ .vmem, ⟨4, _⟩ => ⟨S704x128, .bf16⟩
  | .local _ .vmem, ⟨5, _⟩ => ⟨S704x128, .bf16⟩
  | .local _ .vmem, ⟨6, _⟩ => ⟨S704x512, .f32⟩
  | .local _ .vmem, ⟨7, _⟩ => ⟨S704x512, .f32⟩
  | .local _ .vmem, ⟨8, _⟩ => ⟨S11x2x128x128, .f32⟩
  | .local _ .vmem, ⟨9, _⟩ => ⟨S11x2x128x128, .f32⟩
  | .local _ .vmem, ⟨10, _⟩ => ⟨S704x512, .f32⟩
  | .local _ .vmem, ⟨11, _⟩ => ⟨S704x512, .f32⟩
  | .local _ .vmem, ⟨12, _⟩ => ⟨S128x256, .bf16⟩
  | .local _ .vmem, ⟨13, _⟩ => ⟨S1x256, .f32⟩
  | .local _ .vmem, ⟨14, _⟩ => ⟨S1x128, .f32⟩
  | .local _ .vmem, ⟨15, _⟩ => ⟨S704x512, .bf16⟩
  | .local _ .vmem, ⟨16, _⟩ => ⟨S704x512, .bf16⟩
  | .local _ .vmem, ⟨17, _⟩ => ⟨S704x512, .bf16⟩
  | .local _ .vmem, ⟨18, _⟩ => ⟨S704x512, .bf16⟩
  | .local _ .vmem, ⟨19, _⟩ => ⟨S704x1024, .bf16⟩
  | .local _ .vmem, ⟨20, _⟩ => ⟨S704x1024, .bf16⟩
  | .local _ .vmem, ⟨21, _⟩ => ⟨S8x128, .f32⟩
  | .local _ .vmem, ⟨22, _⟩ => ⟨S704x512, .bf16⟩
  | .local _ .vmem, ⟨23, _⟩ => ⟨S704x512, .bf16⟩
  | .local _ .vmem, ⟨24, _⟩ => ⟨S704x1024, .bf16⟩
  | .local _ .vmem, ⟨25, _⟩ => ⟨S704x1024, .bf16⟩
  | .local _ .vmem, ⟨26, _⟩ => ⟨S704x128, .bf16⟩
  | .local _ .vmem, ⟨27, _⟩ => ⟨S704x128, .bf16⟩
  | .local _ .vmem, ⟨28, _⟩ => ⟨S128x256, .f32⟩
  | .local _ .vmem, ⟨29, _⟩ => ⟨S8x256, .f32⟩
  | .local _ .vmem, ⟨30, _⟩ => ⟨S1024x1024, .bf16⟩
  | .local _ .vmem, ⟨31, _⟩ => ⟨S2x128x128, .f32⟩
  | .local _ .vmem, ⟨32, _⟩ => ⟨S704x256, .f32⟩
  | .local _ .vmem, ⟨33, _⟩ => ⟨S1024x1024, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![2, 3], ![false, false]⟩

def k0_mult1 : BitVec 32 :=
  let c10_i32 : BitVec 32 := 10#32
  let c0_i32_54 : BitVec 32 := 0#32
  let v155 : BitVec 32 := Scalar.subi c10_i32 c0_i32_54
  let c64_i32_55 : BitVec 32 := 64#32
  let v156 : BitVec 32 := Scalar.muli v155 c64_i32_55
  v156
def k0_off1 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v161 : Index := Scalar.indexCast v157
  let c0_57 : Index := 0#32
  ![v161.toNat, 0]
def k0_off2 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v228 : Index := Scalar.indexCast v157
  let c0_82 : Index := 0#32
  ![v228.toNat, 0]
def k0_off3 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v231 : Index := Scalar.indexCast v157
  let c256 : Index := 256#32
  ![v231.toNat, 256]
def k0_off4 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v247 : Index := Scalar.indexCast v157
  let c0_85 : Index := 0#32
  ![v247.toNat, 0]
def k0_off5 (c0_i32_54 : BitVec 32) : Fin 4 → Nat :=
  let c10_i32 : BitVec 32 := 10#32
  let v155 : BitVec 32 := Scalar.subi c10_i32 c0_i32_54
  let v315 : Index := Scalar.indexCast v155
  let c0_109 : Index := 0#32
  let c0_110 : Index := 0#32
  let c0_111 : Index := 0#32
  ![v315.toNat, 0, 0, 0]
def k0_off6 (c0_i32_54 : BitVec 32) : Fin 4 → Nat :=
  let c10_i32 : BitVec 32 := 10#32
  let v155 : BitVec 32 := Scalar.subi c10_i32 c0_i32_54
  let v318 : Index := Scalar.indexCast v155
  let c1_112 : Index := 1#32
  let c0_113 : Index := 0#32
  let c0_114 : Index := 0#32
  ![v318.toNat, 1, 0, 0]
def k0_off7 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v321 : Index := Scalar.indexCast v157
  let c0_115 : Index := 0#32
  ![v321.toNat, 0]
def k0_off8 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v333 : Index := Scalar.indexCast v157
  let c512_119 : Index := 512#32
  ![v333.toNat, 512]
def k0_off9 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v377 : Index := Scalar.indexCast v157
  let c128 : Index := 128#32
  ![v377.toNat, 128]
def k0_off10 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v389 : Index := Scalar.indexCast v157
  let c640 : Index := 640#32
  ![v389.toNat, 640]
def k0_off11 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v433 : Index := Scalar.indexCast v157
  let c256_143 : Index := 256#32
  ![v433.toNat, 256]
def k0_off12 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v445 : Index := Scalar.indexCast v157
  let c768 : Index := 768#32
  ![v445.toNat, 768]
def k0_off13 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v489 : Index := Scalar.indexCast v157
  let c384 : Index := 384#32
  ![v489.toNat, 384]
def k0_off14 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v501 : Index := Scalar.indexCast v157
  let c896 : Index := 896#32
  ![v501.toNat, 896]
def k0_off15 (c0_i32_54 : BitVec 32) : Fin 2 → Nat :=
  let c10_i32 : BitVec 32 := 10#32
  let v155 : BitVec 32 := Scalar.subi c10_i32 c0_i32_54
  let c64_i32_55 : BitVec 32 := 64#32
  let v156 : BitVec 32 := Scalar.muli v155 c64_i32_55
  let v157 : BitVec 32 := v156
  let v818 : Index := Scalar.indexCast v157
  let c0_253 : Index := 0#32
  ![v818.toNat, 0]
def k0_mult2 : BitVec 32 :=
  let c10_i32_278 : BitVec 32 := 10#32
  let c1_i32_277 : BitVec 32 := 1#32
  let v897 : BitVec 32 := Scalar.subi c10_i32_278 c1_i32_277
  let c64_i32_279 : BitVec 32 := 64#32
  let v898 : BitVec 32 := Scalar.muli v897 c64_i32_279
  v898
def k0_mult3 : BitVec 32 :=
  let c10_i32_519 : BitVec 32 := 10#32
  let c2_i32_518 : BitVec 32 := 2#32
  let v1639 : BitVec 32 := Scalar.subi c10_i32_519 c2_i32_518
  let c64_i32_520 : BitVec 32 := 64#32
  let v1640 : BitVec 32 := Scalar.muli v1639 c64_i32_520
  v1640
def k0_mult4 : BitVec 32 :=
  let c10_i32_760 : BitVec 32 := 10#32
  let c3_i32_759 : BitVec 32 := 3#32
  let v2381 : BitVec 32 := Scalar.subi c10_i32_760 c3_i32_759
  let c64_i32_761 : BitVec 32 := 64#32
  let v2382 : BitVec 32 := Scalar.muli v2381 c64_i32_761
  v2382
def k0_mult5 : BitVec 32 :=
  let c10_i32_1001 : BitVec 32 := 10#32
  let c4_i32_1000 : BitVec 32 := 4#32
  let v3123 : BitVec 32 := Scalar.subi c10_i32_1001 c4_i32_1000
  let c64_i32_1002 : BitVec 32 := 64#32
  let v3124 : BitVec 32 := Scalar.muli v3123 c64_i32_1002
  v3124
def k0_mult6 : BitVec 32 :=
  let c10_i32_1241 : BitVec 32 := 10#32
  let c5_i32 : BitVec 32 := 5#32
  let v3865 : BitVec 32 := Scalar.subi c10_i32_1241 c5_i32
  let c64_i32_1242 : BitVec 32 := 64#32
  let v3866 : BitVec 32 := Scalar.muli v3865 c64_i32_1242
  v3866
def k0_mult7 : BitVec 32 :=
  let c10_i32_1481 : BitVec 32 := 10#32
  let c6_i32 : BitVec 32 := 6#32
  let v4607 : BitVec 32 := Scalar.subi c10_i32_1481 c6_i32
  let c64_i32_1482 : BitVec 32 := 64#32
  let v4608 : BitVec 32 := Scalar.muli v4607 c64_i32_1482
  v4608
def k0_mult8 : BitVec 32 :=
  let c10_i32_1721 : BitVec 32 := 10#32
  let c7_i32 : BitVec 32 := 7#32
  let v5349 : BitVec 32 := Scalar.subi c10_i32_1721 c7_i32
  let c64_i32_1722 : BitVec 32 := 64#32
  let v5350 : BitVec 32 := Scalar.muli v5349 c64_i32_1722
  v5350
def k0_mult9 : BitVec 32 :=
  let c10_i32_1962 : BitVec 32 := 10#32
  let c8_i32_1961 : BitVec 32 := 8#32
  let v6091 : BitVec 32 := Scalar.subi c10_i32_1962 c8_i32_1961
  let c64_i32_1963 : BitVec 32 := 64#32
  let v6092 : BitVec 32 := Scalar.muli v6091 c64_i32_1963
  v6092
def k0_mult10 : BitVec 32 :=
  let c10_i32_2202 : BitVec 32 := 10#32
  let c9_i32 : BitVec 32 := 9#32
  let v6833 : BitVec 32 := Scalar.subi c10_i32_2202 c9_i32
  let c64_i32_2203 : BitVec 32 := 64#32
  let v6834 : BitVec 32 := Scalar.muli v6833 c64_i32_2203
  v6834
def k0_mult11 : BitVec 32 :=
  let c10_i32_2443 : BitVec 32 := 10#32
  let c10_i32_2442 : BitVec 32 := 10#32
  let v7575 : BitVec 32 := Scalar.subi c10_i32_2443 c10_i32_2442
  let c64_i32_2444 : BitVec 32 := 64#32
  let v7576 : BitVec 32 := Scalar.muli v7575 c64_i32_2444
  v7576
def k0_cond3 (i : grid0.Coords) : BitVec 1 :=
  let arg1 : BitVec 32 := BitVec.ofNat 32 (i 1).val
  let c2_i32_17 : BitVec 32 := 2#32
  let v24 : BitVec 1 := Scalar.cmpi .eq arg1 c2_i32_17
  let arg0 : BitVec 32 := BitVec.ofNat 32 (i 0).val
  let c1_i32 : BitVec 32 := 1#32
  let v25 : BitVec 1 := Scalar.cmpi .eq arg0 c1_i32
  let v26 : BitVec 1 := Scalar.andi v24 v25
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  let c0_i32_3 : BitVec 32 := 0#32
  ![v3.toNat, c0_i32.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_15 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c3_i32_0 : BitVec 32 := 3#32
  let v1 : BitVec 32 := Scalar.addi v0 c3_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S11x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S704x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S704x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S704x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S704x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Kernel7.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x2816 : Shape := ⟨2, ![4224, 2816]⟩
abbrev S4224x1024 : Shape := ⟨2, ![4224, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Lift.lean ====
/-
  REAL VALUES INSIDE THE EXTENDED REALS. Under the precondition every argument is a real number, so every value either
  program computes is one too. The lemmas here move the embedding `ℝ → EReal` outward through the operations the two
  programs use, so that what is left to compare is an identity of real numbers.
-/
module

public import Idealize.ShloMosaic.PureOps.Ideal.Laws
public import Idealize.ShloMosaic.Lib.Pointwise
public import Mathlib.Tactic.Positivity
public import Mathlib.Tactic.FieldSimp
public import Mathlib.Tactic.Ring

@[expose] public section

noncomputable section

namespace Cert.Lift

open Idealize.ShloMosaic

/-- A finite sum of embedded reals is the embedded sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of embedded reals with a nonzero divisor is the embedded quotient. -/
theorem div_coe_coe {y : ℝ} (h : y ≠ 0) (x : ℝ) : Ideal.div (x : EReal) (y : EReal) = ((x / y : ℝ) : EReal) := by
  rw [Ideal.div_coe h, ← EReal.coe_mul]; congr 1; ring

/-- The reciprocal square root of an embedded positive real. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- The stabiliser of the norms: the real number the float word of `1e-6` stands for. -/
def eps : ℝ := 8796093 / 8796093022208

theorem eps_pos : 0 < eps := by unfold eps; norm_num

theorem ofBits_eps : Ideal.ofBits .f32 0x358637BD#32 = ((eps : ℝ) : EReal) := by
  unfold eps; simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

/-- Moving the embedding outward, all operations at once: sums, products, differences, quotients by a nonzero real,
    reciprocal square roots of a positive one, exponentials, and the constants the programs spell. -/
theorem lift :
    (∀ x y : ℝ, (x : EReal) + (y : EReal) = ((x + y : ℝ) : EReal)) ∧
    (∀ x y : ℝ, (x : EReal) * (y : EReal) = ((x * y : ℝ) : EReal)) ∧
    (∀ x y : ℝ, (x : EReal) - (y : EReal) = ((x - y : ℝ) : EReal)) ∧
    (∀ x : ℝ, -(x : EReal) = ((-x : ℝ) : EReal)) ∧
    (∀ (n : ℕ) (f : Fin n → ℝ), (∑ k, ((f k : ℝ) : EReal)) = ((∑ k, f k : ℝ) : EReal)) ∧
    (∀ x y : ℝ, y ≠ 0 → Ideal.div (x : EReal) (y : EReal) = ((x / y : ℝ) : EReal)) ∧
    (∀ x : ℝ, Ideal.exp (x : EReal) = ((Real.exp x : ℝ) : EReal)) ∧
    (0 : EReal) = ((0 : ℝ) : EReal) ∧ (1 : EReal) = ((1 : ℝ) : EReal) ∧
    Ideal.ofBits .f32 0x358637BD#32 = ((eps : ℝ) : EReal) ∧ Ideal.ofBits .f32 0x44800000#32 = ((1024 : ℝ) : EReal) ∧
    Ideal.ofBits .f32 0x3A000000#32 = ((1 / 2048 : ℝ) : EReal) ∧
    Ideal.ofBits .f32 0x3A800000#32 = ((1 / 1024 : ℝ) : EReal) ∧ Ideal.ofBits .f32 0x40000000#32 = ((2 : ℝ) : EReal) ∧
    Ideal.ofBits .f32 0x3F000000#32 = ((1 / 2 : ℝ) : EReal) ∧
    Ideal.ofBits .f32 0xBF000000#32 = ((-(1 / 2) : ℝ) : EReal) ∧ Ideal.ofBits .f32 0x3F800000#32 = ((1 : ℝ) : EReal) ∧
    Ideal.ofBits .f32 0x00000000#32 = ((0 : ℝ) : EReal) :=
  ⟨fun _ _ => (EReal.coe_add _ _).symm, fun _ _ => (EReal.coe_mul _ _).symm, fun _ _ => (EReal.coe_sub _ _).symm,
    fun _ => (EReal.coe_neg _).symm, fun _ f => coe_sum _ f, fun x _ h => div_coe_coe h x, fun _ => rfl, rfl, rfl,
    ofBits_eps, ofBits_1024, ofBits_inv2048, ofBits_inv1024, ofBits_two, ofBits_half, ofBits_neg_half, ofBits_one,
    ofBits_zero⟩

end Cert.Lift

end
-- ==== Proof.Spec.lean ====
/-
  WHAT THE MIDDLE OF THE STEP COMPUTES, as real numbers, one row (one token) at a time: the output projection, the
  feed-forward block with its norm and gate, the final norm and the squared loss, and the gradients of all of them.
  The kernel and the reference are each shown to compute these functions; no tile and no block occurs here.
-/
module

public import proofs.«01_k».proof.Proof.Lift

@[expose] public section

noncomputable section

namespace Cert.Mid

open Cert.Lift

/-- The weights: output projection, gate, up and down projections, and the gains of the two norms. -/
structure Weights where
  wo : Fin 1024 → Fin 1024 → ℝ
  wg : Fin 1024 → Fin 2816 → ℝ
  wu : Fin 1024 → Fin 2816 → ℝ
  wd : Fin 2816 → Fin 1024 → ℝ
  g2 : Fin 1024 → ℝ
  g3 : Fin 1024 → ℝ

/-- One row: the two mixers' outputs, the residual stream, the loss target, and whether the row counts in the loss. -/
structure Row where
  yc : Fin 512 → ℝ
  yg : Fin 512 → ℝ
  h : Fin 1024 → ℝ
  t : Fin 1024 → ℝ
  live : Bool

/-- The first and second half of the projection's 1024 input channels. -/
abbrev lo (k : Fin 512) : Fin 1024 := ⟨k.val, by omega⟩
abbrev hi (k : Fin 512) : Fin 1024 := ⟨512 + k.val, by omega⟩
/-- The two blocks of the 2816 feed-forward channels. -/
abbrev loF (k : Fin 1536) : Fin 2816 := ⟨k.val, by omega⟩
abbrev hiF (k : Fin 1280) : Fin 2816 := ⟨1536 + k.val, by omega⟩

/-- A sum over the channels is the sum over the first half plus the sum over the second. -/
theorem sum_lo_hi (f : Fin 1024 → ℝ) : ∑ k, f k = (∑ k, f (lo k)) + ∑ k, f (hi k) :=
  Fin.sum_univ_add (a := 512) (b := 512) f

/-- A sum over the feed-forward channels is the sum over the first block plus the sum over the second. -/
theorem sum_loF_hiF (f : Fin 2816 → ℝ) : ∑ k, f k = (∑ k, f (loF k)) + ∑ k, f (hiF k) :=
  Fin.sum_univ_add (a := 1536) (b := 1280) f

/-- The mean square of a row plus the stabiliser, and the reciprocal of its root. -/
def ms (v : Fin 1024 → ℝ) : ℝ := (∑ k, v k * v k) / 1024 + eps
def rn (v : Fin 1024 → ℝ) : ℝ := (Real.sqrt (ms v))⁻¹

theorem ms_pos (v : Fin 1024 → ℝ) : 0 < ms v := by
  have : 0 ≤ ∑ k, v k * v k := Finset.sum_nonneg fun k _ => mul_self_nonneg _
  have := eps_pos
  unfold ms; positivity

/-- The square of the reciprocal root is the reciprocal. -/
theorem rn_sq (v : Fin 1024 → ℝ) : rn v * rn v = (ms v)⁻¹ := by
  unfold rn; rw [← mul_inv, Real.mul_self_sqrt (ms_pos v).le]

/-- The derivative of the reciprocal root, at the mean square. -/
def nd (v : Fin 1024 → ℝ) : ℝ := -(1 / 2) * (rn v / ms v)

/-- The gradient that reaches a row through its own norm, apart from the row itself as a factor: the derivative of a square
    counts it twice. -/
def corr (v d : Fin 1024 → ℝ) : ℝ := (∑ k, v k * d k) * nd v / 1024

theorem nd_eq (v : Fin 1024 → ℝ) : nd v = -(1 / 2) * (rn v * (rn v * rn v)) := by
  unfold nd; rw [rn_sq]; ring

/-- The gradient of a norm's input, as its derivative spells it and as a projection. -/
theorem grad (v d : Fin 1024 → ℝ) (l : Fin 1024) :
    d l * rn v + v l * corr v d + corr v d * v l
      = rn v * (d l - v l * rn v * ((∑ k, d k * (v k * rn v)) / 1024)) := by
  have e : (∑ k, d k * (v k * rn v)) = (∑ k, v k * d k) * rn v := by
    rw [Finset.sum_mul]; exact Finset.sum_congr rfl fun k _ => by ring
  rw [e]; unfold corr; rw [nd_eq]; ring

theorem grad' (g : ℝ) (v d : Fin 1024 → ℝ) (l : Fin 1024) :
    g + d l * rn v + v l * corr v d + corr v d * v l
      = g + rn v * (d l - v l * rn v * ((∑ k, d k * (v k * rn v)) / 1024)) := by
  rw [← grad]; ring

/-- The logistic function. -/
def sg (a : ℝ) : ℝ := 1 / (1 + Real.exp (-a))

variable (W : Weights) (x : Row)

namespace Row

/-- After the mixers' projection. -/
def h1 (l : Fin 1024) : ℝ := x.h l + ∑ k, x.yc k * W.wo (lo k) l + ∑ k, x.yg k * W.wo (hi k) l
def xh2 (l : Fin 1024) : ℝ := x.h1 W l * rn (x.h1 W)
/-- The feed-forward block's normed input. -/
def n2 (l : Fin 1024) : ℝ := x.xh2 W l * W.g2 l
/-- Gate, up projection, and their gated product. -/
def a (j : Fin 2816) : ℝ := ∑ d, x.n2 W d * W.wg d j
def b (j : Fin 2816) : ℝ := ∑ d, x.n2 W d * W.wu d j
def f (j : Fin 2816) : ℝ := x.a W j * sg (x.a W j) * x.b W j
/-- After the feed-forward block. -/
def h2 (l : Fin 1024) : ℝ := x.h1 W l + ∑ j, x.f W j * W.wd j l
def xh3 (l : Fin 1024) : ℝ := x.h2 W l * rn (x.h2 W)
/-- The error against the target, zero on rows that do not count. -/
def err (l : Fin 1024) : ℝ := if x.live then x.xh3 W l * W.g3 l - x.t l else 0
def loss : ℝ := 1 / 2048 * ∑ l, x.err W l * x.err W l
def dy (l : Fin 1024) : ℝ := x.err W l * (1 / 1024)
def dxh3 (l : Fin 1024) : ℝ := x.dy W l * W.g3 l
/-- The gradient at the final norm's input. -/
def dh2 (l : Fin 1024) : ℝ :=
  rn (x.h2 W) * (x.dxh3 W l - x.xh3 W l * ((∑ k, x.dxh3 W k * x.xh3 W k) / 1024))
def df (j : Fin 2816) : ℝ := ∑ l, x.dh2 W l * W.wd j l
/-- The gradients at gate and up projection. -/
def da (j : Fin 2816) : ℝ := x.df W j * x.b W j * sg (x.a W j) * (1 + x.a W j * (1 - sg (x.a W j)))
def db (j : Fin 2816) : ℝ := x.df W j * x.a W j * sg (x.a W j)
def dn2 (d : Fin 1024) : ℝ := ∑ j, x.da W j * W.wg d j + ∑ j, x.db W j * W.wu d j
def dxh2 (l : Fin 1024) : ℝ := x.dn2 W l * W.g2 l
/-- The gradient at the projection's output. -/
def dh1 (l : Fin 1024) : ℝ :=
  x.dh2 W l + rn (x.h1 W) * (x.dxh2 W l - x.xh2 W l * ((∑ k, x.dxh2 W k * x.xh2 W k) / 1024))
/-- The gradients at the mixers' outputs. -/
def dyc (k : Fin 512) : ℝ := ∑ l, x.dh1 W l * W.wo (lo k) l
def dyg (k : Fin 512) : ℝ := ∑ l, x.dh1 W l * W.wo (hi k) l

end Row

end Cert.Mid

end
-- ==== Proof.Args.lean ====
/-
  THE ARGUMENTS AS REAL NUMBERS: what both programs are given, entry by entry, when every entry is finite, and the rows
  of the step that they make up.
-/
module

public import proofs.«01_k».proof.Proof.Spec
public import Idealize.ShloMosaic.Lib.ValueIdx

@[expose] public section

noncomputable section

namespace Cert.Mid

open Idealize.ShloMosaic

/-- The entries of the arguments. -/
structure Args where
  yc : Fin 4224 → Fin 512 → ℝ
  yg : Fin 4224 → Fin 512 → ℝ
  x : Fin 2 → Fin 2048 → Fin 1024 → ℝ
  mt : Fin 16 → Fin 1024 → ℝ
  t : Fin 2 → Fin 2048 → Fin 1024 → ℝ
  W : Weights

namespace Args

variable (A : Args) (R : Fin 4224)

/-- A device's rows are two examples of 2112: 48 rows of zeros, the 16 meta tokens, the example's 2048 tokens. The loss
    counts the example's own tokens. -/
def h (l : Fin 1024) : ℝ :=
  if h : 64 ≤ R.val % 2112 then A.x (⟨R.val / 2112, by omega⟩ : Fin 2) (⟨R.val % 2112 - 64, by omega⟩ : Fin 2048) l
  else if h' : 48 ≤ R.val % 2112 then A.mt (⟨R.val % 2112 - 48, by omega⟩ : Fin 16) l else 0
def tg (l : Fin 1024) : ℝ :=
  if h : 64 ≤ R.val % 2112 then A.t (⟨R.val / 2112, by omega⟩ : Fin 2) (⟨R.val % 2112 - 64, by omega⟩ : Fin 2048) l else 0
def row : Row := ⟨A.yc R, A.yg R, A.h R, A.tg R, decide (64 ≤ R.val % 2112)⟩

/-- What a row adds to the eight rows of sums: the gain gradients of the last and the second norm, the loss. -/
def part (q : Fin 8) (l : Fin 1024) : ℝ :=
  if q = 0 then (A.row R).dy A.W l * (A.row R).xh3 A.W l else if q = 1 then (A.row R).dn2 A.W l * (A.row R).xh2 A.W l
  else if q = 2 then (A.row R).loss A.W else 0

end Args

/-- The argument arrays hold these numbers. -/
structure Lifted (A : Args) (a0 a1 : (⟨2, ![4224, 512]⟩ : Shape).Idx → EReal) (a2 : (⟨3, ![2, 2048, 1024]⟩ : Shape).Idx → EReal)
    (a3 : (⟨2, ![16, 1024]⟩ : Shape).Idx → EReal) (a4 : (⟨3, ![2, 2048, 1024]⟩ : Shape).Idx → EReal)
    (a5 : (⟨3, ![1, 1024, 1024]⟩ : Shape).Idx → EReal) (a6 a7 : (⟨3, ![1, 1024, 2816]⟩ : Shape).Idx → EReal)
    (a8 : (⟨3, ![1, 2816, 1024]⟩ : Shape).Idx → EReal) (a9 : (⟨2, ![1, 1024]⟩ : Shape).Idx → EReal)
    (a10 : (⟨1, ![1024]⟩ : Shape).Idx → EReal) : Prop where
  yc : ∀ R k, a0 (ix2 R k) = ((A.yc R k : ℝ) : EReal)
  yg : ∀ R k, a1 (ix2 R k) = ((A.yg R k : ℝ) : EReal)
  x : ∀ e p l, a2 (ix3 e p l) = ((A.x e p l : ℝ) : EReal)
  mt : ∀ p l, a3 (ix2 p l) = ((A.mt p l : ℝ) : EReal)
  t : ∀ e p l, a4 (ix3 e p l) = ((A.t e p l : ℝ) : EReal)
  wo : ∀ k l, a5 (ix3 0 k l) = ((A.W.wo k l : ℝ) : EReal)
  wg : ∀ d j, a6 (ix3 0 d j) = ((A.W.wg d j : ℝ) : EReal)
  wu : ∀ d j, a7 (ix3 0 d j) = ((A.W.wu d j : ℝ) : EReal)
  wd : ∀ j d, a8 (ix3 0 j d) = ((A.W.wd j d : ℝ) : EReal)
  g2 : ∀ l, a9 (ix2 0 l) = ((A.W.g2 l : ℝ) : EReal)
  g3 : ∀ l, a10 (ix1 l) = ((A.W.g3 l : ℝ) : EReal)

end Cert.Mid

end
-- ==== Proof.KernelRows.lean ====
/-
  THE KERNEL'S ARITHMETIC, ROW BY ROW: each value the kernel computes in one grid step, read at one row and lane, is the
  real function of Spec.lean at that row — given that its inputs are the reals of that row and of the weights. A sum over
  the two halves of the projection, or over the two feed-forward blocks, becomes the whole sum here.
-/
module

public import proofs.«01_k».proof.Proof.Spec
public import proofs.«01_k».proof.Proof.Gen.KernelIdeal.Skeleton

@[expose] public section

set_option maxRecDepth 16384

noncomputable section

namespace Cert.Mid.Kernel

open Cert.KernelIdeal Cert.KernelIdeal.Gen Idealize.ShloMosaic Cert.Lift Cert.Mid

variable (W : Weights) (x : Row) (r : Fin 352)

/-- A row's reciprocal root mean square, from its lifted entries. -/
theorem rsqrt_ms (v : Fin 1024 → ℝ) : Ideal.rsqrt (((∑ k, v k * v k) / 1024 + eps : ℝ) : EReal) = ((rn v : ℝ) : EReal) :=
  rsqrt_coe_pos (ms_pos v)

/-- The first block's partial sum plus the second's is the sum over all feed-forward channels. -/
theorem add_blocks (c : ℝ) (f : Fin 2816 → ℝ) : c + ∑ k, f (loF k) + ∑ k, f (hiF k) = c + ∑ j, f j := by
  rw [sum_loF_hiF f, add_assoc]

/-- The projected residual stream. -/
theorem h1 {v0 : Vec Ideal S352x1024 .f32} {v2 : Vec Ideal S352x512 .bf16} {v3 : Vec Ideal S512x1024 .bf16} {v7 : Vec Ideal S352x512 .bf16} {v8 : Vec Ideal S512x1024 .bf16}
    (hh : ∀ l, v0 (ix2 r l) = ((x.h l : ℝ) : EReal))
    (hyc : ∀ k, v2 (ix2 r k) = ((x.yc k : ℝ) : EReal))
    (hwo1 : ∀ k l, v3 (ix2 k l) = ((W.wo (lo k) l : ℝ) : EReal))
    (hyg : ∀ k, v7 (ix2 r k) = ((x.yg k : ℝ) : EReal))
    (hwo2 : ∀ k l, v8 (ix2 k l) = ((W.wo (hi k) l : ℝ) : EReal)) (l : Fin 1024) :
    k0_pay5 v0 v2 v3 v7 v8 (ix2 r l) = ((x.h1 W l : ℝ) : EReal) := by
  pointwise [k0_pay5]
  simp (disch := positivity) only [hh, hyc, hwo1, hyg, hwo2, lift]
  rfl

/-- The first norm's factor. -/
theorem r2 {v0 : Vec Ideal S352x1024 .f32} {v2 : Vec Ideal S352x512 .bf16} {v3 : Vec Ideal S512x1024 .bf16} {v7 : Vec Ideal S352x512 .bf16} {v8 : Vec Ideal S512x1024 .bf16}
    (hh : ∀ l, v0 (ix2 r l) = ((x.h l : ℝ) : EReal))
    (hyc : ∀ k, v2 (ix2 r k) = ((x.yc k : ℝ) : EReal))
    (hwo1 : ∀ k l, v3 (ix2 k l) = ((W.wo (lo k) l : ℝ) : EReal))
    (hyg : ∀ k, v7 (ix2 r k) = ((x.yg k : ℝ) : EReal))
    (hwo2 : ∀ k l, v8 (ix2 k l) = ((W.wo (hi k) l : ℝ) : EReal))  :
    k0_pay6 v0 v2 v3 v7 v8 (ix2 r 0) = ((rn (x.h1 W) : ℝ) : EReal) := by
  pointwise [k0_pay6]
  simp (disch := norm_num) only [h1 W x r hh hyc hwo1 hyg hwo2, lift]
  exact rsqrt_ms _

/-- The normed row. -/
theorem xh2 {v0 : Vec Ideal S352x1024 .f32} {v2 : Vec Ideal S352x512 .bf16} {v3 : Vec Ideal S512x1024 .bf16} {v7 : Vec Ideal S352x512 .bf16} {v8 : Vec Ideal S512x1024 .bf16}
    (hh : ∀ l, v0 (ix2 r l) = ((x.h l : ℝ) : EReal))
    (hyc : ∀ k, v2 (ix2 r k) = ((x.yc k : ℝ) : EReal))
    (hwo1 : ∀ k l, v3 (ix2 k l) = ((W.wo (lo k) l : ℝ) : EReal))
    (hyg : ∀ k, v7 (ix2 r k) = ((x.yg k : ℝ) : EReal))
    (hwo2 : ∀ k l, v8 (ix2 k l) = ((W.wo (hi k) l : ℝ) : EReal)) (l : Fin 1024) :
    k0_pay7 v0 v2 v3 v7 v8 (ix2 r l) = ((x.xh2 W l : ℝ) : EReal) := by
  pointwise [k0_pay7]
  simp only [h1 W x r hh hyc hwo1 hyg hwo2, r2 W x r hh hyc hwo1 hyg hwo2, lift]
  rfl

/-- The feed-forward input. -/
theorem n2 {v0 : Vec Ideal S352x1024 .f32} {v2 : Vec Ideal S352x512 .bf16} {v3 : Vec Ideal S512x1024 .bf16} {v7 : Vec Ideal S352x512 .bf16} {v8 : Vec Ideal S512x1024 .bf16} {v22 : Vec Ideal S1x1024 .f32}
    (hh : ∀ l, v0 (ix2 r l) = ((x.h l : ℝ) : EReal))
    (hyc : ∀ k, v2 (ix2 r k) = ((x.yc k : ℝ) : EReal))
    (hwo1 : ∀ k l, v3 (ix2 k l) = ((W.wo (lo k) l : ℝ) : EReal))
    (hyg : ∀ k, v7 (ix2 r k) = ((x.yg k : ℝ) : EReal))
    (hwo2 : ∀ k l, v8 (ix2 k l) = ((W.wo (hi k) l : ℝ) : EReal))
    (hg2 : ∀ l, v22 (ix2 0 l) = ((W.g2 l : ℝ) : EReal)) (l : Fin 1024) :
    k0_pay8 v0 v2 v3 v7 v8 v22 (ix2 r l) = ((x.n2 W l : ℝ) : EReal) := by
  pointwise [k0_pay8]
  simp only [xh2 W x r hh hyc hwo1 hyg hwo2, hg2, lift]
  rfl

/-- The gate, first block. -/
theorem a1 {v0 : Vec Ideal S352x1024 .f32} {v2 : Vec Ideal S352x512 .bf16} {v3 : Vec Ideal S512x1024 .bf16} {v7 : Vec Ideal S352x512 .bf16} {v8 : Vec Ideal S512x1024 .bf16} {v22 : Vec Ideal S1x1024 .f32} {v28 : Vec Ideal S1536x1024 .bf16}
    (hh : ∀ l, v0 (ix2 r l) = ((x.h l : ℝ) : EReal))
    (hyc : ∀ k, v2 (ix2 r k) = ((x.yc k : ℝ) : EReal))
    (hwo1 : ∀ k l, v3 (ix2 k l) = ((W.wo (lo k) l : ℝ) : EReal))
    (hyg : ∀ k, v7 (ix2 r k) = ((x.yg k : ℝ) : EReal))
    (hwo2 : ∀ k l, v8 (ix2 k l) = ((W.wo (hi k) l : ℝ) : EReal))
    (hg2 : ∀ l, v22 (ix2 0 l) = ((W.g2 l : ℝ) : EReal))
    (hwg1 : ∀ k d, v28 (ix2 k d) = ((W.wg d (loF k) : ℝ) : EReal)) (l : Fin 1536) :
    k0_pay10 v0 v2 v3 v7 v8 v22 v28 (ix2 r l) = ((x.a W (loF l) : ℝ) : EReal) := by
  pointwise [k0_pay10]
  simp only [n2 W x r hh hyc hwo1 hyg hwo2 hg2, hwg1, lift, zero_add]
  rfl

/-- The up projection, first block. -/
theorem b1 {v25 : Vec Ideal S352x1024 .bf16} {v32 : Vec Ideal S1536x1024 .bf16}
    (hn2 : ∀ d, v25 (ix2 r d) = ((x.n2 W d : ℝ) : EReal))
    (hwu1 : ∀ k d, v32 (ix2 k d) = ((W.wu d (loF k) : ℝ) : EReal)) (l : Fin 1536) :
    k0_pay12 (F := Ideal) v25 v32 (ix2 r l) = ((x.b W (loF l) : ℝ) : EReal) := by
  pointwise [k0_pay12]
  simp only [hn2, hwu1, lift, zero_add]
  rfl

/-- The gated product, first block. -/
theorem f1 {v25 : Vec Ideal S352x1024 .bf16} {v30 : Vec Ideal S352x1536 .f32} {v32 : Vec Ideal S1536x1024 .bf16}
    (hn2 : ∀ d, v25 (ix2 r d) = ((x.n2 W d : ℝ) : EReal))
    (ha1 : ∀ k, v30 (ix2 r k) = ((x.a W (loF k) : ℝ) : EReal))
    (hwu1 : ∀ k d, v32 (ix2 k d) = ((W.wu d (loF k) : ℝ) : EReal)) (l : Fin 1536) :
    k0_pay13 (F := Ideal) v25 v30 v32 (ix2 r l) = ((x.f W (loF l) : ℝ) : EReal) := by
  pointwise [k0_pay13]
  simp (disch := positivity) only [ha1, b1 W x r hn2 hwu1, zero_sub, lift]
  rfl

/-- The first block's part of the down projection. -/
theorem y1 {v25 : Vec Ideal S352x1024 .bf16} {v27 : Vec Ideal S352x1024 .f32} {v30 : Vec Ideal S352x1536 .f32} {v32 : Vec Ideal S1536x1024 .bf16} {v49 : Vec Ideal S1536x1024 .bf16}
    (hn2 : ∀ d, v25 (ix2 r d) = ((x.n2 W d : ℝ) : EReal))
    (hz27 : ∀ l, v27 (ix2 r l) = ((0 : ℝ) : EReal))
    (ha1 : ∀ k, v30 (ix2 r k) = ((x.a W (loF k) : ℝ) : EReal))
    (hwu1 : ∀ k d, v32 (ix2 k d) = ((W.wu d (loF k) : ℝ) : EReal))
    (hwd1 : ∀ k d, v49 (ix2 k d) = ((W.wd (loF k) d : ℝ) : EReal)) (l : Fin 1024) :
    k0_pay16 v25 v27 v30 v32 v49 (ix2 r l) = ((∑ k, x.f W (loF k) * W.wd (loF k) l : ℝ) : EReal) := by
  pointwise [k0_pay16]
  simp only [hz27, f1 W x r hn2 ha1 hwu1, hwd1, lift, zero_add]

/-- The gate, second block. -/
theorem a2 {v25 : Vec Ideal S352x1024 .bf16} {v53 : Vec Ideal S1280x1024 .bf16}
    (hn2 : ∀ d, v25 (ix2 r d) = ((x.n2 W d : ℝ) : EReal))
    (hwg2 : ∀ k d, v53 (ix2 k d) = ((W.wg d (hiF k) : ℝ) : EReal)) (l : Fin 1280) :
    k0_pay17 v25 v53 (ix2 r l) = ((x.a W (hiF l) : ℝ) : EReal) := by
  pointwise [k0_pay17]
  simp only [hn2, hwg2, lift, zero_add]
  rfl

/-- The up projection, second block. -/
theorem b2 {v25 : Vec Ideal S352x1024 .bf16} {v56 : Vec Ideal S1280x1024 .bf16}
    (hn2 : ∀ d, v25 (ix2 r d) = ((x.n2 W d : ℝ) : EReal))
    (hwu2 : ∀ k d, v56 (ix2 k d) = ((W.wu d (hiF k) : ℝ) : EReal)) (l : Fin 1280) :
    k0_pay18 v25 v56 (ix2 r l) = ((x.b W (hiF l) : ℝ) : EReal) := by
  pointwise [k0_pay18]
  simp only [hn2, hwu2, lift, zero_add]
  rfl

/-- The gated product, second block. -/
theorem f2 {v25 : Vec Ideal S352x1024 .bf16} {v53 : Vec Ideal S1280x1024 .bf16} {v56 : Vec Ideal S1280x1024 .bf16}
    (hn2 : ∀ d, v25 (ix2 r d) = ((x.n2 W d : ℝ) : EReal))
    (hwg2 : ∀ k d, v53 (ix2 k d) = ((W.wg d (hiF k) : ℝ) : EReal))
    (hwu2 : ∀ k d, v56 (ix2 k d) = ((W.wu d (hiF k) : ℝ) : EReal)) (l : Fin 1280) :
    k0_pay19 v25 v53 v56 (ix2 r l) = ((x.f W (hiF l) : ℝ) : EReal) := by
  pointwise [k0_pay19]
  simp (disch := positivity) only [a2 W x r hn2 hwg2, b2 W x r hn2 hwu2, zero_sub, lift]
  rfl

/-- After the feed-forward block. -/
theorem h2 {v11 : Vec Ideal S352x1024 .f32} {v52 : Vec Ideal S352x1024 .f32} {v67 : Vec Ideal S352x1280 .f32} {v74 : Vec Ideal S1280x1024 .bf16}
    (hh1 : ∀ l, v11 (ix2 r l) = ((x.h1 W l : ℝ) : EReal))
    (hy1 : ∀ l, v52 (ix2 r l) = ((∑ k, x.f W (loF k) * W.wd (loF k) l : ℝ) : EReal))
    (hf2 : ∀ k, v67 (ix2 r k) = ((x.f W (hiF k) : ℝ) : EReal))
    (hwd2 : ∀ k d, v74 (ix2 k d) = ((W.wd (hiF k) d : ℝ) : EReal)) (l : Fin 1024) :
    k0_pay23 v11 v52 v67 v74 (ix2 r l) = ((x.h2 W l : ℝ) : EReal) := by
  pointwise [k0_pay23, k0_pay20]
  simp only [hh1, hy1, hf2, hwd2, lift, zero_add]
  rw [Row.h2, sum_loF_hiF]

/-- The final norm's factor. -/
theorem r3 {v11 : Vec Ideal S352x1024 .f32} {v52 : Vec Ideal S352x1024 .f32} {v67 : Vec Ideal S352x1280 .f32} {v74 : Vec Ideal S1280x1024 .bf16}
    (hh1 : ∀ l, v11 (ix2 r l) = ((x.h1 W l : ℝ) : EReal))
    (hy1 : ∀ l, v52 (ix2 r l) = ((∑ k, x.f W (loF k) * W.wd (loF k) l : ℝ) : EReal))
    (hf2 : ∀ k, v67 (ix2 r k) = ((x.f W (hiF k) : ℝ) : EReal))
    (hwd2 : ∀ k d, v74 (ix2 k d) = ((W.wd (hiF k) d : ℝ) : EReal))  :
    k0_pay24 v11 v52 v67 v74 (ix2 r 0) = ((rn (x.h2 W) : ℝ) : EReal) := by
  pointwise [k0_pay24]
  simp (disch := norm_num) only [h2 W x r hh1 hy1 hf2 hwd2, lift]
  exact rsqrt_ms _

/-- The final normed row. -/
theorem xh3 {v11 : Vec Ideal S352x1024 .f32} {v52 : Vec Ideal S352x1024 .f32} {v67 : Vec Ideal S352x1280 .f32} {v74 : Vec Ideal S1280x1024 .bf16}
    (hh1 : ∀ l, v11 (ix2 r l) = ((x.h1 W l : ℝ) : EReal))
    (hy1 : ∀ l, v52 (ix2 r l) = ((∑ k, x.f W (loF k) * W.wd (loF k) l : ℝ) : EReal))
    (hf2 : ∀ k, v67 (ix2 r k) = ((x.f W (hiF k) : ℝ) : EReal))
    (hwd2 : ∀ k d, v74 (ix2 k d) = ((W.wd (hiF k) d : ℝ) : EReal)) (l : Fin 1024) :
    k0_pay25 v11 v52 v67 v74 (ix2 r l) = ((x.xh3 W l : ℝ) : EReal) := by
  pointwise [k0_pay25]
  simp only [h2 W x r hh1 hy1 hf2 hwd2, r3 W x r hh1 hy1 hf2 hwd2, lift]
  rfl

/-- The error against the target. -/
theorem err {v88 : Vec Ideal S352x1024 .f32} {v90 : Vec Ideal S1x1024 .f32} {v115 : Vec Ideal S352x1024 .f32} {v96 : BitVec 32} {v98 : IVec S352x1 32} {v100 v102 : IVec S352x1 1} {v103 : BitVec 1}
    (hxh3 : ∀ l, v88 (ix2 r l) = ((x.xh3 W l : ℝ) : EReal))
    (hg3 : ∀ l, v90 (ix2 0 l) = ((W.g3 l : ℝ) : EReal))
    (ht : ∀ l, v115 (ix2 r l) = ((x.t l : ℝ) : EReal))
    (hw : IntOp.cmpi .sge (Scalar.select (IntOp.andi (IntOp.xori (v102 (ix2 r 0)) v103) (v100 (ix2 r 0)))
      (IntOp.addi (v98 (ix2 r 0)) v96) (v98 (ix2 r 0))) 64#32 = if x.live then 1#1 else 0#1) (l : Fin 1024) :
    k0_pay30 (F := Ideal) v88 v90 v96 v98 v100 v102 v103 v115 (ix2 r l) = ((x.err W l : ℝ) : EReal) := by
  pointwise [k0_pay30]
  rw [hw, hxh3, hg3, ht, Row.err]
  cases x.live
  · rfl
  · simp only [lift]; rfl

/-- The gradient at the output. -/
theorem dy {v88 : Vec Ideal S352x1024 .f32} {v90 : Vec Ideal S1x1024 .f32} {v115 : Vec Ideal S352x1024 .f32} {v96 : BitVec 32} {v98 : IVec S352x1 32} {v100 v102 : IVec S352x1 1} {v103 : BitVec 1}
    (hxh3 : ∀ l, v88 (ix2 r l) = ((x.xh3 W l : ℝ) : EReal))
    (hg3 : ∀ l, v90 (ix2 0 l) = ((W.g3 l : ℝ) : EReal))
    (ht : ∀ l, v115 (ix2 r l) = ((x.t l : ℝ) : EReal))
    (hw : IntOp.cmpi .sge (Scalar.select (IntOp.andi (IntOp.xori (v102 (ix2 r 0)) v103) (v100 (ix2 r 0)))
      (IntOp.addi (v98 (ix2 r 0)) v96) (v98 (ix2 r 0))) 64#32 = if x.live then 1#1 else 0#1) (l : Fin 1024) :
    k0_pay32 (F := Ideal) v88 v90 v96 v98 v100 v102 v103 v115 (ix2 r l) = ((x.dy W l : ℝ) : EReal) := by
  pointwise [k0_pay32]
  simp only [err W x r hxh3 hg3 ht hw, lift]
  rfl

/-- The gradient at the final norm's input. -/
theorem dh2 {v86 : Vec Ideal S352x1 .f32} {v88 : Vec Ideal S352x1024 .f32} {v90 : Vec Ideal S1x1024 .f32} {v115 : Vec Ideal S352x1024 .f32} {v96 : BitVec 32} {v98 : IVec S352x1 32} {v100 v102 : IVec S352x1 1} {v103 : BitVec 1}
    (hr3 : v86 (ix2 r 0) = ((rn (x.h2 W) : ℝ) : EReal))
    (hxh3 : ∀ l, v88 (ix2 r l) = ((x.xh3 W l : ℝ) : EReal))
    (hg3 : ∀ l, v90 (ix2 0 l) = ((W.g3 l : ℝ) : EReal))
    (ht : ∀ l, v115 (ix2 r l) = ((x.t l : ℝ) : EReal))
    (hw : IntOp.cmpi .sge (Scalar.select (IntOp.andi (IntOp.xori (v102 (ix2 r 0)) v103) (v100 (ix2 r 0)))
      (IntOp.addi (v98 (ix2 r 0)) v96) (v98 (ix2 r 0))) 64#32 = if x.live then 1#1 else 0#1) (l : Fin 1024) :
    k0_pay34 (F := Ideal) v86 v88 v90 v96 v98 v100 v102 v103 v115 (ix2 r l) = ((x.dh2 W l : ℝ) : EReal) := by
  pointwise [k0_pay34]
  simp (disch := norm_num) only [hr3, dy W x r hxh3 hg3 ht hw, hxh3, hg3, lift]
  rfl

/-- The gradient at the gate, first block. -/
theorem da1 {v146 : Vec Ideal S352x1024 .bf16} {v149 : Vec Ideal S1536x1024 .bf16} {v152 : Vec Ideal S352x1536 .bf16} {v155 : Vec Ideal S352x1536 .bf16}
    (hdh2 : ∀ l, v146 (ix2 r l) = ((x.dh2 W l : ℝ) : EReal))
    (hwd1b : ∀ k d, v149 (ix2 k d) = ((W.wd (loF k) d : ℝ) : EReal))
    (ha1b : ∀ k, v152 (ix2 r k) = ((x.a W (loF k) : ℝ) : EReal))
    (hb1b : ∀ k, v155 (ix2 r k) = ((x.b W (loF k) : ℝ) : EReal)) (l : Fin 1536) :
    k0_pay40 v146 v149 v152 v155 (ix2 r l) = ((x.da W (loF l) : ℝ) : EReal) := by
  pointwise [k0_pay40, k0_pay37, k0_pay38, k0_pay39]
  simp (disch := positivity) only [hdh2, hwd1b, ha1b, hb1b, zero_sub, lift]
  rfl

/-- The gradient at the up projection, first block. -/
theorem db1 {v146 : Vec Ideal S352x1024 .bf16} {v149 : Vec Ideal S1536x1024 .bf16} {v152 : Vec Ideal S352x1536 .bf16}
    (hdh2 : ∀ l, v146 (ix2 r l) = ((x.dh2 W l : ℝ) : EReal))
    (hwd1b : ∀ k d, v149 (ix2 k d) = ((W.wd (loF k) d : ℝ) : EReal))
    (ha1b : ∀ k, v152 (ix2 r k) = ((x.a W (loF k) : ℝ) : EReal)) (l : Fin 1536) :
    k0_pay41 v146 v149 v152 (ix2 r l) = ((x.db W (loF l) : ℝ) : EReal) := by
  pointwise [k0_pay41, k0_pay37, k0_pay38, k0_pay39]
  simp (disch := positivity) only [hdh2, hwd1b, ha1b, zero_sub, lift]
  rfl

/-- The gate's part, first block, of the gradient at the normed row. -/
theorem d1 {v146 : Vec Ideal S352x1024 .bf16} {v148 : Vec Ideal S352x1024 .f32} {v149 : Vec Ideal S1536x1024 .bf16} {v152 : Vec Ideal S352x1536 .bf16} {v155 : Vec Ideal S352x1536 .bf16} {v179 : Vec Ideal S1536x1024 .bf16}
    (hdh2 : ∀ l, v146 (ix2 r l) = ((x.dh2 W l : ℝ) : EReal))
    (hz148 : ∀ l, v148 (ix2 r l) = ((0 : ℝ) : EReal))
    (hwd1b : ∀ k d, v149 (ix2 k d) = ((W.wd (loF k) d : ℝ) : EReal))
    (ha1b : ∀ k, v152 (ix2 r k) = ((x.a W (loF k) : ℝ) : EReal))
    (hb1b : ∀ k, v155 (ix2 r k) = ((x.b W (loF k) : ℝ) : EReal))
    (hwg1b : ∀ k d, v179 (ix2 k d) = ((W.wg d (loF k) : ℝ) : EReal)) (l : Fin 1024) :
    k0_pay42 v146 v148 v149 v152 v155 v179 (ix2 r l) = ((∑ k, x.da W (loF k) * W.wg l (loF k) : ℝ) : EReal) := by
  pointwise [k0_pay42]
  simp only [da1 W x r hdh2 hwd1b ha1b hb1b, hz148, hwg1b, lift, zero_add]

/-- The gradient at the gate, second block. -/
theorem da2 {v146 : Vec Ideal S352x1024 .bf16} {v187 : Vec Ideal S1280x1024 .bf16} {v190 : Vec Ideal S352x1280 .bf16} {v193 : Vec Ideal S352x1280 .bf16}
    (hdh2 : ∀ l, v146 (ix2 r l) = ((x.dh2 W l : ℝ) : EReal))
    (hwd2b : ∀ k d, v187 (ix2 k d) = ((W.wd (hiF k) d : ℝ) : EReal))
    (ha2b : ∀ k, v190 (ix2 r k) = ((x.a W (hiF k) : ℝ) : EReal))
    (hb2b : ∀ k, v193 (ix2 r k) = ((x.b W (hiF k) : ℝ) : EReal)) (l : Fin 1280) :
    k0_pay47 v146 v187 v190 v193 (ix2 r l) = ((x.da W (hiF l) : ℝ) : EReal) := by
  pointwise [k0_pay47, k0_pay44, k0_pay45, k0_pay46]
  simp (disch := positivity) only [hdh2, hwd2b, ha2b, hb2b, zero_sub, lift]
  rfl

/-- The gradient at the up projection, second block. -/
theorem db2 {v146 : Vec Ideal S352x1024 .bf16} {v187 : Vec Ideal S1280x1024 .bf16} {v190 : Vec Ideal S352x1280 .bf16}
    (hdh2 : ∀ l, v146 (ix2 r l) = ((x.dh2 W l : ℝ) : EReal))
    (hwd2b : ∀ k d, v187 (ix2 k d) = ((W.wd (hiF k) d : ℝ) : EReal))
    (ha2b : ∀ k, v190 (ix2 r k) = ((x.a W (hiF k) : ℝ) : EReal)) (l : Fin 1280) :
    k0_pay48 v146 v187 v190 (ix2 r l) = ((x.db W (hiF l) : ℝ) : EReal) := by
  pointwise [k0_pay48, k0_pay44, k0_pay45, k0_pay46]
  simp (disch := positivity) only [hdh2, hwd2b, ha2b, zero_sub, lift]
  rfl

/-- All of the gate's part and the first block of the other, of the gradient at the normed row. -/
theorem d2 {v146 : Vec Ideal S352x1024 .bf16} {v176 : Vec Ideal S352x1536 .bf16} {v182 : Vec Ideal S352x1024 .f32} {v184 : Vec Ideal S1536x1024 .bf16} {cst_94 : Vec Ideal S352x1024 .f32} {v187 : Vec Ideal S1280x1024 .bf16} {v190 : Vec Ideal S352x1280 .bf16} {v193 : Vec Ideal S352x1280 .bf16} {v217 : Vec Ideal S1280x1024 .bf16}
    (hdh2 : ∀ l, v146 (ix2 r l) = ((x.dh2 W l : ℝ) : EReal))
    (hdb1 : ∀ k, v176 (ix2 r k) = ((x.db W (loF k) : ℝ) : EReal))
    (hd1 : ∀ d, v182 (ix2 r d) = ((∑ k, x.da W (loF k) * W.wg d (loF k) : ℝ) : EReal))
    (hwu1b : ∀ k d, v184 (ix2 k d) = ((W.wu d (loF k) : ℝ) : EReal))
    (hzc : ∀ l, cst_94 (ix2 r l) = ((0 : ℝ) : EReal))
    (hwd2b : ∀ k d, v187 (ix2 k d) = ((W.wd (hiF k) d : ℝ) : EReal))
    (ha2b : ∀ k, v190 (ix2 r k) = ((x.a W (hiF k) : ℝ) : EReal))
    (hb2b : ∀ k, v193 (ix2 r k) = ((x.b W (hiF k) : ℝ) : EReal))
    (hwg2b : ∀ k d, v217 (ix2 k d) = ((W.wg d (hiF k) : ℝ) : EReal)) (l : Fin 1024) :
    k0_pay49 v146 v176 v182 v184 cst_94 v187 v190 v193 v217 (ix2 r l) = ((∑ j, x.da W j * W.wg l j + ∑ k, x.db W (loF k) * W.wu l (loF k) : ℝ) : EReal) := by
  pointwise [k0_pay49]
  simp only [da2 W x r hdh2 hwd2b ha2b hb2b, hd1, hzc, hdb1, hwu1b, hwg2b, lift, zero_add]
  rw [sum_loF_hiF fun j => x.da W j * W.wg l j, add_right_comm]

/-- The gradient at the normed row. -/
theorem dn2 {v214 : Vec Ideal S352x1280 .bf16} {v220 : Vec Ideal S352x1024 .f32} {v221 : Vec Ideal S1280x1024 .bf16}
    (hdb2 : ∀ k, v214 (ix2 r k) = ((x.db W (hiF k) : ℝ) : EReal))
    (hd2 : ∀ d, v220 (ix2 r d) = ((∑ j, x.da W j * W.wg d j + ∑ k, x.db W (loF k) * W.wu d (loF k) : ℝ) : EReal))
    (hwu2b : ∀ k d, v221 (ix2 k d) = ((W.wu d (hiF k) : ℝ) : EReal)) (l : Fin 1024) :
    k0_pay50 v214 v220 v221 (ix2 r l) = ((x.dn2 W l : ℝ) : EReal) := by
  pointwise [k0_pay50]
  simp only [hdb2, hd2, hwu2b, lift, zero_add]
  rw [Row.dn2, sum_loF_hiF fun j => x.db W j * W.wu l j, add_assoc]

/-- The gradient at the projection's output. -/
theorem dh1 {v19 : Vec Ideal S352x1 .f32} {v21 : Vec Ideal S352x1024 .f32} {v145 : Vec Ideal S352x1024 .f32} {v214 : Vec Ideal S352x1280 .bf16} {v220 : Vec Ideal S352x1024 .f32} {v221 : Vec Ideal S1280x1024 .bf16} {v228 : Vec Ideal S1x1024 .f32}
    (hr2 : v19 (ix2 r 0) = ((rn (x.h1 W) : ℝ) : EReal))
    (hxh2 : ∀ l, v21 (ix2 r l) = ((x.xh2 W l : ℝ) : EReal))
    (hdh2f : ∀ l, v145 (ix2 r l) = ((x.dh2 W l : ℝ) : EReal))
    (hdb2 : ∀ k, v214 (ix2 r k) = ((x.db W (hiF k) : ℝ) : EReal))
    (hd2 : ∀ d, v220 (ix2 r d) = ((∑ j, x.da W j * W.wg d j + ∑ k, x.db W (loF k) * W.wu d (loF k) : ℝ) : EReal))
    (hwu2b : ∀ k d, v221 (ix2 k d) = ((W.wu d (hiF k) : ℝ) : EReal))
    (hg2b : ∀ l, v228 (ix2 0 l) = ((W.g2 l : ℝ) : EReal)) (l : Fin 1024) :
    k0_pay52 v19 v21 v145 v214 v220 v221 v228 (ix2 r l) = ((x.dh1 W l : ℝ) : EReal) := by
  pointwise [k0_pay52]
  simp (disch := norm_num) only [hr2, hxh2, hdh2f, hg2b, dn2 W x r hdb2 hd2 hwu2b, lift]
  rfl

/-- The gradient at the convolution mixer's output. -/
theorem dyc {v19 : Vec Ideal S352x1 .f32} {v21 : Vec Ideal S352x1024 .f32} {v145 : Vec Ideal S352x1024 .f32} {v214 : Vec Ideal S352x1280 .bf16} {v220 : Vec Ideal S352x1024 .f32} {v221 : Vec Ideal S1280x1024 .bf16} {v228 : Vec Ideal S1x1024 .f32} {v245 : Vec Ideal S512x1024 .bf16}
    (hr2 : v19 (ix2 r 0) = ((rn (x.h1 W) : ℝ) : EReal))
    (hxh2 : ∀ l, v21 (ix2 r l) = ((x.xh2 W l : ℝ) : EReal))
    (hdh2f : ∀ l, v145 (ix2 r l) = ((x.dh2 W l : ℝ) : EReal))
    (hdb2 : ∀ k, v214 (ix2 r k) = ((x.db W (hiF k) : ℝ) : EReal))
    (hd2 : ∀ d, v220 (ix2 r d) = ((∑ j, x.da W j * W.wg d j + ∑ k, x.db W (loF k) * W.wu d (loF k) : ℝ) : EReal))
    (hwu2b : ∀ k d, v221 (ix2 k d) = ((W.wu d (hiF k) : ℝ) : EReal))
    (hg2b : ∀ l, v228 (ix2 0 l) = ((W.g2 l : ℝ) : EReal))
    (hwo1b : ∀ k l, v245 (ix2 k l) = ((W.wo (lo k) l : ℝ) : EReal)) (l : Fin 512) :
    k0_pay54 v19 v21 v145 v214 v220 v221 v228 v245 (ix2 r l) = ((x.dyc W l : ℝ) : EReal) := by
  pointwise [k0_pay54, k0_pay53]
  simp only [dh1 W x r hr2 hxh2 hdh2f hdb2 hd2 hwu2b hg2b, hwo1b, lift]
  rfl

/-- The gradient at the attention mixer's output. -/
theorem dyg {v19 : Vec Ideal S352x1 .f32} {v21 : Vec Ideal S352x1024 .f32} {v145 : Vec Ideal S352x1024 .f32} {v214 : Vec Ideal S352x1280 .bf16} {v220 : Vec Ideal S352x1024 .f32} {v221 : Vec Ideal S1280x1024 .bf16} {v228 : Vec Ideal S1x1024 .f32} {v249 : Vec Ideal S512x1024 .bf16}
    (hr2 : v19 (ix2 r 0) = ((rn (x.h1 W) : ℝ) : EReal))
    (hxh2 : ∀ l, v21 (ix2 r l) = ((x.xh2 W l : ℝ) : EReal))
    (hdh2f : ∀ l, v145 (ix2 r l) = ((x.dh2 W l : ℝ) : EReal))
    (hdb2 : ∀ k, v214 (ix2 r k) = ((x.db W (hiF k) : ℝ) : EReal))
    (hd2 : ∀ d, v220 (ix2 r d) = ((∑ j, x.da W j * W.wg d j + ∑ k, x.db W (loF k) * W.wu d (loF k) : ℝ) : EReal))
    (hwu2b : ∀ k d, v221 (ix2 k d) = ((W.wu d (hiF k) : ℝ) : EReal))
    (hg2b : ∀ l, v228 (ix2 0 l) = ((W.g2 l : ℝ) : EReal))
    (hwo2b : ∀ k l, v249 (ix2 k l) = ((W.wo (hi k) l : ℝ) : EReal)) (l : Fin 512) :
    k0_pay55 v19 v21 v145 v214 v220 v221 v228 v249 (ix2 r l) = ((x.dyg W l : ℝ) : EReal) := by
  pointwise [k0_pay55, k0_pay53]
  simp only [dh1 W x r hr2 hxh2 hdh2f hdb2 hd2 hwu2b hg2b, hwo2b, lift]
  rfl

/-- The squared error of a tile's rows, summed. -/
theorem loss (x : Fin 352 → Row) {v88 : Vec Ideal S352x1024 .f32} {v90 : Vec Ideal S1x1024 .f32} {v115 : Vec Ideal S352x1024 .f32}
    {v96 : BitVec 32} {v98 : IVec S352x1 32} {v100 v102 : IVec S352x1 1} {v103 : BitVec 1}
    (hxh3 : ∀ r l, v88 (ix2 r l) = (((x r).xh3 W l : ℝ) : EReal))
    (hg3 : ∀ l, v90 (ix2 0 l) = ((W.g3 l : ℝ) : EReal))
    (ht : ∀ r l, v115 (ix2 r l) = (((x r).t l : ℝ) : EReal))
    (hw : ∀ r, IntOp.cmpi .sge (Scalar.select (IntOp.andi (IntOp.xori (v102 (ix2 r 0)) v103) (v100 (ix2 r 0)))
      (IntOp.addi (v98 (ix2 r 0)) v96) (v98 (ix2 r 0))) 64#32 = if (x r).live then 1#1 else 0#1) :
    k0_pay31 (F := Ideal) v88 v90 v96 v98 v100 v102 v103 v115 (ix2 0 0) = ((∑ r, (x r).loss W : ℝ) : EReal) := by
  pointwise [k0_pay31]
  simp only [fun r l => err W (x r) r (hxh3 r) hg3 (ht r) (hw r) l, lift]
  simp only [Row.loss, Finset.mul_sum]

/-- The gain gradient of the final norm, summed over a tile's rows. -/
theorem dg3 (x : Fin 352 → Row) {v88 : Vec Ideal S352x1024 .f32} {v90 : Vec Ideal S1x1024 .f32} {v115 : Vec Ideal S352x1024 .f32}
    {v96 : BitVec 32} {v98 : IVec S352x1 32} {v100 v102 : IVec S352x1 1} {v103 : BitVec 1}
    (hxh3 : ∀ r l, v88 (ix2 r l) = (((x r).xh3 W l : ℝ) : EReal))
    (hg3 : ∀ l, v90 (ix2 0 l) = ((W.g3 l : ℝ) : EReal))
    (ht : ∀ r l, v115 (ix2 r l) = (((x r).t l : ℝ) : EReal))
    (hw : ∀ r, IntOp.cmpi .sge (Scalar.select (IntOp.andi (IntOp.xori (v102 (ix2 r 0)) v103) (v100 (ix2 r 0)))
      (IntOp.addi (v98 (ix2 r 0)) v96) (v98 (ix2 r 0))) 64#32 = if (x r).live then 1#1 else 0#1) (l : Fin 1024) :
    k0_pay33 (F := Ideal) v88 v90 v96 v98 v100 v102 v103 v115 (ix2 0 l) = ((∑ r, (x r).dy W l * (x r).xh3 W l : ℝ) : EReal) := by
  pointwise [k0_pay33]
  simp only [fun r l => dy W (x r) r (hxh3 r) hg3 (ht r) (hw r) l, hxh3, lift]

/-- The gain gradient of the feed-forward norm, summed over a tile's rows. -/
theorem dg2 (x : Fin 352 → Row) {v21 : Vec Ideal S352x1024 .f32} {v214 : Vec Ideal S352x1280 .bf16}
    {v220 : Vec Ideal S352x1024 .f32} {v221 : Vec Ideal S1280x1024 .bf16}
    (hxh2 : ∀ r l, v21 (ix2 r l) = (((x r).xh2 W l : ℝ) : EReal))
    (hdb2 : ∀ r k, v214 (ix2 r k) = (((x r).db W (hiF k) : ℝ) : EReal))
    (hd2 : ∀ r d, v220 (ix2 r d) =
      ((∑ j, (x r).da W j * W.wg d j + ∑ k, (x r).db W (loF k) * W.wu d (loF k) : ℝ) : EReal))
    (hwu2b : ∀ k d, v221 (ix2 k d) = ((W.wu d (hiF k) : ℝ) : EReal)) (l : Fin 1024) :
    k0_pay51 v21 v214 v220 v221 (ix2 0 l) = ((∑ r, (x r).dn2 W l * (x r).xh2 W l : ℝ) : EReal) := by
  pointwise [k0_pay51]
  simp only [fun r l => dn2 W (x r) r (hdb2 r) (hd2 r) hwu2b l, hxh2, lift]

/-- The words of a row's position in its example: whether it is 64 or more, for every tile and row of the tile. -/
theorem live_word : ∀ (i : Fin 12) (q : Fin 352),
    IntOp.cmpi .sge
      (Scalar.select
        (IntOp.andi (IntOp.xori ((k0_pay29 (BitVec.ofNat 32 i.val)) (ix2 q 0))
          (Scalar.cmpi .slt (Scalar.select (Scalar.cmpi .eq 2112#32 0#32) 1#32 2112#32) 0#32))
          ((k0_pay28 (BitVec.ofNat 32 i.val)) (ix2 q 0)))
        (IntOp.addi ((k0_pay27 (BitVec.ofNat 32 i.val)) (ix2 q 0))
          (Scalar.select (Scalar.cmpi .eq 2112#32 0#32) 1#32 2112#32))
        ((k0_pay27 (BitVec.ofNat 32 i.val)) (ix2 q 0))) 64#32 =
      if 64 ≤ (352 * i.val + q.val) % 2112 then 1#1 else 0#1 := by
  intro i q
  pointwise [k0_pay27, k0_pay28, k0_pay29]
  revert i q
  decide +kernel

end Cert.Mid.Kernel

end
-- ==== Proof.Tile.lean ====
/-
  ONE GRID STEP OF THE KERNEL: the values it computes from its eleven input blocks, each named once, and what each is at a
  row and lane — the real function of Spec.lean — when the blocks hold the reals of the tile's rows and of the weights.
-/
module

public import proofs.«01_k».proof.Proof.KernelRows
public import Idealize.ShloMosaic.Lib.Pipeline.Value
public import Idealize.ShloMosaic.Lib.Pipeline.ValueKit.Tiles

@[expose] public section

set_option maxRecDepth 16384

noncomputable section

namespace Cert.Mid.Tile

open Cert.KernelIdeal Cert.KernelIdeal.Gen Idealize.ShloMosaic Cert.Lift Cert.Mid

theorem hz : (![0, 0] : Fin 2 → Nat) = fun _ => 0 := funext fun a => by fin_cases a <;> rfl

/-- A load of rows `o`, `o + 1`, … of an array, at a row and lane. -/
theorem ld_rows {M N m n : ℕ} {e : EltTy} (X : (⟨2, ![M, N]⟩ : Shape).Idx → Elt Ideal e) (o : ℕ)
    (inb : ∀ a, (![o, 0] : Fin 2 → Nat) a + (![m, n] : Fin 2 → Nat) a ≤ (⟨2, ![M, N]⟩ : Shape).size a)
    (a : Fin m) (b : Fin n) (a' : Fin M) (b' : Fin N) (ha : a'.val = o + a.val) (hb : b'.val = b.val) :
    View.ld X (Rect.unit (s := ⟨2, ![M, N]⟩) ![o, 0] ![m, n] inb) (ix2 a b) = X (ix2 a' b') :=
  View.ld_unit_apply_of X _ _ inb _ _ fun c => by
    refine Fin.cases ?_ (fun c => ?_) c
    · simpa [ix2] using ha
    · obtain rfl : c = 0 := Subsingleton.elim _ _
      simpa [ix2] using hb

variable (x0 x1 : Vec Ideal S352x512 .bf16) (x2 x3 : Vec Ideal S352x1024 .f32) (x4 : Vec Ideal S1024x1024 .bf16)
  (x5 x6 x7 : Vec Ideal S2816x1024 .bf16) (x8 x9 : Vec Ideal S1x1024 .f32) (i : BitVec 32)

abbrev woLo := View.ld x4 (Rect.unit (s := S1024x1024) ![0, 0] S512x1024.size inb_S1024x1024_S512x1024_0_0)
abbrev woHi := View.ld x4 (Rect.unit (s := S1024x1024) ![512, 0] S512x1024.size inb_S1024x1024_S512x1024_512_0)
abbrev ffLo (v : Vec Ideal S2816x1024 .bf16) :=
  View.ld v (Rect.unit (s := S2816x1024) ![0, 0] S1536x1024.size inb_S2816x1024_S1536x1024_0_0)
abbrev ffHi (v : Vec Ideal S2816x1024 .bf16) :=
  View.ld v (Rect.unit (s := S2816x1024) ![1536, 0] S1280x1024.size inb_S2816x1024_S1280x1024_1536_0)

def h1 := k0_pay5 x2 x0 (woLo x4) x1 (woHi x4)
def r2 := k0_pay6 x2 x0 (woLo x4) x1 (woHi x4)
def xh2 := k0_pay7 x2 x0 (woLo x4) x1 (woHi x4)
def n2 := k0_pay8 x2 x0 (woLo x4) x1 (woHi x4) x8
def a1 := k0_pay10 x2 x0 (woLo x4) x1 (woHi x4) x8 (ffLo x5)
def b1 := k0_pay15 (n2 x0 x1 x2 x4 x8) (k0_pay11 (ffLo x6))
def f1 := k0_pay13 (n2 x0 x1 x2 x4 x8) (a1 x0 x1 x2 x4 x5 x8) (k0_pay11 (ffLo x6))
def y1 := k0_pay16 (n2 x0 x1 x2 x4 x8) (k0_pay9 (F := Ideal)) (a1 x0 x1 x2 x4 x5 x8) (k0_pay11 (ffLo x6)) (ffLo x7)
def a2 := k0_pay17 (n2 x0 x1 x2 x4 x8) (ffHi x5)
def b2 := k0_pay18 (n2 x0 x1 x2 x4 x8) (ffHi x6)
def f2 := k0_pay19 (n2 x0 x1 x2 x4 x8) (ffHi x5) (ffHi x6)
def r3 := k0_pay24 (h1 x0 x1 x2 x4) (y1 x0 x1 x2 x4 x5 x6 x7 x8) (f2 x0 x1 x2 x4 x5 x6 x8) (ffHi x7)
def xh3 := k0_pay25 (h1 x0 x1 x2 x4) (y1 x0 x1 x2 x4 x5 x6 x7 x8) (f2 x0 x1 x2 x4 x5 x6 x8) (ffHi x7)
def loss := k0_pay31 (xh3 x0 x1 x2 x4 x5 x6 x7 x8) (k0_pay26 x9) 2112#32 (k0_pay27 i) (k0_pay28 i) (k0_pay29 i) 0#1 x3
def dg3 := k0_pay33 (xh3 x0 x1 x2 x4 x5 x6 x7 x8) (k0_pay26 x9) 2112#32 (k0_pay27 i) (k0_pay28 i) (k0_pay29 i) 0#1 x3
def dh2 := k0_pay34 (r3 x0 x1 x2 x4 x5 x6 x7 x8) (xh3 x0 x1 x2 x4 x5 x6 x7 x8) (k0_pay26 x9) 2112#32 (k0_pay27 i)
  (k0_pay28 i) (k0_pay29 i) 0#1 x3
def dh2b := k0_pay35 (r3 x0 x1 x2 x4 x5 x6 x7 x8) (xh3 x0 x1 x2 x4 x5 x6 x7 x8) (k0_pay26 x9) 2112#32 (k0_pay27 i)
  (k0_pay28 i) (k0_pay29 i) 0#1 x3
def da1 := k0_pay40 (dh2b x0 x1 x2 x3 x4 x5 x6 x7 x8 x9 i) (ffLo x7) (k0_pay14 (a1 x0 x1 x2 x4 x5 x8))
  (b1 x0 x1 x2 x4 x6 x8)
def db1 := k0_pay41 (dh2b x0 x1 x2 x3 x4 x5 x6 x7 x8 x9 i) (ffLo x7) (k0_pay14 (a1 x0 x1 x2 x4 x5 x8))
def d1 := k0_pay42 (dh2b x0 x1 x2 x3 x4 x5 x6 x7 x8 x9 i) (k0_pay36 (F := Ideal)) (ffLo x7)
  (k0_pay14 (a1 x0 x1 x2 x4 x5 x8)) (b1 x0 x1 x2 x4 x6 x8) (ffLo x5)
def da2 := k0_pay47 (dh2b x0 x1 x2 x3 x4 x5 x6 x7 x8 x9 i) (ffHi x7) (k0_pay21 (a2 x0 x1 x2 x4 x5 x8))
  (k0_pay22 (b2 x0 x1 x2 x4 x6 x8))
def db2 := k0_pay48 (dh2b x0 x1 x2 x3 x4 x5 x6 x7 x8 x9 i) (ffHi x7) (k0_pay21 (a2 x0 x1 x2 x4 x5 x8))
def d2 := k0_pay49 (dh2b x0 x1 x2 x3 x4 x5 x6 x7 x8 x9 i) (db1 x0 x1 x2 x3 x4 x5 x6 x7 x8 x9 i)
  (d1 x0 x1 x2 x3 x4 x5 x6 x7 x8 x9 i) (k0_pay43 (ffLo x6)) (constant S352x1024 .f32 0#32) (ffHi x7)
  (k0_pay21 (a2 x0 x1 x2 x4 x5 x8)) (k0_pay22 (b2 x0 x1 x2 x4 x6 x8)) (ffHi x5)
def dg2 := k0_pay51 (xh2 x0 x1 x2 x4) (db2 x0 x1 x2 x3 x4 x5 x6 x7 x8 x9 i) (d2 x0 x1 x2 x3 x4 x5 x6 x7 x8 x9 i) (ffHi x6)
def dh1 := k0_pay52 (r2 x0 x1 x2 x4) (xh2 x0 x1 x2 x4) (dh2 x0 x1 x2 x3 x4 x5 x6 x7 x8 x9 i)
  (db2 x0 x1 x2 x3 x4 x5 x6 x7 x8 x9 i) (d2 x0 x1 x2 x3 x4 x5 x6 x7 x8 x9 i) (ffHi x6) x8
def dh1b := k0_pay53 (r2 x0 x1 x2 x4) (xh2 x0 x1 x2 x4) (dh2 x0 x1 x2 x3 x4 x5 x6 x7 x8 x9 i)
  (db2 x0 x1 x2 x3 x4 x5 x6 x7 x8 x9 i) (d2 x0 x1 x2 x3 x4 x5 x6 x7 x8 x9 i) (ffHi x6) x8
def dyc := k0_pay54 (r2 x0 x1 x2 x4) (xh2 x0 x1 x2 x4) (dh2 x0 x1 x2 x3 x4 x5 x6 x7 x8 x9 i)
  (db2 x0 x1 x2 x3 x4 x5 x6 x7 x8 x9 i) (d2 x0 x1 x2 x3 x4 x5 x6 x7 x8 x9 i) (ffHi x6) x8 (woLo x4)
def dyg := k0_pay55 (r2 x0 x1 x2 x4) (xh2 x0 x1 x2 x4) (dh2 x0 x1 x2 x3 x4 x5 x6 x7 x8 x9 i)
  (db2 x0 x1 x2 x3 x4 x5 x6 x7 x8 x9 i) (d2 x0 x1 x2 x3 x4 x5 x6 x7 x8 x9 i) (ffHi x6) x8 (woHi x4)

/-- The blocks of tile `i` hold the reals of the rows `x` and of the weights `W`. -/
structure Holds (W : Weights) (x : Fin 352 → Row) (i : Fin 12) : Prop where
  yc : ∀ r k, x0 (ix2 r k) = (((x r).yc k : ℝ) : EReal)
  yg : ∀ r k, x1 (ix2 r k) = (((x r).yg k : ℝ) : EReal)
  h : ∀ r l, x2 (ix2 r l) = (((x r).h l : ℝ) : EReal)
  t : ∀ r l, x3 (ix2 r l) = (((x r).t l : ℝ) : EReal)
  wo : ∀ k l, x4 (ix2 k l) = ((W.wo k l : ℝ) : EReal)
  wg : ∀ j d, x5 (ix2 j d) = ((W.wg d j : ℝ) : EReal)
  wu : ∀ j d, x6 (ix2 j d) = ((W.wu d j : ℝ) : EReal)
  wd : ∀ j d, x7 (ix2 j d) = ((W.wd j d : ℝ) : EReal)
  g2 : ∀ l, x8 (ix2 0 l) = ((W.g2 l : ℝ) : EReal)
  g3 : ∀ l, x9 (ix2 0 l) = ((W.g3 l : ℝ) : EReal)
  live : ∀ r, (x r).live = decide (64 ≤ (352 * i.val + r.val) % 2112)

namespace Holds

variable {x0 x1 x2 x3 x4 x5 x6 x7 x8 x9} {W : Weights} {x : Fin 352 → Row} {i : Fin 12}
variable (H : Holds x0 x1 x2 x3 x4 x5 x6 x7 x8 x9 W x i) (r : Fin 352)
include H

theorem woLo_ (k : Fin 512) (l : Fin 1024) : woLo x4 (ix2 k l) = ((W.wo (lo k) l : ℝ) : EReal) :=
  (ld_rows x4 0 _ k l (lo k) l (by simp) rfl).trans (H.wo _ _)
theorem woHi_ (k : Fin 512) (l : Fin 1024) : woHi x4 (ix2 k l) = ((W.wo (hi k) l : ℝ) : EReal) :=
  (ld_rows x4 512 _ k l (hi k) l (by simp) rfl).trans (H.wo _ _)
theorem wgLo_ (k : Fin 1536) (d : Fin 1024) : ffLo x5 (ix2 k d) = ((W.wg d (loF k) : ℝ) : EReal) :=
  (ld_rows x5 0 _ k d (loF k) d (by simp) rfl).trans (H.wg _ _)
theorem wgHi_ (k : Fin 1280) (d : Fin 1024) : ffHi x5 (ix2 k d) = ((W.wg d (hiF k) : ℝ) : EReal) :=
  (ld_rows x5 1536 _ k d (hiF k) d (by simp) rfl).trans (H.wg _ _)
theorem wuLo_ (k : Fin 1536) (d : Fin 1024) : ffLo x6 (ix2 k d) = ((W.wu d (loF k) : ℝ) : EReal) :=
  (ld_rows x6 0 _ k d (loF k) d (by simp) rfl).trans (H.wu _ _)
theorem wuHi_ (k : Fin 1280) (d : Fin 1024) : ffHi x6 (ix2 k d) = ((W.wu d (hiF k) : ℝ) : EReal) :=
  (ld_rows x6 1536 _ k d (hiF k) d (by simp) rfl).trans (H.wu _ _)
theorem wdLo_ (k : Fin 1536) (d : Fin 1024) : ffLo x7 (ix2 k d) = ((W.wd (loF k) d : ℝ) : EReal) :=
  (ld_rows x7 0 _ k d (loF k) d (by simp) rfl).trans (H.wd _ _)
theorem wdHi_ (k : Fin 1280) (d : Fin 1024) : ffHi x7 (ix2 k d) = ((W.wd (hiF k) d : ℝ) : EReal) :=
  (ld_rows x7 1536 _ k d (hiF k) d (by simp) rfl).trans (H.wd _ _)

theorem h1 (l : Fin 1024) : Tile.h1 x0 x1 x2 x4 (ix2 r l) = (((x r).h1 W l : ℝ) : EReal) :=
  Kernel.h1 W (x r) r (H.h r) (H.yc r) H.woLo_ (H.yg r) H.woHi_ l
theorem r2 : Tile.r2 x0 x1 x2 x4 (ix2 r 0) = ((rn ((x r).h1 W) : ℝ) : EReal) :=
  Kernel.r2 W (x r) r (H.h r) (H.yc r) H.woLo_ (H.yg r) H.woHi_
theorem xh2 (l : Fin 1024) : Tile.xh2 x0 x1 x2 x4 (ix2 r l) = (((x r).xh2 W l : ℝ) : EReal) :=
  Kernel.xh2 W (x r) r (H.h r) (H.yc r) H.woLo_ (H.yg r) H.woHi_ l
theorem n2 (l : Fin 1024) : Tile.n2 x0 x1 x2 x4 x8 (ix2 r l) = (((x r).n2 W l : ℝ) : EReal) :=
  Kernel.n2 W (x r) r (H.h r) (H.yc r) H.woLo_ (H.yg r) H.woHi_ H.g2 l
theorem a1 (l : Fin 1536) : Tile.a1 x0 x1 x2 x4 x5 x8 (ix2 r l) = (((x r).a W (loF l) : ℝ) : EReal) :=
  Kernel.a1 W (x r) r (H.h r) (H.yc r) H.woLo_ (H.yg r) H.woHi_ H.g2 H.wgLo_ l
theorem a1b (l : Fin 1536) :
    (k0_pay14 (Tile.a1 x0 x1 x2 x4 x5 x8) : FVec Ideal S352x1536 .bf16) (ix2 r l) = (((x r).a W (loF l) : ℝ) : EReal) := by
  pointwise [k0_pay14]
  exact H.a1 r l
theorem wuLob_ (k : Fin 1536) (d : Fin 1024) :
    (k0_pay11 (ffLo x6) : FVec Ideal S1536x1024 .bf16) (ix2 k d) = ((W.wu d (loF k) : ℝ) : EReal) := by
  pointwise [k0_pay11]
  exact H.wuLo_ k d
theorem wuLoc_ (k : Fin 1536) (d : Fin 1024) :
    (k0_pay43 (ffLo x6) : FVec Ideal S1536x1024 .bf16) (ix2 k d) = ((W.wu d (loF k) : ℝ) : EReal) := by
  pointwise [k0_pay43]
  exact H.wuLo_ k d
theorem b1 (l : Fin 1536) : Tile.b1 x0 x1 x2 x4 x6 x8 (ix2 r l) = (((x r).b W (loF l) : ℝ) : EReal) := by
  unfold Tile.b1
  pointwise [k0_pay15]
  exact Kernel.b1 W (x r) r (H.n2 r) H.wuLob_ l
theorem f1 (l : Fin 1536) : Tile.f1 x0 x1 x2 x4 x5 x6 x8 (ix2 r l) = (((x r).f W (loF l) : ℝ) : EReal) :=
  Kernel.f1 W (x r) r (H.n2 r) (H.a1 r) H.wuLob_ l
theorem y1 (l : Fin 1024) :
    Tile.y1 x0 x1 x2 x4 x5 x6 x7 x8 (ix2 r l) = ((∑ k, (x r).f W (loF k) * W.wd (loF k) l : ℝ) : EReal) :=
  Kernel.y1 W (x r) r (H.n2 r) (fun l => by pointwise [k0_pay9]; rfl) (H.a1 r) H.wuLob_ H.wdLo_ l
theorem a2 (l : Fin 1280) : Tile.a2 x0 x1 x2 x4 x5 x8 (ix2 r l) = (((x r).a W (hiF l) : ℝ) : EReal) :=
  Kernel.a2 W (x r) r (H.n2 r) H.wgHi_ l
theorem a2b (l : Fin 1280) :
    (k0_pay21 (Tile.a2 x0 x1 x2 x4 x5 x8) : FVec Ideal S352x1280 .bf16) (ix2 r l) = (((x r).a W (hiF l) : ℝ) : EReal) := by
  pointwise [k0_pay21]
  exact H.a2 r l
theorem b2 (l : Fin 1280) : Tile.b2 x0 x1 x2 x4 x6 x8 (ix2 r l) = (((x r).b W (hiF l) : ℝ) : EReal) :=
  Kernel.b2 W (x r) r (H.n2 r) H.wuHi_ l
theorem b2b (l : Fin 1280) :
    (k0_pay22 (Tile.b2 x0 x1 x2 x4 x6 x8) : FVec Ideal S352x1280 .bf16) (ix2 r l) = (((x r).b W (hiF l) : ℝ) : EReal) := by
  pointwise [k0_pay22]
  exact H.b2 r l
theorem f2 (l : Fin 1280) : Tile.f2 x0 x1 x2 x4 x5 x6 x8 (ix2 r l) = (((x r).f W (hiF l) : ℝ) : EReal) :=
  Kernel.f2 W (x r) r (H.n2 r) H.wgHi_ H.wuHi_ l
theorem r3 : Tile.r3 x0 x1 x2 x4 x5 x6 x7 x8 (ix2 r 0) = ((rn ((x r).h2 W) : ℝ) : EReal) :=
  Kernel.r3 W (x r) r (H.h1 r) (H.y1 r) (H.f2 r) H.wdHi_
theorem xh3 (l : Fin 1024) : Tile.xh3 x0 x1 x2 x4 x5 x6 x7 x8 (ix2 r l) = (((x r).xh3 W l : ℝ) : EReal) :=
  Kernel.xh3 W (x r) r (H.h1 r) (H.y1 r) (H.f2 r) H.wdHi_ l
theorem g3b (l : Fin 1024) : (k0_pay26 x9 : FVec Ideal S1x1024 .f32) (ix2 0 l) = ((W.g3 l : ℝ) : EReal) := by
  pointwise [k0_pay26]
  exact H.g3 l
/-- The row's position word says whether the row counts in the loss. -/
theorem word : IntOp.cmpi .sge
      (Scalar.select
        (IntOp.andi (IntOp.xori ((k0_pay29 (BitVec.ofNat 32 i.val)) (ix2 r 0)) 0#1)
          ((k0_pay28 (BitVec.ofNat 32 i.val)) (ix2 r 0)))
        (IntOp.addi ((k0_pay27 (BitVec.ofNat 32 i.val)) (ix2 r 0)) 2112#32)
        ((k0_pay27 (BitVec.ofNat 32 i.val)) (ix2 r 0))) 64#32 = if (x r).live then 1#1 else 0#1 := by
  refine (Kernel.live_word i r).trans ?_
  rw [H.live r]
  by_cases h : 64 ≤ (352 * i.val + r.val) % 2112 <;> simp [h]

/-- The tile's loss. -/
theorem loss : Tile.loss x0 x1 x2 x3 x4 x5 x6 x7 x8 x9 (BitVec.ofNat 32 i.val) (ix2 0 0) =
    ((∑ r, (x r).loss W : ℝ) : EReal) :=
  Kernel.loss W x H.xh3 H.g3b H.t H.word
theorem dg3 (l : Fin 1024) : Tile.dg3 x0 x1 x2 x3 x4 x5 x6 x7 x8 x9 (BitVec.ofNat 32 i.val) (ix2 0 l) =
    ((∑ r, (x r).dy W l * (x r).xh3 W l : ℝ) : EReal) :=
  Kernel.dg3 W x H.xh3 H.g3b H.t H.word l
theorem dh2 (l : Fin 1024) : Tile.dh2 x0 x1 x2 x3 x4 x5 x6 x7 x8 x9 (BitVec.ofNat 32 i.val) (ix2 r l) =
    (((x r).dh2 W l : ℝ) : EReal) :=
  Kernel.dh2 W (x r) r (H.r3 r) (H.xh3 r) H.g3b (H.t r) (H.word r) l
theorem dh2b (l : Fin 1024) : Tile.dh2b x0 x1 x2 x3 x4 x5 x6 x7 x8 x9 (BitVec.ofNat 32 i.val) (ix2 r l) =
    (((x r).dh2 W l : ℝ) : EReal) := by
  unfold Tile.dh2b
  pointwise [k0_pay35]
  exact H.dh2 r l
theorem da1 (l : Fin 1536) : Tile.da1 x0 x1 x2 x3 x4 x5 x6 x7 x8 x9 (BitVec.ofNat 32 i.val) (ix2 r l) =
    (((x r).da W (loF l) : ℝ) : EReal) :=
  Kernel.da1 W (x r) r (H.dh2b r) H.wdLo_ (H.a1b r) (H.b1 r) l
theorem db1 (l : Fin 1536) : Tile.db1 x0 x1 x2 x3 x4 x5 x6 x7 x8 x9 (BitVec.ofNat 32 i.val) (ix2 r l) =
    (((x r).db W (loF l) : ℝ) : EReal) :=
  Kernel.db1 W (x r) r (H.dh2b r) H.wdLo_ (H.a1b r) l
theorem d1 (l : Fin 1024) : Tile.d1 x0 x1 x2 x3 x4 x5 x6 x7 x8 x9 (BitVec.ofNat 32 i.val) (ix2 r l) =
    ((∑ k, (x r).da W (loF k) * W.wg l (loF k) : ℝ) : EReal) :=
  Kernel.d1 W (x r) r (H.dh2b r) (fun l => by pointwise [k0_pay36]; rfl) H.wdLo_ (H.a1b r) (H.b1 r) H.wgLo_ l
theorem da2 (l : Fin 1280) : Tile.da2 x0 x1 x2 x3 x4 x5 x6 x7 x8 x9 (BitVec.ofNat 32 i.val) (ix2 r l) =
    (((x r).da W (hiF l) : ℝ) : EReal) :=
  Kernel.da2 W (x r) r (H.dh2b r) H.wdHi_ (H.a2b r) (H.b2b r) l
theorem db2 (l : Fin 1280) : Tile.db2 x0 x1 x2 x3 x4 x5 x6 x7 x8 x9 (BitVec.ofNat 32 i.val) (ix2 r l) =
    (((x r).db W (hiF l) : ℝ) : EReal) :=
  Kernel.db2 W (x r) r (H.dh2b r) H.wdHi_ (H.a2b r) l
theorem d2 (l : Fin 1024) : Tile.d2 x0 x1 x2 x3 x4 x5 x6 x7 x8 x9 (BitVec.ofNat 32 i.val) (ix2 r l) =
    ((∑ j, (x r).da W j * W.wg l j + ∑ k, (x r).db W (loF k) * W.wu l (loF k) : ℝ) : EReal) :=
  Kernel.d2 W (x r) r (H.dh2b r) (H.db1 r) (H.d1 r) H.wuLoc_ (fun l => ofBits_zero) H.wdHi_ (H.a2b r) (H.b2b r) H.wgHi_ l
theorem dg2 (l : Fin 1024) : Tile.dg2 x0 x1 x2 x3 x4 x5 x6 x7 x8 x9 (BitVec.ofNat 32 i.val) (ix2 0 l) =
    ((∑ r, (x r).dn2 W l * (x r).xh2 W l : ℝ) : EReal) :=
  Kernel.dg2 W x H.xh2 H.db2 H.d2 H.wuHi_ l
theorem dh1 (l : Fin 1024) : Tile.dh1 x0 x1 x2 x3 x4 x5 x6 x7 x8 x9 (BitVec.ofNat 32 i.val) (ix2 r l) =
    (((x r).dh1 W l : ℝ) : EReal) :=
  Kernel.dh1 W (x r) r (H.r2 r) (H.xh2 r) (H.dh2 r) (H.db2 r) (H.d2 r) H.wuHi_ H.g2 l
theorem dh1b (l : Fin 1024) : Tile.dh1b x0 x1 x2 x3 x4 x5 x6 x7 x8 x9 (BitVec.ofNat 32 i.val) (ix2 r l) =
    (((x r).dh1 W l : ℝ) : EReal) := by
  unfold Tile.dh1b
  pointwise [k0_pay53]
  exact H.dh1 r l
theorem dyc (l : Fin 512) : Tile.dyc x0 x1 x2 x3 x4 x5 x6 x7 x8 x9 (BitVec.ofNat 32 i.val) (ix2 r l) =
    (((x r).dyc W l : ℝ) : EReal) :=
  Kernel.dyc W (x r) r (H.r2 r) (H.xh2 r) (H.dh2 r) (H.db2 r) (H.d2 r) H.wuHi_ H.g2 H.woLo_ l
theorem dyg (l : Fin 512) : Tile.dyg x0 x1 x2 x3 x4 x5 x6 x7 x8 x9 (BitVec.ofNat 32 i.val) (ix2 r l) =
    (((x r).dyg W l : ℝ) : EReal) :=
  Kernel.dyg W (x r) r (H.r2 r) (H.xh2 r) (H.dh2 r) (H.db2 r) (H.d2 r) H.wuHi_ H.g2 H.woHi_ l

end Holds

end Cert.Mid.Tile

end
-- ==== Proof.Words.lean ====
/-
  THE VALUES OF A GRID STEP, as the run names them, are the tile's values of Tile.lean: the first step's names, then the
  later steps'. Each is its own arithmetic over the values before it.
-/
module

public import proofs.«01_k».proof.Proof.Tile
public import proofs.«01_k».proof.Proof.Gen.KernelIdeal.Value

@[expose] public section

set_option maxRecDepth 16384

noncomputable section

namespace Cert.Mid.Step

open Cert.KernelIdeal Cert.KernelIdeal.Gen Idealize.ShloMosaic Idealize.ShloMosaic.TcCoe Idealize.SL.Sem
open Cert.Mid.Tile (hz)

abbrev lo : Rect S352x2816 := Rect.unit (s := S352x2816) ![0, 0] S352x1536.size inb_S352x2816_S352x1536_0_0
abbrev hi : Rect S352x2816 := Rect.unit (s := S352x2816) ![0, 1536] S352x1280.size inb_S352x2816_S352x1280_0_1536

/-- The two column blocks do not meet. -/
theorem disjoint_lo_hi : Disjoint lo.set hi.set :=
  Rect.unit_disjoint (inb := inb_S352x2816_S352x1536_0_0) (inb' := inb_S352x2816_S352x1280_0_1536) 1
    (Or.inl (show 0 + 1536 ≤ 1536 by omega))

/-- A load of the first column block after both blocks were stored. -/
theorem read_pair {sg : RefSig} {κ : Kind} {sp : Space} (v : View sg κ sp S352x2816 .bf16)
    (w1 : S352x1280.Idx → Elt Ideal .bf16) (w0 : S352x1536.Idx → Elt Ideal .bf16) :
    v.readCov [⟨hi, w1⟩, ⟨lo, w0⟩] lo.toLoadRect = w0 := by
  rw [View.readCov_cons_of_disjoint v ⟨hi, w1⟩ _ lo.toLoadRect disjoint_lo_hi.symm]
  exact View.readCov_cons_toLoadRect v lo w0 []

/-- A load of the second column block after the first was stored again. -/
theorem read_triple {sg : RefSig} {κ : Kind} {sp : Space} (v : View sg κ sp S352x2816 .bf16)
    (w2 : S352x1536.Idx → Elt Ideal .bf16) (w1 : S352x1280.Idx → Elt Ideal .bf16)
    (L : List (View.Piece (Elt Ideal) S352x2816 .bf16)) :
    v.readCov (⟨lo, w2⟩ :: ⟨hi, w1⟩ :: L) hi.toLoadRect = w1 := by
  rw [View.readCov_cons_of_disjoint v ⟨lo, w2⟩ _ hi.toLoadRect disjoint_lo_hi]
  exact View.readCov_cons_toLoadRect v hi w1 L

variable (c : Dev nD) (i : grid0.Coords)
  (arg1 : Memref sig .tc .vmem S352x512 .bf16) (harg1 : arg1.IsWhole)
  (arg2 : Memref sig .tc .vmem S352x512 .bf16) (harg2 : arg2.IsWhole)
  (arg3 : Memref sig .tc .vmem S352x1024 .f32) (harg3 : arg3.IsWhole)
  (arg4 : Memref sig .tc .vmem S352x1024 .f32) (harg4 : arg4.IsWhole)
  (arg5 : Memref sig .tc .vmem S1024x1024 .bf16) (harg5 : arg5.IsWhole)
  (arg6 : Memref sig .tc .vmem S2816x1024 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S1x1024 .f32) (harg9 : arg9.IsWhole)
  (arg10 : Memref sig .tc .vmem S1x1024 .f32) (harg10 : arg10.IsWhole)
  (arg14 arg15 : Memref sig .tc .vmem S352x2816 .bf16)
  (x0 x1 : Vec Ideal S352x512 .bf16) (x2 x3 : Vec Ideal S352x1024 .f32) (x4 : Vec Ideal S1024x1024 .bf16)
  (x5 x6 x7 : Vec Ideal S2816x1024 .bf16) (x8 x9 : Vec Ideal S1x1024 .f32)

theorem A_r : kernelRun0_A.sl.r (F := Ideal) c arg1 harg1 arg2 harg2 arg3 harg3 arg5 harg5 x0 x1 x2 x4 =
    Tile.h1 x0 x1 x2 x4 := by
  unfold kernelRun0_A.sl.r
  simp only [View.readAt_eq_ld, Memref.IsWhole.read_unread, View.ld_unit_zero (S := S352x1024) hz, View.ld_unit_zero (S := S352x512) hz]
  rfl
theorem A_r_1 : kernelRun0_A.sl.r_1 (F := Ideal) c arg1 harg1 arg2 harg2 arg3 harg3 arg5 harg5 x0 x1 x2 x4 =
    Tile.r2 x0 x1 x2 x4 := by
  unfold kernelRun0_A.sl.r_1
  simp only [View.readAt_eq_ld, Memref.IsWhole.read_unread, View.ld_unit_zero (S := S352x1024) hz, View.ld_unit_zero (S := S352x512) hz]
  rfl
theorem A_r_2 : kernelRun0_A.sl.r_2 (F := Ideal) c arg1 harg1 arg2 harg2 arg3 harg3 arg5 harg5 x0 x1 x2 x4 =
    Tile.xh2 x0 x1 x2 x4 := by
  unfold kernelRun0_A.sl.r_2
  simp only [View.readAt_eq_ld, Memref.IsWhole.read_unread, View.ld_unit_zero (S := S352x1024) hz, View.ld_unit_zero (S := S352x512) hz]
  rfl
theorem A_r_3 : kernelRun0_A.sl.r_3 (F := Ideal) c arg1 harg1 arg2 harg2 arg3 harg3 arg5 harg5 arg9 harg9 x0 x1 x2 x4
      x8 =
    Tile.n2 x0 x1 x2 x4 x8 := by
  unfold kernelRun0_A.sl.r_3
  simp only [View.readAt_eq_ld, Memref.IsWhole.read_unread, View.ld_unit_zero (S := S352x1024) hz, View.ld_unit_zero (S := S352x512) hz, View.ld_unit_zero (S := S1x1024) hz]
  rfl
theorem A_r_4 : kernelRun0_A.sl.r_4 (F := Ideal) c arg1 harg1 arg2 harg2 arg3 harg3 arg5 harg5 arg6 harg6 arg9 harg9
      x0 x1 x2 x4 x5 x8 =
    Tile.a1 x0 x1 x2 x4 x5 x8 := by
  unfold kernelRun0_A.sl.r_4
  simp only [View.readAt_eq_ld, Memref.IsWhole.read_unread, View.ld_unit_zero (S := S352x1024) hz, View.ld_unit_zero (S := S352x512) hz, View.ld_unit_zero (S := S1x1024) hz]
  rfl
theorem A_r_5 : kernelRun0_A.sl.r_5 (F := Ideal) c arg7 harg7 x6 =
    k0_pay11 (Tile.ffLo x6) := by
  unfold kernelRun0_A.sl.r_5
  simp only [View.readAt_eq_ld, Memref.IsWhole.read_unread]
theorem A_r_6 : kernelRun0_A.sl.r_6 (F := Ideal) c arg1 harg1 arg2 harg2 arg3 harg3 arg5 harg5 arg6 harg6 arg7 harg7
      arg8 harg8 arg9 harg9 x0 x1 x2 x4 x5 x6 x7 x8 =
    Tile.y1 x0 x1 x2 x4 x5 x6 x7 x8 := by
  unfold kernelRun0_A.sl.r_6
  simp only [A_r_3, A_r_4, A_r_5, View.readAt_eq_ld, Memref.IsWhole.read_unread]
  rfl
theorem A_r_7 : kernelRun0_A.sl.r_7 (F := Ideal) c arg1 harg1 arg2 harg2 arg3 harg3 arg5 harg5 arg6 harg6 arg9 harg9
      x0 x1 x2 x4 x5 x8 =
    Tile.a2 x0 x1 x2 x4 x5 x8 := by
  unfold kernelRun0_A.sl.r_7
  simp only [A_r_3, View.readAt_eq_ld, Memref.IsWhole.read_unread]
  rfl
theorem A_r_8 : kernelRun0_A.sl.r_8 (F := Ideal) c arg1 harg1 arg2 harg2 arg3 harg3 arg5 harg5 arg7 harg7 arg9 harg9
      x0 x1 x2 x4 x6 x8 =
    Tile.b2 x0 x1 x2 x4 x6 x8 := by
  unfold kernelRun0_A.sl.r_8
  simp only [A_r_3, View.readAt_eq_ld, Memref.IsWhole.read_unread]
  rfl
theorem A_r_9 : kernelRun0_A.sl.r_9 (F := Ideal) c arg1 harg1 arg2 harg2 arg3 harg3 arg5 harg5 arg6 harg6 arg7 harg7
      arg9 harg9 x0 x1 x2 x4 x5 x6 x8 =
    Tile.f2 x0 x1 x2 x4 x5 x6 x8 := by
  unfold kernelRun0_A.sl.r_9
  simp only [A_r_3, View.readAt_eq_ld, Memref.IsWhole.read_unread]
  rfl
theorem A_r_10 : kernelRun0_A.sl.r_10 (F := Ideal) c arg1 harg1 arg2 harg2 arg3 harg3 arg5 harg5 arg6 harg6 arg7 harg7
      arg8 harg8 arg9 harg9 x0 x1 x2 x4 x5 x6 x7 x8 =
    Tile.r3 x0 x1 x2 x4 x5 x6 x7 x8 := by
  unfold kernelRun0_A.sl.r_10
  simp only [A_r, A_r_6, A_r_9, View.readAt_eq_ld, Memref.IsWhole.read_unread]
  rfl
theorem A_r_11 : kernelRun0_A.sl.r_11 (F := Ideal) c arg1 harg1 arg2 harg2 arg3 harg3 arg5 harg5 arg6 harg6 arg7 harg7
      arg8 harg8 arg9 harg9 x0 x1 x2 x4 x5 x6 x7 x8 =
    Tile.xh3 x0 x1 x2 x4 x5 x6 x7 x8 := by
  unfold kernelRun0_A.sl.r_11
  simp only [A_r, A_r_6, A_r_9, View.readAt_eq_ld, Memref.IsWhole.read_unread]
  rfl
theorem A_r_12 : kernelRun0_A.sl.r_12 (F := Ideal) c arg10 harg10 x9 =
    k0_pay26 x9 := by
  unfold kernelRun0_A.sl.r_12
  simp only [View.readAt_eq_ld, Memref.IsWhole.read_unread, View.ld_unit_zero (S := S1x1024) hz]
theorem A_r_13 : kernelRun0_A.sl.r_13 i =
    k0_pay27 (BitVec.ofNat 32 (i 0).val) := rfl
theorem A_r_14 : kernelRun0_A.sl.r_14 i =
    k0_pay28 (BitVec.ofNat 32 (i 0).val) := rfl
theorem A_r_15 : kernelRun0_A.sl.r_15 i =
    k0_pay29 (BitVec.ofNat 32 (i 0).val) := rfl
theorem A_r_16 : kernelRun0_A.sl.r_16 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.loss x0 x1 x2 x3 x4 x5 x6 x7 x8 x9 (BitVec.ofNat 32 (i 0).val) := by
  unfold kernelRun0_A.sl.r_16
  simp only [A_r_11, A_r_12, A_r_13, A_r_14, A_r_15, View.readAt_eq_ld, Memref.IsWhole.read_unread, View.ld_unit_zero (S := S352x1024) hz]
  rfl
theorem A_r_17 : kernelRun0_A.sl.r_17 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dg3 x0 x1 x2 x3 x4 x5 x6 x7 x8 x9 (BitVec.ofNat 32 (i 0).val) := by
  unfold kernelRun0_A.sl.r_17
  simp only [A_r_11, A_r_12, A_r_13, A_r_14, A_r_15, View.readAt_eq_ld, Memref.IsWhole.read_unread, View.ld_unit_zero (S := S352x1024) hz]
  rfl
theorem A_r_18 : kernelRun0_A.sl.r_18 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dh2 x0 x1 x2 x3 x4 x5 x6 x7 x8 x9 (BitVec.ofNat 32 (i 0).val) := by
  unfold kernelRun0_A.sl.r_18
  simp only [A_r_10, A_r_11, A_r_12, A_r_13, A_r_14, A_r_15, View.readAt_eq_ld, Memref.IsWhole.read_unread, View.ld_unit_zero (S := S352x1024) hz]
  rfl
theorem A_r_19 : kernelRun0_A.sl.r_19 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dh2b x0 x1 x2 x3 x4 x5 x6 x7 x8 x9 (BitVec.ofNat 32 (i 0).val) := by
  unfold kernelRun0_A.sl.r_19
  simp only [A_r_10, A_r_11, A_r_12, A_r_13, A_r_14, A_r_15, View.readAt_eq_ld, Memref.IsWhole.read_unread, View.ld_unit_zero (S := S352x1024) hz]
  rfl
theorem A_v152 : kernelRun0_A.sl.v152 (F := Ideal) c arg1 harg1 arg2 harg2 arg3 harg3 arg5 harg5 arg6 harg6 arg9 harg9
      arg14 x0 x1 x2 x4 x5 x8 =
    k0_pay14 (Tile.a1 x0 x1 x2 x4 x5 x8) := by
  unfold kernelRun0_A.sl.v152 kernelRun0_A.sl.H13_2
  rw [read_pair, A_r_4]
theorem A_v155 : kernelRun0_A.sl.v155 (F := Ideal) c arg1 harg1 arg2 harg2 arg3 harg3 arg5 harg5 arg7 harg7 arg9 harg9
      arg15 x0 x1 x2 x4 x6 x8 =
    Tile.b1 x0 x1 x2 x4 x6 x8 := by
  unfold kernelRun0_A.sl.v155 kernelRun0_A.sl.H14_2
  rw [read_pair, A_r_3, A_r_5]
  rfl
theorem A_r_20 : kernelRun0_A.sl.r_20 (F := Ideal) c i arg1 harg1 arg2 harg2 arg3 harg3 arg4 harg4 arg5 harg5 arg6
      harg6 arg7 harg7 arg8 harg8 arg9 harg9 arg10 harg10 arg14 x0 x1 x2 x3 x4 x5 x6 x7 x8 x9 =
    Tile.db1 x0 x1 x2 x3 x4 x5 x6 x7 x8 x9 (BitVec.ofNat 32 (i 0).val) := by
  unfold kernelRun0_A.sl.r_20
  simp only [A_r_19, A_v152, View.readAt_eq_ld, Memref.IsWhole.read_unread]
  rfl
theorem A_r_21 : kernelRun0_A.sl.r_21 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.d1 x0 x1 x2 x3 x4 x5 x6 x7 x8 x9 (BitVec.ofNat 32 (i 0).val) := by
  unfold kernelRun0_A.sl.r_21
  simp only [A_r_19, A_v152, A_v155, View.readAt_eq_ld, Memref.IsWhole.read_unread]
  rfl
theorem A_r_22 : kernelRun0_A.sl.r_22 (F := Ideal) c arg7 harg7 x6 =
    k0_pay43 (Tile.ffLo x6) := by
  unfold kernelRun0_A.sl.r_22
  simp only [View.readAt_eq_ld, Memref.IsWhole.read_unread]
theorem A_v190 : kernelRun0_A.sl.v190 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    k0_pay21 (Tile.a2 x0 x1 x2 x4 x5 x8) := by
  unfold kernelRun0_A.sl.v190 kernelRun0_A.sl.H13_3 kernelRun0_A.sl.H13_2
  rw [read_triple, A_r_7]
theorem A_v193 : kernelRun0_A.sl.v193 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    k0_pay22 (Tile.b2 x0 x1 x2 x4 x6 x8) := by
  unfold kernelRun0_A.sl.v193 kernelRun0_A.sl.H14_3 kernelRun0_A.sl.H14_2
  rw [read_triple, A_r_8]
theorem A_r_23 : kernelRun0_A.sl.r_23 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.db2 x0 x1 x2 x3 x4 x5 x6 x7 x8 x9 (BitVec.ofNat 32 (i 0).val) := by
  unfold kernelRun0_A.sl.r_23
  simp only [A_r_19, A_v190, View.readAt_eq_ld, Memref.IsWhole.read_unread]
  rfl
theorem A_r_24 : kernelRun0_A.sl.r_24 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.d2 x0 x1 x2 x3 x4 x5 x6 x7 x8 x9 (BitVec.ofNat 32 (i 0).val) := by
  unfold kernelRun0_A.sl.r_24
  simp only [A_r_19, A_r_20, A_r_21, A_r_22, A_v190, A_v193, View.readAt_eq_ld, Memref.IsWhole.read_unread]
  rfl
theorem A_r_25 : kernelRun0_A.sl.r_25 (F := Ideal) c arg7 harg7 x6 =
    Tile.ffHi x6 := by
  unfold kernelRun0_A.sl.r_25
  simp only [View.readAt_eq_ld, Memref.IsWhole.read_unread]
theorem A_r_26 : kernelRun0_A.sl.r_26 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.dg2 x0 x1 x2 x3 x4 x5 x6 x7 x8 x9 (BitVec.ofNat 32 (i 0).val) := by
  unfold kernelRun0_A.sl.r_26
  simp only [A_r_2, A_r_23, A_r_24, A_r_25]
  rfl

theorem B_r : kernelRun0_B.sl.r (F := Ideal) c arg1 harg1 arg2 harg2 arg3 harg3 arg5 harg5 x0 x1 x2 x4 =
    Tile.h1 x0 x1 x2 x4 := by
  unfold kernelRun0_B.sl.r
  simp only [View.readAt_eq_ld, Memref.IsWhole.read_unread, View.ld_unit_zero (S := S352x1024) hz, View.ld_unit_zero (S := S352x512) hz]
  rfl
theorem B_r_1 : kernelRun0_B.sl.r_1 (F := Ideal) c arg1 harg1 arg2 harg2 arg3 harg3 arg5 harg5 x0 x1 x2 x4 =
    Tile.r2 x0 x1 x2 x4 := by
  unfold kernelRun0_B.sl.r_1
  simp only [View.readAt_eq_ld, Memref.IsWhole.read_unread, View.ld_unit_zero (S := S352x1024) hz, View.ld_unit_zero (S := S352x512) hz]
  rfl
theorem B_r_2 : kernelRun0_B.sl.r_2 (F := Ideal) c arg1 harg1 arg2 harg2 arg3 harg3 arg5 harg5 x0 x1 x2 x4 =
    Tile.xh2 x0 x1 x2 x4 := by
  unfold kernelRun0_B.sl.r_2
  simp only [View.readAt_eq_ld, Memref.IsWhole.read_unread, View.ld_unit_zero (S := S352x1024) hz, View.ld_unit_zero (S := S352x512) hz]
  rfl
theorem B_r_3 : kernelRun0_B.sl.r_3 (F := Ideal) c arg1 harg1 arg2 harg2 arg3 harg3 arg5 harg5 arg9 harg9 x0 x1 x2 x4
      x8 =
    Tile.n2 x0 x1 x2 x4 x8 := by
  unfold kernelRun0_B.sl.r_3
  simp only [View.readAt_eq_ld, Memref.IsWhole.read_unread, View.ld_unit_zero (S := S352x1024) hz, View.ld_unit_zero (S := S352x512) hz, View.ld_unit_zero (S := S1x1024) hz]
  rfl
theorem B_r_4 : kernelRun0_B.sl.r_4 (F := Ideal) c arg1 harg1 arg2 harg2 arg3 harg3 arg5 harg5 arg6 harg6 arg9 harg9
      x0 x1 x2 x4 x5 x8 =
    Tile.a1 x0 x1 x2 x4 x5 x8 := by
  unfold kernelRun0_B.sl.r_4
  simp only [View.readAt_eq_ld, Memref.IsWhole.read_unread, View.ld_unit_zero (S := S352x1024) hz, View.ld_unit_zero (S := S352x512) hz, View.ld_unit_zero (S := S1x1024) hz]
  rfl
theorem B_r_5 : kernelRun0_B.sl.r_5 (F := Ideal) c arg7 harg7 x6 =
    k0_pay11 (Tile.ffLo x6) := by
  unfold kernelRun0_B.sl.r_5
  simp only [View.readAt_eq_ld, Memref.IsWhole.read_unread]
theorem B_r_6 : kernelRun0_B.sl.r_6 (F := Ideal) c arg1 harg1 arg2 harg2 arg3 harg3 arg5 harg5 arg6 harg6 arg7 harg7
      arg8 harg8 arg9 harg9 x0 x1 x2 x4 x5 x6 x7 x8 =
    Tile.y1 x0 x1 x2 x4 x5 x6 x7 x8 := by
  unfold kernelRun0_B.sl.r_6
  simp only [B_r_3, B_r_4, B_r_5, View.readAt_eq_ld, Memref.IsWhole.read_unread]
  rfl
theorem B_r_7 : kernelRun0_B.sl.r_7 (F := Ideal) c arg1 harg1 arg2 harg2 arg3 harg3 arg5 harg5 arg6 harg6 arg9 harg9
      x0 x1 x2 x4 x5 x8 =
    Tile.a2 x0 x1 x2 x4 x5 x8 := by
  unfold kernelRun0_B.sl.r_7
  simp only [B_r_3, View.readAt_eq_ld, Memref.IsWhole.read_unread]
  rfl
theorem B_r_8 : kernelRun0_B.sl.r_8 (F := Ideal) c arg1 harg1 arg2 harg2 arg3 harg3 arg5 harg5 arg7 harg7 arg9 harg9
      x0 x1 x2 x4 x6 x8 =
    Tile.b2 x0 x1 x2 x4 x6 x8 := by
  unfold kernelRun0_B.sl.r_8
  simp only [B_r_3, View.readAt_eq_ld, Memref.IsWhole.read_unread]
  rfl
theorem B_r_9 : kernelRun0_B.sl.r_9 (F := Ideal) c arg1 harg1 arg2 harg2 arg3 harg3 arg5 harg5 arg6 harg6 arg7 harg7
      arg9 harg9 x0 x1 x2 x4 x5 x6 x8 =
    Tile.f2 x0 x1 x2 x4 x5 x6 x8 := by
  unfold kernelRun0_B.sl.r_9
  simp only [B_r_3, View.readAt_eq_ld, Memref.IsWhole.read_unread]
  rfl
theorem B_r_10 : kernelRun0_B.sl.r_10 (F := Ideal) c arg1 harg1 arg2 harg2 arg3 harg3 arg5 harg5 arg6 harg6 arg7 harg7
      arg8 harg8 arg9 harg9 x0 x1 x2 x4 x5 x6 x7 x8 =
    Tile.r3 x0 x1 x2 x4 x5 x6 x7 x8 := by
  unfold kernelRun0_B.sl.r_10
  simp only [B_r, B_r_6, B_r_9, View.readAt_eq_ld, Memref.IsWhole.read_unread]
  rfl
theorem B_r_11 : kernelRun0_B.sl.r_11 (F := Ideal) c arg1 harg1 arg2 harg2 arg3 harg3 arg5 harg5 arg6 harg6 arg7 harg7
      arg8 harg8 arg9 harg9 x0 x1 x2 x4 x5 x6 x7 x8 =
    Tile.xh3 x0 x1 x2 x4 x5 x6 x7 x8 := by
  unfold kernelRun0_B.sl.r_11
  simp only [B_r, B_r_6, B_r_9, View.readAt_eq_ld, Memref.IsWhole.read_unread]
  rfl
theorem B_r_12 : kernelRun0_B.sl.r_12 (F := Ideal) c arg10 harg10 x9 =
    k0_pay26 x9 := by
  unfold kernelRun0_B.sl.r_12
  simp only [View.readAt_eq_ld, Memref.IsWhole.read_unread, View.ld_unit_zero (S := S1x1024) hz]
theorem B_r_13 : kernelRun0_B.sl.r_13 i =
    k0_pay27 (BitVec.ofNat 32 (i 0).val) := rfl
theorem B_r_14 : kernelRun0_B.sl.r_14 i =
    k0_pay28 (BitVec.ofNat 32 (i 0).val) := rfl
theorem B_r_15 : kernelRun0_B.sl.r_15 i =
    k0_pay29 (BitVec.ofNat 32 (i 0).val) := rfl
theorem B_r_16 : kernelRun0_B.sl.r_16 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.loss x0 x1 x2 x3 x4 x5 x6 x7 x8 x9 (BitVec.ofNat 32 (i 0).val) := by
  unfold kernelRun0_B.sl.r_16
  simp only [B_r_11, B_r_12, B_r_13, B_r_14, B_r_15, View.readAt_eq_ld, Memref.IsWhole.read_unread, View.ld_unit_zero (S := S352x1024) hz]
  rfl
theorem B_r_17 : kernelRun0_B.sl.r_17 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dg3 x0 x1 x2 x3 x4 x5 x6 x7 x8 x9 (BitVec.ofNat 32 (i 0).val) := by
  unfold kernelRun0_B.sl.r_17
  simp only [B_r_11, B_r_12, B_r_13, B_r_14, B_r_15, View.readAt_eq_ld, Memref.IsWhole.read_unread, View.ld_unit_zero (S := S352x1024) hz]
  rfl
theorem B_r_18 : kernelRun0_B.sl.r_18 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dh2 x0 x1 x2 x3 x4 x5 x6 x7 x8 x9 (BitVec.ofNat 32 (i 0).val) := by
  unfold kernelRun0_B.sl.r_18
  simp only [B_r_10, B_r_11, B_r_12, B_r_13, B_r_14, B_r_15, View.readAt_eq_ld, Memref.IsWhole.read_unread, View.ld_unit_zero (S := S352x1024) hz]
  rfl
theorem B_r_19 : kernelRun0_B.sl.r_19 (F := Ideal) c i arg1 harg1 arg2 harg2 arg3 harg3 arg4 harg4 arg5 harg5 arg6
      harg6 arg7 harg7 arg8 harg8 arg9 harg9 arg10 harg10 x0 x1 x2 x3 x4 x5 x6 x7 x8 x9 =
    Tile.dh2b x0 x1 x2 x3 x4 x5 x6 x7 x8 x9 (BitVec.ofNat 32 (i 0).val) := by
  unfold kernelRun0_B.sl.r_19
  simp only [B_r_10, B_r_11, B_r_12, B_r_13, B_r_14, B_r_15, View.readAt_eq_ld, Memref.IsWhole.read_unread, View.ld_unit_zero (S := S352x1024) hz]
  rfl
theorem B_v152 : kernelRun0_B.sl.v152 (F := Ideal) c arg1 harg1 arg2 harg2 arg3 harg3 arg5 harg5 arg6 harg6 arg9 harg9
      arg14 x0 x1 x2 x4 x5 x8 =
    k0_pay14 (Tile.a1 x0 x1 x2 x4 x5 x8) := by
  unfold kernelRun0_B.sl.v152 kernelRun0_B.sl.H13_2
  rw [read_pair, B_r_4]
theorem B_v155 : kernelRun0_B.sl.v155 (F := Ideal) c arg1 harg1 arg2 harg2 arg3 harg3 arg5 harg5 arg7 harg7 arg9 harg9
      arg15 x0 x1 x2 x4 x6 x8 =
    Tile.b1 x0 x1 x2 x4 x6 x8 := by
  unfold kernelRun0_B.sl.v155 kernelRun0_B.sl.H14_2
  rw [read_pair, B_r_3, B_r_5]
  rfl
theorem B_r_20 : kernelRun0_B.sl.r_20 (F := Ideal) c i arg1 harg1 arg2 harg2 arg3 harg3 arg4 harg4 arg5 harg5 arg6
      harg6 arg7 harg7 arg8 harg8 arg9 harg9 arg10 harg10 arg14 x0 x1 x2 x3 x4 x5 x6 x7 x8 x9 =
    Tile.db1 x0 x1 x2 x3 x4 x5 x6 x7 x8 x9 (BitVec.ofNat 32 (i 0).val) := by
  unfold kernelRun0_B.sl.r_20
  simp only [B_r_19, B_v152, View.readAt_eq_ld, Memref.IsWhole.read_unread]
  rfl
theorem B_r_21 : kernelRun0_B.sl.r_21 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.d1 x0 x1 x2 x3 x4 x5 x6 x7 x8 x9 (BitVec.ofNat 32 (i 0).val) := by
  unfold kernelRun0_B.sl.r_21
  simp only [B_r_19, B_v152, B_v155, View.readAt_eq_ld, Memref.IsWhole.read_unread]
  rfl
theorem B_r_22 : kernelRun0_B.sl.r_22 (F := Ideal) c arg7 harg7 x6 =
    k0_pay43 (Tile.ffLo x6) := by
  unfold kernelRun0_B.sl.r_22
  simp only [View.readAt_eq_ld, Memref.IsWhole.read_unread]
theorem B_v190 : kernelRun0_B.sl.v190 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    k0_pay21 (Tile.a2 x0 x1 x2 x4 x5 x8) := by
  unfold kernelRun0_B.sl.v190 kernelRun0_B.sl.H13_3 kernelRun0_B.sl.H13_2
  rw [read_triple, B_r_7]
theorem B_v193 : kernelRun0_B.sl.v193 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    k0_pay22 (Tile.b2 x0 x1 x2 x4 x6 x8) := by
  unfold kernelRun0_B.sl.v193 kernelRun0_B.sl.H14_3 kernelRun0_B.sl.H14_2
  rw [read_triple, B_r_8]
theorem B_r_23 : kernelRun0_B.sl.r_23 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.db2 x0 x1 x2 x3 x4 x5 x6 x7 x8 x9 (BitVec.ofNat 32 (i 0).val) := by
  unfold kernelRun0_B.sl.r_23
  simp only [B_r_19, B_v190, View.readAt_eq_ld, Memref.IsWhole.read_unread]
  rfl
theorem B_r_24 : kernelRun0_B.sl.r_24 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.d2 x0 x1 x2 x3 x4 x5 x6 x7 x8 x9 (BitVec.ofNat 32 (i 0).val) := by
  unfold kernelRun0_B.sl.r_24
  simp only [B_r_19, B_r_20, B_r_21, B_r_22, B_v190, B_v193, View.readAt_eq_ld, Memref.IsWhole.read_unread]
  rfl
theorem B_r_25 : kernelRun0_B.sl.r_25 (F := Ideal) c arg7 harg7 x6 =
    Tile.ffHi x6 := by
  unfold kernelRun0_B.sl.r_25
  simp only [View.readAt_eq_ld, Memref.IsWhole.read_unread]
theorem B_r_26 : kernelRun0_B.sl.r_26 (F := Ideal) c i arg1 harg1 arg2 harg2 arg3 harg3 arg4 harg4 arg5 harg5 arg6
      harg6 arg7 harg7 arg8 harg8 arg9 harg9 arg10 harg10 arg14 arg15 x0 x1 x2 x3 x4 x5 x6 x7 x8 x9 =
    Tile.dg2 x0 x1 x2 x3 x4 x5 x6 x7 x8 x9 (BitVec.ofNat 32 (i 0).val) := by
  unfold kernelRun0_B.sl.r_26
  simp only [B_r_2, B_r_23, B_r_24, B_r_25]
  rfl

end Cert.Mid.Step

end
-- ==== Proof.Step.lean ====
/-
  WHAT A GRID STEP LEAVES in each output block, read off the run: the tile's values of Tile.lean, at the first step and at
  the later ones alike; the last output, kept over the steps, is the block before with the tile's sums added in.
-/
module

public import proofs.«01_k».proof.Proof.Words
public import Idealize.ShloMosaic.Lib.WritesUnit

@[expose] public section

set_option maxRecDepth 16384

noncomputable section

namespace Cert.Mid.Step

open Cert.KernelIdeal Cert.KernelIdeal.Gen Idealize.ShloMosaic Idealize.ShloMosaic.TcCoe Idealize.SL.Sem
open Cert.Mid
open Cert.Mid.Tile (hz)

variable (m : (ℓ : Loc nD τ sig) → Buf (Elt Ideal) ℓ) (c : Dev nD) (t : Fin cfg0.N)

/-- The step's word: its grid coordinate. -/
abbrev w : BitVec 32 := BitVec.ofNat 32 (grid0.coords t 0).val

/-- A row and lane of the second column block, after a store there last. -/
theorem read_hi {sg : RefSig} {κ : Kind} {sp : Space} (v : View sg κ sp S352x2816 .bf16) (f : v.ty.Contents (Elt Ideal))
    (w1 : S352x1280.Idx → Elt Ideal .bf16) (L : List (View.Piece (Elt Ideal) S352x2816 .bf16)) (r : Fin 352) (l : Fin 1280) :
    v.read (Elt Ideal) (v.writes (Elt Ideal) f (⟨hi, w1⟩ :: L)) (ix2 r (hiF l)) = w1 (ix2 r l) :=
  View.read_writes_cons_unit_of_mem v f _ w1 L _ (ix2 r l) rfl fun a => by
    refine Fin.cases ?_ (fun a => ?_) a
    · simp [ix2]
    · obtain rfl : a = 0 := Subsingleton.elim _ _
      simp [ix2]

/-- A row and lane of the first column block, after a store there last but one and then in the other block. -/
theorem read_lo {sg : RefSig} {κ : Kind} {sp : Space} (v : View sg κ sp S352x2816 .bf16) (f : v.ty.Contents (Elt Ideal))
    (w1 : S352x1280.Idx → Elt Ideal .bf16) (w0 : S352x1536.Idx → Elt Ideal .bf16)
    (L : List (View.Piece (Elt Ideal) S352x2816 .bf16)) (r : Fin 352) (l : Fin 1536) :
    v.read (Elt Ideal) (v.writes (Elt Ideal) f (⟨hi, w1⟩ :: ⟨lo, w0⟩ :: L)) (ix2 r (loF l)) = w0 (ix2 r l) :=
  (View.read_writes_cons_unit_of_not_mem v f _ w1 _ _ rfl 1 (Or.inl l.isLt)).trans <|
  View.read_writes_cons_unit_of_mem v f _ w0 L _ (ix2 r l) rfl fun a => by
    refine Fin.cases ?_ (fun a => ?_) a
    · simp [ix2]
    · obtain rfl : a = 0 := Subsingleton.elim _ _
      simp [ix2]

theorem out11 : (outsAt0 m c t.val t.isLt).1 =
    Tile.n2 (iblk m c 0 t) (iblk m c 1 t) (iblk m c 2 t) (iblk m c 4 t) (iblk m c 8 t) := by
  by_cases h0 : t.val % 12 = 0
  · rw [outsAt0_A m c t h0]
    dsimp only
    unfold out0_A_11
    rw [View.read_writes_eq_canon _ _ _ (fun y => cover0_A_11 (y := y) ..)]
    unfold kernelRun0_A; dsimp only
    rw [View.canon_unit_zero hz]
    simp only [A_r_3, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_11
    rw [View.read_writes_eq_canon _ _ _ (fun y => cover0_B_11 (y := y) ..)]
    unfold kernelRun0_B; dsimp only
    rw [View.canon_unit_zero hz]
    simp only [B_r_3, View.readAt_eq_ld, Memref.IsWhole.read_unread, View.ld_unit_zero (S := S352x1024) hz, View.ld_unit_zero (S := S352x512) hz, View.ld_unit_zero (S := S1x1024) hz]
    rfl

theorem out15 : (outsAt0 m c t.val t.isLt).2.2.2.2.1 =
    Tile.dh2b (iblk m c 0 t) (iblk m c 1 t) (iblk m c 2 t) (iblk m c 3 t) (iblk m c 4 t) (iblk m c 5 t) (iblk m c 6 t) (iblk m c 7 t) (iblk m c 8 t) (iblk m c 9 t) (w t) := by
  by_cases h0 : t.val % 12 = 0
  · rw [outsAt0_A m c t h0]
    dsimp only
    unfold out0_A_15
    rw [View.read_writes_eq_canon _ _ _ (fun y => cover0_A_15 (y := y) ..)]
    unfold kernelRun0_A; dsimp only
    rw [View.canon_unit_zero hz]
    simp only [A_r_10, A_r_11, A_r_12, A_r_13, A_r_14, A_r_15, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_15
    rw [View.read_writes_eq_canon _ _ _ (fun y => cover0_B_15 (y := y) ..)]
    unfold kernelRun0_B; dsimp only
    rw [View.canon_unit_zero hz]
    simp only [B_r_10, B_r_11, B_r_12, B_r_13, B_r_14, B_r_15, View.readAt_eq_ld, Memref.IsWhole.read_unread, View.ld_unit_zero (S := S352x1024) hz, View.ld_unit_zero (S := S352x512) hz, View.ld_unit_zero (S := S1x1024) hz]
    rfl

theorem out16 : (outsAt0 m c t.val t.isLt).2.2.2.2.2.1 =
    Tile.dh1 (iblk m c 0 t) (iblk m c 1 t) (iblk m c 2 t) (iblk m c 3 t) (iblk m c 4 t) (iblk m c 5 t) (iblk m c 6 t) (iblk m c 7 t) (iblk m c 8 t) (iblk m c 9 t) (w t) := by
  by_cases h0 : t.val % 12 = 0
  · rw [outsAt0_A m c t h0]
    dsimp only
    unfold out0_A_16
    rw [View.read_writes_eq_canon _ _ _ (fun y => cover0_A_16 (y := y) ..)]
    unfold kernelRun0_A; dsimp only
    rw [View.canon_unit_zero hz]
    simp only [A_r_1, A_r_2, A_r_18, A_r_23, A_r_24, A_r_25, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_16
    rw [View.read_writes_eq_canon _ _ _ (fun y => cover0_B_16 (y := y) ..)]
    unfold kernelRun0_B; dsimp only
    rw [View.canon_unit_zero hz]
    simp only [B_r_1, B_r_2, B_r_18, B_r_23, B_r_24, B_r_25, View.readAt_eq_ld, Memref.IsWhole.read_unread, View.ld_unit_zero (S := S352x1024) hz, View.ld_unit_zero (S := S352x512) hz, View.ld_unit_zero (S := S1x1024) hz]
    rfl

theorem out17 : (outsAt0 m c t.val t.isLt).2.2.2.2.2.2.1 =
    Tile.dh1b (iblk m c 0 t) (iblk m c 1 t) (iblk m c 2 t) (iblk m c 3 t) (iblk m c 4 t) (iblk m c 5 t) (iblk m c 6 t) (iblk m c 7 t) (iblk m c 8 t) (iblk m c 9 t) (w t) := by
  by_cases h0 : t.val % 12 = 0
  · rw [outsAt0_A m c t h0]
    dsimp only
    unfold out0_A_17
    rw [View.read_writes_eq_canon _ _ _ (fun y => cover0_A_17 (y := y) ..)]
    unfold kernelRun0_A; dsimp only
    rw [View.canon_unit_zero hz]
    simp only [A_r_1, A_r_2, A_r_18, A_r_23, A_r_24, A_r_25, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_17
    rw [View.read_writes_eq_canon _ _ _ (fun y => cover0_B_17 (y := y) ..)]
    unfold kernelRun0_B; dsimp only
    rw [View.canon_unit_zero hz]
    simp only [B_r_1, B_r_2, B_r_18, B_r_23, B_r_24, B_r_25, View.readAt_eq_ld, Memref.IsWhole.read_unread, View.ld_unit_zero (S := S352x1024) hz, View.ld_unit_zero (S := S352x512) hz, View.ld_unit_zero (S := S1x1024) hz]
    rfl

theorem out18 : (outsAt0 m c t.val t.isLt).2.2.2.2.2.2.2.1 =
    Tile.dyc (iblk m c 0 t) (iblk m c 1 t) (iblk m c 2 t) (iblk m c 3 t) (iblk m c 4 t) (iblk m c 5 t) (iblk m c 6 t) (iblk m c 7 t) (iblk m c 8 t) (iblk m c 9 t) (w t) := by
  by_cases h0 : t.val % 12 = 0
  · rw [outsAt0_A m c t h0]
    dsimp only
    unfold out0_A_18
    rw [View.read_writes_eq_canon _ _ _ (fun y => cover0_A_18 (y := y) ..)]
    unfold kernelRun0_A; dsimp only
    rw [View.canon_unit_zero hz]
    simp only [A_r_1, A_r_2, A_r_18, A_r_23, A_r_24, A_r_25, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_18
    rw [View.read_writes_eq_canon _ _ _ (fun y => cover0_B_18 (y := y) ..)]
    unfold kernelRun0_B; dsimp only
    rw [View.canon_unit_zero hz]
    simp only [B_r_1, B_r_2, B_r_18, B_r_23, B_r_24, B_r_25, View.readAt_eq_ld, Memref.IsWhole.read_unread, View.ld_unit_zero (S := S352x1024) hz, View.ld_unit_zero (S := S352x512) hz, View.ld_unit_zero (S := S1x1024) hz]
    rfl

theorem out19 : (outsAt0 m c t.val t.isLt).2.2.2.2.2.2.2.2.1 =
    Tile.dyg (iblk m c 0 t) (iblk m c 1 t) (iblk m c 2 t) (iblk m c 3 t) (iblk m c 4 t) (iblk m c 5 t) (iblk m c 6 t) (iblk m c 7 t) (iblk m c 8 t) (iblk m c 9 t) (w t) := by
  by_cases h0 : t.val % 12 = 0
  · rw [outsAt0_A m c t h0]
    dsimp only
    unfold out0_A_19
    rw [View.read_writes_eq_canon _ _ _ (fun y => cover0_A_19 (y := y) ..)]
    unfold kernelRun0_A; dsimp only
    rw [View.canon_unit_zero hz]
    simp only [A_r_1, A_r_2, A_r_18, A_r_23, A_r_24, A_r_25, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_19
    rw [View.read_writes_eq_canon _ _ _ (fun y => cover0_B_19 (y := y) ..)]
    unfold kernelRun0_B; dsimp only
    rw [View.canon_unit_zero hz]
    simp only [B_r_1, B_r_2, B_r_18, B_r_23, B_r_24, B_r_25, View.readAt_eq_ld, Memref.IsWhole.read_unread, View.ld_unit_zero (S := S352x1024) hz, View.ld_unit_zero (S := S352x512) hz, View.ld_unit_zero (S := S1x1024) hz]
    rfl

theorem out12_lo (r : Fin 352) (l : Fin 1536) : (outsAt0 m c t.val t.isLt).2.1 (ix2 r (loF l)) =
    Tile.f1 (iblk m c 0 t) (iblk m c 1 t) (iblk m c 2 t) (iblk m c 4 t) (iblk m c 5 t) (iblk m c 6 t) (iblk m c 8 t) (ix2 r l) := by
  by_cases h0 : t.val % 12 = 0
  · rw [outsAt0_A m c t h0]
    dsimp only
    unfold out0_A_12 kernelRun0_A; dsimp only
    rw [read_lo]
    simp only [A_r_3, A_r_4, A_r_5, A_r_9, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_12 kernelRun0_B; dsimp only
    rw [read_lo]
    simp only [B_r_3, B_r_4, B_r_5, B_r_9, View.readAt_eq_ld, Memref.IsWhole.read_unread, View.ld_unit_zero (S := S352x1024) hz, View.ld_unit_zero (S := S352x512) hz, View.ld_unit_zero (S := S1x1024) hz]
    rfl

theorem out12_hi (r : Fin 352) (l : Fin 1280) : (outsAt0 m c t.val t.isLt).2.1 (ix2 r (hiF l)) =
    Tile.f2 (iblk m c 0 t) (iblk m c 1 t) (iblk m c 2 t) (iblk m c 4 t) (iblk m c 5 t) (iblk m c 6 t) (iblk m c 8 t) (ix2 r l) := by
  by_cases h0 : t.val % 12 = 0
  · rw [outsAt0_A m c t h0]
    dsimp only
    unfold out0_A_12 kernelRun0_A; dsimp only
    rw [read_hi]
    simp only [A_r_3, A_r_4, A_r_5, A_r_9, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_12 kernelRun0_B; dsimp only
    rw [read_hi]
    simp only [B_r_3, B_r_4, B_r_5, B_r_9, View.readAt_eq_ld, Memref.IsWhole.read_unread, View.ld_unit_zero (S := S352x1024) hz, View.ld_unit_zero (S := S352x512) hz, View.ld_unit_zero (S := S1x1024) hz]
    rfl

theorem out13_lo (r : Fin 352) (l : Fin 1536) : (outsAt0 m c t.val t.isLt).2.2.1 (ix2 r (loF l)) =
    Tile.da1 (iblk m c 0 t) (iblk m c 1 t) (iblk m c 2 t) (iblk m c 3 t) (iblk m c 4 t) (iblk m c 5 t) (iblk m c 6 t) (iblk m c 7 t) (iblk m c 8 t) (iblk m c 9 t) (w t) (ix2 r l) := by
  by_cases h0 : t.val % 12 = 0
  · rw [outsAt0_A m c t h0]
    dsimp only
    unfold out0_A_13 kernelRun0_A kernelRun0_A.sl.H13_3; dsimp only
    rw [read_lo]
    simp only [A_r_19, A_v152, A_v155, A_v190, A_v193, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_13 kernelRun0_B kernelRun0_B.sl.H13_3; dsimp only
    rw [read_lo]
    simp only [B_r_19, B_v152, B_v155, B_v190, B_v193, View.readAt_eq_ld, Memref.IsWhole.read_unread, View.ld_unit_zero (S := S352x1024) hz, View.ld_unit_zero (S := S352x512) hz, View.ld_unit_zero (S := S1x1024) hz]
    rfl

theorem out13_hi (r : Fin 352) (l : Fin 1280) : (outsAt0 m c t.val t.isLt).2.2.1 (ix2 r (hiF l)) =
    Tile.da2 (iblk m c 0 t) (iblk m c 1 t) (iblk m c 2 t) (iblk m c 3 t) (iblk m c 4 t) (iblk m c 5 t) (iblk m c 6 t) (iblk m c 7 t) (iblk m c 8 t) (iblk m c 9 t) (w t) (ix2 r l) := by
  by_cases h0 : t.val % 12 = 0
  · rw [outsAt0_A m c t h0]
    dsimp only
    unfold out0_A_13 kernelRun0_A kernelRun0_A.sl.H13_3; dsimp only
    rw [read_hi]
    simp only [A_r_19, A_v152, A_v155, A_v190, A_v193, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_13 kernelRun0_B kernelRun0_B.sl.H13_3; dsimp only
    rw [read_hi]
    simp only [B_r_19, B_v152, B_v155, B_v190, B_v193, View.readAt_eq_ld, Memref.IsWhole.read_unread, View.ld_unit_zero (S := S352x1024) hz, View.ld_unit_zero (S := S352x512) hz, View.ld_unit_zero (S := S1x1024) hz]
    rfl

theorem out14_lo (r : Fin 352) (l : Fin 1536) : (outsAt0 m c t.val t.isLt).2.2.2.1 (ix2 r (loF l)) =
    Tile.db1 (iblk m c 0 t) (iblk m c 1 t) (iblk m c 2 t) (iblk m c 3 t) (iblk m c 4 t) (iblk m c 5 t) (iblk m c 6 t) (iblk m c 7 t) (iblk m c 8 t) (iblk m c 9 t) (w t) (ix2 r l) := by
  by_cases h0 : t.val % 12 = 0
  · rw [outsAt0_A m c t h0]
    dsimp only
    unfold out0_A_14 kernelRun0_A kernelRun0_A.sl.H14_3; dsimp only
    rw [read_lo]
    simp only [A_r_19, A_v152, A_v190, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_14 kernelRun0_B kernelRun0_B.sl.H14_3; dsimp only
    rw [read_lo]
    simp only [B_r_19, B_v152, B_v190, View.readAt_eq_ld, Memref.IsWhole.read_unread, View.ld_unit_zero (S := S352x1024) hz, View.ld_unit_zero (S := S352x512) hz, View.ld_unit_zero (S := S1x1024) hz]
    rfl

theorem out14_hi (r : Fin 352) (l : Fin 1280) : (outsAt0 m c t.val t.isLt).2.2.2.1 (ix2 r (hiF l)) =
    Tile.db2 (iblk m c 0 t) (iblk m c 1 t) (iblk m c 2 t) (iblk m c 3 t) (iblk m c 4 t) (iblk m c 5 t) (iblk m c 6 t) (iblk m c 7 t) (iblk m c 8 t) (iblk m c 9 t) (w t) (ix2 r l) := by
  by_cases h0 : t.val % 12 = 0
  · rw [outsAt0_A m c t h0]
    dsimp only
    unfold out0_A_14 kernelRun0_A kernelRun0_A.sl.H14_3; dsimp only
    rw [read_hi]
    simp only [A_r_19, A_v152, A_v190, View.readAt_eq_ld, Memref.IsWhole.read_unread, View.ld_unit_zero (S := S352x1024) hz, View.ld_unit_zero (S := S352x512) hz, View.ld_unit_zero (S := S1x1024) hz]
    rfl
  · rw [outsAt0_B m c t h0]
    dsimp only
    unfold out0_B_14 kernelRun0_B kernelRun0_B.sl.H14_3; dsimp only
    rw [read_hi]
    simp only [B_r_19, B_v152, B_v190, View.readAt_eq_ld, Memref.IsWhole.read_unread, View.ld_unit_zero (S := S352x1024) hz, View.ld_unit_zero (S := S352x512) hz, View.ld_unit_zero (S := S1x1024) hz]
    rfl

end Cert.Mid.Step

end
-- ==== Proof.Part.lean ====
/-
  WHAT A GRID STEP LEAVES in the last output block, which is kept over the steps: the block before (zeros at the first step)
  with the tile's three sums added into its first three rows.
-/
module

public import proofs.«01_k».proof.Proof.Step
public import Idealize.ShloMosaic.Lib.WritesUnit

@[expose] public section

set_option maxRecDepth 16384

noncomputable section

namespace Cert.Mid.Step

open Cert.KernelIdeal Cert.KernelIdeal.Gen Idealize.ShloMosaic Idealize.ShloMosaic.TcCoe Idealize.SL.Sem
open Cert.Mid
open Cert.Mid.Tile (hz)

variable (m : (ℓ : Loc nD τ sig) → Buf (Elt Ideal) ℓ) (c : Dev nD) (t : Fin cfg0.N)

/-- A block of eight rows with three sums added into its first three rows. -/
def add (prev : Vec Ideal S8x1024 .f32) (g3 g2 : Vec Ideal S1x1024 .f32) (ls : Vec Ideal S1x1 .f32) (q : Fin 8)
    (l : Fin 1024) : EReal :=
  if q = 0 then prev (ix2 0 l) + g3 (ix2 0 l) else if q = 1 then prev (ix2 1 l) + g2 (ix2 0 l)
  else if q = 2 then prev (ix2 2 l) + ls (ix2 0 0) else prev (ix2 q l)

abbrev row0 : Rect S8x1024 := Rect.unit (s := S8x1024) ![0, 0] ![1, 1024] inb_S8x1024_S1x1024_0_0
abbrev row1 : Rect S8x1024 := Rect.unit (s := S8x1024) ![1, 0] ![1, 1024] inb_S8x1024_S1x1024_1_0
abbrev row2 : Rect S8x1024 := Rect.unit (s := S8x1024) ![2, 0] ![1, 1024] inb_S8x1024_S1x1024_2_0

/-- Storing the three sums' rows over a block, each read from it first, adds the sums. -/
theorem read_rows {sg : RefSig} {κ : Kind} {sp : Space} (v : View sg κ sp S8x1024 .f32) (f : v.ty.Contents (Elt Ideal))
    (prev : Vec Ideal S8x1024 .f32) (L : List (View.Piece (Elt Ideal) S8x1024 .f32))
    (hp : ∀ q l, v.read (Elt Ideal) (v.writes (Elt Ideal) f L) (ix2 q l) = prev (ix2 q l))
    (g3 g2 : Vec Ideal S1x1024 .f32) (ls : Vec Ideal S1x1 .f32) (p0 p1 p2 : Vec Ideal S1x1024 .f32)
    (h0 : ∀ l, p0 (ix2 0 l) = prev (ix2 0 l)) (h1 : ∀ l, p1 (ix2 0 l) = prev (ix2 1 l))
    (h2 : ∀ l, p2 (ix2 0 l) = prev (ix2 2 l)) (q : Fin 8) (l : Fin 1024) :
    v.read (Elt Ideal) (v.writes (Elt Ideal) f (⟨row2, k0_pay4 ls p2⟩ :: ⟨row1, k0_pay3 g2 p1⟩ :: ⟨row0, k0_pay2 g3 p0⟩ :: L))
      (ix2 q l) = add prev g3 g2 ls q l := by
  have hx : ∀ (o : ℕ) (hq : q.val = o) (a : Fin 2),
      ((ix2 q l : S8x1024.Idx) a).val = (![o, 0] : Fin 2 → ℕ) a + ((ix2 (0 : Fin 1) l : S1x1024.Idx) a).val := by
    intro o hq a
    refine Fin.cases ?_ (fun a => ?_) a
    · simp [ix2, hq]
    · obtain rfl : a = 0 := Subsingleton.elim _ _
      simp [ix2]
  have hn : ∀ (o : ℕ) (hq : q.val ≠ o), ((ix2 q l : S8x1024.Idx) 0).val < (![o, 0] : Fin 2 → ℕ) 0 ∨
      (![o, 0] : Fin 2 → ℕ) 0 + (![1, 1024] : Fin 2 → ℕ) 0 ≤ ((ix2 q l : S8x1024.Idx) 0).val := by
    intro o hq
    show q.val < o ∨ o + 1 ≤ q.val
    omega
  unfold add
  by_cases q2 : q.val = 2
  · have e : q = 2 := Fin.ext q2
    rw [if_neg (by rw [e]; decide), if_neg (by rw [e]; decide), if_pos e, ← h2]
    refine (View.read_writes_cons_unit_of_mem v f inb_S8x1024_S1x1024_2_0 _ _ _ (ix2 0 l) rfl (hx 2 q2)).trans ?_
    pointwise [k0_pay4]
  rw [View.read_writes_cons_unit_of_not_mem v f inb_S8x1024_S1x1024_2_0 _ _ _ rfl 0 (hn 2 q2)]
  by_cases q1 : q.val = 1
  · have e : q = 1 := Fin.ext q1
    rw [if_neg (by rw [e]; decide), if_pos e, ← h1]
    refine (View.read_writes_cons_unit_of_mem v f inb_S8x1024_S1x1024_1_0 _ _ _ (ix2 0 l) rfl (hx 1 q1)).trans ?_
    pointwise [k0_pay3]
  rw [View.read_writes_cons_unit_of_not_mem v f inb_S8x1024_S1x1024_1_0 _ _ _ rfl 0 (hn 1 q1)]
  by_cases q0 : q.val = 0
  · have e : q = 0 := Fin.ext q0
    rw [if_pos e, ← h0]
    refine (View.read_writes_cons_unit_of_mem v f inb_S8x1024_S1x1024_0_0 _ _ _ (ix2 0 l) rfl (hx 0 q0)).trans ?_
    pointwise [k0_pay2]
  rw [View.read_writes_cons_unit_of_not_mem v f inb_S8x1024_S1x1024_0_0 _ _ _ rfl 0 (hn 0 q0), hp,
    if_neg (fun e => q0 (congrArg Fin.val e)), if_neg (fun e => q1 (congrArg Fin.val e)),
    if_neg (fun e => q2 (congrArg Fin.val e))]

theorem cover_whole (y : S8x1024.Idx) : ∃ p ∈ [(⟨Rect.unit (s := S8x1024) ![0, 0] ![8, 1024] inb_S8x1024_S8x1024_0_0,
    k0_pay1 (F := Ideal)⟩ : View.Piece (Elt Ideal) S8x1024 .f32)], y ∈ p.1.set :=
  ⟨_, List.mem_singleton_self _, View.mem_set_unit_zero (S := S8x1024) hz inb_S8x1024_S8x1024_0_0 y⟩

theorem zero_row (x : S8x1024.Idx) : (k0_pay1 (F := Ideal)) x = 0 := by
  pointwise [k0_pay1]

/-- A row of a block just filled with zeros. -/
theorem zero_load {sg : RefSig} {κ : Kind} {sp : Space} (v : View sg κ sp S8x1024 .f32) (o : Fin 2 → ℕ)
    (inb : ∀ a, o a + (![1, 1024] : Fin 2 → ℕ) a ≤ S8x1024.size a) (l : Fin 1024) :
    v.readCov (Val := Elt Ideal) [⟨Rect.unit (s := S8x1024) ![0, 0] ![8, 1024] inb_S8x1024_S8x1024_0_0, (k0_pay1 (F := Ideal))⟩]
      (Rect.unit (s := S8x1024) o ![1, 1024] inb).toLoadRect (ix2 0 l : S1x1024.Idx) = (0 : EReal) := by
  rw [View.readCov_eq_canon']
  dsimp only
  rw [View.canon_unit_zero hz]
  exact zero_row _

/-- A row of a block. -/
theorem row_load (X : Vec Ideal S8x1024 .f32) (o : Fin 8)
    (inb : ∀ a, (![o.val, 0] : Fin 2 → ℕ) a + (![1, 1024] : Fin 2 → ℕ) a ≤ S8x1024.size a) (l : Fin 1024) :
    View.ld X (Rect.unit (s := S8x1024) ![o.val, 0] ![1, 1024] inb) (ix2 0 l : S1x1024.Idx) = X (ix2 o l) := by
  refine View.ld_unit_apply_of X _ _ inb _ _ fun a => ?_
  refine Fin.cases ?_ (fun a => ?_) a
  · simp [ix2]
  · obtain rfl : a = 0 := Subsingleton.elim _ _
    simp [ix2]

theorem disjoint_01 : Disjoint row0.set row1.set :=
  Rect.unit_disjoint (inb := inb_S8x1024_S1x1024_0_0) (inb' := inb_S8x1024_S1x1024_1_0) 0 (Or.inl (show 0 + 1 ≤ 1 by omega))
theorem disjoint_02 : Disjoint row0.set row2.set :=
  Rect.unit_disjoint (inb := inb_S8x1024_S1x1024_0_0) (inb' := inb_S8x1024_S1x1024_2_0) 0 (Or.inl (show 0 + 1 ≤ 2 by omega))
theorem disjoint_12 : Disjoint row1.set row2.set :=
  Rect.unit_disjoint (inb := inb_S8x1024_S1x1024_1_0) (inb' := inb_S8x1024_S1x1024_2_0) 0 (Or.inl (show 1 + 1 ≤ 2 by omega))

theorem out20_A (h0 : t.val % 12 = 0) (q : Fin 8) (l : Fin 1024) :
    (outsAt0 m c t.val t.isLt).2.2.2.2.2.2.2.2.2 (ix2 q l) =
      add (fun _ => (0 : EReal))
        (Tile.dg3 (iblk m c 0 t) (iblk m c 1 t) (iblk m c 2 t) (iblk m c 3 t) (iblk m c 4 t) (iblk m c 5 t) (iblk m c 6 t) (iblk m c 7 t) (iblk m c 8 t) (iblk m c 9 t) (w t))
        (Tile.dg2 (iblk m c 0 t) (iblk m c 1 t) (iblk m c 2 t) (iblk m c 3 t) (iblk m c 4 t) (iblk m c 5 t) (iblk m c 6 t) (iblk m c 7 t) (iblk m c 8 t) (iblk m c 9 t) (w t))
        (Tile.loss (iblk m c 0 t) (iblk m c 1 t) (iblk m c 2 t) (iblk m c 3 t) (iblk m c 4 t) (iblk m c 5 t) (iblk m c 6 t) (iblk m c 7 t) (iblk m c 8 t) (iblk m c 9 t) (w t)) q l := by
  rw [outsAt0_A m c t h0]
  dsimp only
  unfold out0_A_20 kernelRun0_A; dsimp only
  unfold kernelRun0_A.sl.H20_3 kernelRun0_A.sl.H20_2 kernelRun0_A.sl.H20_1
  simp only [A_r_17, A_r_26, A_r_16]
  refine read_rows _ _ _ _ ?_ _ _ _ _ _ _ ?_ ?_ ?_ q l
  · intro q l
    rw [View.read_writes_eq_canon _ _ _ (fun y => cover_whole y), View.canon_unit_zero hz]
    exact zero_row _
  · intro l
    unfold kernelRun0_A.sl.v256 kernelRun0_A.sl.H20_1
    exact zero_load _ _ inb_S8x1024_S1x1024_0_0 l
  · intro l
    unfold kernelRun0_A.sl.v260 kernelRun0_A.sl.H20_2 kernelRun0_A.sl.H20_1
    rw [View.readCov_cons_of_disjoint _ ⟨row0, _⟩ _ row1.toLoadRect disjoint_01]
    exact zero_load _ _ inb_S8x1024_S1x1024_1_0 l
  · intro l
    unfold kernelRun0_A.sl.v264 kernelRun0_A.sl.H20_3 kernelRun0_A.sl.H20_2 kernelRun0_A.sl.H20_1
    rw [View.readCov_cons_of_disjoint _ ⟨row1, _⟩ _ row2.toLoadRect disjoint_12,
      View.readCov_cons_of_disjoint _ ⟨row0, _⟩ _ row2.toLoadRect disjoint_02]
    exact zero_load _ _ inb_S8x1024_S1x1024_2_0 l

theorem out20_B (h0 : ¬t.val % 12 = 0) (q : Fin 8) (l : Fin 1024) :
    (outsAt0 m c t.val t.isLt).2.2.2.2.2.2.2.2.2 (ix2 q l) =
      add (outsAt0 m c (t.val - 1) (Nat.lt_of_le_of_lt (Nat.sub_le _ _) t.isLt)).2.2.2.2.2.2.2.2.2
        (Tile.dg3 (iblk m c 0 t) (iblk m c 1 t) (iblk m c 2 t) (iblk m c 3 t) (iblk m c 4 t) (iblk m c 5 t) (iblk m c 6 t) (iblk m c 7 t) (iblk m c 8 t) (iblk m c 9 t) (w t))
        (Tile.dg2 (iblk m c 0 t) (iblk m c 1 t) (iblk m c 2 t) (iblk m c 3 t) (iblk m c 4 t) (iblk m c 5 t) (iblk m c 6 t) (iblk m c 7 t) (iblk m c 8 t) (iblk m c 9 t) (w t))
        (Tile.loss (iblk m c 0 t) (iblk m c 1 t) (iblk m c 2 t) (iblk m c 3 t) (iblk m c 4 t) (iblk m c 5 t) (iblk m c 6 t) (iblk m c 7 t) (iblk m c 8 t) (iblk m c 9 t) (w t)) q l := by
  rw [outsAt0_B m c t h0]
  dsimp only
  unfold out0_B_20 kernelRun0_B; dsimp only

  simp only [B_r_17, B_r_26, B_r_16]
  refine read_rows _ _ _ _ ?_ _ _ _ _ _ _ ?_ ?_ ?_ q l
  · intro q l
    rw [View.writes_nil, Memref.IsWhole.read_unread]
  · intro l
    rw [View.readAt_eq_ld, Memref.IsWhole.read_unread]
    exact row_load _ 0 inb_S8x1024_S1x1024_0_0 l
  · intro l
    unfold kernelRun0_B.sl.v260
    rw [View.readAt_eq_ld, Memref.IsWhole.read_unread]
    exact row_load _ 1 inb_S8x1024_S1x1024_1_0 l
  · intro l
    unfold kernelRun0_B.sl.v264
    rw [View.readAt_eq_ld, Memref.IsWhole.read_unread]
    exact row_load _ 2 inb_S8x1024_S1x1024_2_0 l

end Cert.Mid.Step

end
-- ==== Proof.Blocks.lean ====
/-
  WHAT THE STEPS READ: the host's prepared arrays, and each window's block of them at a grid step, which make up the
  tile's rows of the step and its weights.
-/
module

public import proofs.«01_k».proof.Proof.Args
public import proofs.«01_k».proof.Proof.Part
public import Idealize.ShloMosaic.Lib.KernelVsHost
public import Idealize.ShloMosaic.Lib.Pipeline.ValueKit.Geometry

@[expose] public section

set_option maxRecDepth 16384

noncomputable section

namespace Cert.Mid.Step

open Cert.KernelIdeal Cert.KernelIdeal.Gen Idealize.ShloMosaic Idealize.ShloMosaic.TcCoe Idealize.SL.Sem
open Cert.Mid

variable (m : (ℓ : Loc nD τ sig) → Buf (Elt Ideal) ℓ) (c : Dev nD)

/-- An argument array, as launched. -/
abbrev arg (b : Ref sig .tc) : Buf (Elt Ideal) ((c : Thread nD τ).loc b) := m ((c : Thread nD τ).loc b)

/-- The rows that the host prepares: the meta tokens set before the examples, after 48 rows of zeros. -/
theorem V5 : V m c main_v5 = (shapeCast S4224x1024 (Host.dynamicUpdateSlice
      (pad S2x2112x1024 ![0, 64, 0] ![0, 0, 0] ![0, 0, 0] (arg m c main_arg2) (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 (arg m c main_arg3)))
      ![0, 48, 0] updateFits_S2x2112x1024_S2x16x1024) shapeCasts_S2x2112x1024_S4224x1024 :
      S4224x1024.Idx → EReal) := by
  unfold_abbrev_sides
  simp only [hostOps0, hostOps0_1, hostOps0_2, hostOps0_3, hostOps0_4, List.flatten_cons, List.flatten_nil, List.append_nil, List.cons_append, List.nil_append]
  after_results
  funext i
  refine congrFun (congrArg (fun y => shapeCast S4224x1024 y shapeCasts_S2x2112x1024_S4224x1024)
    (congrArg (fun st => Host.dynamicUpdateSlice (pad S2x2112x1024 ![0, 64, 0] ![0, 0, 0] ![0, 0, 0] (arg m c main_arg2) (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 (arg m c main_arg3))) st updateFits_S2x2112x1024_S2x16x1024) (funext fun k => ?_))) i
  match k with
  | ⟨0, _⟩ =>
    rfl
  | ⟨1, _⟩ =>
    rfl
  | ⟨2, _⟩ =>
    rfl

/-- A prepared row, read. -/
theorem rows_apply (R : Fin 4224) (l : Fin 1024) (x : Vec Ideal S2x2048x1024 .f32) (mt : Vec Ideal S16x1024 .f32) : (shapeCast S4224x1024 (Host.dynamicUpdateSlice
      (pad S2x2112x1024 ![0, 64, 0] ![0, 0, 0] ![0, 0, 0] x (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 mt))
      ![0, 48, 0] updateFits_S2x2112x1024_S2x16x1024) shapeCasts_S2x2112x1024_S4224x1024 (ix2 R l) :
      EReal) = if h : 64 ≤ R.val % 2112 then x (ix3 (⟨R.val / 2112, by omega⟩ : Fin 2) (⟨R.val % 2112 - 64, by omega⟩ : Fin 2048) l)
        else if h' : 48 ≤ R.val % 2112 then mt (ix2 (⟨R.val % 2112 - 48, by omega⟩ : Fin 16) l) else 0 := by
  pointwise
  have h0 : ∀ h, Host.clampedStart S2x2112x1024 S2x16x1024 h ![0, 48, 0] 0 = 0 := fun _ => rfl
  have h1 : ∀ h, Host.clampedStart S2x2112x1024 S2x16x1024 h ![0, 48, 0] 1 = 48 := fun _ => rfl
  have h2 : ∀ h, Host.clampedStart S2x2112x1024 S2x16x1024 h ![0, 48, 0] 2 = 0 := fun _ => rfl
  simp only [h0, h1, h2]
  have hR := R.isLt
  have hm := Nat.mod_lt R.val (show 0 < 2112 by omega)
  split_ifs
  all_goals first | omega | rfl | exact sitofp_zero (φ := .f32)
/-- The padded targets. -/
theorem V6 : V m c main_v6 = (shapeCast S4224x1024
      (pad S2x2112x1024 ![0, 64, 0] ![0, 0, 0] ![0, 0, 0] (arg m c main_arg4) (sitofp (F := Ideal) .f32 (constantI S_ 32 0#32))
        pads_S2x2048x1024_S2x2112x1024_000_6400_000 h_S_) shapeCasts_S2x2112x1024_S4224x1024 : S4224x1024.Idx → EReal) := by
  unfold_abbrev_sides
  simp only [hostOps0, hostOps0_1, hostOps0_2, hostOps0_3, hostOps0_4, List.flatten_cons, List.flatten_nil, List.append_nil, List.cons_append, List.nil_append]
  after_results
  rfl

theorem targets_apply (R : Fin 4224) (l : Fin 1024) (x : Vec Ideal S2x2048x1024 .f32) : (shapeCast S4224x1024
      (pad S2x2112x1024 ![0, 64, 0] ![0, 0, 0] ![0, 0, 0] x (sitofp (F := Ideal) .f32 (constantI S_ 32 0#32))
        pads_S2x2048x1024_S2x2112x1024_000_6400_000 h_S_) shapeCasts_S2x2112x1024_S4224x1024 (ix2 R l) :
      EReal) = if h : 64 ≤ R.val % 2112 then x (ix3 (⟨R.val / 2112, by omega⟩ : Fin 2) (⟨R.val % 2112 - 64, by omega⟩ : Fin 2048) l)
        else 0 := by
  pointwise
  have hR := R.isLt
  split_ifs
  all_goals first | omega | rfl | exact sitofp_zero (φ := .f32)

/-- A weight's cast block, read: straight, and transposed. -/
theorem sq_apply (x : Vec Ideal S1x1024x1024 .f32) (k l : Fin 1024) : (truncf (F := Ideal) .bf16 (shapeCast S1024x1024 x
    shapeCasts_S1x1024x1024_S1024x1024) bitsLt_bf16_f32 (ix2 k l) : EReal) = x (ix3 0 k l) := by
  pointwise
theorem down_apply (x : Vec Ideal S1x2816x1024 .f32) (k : Fin 2816) (l : Fin 1024) : (truncf (F := Ideal) .bf16 (shapeCast S2816x1024 x
    shapeCasts_S1x2816x1024_S2816x1024) bitsLt_bf16_f32 (ix2 k l) : EReal) = x (ix3 0 k l) := by
  pointwise
theorem up_apply (x : Vec Ideal S1x1024x2816 .f32) (k : Fin 2816) (l : Fin 1024) : (truncf (F := Ideal) .bf16 (transpose S2816x1024 [1, 0]
    (shapeCast S1024x2816 x shapeCasts_S1x1024x2816_S1024x2816) transposes_S1024x2816_S2816x1024_1_0) bitsLt_bf16_f32
    (ix2 k l) : EReal) = x (ix3 0 l k) := by
  pointwise

theorem V8 (k : Fin 1024) (l : Fin 1024) : (V m c main_v8 (ix2 k l) : EReal) = arg m c main_arg5 (ix3 0 k l) := by
  have h : V m c main_v8 = (truncf (F := Ideal) .bf16 (shapeCast S1024x1024 (arg m c main_arg5) shapeCasts_S1x1024x1024_S1024x1024) bitsLt_bf16_f32 :
      S1024x1024.Idx → EReal) := by
    unfold_abbrev_sides
    simp only [hostOps0, hostOps0_1, hostOps0_2, hostOps0_3, hostOps0_4, List.flatten_cons, List.flatten_nil, List.append_nil, List.cons_append, List.nil_append]
    after_results
    rfl
  exact (congrFun h _).trans (sq_apply _ k l)

theorem V16 (k : Fin 2816) (l : Fin 1024) : (V m c main_v16 (ix2 k l) : EReal) = arg m c main_arg8 (ix3 0 k l) := by
  have h : V m c main_v16 = (truncf (F := Ideal) .bf16 (shapeCast S2816x1024 (arg m c main_arg8) shapeCasts_S1x2816x1024_S2816x1024) bitsLt_bf16_f32 :
      S2816x1024.Idx → EReal) := by
    unfold_abbrev_sides
    simp only [hostOps0, hostOps0_1, hostOps0_2, hostOps0_3, hostOps0_4, List.flatten_cons, List.flatten_nil, List.append_nil, List.cons_append, List.nil_append]
    after_results
    rfl
  exact (congrFun h _).trans (down_apply _ k l)

theorem V11 (k : Fin 2816) (l : Fin 1024) : (V m c main_v11 (ix2 k l) : EReal) = arg m c main_arg6 (ix3 0 l k) := by
  have h : V m c main_v11 = (truncf (F := Ideal) .bf16 (transpose S2816x1024 [1, 0] (shapeCast S1024x2816 (arg m c main_arg6)
      shapeCasts_S1x1024x2816_S1024x2816) transposes_S1024x2816_S2816x1024_1_0) bitsLt_bf16_f32 : S2816x1024.Idx → EReal) := by
    unfold_abbrev_sides
    simp only [hostOps0, hostOps0_1, hostOps0_2, hostOps0_3, hostOps0_4, List.flatten_cons, List.flatten_nil, List.append_nil, List.cons_append, List.nil_append]
    after_results
    rfl
  exact (congrFun h _).trans (up_apply _ k l)

theorem V14 (k : Fin 2816) (l : Fin 1024) : (V m c main_v14 (ix2 k l) : EReal) = arg m c main_arg7 (ix3 0 l k) := by
  have h : V m c main_v14 = (truncf (F := Ideal) .bf16 (transpose S2816x1024 [1, 0] (shapeCast S1024x2816 (arg m c main_arg7)
      shapeCasts_S1x1024x2816_S1024x2816) transposes_S1024x2816_S2816x1024_1_0) bitsLt_bf16_f32 : S2816x1024.Idx → EReal) := by
    unfold_abbrev_sides
    simp only [hostOps0, hostOps0_1, hostOps0_2, hostOps0_3, hostOps0_4, List.flatten_cons, List.flatten_nil, List.append_nil, List.cons_append, List.nil_append]
    after_results
    rfl
  exact (congrFun h _).trans (up_apply _ k l)

theorem V17 (l : Fin 1024) : (V m c main_v17 (ix2 0 l) : EReal) = arg m c main_arg10 (ix1 l) := by
  have h : V m c main_v17 = (broadcastInDim S1x1024 ![1] bcast_S1024_S1x1024_1 (arg m c main_arg10) : S1x1024.Idx → EReal) := by
    unfold_abbrev_sides
    simp only [hostOps0, hostOps0_1, hostOps0_2, hostOps0_3, hostOps0_4, List.flatten_cons, List.flatten_nil, List.append_nil, List.cons_append, List.nil_append]
    after_results
  rw [h]
  pointwise

variable (t : Fin cfg0.N)

/-- The rows of a step. -/
abbrev rowAt (r : Fin 352) : Fin 4224 := ⟨352 * t.val + r.val, by have := t.isLt; have : cfg0.N = 12 := N_0; omega⟩
abbrev stepAt : Fin 12 := ⟨t.val, by have := t.isLt; have : cfg0.N = 12 := N_0; omega⟩

theorem coords_eq : ∀ t : Fin cfg0.N, (grid0.coords t 0).val = t.val :=
  (by decide +kernel : ∀ t : Fin grid0.N, (grid0.coords t 0).val = t.val)
theorem index_rows : ∀ t : Fin cfg0.N, win0_0.index t = ![t.val, 0] ∧ win0_1.index t = ![t.val, 0] ∧
    win0_2.index t = ![t.val, 0] ∧ win0_3.index t = ![t.val, 0] :=
  (by decide +kernel : ∀ t : Fin grid0.N, win0_0.index t = ![t.val, 0] ∧ win0_1.index t = ![t.val, 0] ∧
    win0_2.index t = ![t.val, 0] ∧ win0_3.index t = ![t.val, 0])
theorem index_whole : ∀ t : Fin cfg0.N, win0_4.index t = ![0, 0] ∧ win0_5.index t = ![0, 0] ∧ win0_6.index t = ![0, 0] ∧
    win0_7.index t = ![0, 0] ∧ win0_8.index t = ![0, 0] ∧ win0_9.index t = ![0, 0] :=
  (by decide +kernel : ∀ t : Fin grid0.N, win0_4.index t = ![0, 0] ∧ win0_5.index t = ![0, 0] ∧ win0_6.index t = ![0, 0] ∧
    win0_7.index t = ![0, 0] ∧ win0_8.index t = ![0, 0] ∧ win0_9.index t = ![0, 0])

theorem block0 (r : Fin 352) (l : Fin 512) : (iblk m c 0 t (ix2 r l) : EReal) = V m c main_arg0 (ix2 (rowAt t r) l) := by
  have h := (index_rows t).1
  blk_ext [iblk, h]

theorem block1 (r : Fin 352) (l : Fin 512) : (iblk m c 1 t (ix2 r l) : EReal) = V m c main_arg1 (ix2 (rowAt t r) l) := by
  have h := (index_rows t).2.1
  blk_ext [iblk, h]

theorem block2 (r : Fin 352) (l : Fin 1024) : (iblk m c 2 t (ix2 r l) : EReal) = V m c main_v5 (ix2 (rowAt t r) l) := by
  have h := (index_rows t).2.2.1
  blk_ext [iblk, h]

theorem block3 (r : Fin 352) (l : Fin 1024) : (iblk m c 3 t (ix2 r l) : EReal) = V m c main_v6 (ix2 (rowAt t r) l) := by
  have h := (index_rows t).2.2.2
  blk_ext [iblk, h]

theorem block4 (r : Fin 1024) (l : Fin 1024) : (iblk m c 4 t (ix2 r l) : EReal) = V m c main_v8 (ix2 r l) := by
  have h := (index_whole t).1
  blk_ext [iblk, h]

theorem block5 (r : Fin 2816) (l : Fin 1024) : (iblk m c 5 t (ix2 r l) : EReal) = V m c main_v11 (ix2 r l) := by
  have h := (index_whole t).2.1
  blk_ext [iblk, h]

theorem block6 (r : Fin 2816) (l : Fin 1024) : (iblk m c 6 t (ix2 r l) : EReal) = V m c main_v14 (ix2 r l) := by
  have h := (index_whole t).2.2.1
  blk_ext [iblk, h]

theorem block7 (r : Fin 2816) (l : Fin 1024) : (iblk m c 7 t (ix2 r l) : EReal) = V m c main_v16 (ix2 r l) := by
  have h := (index_whole t).2.2.2.1
  blk_ext [iblk, h]

theorem block8 (r : Fin 1) (l : Fin 1024) : (iblk m c 8 t (ix2 r l) : EReal) = V m c main_arg9 (ix2 r l) := by
  have h := (index_whole t).2.2.2.2.1
  blk_ext [iblk, h]

theorem block9 (r : Fin 1) (l : Fin 1024) : (iblk m c 9 t (ix2 r l) : EReal) = V m c main_v17 (ix2 r l) := by
  have h := (index_whole t).2.2.2.2.2
  blk_ext [iblk, h]

/-- A step's blocks are its rows and the weights. -/
theorem holds (A : Args) (H : Lifted A (arg m c main_arg0) (arg m c main_arg1) (arg m c main_arg2) (arg m c main_arg3)
    (arg m c main_arg4) (arg m c main_arg5) (arg m c main_arg6) (arg m c main_arg7) (arg m c main_arg8) (arg m c main_arg9)
    (arg m c main_arg10)) :
    Tile.Holds (iblk m c 0 t) (iblk m c 1 t) (iblk m c 2 t) (iblk m c 3 t) (iblk m c 4 t) (iblk m c 5 t) (iblk m c 6 t)
      (iblk m c 7 t) (iblk m c 8 t) (iblk m c 9 t) A.W (fun r => A.row (rowAt t r)) (stepAt t) where
  yc r k := by rw [block0, V_main_arg0]; exact H.yc _ _
  yg r k := by rw [block1, V_main_arg1]; exact H.yg _ _
  h r l := by
    rw [block2, V5, rows_apply]
    show _ = ((A.h _ l : ℝ) : EReal)
    unfold Args.h
    split_ifs
    · exact H.x _ _ _
    · exact H.mt _ _
    · rfl
  t r l := by
    rw [block3, V6, targets_apply]
    show _ = ((A.tg _ l : ℝ) : EReal)
    unfold Args.tg
    split_ifs
    · exact H.t _ _ _
    · rfl
  wo k l := by rw [block4, V8]; exact H.wo _ _
  wg j d := by rw [block5, V11]; exact H.wg _ _
  wu j d := by rw [block6, V14]; exact H.wu _ _
  wd j d := by rw [block7, V16]; exact H.wd _ _
  g2 l := by rw [block8, V_main_arg9]; exact H.g2 _
  g3 l := by rw [block9, V17]; exact H.g3 _
  live r := rfl

/-- The step's word is its number. -/
theorem w_eq : w t = BitVec.ofNat 32 (stepAt t).val := by
  show BitVec.ofNat 32 (grid0.coords t 0).val = _
  rw [coords_eq]

end Cert.Mid.Step

end
-- ==== Proof.Final.lean ====
/-
  THE KERNEL'S RESULTS: each output array, entry by entry, is the step's real number of that row; the three sums run over
  all rows.
-/
module

public import proofs.«01_k».proof.Proof.Blocks

@[expose] public section

set_option maxRecDepth 16384

noncomputable section

namespace Cert.Mid.Step

open Cert.KernelIdeal Cert.KernelIdeal.Gen Idealize.ShloMosaic Idealize.ShloMosaic.TcCoe Idealize.SL.Sem
open Cert.Mid Cert.Lift

variable (m : (ℓ : Loc nD τ sig) → Buf (Elt Ideal) ℓ) (c : Dev nD)

/-- The launch's argument arrays hold the numbers `A`. -/
abbrev Given (A : Args) : Prop := Lifted A (arg m c main_arg0) (arg m c main_arg1) (arg m c main_arg2) (arg m c main_arg3)
    (arg m c main_arg4) (arg m c main_arg5) (arg m c main_arg6) (arg m c main_arg7) (arg m c main_arg8) (arg m c main_arg9)
    (arg m c main_arg10)

theorem index_out : ∀ t : Fin cfg0.N, win0_11.index t = ![t.val, 0] ∧
    win0_12.index t = ![t.val, 0] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] ∧
    win0_19.index t = ![t.val, 0] :=
  (by decide +kernel : ∀ t : Fin grid0.N, win0_11.index t = ![t.val, 0] ∧
    win0_12.index t = ![t.val, 0] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] ∧
    win0_19.index t = ![t.val, 0])

theorem place11 (t : Fin cfg0.N) (r : Fin 352) (l : Fin 1024) :
    (win0_11.blk t).view.emb (ix2 r l : S352x1024.Idx) = (ix2 (rowAt t r) l : S4224x1024.Idx) := by
  have h := (index_out t).1
  funext a
  apply Fin.ext
  refine Fin.cases ?_ (fun a => ?_) a
  · blk_simp [h]; simp [ix2, Nat.mul_comm]
  · obtain rfl : a = 0 := Subsingleton.elim _ _
    blk_simp [h]; simp [ix2]

theorem place12 (t : Fin cfg0.N) (r : Fin 352) (l : Fin 2816) :
    (win0_12.blk t).view.emb (ix2 r l : S352x2816.Idx) = (ix2 (rowAt t r) l : S4224x2816.Idx) := by
  have h := (index_out t).2.1
  funext a
  apply Fin.ext
  refine Fin.cases ?_ (fun a => ?_) a
  · blk_simp [h]; simp [ix2, Nat.mul_comm]
  · obtain rfl : a = 0 := Subsingleton.elim _ _
    blk_simp [h]; simp [ix2]

theorem place13 (t : Fin cfg0.N) (r : Fin 352) (l : Fin 2816) :
    (win0_13.blk t).view.emb (ix2 r l : S352x2816.Idx) = (ix2 (rowAt t r) l : S4224x2816.Idx) := by
  have h := (index_out t).2.2.1
  funext a
  apply Fin.ext
  refine Fin.cases ?_ (fun a => ?_) a
  · blk_simp [h]; simp [ix2, Nat.mul_comm]
  · obtain rfl : a = 0 := Subsingleton.elim _ _
    blk_simp [h]; simp [ix2]

theorem place14 (t : Fin cfg0.N) (r : Fin 352) (l : Fin 2816) :
    (win0_14.blk t).view.emb (ix2 r l : S352x2816.Idx) = (ix2 (rowAt t r) l : S4224x2816.Idx) := by
  have h := (index_out t).2.2.2.1
  funext a
  apply Fin.ext
  refine Fin.cases ?_ (fun a => ?_) a
  · blk_simp [h]; simp [ix2, Nat.mul_comm]
  · obtain rfl : a = 0 := Subsingleton.elim _ _
    blk_simp [h]; simp [ix2]

theorem place15 (t : Fin cfg0.N) (r : Fin 352) (l : Fin 1024) :
    (win0_15.blk t).view.emb (ix2 r l : S352x1024.Idx) = (ix2 (rowAt t r) l : S4224x1024.Idx) := by
  have h := (index_out t).2.2.2.2.1
  funext a
  apply Fin.ext
  refine Fin.cases ?_ (fun a => ?_) a
  · blk_simp [h]; simp [ix2, Nat.mul_comm]
  · obtain rfl : a = 0 := Subsingleton.elim _ _
    blk_simp [h]; simp [ix2]

theorem place16 (t : Fin cfg0.N) (r : Fin 352) (l : Fin 1024) :
    (win0_16.blk t).view.emb (ix2 r l : S352x1024.Idx) = (ix2 (rowAt t r) l : S4224x1024.Idx) := by
  have h := (index_out t).2.2.2.2.2.1
  funext a
  apply Fin.ext
  refine Fin.cases ?_ (fun a => ?_) a
  · blk_simp [h]; simp [ix2, Nat.mul_comm]
  · obtain rfl : a = 0 := Subsingleton.elim _ _
    blk_simp [h]; simp [ix2]

theorem place17 (t : Fin cfg0.N) (r : Fin 352) (l : Fin 1024) :
    (win0_17.blk t).view.emb (ix2 r l : S352x1024.Idx) = (ix2 (rowAt t r) l : S4224x1024.Idx) := by
  have h := (index_out t).2.2.2.2.2.2.1
  funext a
  apply Fin.ext
  refine Fin.cases ?_ (fun a => ?_) a
  · blk_simp [h]; simp [ix2, Nat.mul_comm]
  · obtain rfl : a = 0 := Subsingleton.elim _ _
    blk_simp [h]; simp [ix2]

theorem place18 (t : Fin cfg0.N) (r : Fin 352) (l : Fin 512) :
    (win0_18.blk t).view.emb (ix2 r l : S352x512.Idx) = (ix2 (rowAt t r) l : S4224x512.Idx) := by
  have h := (index_out t).2.2.2.2.2.2.2.1
  funext a
  apply Fin.ext
  refine Fin.cases ?_ (fun a => ?_) a
  · blk_simp [h]; simp [ix2, Nat.mul_comm]
  · obtain rfl : a = 0 := Subsingleton.elim _ _
    blk_simp [h]; simp [ix2]

theorem place19 (t : Fin cfg0.N) (r : Fin 352) (l : Fin 512) :
    (win0_19.blk t).view.emb (ix2 r l : S352x512.Idx) = (ix2 (rowAt t r) l : S4224x512.Idx) := by
  have h := (index_out t).2.2.2.2.2.2.2.2
  funext a
  apply Fin.ext
  refine Fin.cases ?_ (fun a => ?_) a
  · blk_simp [h]; simp [ix2, Nat.mul_comm]
  · obtain rfl : a = 0 := Subsingleton.elim _ _
    blk_simp [h]; simp [ix2]

variable {m c} {A : Args} (H : Given m c A)
include H

theorem final11 : (dats m 0 c).arrAt 11 cfg0.N = fun i : S4224x1024.Idx => ((Row.n2 A.W (A.row (i 0)) (i 1) : ℝ) : EReal) := by
  refine (dats m 0 c).arrAt_eq_of_covers 11 _ (by decide +kernel) fun t hf y => ?_
  blk_simp
  rw [after0_11]
  obtain ⟨r, l, rfl⟩ : ∃ (r : Fin 352) (l : Fin 1024), y = (ix2 r l : S352x1024.Idx) := ⟨y 0, y 1, (ix2_eta _).symm⟩
  rw [show (win0_11.blk t).view.emb (ix2 r l : S352x1024.Idx) = (ix2 (rowAt t r) l : S4224x1024.Idx) from place11 t r l]
  refine (congrFun (out11 m c t) _).trans ?_
  exact (holds m c t A H).n2 r l

theorem final12 : (dats m 0 c).arrAt 12 cfg0.N = fun i : S4224x2816.Idx => ((Row.f A.W (A.row (i 0)) (i 1) : ℝ) : EReal) := by
  refine (dats m 0 c).arrAt_eq_of_covers 12 _ (by decide +kernel) fun t hf y => ?_
  blk_simp
  rw [after0_12]
  obtain ⟨r, l, rfl⟩ : ∃ (r : Fin 352) (l : Fin 2816), y = (ix2 r l : S352x2816.Idx) := ⟨y 0, y 1, (ix2_eta _).symm⟩
  rw [show (win0_12.blk t).view.emb (ix2 r l : S352x2816.Idx) = (ix2 (rowAt t r) l : S4224x2816.Idx) from place12 t r l]
  by_cases hl : l.val < 1536
  · obtain ⟨l, rfl⟩ : ∃ k : Fin 1536, l = loF k := ⟨⟨l.val, hl⟩, rfl⟩
    refine (out12_lo m c t r l).trans ?_
    exact (holds m c t A H).f1 r l
  · obtain ⟨l, rfl⟩ : ∃ k : Fin 1280, l = hiF k := ⟨⟨l.val - 1536, by omega⟩, Fin.ext (by simp; omega)⟩
    refine (out12_hi m c t r l).trans ?_
    exact (holds m c t A H).f2 r l

theorem final13 : (dats m 0 c).arrAt 13 cfg0.N = fun i : S4224x2816.Idx => ((Row.da A.W (A.row (i 0)) (i 1) : ℝ) : EReal) := by
  refine (dats m 0 c).arrAt_eq_of_covers 13 _ (by decide +kernel) fun t hf y => ?_
  blk_simp
  rw [after0_13]
  obtain ⟨r, l, rfl⟩ : ∃ (r : Fin 352) (l : Fin 2816), y = (ix2 r l : S352x2816.Idx) := ⟨y 0, y 1, (ix2_eta _).symm⟩
  rw [show (win0_13.blk t).view.emb (ix2 r l : S352x2816.Idx) = (ix2 (rowAt t r) l : S4224x2816.Idx) from place13 t r l]
  by_cases hl : l.val < 1536
  · obtain ⟨l, rfl⟩ : ∃ k : Fin 1536, l = loF k := ⟨⟨l.val, hl⟩, rfl⟩
    refine (out13_lo m c t r l).trans ?_
    rw [w_eq]; exact (holds m c t A H).da1 r l
  · obtain ⟨l, rfl⟩ : ∃ k : Fin 1280, l = hiF k := ⟨⟨l.val - 1536, by omega⟩, Fin.ext (by simp; omega)⟩
    refine (out13_hi m c t r l).trans ?_
    rw [w_eq]; exact (holds m c t A H).da2 r l

theorem final14 : (dats m 0 c).arrAt 14 cfg0.N = fun i : S4224x2816.Idx => ((Row.db A.W (A.row (i 0)) (i 1) : ℝ) : EReal) := by
  refine (dats m 0 c).arrAt_eq_of_covers 14 _ (by decide +kernel) fun t hf y => ?_
  blk_simp
  rw [after0_14]
  obtain ⟨r, l, rfl⟩ : ∃ (r : Fin 352) (l : Fin 2816), y = (ix2 r l : S352x2816.Idx) := ⟨y 0, y 1, (ix2_eta _).symm⟩
  rw [show (win0_14.blk t).view.emb (ix2 r l : S352x2816.Idx) = (ix2 (rowAt t r) l : S4224x2816.Idx) from place14 t r l]
  by_cases hl : l.val < 1536
  · obtain ⟨l, rfl⟩ : ∃ k : Fin 1536, l = loF k := ⟨⟨l.val, hl⟩, rfl⟩
    refine (out14_lo m c t r l).trans ?_
    rw [w_eq]; exact (holds m c t A H).db1 r l
  · obtain ⟨l, rfl⟩ : ∃ k : Fin 1280, l = hiF k := ⟨⟨l.val - 1536, by omega⟩, Fin.ext (by simp; omega)⟩
    refine (out14_hi m c t r l).trans ?_
    rw [w_eq]; exact (holds m c t A H).db2 r l

theorem final15 : (dats m 0 c).arrAt 15 cfg0.N = fun i : S4224x1024.Idx => ((Row.dh2 A.W (A.row (i 0)) (i 1) : ℝ) : EReal) := by
  refine (dats m 0 c).arrAt_eq_of_covers 15 _ (by decide +kernel) fun t hf y => ?_
  blk_simp
  rw [after0_15]
  obtain ⟨r, l, rfl⟩ : ∃ (r : Fin 352) (l : Fin 1024), y = (ix2 r l : S352x1024.Idx) := ⟨y 0, y 1, (ix2_eta _).symm⟩
  rw [show (win0_15.blk t).view.emb (ix2 r l : S352x1024.Idx) = (ix2 (rowAt t r) l : S4224x1024.Idx) from place15 t r l]
  refine (congrFun (out15 m c t) _).trans ?_
  rw [w_eq]
  exact (holds m c t A H).dh2b r l

theorem final16 : (dats m 0 c).arrAt 16 cfg0.N = fun i : S4224x1024.Idx => ((Row.dh1 A.W (A.row (i 0)) (i 1) : ℝ) : EReal) := by
  refine (dats m 0 c).arrAt_eq_of_covers 16 _ (by decide +kernel) fun t hf y => ?_
  blk_simp
  rw [after0_16]
  obtain ⟨r, l, rfl⟩ : ∃ (r : Fin 352) (l : Fin 1024), y = (ix2 r l : S352x1024.Idx) := ⟨y 0, y 1, (ix2_eta _).symm⟩
  rw [show (win0_16.blk t).view.emb (ix2 r l : S352x1024.Idx) = (ix2 (rowAt t r) l : S4224x1024.Idx) from place16 t r l]
  refine (congrFun (out16 m c t) _).trans ?_
  rw [w_eq]
  exact (holds m c t A H).dh1 r l

theorem final17 : (dats m 0 c).arrAt 17 cfg0.N = fun i : S4224x1024.Idx => ((Row.dh1 A.W (A.row (i 0)) (i 1) : ℝ) : EReal) := by
  refine (dats m 0 c).arrAt_eq_of_covers 17 _ (by decide +kernel) fun t hf y => ?_
  blk_simp
  rw [after0_17]
  obtain ⟨r, l, rfl⟩ : ∃ (r : Fin 352) (l : Fin 1024), y = (ix2 r l : S352x1024.Idx) := ⟨y 0, y 1, (ix2_eta _).symm⟩
  rw [show (win0_17.blk t).view.emb (ix2 r l : S352x1024.Idx) = (ix2 (rowAt t r) l : S4224x1024.Idx) from place17 t r l]
  refine (congrFun (out17 m c t) _).trans ?_
  rw [w_eq]
  exact (holds m c t A H).dh1b r l

theorem final18 : (dats m 0 c).arrAt 18 cfg0.N = fun i : S4224x512.Idx => ((Row.dyc A.W (A.row (i 0)) (i 1) : ℝ) : EReal) := by
  refine (dats m 0 c).arrAt_eq_of_covers 18 _ (by decide +kernel) fun t hf y => ?_
  blk_simp
  rw [after0_18]
  obtain ⟨r, l, rfl⟩ : ∃ (r : Fin 352) (l : Fin 512), y = (ix2 r l : S352x512.Idx) := ⟨y 0, y 1, (ix2_eta _).symm⟩
  rw [show (win0_18.blk t).view.emb (ix2 r l : S352x512.Idx) = (ix2 (rowAt t r) l : S4224x512.Idx) from place18 t r l]
  refine (congrFun (out18 m c t) _).trans ?_
  rw [w_eq]
  exact (holds m c t A H).dyc r l

theorem final19 : (dats m 0 c).arrAt 19 cfg0.N = fun i : S4224x512.Idx => ((Row.dyg A.W (A.row (i 0)) (i 1) : ℝ) : EReal) := by
  refine (dats m 0 c).arrAt_eq_of_covers 19 _ (by decide +kernel) fun t hf y => ?_
  blk_simp
  rw [after0_19]
  obtain ⟨r, l, rfl⟩ : ∃ (r : Fin 352) (l : Fin 512), y = (ix2 r l : S352x512.Idx) := ⟨y 0, y 1, (ix2_eta _).symm⟩
  rw [show (win0_19.blk t).view.emb (ix2 r l : S352x512.Idx) = (ix2 (rowAt t r) l : S4224x512.Idx) from place19 t r l]
  refine (congrFun (out19 m c t) _).trans ?_
  rw [w_eq]
  exact (holds m c t A H).dyg r l

omit H in
/-- The row of a number; the sum of the rows of the first `n` steps. -/
theorem sum_rows (f : Fin 4224 → ℝ) : ∑ s : Fin 12, ∑ r : Fin 352, f ⟨352 * s.val + r.val, by omega⟩ = ∑ R, f R := by
  rw [← Fintype.sum_prod_type', ← (finProdFinEquiv (m := 12) (n := 352)).sum_comp]
  refine Finset.sum_congr rfl fun p _ => congrArg f (Fin.ext ?_)
  simp [finProdFinEquiv, Nat.add_comm]

/-- What three sums have run up to after a step. -/
def sums (A : Args) (n : ℕ) (q : Fin 8) (l : Fin 1024) : ℝ :=
  ∑ s : Fin 12, if s.val ≤ n then ∑ r : Fin 352, Args.part A ⟨352 * s.val + r.val, by omega⟩ q l else 0

omit H in
theorem sums_zero (q : Fin 8) (l : Fin 1024) : sums A 0 q l = ∑ r : Fin 352, Args.part A ⟨352 * 0 + r.val, by omega⟩ q l := by
  unfold sums
  rw [Finset.sum_eq_single (0 : Fin 12)]
  · simp
  · intro s _ hs
    rw [if_neg]
    intro h
    exact hs (Fin.ext (by simpa using h))
  · simp

omit H in
theorem sums_succ (n : ℕ) (hn : n + 1 < 12) (q : Fin 8) (l : Fin 1024) :
    sums A (n + 1) q l = sums A n q l + ∑ r : Fin 352, Args.part A ⟨352 * (n + 1) + r.val, by omega⟩ q l := by
  unfold sums
  have e : ∀ s : Fin 12, (if s.val ≤ n + 1 then ∑ r : Fin 352, Args.part A ⟨352 * s.val + r.val, by omega⟩ q l else 0) =
      (if s.val ≤ n then ∑ r : Fin 352, Args.part A ⟨352 * s.val + r.val, by omega⟩ q l else 0) +
        if s = ⟨n + 1, hn⟩ then ∑ r : Fin 352, Args.part A ⟨352 * s.val + r.val, by omega⟩ q l else 0 := by
    intro s
    by_cases h : s.val ≤ n
    · rw [if_pos h, if_pos (by omega), if_neg (fun h' => by rw [h'] at h; exact absurd h (by simp)), add_zero]
    · by_cases h' : s = ⟨n + 1, hn⟩
      · rw [if_neg h, if_pos h', if_pos (by rw [h']), zero_add]
      · rw [if_neg h, if_neg h', if_neg, add_zero]
        intro h''
        exact h' (Fin.ext (by simp; omega))
  rw [Finset.sum_congr rfl fun s _ => e s, Finset.sum_add_distrib, Finset.sum_ite_eq', if_pos (Finset.mem_univ _)]

/-- A step adds its rows' part of the three sums. -/
theorem add_eq (t : Fin cfg0.N) (prev : Vec Ideal S8x1024 .f32) (p : Fin 8 → Fin 1024 → ℝ)
    (hp : ∀ q l, prev (ix2 q l) = ((p q l : ℝ) : EReal)) (q : Fin 8) (l : Fin 1024) :
    add prev (Tile.dg3 (iblk m c 0 t) (iblk m c 1 t) (iblk m c 2 t) (iblk m c 3 t) (iblk m c 4 t) (iblk m c 5 t) (iblk m c 6 t) (iblk m c 7 t) (iblk m c 8 t) (iblk m c 9 t) (w t))
      (Tile.dg2 (iblk m c 0 t) (iblk m c 1 t) (iblk m c 2 t) (iblk m c 3 t) (iblk m c 4 t) (iblk m c 5 t) (iblk m c 6 t) (iblk m c 7 t) (iblk m c 8 t) (iblk m c 9 t) (w t))
      (Tile.loss (iblk m c 0 t) (iblk m c 1 t) (iblk m c 2 t) (iblk m c 3 t) (iblk m c 4 t) (iblk m c 5 t) (iblk m c 6 t) (iblk m c 7 t) (iblk m c 8 t) (iblk m c 9 t) (w t)) q l =
      ((p q l + ∑ r : Fin 352, Args.part A (rowAt t r) q l : ℝ) : EReal) := by
  unfold add Args.part
  rw [w_eq, (holds m c t A H).dg3 l, (holds m c t A H).dg2 l, (holds m c t A H).loss, EReal.coe_add, hp, hp, hp, hp]
  by_cases q0 : q = 0
  · subst q0; simp only [if_true]
  by_cases q1 : q = 1
  · subst q1; simp only [if_true, if_neg q0]
  by_cases q2 : q = 2
  · subst q2; simp only [if_true, if_neg q0, if_neg q1]
  simp only [if_neg q0, if_neg q1, if_neg q2, Finset.sum_const_zero, EReal.coe_zero, add_zero]

theorem part_eq (n : ℕ) (hn : n < cfg0.N) (q : Fin 8) (l : Fin 1024) :
    ((outsAt0 m c n hn).2.2.2.2.2.2.2.2.2 (ix2 q l) : EReal) = ((sums A n q l : ℝ) : EReal) := by
  induction n generalizing q l with
  | zero =>
    refine (out20_A m c ⟨0, hn⟩ rfl q l).trans ?_
    rw [add_eq H ⟨0, hn⟩ _ (fun _ _ => 0) (fun _ _ => rfl) q l, sums_zero, zero_add]
  | succ n ih =>
    have h12 : cfg0.N = 12 := N_0
    refine (out20_B m c ⟨n + 1, hn⟩ (show ¬(n + 1) % 12 = 0 by omega) q l).trans ?_
    refine (add_eq H ⟨n + 1, hn⟩ _ (sums A n) (fun q l => ih _ q l) q l).trans ?_
    rw [sums_succ n (by omega)]

theorem final20 : (dats m 0 c).arrAt 20 cfg0.N =
    fun i : S8x1024.Idx => ((∑ R, Args.part A R (i 0) (i 1) : ℝ) : EReal) := by
  refine (dats m 0 c).arrAt_eq_of_after_last 20 t0_11 (by decide +kernel) _ fun j => ?_
  blk_simp
  rw [after0_20]
  obtain ⟨q, l, rfl⟩ : ∃ (q : Fin 8) (l : Fin 1024), j = (ix2 q l : S8x1024.Idx) := ⟨j 0, j 1, (ix2_eta _).symm⟩
  refine (part_eq H _ _ q l).trans (congrArg _ ?_)
  rw [← sum_rows]
  refine Finset.sum_congr rfl fun s _ => if_pos ?_
  show s.val ≤ 11
  omega

end Cert.Mid.Step

end
-- ==== Proof.Index.lean ====
/-
  WHERE THE REFERENCE'S LAYOUT OPERATIONS READ: each of them, at an index given by its coordinates, reads its operand at
  these coordinates. (`idx_…`, `lidx_…`, `ridx_…` are the operand's indices of a broadcast, a reshape, a slice, a sum or
  a product.)
-/
module

public import proofs.«01_k».proof.Proof.Spec
public import proofs.«01_k».proof.Proof.Gen.ReferenceIdeal.Read

@[expose] public section

set_option maxRecDepth 16384

namespace Cert.Mid.Ref

open Cert.ReferenceIdeal Cert.ReferenceIdeal.Read Idealize.ShloMosaic

theorem ix_idx_v0 (z : Fin 1) (q : Fin 16) (l : Fin 1024) : idx_main_v0 (ix3 z q l) = ix2 q l := funext fun a => by fin_cases a <;> rfl
theorem ix_idx_v1 (e : Fin 2) (q : Fin 16) (l : Fin 1024) : idx_main_v1 (ix3 e q l) = ix3 (0 : Fin 1) q l := funext fun a => by fin_cases a <;> rfl
theorem ix_idx_v4 (R : Fin 4224) (l : Fin 1024) : idx_main_v4 (ix2 R l) = ix3 (⟨R.val / 2112, by omega⟩ : Fin 2) (⟨R.val % 2112, by omega⟩ : Fin 2112) l := funext fun a => by
  fin_cases a
  · exact Fin.ext (show (R.val * 1024 + l.val) / 2162688 = R.val / 2112 by omega)
  · exact Fin.ext (show (R.val * 1024 + l.val) / 1024 % 2112 = R.val % 2112 by omega)
  · exact Fin.ext (show (R.val * 1024 + l.val) % 1024 = l.val by omega)
theorem ix_idx_v10 (l : Fin 1024) (l' : Fin 1024) : idx_main_v10 (ix2 l l') = ix3 (0 : Fin 1) l l' := funext fun a => by
  fin_cases a
  · exact Fin.ext (show 0 = 0 by omega)
  · exact Fin.ext (show (l.val * 1024 + l'.val) / 1024 % 1024 = l.val by omega)
  · exact Fin.ext (show (l.val * 1024 + l'.val) % 1024 = l'.val by omega)
theorem ix_lidx_v11 (R : Fin 4224) (l : Fin 1024) (c : Fin 1024) : lidx_main_v11 (ix2 R l) c = ix2 R c := funext fun a => by fin_cases a <;> rfl
theorem ix_ridx_v11 (R : Fin 4224) (l : Fin 1024) (c : Fin 1024) : ridx_main_v11 (ix2 R l) c = ix2 c l := funext fun a => by fin_cases a <;> rfl
theorem ix_idx_v13 (l : Fin 1024) : idx_main_v13 (ix1 l) = ix2 (0 : Fin 1) l := funext fun a => by
  fin_cases a
  · exact Fin.ext (show 0 = 0 by omega)
  · exact Fin.ext (show (l.val) % 1024 = l.val by omega)
theorem ix_idx_v15 (R : Fin 4224) (c : Fin 1024) : idx_main_v15 (ix1 R) c = ix2 R c := funext fun a => by fin_cases a <;> rfl
theorem ix_idx_v16 (R : Fin 4224) (z : Fin 1) : idx_main_v16 (ix2 R z) = ix1 R := funext fun a => by fin_cases a <;> rfl
theorem ix_idx_v25 (R : Fin 4224) (l : Fin 1024) : idx_main_v25 (ix2 R l) = ix2 R (0 : Fin 1) := funext fun a => by fin_cases a <;> rfl
theorem ix_idx_v27 (z : Fin 1) (l : Fin 1024) : idx_main_v27 (ix2 z l) = ix1 l := funext fun a => by fin_cases a <;> rfl
theorem ix_idx_v28 (R : Fin 4224) (l : Fin 1024) : idx_main_v28 (ix2 R l) = ix2 (0 : Fin 1) l := funext fun a => by fin_cases a <;> rfl
theorem ix_idx_v30 (l : Fin 1024) (j : Fin 2816) : idx_main_v30 (ix2 l j) = ix3 (0 : Fin 1) l j := funext fun a => by
  fin_cases a
  · exact Fin.ext (show 0 = 0 by omega)
  · exact Fin.ext (show (l.val * 2816 + j.val) / 2816 % 1024 = l.val by omega)
  · exact Fin.ext (show (l.val * 2816 + j.val) % 2816 = j.val by omega)
theorem ix_lidx_v31 (R : Fin 4224) (j : Fin 2816) (c : Fin 1024) : lidx_main_v31 (ix2 R j) c = ix2 R c := funext fun a => by fin_cases a <;> rfl
theorem ix_ridx_v31 (R : Fin 4224) (j : Fin 2816) (c : Fin 1024) : ridx_main_v31 (ix2 R j) c = ix2 c j := funext fun a => by fin_cases a <;> rfl
theorem ix_idx_v33 (l : Fin 1024) (j : Fin 2816) : idx_main_v33 (ix2 l j) = ix3 (0 : Fin 1) l j := funext fun a => by
  fin_cases a
  · exact Fin.ext (show 0 = 0 by omega)
  · exact Fin.ext (show (l.val * 2816 + j.val) / 2816 % 1024 = l.val by omega)
  · exact Fin.ext (show (l.val * 2816 + j.val) % 2816 = j.val by omega)
theorem ix_lidx_v34 (R : Fin 4224) (j : Fin 2816) (c : Fin 1024) : lidx_main_v34 (ix2 R j) c = ix2 R c := funext fun a => by fin_cases a <;> rfl
theorem ix_ridx_v34 (R : Fin 4224) (j : Fin 2816) (c : Fin 1024) : ridx_main_v34 (ix2 R j) c = ix2 c j := funext fun a => by fin_cases a <;> rfl
theorem ix_idx_v38 (j : Fin 2816) (l : Fin 1024) : idx_main_v38 (ix2 j l) = ix3 (0 : Fin 1) j l := funext fun a => by
  fin_cases a
  · exact Fin.ext (show 0 = 0 by omega)
  · exact Fin.ext (show (j.val * 1024 + l.val) / 1024 % 2816 = j.val by omega)
  · exact Fin.ext (show (j.val * 1024 + l.val) % 1024 = l.val by omega)
theorem ix_lidx_v39 (R : Fin 4224) (l : Fin 1024) (c : Fin 2816) : lidx_main_v39 (ix2 R l) c = ix2 R c := funext fun a => by fin_cases a <;> rfl
theorem ix_ridx_v39 (R : Fin 4224) (l : Fin 1024) (c : Fin 2816) : ridx_main_v39 (ix2 R l) c = ix2 c l := funext fun a => by fin_cases a <;> rfl
theorem ix_idx_v43 (R : Fin 4224) (c : Fin 1024) : idx_main_v43 (ix1 R) c = ix2 R c := funext fun a => by fin_cases a <;> rfl
theorem ix_idx_v44 (R : Fin 4224) (z : Fin 1) : idx_main_v44 (ix2 R z) = ix1 R := funext fun a => by fin_cases a <;> rfl
theorem ix_idx_v53 (R : Fin 4224) (l : Fin 1024) : idx_main_v53 (ix2 R l) = ix2 R (0 : Fin 1) := funext fun a => by fin_cases a <;> rfl
theorem ix_idx_v55 (z : Fin 1) (l : Fin 1024) : idx_main_v55 (ix2 z l) = ix1 l := funext fun a => by fin_cases a <;> rfl
theorem ix_idx_v56 (R : Fin 4224) (l : Fin 1024) : idx_main_v56 (ix2 R l) = ix2 (0 : Fin 1) l := funext fun a => by fin_cases a <;> rfl
theorem ix_idx_v58 (e : Fin 2) (p : Fin 2112) (l : Fin 1024) : idx_main_v58 (ix3 e p l) = ix2 (⟨e.val * 2112 + p.val, by omega⟩ : Fin 4224) l := funext fun a => by
  fin_cases a
  · exact Fin.ext (show ((e.val * 2112 + p.val) * 1024 + l.val) / 1024 = e.val * 2112 + p.val by omega)
  · exact Fin.ext (show ((e.val * 2112 + p.val) * 1024 + l.val) % 1024 = l.val by omega)
theorem ix_idx_v59 (e : Fin 2) (p : Fin 2048) (l : Fin 1024) : idx_main_v59 (ix3 e p l) = ix3 e (⟨64 + p.val, by omega⟩ : Fin 2112) l := funext fun a => by
  fin_cases a
  · exact Fin.ext (show e.val = e.val by omega)
  · exact Fin.ext (show 64 + p.val = 64 + p.val by omega)
  · exact Fin.ext (show l.val = l.val by omega)
theorem ix_idx_v64 (e : Fin 2) (p : Fin 2048) (c : Fin 1024) : idx_main_v64 (ix2 e p) c = ix3 e p c := funext fun a => by fin_cases a <;> rfl
theorem ix_idx_v73 (e : Fin 2) (p : Fin 2048) (l : Fin 1024) : idx_main_v73 (ix3 e p l) = ix2 e p := funext fun a => by fin_cases a <;> rfl
theorem ix_idx_v76 (R : Fin 4224) (l : Fin 1024) : idx_main_v76 (ix2 R l) = ix3 (⟨R.val / 2112, by omega⟩ : Fin 2) (⟨R.val % 2112, by omega⟩ : Fin 2112) l := funext fun a => by
  fin_cases a
  · exact Fin.ext (show (R.val * 1024 + l.val) / 2162688 = R.val / 2112 by omega)
  · exact Fin.ext (show (R.val * 1024 + l.val) / 1024 % 2112 = R.val % 2112 by omega)
  · exact Fin.ext (show (R.val * 1024 + l.val) % 1024 = l.val by omega)
theorem ix_idx_v78 (l : Fin 1024) (c : Fin 4224) : idx_main_v78 (ix1 l) c = ix2 c l := funext fun a => by fin_cases a <;> rfl
theorem ix_idx_v79 (z : Fin 1) (l : Fin 1024) : idx_main_v79 (ix2 z l) = ix1 l := funext fun a => by
  fin_cases a
  · exact Fin.ext (show z.val * 1024 + l.val = l.val by omega)
theorem ix_idx_v80 (R : Fin 4224) (l : Fin 1024) : idx_main_v80 (ix2 R l) = ix2 (0 : Fin 1) l := funext fun a => by fin_cases a <;> rfl
theorem ix_idx_v82 (l : Fin 1024) (c : Fin 1) : idx_main_v82 (ix1 l) c = ix2 c l := funext fun a => by fin_cases a <;> rfl
theorem ix_idx_v84 (R : Fin 4224) (c : Fin 1024) : idx_main_v84 (ix1 R) c = ix2 R c := funext fun a => by fin_cases a <;> rfl
theorem ix_idx_v85 (R : Fin 4224) (z : Fin 1) : idx_main_v85 (ix2 R z) = ix1 R := funext fun a => by
  fin_cases a
  · exact Fin.ext (show R.val * 1 + z.val = R.val by omega)
theorem ix_idx_v86 (R : Fin 4224) (l : Fin 1024) : idx_main_v86 (ix2 R l) = ix2 R (0 : Fin 1) := funext fun a => by fin_cases a <;> rfl
theorem ix_idx_v91 (R : Fin 4224) (c : Fin 1) : idx_main_v91 (ix1 R) c = ix2 R c := funext fun a => by fin_cases a <;> rfl
theorem ix_idx_v92 (R : Fin 4224) (l : Fin 1024) : idx_main_v92 (ix2 R l) = ix1 R := funext fun a => by fin_cases a <;> rfl
theorem ix_lidx_v97 (R : Fin 4224) (j : Fin 2816) (c : Fin 1024) : lidx_main_v97 (ix2 R j) c = ix2 R c := funext fun a => by fin_cases a <;> rfl
theorem ix_ridx_v97 (R : Fin 4224) (j : Fin 2816) (c : Fin 1024) : ridx_main_v97 (ix2 R j) c = ix2 j c := funext fun a => by fin_cases a <;> rfl
theorem ix_lidx_v101 (R : Fin 4224) (l : Fin 1024) (c : Fin 2816) : lidx_main_v101 (ix2 R l) c = ix2 R c := funext fun a => by fin_cases a <;> rfl
theorem ix_ridx_v101 (R : Fin 4224) (l : Fin 1024) (c : Fin 2816) : ridx_main_v101 (ix2 R l) c = ix2 l c := funext fun a => by fin_cases a <;> rfl
theorem ix_lidx_v102 (R : Fin 4224) (l : Fin 1024) (c : Fin 2816) : lidx_main_v102 (ix2 R l) c = ix2 R c := funext fun a => by fin_cases a <;> rfl
theorem ix_ridx_v102 (R : Fin 4224) (l : Fin 1024) (c : Fin 2816) : ridx_main_v102 (ix2 R l) c = ix2 l c := funext fun a => by fin_cases a <;> rfl
theorem ix_idx_v105 (l : Fin 1024) (c : Fin 4224) : idx_main_v105 (ix1 l) c = ix2 c l := funext fun a => by fin_cases a <;> rfl
theorem ix_idx_v106 (z : Fin 1) (l : Fin 1024) : idx_main_v106 (ix2 z l) = ix1 l := funext fun a => by
  fin_cases a
  · exact Fin.ext (show z.val * 1024 + l.val = l.val by omega)
theorem ix_idx_v107 (R : Fin 4224) (l : Fin 1024) : idx_main_v107 (ix2 R l) = ix2 (0 : Fin 1) l := funext fun a => by fin_cases a <;> rfl
theorem ix_idx_v109 (l : Fin 1024) (c : Fin 1) : idx_main_v109 (ix1 l) c = ix2 c l := funext fun a => by fin_cases a <;> rfl
theorem ix_idx_v111 (R : Fin 4224) (c : Fin 1024) : idx_main_v111 (ix1 R) c = ix2 R c := funext fun a => by fin_cases a <;> rfl
theorem ix_idx_v112 (R : Fin 4224) (z : Fin 1) : idx_main_v112 (ix2 R z) = ix1 R := funext fun a => by
  fin_cases a
  · exact Fin.ext (show R.val * 1 + z.val = R.val by omega)
theorem ix_idx_v113 (R : Fin 4224) (l : Fin 1024) : idx_main_v113 (ix2 R l) = ix2 R (0 : Fin 1) := funext fun a => by fin_cases a <;> rfl
theorem ix_idx_v119 (R : Fin 4224) (c : Fin 1) : idx_main_v119 (ix1 R) c = ix2 R c := funext fun a => by fin_cases a <;> rfl
theorem ix_idx_v120 (R : Fin 4224) (l : Fin 1024) : idx_main_v120 (ix2 R l) = ix1 R := funext fun a => by fin_cases a <;> rfl
theorem ix_idx_v125 (z : Fin 1) (l : Fin 1024) : idx_main_v125 (ix2 z l) = ix1 l := funext fun a => by fin_cases a <;> rfl
theorem ix_lidx_v126 (R : Fin 4224) (l : Fin 1024) (c : Fin 1024) : lidx_main_v126 (ix2 R l) c = ix2 R c := funext fun a => by fin_cases a <;> rfl
theorem ix_ridx_v126 (R : Fin 4224) (l : Fin 1024) (c : Fin 1024) : ridx_main_v126 (ix2 R l) c = ix2 l c := funext fun a => by fin_cases a <;> rfl
theorem ix_idx_v127 (R : Fin 4224) (k : Fin 512) : idx_main_v127 (ix2 R k) = ix2 R (lo k) := funext fun a => by fin_cases a <;> rfl
theorem ix_idx_v128 (R : Fin 4224) (k : Fin 512) : idx_main_v128 (ix2 R k) = ix2 R (hi k) := funext fun a => by
  fin_cases a
  · exact Fin.ext (show R.val = R.val by omega)
  · exact Fin.ext (show 512 + k.val = 512 + k.val by omega)
theorem ix_idx_v129 (z : Fin 1) (l : Fin 1024) : idx_main_v129 (ix2 z l) = ix1 l := funext fun a => by fin_cases a <;> rfl

end Cert.Mid.Ref

end
-- ==== Proof.RefReads.lean ====
/-
  JOINED AND PADDED ARRAYS OF THE REFERENCE, read at an index.
-/
module

public import proofs.«01_k».proof.Proof.Index
public import Idealize.ShloMosaic.Lib.Pointwise

@[expose] public section

set_option maxRecDepth 16384

noncomputable section

namespace Cert.Mid.Ref

open Cert.ReferenceIdeal Cert.ReferenceIdeal.Gen Cert.ReferenceIdeal.Read Idealize.ShloMosaic Idealize.ShloMosaic.TcCoe

/-- An example's rows: 48 of padding, the meta tokens, the tokens. -/
theorem rows_apply (a : S2x48x1024.Idx → EReal) (b : S2x16x1024.Idx → EReal) (c : S2x2048x1024.Idx → EReal)
    (e : Fin 2) (p : Fin 2112) (l : Fin 1024) :
    concatenate S2x2112x1024 1 [⟨S2x48x1024, a⟩, ⟨S2x16x1024, b⟩, ⟨S2x2048x1024, c⟩]
      concatenates_S2x48x1024_S2x16x1024_S2x2048x1024_S2x2112x1024_d1 (ix3 e p l)
      = if h : p.val < 48 then a (ix3 e (⟨p.val, h⟩ : Fin 48) l)
        else if h : p.val < 64 then b (ix3 e (⟨p.val - 48, by omega⟩ : Fin 16) l)
        else c (ix3 e (⟨p.val - 64, by omega⟩ : Fin 2048) l) := by
  pointwise
  by_cases h0 : p.val < 48
  · simp only [dif_pos h0]
  by_cases h1 : p.val < 64
  · have h2 : p.val - 48 < 16 := by omega
    simp only [dif_neg h0, dif_pos h1, dif_pos h2]
  · have h2 : ¬ p.val - 48 < 16 := by omega
    simp only [dif_neg h0, dif_neg h1, dif_neg h2, Nat.sub_sub]

/-- The two mixers' outputs side by side. -/
theorem mixers_lo (a b : S4224x512.Idx → EReal) (R : Fin 4224) (k : Fin 512) :
    concatenate S4224x1024 1 [⟨S4224x512, a⟩, ⟨S4224x512, b⟩] concatenates_S4224x512_S4224x512_S4224x1024_d1 (ix2 R (lo k)) = a (ix2 R k) := by
  pointwise

theorem mixers_hi (a b : S4224x512.Idx → EReal) (R : Fin 4224) (k : Fin 512) :
    concatenate S4224x1024 1 [⟨S4224x512, a⟩, ⟨S4224x512, b⟩] concatenates_S4224x512_S4224x512_S4224x1024_d1 (ix2 R (hi k)) = b (ix2 R k) := by
  pointwise

/-- The loss's gradient is zero on the 64 rows before the tokens. -/
theorem pad_apply (a : S2x2048x1024.Idx → EReal) (z : S_.Idx → EReal) (e : Fin 2) (p : Fin 2112) (l : Fin 1024) :
    pad S2x2112x1024 ![0, 64, 0] ![0, 0, 0] ![0, 0, 0] a z pads_S2x2048x1024_S2x2112x1024_000_6400_000 h_S_ (ix3 e p l)
      = if h : 64 ≤ p.val then a (ix3 e (⟨p.val - 64, by omega⟩ : Fin 2048) l) else z (Shape.Idx.first h_S_) := by
  pointwise
  split_ifs <;> first | rfl | omega

/-- The eight rows of sums. -/
theorem sums_apply (a b c : S1x1024.Idx → EReal) (d : S5x1024.Idx → EReal) (q : Fin 8) (l : Fin 1024) :
    concatenate S8x1024 0 [⟨S1x1024, a⟩, ⟨S1x1024, b⟩, ⟨S1x1024, c⟩, ⟨S5x1024, d⟩]
      concatenates_S1x1024_S1x1024_S1x1024_S5x1024_S8x1024_d0 (ix2 q l)
      = if q.val = 0 then a (ix2 0 l) else if q.val = 1 then b (ix2 0 l) else if q.val = 2 then c (ix2 0 l)
        else d (ix2 (⟨q.val - 3, by omega⟩ : Fin 5) l) := by
  pointwise
  fin_cases q <;> rfl

end Cert.Mid.Ref

end
-- ==== Proof.RefRows.lean ====
/-
  THE REFERENCE, ROW BY ROW: what its operations compute at row `R`, as the real-valued row functions of Proof/Spec.lean,
  when the arguments hold finite numbers.
-/
module

public import proofs.«01_k».proof.Proof.RefReads
public import proofs.«01_k».proof.Proof.Args

@[expose] public section

set_option maxRecDepth 16384

noncomputable section

namespace Cert.Mid.Ref

open Cert.ReferenceIdeal Cert.ReferenceIdeal.Gen Cert.ReferenceIdeal.Read Idealize.ShloMosaic Idealize.ShloMosaic.TcCoe

variable (A : Args)

/-- The row of token `p` of example `e`. -/
abbrev tok (e : Fin 2) (p : Fin 2048) : Fin 4224 := ⟨e.val * 2112 + (64 + p.val), by omega⟩

theorem err_tok (e : Fin 2) (p : Fin 2048) (l : Fin 1024) :
    (A.row (tok e p)).err A.W l = (A.row (tok e p)).xh3 A.W l * A.W.g3 l - A.t e p l := by
  have h : 64 ≤ (tok e p).val % 2112 := by show 64 ≤ (e.val * 2112 + (64 + p.val)) % 2112; omega
  have hl : (A.row (tok e p)).live = true := decide_eq_true h
  have ht : (A.row (tok e p)).t l = A.t e p l := by
    show A.tg (tok e p) l = _
    unfold Args.tg
    rw [dif_pos h]
    exact congrArg₂ (fun a b => A.t a b l) (Fin.ext (show (e.val * 2112 + (64 + p.val)) / 2112 = e.val by omega))
      (Fin.ext (show (e.val * 2112 + (64 + p.val)) % 2112 - 64 = p.val by omega))
  unfold Row.err
  rw [if_pos hl, ht]

theorem err_dead (R : Fin 4224) (h : ¬ 64 ≤ R.val % 2112) (l : Fin 1024) : (A.row R).err A.W l = 0 := by
  unfold Row.err
  exact if_neg (by simpa [Args.row] using h)

theorem dy_dead (R : Fin 4224) (h : ¬ 64 ≤ R.val % 2112) (l : Fin 1024) : (A.row R).dy A.W l = 0 := by
  unfold Row.dy; rw [err_dead A R h, zero_mul]

theorem tok_eq (R : Fin 4224) (h : 64 ≤ R.val % 2112) :
    tok (⟨R.val / 2112, by omega⟩ : Fin 2) (⟨R.val % 2112 - 64, by omega⟩ : Fin 2048) = R :=
  Fin.ext (show R.val / 2112 * 2112 + (64 + (R.val % 2112 - 64)) = R.val by omega)

/-- Only the tokens' rows contribute to the loss. -/
theorem sum_loss : (∑ R, (A.row R).loss A.W) = ∑ e : Fin 2, ∑ p : Fin 2048, (A.row (tok e p)).loss A.W := by
  have h1 : (∑ R, (A.row R).loss A.W)
      = ∑ q : Fin 2 × Fin 2112, (A.row (⟨q.1.val * 2112 + q.2.val, by omega⟩ : Fin 4224)).loss A.W :=
    (Equiv.sum_comp (finProdFinEquiv (m := 2) (n := 2112)) fun R => (A.row R).loss A.W).symm.trans
      (Finset.sum_congr rfl fun q _ => by
        congr 2; exact Fin.ext (show q.2.val + 2112 * q.1.val = q.1.val * 2112 + q.2.val by ring))
  rw [h1, Fintype.sum_prod_type]
  refine Finset.sum_congr rfl fun e _ => ?_
  refine (Fin.sum_univ_add (a := 64) (b := 2048) _).trans ?_
  rw [Finset.sum_eq_zero fun p _ => ?_, zero_add]
  · rfl
  · have h : ¬ 64 ≤ (e.val * 2112 + p.val) % 2112 := by omega
    unfold Row.loss
    rw [Finset.sum_eq_zero fun l _ => ?_, mul_zero]
    rw [err_dead A _ h, zero_mul]

theorem sum_ix2 {n m : ℕ} (f : (⟨2, ![n, m]⟩ : Shape).Idx → EReal) : ∑ j, f j = ∑ e, ∑ p, f (ix2 e p) :=
  ValueIdx.sum_idx2 f

theorem sum_split (f : Fin 1024 → EReal) : ∑ k, f k = (∑ k, f (lo k)) + ∑ k, f (hi k) :=
  Fin.sum_univ_add (a := 512) (b := 512) f

/-! ### The reference's operations -/

variable {A}
variable {x0 x1 : (⟨S4224x512, .bf16⟩ : BufTy).Contents (Elt Ideal)} {x2 x4 : (⟨S2x2048x1024, .f32⟩ : BufTy).Contents (Elt Ideal)}
  {x3 : (⟨S16x1024, .f32⟩ : BufTy).Contents (Elt Ideal)} {x5 : (⟨S1x1024x1024, .f32⟩ : BufTy).Contents (Elt Ideal)}
  {x6 x7 : (⟨S1x1024x2816, .f32⟩ : BufTy).Contents (Elt Ideal)} {x8 : (⟨S1x2816x1024, .f32⟩ : BufTy).Contents (Elt Ideal)}
  {x9 : (⟨S1x1024, .f32⟩ : BufTy).Contents (Elt Ideal)} {x10 : (⟨S1024, .f32⟩ : BufTy).Contents (Elt Ideal)}

/-- The joined rows: padding, meta tokens, tokens. -/
theorem v4 (H : Lifted A x0 x1 x2 x3 x4 x5 x6 x7 x8 x9 x10) (R : Fin 4224) (l : Fin 1024) :
    (val_main_v4 (F := Ideal) x2 x3 (ix2 R l) : EReal) = ((A.h R l : ℝ) : EReal) := by
  rw [val_main_v4_apply, ix_idx_v4]
  unfold val_main_v3
  refine (rows_apply _ _ _ _ _ _).trans ?_
  unfold Args.h
  by_cases h0 : R.val % 2112 < 48
  · rw [dif_pos h0, dif_neg (by omega), dif_neg (by omega), val_main_v2_apply, val_main_cst_apply, Ideal.ofBits_def, Lift.ofBits_zero]
  by_cases h1 : R.val % 2112 < 64
  · rw [dif_neg h0, dif_pos h1, dif_neg (by omega), dif_pos (by omega), val_main_v1_apply, ix_idx_v1, val_main_v0_apply, ix_idx_v0, H.mt]
  · rw [dif_neg h0, dif_neg h1, dif_pos (by omega), H.x]

theorem v9_lo (H : Lifted A x0 x1 x2 x3 x4 x5 x6 x7 x8 x9 x10) (R : Fin 4224) (k : Fin 512) :
    (val_main_v9 (F := Ideal) x0 x1 (ix2 R (lo k)) : EReal) = ((A.yc R k : ℝ) : EReal) := by
  unfold val_main_v9
  refine (mixers_lo _ _ R k).trans ?_
  rw [val_main_v7_apply, Ideal.extf_def, H.yc]

theorem v9_hi (H : Lifted A x0 x1 x2 x3 x4 x5 x6 x7 x8 x9 x10) (R : Fin 4224) (k : Fin 512) :
    (val_main_v9 (F := Ideal) x0 x1 (ix2 R (hi k)) : EReal) = ((A.yg R k : ℝ) : EReal) := by
  unfold val_main_v9
  refine (mixers_hi _ _ R k).trans ?_
  rw [val_main_v8_apply, Ideal.extf_def, H.yg]

theorem v11 (H : Lifted A x0 x1 x2 x3 x4 x5 x6 x7 x8 x9 x10) (R : Fin 4224) (l : Fin 1024) :
    (val_main_v11 (F := Ideal) x0 x1 x5 (ix2 R l) : EReal)
      = ((∑ k, A.yc R k * A.W.wo (lo k) l + ∑ k, A.yg R k * A.W.wo (hi k) l : ℝ) : EReal) := by
  rw [val_main_v11_apply, sum_split]
  simp only [ix_lidx_v11, ix_ridx_v11, v9_lo H, v9_hi H, val_main_v10_apply, ix_idx_v10, H.wo]
  simp only [Lift.lift]

theorem v12 (H : Lifted A x0 x1 x2 x3 x4 x5 x6 x7 x8 x9 x10) (R : Fin 4224) (l : Fin 1024) :
    (val_main_v12 (F := Ideal) x0 x1 x2 x3 x5 (ix2 R l) : EReal) = (((A.row R).h1 A.W l : ℝ) : EReal) := by
  simp only [val_main_v12_apply, v4 H, v11 H, pointwise]
  simp (disch := first | positivity | exact (ms_pos _).ne' | exact (ms_pos _)) only [Lift.lift, Lift.rsqrt_coe_pos]
  refine congrArg (fun r : ℝ => (r : EReal)) ?_
  exact (add_assoc _ _ _).symm

theorem v20 (H : Lifted A x0 x1 x2 x3 x4 x5 x6 x7 x8 x9 x10) (R : Fin 4224) (z : Fin 1) :
    (val_main_v20 (F := Ideal) x0 x1 x2 x3 x5 (ix2 R z) : EReal) = ((ms ((A.row R).h1 A.W) : ℝ) : EReal) := by
  simp only [val_main_v20_apply, val_main_v18_apply, val_main_v16_apply, val_main_v15_apply, val_main_v14_apply, val_main_cst_2_apply, val_main_v17_apply, val_main_cst_3_apply, val_main_v19_apply, val_main_cst_4_apply, ix_idx_v16, ix_idx_v15, v12 H, pointwise]
  simp (disch := first | positivity | exact (ms_pos _).ne' | exact (ms_pos _)) only [Lift.lift, Lift.rsqrt_coe_pos]
  refine congrArg (fun r : ℝ => (r : EReal)) ?_
  unfold ms; ring

theorem v21 (H : Lifted A x0 x1 x2 x3 x4 x5 x6 x7 x8 x9 x10) (R : Fin 4224) (z : Fin 1) :
    (val_main_v21 (F := Ideal) x0 x1 x2 x3 x5 (ix2 R z) : EReal) = ((rn ((A.row R).h1 A.W) : ℝ) : EReal) := by
  simp only [val_main_v21_apply, v20 H, pointwise]
  simp (disch := first | positivity | exact (ms_pos _).ne' | exact (ms_pos _)) only [Lift.lift, Lift.rsqrt_coe_pos]
  simp only [rn]

theorem v24 (H : Lifted A x0 x1 x2 x3 x4 x5 x6 x7 x8 x9 x10) (R : Fin 4224) (z : Fin 1) :
    (val_main_v24 (F := Ideal) x0 x1 x2 x3 x5 (ix2 R z) : EReal) = ((nd ((A.row R).h1 A.W) : ℝ) : EReal) := by
  simp only [val_main_v24_apply, val_main_v23_apply, val_main_cst_5_apply, val_main_v22_apply, v21 H, v20 H, pointwise]
  simp (disch := first | positivity | exact (ms_pos _).ne' | exact (ms_pos _)) only [Lift.lift, Lift.rsqrt_coe_pos]
  simp only [nd]

theorem v26 (H : Lifted A x0 x1 x2 x3 x4 x5 x6 x7 x8 x9 x10) (R : Fin 4224) (l : Fin 1024) :
    (val_main_v26 (F := Ideal) x0 x1 x2 x3 x5 (ix2 R l) : EReal) = (((A.row R).xh2 A.W l : ℝ) : EReal) := by
  simp only [val_main_v26_apply, val_main_v25_apply, ix_idx_v25, v12 H, v21 H, pointwise]
  simp (disch := first | positivity | exact (ms_pos _).ne' | exact (ms_pos _)) only [Lift.lift, Lift.rsqrt_coe_pos]
  simp only [Row.xh2]

theorem v29 (H : Lifted A x0 x1 x2 x3 x4 x5 x6 x7 x8 x9 x10) (R : Fin 4224) (l : Fin 1024) :
    (val_main_v29 (F := Ideal) x0 x1 x2 x3 x5 x9 (ix2 R l) : EReal) = (((A.row R).n2 A.W l : ℝ) : EReal) := by
  simp only [val_main_v29_apply, val_main_v28_apply, val_main_v27_apply, val_main_v13_apply, ix_idx_v28, ix_idx_v27, ix_idx_v13, v26 H, H.g2, pointwise]
  simp (disch := first | positivity | exact (ms_pos _).ne' | exact (ms_pos _)) only [Lift.lift, Lift.rsqrt_coe_pos]
  simp only [Row.n2]

theorem v32 (H : Lifted A x0 x1 x2 x3 x4 x5 x6 x7 x8 x9 x10) (R : Fin 4224) (j : Fin 2816) :
    (val_main_v32 (F := Ideal) x0 x1 x2 x3 x5 x6 x9 (ix2 R j) : EReal) = (((A.row R).a A.W j : ℝ) : EReal) := by
  simp only [val_main_v32_apply, val_main_v31_apply, val_main_v30_apply, val_main_v5_apply, val_main_cst_0_apply, ix_lidx_v31, ix_ridx_v31, ix_idx_v30, v29 H, H.wg, pointwise]
  simp (disch := first | positivity | exact (ms_pos _).ne' | exact (ms_pos _)) only [Lift.lift, Lift.rsqrt_coe_pos]
  refine congrArg (fun r : ℝ => (r : EReal)) ?_
  unfold Row.a; ring

theorem v35 (H : Lifted A x0 x1 x2 x3 x4 x5 x6 x7 x8 x9 x10) (R : Fin 4224) (j : Fin 2816) :
    (val_main_v35 (F := Ideal) x0 x1 x2 x3 x5 x7 x9 (ix2 R j) : EReal) = (((A.row R).b A.W j : ℝ) : EReal) := by
  simp only [val_main_v35_apply, val_main_v34_apply, val_main_v33_apply, val_main_v5_apply, val_main_cst_0_apply, ix_lidx_v34, ix_ridx_v34, ix_idx_v33, v29 H, H.wu, pointwise]
  simp (disch := first | positivity | exact (ms_pos _).ne' | exact (ms_pos _)) only [Lift.lift, Lift.rsqrt_coe_pos]
  refine congrArg (fun r : ℝ => (r : EReal)) ?_
  unfold Row.b; ring

theorem v36_2 (H : Lifted A x0 x1 x2 x3 x4 x5 x6 x7 x8 x9 x10) (R : Fin 4224) (j : Fin 2816) :
    (val_main_v36_2 (F := Ideal) x0 x1 x2 x3 x5 x6 x9 (ix2 R j) : EReal) = ((sg ((A.row R).a A.W j) : ℝ) : EReal) := by
  simp only [val_main_v36_2_apply, val_main_call0_v4_apply, val_main_call0_cst_0_apply, val_main_call0_v3_apply, val_main_call0_v2_apply, val_main_call0_cst_apply, val_main_call0_v1_apply, val_main_call0_v0_apply, v32 H, pointwise]
  simp (disch := first | positivity | exact (ms_pos _).ne' | exact (ms_pos _)) only [Lift.lift, Lift.rsqrt_coe_pos]
  simp only [sg]

theorem v36_1 (H : Lifted A x0 x1 x2 x3 x4 x5 x6 x7 x8 x9 x10) (R : Fin 4224) (j : Fin 2816) :
    (val_main_v36_1 (F := Ideal) x0 x1 x2 x3 x5 x6 x9 (ix2 R j) : EReal) = ((sg ((A.row R).a A.W j) * (1 - sg ((A.row R).a A.W j)) : ℝ) : EReal) := by
  simp only [val_main_v36_1_apply, val_main_call0_v7_apply, val_main_call0_v6_apply, val_main_call0_cst_1_apply, v36_2 H, pointwise]
  simp (disch := first | positivity | exact (ms_pos _).ne' | exact (ms_pos _)) only [Lift.lift, Lift.rsqrt_coe_pos]

theorem v36_0 (H : Lifted A x0 x1 x2 x3 x4 x5 x6 x7 x8 x9 x10) (R : Fin 4224) (j : Fin 2816) :
    (val_main_v36_0 (F := Ideal) x0 x1 x2 x3 x5 x6 x9 (ix2 R j) : EReal) = (((A.row R).a A.W j * sg ((A.row R).a A.W j) : ℝ) : EReal) := by
  simp only [val_main_v36_0_apply, v32 H, v36_2 H, pointwise]
  simp (disch := first | positivity | exact (ms_pos _).ne' | exact (ms_pos _)) only [Lift.lift, Lift.rsqrt_coe_pos]

theorem v37 (H : Lifted A x0 x1 x2 x3 x4 x5 x6 x7 x8 x9 x10) (R : Fin 4224) (j : Fin 2816) :
    (val_main_v37 (F := Ideal) x0 x1 x2 x3 x5 x6 x7 x9 (ix2 R j) : EReal) = (((A.row R).f A.W j : ℝ) : EReal) := by
  simp only [val_main_v37_apply, v36_0 H, v35 H, pointwise]
  simp (disch := first | positivity | exact (ms_pos _).ne' | exact (ms_pos _)) only [Lift.lift, Lift.rsqrt_coe_pos]
  simp only [Row.f]

theorem v41 (H : Lifted A x0 x1 x2 x3 x4 x5 x6 x7 x8 x9 x10) (R : Fin 4224) (l : Fin 1024) :
    (val_main_v41 (F := Ideal) x0 x1 x2 x3 x5 x6 x7 x8 x9 (ix2 R l) : EReal) = (((A.row R).h2 A.W l : ℝ) : EReal) := by
  simp only [val_main_v41_apply, val_main_v40_apply, val_main_v39_apply, val_main_v38_apply, val_main_v6_apply, val_main_cst_1_apply, ix_lidx_v39, ix_ridx_v39, ix_idx_v38, v12 H, v37 H, H.wd, pointwise]
  simp (disch := first | positivity | exact (ms_pos _).ne' | exact (ms_pos _)) only [Lift.lift, Lift.rsqrt_coe_pos]
  refine congrArg (fun r : ℝ => (r : EReal)) ?_
  unfold Row.h2; ring

theorem v48 (H : Lifted A x0 x1 x2 x3 x4 x5 x6 x7 x8 x9 x10) (R : Fin 4224) (z : Fin 1) :
    (val_main_v48 (F := Ideal) x0 x1 x2 x3 x5 x6 x7 x8 x9 (ix2 R z) : EReal) = ((ms ((A.row R).h2 A.W) : ℝ) : EReal) := by
  simp only [val_main_v48_apply, val_main_v46_apply, val_main_v44_apply, val_main_v43_apply, val_main_v42_apply, val_main_cst_6_apply, val_main_v45_apply, val_main_cst_7_apply, val_main_v47_apply, val_main_cst_8_apply, ix_idx_v44, ix_idx_v43, v41 H, pointwise]
  simp (disch := first | positivity | exact (ms_pos _).ne' | exact (ms_pos _)) only [Lift.lift, Lift.rsqrt_coe_pos]
  refine congrArg (fun r : ℝ => (r : EReal)) ?_
  unfold ms; ring

theorem v49 (H : Lifted A x0 x1 x2 x3 x4 x5 x6 x7 x8 x9 x10) (R : Fin 4224) (z : Fin 1) :
    (val_main_v49 (F := Ideal) x0 x1 x2 x3 x5 x6 x7 x8 x9 (ix2 R z) : EReal) = ((rn ((A.row R).h2 A.W) : ℝ) : EReal) := by
  simp only [val_main_v49_apply, v48 H, pointwise]
  simp (disch := first | positivity | exact (ms_pos _).ne' | exact (ms_pos _)) only [Lift.lift, Lift.rsqrt_coe_pos]
  simp only [rn]

theorem v52 (H : Lifted A x0 x1 x2 x3 x4 x5 x6 x7 x8 x9 x10) (R : Fin 4224) (z : Fin 1) :
    (val_main_v52 (F := Ideal) x0 x1 x2 x3 x5 x6 x7 x8 x9 (ix2 R z) : EReal) = ((nd ((A.row R).h2 A.W) : ℝ) : EReal) := by
  simp only [val_main_v52_apply, val_main_v51_apply, val_main_cst_9_apply, val_main_v50_apply, v49 H, v48 H, pointwise]
  simp (disch := first | positivity | exact (ms_pos _).ne' | exact (ms_pos _)) only [Lift.lift, Lift.rsqrt_coe_pos]
  simp only [nd]

theorem v54 (H : Lifted A x0 x1 x2 x3 x4 x5 x6 x7 x8 x9 x10) (R : Fin 4224) (l : Fin 1024) :
    (val_main_v54 (F := Ideal) x0 x1 x2 x3 x5 x6 x7 x8 x9 (ix2 R l) : EReal) = (((A.row R).xh3 A.W l : ℝ) : EReal) := by
  simp only [val_main_v54_apply, val_main_v53_apply, ix_idx_v53, v41 H, v49 H, pointwise]
  simp (disch := first | positivity | exact (ms_pos _).ne' | exact (ms_pos _)) only [Lift.lift, Lift.rsqrt_coe_pos]
  simp only [Row.xh3]

theorem v57 (H : Lifted A x0 x1 x2 x3 x4 x5 x6 x7 x8 x9 x10) (R : Fin 4224) (l : Fin 1024) :
    (val_main_v57 (F := Ideal) x0 x1 x2 x3 x5 x6 x7 x8 x9 x10 (ix2 R l) : EReal) = (((A.row R).xh3 A.W l * A.W.g3 l : ℝ) : EReal) := by
  simp only [val_main_v57_apply, val_main_v56_apply, val_main_v55_apply, ix_idx_v56, ix_idx_v55, v54 H, H.g3, pointwise]
  simp (disch := first | positivity | exact (ms_pos _).ne' | exact (ms_pos _)) only [Lift.lift, Lift.rsqrt_coe_pos]

theorem v58 (H : Lifted A x0 x1 x2 x3 x4 x5 x6 x7 x8 x9 x10) (e : Fin 2) (p : Fin 2048) (l : Fin 1024) :
    (val_main_v58 (F := Ideal) x0 x1 x2 x3 x5 x6 x7 x8 x9 x10 (ix3 e (⟨64 + p.val, by omega⟩ : Fin 2112) l) : EReal)
      = (((A.row (tok e p)).xh3 A.W l * A.W.g3 l : ℝ) : EReal) := by
  rw [val_main_v58_apply, ix_idx_v58]
  exact v57 H (tok e p) l

theorem v60 (H : Lifted A x0 x1 x2 x3 x4 x5 x6 x7 x8 x9 x10) (e : Fin 2) (p : Fin 2048) (l : Fin 1024) :
    (val_main_v60 (F := Ideal) x0 x1 x2 x3 x4 x5 x6 x7 x8 x9 x10 (ix3 e p l) : EReal) = (((A.row (tok e p)).err A.W l : ℝ) : EReal) := by
  rw [err_tok, EReal.coe_sub, ← v58 H, ← H.t, val_main_v60_apply, val_main_v59_apply, ix_idx_v59, Ideal.subf_def]

theorem v64 (H : Lifted A x0 x1 x2 x3 x4 x5 x6 x7 x8 x9 x10) (e : Fin 2) (p : Fin 2048) :
    (val_main_v64 (F := Ideal) x0 x1 x2 x3 x4 x5 x6 x7 x8 x9 x10 (ix2 e p) : EReal)
      = ((∑ l, (A.row (tok e p)).err A.W l * (A.row (tok e p)).err A.W l : ℝ) : EReal) := by
  rw [val_main_v64_apply, val_main_cst_11_apply, Ideal.ofBits_def, Lift.ofBits_zero, EReal.coe_zero, zero_add, ← Lift.coe_sum]
  exact Finset.sum_congr rfl fun l _ => by rw [ix_idx_v64, val_main_v61_apply, Ideal.mulf_def, v60 H, EReal.coe_mul]

theorem v66 (H : Lifted A x0 x1 x2 x3 x4 x5 x6 x7 x8 x9 x10) (e : Fin 2) (p : Fin 2048) :
    (val_main_v66 (F := Ideal) x0 x1 x2 x3 x4 x5 x6 x7 x8 x9 x10 (ix2 e p) : EReal) = ((2 * (A.row (tok e p)).loss A.W : ℝ) : EReal) := by
  rw [val_main_v66_apply, v64 H, val_main_v65_apply, val_main_cst_12_apply, Ideal.hostDivf_def, Ideal.ofBits_def, Lift.ofBits_1024,
    Lift.div_coe_coe (by norm_num)]
  unfold Row.loss
  generalize (∑ l, (A.row (tok e p)).err A.W l * (A.row (tok e p)).err A.W l) = s
  exact congrArg (fun r : ℝ => (r : EReal)) (by ring)

theorem v68 (H : Lifted A x0 x1 x2 x3 x4 x5 x6 x7 x8 x9 x10) (i : S_.Idx) :
    (val_main_v68 (F := Ideal) x0 x1 x2 x3 x4 x5 x6 x7 x8 x9 x10 i : EReal) = ((∑ R, (A.row R).loss A.W : ℝ) : EReal) := by
  rw [val_main_v68_apply, val_main_v67_apply, sum_ix2, sum_loss A]
  simp only [v66 H]
  rw [val_main_cst_14_apply, val_main_cst_13_apply, Ideal.mulf_def, Ideal.ofBits_def, Ideal.ofBits_def, Lift.ofBits_zero, Lift.ofBits_half]
  simp only [Lift.lift]

  refine congrArg (fun r : ℝ => (r : EReal)) ?_
  simp only [← Finset.mul_sum]; ring

theorem v72 (i : S2x2048.Idx) : (val_main_v72 (F := Ideal) i : EReal) = ((1 / 2 / 1024 : ℝ) : EReal) := by
  simp only [val_main_v72_apply, val_main_v70_apply, val_main_v69_apply, val_main_cst_15_apply, val_main_cst_16_apply,
    val_main_v71_apply, val_main_cst_17_apply, pointwise]
  simp (disch := first | positivity | exact (ms_pos _).ne' | exact (ms_pos _)) only [Lift.lift, Lift.rsqrt_coe_pos]
  rw [mul_one]

theorem v74 (H : Lifted A x0 x1 x2 x3 x4 x5 x6 x7 x8 x9 x10) (e : Fin 2) (p : Fin 2048) (l : Fin 1024) :
    (val_main_v74 (F := Ideal) x0 x1 x2 x3 x4 x5 x6 x7 x8 x9 x10 (ix3 e p l) : EReal) = (((A.row (tok e p)).dy A.W l : ℝ) : EReal) := by
  rw [val_main_v74_apply, val_main_v73_apply, v72, val_main_v63_apply, v60 H, val_main_v62_apply, val_main_cst_10_apply,
    Ideal.mulf_def, Ideal.mulf_def, Ideal.ofBits_def, Lift.ofBits_two, ← EReal.coe_mul, ← EReal.coe_mul]
  unfold Row.dy
  generalize (A.row (tok e p)).err A.W l = s
  exact congrArg (fun r : ℝ => (r : EReal)) (by ring)

theorem v76 (H : Lifted A x0 x1 x2 x3 x4 x5 x6 x7 x8 x9 x10) (R : Fin 4224) (l : Fin 1024) :
    (val_main_v76 (F := Ideal) x0 x1 x2 x3 x4 x5 x6 x7 x8 x9 x10 (ix2 R l) : EReal) = (((A.row R).dy A.W l : ℝ) : EReal) := by
  rw [val_main_v76_apply, ix_idx_v76]
  unfold val_main_v75
  refine (pad_apply _ _ _ _ _).trans ?_
  by_cases h : 64 ≤ R.val % 2112
  · rw [dif_pos h, v74 H, tok_eq R h]
  · rw [dif_neg h, val_main_cst_18_apply, Ideal.ofBits_def, Lift.ofBits_zero, dy_dead A R h l]

theorem v78 (H : Lifted A x0 x1 x2 x3 x4 x5 x6 x7 x8 x9 x10) (l : Fin 1024) :
    (val_main_v78 (F := Ideal) x0 x1 x2 x3 x4 x5 x6 x7 x8 x9 x10 (ix1 l) : EReal) = ((∑ R, (A.row R).dy A.W l * (A.row R).xh3 A.W l : ℝ) : EReal) := by
  simp only [val_main_v78_apply, val_main_v77_apply, val_main_cst_19_apply, ix_idx_v78, v54 H, v76 H, pointwise]
  simp (disch := first | positivity | exact (ms_pos _).ne' | exact (ms_pos _)) only [Lift.lift, Lift.rsqrt_coe_pos]
  refine congrArg (fun r : ℝ => (r : EReal)) ?_
  rw [zero_add]; exact Finset.sum_congr rfl fun R _ => mul_comm _ _

theorem v81 (H : Lifted A x0 x1 x2 x3 x4 x5 x6 x7 x8 x9 x10) (R : Fin 4224) (l : Fin 1024) :
    (val_main_v81 (F := Ideal) x0 x1 x2 x3 x4 x5 x6 x7 x8 x9 x10 (ix2 R l) : EReal) = (((A.row R).dxh3 A.W l : ℝ) : EReal) := by
  simp only [val_main_v81_apply, val_main_v80_apply, val_main_v55_apply, ix_idx_v80, ix_idx_v55, v76 H, H.g3, pointwise]
  simp (disch := first | positivity | exact (ms_pos _).ne' | exact (ms_pos _)) only [Lift.lift, Lift.rsqrt_coe_pos]
  simp only [Row.dxh3]

theorem v92 (H : Lifted A x0 x1 x2 x3 x4 x5 x6 x7 x8 x9 x10) (R : Fin 4224) (l : Fin 1024) :
    (val_main_v92 (F := Ideal) x0 x1 x2 x3 x4 x5 x6 x7 x8 x9 x10 (ix2 R l) : EReal) = ((corr ((A.row R).h2 A.W) ((A.row R).dxh3 A.W) : ℝ) : EReal) := by
  simp only [val_main_v92_apply, val_main_v91_apply, val_main_v90_apply, val_main_v88_apply, val_main_v85_apply, val_main_v84_apply, val_main_v83_apply, val_main_cst_21_apply, val_main_v89_apply, val_main_cst_22_apply, val_main_cst_23_apply, ix_idx_v92, ix_idx_v91, ix_idx_v85, ix_idx_v84, v41 H, v81 H, v52 H, pointwise]
  simp (disch := first | positivity | exact (ms_pos _).ne' | exact (ms_pos _)) only [Lift.lift, Lift.rsqrt_coe_pos]
  refine congrArg (fun r : ℝ => (r : EReal)) ?_
  rw [Fin.sum_univ_one]; unfold corr; ring

theorem v96 (H : Lifted A x0 x1 x2 x3 x4 x5 x6 x7 x8 x9 x10) (R : Fin 4224) (l : Fin 1024) :
    (val_main_v96 (F := Ideal) x0 x1 x2 x3 x4 x5 x6 x7 x8 x9 x10 (ix2 R l) : EReal) = (((A.row R).dh2 A.W l : ℝ) : EReal) := by
  simp only [val_main_v96_apply, val_main_v94_apply, val_main_v87_apply, val_main_v86_apply, val_main_v93_apply, val_main_v95_apply, ix_idx_v86, v81 H, v49 H, v41 H, v92 H, pointwise]
  simp (disch := first | positivity | exact (ms_pos _).ne' | exact (ms_pos _)) only [Lift.lift, Lift.rsqrt_coe_pos]
  refine congrArg (fun r : ℝ => (r : EReal)) ?_
  exact grad _ _ l

theorem v97 (H : Lifted A x0 x1 x2 x3 x4 x5 x6 x7 x8 x9 x10) (R : Fin 4224) (j : Fin 2816) :
    (val_main_v97 (F := Ideal) x0 x1 x2 x3 x4 x5 x6 x7 x8 x9 x10 (ix2 R j) : EReal) = (((A.row R).df A.W j : ℝ) : EReal) := by
  simp only [val_main_v97_apply, val_main_v38_apply, ix_lidx_v97, ix_ridx_v97, ix_idx_v38, v96 H, H.wd, pointwise]
  simp (disch := first | positivity | exact (ms_pos _).ne' | exact (ms_pos _)) only [Lift.lift, Lift.rsqrt_coe_pos]
  simp only [Row.df]

theorem v98 (H : Lifted A x0 x1 x2 x3 x4 x5 x6 x7 x8 x9 x10) (R : Fin 4224) (j : Fin 2816) :
    (val_main_v98 (F := Ideal) x0 x1 x2 x3 x4 x5 x6 x7 x8 x9 x10 (ix2 R j) : EReal) = (((A.row R).db A.W j : ℝ) : EReal) := by
  simp only [val_main_v98_apply, v36_0 H, v97 H, pointwise]
  simp (disch := first | positivity | exact (ms_pos _).ne' | exact (ms_pos _)) only [Lift.lift, Lift.rsqrt_coe_pos]
  refine congrArg (fun r : ℝ => (r : EReal)) ?_
  unfold Row.db Row.df; ring

theorem v100 (H : Lifted A x0 x1 x2 x3 x4 x5 x6 x7 x8 x9 x10) (R : Fin 4224) (j : Fin 2816) :
    (val_main_v100 (F := Ideal) x0 x1 x2 x3 x4 x5 x6 x7 x8 x9 x10 (ix2 R j) : EReal) = (((A.row R).da A.W j : ℝ) : EReal) := by
  simp only [val_main_v100_apply, val_main_call1_v1_apply, val_main_v99_apply, val_main_call1_v2_apply, val_main_call1_v0_apply, v97 H, v35 H, v36_2 H, v32 H, v36_1 H, pointwise]
  simp (disch := first | positivity | exact (ms_pos _).ne' | exact (ms_pos _)) only [Lift.lift, Lift.rsqrt_coe_pos]
  refine congrArg (fun r : ℝ => (r : EReal)) ?_
  unfold Row.da; ring

theorem v103 (H : Lifted A x0 x1 x2 x3 x4 x5 x6 x7 x8 x9 x10) (R : Fin 4224) (l : Fin 1024) :
    (val_main_v103 (F := Ideal) x0 x1 x2 x3 x4 x5 x6 x7 x8 x9 x10 (ix2 R l) : EReal) = (((A.row R).dn2 A.W l : ℝ) : EReal) := by
  simp only [val_main_v103_apply, val_main_v101_apply, val_main_v33_apply, val_main_v102_apply, val_main_v30_apply, ix_lidx_v101, ix_ridx_v101, ix_idx_v33, ix_lidx_v102, ix_ridx_v102, ix_idx_v30, v98 H, v100 H, H.wg, H.wu, pointwise]
  simp (disch := first | positivity | exact (ms_pos _).ne' | exact (ms_pos _)) only [Lift.lift, Lift.rsqrt_coe_pos]
  refine congrArg (fun r : ℝ => (r : EReal)) ?_
  unfold Row.dn2; ring

theorem v105 (H : Lifted A x0 x1 x2 x3 x4 x5 x6 x7 x8 x9 x10) (l : Fin 1024) :
    (val_main_v105 (F := Ideal) x0 x1 x2 x3 x4 x5 x6 x7 x8 x9 x10 (ix1 l) : EReal) = ((∑ R, (A.row R).dn2 A.W l * (A.row R).xh2 A.W l : ℝ) : EReal) := by
  simp only [val_main_v105_apply, val_main_v104_apply, val_main_cst_24_apply, ix_idx_v105, v26 H, v103 H, pointwise]
  simp (disch := first | positivity | exact (ms_pos _).ne' | exact (ms_pos _)) only [Lift.lift, Lift.rsqrt_coe_pos]
  refine congrArg (fun r : ℝ => (r : EReal)) ?_
  rw [zero_add]; exact Finset.sum_congr rfl fun R _ => mul_comm _ _

theorem v108 (H : Lifted A x0 x1 x2 x3 x4 x5 x6 x7 x8 x9 x10) (R : Fin 4224) (l : Fin 1024) :
    (val_main_v108 (F := Ideal) x0 x1 x2 x3 x4 x5 x6 x7 x8 x9 x10 (ix2 R l) : EReal) = (((A.row R).dxh2 A.W l : ℝ) : EReal) := by
  simp only [val_main_v108_apply, val_main_v107_apply, val_main_v27_apply, val_main_v13_apply, ix_idx_v107, ix_idx_v27, ix_idx_v13, v103 H, H.g2, pointwise]
  simp (disch := first | positivity | exact (ms_pos _).ne' | exact (ms_pos _)) only [Lift.lift, Lift.rsqrt_coe_pos]
  simp only [Row.dxh2]

theorem v120 (H : Lifted A x0 x1 x2 x3 x4 x5 x6 x7 x8 x9 x10) (R : Fin 4224) (l : Fin 1024) :
    (val_main_v120 (F := Ideal) x0 x1 x2 x3 x4 x5 x6 x7 x8 x9 x10 (ix2 R l) : EReal) = ((corr ((A.row R).h1 A.W) ((A.row R).dxh2 A.W) : ℝ) : EReal) := by
  simp only [val_main_v120_apply, val_main_v119_apply, val_main_v118_apply, val_main_v116_apply, val_main_v112_apply, val_main_v111_apply, val_main_v110_apply, val_main_cst_26_apply, val_main_v117_apply, val_main_cst_27_apply, val_main_cst_28_apply, ix_idx_v120, ix_idx_v119, ix_idx_v112, ix_idx_v111, v12 H, v108 H, v24 H, pointwise]
  simp (disch := first | positivity | exact (ms_pos _).ne' | exact (ms_pos _)) only [Lift.lift, Lift.rsqrt_coe_pos]
  refine congrArg (fun r : ℝ => (r : EReal)) ?_
  rw [Fin.sum_univ_one]; unfold corr; ring

theorem v124 (H : Lifted A x0 x1 x2 x3 x4 x5 x6 x7 x8 x9 x10) (R : Fin 4224) (l : Fin 1024) :
    (val_main_v124 (F := Ideal) x0 x1 x2 x3 x4 x5 x6 x7 x8 x9 x10 (ix2 R l) : EReal) = (((A.row R).dh1 A.W l : ℝ) : EReal) := by
  simp only [val_main_v124_apply, val_main_v122_apply, val_main_v115_apply, val_main_v114_apply, val_main_v113_apply, val_main_v121_apply, val_main_v123_apply, ix_idx_v113, v96 H, v108 H, v21 H, v12 H, v120 H, pointwise]
  simp (disch := first | positivity | exact (ms_pos _).ne' | exact (ms_pos _)) only [Lift.lift, Lift.rsqrt_coe_pos]
  refine congrArg (fun r : ℝ => (r : EReal)) ?_
  exact grad' _ _ _ l

end Cert.Mid.Ref

end
-- ==== Proof.RefFinal.lean ====
/-
  THE REFERENCE'S TEN RESULTS as arrays of the real-valued row functions.
-/
module

public import proofs.«01_k».proof.Proof.RefRows

@[expose] public section

set_option maxRecDepth 16384

noncomputable section

namespace Cert.Mid.Ref

open Cert.ReferenceIdeal Cert.ReferenceIdeal.Gen Cert.ReferenceIdeal.Read Idealize.ShloMosaic Idealize.ShloMosaic.TcCoe

variable {A}
variable {x0 x1 : (⟨S4224x512, .bf16⟩ : BufTy).Contents (Elt Ideal)} {x2 x4 : (⟨S2x2048x1024, .f32⟩ : BufTy).Contents (Elt Ideal)}
  {x3 : (⟨S16x1024, .f32⟩ : BufTy).Contents (Elt Ideal)} {x5 : (⟨S1x1024x1024, .f32⟩ : BufTy).Contents (Elt Ideal)}
  {x6 x7 : (⟨S1x1024x2816, .f32⟩ : BufTy).Contents (Elt Ideal)} {x8 : (⟨S1x2816x1024, .f32⟩ : BufTy).Contents (Elt Ideal)}
  {x9 : (⟨S1x1024, .f32⟩ : BufTy).Contents (Elt Ideal)} {x10 : (⟨S1024, .f32⟩ : BufTy).Contents (Elt Ideal)}

theorem final_v133 (H : Lifted A x0 x1 x2 x3 x4 x5 x6 x7 x8 x9 x10) :
    val_main_v133 (F := Ideal) x0 x1 x2 x3 x5 x9 = fun i : S4224x1024.Idx => ((Row.n2 A.W (A.row (i 0)) (i 1) : ℝ) : EReal) := by
  funext i
  obtain ⟨R, l, rfl⟩ : ∃ (R : Fin 4224) (l : Fin 1024), i = (ix2 R l : S4224x1024.Idx) := ⟨i 0, i 1, (ix2_eta _).symm⟩
  rw [val_main_v133_apply, Ideal.truncf_def, v29 H]
  rfl

theorem final_v134 (H : Lifted A x0 x1 x2 x3 x4 x5 x6 x7 x8 x9 x10) :
    val_main_v134 (F := Ideal) x0 x1 x2 x3 x5 x6 x7 x9 = fun i : S4224x2816.Idx => ((Row.f A.W (A.row (i 0)) (i 1) : ℝ) : EReal) := by
  funext i
  obtain ⟨R, l, rfl⟩ : ∃ (R : Fin 4224) (l : Fin 2816), i = (ix2 R l : S4224x2816.Idx) := ⟨i 0, i 1, (ix2_eta _).symm⟩
  rw [val_main_v134_apply, Ideal.truncf_def, v37 H]
  rfl

theorem final_v135 (H : Lifted A x0 x1 x2 x3 x4 x5 x6 x7 x8 x9 x10) :
    val_main_v135 (F := Ideal) x0 x1 x2 x3 x4 x5 x6 x7 x8 x9 x10 = fun i : S4224x2816.Idx => ((Row.da A.W (A.row (i 0)) (i 1) : ℝ) : EReal) := by
  funext i
  obtain ⟨R, l, rfl⟩ : ∃ (R : Fin 4224) (l : Fin 2816), i = (ix2 R l : S4224x2816.Idx) := ⟨i 0, i 1, (ix2_eta _).symm⟩
  rw [val_main_v135_apply, Ideal.truncf_def, v100 H]
  rfl

theorem final_v136 (H : Lifted A x0 x1 x2 x3 x4 x5 x6 x7 x8 x9 x10) :
    val_main_v136 (F := Ideal) x0 x1 x2 x3 x4 x5 x6 x7 x8 x9 x10 = fun i : S4224x2816.Idx => ((Row.db A.W (A.row (i 0)) (i 1) : ℝ) : EReal) := by
  funext i
  obtain ⟨R, l, rfl⟩ : ∃ (R : Fin 4224) (l : Fin 2816), i = (ix2 R l : S4224x2816.Idx) := ⟨i 0, i 1, (ix2_eta _).symm⟩
  rw [val_main_v136_apply, Ideal.truncf_def, v98 H]
  rfl

theorem final_v137 (H : Lifted A x0 x1 x2 x3 x4 x5 x6 x7 x8 x9 x10) :
    val_main_v137 (F := Ideal) x0 x1 x2 x3 x4 x5 x6 x7 x8 x9 x10 = fun i : S4224x1024.Idx => ((Row.dh2 A.W (A.row (i 0)) (i 1) : ℝ) : EReal) := by
  funext i
  obtain ⟨R, l, rfl⟩ : ∃ (R : Fin 4224) (l : Fin 1024), i = (ix2 R l : S4224x1024.Idx) := ⟨i 0, i 1, (ix2_eta _).symm⟩
  rw [val_main_v137_apply, Ideal.truncf_def, v96 H]
  rfl

theorem final_v124 (H : Lifted A x0 x1 x2 x3 x4 x5 x6 x7 x8 x9 x10) :
    val_main_v124 (F := Ideal) x0 x1 x2 x3 x4 x5 x6 x7 x8 x9 x10 = fun i : S4224x1024.Idx => ((Row.dh1 A.W (A.row (i 0)) (i 1) : ℝ) : EReal) := by
  funext i
  obtain ⟨R, l, rfl⟩ : ∃ (R : Fin 4224) (l : Fin 1024), i = (ix2 R l : S4224x1024.Idx) := ⟨i 0, i 1, (ix2_eta _).symm⟩
  exact v124 H R l

theorem final_v138 (H : Lifted A x0 x1 x2 x3 x4 x5 x6 x7 x8 x9 x10) :
    val_main_v138 (F := Ideal) x0 x1 x2 x3 x4 x5 x6 x7 x8 x9 x10 = fun i : S4224x1024.Idx => ((Row.dh1 A.W (A.row (i 0)) (i 1) : ℝ) : EReal) := by
  funext i
  obtain ⟨R, l, rfl⟩ : ∃ (R : Fin 4224) (l : Fin 1024), i = (ix2 R l : S4224x1024.Idx) := ⟨i 0, i 1, (ix2_eta _).symm⟩
  rw [val_main_v138_apply, Ideal.truncf_def, v124 H]
  rfl

theorem final_v127 (H : Lifted A x0 x1 x2 x3 x4 x5 x6 x7 x8 x9 x10) :
    val_main_v127 (F := Ideal) x0 x1 x2 x3 x4 x5 x6 x7 x8 x9 x10 = fun i : S4224x512.Idx => ((Row.dyc A.W (A.row (i 0)) (i 1) : ℝ) : EReal) := by
  funext i
  obtain ⟨R, l, rfl⟩ : ∃ (R : Fin 4224) (l : Fin 512), i = (ix2 R l : S4224x512.Idx) := ⟨i 0, i 1, (ix2_eta _).symm⟩
  rw [val_main_v127_apply, ix_idx_v127, val_main_v126_apply]
  simp only [ix_lidx_v126, ix_ridx_v126, v124 H, val_main_v10_apply, ix_idx_v10, H.wo, Lift.lift]
  rfl

theorem final_v128 (H : Lifted A x0 x1 x2 x3 x4 x5 x6 x7 x8 x9 x10) :
    val_main_v128 (F := Ideal) x0 x1 x2 x3 x4 x5 x6 x7 x8 x9 x10 = fun i : S4224x512.Idx => ((Row.dyg A.W (A.row (i 0)) (i 1) : ℝ) : EReal) := by
  funext i
  obtain ⟨R, l, rfl⟩ : ∃ (R : Fin 4224) (l : Fin 512), i = (ix2 R l : S4224x512.Idx) := ⟨i 0, i 1, (ix2_eta _).symm⟩
  rw [val_main_v128_apply, ix_idx_v128, val_main_v126_apply]
  simp only [ix_lidx_v126, ix_ridx_v126, v124 H, val_main_v10_apply, ix_idx_v10, H.wo, Lift.lift]
  rfl

/-- The eight rows of sums: the two gain gradients, the loss, zeros. -/
theorem final_v132 (H : Lifted A x0 x1 x2 x3 x4 x5 x6 x7 x8 x9 x10) :
    val_main_v132 (F := Ideal) x0 x1 x2 x3 x4 x5 x6 x7 x8 x9 x10 = fun i : S8x1024.Idx => ((∑ R, Args.part A R (i 0) (i 1) : ℝ) : EReal) := by
  funext i
  obtain ⟨q, l, rfl⟩ : ∃ (q : Fin 8) (l : Fin 1024), i = (ix2 q l : S8x1024.Idx) := ⟨i 0, i 1, (ix2_eta _).symm⟩
  unfold val_main_v132
  refine (sums_apply _ _ _ _ q l).trans ?_
  show _ = ((∑ R, Args.part A R q l : ℝ) : EReal)
  by_cases h0 : q.val = 0
  · obtain rfl : q = 0 := Fin.ext h0
    rw [if_pos h0, val_main_v129_apply, ix_idx_v129, val_main_v82_apply, Fin.sum_univ_one, ix_idx_v82, val_main_v79_apply, ix_idx_v79, v78 H,
      val_main_cst_20_apply, Ideal.ofBits_def, Lift.ofBits_zero, ← EReal.coe_add, zero_add]
    simp only [Args.part, ↓reduceIte]
  by_cases h1 : q.val = 1
  · obtain rfl : q = 1 := Fin.ext h1
    rw [if_neg h0, if_pos h1, val_main_v125_apply, ix_idx_v125, val_main_v109_apply, Fin.sum_univ_one, ix_idx_v109, val_main_v106_apply, ix_idx_v106, v105 H,
      val_main_cst_25_apply, Ideal.ofBits_def, Lift.ofBits_zero, ← EReal.coe_add, zero_add]
    simp only [Args.part, if_neg (show ¬ (1 : Fin 8) = 0 by decide), ↓reduceIte]
  by_cases h2 : q.val = 2
  · obtain rfl : q = 2 := Fin.ext h2
    rw [if_neg h0, if_neg h1, if_pos h2, val_main_v130_apply, v68 H]
    simp only [Args.part, if_neg (show ¬ (2 : Fin 8) = 0 by decide), if_neg (show ¬ (2 : Fin 8) = 1 by decide), ↓reduceIte]
  · rw [if_neg h0, if_neg h1, if_neg h2, val_main_v131_apply, val_main_cst_29_apply, Ideal.ofBits_def, Lift.ofBits_zero]
    have e : ∀ R, Args.part A R q l = 0 := fun R => by
      unfold Args.part
      rw [if_neg fun h => h0 (congrArg Fin.val h), if_neg fun h => h1 (congrArg Fin.val h), if_neg fun h => h2 (congrArg Fin.val h)]
    simp only [e, Finset.sum_const_zero]

end Cert.Mid.Ref

end
-- ==== Proof.Finite.lean ====
/-
  FINITE ARGUMENTS ARE REAL NUMBERS: the precondition compares every entry's absolute value with infinity; when all of the
  comparisons hold, the arguments' entries are the real numbers of an `Args`.
-/
module

public import proofs.«01_k».proof.Proof.Args
public import proofs.«01_k».proof.Proof.Gen.Pre_finite
public import Idealize.ShloMosaic.Lib.ReduceAll
public import Idealize.ShloMosaic.PureOps.Ideal.Laws

@[expose] public section

set_option maxRecDepth 16384

noncomputable section

namespace Cert.Mid.Finite

open Idealize.ShloMosaic Cert.Pre_finite Cert.Pre_finite.Gen

/-- An extended real whose absolute value is below the largest is a real number. -/
theorem entry (x : EReal) (h : Ideal.cmp .olt (max x (-x)) (Ideal.ofBits .f32 0x7F800000#32) = 1#1) : ((x.toReal : ℝ) : EReal) = x := by
  have hi : Ideal.ofBits .f32 0x7F800000#32 = ⊤ := by simp [Ideal.ofBits, Ideal.ieee]
  rw [hi] at h
  induction x with
  | bot => simp [Ideal.cmp] at h
  | top => simp [Ideal.cmp] at h
  | coe r => simp

/-- An array whose entries all compare so holds real numbers. -/
theorem all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : (((x i : EReal).toReal : ℝ) : EReal) = x i := by
  haveI : Subsingleton S_.Idx := ⟨fun y z => funext fun a => a.elim0⟩
  exact entry (x i) (Host.reduce_andi_all _ _ hr h_S_ j h i)

/-- The precondition, decoded. -/
theorem lifted (x0 x1 : FVec Ideal S4224x512 .bf16) (x2 : FVec Ideal S2x2048x1024 .f32) (x3 : FVec Ideal S16x1024 .f32)
    (x4 : FVec Ideal S2x2048x1024 .f32) (x5 : FVec Ideal S1x1024x1024 .f32) (x6 x7 : FVec Ideal S1x1024x2816 .f32)
    (x8 : FVec Ideal S1x2816x1024 .f32) (x9 : FVec Ideal S1x1024 .f32) (x10 : FVec Ideal S1024 .f32) (x11 : FVec Ideal S8x128 .f32)
    (h : fn (F := Ideal) x0 x1 x2 x3 x4 x5 x6 x7 x8 x9 x10 x11 = fun _ => 1#1) :
    ∃ A : Args, Lifted A x0 x1 x2 x3 x4 x5 x6 x7 x8 x9 x10 := by
  have e := congrFun h fun a => a.elim0
  simp only [fn, fn_part1, fn_part2, fn_part3, andi, IntOp.andi_eq_one] at e
  obtain ⟨⟨⟨⟨⟨⟨⟨⟨⟨⟨⟨-, h0⟩, h1⟩, h2⟩, h3⟩, h4⟩, h5⟩, h6⟩, h7⟩, h8⟩, h9⟩, h10⟩ := e
  exact ⟨⟨fun R k => (x0 (ix2 R k) : EReal).toReal, fun R k => (x1 (ix2 R k) : EReal).toReal,
      fun e p l => (x2 (ix3 e p l) : EReal).toReal, fun p l => (x3 (ix2 p l) : EReal).toReal,
      fun e p l => (x4 (ix3 e p l) : EReal).toReal,
      ⟨fun k l => (x5 (ix3 0 k l) : EReal).toReal, fun k l => (x6 (ix3 0 k l) : EReal).toReal,
        fun k l => (x7 (ix3 0 k l) : EReal).toReal, fun k l => (x8 (ix3 0 k l) : EReal).toReal,
        fun l => (x9 (ix2 0 l) : EReal).toReal, fun l => (x10 (ix1 l) : EReal).toReal⟩⟩,
    fun R k => (all _ _ _ _ h0 (ix2 R k)).symm, fun R k => (all _ _ _ _ h1 (ix2 R k)).symm,
    fun e p l => (all _ _ _ _ h2 (ix3 e p l)).symm, fun p l => (all _ _ _ _ h3 (ix2 p l)).symm,
    fun e p l => (all _ _ _ _ h4 (ix3 e p l)).symm, fun k l => (all _ _ _ _ h5 (ix3 0 k l)).symm,
    fun k l => (all _ _ _ _ h6 (ix3 0 k l)).symm, fun k l => (all _ _ _ _ h7 (ix3 0 k l)).symm,
    fun k l => (all _ _ _ _ h8 (ix3 0 k l)).symm, fun l => (all _ _ _ _ h9 (ix2 0 l)).symm,
    fun l => (all _ _ _ _ h10 (ix1 l)).symm⟩

end Cert.Mid.Finite

end
-- ==== Proof.Claims.lean ====
/-
  THE CLAIMS ABOUT THE PROGRAMS OF `_mid_rows`: the reference's frame, and that kernel and reference return the same ten
  arrays of extended reals when the arguments are finite.
-/
module

public import proofs.«01_k».proof.Defs
public import proofs.«01_k».proof.Proof.Gen.Kernel
public import proofs.«01_k».proof.Proof.Final
public import proofs.«01_k».proof.Proof.RefFinal
public import proofs.«01_k».proof.Proof.Finite
public import Idealize.ShloMosaic.Adequacy
public import Idealize.ShloMosaic.Init

@[expose] public section

set_option maxRecDepth 16384

noncomputable section

namespace Cert.Mid

open Idealize.ShloMosaic Idealize.ShloMosaic.TcCoe Idealize.SL.Sem Idealize.ShloMosaic.StableHlo

/-- The reference runs, keeps its arguments and leaves no semaphore raised: it has none. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2.2.2, sem_eq_zero_of_no_sems (by decide) r.2⟩)
    (Cert.ReferenceIdeal.Value.run (F := Ideal) m ρ)

set_option maxHeartbeats 1600000 in
/-- Row by row the kernel's ten results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hA : ∀ c, ∃ A, Step.Given m c A := fun c => Finite.lifted _ _ _ _ _ _ _ _ _ _ _ _ (hpre c)
  have hR : ∀ c, ∃ A, Step.Given m c A ∧ Lifted A
      (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg3))
      (launchContents m' c (Proc.devRef .tc Cert.ReferenceIdeal.main_arg4))
      (launchContents m' c (Proc.devRef .tc Cert.ReferenceIdeal.main_arg5))
      (launchContents m' c (Proc.devRef .tc Cert.ReferenceIdeal.main_arg6))
      (launchContents m' c (Proc.devRef .tc Cert.ReferenceIdeal.main_arg7))
      (launchContents m' c (Proc.devRef .tc Cert.ReferenceIdeal.main_arg8))
      (launchContents m' c (Proc.devRef .tc Cert.ReferenceIdeal.main_arg9))
      (launchContents m' c (Proc.devRef .tc Cert.ReferenceIdeal.main_arg10)) := fun c => by
    obtain ⟨A, H⟩ := hA c
    obtain ⟨e0, e1, e2, e3, e4, e5, e6, e7, e8, e9, e10, -⟩ := hargs c
    refine ⟨A, H, ?_⟩
    repeat rw [launchContents_devRef]
    rw [e0, e1, e2, e3, e4, e5, e6, e7, e8, e9, e10]
    exact H
  refine ⟨fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨A, H, H'⟩ := hR c
  obtain ⟨h0, h1, h2, h3, h4, h5, h6, h7, h8, h9, hk⟩ := h c
  refine ⟨h0.trans ((Cert.ReferenceIdeal.Read.val_main_v133_eq (launchContents m' c)).trans ((Ref.final_v133 H').trans (Step.final11 H).symm)),
    h1.trans ((Cert.ReferenceIdeal.Read.val_main_v134_eq (launchContents m' c)).trans ((Ref.final_v134 H').trans (Step.final12 H).symm)),
    h2.trans ((Cert.ReferenceIdeal.Read.val_main_v135_eq (launchContents m' c)).trans ((Ref.final_v135 H').trans (Step.final13 H).symm)),
    h3.trans ((Cert.ReferenceIdeal.Read.val_main_v136_eq (launchContents m' c)).trans ((Ref.final_v136 H').trans (Step.final14 H).symm)),
    h4.trans ((Cert.ReferenceIdeal.Read.val_main_v137_eq (launchContents m' c)).trans ((Ref.final_v137 H').trans (Step.final15 H).symm)),
    h5.trans ((Cert.ReferenceIdeal.Read.val_main_v124_eq (launchContents m' c)).trans ((Ref.final_v124 H').trans (Step.final16 H).symm)),
    h6.trans ((Cert.ReferenceIdeal.Read.val_main_v138_eq (launchContents m' c)).trans ((Ref.final_v138 H').trans (Step.final17 H).symm)),
    h7.trans ((Cert.ReferenceIdeal.Read.val_main_v127_eq (launchContents m' c)).trans ((Ref.final_v127 H').trans (Step.final18 H).symm)),
    h8.trans ((Cert.ReferenceIdeal.Read.val_main_v128_eq (launchContents m' c)).trans ((Ref.final_v128 H').trans (Step.final19 H).symm)),
    h9.trans ((Cert.ReferenceIdeal.Read.val_main_v132_eq (launchContents m' c)).trans ((Ref.final_v132 H').trans (Step.final20 H).symm)), hk⟩

end Cert.Mid

end
-- ==== Proof.InpSpec.lean ====
/-
  WHAT THE BACKWARD PASS OF THE FIRST NORM AND ITS INPUT PROJECTION COMPUTES, as real numbers, one row (one token) at a
  time. A row has the gradients of the projection's 2576 channels, in the four groups in which they arrive, the gradient
  that reaches the residual stream from above, and the row of the stream itself. The kernel and the reference are each
  shown to compute these functions; no block of rows occurs here.
-/
module

public import proofs.«01_k».proof.Proof.Spec

@[expose] public section

noncomputable section

namespace Cert.Inproj

open Cert.Lift Cert.Mid

/-- One row: the gradients of the four groups of projected channels (of the last, the first 16 of 128 are channels), the
    gradient of the residual stream from above, and the stream. -/
structure InRow where
  d0 : Fin 1024 → ℝ
  d1 : Fin 512 → ℝ
  d2 : Fin 1024 → ℝ
  d3 : Fin 128 → ℝ
  dh : Fin 1024 → ℝ
  h : Fin 1024 → ℝ

/-- The projection and the gain of the norm before it. -/
structure InWeights where
  wi : Fin 1024 → Fin 2576 → ℝ
  g : Fin 1024 → ℝ

/-- The channels of the four groups. -/
abbrev ch0 (k : Fin 1024) : Fin 2576 := ⟨k.val, by omega⟩
abbrev ch1 (k : Fin 512) : Fin 2576 := ⟨1024 + k.val, by omega⟩
abbrev ch2 (k : Fin 1024) : Fin 2576 := ⟨1536 + k.val, by omega⟩
abbrev ch3 (k : Fin 16) : Fin 2576 := ⟨2560 + k.val, by omega⟩

/-- A sum over the channels is the sum of the four groups' sums. -/
theorem sum_channels {α : Type*} [AddCommMonoid α] (f : Fin 2576 → α) :
    ∑ k, f k = ∑ k, f (ch0 k) + ∑ k, f (ch1 k) + ∑ k, f (ch2 k) + ∑ k, f (ch3 k) := by
  rw [show (∑ k, f k) = (∑ k : Fin 2560, f (Fin.castAdd 16 k)) + ∑ k : Fin 16, f (Fin.natAdd 2560 k) from
      Fin.sum_univ_add (a := 2560) (b := 16) f,
    show (∑ k : Fin 2560, f (Fin.castAdd 16 k)) = (∑ k : Fin 1536, f (Fin.castAdd 16 (Fin.castAdd 1024 k)))
        + ∑ k : Fin 1024, f (Fin.castAdd 16 (Fin.natAdd 1536 k)) from
      Fin.sum_univ_add (a := 1536) (b := 1024) fun k => f (Fin.castAdd 16 k),
    show (∑ k : Fin 1536, f (Fin.castAdd 16 (Fin.castAdd 1024 k))) = (∑ k : Fin 1024, f (Fin.castAdd 16 (Fin.castAdd 1024 (Fin.castAdd 512 k))))
        + ∑ k : Fin 512, f (Fin.castAdd 16 (Fin.castAdd 1024 (Fin.natAdd 1024 k))) from
      Fin.sum_univ_add (a := 1024) (b := 512) fun k => f (Fin.castAdd 16 (Fin.castAdd 1024 k))]
  rfl

/-- Of 128 padded channels, those after the first 16 carry nothing. -/
theorem sum_tail (f : Fin 128 → ℝ) (hf : ∀ k : Fin 128, 16 ≤ k.val → f k = 0) :
    ∑ k, f k = ∑ k : Fin 16, f ⟨k.val, by omega⟩ := by
  rw [show (∑ k, f k) = (∑ k : Fin 16, f (Fin.castAdd 112 k)) + ∑ k : Fin 112, f (Fin.natAdd 16 k) from
      Fin.sum_univ_add (a := 16) (b := 112) f,
    Finset.sum_eq_zero (s := Finset.univ) (f := fun k : Fin 112 => f (Fin.natAdd 16 k)) fun k _ => hf _ (by simp [Fin.natAdd]), add_zero]
  rfl

variable (W : InWeights) (x : InRow)

namespace InRow

/-- The gradient of the normed row: the channels' gradients through the projection. -/
def dn (l : Fin 1024) : ℝ :=
  ∑ k, x.d0 k * W.wi l (ch0 k) + ∑ k, x.d1 k * W.wi l (ch1 k) + ∑ k, x.d2 k * W.wi l (ch2 k)
    + ∑ k : Fin 16, x.d3 ⟨k.val, by omega⟩ * W.wi l (ch3 k)
/-- The row divided by its root mean square. -/
def xh (l : Fin 1024) : ℝ := x.h l * rn x.h
/-- What of the gradient lies along the row. -/
def along : ℝ := (∑ l, x.dn W l * W.g l * x.xh l) / 1024
/-- The gradient of the residual stream. -/
def dx (l : Fin 1024) : ℝ := x.dh l + rn x.h * (x.dn W l * W.g l - x.xh l * x.along W)
/-- The row's part of the gradient of the gain. -/
def dg (l : Fin 1024) : ℝ := x.dn W l * x.xh l

end InRow

end Cert.Inproj
-- ==== Proof.InpArgs.lean ====
/-
  THE ARGUMENTS OF THE NORM'S BACKWARD PASS AS REAL NUMBERS: what both programs are given, entry by entry, when every
  entry is finite, and the rows that they make up.
-/
module

public import proofs.«01_k».proof.Proof.InpSpec
public import Idealize.ShloMosaic.Lib.ValueIdx

@[expose] public section

noncomputable section

namespace Cert.Inproj

open Idealize.ShloMosaic

/-- The entries of the arguments: the channels' gradients in four groups, the gradient from above, the examples, the meta
    tokens, the weights. -/
structure InArgs where
  d0 : Fin 4224 → Fin 1024 → ℝ
  d1 : Fin 4224 → Fin 512 → ℝ
  d2 : Fin 4224 → Fin 1024 → ℝ
  d3 : Fin 4224 → Fin 128 → ℝ
  dh : Fin 4224 → Fin 1024 → ℝ
  x : Fin 2 → Fin 2048 → Fin 1024 → ℝ
  mt : Fin 16 → Fin 1024 → ℝ
  W : InWeights

namespace InArgs

variable (A : InArgs) (R : Fin 4224)

/-- A device's rows are two examples of 2112: 48 rows of zeros, the 16 meta tokens, the example's 2048 tokens. -/
def h (l : Fin 1024) : ℝ :=
  if h : 64 ≤ R.val % 2112 then A.x (⟨R.val / 2112, by omega⟩ : Fin 2) (⟨R.val % 2112 - 64, by omega⟩ : Fin 2048) l
  else if h' : 48 ≤ R.val % 2112 then A.mt (⟨R.val % 2112 - 48, by omega⟩ : Fin 16) l else 0
def row : InRow := ⟨A.d0 R, A.d1 R, A.d2 R, A.d3 R, A.dh R, A.h R⟩

/-- The three results: the examples' gradient, the gradient of the gain as the first of eight rows, and the meta tokens'
    gradient, which both examples add to. -/
def gx (e : Fin 2) (p : Fin 2048) (l : Fin 1024) : ℝ := (A.row ⟨2112 * e.val + 64 + p.val, by omega⟩).dx A.W l
def part (q : Fin 8) (l : Fin 1024) : ℝ := if q.val = 0 then ∑ R, (A.row R).dg A.W l else 0
def dmeta (k : Fin 16) (l : Fin 1024) : ℝ :=
  (A.row ⟨48 + k.val, by omega⟩).dx A.W l + (A.row ⟨2160 + k.val, by omega⟩).dx A.W l

end InArgs

/-- The argument arrays hold these numbers. -/
structure InLifted (A : InArgs) (a0 : (⟨2, ![4224, 1024]⟩ : Shape).Idx → EReal) (a1 : (⟨2, ![4224, 512]⟩ : Shape).Idx → EReal)
    (a2 : (⟨2, ![4224, 1024]⟩ : Shape).Idx → EReal) (a3 : (⟨2, ![4224, 128]⟩ : Shape).Idx → EReal)
    (a4 : (⟨2, ![4224, 1024]⟩ : Shape).Idx → EReal) (a5 : (⟨3, ![2, 2048, 1024]⟩ : Shape).Idx → EReal)
    (a6 : (⟨2, ![16, 1024]⟩ : Shape).Idx → EReal) (a7 : (⟨3, ![1, 1024, 2576]⟩ : Shape).Idx → EReal)
    (a8 : (⟨2, ![1, 1024]⟩ : Shape).Idx → EReal) : Prop where
  d0 : ∀ R k, a0 (ix2 R k) = ((A.d0 R k : ℝ) : EReal)
  d1 : ∀ R k, a1 (ix2 R k) = ((A.d1 R k : ℝ) : EReal)
  d2 : ∀ R k, a2 (ix2 R k) = ((A.d2 R k : ℝ) : EReal)
  d3 : ∀ R k, a3 (ix2 R k) = ((A.d3 R k : ℝ) : EReal)
  dh : ∀ R k, a4 (ix2 R k) = ((A.dh R k : ℝ) : EReal)
  x : ∀ e p l, a5 (ix3 e p l) = ((A.x e p l : ℝ) : EReal)
  mt : ∀ p l, a6 (ix2 p l) = ((A.mt p l : ℝ) : EReal)
  wi : ∀ l k, a7 (ix3 0 l k) = ((A.W.wi l k : ℝ) : EReal)
  g : ∀ l, a8 (ix2 0 l) = ((A.W.g l : ℝ) : EReal)

end Cert.Inproj

end
-- ==== Proof.InpKit.lean ====
/- The names the proof about the call `bwd_inproj` is written in: the staging buffers at a grid point, the two slots of
   the scratch its results are copied out of, the windows of the result in HBM the four copies write, the semaphore of
   each slot, and which of the body's branches the four grid points take. -/
module

public import proofs.«01_k».proof.Proof.Gen.Kernel2Ideal.Frame
public import proofs.«01_k».proof.Proof.Gen.Kernel2Ideal.Skeleton
public import Idealize.ShloMosaic.Lib.Ring.WriteBehind
public import Idealize.ShloMosaic.Lib.Pipeline.FrameValue
public import Idealize.ShloMosaic.Lib.Pipeline.ReadBack
public import Idealize.ShloMosaic.Lib.VecWindow

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host lines before the call, then the call. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-! ## The staging buffers at a grid point -/

abbrev ms0 (t : Fin cfg0.N) : Memref sig .tc .vmem S1056x1024 .bf16 := win0_0.stage (cfg0.slots t 0)
abbrev ms1 (t : Fin cfg0.N) : Memref sig .tc .vmem S1056x512 .bf16 := win0_1.stage (cfg0.slots t 1)
abbrev ms2 (t : Fin cfg0.N) : Memref sig .tc .vmem S1056x1024 .bf16 := win0_2.stage (cfg0.slots t 2)
abbrev ms3 (t : Fin cfg0.N) : Memref sig .tc .vmem S1056x128 .bf16 := win0_3.stage (cfg0.slots t 3)
abbrev ms4 (t : Fin cfg0.N) : Memref sig .tc .vmem S1056x1024 .f32 := win0_4.stage (cfg0.slots t 4)
abbrev ms5 (t : Fin cfg0.N) : Memref sig .tc .vmem S1056x1024 .f32 := win0_5.stage (cfg0.slots t 5)
abbrev ms6 (t : Fin cfg0.N) : Memref sig .tc .vmem S1024x2688 .bf16 := win0_6.stage (cfg0.slots t 6)
abbrev ms7 (t : Fin cfg0.N) : Memref sig .tc .vmem S1x1024 .f32 := win0_7.stage (cfg0.slots t 7)
abbrev ms8 (t : Fin cfg0.N) : Memref sig .tc .vmem S8x128 .f32 := win0_8.stage (cfg0.slots t 8)
abbrev ms9 (t : Fin cfg0.N) : Memref sig .tc .vmem S8x1024 .f32 := win0_9.stage (cfg0.slots t 9)
abbrev ms10 (t : Fin cfg0.N) : Memref sig .tc .vmem S16x1024 .f32 := win0_10.stage (cfg0.slots t 10)

/-- The scratch, whole, and the result the copies write, whole. -/
abbrev scM : Memref sig .tc .vmem S2x1056x1024 .f32 := Memref.whole cc0_scratch0
abbrev hbM : Memref sig .tc .hbm S2x2048x1024 .f32 := Memref.whole main_v8_0
abbrev HbBuf (c : Dev nD) {sp : Space} {S : Shape} {e : EltTy} (M : Memref sig .tc sp S e) : Type := Buf (Elt F) (M.view.loc (c : Thread nD τ))

/-! ## The slots, the windows and the semaphores -/

theorem inb_slot (g : Fin 2) : ∀ a, (![g.val, 0, 0] : Fin 3 → Nat) a + S1x1056x1024.size a ≤ S2x1056x1024.size a := by
  have := g.isLt; intro a; fin_cases a <;> simp <;> omega
theorem inb_low : ∀ a, (![0, 64, 0] : Fin 3 → Nat) a + S1x992x1024.size a ≤ S2x1056x1024.size a := by
  intro a; fin_cases a <;> simp
theorem inb_head (b : Fin 2) : ∀ a, (![b.val, 0, 0] : Fin 3 → Nat) a + S1x992x1024.size a ≤ S2x2048x1024.size a := by
  have := b.isLt; intro a; fin_cases a <;> simp <;> omega
theorem inb_tail (b : Fin 2) : ∀ a, (![b.val, 992, 0] : Fin 3 → Nat) a + S1x1056x1024.size a ≤ S2x2048x1024.size a := by
  have := b.isLt; intro a; fin_cases a <;> simp <;> omega
theorem inb_cell (g : Fin 2) : ∀ a, (![g.val] : Fin 1 → Nat) a + S1.size a ≤ S2.size a := by
  have := g.isLt; intro a; fin_cases a <;> simp <;> omega
/-- Slot `g` of the scratch; the rows of slot 0 that hold real tokens; the first 992 and the last 1056 tokens of example `b`
    in the result; the semaphore of slot `g`. -/
def slot (g : Fin 2) : Memref sig .tc .vmem S1056x1024 .f32 :=
  (scM.slice (Rect.unit (s := S2x1056x1024) ![g.val, 0, 0] S1x1056x1024.size (inb_slot g)) (fun _ => rfl)).squeeze S1056x1024 squeezes_S1x1056x1024_S1056x1024
def low : Memref sig .tc .vmem S992x1024 .f32 :=
  (scM.slice (Rect.unit (s := S2x1056x1024) ![0, 64, 0] S1x992x1024.size inb_low) (fun _ => rfl)).squeeze S992x1024 squeezes_S1x992x1024_S992x1024
def head (b : Fin 2) : Memref sig .tc .hbm S992x1024 .f32 :=
  (hbM.slice (Rect.unit (s := S2x2048x1024) ![b.val, 0, 0] S1x992x1024.size (inb_head b)) (fun _ => rfl)).squeeze S992x1024 squeezes_S1x992x1024_S992x1024
def tail (b : Fin 2) : Memref sig .tc .hbm S1056x1024 .f32 :=
  (hbM.slice (Rect.unit (s := S2x2048x1024) ![b.val, 992, 0] S1x1056x1024.size (inb_tail b)) (fun _ => rfl)).squeeze S1056x1024 squeezes_S1x1056x1024_S1056x1024
def cell (g : Fin 2) : DmaSems sig S_ := (cc0_scratch1.slice (Rect.unit (s := S2) ![g.val] S1.size (inb_cell g))).squeeze S_ squeezes_S1_S_
abbrev cellR (g : Fin 2) : SemLoc sig := SemLoc.dma (cell g).sem
theorem cellR_0 : cellR 0 = SemLoc.dma 17 := by decide
theorem cellR_1 : cellR 1 = SemLoc.dma 18 := by decide

section Names
omit [FloatOps F]
theorem cell_canon {o : Fin 1 → ℕ} (g : Fin 2) (h : o = ![g.val]) (hb) :
    (cc0_scratch1.slice (Rect.unit (s := S2) o S1.size hb)).squeeze S_ squeezes_S1_S_ = cell g :=
  congrArg (fun A : DmaSems sig S1 => A.squeeze S_ squeezes_S1_S_) (SemArray.slice_unit_congr _ h _ _)
theorem slot_canon {o : Fin 3 → ℕ} (g : Fin 2) (h : o = ![g.val, 0, 0]) (hb) :
    (scM.slice (Rect.unit (s := S2x1056x1024) o S1x1056x1024.size hb) (fun _ => rfl)).squeeze S1056x1024 squeezes_S1x1056x1024_S1056x1024 = slot g :=
  congrArg (fun M : Memref sig .tc .vmem S1x1056x1024 .f32 => M.squeeze S1056x1024 squeezes_S1x1056x1024_S1056x1024) (Memref.slice_unit_congr _ h _ _ (fun _ => rfl) (fun _ => rfl))
theorem low_canon {o : Fin 3 → ℕ} (h : o = ![0, 64, 0]) (hb) :
    (scM.slice (Rect.unit (s := S2x1056x1024) o S1x992x1024.size hb) (fun _ => rfl)).squeeze S992x1024 squeezes_S1x992x1024_S992x1024 = low :=
  congrArg (fun M : Memref sig .tc .vmem S1x992x1024 .f32 => M.squeeze S992x1024 squeezes_S1x992x1024_S992x1024) (Memref.slice_unit_congr _ h _ _ (fun _ => rfl) (fun _ => rfl))
theorem head_canon {o : Fin 3 → ℕ} (b : Fin 2) (h : o = ![b.val, 0, 0]) (hb) :
    (hbM.slice (Rect.unit (s := S2x2048x1024) o S1x992x1024.size hb) (fun _ => rfl)).squeeze S992x1024 squeezes_S1x992x1024_S992x1024 = head b :=
  congrArg (fun M : Memref sig .tc .hbm S1x992x1024 .f32 => M.squeeze S992x1024 squeezes_S1x992x1024_S992x1024) (Memref.slice_unit_congr _ h _ _ (fun _ => rfl) (fun _ => rfl))
theorem tail_canon {o : Fin 3 → ℕ} (b : Fin 2) (h : o = ![b.val, 992, 0]) (hb) :
    (hbM.slice (Rect.unit (s := S2x2048x1024) o S1x1056x1024.size hb) (fun _ => rfl)).squeeze S1056x1024 squeezes_S1x1056x1024_S1056x1024 = tail b :=
  congrArg (fun M : Memref sig .tc .hbm S1x1056x1024 .f32 => M.squeeze S1056x1024 squeezes_S1x1056x1024_S1056x1024) (Memref.slice_unit_congr _ h _ _ (fun _ => rfl) (fun _ => rfl))
theorem cell_canon' {o : Fin 1 → ℕ} (g : Fin 2) (h : o = ![g.val]) (hb) :
    (cc0_scratch1.slice (Rect.unit (s := S2) o ![1] hb)).squeeze S_ squeezes_S1_S_ = cell g := cell_canon g h hb
theorem slot_canon' {o : Fin 3 → ℕ} (g : Fin 2) (h : o = ![g.val, 0, 0]) (hb) :
    ((Memref.whole cc0_scratch0).slice (Rect.unit (s := S2x1056x1024) o ![1, 1056, 1024] hb) (fun _ => rfl)).squeeze S1056x1024 squeezes_S1x1056x1024_S1056x1024 = slot g := slot_canon g h hb
theorem low_canon' {o : Fin 3 → ℕ} (h : o = ![0, 64, 0]) (hb) :
    ((Memref.whole cc0_scratch0).slice (Rect.unit (s := S2x1056x1024) o ![1, 992, 1024] hb) (fun _ => rfl)).squeeze S992x1024 squeezes_S1x992x1024_S992x1024 = low := low_canon h hb
theorem head_canon' {o : Fin 3 → ℕ} (b : Fin 2) (h : o = ![b.val, 0, 0]) (hb) :
    ((Memref.whole main_v8_0).slice (Rect.unit (s := S2x2048x1024) o ![1, 992, 1024] hb) (fun _ => rfl)).squeeze S992x1024 squeezes_S1x992x1024_S992x1024 = head b := head_canon b h hb
theorem tail_canon' {o : Fin 3 → ℕ} (b : Fin 2) (h : o = ![b.val, 992, 0]) (hb) :
    ((Memref.whole main_v8_0).slice (Rect.unit (s := S2x2048x1024) o ![1, 1056, 1024] hb) (fun _ => rfl)).squeeze S1056x1024 squeezes_S1x1056x1024_S1056x1024 = tail b := tail_canon b h hb
end Names

/-! ## The branches and the offsets at each of the four points -/

section Points
omit [FloatOps F]
theorem conds0 : ∀ t : Fin grid0.N, t.val = 0 → ¬k0_cond1 (grid0.coords t) = 1#1 ∧ k0_cond4 (grid0.coords t) = 1#1 ∧ ¬k0_cond5 (grid0.coords t) = 1#1 ∧ ¬k0_cond6 (grid0.coords t) = 1#1 ∧ k0_cond11 (grid0.coords t) = 1#1 ∧ k0_cond12 (grid0.coords t) = 1#1 := by decide +kernel
theorem conds1 : ∀ t : Fin grid0.N, t.val = 1 → ¬k0_cond1 (grid0.coords t) = 1#1 ∧ ¬k0_cond4 (grid0.coords t) = 1#1 ∧ k0_cond5 (grid0.coords t) = 1#1 ∧ ¬k0_cond6 (grid0.coords t) = 1#1 ∧ ¬k0_cond11 (grid0.coords t) = 1#1 ∧ ¬k0_cond12 (grid0.coords t) = 1#1 := by decide +kernel
theorem conds2 : ∀ t : Fin grid0.N, t.val = 2 → k0_cond1 (grid0.coords t) = 1#1 ∧ k0_cond2 (grid0.coords t) = 1#1 ∧ ¬k0_cond3 (grid0.coords t) = 1#1 ∧ k0_cond4 (grid0.coords t) = 1#1 ∧ ¬k0_cond5 (grid0.coords t) = 1#1 ∧ ¬k0_cond6 (grid0.coords t) = 1#1 ∧ ¬k0_cond11 (grid0.coords t) = 1#1 ∧ k0_cond12 (grid0.coords t) = 1#1 := by decide +kernel
theorem conds3 : ∀ t : Fin grid0.N, t.val = 3 → k0_cond1 (grid0.coords t) = 1#1 ∧ ¬k0_cond2 (grid0.coords t) = 1#1 ∧ k0_cond3 (grid0.coords t) = 1#1 ∧ ¬k0_cond4 (grid0.coords t) = 1#1 ∧ k0_cond5 (grid0.coords t) = 1#1 ∧ k0_cond6 (grid0.coords t) = 1#1 ∧ ¬k0_cond7 (grid0.coords t) = 1#1 ∧ k0_cond8 (grid0.coords t) = 1#1 ∧ k0_cond9 (grid0.coords t) = 1#1 ∧ ¬k0_cond10 (grid0.coords t) = 1#1 ∧ ¬k0_cond11 (grid0.coords t) = 1#1 ∧ ¬k0_cond12 (grid0.coords t) = 1#1 := by decide +kernel
set_option synthInstance.maxSize 4096
theorem off7_0 : ∀ t : Fin grid0.N, t.val = 0 → k0_off7 (grid0.coords t) = ![0,0,0] := by decide +kernel
theorem off8_0 : ∀ t : Fin grid0.N, t.val = 0 → k0_off8 (grid0.coords t) = ![0] := by decide +kernel
theorem off9_0 : ∀ t : Fin grid0.N, t.val = 0 → k0_off9 (grid0.coords t) = ![0,0,0] := by decide +kernel
theorem off10_0 : ∀ t : Fin grid0.N, t.val = 0 → k0_off10 (grid0.coords t) = ![0,64,0] := by decide +kernel
theorem off7_1 : ∀ t : Fin grid0.N, t.val = 1 → k0_off7 (grid0.coords t) = ![1,0,0] := by decide +kernel
theorem off11_1 : ∀ t : Fin grid0.N, t.val = 1 → k0_off11 (grid0.coords t) = ![1] := by decide +kernel
theorem off12_1 : ∀ t : Fin grid0.N, t.val = 1 → k0_off12 (grid0.coords t) = ![0,992,0] := by decide +kernel
theorem off13_1 : ∀ t : Fin grid0.N, t.val = 1 → k0_off13 (grid0.coords t) = ![1,0,0] := by decide +kernel
theorem off1_2 : ∀ t : Fin grid0.N, t.val = 2 → k0_off1 (grid0.coords t) = ![0] := by decide +kernel
theorem off2_2 : ∀ t : Fin grid0.N, t.val = 2 → k0_off2 (grid0.coords t) = ![0,0,0] := by decide +kernel
theorem off3_2 : ∀ t : Fin grid0.N, t.val = 2 → k0_off3 (grid0.coords t) = ![0,64,0] := by decide +kernel
theorem off7_2 : ∀ t : Fin grid0.N, t.val = 2 → k0_off7 (grid0.coords t) = ![0,0,0] := by decide +kernel
theorem off8_2 : ∀ t : Fin grid0.N, t.val = 2 → k0_off8 (grid0.coords t) = ![0] := by decide +kernel
theorem off9_2 : ∀ t : Fin grid0.N, t.val = 2 → k0_off9 (grid0.coords t) = ![1,0,0] := by decide +kernel
theorem off10_2 : ∀ t : Fin grid0.N, t.val = 2 → k0_off10 (grid0.coords t) = ![0,64,0] := by decide +kernel
theorem off4_3 : ∀ t : Fin grid0.N, t.val = 3 → k0_off4 (grid0.coords t) = ![1] := by decide +kernel
theorem off5_3 : ∀ t : Fin grid0.N, t.val = 3 → k0_off5 (grid0.coords t) = ![0,992,0] := by decide +kernel
theorem off6_3 : ∀ t : Fin grid0.N, t.val = 3 → k0_off6 (grid0.coords t) = ![1,0,0] := by decide +kernel
theorem off7_3 : ∀ t : Fin grid0.N, t.val = 3 → k0_off7 (grid0.coords t) = ![1,0,0] := by decide +kernel
theorem off11_3 : ∀ t : Fin grid0.N, t.val = 3 → k0_off11 (grid0.coords t) = ![1] := by decide +kernel
theorem off12_3 : ∀ t : Fin grid0.N, t.val = 3 → k0_off12 (grid0.coords t) = ![1,992,0] := by decide +kernel
theorem off13_3 : ∀ t : Fin grid0.N, t.val = 3 → k0_off13 (grid0.coords t) = ![1,0,0] := by decide +kernel
theorem off17_3 : ∀ t : Fin grid0.N, t.val = 3 → k0_off17 (grid0.coords t) = ![1] := by decide +kernel
theorem off18_3 : ∀ t : Fin grid0.N, t.val = 3 → k0_off18 (grid0.coords t) = ![1,992,0] := by decide +kernel
theorem off19_3 : ∀ t : Fin grid0.N, t.val = 3 → k0_off19 (grid0.coords t) = ![1,0,0] := by decide +kernel
theorem off20_3 : ∀ t : Fin grid0.N, t.val = 3 → k0_off20 (grid0.coords t) = ![0] := by decide +kernel
theorem off21_3 : ∀ t : Fin grid0.N, t.val = 3 → k0_off21 (grid0.coords t) = ![1,0,0] := by decide +kernel
theorem off22_3 : ∀ t : Fin grid0.N, t.val = 3 → k0_off22 (grid0.coords t) = ![0,64,0] := by decide +kernel
end Points

end Cert.Inproj

end
-- ==== Proof.InpSets.lean ====
/- Which elements the slots and the windows of the call `bwd_inproj` have, and what is read through them. -/
module

public import proofs.«01_k».proof.Proof.InpKit
public import Idealize.ShloMosaic.Lib.Pointwise.Index
public import Idealize.ShloMosaic.Lib.ValueLayout
public import Idealize.ShloMosaic.Lib.Pipeline.ValueKit.Geometry

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slots and the real rows by coordinates. -/
theorem mem_slot (g : Fin 2) (j : S2x1056x1024.Idx) : j ∈ (slot g).view.set ↔ (j 0).val = g.val := by
  have h : (slot g).view.set = (Rect.unit (s := S2x1056x1024) ![g.val, 0, 0] S1x1056x1024.size (inb_slot g)).set :=
    (View.set_reshape _ _).trans (View.set_slice_whole _ _)
  refine (iff_of_eq (congrArg (fun S => j ∈ S) h)).trans (Iff.trans Rect.mem_set_unit ?_)
  have h1 : (j 1).val < 1056 := (j 1).isLt
  have h2 : (j 2).val < 1024 := (j 2).isLt
  refine ⟨fun H => ?_, fun H a => ?_⟩
  · have := H 0; simp at this; omega
  · fin_cases a <;> simp <;> omega
theorem mem_low (j : S2x1056x1024.Idx) : j ∈ low.view.set ↔ (j 0).val = 0 ∧ 64 ≤ (j 1).val := by
  have h : low.view.set = (Rect.unit (s := S2x1056x1024) ![0, 64, 0] S1x992x1024.size inb_low).set :=
    (View.set_reshape _ _).trans (View.set_slice_whole _ _)
  refine (iff_of_eq (congrArg (fun S => j ∈ S) h)).trans (Iff.trans Rect.mem_set_unit ?_)
  have h1 : (j 1).val < 1056 := (j 1).isLt
  have h2 : (j 2).val < 1024 := (j 2).isLt
  refine ⟨fun H => ?_, fun H a => ?_⟩
  · have a := H 0; have b := H 1; simp at a b; omega
  · fin_cases a <;> simp <;> omega
theorem mem_head (b : Fin 2) (j : S2x2048x1024.Idx) : j ∈ (head b).view.set ↔ (j 0).val = b.val ∧ (j 1).val < 992 := by
  have h : (head b).view.set = (Rect.unit (s := S2x2048x1024) ![b.val, 0, 0] S1x992x1024.size (inb_head b)).set :=
    (View.set_reshape _ _).trans (View.set_slice_whole _ _)
  refine (iff_of_eq (congrArg (fun S => j ∈ S) h)).trans (Iff.trans Rect.mem_set_unit ?_)
  have h1 : (j 1).val < 2048 := (j 1).isLt
  have h2 : (j 2).val < 1024 := (j 2).isLt
  refine ⟨fun H => ?_, fun H a => ?_⟩
  · have a := H 0; have b := H 1; simp at a b; omega
  · fin_cases a <;> simp <;> omega
theorem mem_tail (b : Fin 2) (j : S2x2048x1024.Idx) : j ∈ (tail b).view.set ↔ (j 0).val = b.val ∧ 992 ≤ (j 1).val := by
  have h : (tail b).view.set = (Rect.unit (s := S2x2048x1024) ![b.val, 992, 0] S1x1056x1024.size (inb_tail b)).set :=
    (View.set_reshape _ _).trans (View.set_slice_whole _ _)
  refine (iff_of_eq (congrArg (fun S => j ∈ S) h)).trans (Iff.trans Rect.mem_set_unit ?_)
  have h1 : (j 1).val < 2048 := (j 1).isLt
  have h2 : (j 2).val < 1024 := (j 2).isLt
  refine ⟨fun H => ?_, fun H a => ?_⟩
  · have a := H 0; have b := H 1; simp at a b; omega
  · fin_cases a <;> simp <;> omega
theorem low_sub : low.view.set ⊆ (slot 0).view.set := fun j h => (mem_slot 0 j).2 ((mem_low j).1 h).1

/-- What is read through them, of the buffer's contents. -/
theorem read_low (f : S2x1056x1024.Idx → Elt F .f32) (y : S992x1024.Idx) :
    low.view.read (Elt F) f y = f (ix3 0 ⟨(y 0).val + 64, by have h : (y 0).val < 992 := (y 0).isLt; show _ < 1056; omega⟩ (y 1)) := by
  refine (congrArg (fun z => f ((Rect.unit (s := S2x1056x1024) ![0, 64, 0] S1x992x1024.size inb_low).emb z)) ((congrArg _ (ValueIdx.eq_ix2 y)).trans (ValueIdx.reshapeEquiv_ix2_1ab _ (y 0) (y 1)))).trans ?_
  refine congrArg f (funext fun a => Fin.ext ?_)
  refine (ValueKit.rect_emb_unit_val _ _ _ _ a).trans ?_
  fin_cases a <;> simp <;> first | rfl | exact Nat.add_comm _ _
theorem read_slot (g : Fin 2) (f : S2x1056x1024.Idx → Elt F .f32) (y : S1056x1024.Idx) : (slot g).view.read (Elt F) f y = f (ix3 g (y 0) (y 1)) := by
  refine (congrArg (fun z => f ((Rect.unit (s := S2x1056x1024) ![g.val, 0, 0] S1x1056x1024.size (inb_slot g)).emb z)) ((congrArg _ (ValueIdx.eq_ix2 y)).trans (ValueIdx.reshapeEquiv_ix2_1ab _ (y 0) (y 1)))).trans ?_
  refine congrArg f (funext fun a => Fin.ext ?_)
  refine (ValueKit.rect_emb_unit_val _ _ _ _ a).trans ?_
  fin_cases a <;> simp <;> first | rfl | exact Nat.add_comm _ _
theorem read_head (b : Fin 2) (f : S2x2048x1024.Idx → Elt F .f32) (y : S992x1024.Idx) :
    (head b).view.read (Elt F) f y = f (ix3 b ⟨(y 0).val, by have h : (y 0).val < 992 := (y 0).isLt; show _ < 2048; omega⟩ (y 1)) := by
  refine (congrArg (fun z => f ((Rect.unit (s := S2x2048x1024) ![b.val, 0, 0] S1x992x1024.size (inb_head b)).emb z)) ((congrArg _ (ValueIdx.eq_ix2 y)).trans (ValueIdx.reshapeEquiv_ix2_1ab _ (y 0) (y 1)))).trans ?_
  refine congrArg f (funext fun a => Fin.ext ?_)
  refine (ValueKit.rect_emb_unit_val _ _ _ _ a).trans ?_
  fin_cases a <;> simp <;> first | rfl | exact Nat.add_comm _ _
theorem read_tail (b : Fin 2) (f : S2x2048x1024.Idx → Elt F .f32) (y : S1056x1024.Idx) :
    (tail b).view.read (Elt F) f y = f (ix3 b ⟨(y 0).val + 992, by have h : (y 0).val < 1056 := (y 0).isLt; show _ < 2048; omega⟩ (y 1)) := by
  refine (congrArg (fun z => f ((Rect.unit (s := S2x2048x1024) ![b.val, 992, 0] S1x1056x1024.size (inb_tail b)).emb z)) ((congrArg _ (ValueIdx.eq_ix2 y)).trans (ValueIdx.reshapeEquiv_ix2_1ab _ (y 0) (y 1)))).trans ?_
  refine congrArg f (funext fun a => Fin.ext ?_)
  refine (ValueKit.rect_emb_unit_val _ _ _ _ a).trans ?_
  fin_cases a <;> simp <;> first | rfl | exact Nat.add_comm _ _

end Cert.Inproj

end
-- ==== Proof.InpHold.lean ====
/- What a grid point of the call `bwd_inproj` finds and leaves: the slots and the windows held, and the copies in flight. -/
module

public import proofs.«01_k».proof.Proof.InpSets

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD)
abbrev slotP (g : Fin 2) (e : HbBuf (F := F) c (slot g)) : sProp 𝕄 := (slot g).view.loc (c : Thread nD τ) ↦[(slot g).view.set]{fullShare} e
abbrev lowP (e : HbBuf (F := F) c low) : sProp 𝕄 := low.view.loc (c : Thread nD τ) ↦[low.view.set]{fullShare} e
abbrev restP (e : HbBuf (F := F) c (slot 0)) : sProp 𝕄 := (slot 0).view.loc (c : Thread nD τ) ↦[(slot 0).view.set \ low.view.set]{fullShare} e
abbrev headP (b : Fin 2) (f : HbBuf (F := F) c (head b)) : sProp 𝕄 := (head b).view.loc (c : Thread nD τ) ↦[(head b).view.set]{fullShare} f
abbrev tailP (b : Fin 2) (f : HbBuf (F := F) c (tail b)) : sProp 𝕄 := (tail b).view.loc (c : Thread nD τ) ↦[(tail b).view.set]{fullShare} f
abbrev cellP (g : Fin 2) : sProp 𝕄 := semVal ((c : Thread nD τ), cellR g) 0
/-- Window `head b` holding `X`, `tail b` holding `X`. -/
abbrev headAt (b : Fin 2) (X : Vec F S992x1024 .f32) : sProp 𝕄 := iprop(∃ f, ⌜(head b).view.read (Elt F) f = X⌝ ∗ headP c b f)
abbrev tailAt (b : Fin 2) (X : Vec F S1056x1024 .f32) : sProp 𝕄 := iprop(∃ f, ⌜(tail b).view.read (Elt F) f = X⌝ ∗ tailP c b f)
/-- The copy of slot 0's real rows to `head b` in flight, which will leave `X` there; the other rows of slot 0 beside it. -/
abbrev headFly (b : Fin 2) (X : Vec F S992x1024 .f32) : sProp 𝕄 :=
  iprop(∃ f e, ⌜(head b).view.read (Elt F) f = X⌝ ∗ Transfers.Flight countersEmb (c : Thread nD τ) (SemLoc.dma ⟨17, by decide⟩ : SemLoc sig) default 126976 iprop(headP c b f ∗ lowP c e) ∗ restP c e)
/-- The copy of slot 1 to `tail b` in flight, which will leave `X` there. -/
abbrev tailFly (b : Fin 2) (X : Vec F S1056x1024 .f32) : sProp 𝕄 :=
  iprop(∃ f e, ⌜(tail b).view.read (Elt F) f = X⌝ ∗ Transfers.Flight countersEmb (c : Thread nD τ) (SemLoc.dma ⟨18, by decide⟩ : SemLoc sig) default 135168 iprop(tailP c b f ∗ slotP c 1 e))
/-- Slot 0 is its real rows and the rest. -/
theorem slot_split (e : HbBuf (F := F) c (slot 0)) : slotP c 0 e ⊢ iprop(lowP c e ∗ restP c e) :=
  (pointsTo_split_subset (ℓ := (slot 0).view.loc (c : Thread nD τ)) low_sub).1
theorem slot_join (e : HbBuf (F := F) c (slot 0)) : iprop(lowP c e ∗ restP c e) ⊢ slotP c 0 e :=
  (pointsTo_split_subset (ℓ := (slot 0).view.loc (c : Thread nD τ)) low_sub).2
end

/-- The rows of a slot that hold real tokens, and all its rows, of the block stored there. -/
def lowOf (T : Vec F S1x1056x1024 .f32) : Vec F S992x1024 .f32 := fun y => T (ix3 0 ⟨(y 0).val + 64, by have h : (y 0).val < 992 := (y 0).isLt; show _ < 1056; omega⟩ (y 1))
def allOf (T : Vec F S1x1056x1024 .f32) : Vec F S1056x1024 .f32 := fun y => T (ix3 0 (y 0) (y 1))

/-- A block stored at slot 0, read back through the slot's real rows. -/
theorem read_stored_low {o : Fin 3 → ℕ} (inb : ∀ a, o a + S1x1056x1024.size a ≤ S2x1056x1024.size a) (h : o = ![0, 0, 0])
    (f : S2x1056x1024.Idx → Elt F .f32) (w : Vec F S1x1056x1024 .f32) :
    low.view.read (Elt F) ((scM.access (Rect.unit (s := S2x1056x1024) o S1x1056x1024.size inb)).write (Elt F) f w Finset.univ) = lowOf w := by
  subst h
  funext y
  refine (read_low _ y).trans (Eq.trans (congrArg _ ?_) (View.write_emb_of_mem (v := scM.access (Rect.unit (s := S2x1056x1024) ![0, 0, 0] S1x1056x1024.size inb)) f w
    (Finset.mem_univ (ix3 0 ⟨(y 0).val + 64, by have h : (y 0).val < 992 := (y 0).isLt; show _ < 1056; omega⟩ (y 1) : S1x1056x1024.Idx))))
  refine Eq.symm (funext fun a => Fin.ext ?_)
  refine (ValueKit.rect_emb_unit_val _ _ _ _ a).trans ?_
  fin_cases a <;> simp <;> rfl
/-- A block stored at slot 1, read back through the slot. -/
theorem read_stored_slot {o : Fin 3 → ℕ} (inb : ∀ a, o a + S1x1056x1024.size a ≤ S2x1056x1024.size a) (h : o = ![1, 0, 0])
    (f : S2x1056x1024.Idx → Elt F .f32) (w : Vec F S1x1056x1024 .f32) :
    (slot 1).view.read (Elt F) ((scM.access (Rect.unit (s := S2x1056x1024) o S1x1056x1024.size inb)).write (Elt F) f w Finset.univ) = allOf w := by
  subst h
  funext y
  refine (read_slot 1 _ y).trans (Eq.trans (congrArg _ ?_) (View.write_emb_of_mem (v := scM.access (Rect.unit (s := S2x1056x1024) ![1, 0, 0] S1x1056x1024.size inb)) f w
    (Finset.mem_univ (ix3 0 (y 0) (y 1) : S1x1056x1024.Idx))))
  refine Eq.symm (funext fun a => Fin.ext ?_)
  refine (ValueKit.rect_emb_unit_val _ _ _ _ a).trans ?_
  fin_cases a <;> simp <;> rfl

/-- The four blocks of columns of the projection's weight. -/
def wCol0 (x6 : Vec F S1024x2688 .bf16) : Vec F S1024x1024 .bf16 := View.ld x6 (Rect.unit (s := S1024x2688) ![0, 0] S1024x1024.size inb_S1024x2688_S1024x1024_0_0)
def wCol1 (x6 : Vec F S1024x2688 .bf16) : Vec F S1024x512 .bf16 := View.ld x6 (Rect.unit (s := S1024x2688) ![0, 1024] S1024x512.size inb_S1024x2688_S1024x512_0_1024)
def wCol2 (x6 : Vec F S1024x2688 .bf16) : Vec F S1024x1024 .bf16 := View.ld x6 (Rect.unit (s := S1024x2688) ![0, 1536] S1024x1024.size inb_S1024x2688_S1024x1024_0_1536)
def wCol3 (x6 : Vec F S1024x2688 .bf16) : Vec F S1024x128 .bf16 := View.ld x6 (Rect.unit (s := S1024x2688) ![0, 2560] S1024x128.size inb_S1024x2688_S1024x128_0_2560)
/-- The gradient at the norm's output: the four products. -/
def dnT (x0 : Vec F S1056x1024 .bf16) (x1 : Vec F S1056x512 .bf16) (x2 : Vec F S1056x1024 .bf16) (x3 : Vec F S1056x128 .bf16) (x6 : Vec F S1024x2688 .bf16) : FVec F S1056x1024 .f32 :=
  k0_pay5 x0 (wCol0 x6) x1 (wCol1 x6) x2 (wCol2 x6) x3 (wCol3 x6)
/-- The gradient at the norm's input, plus the residual's. -/
def dhT (x0 : Vec F S1056x1024 .bf16) (x1 : Vec F S1056x512 .bf16) (x2 : Vec F S1056x1024 .bf16) (x3 : Vec F S1056x128 .bf16) (x4 x5 : Vec F S1056x1024 .f32) (x6 : Vec F S1024x2688 .bf16) (x7 : Vec F S1x1024 .f32) : FVec F S1056x1024 .f32 :=
  k0_pay11 (dnT x0 x1 x2 x3 x6) (k0_pay7 x5) (k0_pay8 x5) x7 x4
/-- The same, as the block stored in a slot. -/
def tileT (x0 : Vec F S1056x1024 .bf16) (x1 : Vec F S1056x512 .bf16) (x2 : Vec F S1056x1024 .bf16) (x3 : Vec F S1056x128 .bf16) (x4 x5 : Vec F S1056x1024 .f32) (x6 : Vec F S1024x2688 .bf16) (x7 : Vec F S1x1024 .f32) : Vec F S1x1056x1024 .f32 :=
  k0_pay12 (dnT x0 x1 x2 x3 x6) (k0_pay7 x5) (k0_pay8 x5) x7 x4
/-- The block's contribution to the gradient of the norm's gain. -/
def dgT (x0 : Vec F S1056x1024 .bf16) (x1 : Vec F S1056x512 .bf16) (x2 : Vec F S1056x1024 .bf16) (x3 : Vec F S1056x128 .bf16) (x5 : Vec F S1056x1024 .f32) (x6 : Vec F S1024x2688 .bf16) : FVec F S1x1024 .f32 :=
  k0_pay10 (k0_pay9 x0 (wCol0 x6) x1 (wCol1 x6) x2 (wCol2 x6) x3 (wCol3 x6) x5)
/-- The gain's gradient accumulated: row 0 of the window gains the block's contribution. -/
def partS (x9 : Vec F S8x1024 .f32) (dg : FVec F S1x1024 .f32) : Vec F S8x1024 .f32 := fun y =>
  if (y 0).val = 0 then k0_pay3 dg (View.ld x9 (Rect.unit (s := S8x1024) ![0, 0] S1x1024.size inb_S8x1024_S1x1024_0_0)) (ix2 0 (y 1)) else x9 y
/-- A window after a store of its row 0. -/
theorem read_row {κ : Kind} {sp : Space} (v : View sig κ sp S8x1024 .f32) (f : v.ty.Contents (Elt F)) (L : List (View.Piece (Elt F) S8x1024 .f32))
    (w : Vec F S1x1024 .f32) (x : Vec F S8x1024 .f32) (h : v.read (Elt F) (v.writes (Elt F) f L) = x) :
    v.read (Elt F) (v.writes (Elt F) f (⟨Rect.unit (s := S8x1024) ![0, 0] S1x1024.size inb_S8x1024_S1x1024_0_0, w⟩ :: L)) =
      fun y => if (y 0).val = 0 then w (ix2 0 (y 1)) else x y := by
  funext y
  by_cases h0 : (y 0).val = 0
  · refine Eq.trans ?_ (if_pos h0).symm
    have e : ∀ a : Fin 2, (y a).val = (![0, 0] : Fin 2 → ℕ) a + 1 * ((ix2 0 (y 1) : S1x1024.Idx) a).val :=
      Fin.forall_fin_two.2 ⟨by show (y 0).val = 0 + 1 * 0; omega, by show (y 1).val = 0 + 1 * (y 1).val; omega⟩
    exact View.read_writes_cons_hit_of_coords v f (Rect.unit (s := S8x1024) ![0, 0] S1x1024.size inb_S8x1024_S1x1024_0_0) w L (ix2 0 (y 1) : S1x1024.Idx) y e
  · refine Eq.trans ?_ (if_neg h0).symm
    rw [← h]
    exact View.read_writes_cons_miss_of_axis v f _ L y 0 0 1 rfl rfl rfl (Or.inr (by omega))
theorem hz : (![0, 0] : Fin 2 → Nat) = fun _ => 0 := funext fun a => by fin_cases a <;> rfl

end Cert.Inproj

end
-- ==== Proof.InpRows.lean ====
/-
  THE KERNEL'S ARITHMETIC, ROW BY ROW: each value the kernel computes in one grid step of the norm's backward pass, read
  at one row and lane, is the real function of InpSpec.lean at that row, given that its inputs are the reals of that row
  and of the weights, the projection padded to 2688 channels with zeros.
-/
module

public import proofs.«01_k».proof.Proof.InpSpec
public import proofs.«01_k».proof.Proof.InpHold
public import Idealize.ShloMosaic.Lib.Pipeline.Value
public import Idealize.ShloMosaic.Lib.Pipeline.ValueKit.Tiles

@[expose] public section

set_option maxRecDepth 16384

noncomputable section

namespace Cert.Inproj

open Cert.Kernel2Ideal Cert.Kernel2Ideal.Gen Idealize.ShloMosaic Cert.Lift Cert.Mid

/-- The projection, padded with zeros. -/
def InWeights.wp (W : InWeights) (l : Fin 1024) (k : Fin 2688) : ℝ :=
  if h : k.val < 2576 then W.wi l ⟨k.val, h⟩ else 0

/-- A load of columns `o`, `o + 1`, … of an array, at a row and lane. -/
theorem ld_cols {M N m n : ℕ} {e : EltTy} (X : (⟨2, ![M, N]⟩ : Shape).Idx → Elt Ideal e) (o : ℕ)
    (inb : ∀ a, (![0, o] : Fin 2 → Nat) a + (![m, n] : Fin 2 → Nat) a ≤ (⟨2, ![M, N]⟩ : Shape).size a)
    (a : Fin m) (b : Fin n) (a' : Fin M) (b' : Fin N) (ha : a'.val = a.val) (hb : b'.val = o + b.val) :
    View.ld X (Rect.unit (s := ⟨2, ![M, N]⟩) ![0, o] ![m, n] inb) (ix2 a b) = X (ix2 a' b') :=
  View.ld_unit_apply_of X _ _ inb _ _ fun c => by
    refine Fin.cases ?_ (fun c => ?_) c
    · simpa [ix2] using ha
    · obtain rfl : c = 0 := Subsingleton.elim _ _
      simpa [ix2] using hb

variable (W : InWeights) (x : Fin 1056 → InRow)
  {x0 : Vec Ideal S1056x1024 .bf16} {x1 : Vec Ideal S1056x512 .bf16} {x2 : Vec Ideal S1056x1024 .bf16}
  {x3 : Vec Ideal S1056x128 .bf16} {x4 x5 : Vec Ideal S1056x1024 .f32} {x6 : Vec Ideal S1024x2688 .bf16}
  {x7 : Vec Ideal S1x1024 .f32}

/-- The products' sum is the gradient of the normed row. -/
theorem dn_real
    (h0 : ∀ r k, x0 (ix2 r k) = (((x r).d0 k : ℝ) : EReal)) (h1 : ∀ r k, x1 (ix2 r k) = (((x r).d1 k : ℝ) : EReal))
    (h2 : ∀ r k, x2 (ix2 r k) = (((x r).d2 k : ℝ) : EReal)) (h3 : ∀ r k, x3 (ix2 r k) = (((x r).d3 k : ℝ) : EReal))
    (h6 : ∀ l k, x6 (ix2 l k) = ((W.wp l k : ℝ) : EReal)) (r : Fin 1056) (l : Fin 1024) :
    dnT x0 x1 x2 x3 x6 (ix2 r l) = (((x r).dn W l : ℝ) : EReal) := by
  have w0 : ∀ (l : Fin 1024) (k : Fin 1024), wCol0 x6 (ix2 l k) = ((W.wi l (ch0 k) : ℝ) : EReal) := fun l k => by
    refine (ld_cols x6 0 _ l k l ⟨k.val, by omega⟩ rfl (by simp)).trans ((h6 _ _).trans (congrArg _ ?_))
    exact dif_pos (show k.val < 2576 by omega)
  have w1 : ∀ (l : Fin 1024) (k : Fin 512), wCol1 x6 (ix2 l k) = ((W.wi l (ch1 k) : ℝ) : EReal) := fun l k => by
    refine (ld_cols x6 1024 _ l k l ⟨1024 + k.val, by omega⟩ rfl rfl).trans ((h6 _ _).trans (congrArg _ ?_))
    exact dif_pos (show 1024 + k.val < 2576 by omega)
  have w2 : ∀ (l : Fin 1024) (k : Fin 1024), wCol2 x6 (ix2 l k) = ((W.wi l (ch2 k) : ℝ) : EReal) := fun l k => by
    refine (ld_cols x6 1536 _ l k l ⟨1536 + k.val, by omega⟩ rfl rfl).trans ((h6 _ _).trans (congrArg _ ?_))
    exact dif_pos (show 1536 + k.val < 2576 by omega)
  have w3 : ∀ (l : Fin 1024) (k : Fin 128), wCol3 x6 (ix2 l k) = ((W.wp l ⟨2560 + k.val, by omega⟩ : ℝ) : EReal) := fun l k =>
    (ld_cols x6 2560 _ l k l ⟨2560 + k.val, by omega⟩ rfl rfl).trans (h6 _ _)
  unfold dnT
  pointwise [k0_pay5]
  simp (disch := positivity) only [h0, h1, h2, h3, w0, w1, w2, w3, lift]
  refine congrArg _ ?_
  simp only [InRow.dn]
  rw [sum_tail (fun k => (x r).d3 k * W.wp l ⟨2560 + k.val, by omega⟩) fun k hk => ?_]
  · have e : ∀ k : Fin 16, W.wp l ⟨2560 + k.val, by omega⟩ = W.wi l (ch3 k) := fun k =>
      dif_pos (show 2560 + k.val < 2576 by omega)
    simp only [e]
  · have e : W.wp l ⟨2560 + k.val, by omega⟩ = 0 := dif_neg (show ¬ 2560 + k.val < 2576 by omega)
    simp only [e, mul_zero]

/-- The reciprocal root mean square of a row. -/
theorem r_real (h5 : ∀ r k, x5 (ix2 r k) = (((x r).h k : ℝ) : EReal)) (r : Fin 1056) :
    k0_pay7 x5 (ix2 r 0) = ((rn (x r).h : ℝ) : EReal) := by
  pointwise [k0_pay7, k0_pay6]
  simp (disch := norm_num) only [h5, lift]
  exact rsqrt_coe_pos (ms_pos _)

/-- The normed row. -/
theorem xh_real (h5 : ∀ r k, x5 (ix2 r k) = (((x r).h k : ℝ) : EReal)) (r : Fin 1056) (l : Fin 1024) :
    k0_pay8 x5 (ix2 r l) = (((x r).xh l : ℝ) : EReal) := by
  pointwise [k0_pay8, k0_pay6]
  simp only [h5, r_real x h5, lift]
  rfl

/-- The rows' part of the gradient of the gain. -/
theorem dg_real
    (h0 : ∀ r k, x0 (ix2 r k) = (((x r).d0 k : ℝ) : EReal)) (h1 : ∀ r k, x1 (ix2 r k) = (((x r).d1 k : ℝ) : EReal))
    (h2 : ∀ r k, x2 (ix2 r k) = (((x r).d2 k : ℝ) : EReal)) (h3 : ∀ r k, x3 (ix2 r k) = (((x r).d3 k : ℝ) : EReal))
    (h5 : ∀ r k, x5 (ix2 r k) = (((x r).h k : ℝ) : EReal))
    (h6 : ∀ l k, x6 (ix2 l k) = ((W.wp l k : ℝ) : EReal)) (l : Fin 1024) :
    dgT x0 x1 x2 x3 x5 x6 (ix2 0 l) = ((∑ r, (x r).dg W l : ℝ) : EReal) := by
  have hd : ∀ r l, k0_pay5 x0 (wCol0 x6) x1 (wCol1 x6) x2 (wCol2 x6) x3 (wCol3 x6) (ix2 r l) = (((x r).dn W l : ℝ) : EReal) :=
    dn_real W x h0 h1 h2 h3 h6
  unfold dgT
  pointwise [k0_pay10, k0_pay9]
  simp only [hd, xh_real x h5, lift]
  rfl

/-- The gradient of the residual stream. -/
theorem dx_real
    (h0 : ∀ r k, x0 (ix2 r k) = (((x r).d0 k : ℝ) : EReal)) (h1 : ∀ r k, x1 (ix2 r k) = (((x r).d1 k : ℝ) : EReal))
    (h2 : ∀ r k, x2 (ix2 r k) = (((x r).d2 k : ℝ) : EReal)) (h3 : ∀ r k, x3 (ix2 r k) = (((x r).d3 k : ℝ) : EReal))
    (h4 : ∀ r k, x4 (ix2 r k) = (((x r).dh k : ℝ) : EReal))
    (h5 : ∀ r k, x5 (ix2 r k) = (((x r).h k : ℝ) : EReal))
    (h6 : ∀ l k, x6 (ix2 l k) = ((W.wp l k : ℝ) : EReal)) (h7 : ∀ k, x7 (ix2 0 k) = ((W.g k : ℝ) : EReal))
    (r : Fin 1056) (l : Fin 1024) :
    dhT x0 x1 x2 x3 x4 x5 x6 x7 (ix2 r l) = (((x r).dx W l : ℝ) : EReal) := by
  unfold dhT
  pointwise [k0_pay11]
  simp (disch := norm_num) only [dn_real W x h0 h1 h2 h3 h6, r_real x h5, xh_real x h5, h4, h7, lift]
  rfl

/-- The tile that is copied out holds the same. -/
theorem tile_apply (r : Fin 1056) (l : Fin 1024) :
    tileT x0 x1 x2 x3 x4 x5 x6 x7 (ix3 0 r l) = dhT x0 x1 x2 x3 x4 x5 x6 x7 (ix2 r l) := by
  unfold tileT dhT
  generalize dnT x0 x1 x2 x3 x6 = a
  generalize k0_pay7 x5 = b
  generalize k0_pay8 x5 = d
  unfold k0_pay12
  generalize k0_pay11 a b d x7 x4 = z
  pointwise

/-- One step's update of the first output's tile: row 0 gains the step's part, the other rows stay. -/
theorem part_apply (x9 : Vec Ideal S8x1024 .f32) (dg : FVec Ideal S1x1024 .f32) (k : Fin 8) (l : Fin 1024) :
    partS x9 dg (ix2 k l) = if k.val = 0 then x9 (ix2 0 l) + dg (ix2 0 l) else x9 (ix2 k l) := by
  unfold partS
  by_cases h : k.val = 0
  · rw [if_pos h, if_pos (show ((ix2 k l : S8x1024.Idx) 0).val = 0 from h)]
    have e : View.ld x9 (Rect.unit (s := S8x1024) ![0, 0] S1x1024.size inb_S8x1024_S1x1024_0_0) (ix2 0 l) = x9 (ix2 0 l) :=
      ld_cols x9 0 _ 0 l 0 l rfl (by simp)
    show k0_pay3 dg _ (ix2 0 l) = _
    generalize View.ld x9 (Rect.unit (s := S8x1024) ![0, 0] S1x1024.size inb_S8x1024_S1x1024_0_0) = y at e
    rw [← e]
    pointwise [k0_pay3]
  · rw [if_neg h, if_neg (show ¬ ((ix2 k l : S8x1024.Idx) 0).val = 0 from h)]

/-- One step's update of the meta tokens' gradient: rows 48 to 63 of the tile are added. -/
theorem meta_apply (v : FVec Ideal S1056x1024 .f32) (y : Vec Ideal S16x1024 .f32) (k : Fin 16) (l : Fin 1024) :
    k0_pay4 v y (ix2 k l) = y (ix2 k l) + v (ix2 ⟨48 + k.val, by omega⟩ l) := by
  pointwise [k0_pay4]

/-- The outputs begin at zero. -/
theorem zero8 (k : Fin 8) (l : Fin 1024) : (k0_pay1 : FVec Ideal S8x1024 .f32) (ix2 k l) = ((0 : ℝ) : EReal) := by
  pointwise [k0_pay1]
  simp only [lift]
theorem zero16 (k : Fin 16) (l : Fin 1024) : (k0_pay2 : FVec Ideal S16x1024 .f32) (ix2 k l) = ((0 : ℝ) : EReal) := by
  pointwise [k0_pay2]
  simp only [lift]

end Cert.Inproj
-- ==== Proof.InpRun0.lean ====
/- The body of the call `bwd_inproj` run at the first grid point. -/
module

public import proofs.«01_k».proof.Proof.InpHold

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option backward.isDefEq.respectTransparency.types false in
/-- The body at the first grid point: from its inputs, its slot and its window: the copy it starts, and what it leaves in its two other windows. -/
theorem run0 (c : Dev nD) (t : Fin grid0.N) (ht : t.val = 0) (arg1 : Memref sig .tc .vmem S1056x1024 .bf16) (harg1 : arg1.IsWhole) (arg2 : Memref sig .tc .vmem S1056x512 .bf16) (harg2 : arg2.IsWhole) (arg3 : Memref sig .tc .vmem S1056x1024 .bf16) (harg3 : arg3.IsWhole) (arg4 : Memref sig .tc .vmem S1056x128 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1024x2688 .bf16) (harg7 : arg7.IsWhole) (arg8 : Memref sig .tc .vmem S1x1024 .f32) (harg8 : arg8.IsWhole) (arg9 : Memref sig .tc .vmem S8x128 .f32) (harg9 : arg9.IsWhole) (arg11 : Memref sig .tc .vmem S8x1024 .f32) (harg11 : arg11.IsWhole) (arg12 : Memref sig .tc .vmem S16x1024 .f32) (harg12 : arg12.IsWhole)
    (x0 : Vec F S1056x1024 .bf16) (x1 : Vec F S1056x512 .bf16) (x2 : Vec F S1056x1024 .bf16) (x3 : Vec F S1056x128 .bf16) (x4 : Vec F S1056x1024 .f32) (x5 : Vec F S1056x1024 .f32) (x6 : Vec F S1024x2688 .bf16) (x7 : Vec F S1x1024 .f32) (x8 : Vec F S8x128 .f32)
    (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ (∃ f, headP c 0 f) ∗ cellP c 0 ∗ (∃ e, slotP c 0 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare (partS (k0_pay1 (F := F)) (dgT x0 x1 x2 x3 x5 x6)) ∗ owns (c : Thread nD τ) arg12 fullShare (k0_pay4 (dhT x0 x1 x2 x3 x4 x5 x6 x7) (k0_pay2 (F := F))) ∗ headFly c 0 (lowOf (tileT x0 x1 x2 x3 x4 x5 x6 x7)) ∗ (∃ W', owes (c : Thread nD τ) 0 W')) -∗ K ⟨⟩))
          ⊢ wp frame (wpE (defs₀ (F := F)) Variants.none c none) Set.univ (cc0_bwd_inproj (grid0.coords t) arg1 harg1 arg2 harg2 arg3 harg3 arg4 harg4 arg5 harg5 arg6 harg6 arg7 harg7 arg8 harg8 arg9 harg9 (Memref.whole main_v8_0) (Memref.isWhole_whole _) arg11 harg11 arg12 harg12 scM (Memref.isWhole_whole _) cc0_scratch1) K := by
    obtain ⟨hc1, hc4, hc5, hc6, hc11, hc12⟩ := conds0 t ht
    haveI : Fact (¬k0_cond1 (grid0.coords t) = 1#1) := ⟨hc1⟩
    haveI : Fact (k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (k0_cond11 (grid0.coords t) = 1#1) := ⟨hc11⟩
    haveI : Fact (k0_cond12 (grid0.coords t) = 1#1) := ⟨hc12⟩
    have hcanon8 := cell_canon 0 (off8_0 t ht) (by rw [off8_0 t ht]; exact inb_cell 0)
    have hcanon8p := cell_canon' 0 (off8_0 t ht) (by rw [off8_0 t ht]; exact inb_cell 0)
    have hcanon8p := cell_canon' 0 (off8_0 t ht)
    have hcanon9 := head_canon 0 (off9_0 t ht) (by rw [off9_0 t ht]; exact inb_head 0)
    have hcanon9p := head_canon' 0 (off9_0 t ht) (by rw [off9_0 t ht]; exact inb_head 0)
    have hcanon9p := head_canon' 0 (off9_0 t ht)
    have hcanon10 := low_canon (off10_0 t ht) (by rw [off10_0 t ht]; exact inb_low)
    have hcanon10p := low_canon' (off10_0 t ht) (by rw [off10_0 t ht]; exact inb_low)
    have hcanon10p := low_canon' (off10_0 t ht)
    letI : ClosedOff (k0_off7 (grid0.coords t)) := ⟨![0,0,0], off7_0 t ht⟩
    simp only [cc0_bwd_inproj_eq_skeleton]; unfold cc0_bwd_inproj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fp, Hp⟩, Hq, ⟨%e, He⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc1 | sl_exact hc4 | sl_exact hc5 | sl_exact hc6 | sl_exact hc11 | sl_exact hc12)
    ihave Hs := slot_split c _ $$ He; icases Hs with ⟨Hl, HR⟩
    sl_exec (disch := first | sl_exact hc1 | sl_exact hc4 | sl_exact hc5 | sl_exact hc6 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; rotate_left
      · iexact H9
      · ipureintro
        refine (read_row _ _ _ _ (k0_pay1 (F := F)) ?h).trans ?_
        · unfold run0.sl.H9_1; exact View.read_writes_full _ _ _ _ _
        have e : run0.sl.v119 c arg11 = View.ld (k0_pay1 (F := F)) (Rect.unit (s := S8x1024) ![0, 0] S1x1024.size inb_S8x1024_S1x1024_0_0) := by
          unfold run0.sl.v119 run0.sl.H9_1; exact View.readCov_fill _ _ _ _ _ (fun a => congrFun hz a)
        rw [e]; unfold partS dgT run0.sl.r_4 run0.sl.r_3 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [H10]
    · iexists _; isplitr; rotate_left
      · iexact H10
      · ipureintro
        refine (View.read_writes_full _ _ _ _ _).trans ?_
        have e : run0.sl.v136 c arg12 = (k0_pay2 (F := F)) := by
          unfold run0.sl.v136 run0.sl.H10_1; exact View.readCov_full _ _ _ _ _
        rw [e]; unfold dhT dnT run0.sl.r_5 run0.sl.r run0.sl.r_1 run0.sl.r_2 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [Hq HR]
    · iexists _, _; isplitr; rotate_left
      · isplitl [Hq]; · iexact Hq
        iexact HR
      · ipureintro; refine (View.read_writes_whole _ _ _).trans ?_; unfold run0.sl.dma0 run0.sl.He_w1; refine (read_stored_low _ (off7_0 t ht) _ _).trans ?_; refine congrArg lowOf ?_; unfold run0.sl.r run0.sl.r_1 run0.sl.r_2 tileT dnT wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz]
    iexists _; iexact HW

end Cert.Inproj

end
-- ==== Proof.InpRun1.lean ====
/- The body of the call `bwd_inproj` run at the second grid point. -/
module

public import proofs.«01_k».proof.Proof.InpRun0

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option backward.isDefEq.respectTransparency.types false in
/-- The body at the second grid point: from its inputs, its slot and its window: the copy it starts, and what it leaves in its two other windows. -/
theorem run1 (c : Dev nD) (t : Fin grid0.N) (ht : t.val = 1) (arg1 : Memref sig .tc .vmem S1056x1024 .bf16) (harg1 : arg1.IsWhole) (arg2 : Memref sig .tc .vmem S1056x512 .bf16) (harg2 : arg2.IsWhole) (arg3 : Memref sig .tc .vmem S1056x1024 .bf16) (harg3 : arg3.IsWhole) (arg4 : Memref sig .tc .vmem S1056x128 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1024x2688 .bf16) (harg7 : arg7.IsWhole) (arg8 : Memref sig .tc .vmem S1x1024 .f32) (harg8 : arg8.IsWhole) (arg9 : Memref sig .tc .vmem S8x128 .f32) (harg9 : arg9.IsWhole) (arg11 : Memref sig .tc .vmem S8x1024 .f32) (harg11 : arg11.IsWhole) (arg12 : Memref sig .tc .vmem S16x1024 .f32) (harg12 : arg12.IsWhole)
    (x0 : Vec F S1056x1024 .bf16) (x1 : Vec F S1056x512 .bf16) (x2 : Vec F S1056x1024 .bf16) (x3 : Vec F S1056x128 .bf16) (x4 : Vec F S1056x1024 .f32) (x5 : Vec F S1056x1024 .f32) (x6 : Vec F S1024x2688 .bf16) (x7 : Vec F S1x1024 .f32) (x8 : Vec F S8x128 .f32) (x9 : Vec F S8x1024 .f32) (x10 : Vec F S16x1024 .f32)
    (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare x9 ∗ owns (c : Thread nD τ) arg12 fullShare x10 ∗ (∃ f, tailP c 0 f) ∗ cellP c 1 ∗ (∃ e, slotP c 1 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare (partS x9 (dgT x0 x1 x2 x3 x5 x6)) ∗ owns (c : Thread nD τ) arg12 fullShare x10 ∗ tailFly c 0 (allOf (tileT x0 x1 x2 x3 x4 x5 x6 x7)) ∗ (∃ W', owes (c : Thread nD τ) 0 W')) -∗ K ⟨⟩))
          ⊢ wp frame (wpE (defs₀ (F := F)) Variants.none c none) Set.univ (cc0_bwd_inproj (grid0.coords t) arg1 harg1 arg2 harg2 arg3 harg3 arg4 harg4 arg5 harg5 arg6 harg6 arg7 harg7 arg8 harg8 arg9 harg9 (Memref.whole main_v8_0) (Memref.isWhole_whole _) arg11 harg11 arg12 harg12 scM (Memref.isWhole_whole _) cc0_scratch1) K := by
    obtain ⟨hc1, hc4, hc5, hc6, hc11, hc12⟩ := conds1 t ht
    haveI : Fact (¬k0_cond1 (grid0.coords t) = 1#1) := ⟨hc1⟩
    haveI : Fact (¬k0_cond4 (grid0.coords t) = 1#1) := ⟨hc4⟩
    haveI : Fact (k0_cond5 (grid0.coords t) = 1#1) := ⟨hc5⟩
    haveI : Fact (¬k0_cond6 (grid0.coords t) = 1#1) := ⟨hc6⟩
    haveI : Fact (¬k0_cond11 (grid0.coords t) = 1#1) := ⟨hc11⟩
    haveI : Fact (¬k0_cond12 (grid0.coords t) = 1#1) := ⟨hc12⟩
    have hcanon11 := cell_canon 1 (off11_1 t ht) (by rw [off11_1 t ht]; exact inb_cell 1)
    have hcanon11p := cell_canon' 1 (off11_1 t ht) (by rw [off11_1 t ht]; exact inb_cell 1)
    have hcanon11p := cell_canon' 1 (off11_1 t ht)
    have hcanon12 := tail_canon 0 (off12_1 t ht) (by rw [off12_1 t ht]; exact inb_tail 0)
    have hcanon12p := tail_canon' 0 (off12_1 t ht) (by rw [off12_1 t ht]; exact inb_tail 0)
    have hcanon12p := tail_canon' 0 (off12_1 t ht)
    have hcanon13 := slot_canon 1 (off13_1 t ht) (by rw [off13_1 t ht]; exact inb_slot 1)
    have hcanon13p := slot_canon' 1 (off13_1 t ht) (by rw [off13_1 t ht]; exact inb_slot 1)
    have hcanon13p := slot_canon' 1 (off13_1 t ht)
    letI : ClosedOff (k0_off7 (grid0.coords t)) := ⟨![1,0,0], off7_1 t ht⟩
    simp only [cc0_bwd_inproj_eq_skeleton]; unfold cc0_bwd_inproj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp, Hp⟩, Hq, ⟨%e, He⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf9; obtain rfl := harg12.eq_unread hf10
    sl_exec (disch := first | sl_exact hc1 | sl_exact hc4 | sl_exact hc5 | sl_exact hc6 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; rotate_left
      · iexact H9
      · ipureintro
        refine (read_row _ _ _ _ x9 (harg11.read_unread _)).trans ?_
        unfold partS dgT run1.sl.r_4 run1.sl.r_3 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [H10]
    · iexists _; isplitr; · ipureintro; exact harg12.read_unread _
      iexact H10
    isplitl [Hq]
    · iexists _, _; isplitr; rotate_left
      · iexact Hq
      · ipureintro; refine (View.read_writes_whole _ _ _).trans ?_; unfold run1.sl.dma13 run1.sl.He_w1; refine (read_stored_slot _ (off7_1 t ht) _ _).trans ?_; refine congrArg allOf ?_; unfold run1.sl.r run1.sl.r_1 run1.sl.r_2 tileT dnT wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz]
    iexists _; iexact HW

end Cert.Inproj

end
-- ==== Proof.InpRun2.lean ====
/- The body of the call `bwd_inproj` run at the third grid point. -/
module

public import proofs.«01_k».proof.Proof.InpRun1

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option backward.isDefEq.respectTransparency.types false in
/-- The body at the third grid point: from its inputs, its slot and its window: the copy it starts, and what it leaves in its two other windows. -/
theorem run2 (c : Dev nD) (t : Fin grid0.N) (ht : t.val = 2) (arg1 : Memref sig .tc .vmem S1056x1024 .bf16) (harg1 : arg1.IsWhole) (arg2 : Memref sig .tc .vmem S1056x512 .bf16) (harg2 : arg2.IsWhole) (arg3 : Memref sig .tc .vmem S1056x1024 .bf16) (harg3 : arg3.IsWhole) (arg4 : Memref sig .tc .vmem S1056x128 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1024x2688 .bf16) (harg7 : arg7.IsWhole) (arg8 : Memref sig .tc .vmem S1x1024 .f32) (harg8 : arg8.IsWhole) (arg9 : Memref sig .tc .vmem S8x128 .f32) (harg9 : arg9.IsWhole) (arg11 : Memref sig .tc .vmem S8x1024 .f32) (harg11 : arg11.IsWhole) (arg12 : Memref sig .tc .vmem S16x1024 .f32) (harg12 : arg12.IsWhole)
    (x0 : Vec F S1056x1024 .bf16) (x1 : Vec F S1056x512 .bf16) (x2 : Vec F S1056x1024 .bf16) (x3 : Vec F S1056x128 .bf16) (x4 : Vec F S1056x1024 .f32) (x5 : Vec F S1056x1024 .f32) (x6 : Vec F S1024x2688 .bf16) (x7 : Vec F S1x1024 .f32) (x8 : Vec F S8x128 .f32) (x9 : Vec F S8x1024 .f32) (x10 : Vec F S16x1024 .f32)
    (X0 : Vec F S992x1024 .f32) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare x9 ∗ owns (c : Thread nD τ) arg12 fullShare x10 ∗ (∃ f, headP c 1 f) ∗ headFly c 0 X0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare (partS x9 (dgT x0 x1 x2 x3 x5 x6)) ∗ owns (c : Thread nD τ) arg12 fullShare (k0_pay4 (dhT x0 x1 x2 x3 x4 x5 x6 x7) x10) ∗ headAt c 0 X0 ∗ headFly c 1 (lowOf (tileT x0 x1 x2 x3 x4 x5 x6 x7)) ∗ (∃ W', owes (c : Thread nD τ) 0 W')) -∗ K ⟨⟩))
          ⊢ wp frame (wpE (defs₀ (F := F)) Variants.none c none) Set.univ (cc0_bwd_inproj (grid0.coords t) arg1 harg1 arg2 harg2 arg3 harg3 arg4 harg4 arg5 harg5 arg6 harg6 arg7 harg7 arg8 harg8 arg9 harg9 (Memref.whole main_v8_0) (Memref.isWhole_whole _) arg11 harg11 arg12 harg12 scM (Memref.isWhole_whole _) cc0_scratch1) K := by
    obtain ⟨hc1, hc2, hc3, hc4, hc5, hc6, hc11, hc12⟩ := conds2 t ht
    haveI : Fact (k0_cond1 (grid0.coords t) = 1#1) := ⟨hc1⟩
    haveI : Fact (k0_cond2 (grid0.coords t) = 1#1) := ⟨hc2⟩
    haveI : Fact (¬k0_cond3 (grid0.coords t) = 1#1) := ⟨hc3⟩
    haveI : Fact (k0_cond4 (grid0.coords t) = 1#1) := ⟨hc4⟩
    haveI : Fact (¬k0_cond5 (grid0.coords t) = 1#1) := ⟨hc5⟩
    haveI : Fact (¬k0_cond6 (grid0.coords t) = 1#1) := ⟨hc6⟩
    haveI : Fact (¬k0_cond11 (grid0.coords t) = 1#1) := ⟨hc11⟩
    haveI : Fact (k0_cond12 (grid0.coords t) = 1#1) := ⟨hc12⟩
    have hcanon1 := cell_canon 0 (off1_2 t ht) (by rw [off1_2 t ht]; exact inb_cell 0)
    have hcanon1p := cell_canon' 0 (off1_2 t ht) (by rw [off1_2 t ht]; exact inb_cell 0)
    have hcanon1p := cell_canon' 0 (off1_2 t ht)
    have hcanon2 := head_canon 0 (off2_2 t ht) (by rw [off2_2 t ht]; exact inb_head 0)
    have hcanon2p := head_canon' 0 (off2_2 t ht) (by rw [off2_2 t ht]; exact inb_head 0)
    have hcanon2p := head_canon' 0 (off2_2 t ht)
    have hcanon3 := low_canon (off3_2 t ht) (by rw [off3_2 t ht]; exact inb_low)
    have hcanon3p := low_canon' (off3_2 t ht) (by rw [off3_2 t ht]; exact inb_low)
    have hcanon3p := low_canon' (off3_2 t ht)
    have hcanon8 := cell_canon 0 (off8_2 t ht) (by rw [off8_2 t ht]; exact inb_cell 0)
    have hcanon8p := cell_canon' 0 (off8_2 t ht) (by rw [off8_2 t ht]; exact inb_cell 0)
    have hcanon8p := cell_canon' 0 (off8_2 t ht)
    have hcanon9 := head_canon 1 (off9_2 t ht) (by rw [off9_2 t ht]; exact inb_head 1)
    have hcanon9p := head_canon' 1 (off9_2 t ht) (by rw [off9_2 t ht]; exact inb_head 1)
    have hcanon9p := head_canon' 1 (off9_2 t ht)
    have hcanon10 := low_canon (off10_2 t ht) (by rw [off10_2 t ht]; exact inb_low)
    have hcanon10p := low_canon' (off10_2 t ht) (by rw [off10_2 t ht]; exact inb_low)
    have hcanon10p := low_canon' (off10_2 t ht)
    letI : ClosedOff (k0_off7 (grid0.coords t)) := ⟨![0,0,0], off7_2 t ht⟩
    simp only [cc0_bwd_inproj_eq_skeleton]; unfold cc0_bwd_inproj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp, Hp⟩, ⟨%fo, %eo, %hX0, HF, HR⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf9; obtain rfl := harg12.eq_unread hf10
    sl_exec (disch := first | sl_exact hc1 | sl_exact hc2 | sl_exact hc3 | sl_exact hc4 | sl_exact hc5 | sl_exact hc6 | sl_exact hc11 | sl_exact hc12)
    ihave He := slot_join c _ $$ [HF_src HR]
    · isplitl [HF_src]; · iexact HF_src
      iexact HR
    sl_exec (disch := first | sl_exact hc1 | sl_exact hc2 | sl_exact hc3 | sl_exact hc4 | sl_exact hc5 | sl_exact hc6 | sl_exact hc11 | sl_exact hc12)
    ihave Hs := slot_split c _ $$ He; icases Hs with ⟨Hl, HR⟩
    sl_exec (disch := first | sl_exact hc1 | sl_exact hc2 | sl_exact hc3 | sl_exact hc4 | sl_exact hc5 | sl_exact hc6 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; rotate_left
      · iexact H9
      · ipureintro
        refine (read_row _ _ _ _ x9 (harg11.read_unread _)).trans ?_
        unfold partS dgT run2.sl.r_4 run2.sl.r_3 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [H10]
    · iexists _; isplitr; rotate_left
      · iexact H10
      · ipureintro
        refine (View.read_writes_full _ _ _ _ _).trans ?_
        unfold dhT dnT run2.sl.r_5 run2.sl.r run2.sl.r_1 run2.sl.r_2 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [HF_dst]
    · iexists _; isplitr; · ipureintro; exact hX0
      iexact HF_dst
    isplitl [HF HR]
    · iexists _, _; isplitr; rotate_left
      · isplitl [HF]; · iexact HF
        iexact HR
      · ipureintro; refine (View.read_writes_whole _ _ _).trans ?_; unfold run2.sl.dma0 run2.sl.He_w1; refine (read_stored_low _ (off7_2 t ht) _ _).trans ?_; refine congrArg lowOf ?_; unfold run2.sl.r run2.sl.r_1 run2.sl.r_2 tileT dnT wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz]
    iexists _; iexact HW

end Cert.Inproj

end
-- ==== Proof.InpRun3.lean ====
/- The body of the call `bwd_inproj` run at the last grid point. -/
module

public import proofs.«01_k».proof.Proof.InpRun2

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
set_option backward.isDefEq.respectTransparency.types false in
/-- The body at the last grid point: from its inputs, its slot and its window: the copy it starts, and what it leaves in its two other windows. -/
theorem run3 (c : Dev nD) (t : Fin grid0.N) (ht : t.val = 3) (arg1 : Memref sig .tc .vmem S1056x1024 .bf16) (harg1 : arg1.IsWhole) (arg2 : Memref sig .tc .vmem S1056x512 .bf16) (harg2 : arg2.IsWhole) (arg3 : Memref sig .tc .vmem S1056x1024 .bf16) (harg3 : arg3.IsWhole) (arg4 : Memref sig .tc .vmem S1056x128 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1024x2688 .bf16) (harg7 : arg7.IsWhole) (arg8 : Memref sig .tc .vmem S1x1024 .f32) (harg8 : arg8.IsWhole) (arg9 : Memref sig .tc .vmem S8x128 .f32) (harg9 : arg9.IsWhole) (arg11 : Memref sig .tc .vmem S8x1024 .f32) (harg11 : arg11.IsWhole) (arg12 : Memref sig .tc .vmem S16x1024 .f32) (harg12 : arg12.IsWhole)
    (x0 : Vec F S1056x1024 .bf16) (x1 : Vec F S1056x512 .bf16) (x2 : Vec F S1056x1024 .bf16) (x3 : Vec F S1056x128 .bf16) (x4 : Vec F S1056x1024 .f32) (x5 : Vec F S1056x1024 .f32) (x6 : Vec F S1024x2688 .bf16) (x7 : Vec F S1x1024 .f32) (x8 : Vec F S8x128 .f32) (x9 : Vec F S8x1024 .f32) (x10 : Vec F S16x1024 .f32)
    (X0 : Vec F S1056x1024 .f32) (X1 : Vec F S992x1024 .f32) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare x9 ∗ owns (c : Thread nD τ) arg12 fullShare x10 ∗ (∃ f, tailP c 1 f) ∗ tailFly c 0 X0 ∗ headFly c 1 X1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg11 fullShare (partS x9 (dgT x0 x1 x2 x3 x5 x6)) ∗ owns (c : Thread nD τ) arg12 fullShare x10 ∗ tailAt c 0 X0 ∗ tailAt c 1 (allOf (tileT x0 x1 x2 x3 x4 x5 x6 x7)) ∗ headAt c 1 X1 ∗ cellP c 0 ∗ (∃ e, slotP c 0 e) ∗ cellP c 1 ∗ (∃ e, slotP c 1 e) ∗ (∃ W', owes (c : Thread nD τ) 0 W')) -∗ K ⟨⟩))
          ⊢ wp frame (wpE (defs₀ (F := F)) Variants.none c none) Set.univ (cc0_bwd_inproj (grid0.coords t) arg1 harg1 arg2 harg2 arg3 harg3 arg4 harg4 arg5 harg5 arg6 harg6 arg7 harg7 arg8 harg8 arg9 harg9 (Memref.whole main_v8_0) (Memref.isWhole_whole _) arg11 harg11 arg12 harg12 scM (Memref.isWhole_whole _) cc0_scratch1) K := by
    obtain ⟨hc1, hc2, hc3, hc4, hc5, hc6, hc7, hc8, hc9, hc10, hc11, hc12⟩ := conds3 t ht
    haveI : Fact (k0_cond1 (grid0.coords t) = 1#1) := ⟨hc1⟩
    haveI : Fact (¬k0_cond2 (grid0.coords t) = 1#1) := ⟨hc2⟩
    haveI : Fact (k0_cond3 (grid0.coords t) = 1#1) := ⟨hc3⟩
    haveI : Fact (¬k0_cond4 (grid0.coords t) = 1#1) := ⟨hc4⟩
    haveI : Fact (k0_cond5 (grid0.coords t) = 1#1) := ⟨hc5⟩
    haveI : Fact (k0_cond6 (grid0.coords t) = 1#1) := ⟨hc6⟩
    haveI : Fact (¬k0_cond7 (grid0.coords t) = 1#1) := ⟨hc7⟩
    haveI : Fact (k0_cond8 (grid0.coords t) = 1#1) := ⟨hc8⟩
    haveI : Fact (k0_cond9 (grid0.coords t) = 1#1) := ⟨hc9⟩
    haveI : Fact (¬k0_cond10 (grid0.coords t) = 1#1) := ⟨hc10⟩
    haveI : Fact (¬k0_cond11 (grid0.coords t) = 1#1) := ⟨hc11⟩
    haveI : Fact (¬k0_cond12 (grid0.coords t) = 1#1) := ⟨hc12⟩
    have hcanon4 := cell_canon 1 (off4_3 t ht) (by rw [off4_3 t ht]; exact inb_cell 1)
    have hcanon4p := cell_canon' 1 (off4_3 t ht) (by rw [off4_3 t ht]; exact inb_cell 1)
    have hcanon4p := cell_canon' 1 (off4_3 t ht)
    have hcanon5 := tail_canon 0 (off5_3 t ht) (by rw [off5_3 t ht]; exact inb_tail 0)
    have hcanon5p := tail_canon' 0 (off5_3 t ht) (by rw [off5_3 t ht]; exact inb_tail 0)
    have hcanon5p := tail_canon' 0 (off5_3 t ht)
    have hcanon6 := slot_canon 1 (off6_3 t ht) (by rw [off6_3 t ht]; exact inb_slot 1)
    have hcanon6p := slot_canon' 1 (off6_3 t ht) (by rw [off6_3 t ht]; exact inb_slot 1)
    have hcanon6p := slot_canon' 1 (off6_3 t ht)
    have hcanon11 := cell_canon 1 (off11_3 t ht) (by rw [off11_3 t ht]; exact inb_cell 1)
    have hcanon11p := cell_canon' 1 (off11_3 t ht) (by rw [off11_3 t ht]; exact inb_cell 1)
    have hcanon11p := cell_canon' 1 (off11_3 t ht)
    have hcanon12 := tail_canon 1 (off12_3 t ht) (by rw [off12_3 t ht]; exact inb_tail 1)
    have hcanon12p := tail_canon' 1 (off12_3 t ht) (by rw [off12_3 t ht]; exact inb_tail 1)
    have hcanon12p := tail_canon' 1 (off12_3 t ht)
    have hcanon13 := slot_canon 1 (off13_3 t ht) (by rw [off13_3 t ht]; exact inb_slot 1)
    have hcanon13p := slot_canon' 1 (off13_3 t ht) (by rw [off13_3 t ht]; exact inb_slot 1)
    have hcanon13p := slot_canon' 1 (off13_3 t ht)
    have hcanon17 := cell_canon 1 (off17_3 t ht) (by rw [off17_3 t ht]; exact inb_cell 1)
    have hcanon17p := cell_canon' 1 (off17_3 t ht) (by rw [off17_3 t ht]; exact inb_cell 1)
    have hcanon17p := cell_canon' 1 (off17_3 t ht)
    have hcanon18 := tail_canon 1 (off18_3 t ht) (by rw [off18_3 t ht]; exact inb_tail 1)
    have hcanon18p := tail_canon' 1 (off18_3 t ht) (by rw [off18_3 t ht]; exact inb_tail 1)
    have hcanon18p := tail_canon' 1 (off18_3 t ht)
    have hcanon19 := slot_canon 1 (off19_3 t ht) (by rw [off19_3 t ht]; exact inb_slot 1)
    have hcanon19p := slot_canon' 1 (off19_3 t ht) (by rw [off19_3 t ht]; exact inb_slot 1)
    have hcanon19p := slot_canon' 1 (off19_3 t ht)
    have hcanon20 := cell_canon 0 (off20_3 t ht) (by rw [off20_3 t ht]; exact inb_cell 0)
    have hcanon20p := cell_canon' 0 (off20_3 t ht) (by rw [off20_3 t ht]; exact inb_cell 0)
    have hcanon20p := cell_canon' 0 (off20_3 t ht)
    have hcanon21 := head_canon 1 (off21_3 t ht) (by rw [off21_3 t ht]; exact inb_head 1)
    have hcanon21p := head_canon' 1 (off21_3 t ht) (by rw [off21_3 t ht]; exact inb_head 1)
    have hcanon21p := head_canon' 1 (off21_3 t ht)
    have hcanon22 := low_canon (off22_3 t ht) (by rw [off22_3 t ht]; exact inb_low)
    have hcanon22p := low_canon' (off22_3 t ht) (by rw [off22_3 t ht]; exact inb_low)
    have hcanon22p := low_canon' (off22_3 t ht)
    letI : ClosedOff (k0_off7 (grid0.coords t)) := ⟨![1,0,0], off7_3 t ht⟩
    simp only [cc0_bwd_inproj_eq_skeleton]; unfold cc0_bwd_inproj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp, Hp⟩, ⟨%fo, %eo, %hX0, HF⟩, ⟨%fi, %ei, %hX1, HI, HR⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf9; obtain rfl := harg12.eq_unread hf10
    sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; rotate_left
      · iexact H9
      · ipureintro
        refine (read_row _ _ _ _ x9 (harg11.read_unread _)).trans ?_
        unfold partS dgT run3.sl.r_4 run3.sl.r_3 wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz, View.ld_unit_zero (S := S16x1024) hz]
    isplitl [H10]
    · iexists _; isplitr; · ipureintro; exact harg12.read_unread _
      iexact H10
    isplitl [HF_dst]
    · iexists _; isplitr; · ipureintro; exact hX0
      iexact HF_dst
    isplitl [Hp]
    · iexists _; isplitr; rotate_left
      · iexact Hp
      · ipureintro; refine (View.read_writes_whole _ _ _).trans ?_; unfold run3.sl.dma13 run3.sl.HF_src_w1; refine (read_stored_slot _ (off7_3 t ht) _ _).trans ?_; refine congrArg allOf ?_; unfold run3.sl.r run3.sl.r_1 run3.sl.r_2 tileT dnT wCol0 wCol1 wCol2 wCol3; simp only [View.readAt_eq_ld, Memref.IsWhole.read_unread, View.ld_unit_zero (S := S1056x1024) hz, View.ld_unit_zero (S := S1056x512) hz, View.ld_unit_zero (S := S1056x128) hz, View.ld_unit_zero (S := S1x1024) hz]
    isplitl [HI_dst]
    · iexists _; isplitr; · ipureintro; exact hX1
      iexact HI_dst
    isplitl [HI]; · iexact HI
    isplitl [HI_src HR]
    · iexists _; iapply slot_join c _; isplitl [HI_src]; · iexact HI_src
      iexact HR
    isplitl [HF]; · iexact HF
    isplitl [HF_src]; · iexists _; iexact HF_src
    iexists _; iexact HW

end Cert.Inproj

end
-- ==== Proof.InpData.lean ====
/- What the buffers hold at each grid point of the call `bwd_inproj`: the staging buffers of the nine inputs their blocks, the
   two accumulators their sums so far, the four windows of the result in HBM what the copies started so far will leave there.
   And how the launch's buffers are those windows before the first point, and the result whole after the last. -/
module

public import proofs.«01_k».proof.Proof.InpRun3

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The grid point of number `k`. -/
def pt (k : ℕ) : Fin cfg0.N := ⟨k % 4, by rw [show cfg0.N = 4 from N_0]; omega⟩
theorem pt_of {k : ℕ} (t : Fin cfg0.N) (ht : t.val = k) : pt k = t := by
  have := lt_of_lt_of_eq t.isLt (show cfg0.N = 4 from N_0)
  exact Fin.ext (by show k % 4 = t.val; omega)
/-- Point `k`'s block of the input's gradient, its contribution to the gain's gradient, and the block unshaped. -/
def TT (k : ℕ) : Vec F S1x1056x1024 .f32 := tileT (iblk m c 0 (pt k)) (iblk m c 1 (pt k)) (iblk m c 2 (pt k)) (iblk m c 3 (pt k)) (iblk m c 4 (pt k)) (iblk m c 5 (pt k)) (iblk m c 6 (pt k)) (iblk m c 7 (pt k))
def DG (k : ℕ) : FVec F S1x1024 .f32 := dgT (iblk m c 0 (pt k)) (iblk m c 1 (pt k)) (iblk m c 2 (pt k)) (iblk m c 3 (pt k)) (iblk m c 5 (pt k)) (iblk m c 6 (pt k))
def DH (k : ℕ) : FVec F S1056x1024 .f32 := dhT (iblk m c 0 (pt k)) (iblk m c 1 (pt k)) (iblk m c 2 (pt k)) (iblk m c 3 (pt k)) (iblk m c 4 (pt k)) (iblk m c 5 (pt k)) (iblk m c 6 (pt k)) (iblk m c 7 (pt k))
theorem TT_of {k : ℕ} (t : Fin cfg0.N) (ht : t.val = k) : TT m c k = tileT (iblk m c 0 t) (iblk m c 1 t) (iblk m c 2 t) (iblk m c 3 t) (iblk m c 4 t) (iblk m c 5 t) (iblk m c 6 t) (iblk m c 7 t) := by unfold TT; rw [pt_of t ht]
theorem DG_of {k : ℕ} (t : Fin cfg0.N) (ht : t.val = k) : DG m c k = dgT (iblk m c 0 t) (iblk m c 1 t) (iblk m c 2 t) (iblk m c 3 t) (iblk m c 5 t) (iblk m c 6 t) := by unfold DG; rw [pt_of t ht]
theorem DH_of {k : ℕ} (t : Fin cfg0.N) (ht : t.val = k) : DH m c k = dhT (iblk m c 0 t) (iblk m c 1 t) (iblk m c 2 t) (iblk m c 3 t) (iblk m c 4 t) (iblk m c 5 t) (iblk m c 6 t) (iblk m c 7 t) := by unfold DH; rw [pt_of t ht]

/-- The gain's gradient after point `k`, and the meta tokens'. -/
def P9 : ℕ → Vec F S8x1024 .f32
  | 0 => partS k0_pay1 (DG m c 0)
  | k + 1 => partS (P9 k) (DG m c (k + 1))
def M10 : ℕ → Vec F S16x1024 .f32
  | 0 => k0_pay4 (DH m c 0) k0_pay2
  | 1 => k0_pay4 (DH m c 0) k0_pay2
  | _ => k0_pay4 (DH m c 2) (k0_pay4 (DH m c 0) k0_pay2)

/-- The four windows of the result, the two slots and their semaphores before point `k`. -/
def ringAt : ℕ → sProp 𝕄
  | 0 => iprop((∃ f, headP c 0 f) ∗ (∃ f, tailP c 0 f) ∗ (∃ f, headP c 1 f) ∗ (∃ f, tailP c 1 f) ∗ cellP c 0 ∗ cellP c 1 ∗ (∃ e, slotP c 0 e) ∗ (∃ e, slotP c 1 e))
  | 1 => iprop((∃ f, tailP c 0 f) ∗ (∃ f, headP c 1 f) ∗ (∃ f, tailP c 1 f) ∗ headFly c 0 (lowOf (TT m c 0)) ∗ cellP c 1 ∗ (∃ e, slotP c 1 e))
  | 2 => iprop((∃ f, headP c 1 f) ∗ (∃ f, tailP c 1 f) ∗ headFly c 0 (lowOf (TT m c 0)) ∗ tailFly c 0 (allOf (TT m c 1)))
  | 3 => iprop((∃ f, tailP c 1 f) ∗ headAt c 0 (lowOf (TT m c 0)) ∗ tailFly c 0 (allOf (TT m c 1)) ∗ headFly c 1 (lowOf (TT m c 2)))
  | _ => iprop(headAt c 0 (lowOf (TT m c 0)) ∗ tailAt c 0 (allOf (TT m c 1)) ∗ headAt c 1 (lowOf (TT m c 2)) ∗ tailAt c 1 (allOf (TT m c 3)) ∗ cellP c 0 ∗ cellP c 1 ∗ (∃ e, slotP c 0 e) ∗ (∃ e, slotP c 1 e))
theorem ringAt_0 : ringAt m c 0 = iprop((∃ f, headP c 0 f) ∗ (∃ f, tailP c 0 f) ∗ (∃ f, headP c 1 f) ∗ (∃ f, tailP c 1 f) ∗ cellP c 0 ∗ cellP c 1 ∗ (∃ e, slotP c 0 e) ∗ (∃ e, slotP c 1 e)) := rfl
theorem ringAt_1 : ringAt m c 1 = iprop((∃ f, tailP c 0 f) ∗ (∃ f, headP c 1 f) ∗ (∃ f, tailP c 1 f) ∗ headFly c 0 (lowOf (TT m c 0)) ∗ cellP c 1 ∗ (∃ e, slotP c 1 e)) := rfl
theorem ringAt_2 : ringAt m c 2 = iprop((∃ f, headP c 1 f) ∗ (∃ f, tailP c 1 f) ∗ headFly c 0 (lowOf (TT m c 0)) ∗ tailFly c 0 (allOf (TT m c 1))) := rfl
theorem ringAt_3 : ringAt m c 3 = iprop((∃ f, tailP c 1 f) ∗ headAt c 0 (lowOf (TT m c 0)) ∗ tailFly c 0 (allOf (TT m c 1)) ∗ headFly c 1 (lowOf (TT m c 2))) := rfl
theorem ringAt_4 : ringAt m c 4 = iprop(headAt c 0 (lowOf (TT m c 0)) ∗ tailAt c 0 (allOf (TT m c 1)) ∗ headAt c 1 (lowOf (TT m c 2)) ∗ tailAt c 1 (allOf (TT m c 3)) ∗ cellP c 0 ∗ cellP c 1 ∗ (∃ e, slotP c 0 e) ∗ (∃ e, slotP c 1 e)) := rfl
/-- The same beside the generator's register. -/
def PhiR (k : ℕ) : sProp 𝕄 := iprop((∃ r, prngReg c r) ∗ ringAt m c k)

/-- The proof data: the arrays as the region finds them, what each window's buffer holds after each point, the ring. -/
def dats (_ : Fin 1) (c : Dev nD) : Dat τ (Elt F) Unit ℕ (Pipeline.UD sig nD τ) ℕ (cfgs (0 : Fin 1)) c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => P9 m c t.val
    | 10 => M10 m c t.val
    | ⟨_ + 11, h⟩ => absurd h (Nat.not_lt.2 (Nat.le_add_left _ _))
  Φ t := PhiR m c t.val
  q _ := fullShare
  owed _ := 0

theorem A_eq (w : Fin cfg0.W) : (dats m 0 c).A w = V m c (Pipeline.arrRef spec0 w) := by dsimp only [dats]
theorem PhiR_castSucc (t : Fin cfg0.N) : (dats m 0 c).Φ t.castSucc = PhiR m c t.val := by dsimp only [dats]; simp only [Fin.val_castSucc]
theorem PhiR_succ (t : Fin cfg0.N) : (dats m 0 c).Φ t.succ = PhiR m c (t.val + 1) := by dsimp only [dats]; simp only [Fin.val_succ]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = P9 m c t.val := by dsimp only [dats]
theorem after_10 (t : Fin cfg0.N) : (dats m 0 c).after 10 t = M10 m c t.val := by dsimp only [dats]

/-! ## What the buffers hold when the body runs -/

theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem flush_9 (t : Fin cfg0.N) (h : t.val ≠ 3) : (cfg0.win 9).flush t = false :=
  Bool.eq_false_iff.mpr fun H => by have := (flush0_9 t).mp H; have := lt_of_lt_of_eq t.isLt (show cfg0.N = 4 from N_0); omega
theorem flush_10 (t : Fin cfg0.N) (h : t.val ≠ 3) : (cfg0.win 10).flush t = false :=
  Bool.eq_false_iff.mpr fun H => by have := (flush0_10 t).mp H; have := lt_of_lt_of_eq t.isLt (show cfg0.N = 4 from N_0); omega
/-- The meta tokens' gradient gains nothing at the odd points. -/
theorem live_10 : ∀ t : Fin cfg0.N, t.val % 2 = 0 → cfg0.idle 10 (cfg0.grid.coords t) = false :=
  (by decide +kernel : ∀ t : Fin grid0.N, t.val % 2 = 0 → cfg0.idle 10 (grid0.coords t) = false)
theorem idle_10 : ∀ t : Fin cfg0.N, t.val % 2 = 1 → cfg0.idle 10 (cfg0.grid.coords t) = true :=
  (by decide +kernel : ∀ t : Fin grid0.N, t.val % 2 = 1 → cfg0.idle 10 (grid0.coords t) = true)
theorem before_9 {k : ℕ} (t : Fin cfg0.N) (ht : t.val = k + 1) (d) : (dats m 0 c).before 9 t d = P9 m c k := by
  have hN := lt_of_lt_of_eq t.isLt (show cfg0.N = 4 from N_0)
  refine ((dats m 0 c).before_out_kept 9 rfl t (by omega) (flush_9 _ (by dsimp only; omega)) (fun _ => rfl) (fun _ _ => rfl) d).trans ?_
  rw [after_9]; dsimp only; rw [ht]; rfl
theorem kept_10 (t : Fin cfg0.N) (d) : (dats m 0 c).kept 10 t d = M10 m c t.val := by
  unfold Dat.kept
  rw [Pipeline.fill_of_clip_none 10 _ (fun _ => rfl) d ((dats m 0 c).after 10 _), Window.fill_cut, after_10]
theorem before_10_odd {k : ℕ} (t : Fin cfg0.N) (ht : t.val = k + 1) (hk : k % 2 = 0) (d) : (dats m 0 c).before 10 t d = M10 m c k := by
  have hN := lt_of_lt_of_eq t.isLt (show cfg0.N = 4 from N_0)
  rw [(dats m 0 c).before_of_pos 10 t (by omega) ((cfg0.win 10).fetch_out rfl t), flush_10 _ (by dsimp only; omega), if_neg Bool.false_ne_true]
  unfold Dat.left
  rw [live_10 _ (by dsimp only; omega)]
  dsimp only
  rw [kept_10]; dsimp only; rw [ht]; rfl
theorem before_10_two (t : Fin cfg0.N) (ht : t.val = 2) (d) : (dats m 0 c).before 10 t d = M10 m c 1 := by
  rw [(dats m 0 c).before_of_pos 10 t (by omega) ((cfg0.win 10).fetch_out rfl t), flush_10 _ (by dsimp only; omega), if_neg Bool.false_ne_true]
  unfold Dat.left
  rw [idle_10 _ (by dsimp only; omega)]
  dsimp only
  exact before_10_odd m c _ (k := 0) (by dsimp only; omega) rfl d

/-! ## The launch's buffers and the ring -/

abbrev osem0 : Fin 2 → SemLoc sig := fun j => (![SemLoc.dma 17, SemLoc.dma 18] : Fin 2 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(cellP c 0 ∗ cellP c 1) := by
  rw [Pipeline.ownSems0_eq_of_list c osem0 [0, 1] (by decide) (by decide)]; rfl
def H0 : Finset (Ref sig .tc) := {}
def R0 : Finset (Ref sig .tc) := {main_v8_0}
theorem H0_sub : H0 ⊆ Pipeline.restRefs sig spec0 := by decide
theorem R0_sub : R0 ⊆ Pipeline.restRefs sig spec0 \ H0 := by decide
theorem hbmPts0_eq : (bigSep H0 (fun b => ((c : Thread nD τ).loc b) ↦{fullShare} V m c b) : sProp 𝕄) = iprop(emp) := by
  rw [BI.bigSep_eq_bigSepL_of_eq [] (by decide) (by decide)]; rfl
theorem routed_eq (G : (b : Ref sig .tc) → Buf (Elt F) ((c.tc : Thread nD τ).loc b)) :
    (Pipeline.routed R0 c G : sProp 𝕄) = iprop(((c : Thread nD τ).loc main_v8_0) ↦{fullShare} G main_v8_0) := by
  unfold Pipeline.routed; rw [BI.bigSep_eq_bigSepL_of_eq [main_v8_0] (by decide) (by decide)]; rfl

/-- The result: each example's first 992 rows the real rows of its first block, the others its second block. -/
def gx : S2x2048x1024.Idx → Elt F .f32 := fun j =>
  if h : (j 1).val < 992 then lowOf (TT m c (2 * (j 0).val)) (ix2 ⟨(j 1).val, h⟩ (j 2))
  else allOf (TT m c (2 * (j 0).val + 1)) (ix2 ⟨(j 1).val - 992, by have h : (j 1).val < 2048 := (j 1).isLt; show _ < 1056; omega⟩ (j 2))
def Gx (c : Dev nD) : (b : Ref sig .tc) → Buf (Elt F) ((c.tc : Thread nD τ).loc b) := Function.update (V m c) main_v8_0 (gx m c)
theorem Gx_at : Gx m c main_v8_0 = gx m c := Function.update_self _ _ _

theorem head_val (b : Fin 2) {k : ℕ} (hk : k = 2 * b.val) (f : S2x2048x1024.Idx → Elt F .f32) (hf : (head b).view.read (Elt F) f = lowOf (TT m c k))
    (j : S2x2048x1024.Idx) (hj : j ∈ (head b).view.set) : f j = gx m c j := by
  obtain ⟨h0, h1⟩ := (mem_head b j).1 hj
  have e := (read_head b f (ix2 ⟨(j 1).val, h1⟩ (j 2) : S992x1024.Idx)).symm.trans (congrFun hf _)
  unfold gx
  rw [dif_pos h1, h0, ← hk]
  refine Eq.trans (congrArg f ?_) e
  funext a; refine Fin.ext ?_; fin_cases a
  · exact h0
  · rfl
  · rfl
theorem tail_val (b : Fin 2) {k : ℕ} (hk : k = 2 * b.val + 1) (f : S2x2048x1024.Idx → Elt F .f32) (hf : (tail b).view.read (Elt F) f = allOf (TT m c k))
    (j : S2x2048x1024.Idx) (hj : j ∈ (tail b).view.set) : f j = gx m c j := by
  obtain ⟨h0, h1⟩ := (mem_tail b j).1 hj
  have h2 : (j 1).val < 2048 := (j 1).isLt
  have e := (read_tail b f (ix2 ⟨(j 1).val - 992, by show _ < 1056; omega⟩ (j 2) : S1056x1024.Idx)).symm.trans (congrFun hf _)
  unfold gx
  rw [dif_neg (by omega), h0, ← hk]
  refine Eq.trans (congrArg f ?_) e
  funext a; refine Fin.ext ?_; fin_cases a
  · exact h0
  · show (j 1).val = (j 1).val - 992 + 992; omega
  · rfl
theorem head_gx (b : Fin 2) {k : ℕ} (hk : k = 2 * b.val) : headAt c b (lowOf (TT m c k)) ⊢ (headP c b (gx m c) : sProp 𝕄) := by
  iintro ⟨%f, %hf, H⟩
  iapply (Entails.of_eq (pointsTo_congr (ℓ := (head b).view.loc (c : Thread nD τ)) (q := fullShare) (I := (head b).view.set) (f := f) (g := gx m c) (head_val m c b hk f hf)))
  iexact H
theorem tail_gx (b : Fin 2) {k : ℕ} (hk : k = 2 * b.val + 1) : tailAt c b (allOf (TT m c k)) ⊢ (tailP c b (gx m c) : sProp 𝕄) := by
  iintro ⟨%f, %hf, H⟩
  iapply (Entails.of_eq (pointsTo_congr (ℓ := (tail b).view.loc (c : Thread nD τ)) (q := fullShare) (I := (tail b).view.set) (f := f) (g := gx m c) (tail_val m c b hk f hf)))
  iexact H

/-! The result whole is its four windows, the scratch its two slots. -/

/-- The sets of a window's elements. -/
def hS (b : Fin 2) : Finset S2x2048x1024.Idx := (head b).view.set
def tS (b : Fin 2) : Finset S2x2048x1024.Idx := (tail b).view.set
def sS (g : Fin 2) : Finset S2x1056x1024.Idx := (slot g).view.set
theorem sub2 : (tS 0) ⊆ (Finset.univ : Finset S2x2048x1024.Idx) \ (hS 0) := fun j hj => by
  rw [Finset.mem_sdiff]
  exact ⟨Finset.mem_univ _, fun h => by have a := (mem_tail 0 j).1 hj; have b := (mem_head 0 j).1 h; omega⟩
theorem sub3 : (hS 1) ⊆ ((Finset.univ : Finset S2x2048x1024.Idx) \ (hS 0)) \ (tS 0) := fun j hj => by
  rw [Finset.mem_sdiff, Finset.mem_sdiff]
  have a : (j 0).val = 1 ∧ _ := (mem_head 1 j).1 hj
  exact ⟨⟨Finset.mem_univ _, fun h => by have b : (j 0).val = 0 ∧ _ := (mem_head 0 j).1 h; omega⟩, fun h => by have b : (j 0).val = 0 ∧ _ := (mem_tail 0 j).1 h; omega⟩
theorem last4 : (((Finset.univ : Finset S2x2048x1024.Idx) \ (hS 0)) \ (tS 0)) \ (hS 1) = (tS 1) := by
  ext j
  rw [Finset.mem_sdiff, Finset.mem_sdiff, Finset.mem_sdiff]
  have a0 := mem_head 0 j; have a1 := mem_tail 0 j; have a2 := mem_head 1 j; have a3 := mem_tail 1 j
  have h0 : (j 0).val < 2 := (j 0).isLt
  have z0 : ((0 : Fin 2) : ℕ) = 0 := rfl
  have z1 : ((1 : Fin 2) : ℕ) = 1 := rfl
  rw [z0] at a0 a1; rw [z1] at a2 a3
  constructor
  · rintro ⟨⟨⟨-, b0⟩, b1⟩, b2⟩
    refine a3.2 ?_
    have c0 : ¬ _ := fun h => b0 (a0.2 h); have c1 : ¬ _ := fun h => b1 (a1.2 h); have c2 : ¬ _ := fun h => b2 (a2.2 h)
    omega
  · intro b
    have := a3.1 b
    exact ⟨⟨⟨Finset.mem_univ _, fun h => by have := a0.1 h; omega⟩, fun h => by have := a1.1 h; omega⟩, fun h => by have := a2.1 h; omega⟩
theorem lastSlot : (Finset.univ : Finset S2x1056x1024.Idx) \ (sS 0) = (sS 1) := by
  ext j
  rw [Finset.mem_sdiff]
  have a0 := mem_slot 0 j; have a1 := mem_slot 1 j
  have h0 : (j 0).val < 2 := (j 0).isLt
  have z0 : ((0 : Fin 2) : ℕ) = 0 := rfl
  have z1 : ((1 : Fin 2) : ℕ) = 1 := rfl
  rw [z0] at a0; rw [z1] at a1
  constructor
  · rintro ⟨-, b0⟩
    have c0 : ¬ _ := fun h => b0 (a0.2 h)
    exact a1.2 (by omega)
  · intro b
    have := a1.1 b
    exact ⟨Finset.mem_univ _, fun h => by have := a0.1 h; omega⟩
theorem res_split (f : S2x2048x1024.Idx → Elt F .f32) :
    (((c : Thread nD τ).loc main_v8_0) ↦{fullShare} f : sProp 𝕄) ⊣⊢ iprop(headP c 0 f ∗ tailP c 0 f ∗ headP c 1 f ∗ tailP c 1 f) := by
  refine (pointsTo_split_subset (ℓ := (c : Thread nD τ).loc main_v8_0) (Finset.subset_univ (head 0).view.set)).trans (sep_congr .rfl ?_)
  refine (pointsTo_split_subset (ℓ := (c : Thread nD τ).loc main_v8_0) sub2).trans (sep_congr .rfl ?_)
  refine (pointsTo_split_subset (ℓ := (c : Thread nD τ).loc main_v8_0) sub3).trans (sep_congr .rfl ?_)
  exact .of_eq (congrArg (fun S => (((c : Thread nD τ).loc main_v8_0) ↦[S]{fullShare} f : sProp 𝕄)) last4)
theorem scr_split (f : S2x1056x1024.Idx → Elt F .f32) :
    (((c : Thread nD τ).loc cc0_scratch0) ↦{fullShare} f : sProp 𝕄) ⊣⊢ iprop(slotP c 0 f ∗ slotP c 1 f) := by
  refine (pointsTo_split_subset (ℓ := (c : Thread nD τ).loc cc0_scratch0) (Finset.subset_univ (slot 0).view.set)).trans (sep_congr .rfl ?_)
  exact .of_eq (congrArg (fun S => (((c : Thread nD τ).loc cc0_scratch0) ↦[S]{fullShare} f : sProp 𝕄)) lastSlot)
/-- Two slots at contents of their own are the scratch at some contents. -/
theorem scr_join : iprop((∃ e, slotP c 0 e) ∗ (∃ e, slotP c 1 e)) ⊢ (iprop(∃ f, ((c : Thread nD τ).loc cc0_scratch0) ↦{fullShare} f) : sProp 𝕄) := by
  iintro ⟨⟨%e, H0⟩, ⟨%e', H1⟩⟩
  iexists ((slot 0).view.set.piecewise e e')
  iapply (pointsTo_join_subset (ℓ := (c : Thread nD τ).loc cc0_scratch0) (Finset.subset_univ (slot 0).view.set))
  isplitl [H0]
  · iexact H0
  iapply (Entails.of_eq (congrArg (fun S => (((c : Thread nD τ).loc cc0_scratch0) ↦[S]{fullShare} e' : sProp 𝕄)) lastSlot.symm))
  iexact H1

/-- What the launch hands the region is the ring before the first point; -/
theorem hin : Pipeline.ΦDRG osem0 spec0 H0 R0 (V m) (V m) c ⊢ (dats m 0 c).Φ 0 := by
  rw [Pipeline.ΦDRG_eq, scopedRest0_eq, ownSems00_eq, hbmPts0_eq, routed_eq, show (dats m 0 c).Φ 0 = PhiR m c 0 from rfl]
  unfold PhiR; rw [ringAt_0]
  iintro ⟨⟨%f, HS⟩, Hg, ⟨Hq0, Hq1⟩, -, Ho⟩
  ihave HS' := (scr_split (F := F) c f).1 $$ HS
  icases HS' with ⟨HS0, HS1⟩
  ihave Ho' := (res_split (F := F) c (V m c main_v8_0)).1 $$ Ho
  icases Ho' with ⟨Ho0, Ho1, Ho2, Ho3⟩
  isplitl [Hg]; · iexact Hg
  isplitl [Ho0]; · iexists _; iexact Ho0
  isplitl [Ho1]; · iexists _; iexact Ho1
  isplitl [Ho2]; · iexists _; iexact Ho2
  isplitl [Ho3]; · iexists _; iexact Ho3
  isplitl [Hq0]; · iexact Hq0
  isplitl [Hq1]; · iexact Hq1
  isplitl [HS0]; · iexists _; iexact HS0
  iexists _; iexact HS1
/-- and the ring after the last point is the result whole, at its value, beside the rest. -/
theorem hout : (dats m 0 c).Φ (Fin.last cfg0.N) ⊢ Pipeline.ΦDRG osem0 spec0 H0 R0 (V m) (Gx m) c := by
  rw [Pipeline.ΦDRG_eq, scopedRest0_eq, ownSems00_eq, hbmPts0_eq, routed_eq, Gx_at, show (dats m 0 c).Φ (Fin.last cfg0.N) = PhiR m c grid0.N from rfl,
    show grid0.N = 4 by rw [N_0]]
  unfold PhiR; rw [ringAt_4]
  iintro ⟨Hg, Ho0, Ho1, Ho2, Ho3, Hq0, Hq1, HS0, HS1⟩
  isplitl [HS0 HS1]
  · iapply (scr_join (F := F) c)
    isplitl [HS0]; · iexact HS0
    iexact HS1
  isplitl [Hg]; · iexact Hg
  isplitl [Hq0 Hq1]
  · isplitl [Hq0]; · iexact Hq0
    iexact Hq1
  isplitr; · iempintro
  iapply (res_split (F := F) c (gx m c)).2
  isplitl [Ho0]
  · iapply (head_gx m c 0 (k := 0) rfl); iexact Ho0
  isplitl [Ho1]
  · iapply (tail_gx m c 0 (k := 1) rfl); iexact Ho1
  isplitl [Ho2]
  · iapply (head_gx m c 1 (k := 2) rfl); iexact Ho2
  iapply (tail_gx m c 1 (k := 3) rfl); iexact Ho3

end Cert.Inproj

end
-- ==== Proof.InpFrame.lean ====
/- The body of the call `bwd_inproj` at each of its four grid points meets its proof data, so the program runs to the end: its
   arguments are unchanged, every semaphore counter is zero, and its three results hold what the data say. -/
module

public import proofs.«01_k».proof.Proof.InpData

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- What the pipeline hands the body at point `t`, and what it wants back. -/
def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)
theorem leaves_0 (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (t : Fin cfg0.N) : (dats m 0 c).leavesExact 5 t = owns (c : Thread nD τ) (ms5 t) fullShare (iblk m c 5 t) := by
  unfold Dat.leavesExact; rw [show cfg0.idle 5 (cfg0.grid.coords t) = false from rfl, after_5]
theorem leaves_6 (t : Fin cfg0.N) : (dats m 0 c).leavesExact 6 t = owns (c : Thread nD τ) (ms6 t) fullShare (iblk m c 6 t) := by
  unfold Dat.leavesExact; rw [show cfg0.idle 6 (cfg0.grid.coords t) = false from rfl, after_6]
theorem leaves_7 (t : Fin cfg0.N) : (dats m 0 c).leavesExact 7 t = owns (c : Thread nD τ) (ms7 t) fullShare (iblk m c 7 t) := by
  unfold Dat.leavesExact; rw [show cfg0.idle 7 (cfg0.grid.coords t) = false from rfl, after_7]
theorem leaves_8 (t : Fin cfg0.N) : (dats m 0 c).leavesExact 8 t = owns (c : Thread nD τ) (ms8 t) fullShare (iblk m c 8 t) := by
  unfold Dat.leavesExact; rw [show cfg0.idle 8 (cfg0.grid.coords t) = false from rfl, after_8]
theorem leaves_9 (t : Fin cfg0.N) : (dats m 0 c).leavesExact 9 t = owns (c : Thread nD τ) (ms9 t) fullShare (P9 m c t.val) := by
  unfold Dat.leavesExact; rw [show cfg0.idle 9 (cfg0.grid.coords t) = false from rfl, after_9]
theorem leaves_10_even (t : Fin cfg0.N) (h : t.val % 2 = 0) : (dats m 0 c).leavesExact 10 t = owns (c : Thread nD τ) (ms10 t) fullShare (M10 m c t.val) := by
  unfold Dat.leavesExact; rw [live_10 t h, after_10]
theorem leaves_10_one (t : Fin cfg0.N) (h : t.val = 1) : owns (c : Thread nD τ) (ms10 t) fullShare (M10 m c 0) ⊢ ((dats m 0 c).leavesExact 10 t : sProp 𝕄) := by
  rw [(dats m 0 c).leavesExact_idle 10 t (idle_10 t (by omega)) (flush_10 t (by omega))]
  iintro H
  iexists (fun _ => Classical.choice inferInstance)
  rw [before_10_odd m c t (k := 0) (by omega) rfl]
  iexact H
theorem leaves_10_three (t : Fin cfg0.N) (h : t.val = 3) : (dats m 0 c).leavesExact 10 t = owns (c : Thread nD τ) (ms10 t) fullShare (M10 m c 2) := by
  unfold Dat.leavesExact
  rw [idle_10 t (by omega), show (cfg0.win 10).flush t = true from (flush0_10 t).mpr (by omega), after_10, h]
  rfl

set_option maxHeartbeats 1000000 in
/-- The body at point 0. -/
theorem sound0 (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [PhiR_castSucc m c t, PhiR_succ m c t]
  unfold Dat.owesAt Pipeline.owesWithin
  rw [show (dats m 0 c).owed t.castSucc = 0 from rfl, show (dats m 0 c).owed t.succ = 0 from rfl]
  rw [leaves_0, leaves_1, leaves_2, leaves_3, leaves_4, leaves_5, leaves_6, leaves_7, leaves_8, leaves_9, leaves_10_even m c t (by omega)]
  unfold PhiR
  rw [ht, show 0 + 1 = 1 from rfl, ringAt_0, ringAt_1]
  simp only [TT_of m c t ht]
  rw [show P9 m c 0 = partS k0_pay1 (dgT (iblk m c 0 t) (iblk m c 1 t) (iblk m c 2 t) (iblk m c 3 t) (iblk m c 5 t) (iblk m c 6 t)) from by rw [← DG_of m c t ht]; rfl]
  rw [show M10 m c 0 = k0_pay4 (dhT (iblk m c 0 t) (iblk m c 1 t) (iblk m c 2 t) (iblk m c 3 t) (iblk m c 4 t) (iblk m c 5 t) (iblk m c 6 t) (iblk m c 7 t)) k0_pay2 from by rw [← DH_of m c t ht]; rfl]
  iintro ⟨⟨Hg, Hp, Hx1, Hx2, Hx3, Hq, Hy1, He, Hy2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run0 c t ht _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [Hp]; · iexact Hp
  isplitl [Hq]; · iexact Hq
  isplitl [He]; · iexact He
  isplitl [HW]; · iexact HW
  iintro ⟨H0, H1, H2, H3, H4, H5, H6, H7, H8, H9, H10, Hn, ⟨%W', HW'⟩⟩
  isplitl [Hg Hx1 Hx2 Hx3 Hn Hy1 Hy2]
  · isplitl [Hg]; · iexact Hg
    isplitl [Hx1]; · iexact Hx1
    isplitl [Hx2]; · iexact Hx2
    isplitl [Hx3]; · iexact Hx3
    isplitl [Hn]; · iexact Hn
    isplitl [Hy1]; · iexact Hy1
    iexact Hy2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
set_option maxHeartbeats 1000000 in
/-- The body at point 1. -/
theorem sound1 (t : Fin cfg0.N) (ht : t.val = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  simp only [before_9 m c t (k := 0) ht, before_10_odd m c t (k := 0) ht rfl]
  rw [PhiR_castSucc m c t, PhiR_succ m c t]
  unfold Dat.owesAt Pipeline.owesWithin
  rw [show (dats m 0 c).owed t.castSucc = 0 from rfl, show (dats m 0 c).owed t.succ = 0 from rfl]
  rw [leaves_0, leaves_1, leaves_2, leaves_3, leaves_4, leaves_5, leaves_6, leaves_7, leaves_8, leaves_9]
  unfold PhiR
  rw [ht, show 1 + 1 = 2 from rfl, ringAt_1, ringAt_2]
  simp only [TT_of m c t ht]
  rw [show P9 m c 1 = partS (P9 m c 0) (dgT (iblk m c 0 t) (iblk m c 1 t) (iblk m c 2 t) (iblk m c 3 t) (iblk m c 5 t) (iblk m c 6 t)) from by rw [← DG_of m c t ht]; rfl]
  iintro ⟨⟨Hg, Hp, Hx1, Hx2, Hx3, Hq, He⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 c t ht _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hp]; · iexact Hp
  isplitl [Hq]; · iexact Hq
  isplitl [He]; · iexact He
  isplitl [HW]; · iexact HW
  iintro ⟨H0, H1, H2, H3, H4, H5, H6, H7, H8, H9, H10, Hn, ⟨%W', HW'⟩⟩
  isplitl [Hg Hx1 Hx2 Hx3 Hn]
  · isplitl [Hg]; · iexact Hg
    isplitl [Hx1]; · iexact Hx1
    isplitl [Hx2]; · iexact Hx2
    isplitl [Hx3]; · iexact Hx3
    iexact Hn
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_10_one m c t ht); iexact H10
set_option maxHeartbeats 1000000 in
/-- The body at point 2. -/
theorem sound2 (t : Fin cfg0.N) (ht : t.val = 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  simp only [before_9 m c t (k := 1) ht, before_10_two m c t ht]
  rw [PhiR_castSucc m c t, PhiR_succ m c t]
  unfold Dat.owesAt Pipeline.owesWithin
  rw [show (dats m 0 c).owed t.castSucc = 0 from rfl, show (dats m 0 c).owed t.succ = 0 from rfl]
  rw [leaves_0, leaves_1, leaves_2, leaves_3, leaves_4, leaves_5, leaves_6, leaves_7, leaves_8, leaves_9, leaves_10_even m c t (by omega)]
  unfold PhiR
  rw [ht, show 2 + 1 = 3 from rfl, ringAt_2, ringAt_3]
  simp only [TT_of m c t ht]
  rw [show P9 m c 2 = partS (P9 m c 1) (dgT (iblk m c 0 t) (iblk m c 1 t) (iblk m c 2 t) (iblk m c 3 t) (iblk m c 5 t) (iblk m c 6 t)) from by rw [← DG_of m c t ht]; rfl]
  rw [show M10 m c 2 = k0_pay4 (dhT (iblk m c 0 t) (iblk m c 1 t) (iblk m c 2 t) (iblk m c 3 t) (iblk m c 4 t) (iblk m c 5 t) (iblk m c 6 t) (iblk m c 7 t)) (M10 m c 1) from by rw [← DH_of m c t ht]; rfl]
  iintro ⟨⟨Hg, Hp, Hx1, Hf, Hx2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run2 c t ht _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hp]; · iexact Hp
  isplitl [Hf]; · iexact Hf
  isplitl [HW]; · iexact HW
  iintro ⟨H0, H1, H2, H3, H4, H5, H6, H7, H8, H9, H10, Hn0, Hn1, ⟨%W', HW'⟩⟩
  isplitl [Hg Hx1 Hn0 Hx2 Hn1]
  · isplitl [Hg]; · iexact Hg
    isplitl [Hx1]; · iexact Hx1
    isplitl [Hn0]; · iexact Hn0
    isplitl [Hx2]; · iexact Hx2
    iexact Hn1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
set_option maxHeartbeats 1000000 in
/-- The body at point 3. -/
theorem sound3 (t : Fin cfg0.N) (ht : t.val = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  simp only [before_9 m c t (k := 2) ht, before_10_odd m c t (k := 2) ht rfl]
  rw [PhiR_castSucc m c t, PhiR_succ m c t]
  unfold Dat.owesAt Pipeline.owesWithin
  rw [show (dats m 0 c).owed t.castSucc = 0 from rfl, show (dats m 0 c).owed t.succ = 0 from rfl]
  rw [leaves_0, leaves_1, leaves_2, leaves_3, leaves_4, leaves_5, leaves_6, leaves_7, leaves_8, leaves_9, leaves_10_three m c t ht]
  unfold PhiR
  rw [ht, show 3 + 1 = 4 from rfl, ringAt_3, ringAt_4]
  simp only [TT_of m c t ht]
  rw [show P9 m c 3 = partS (P9 m c 2) (dgT (iblk m c 0 t) (iblk m c 1 t) (iblk m c 2 t) (iblk m c 3 t) (iblk m c 5 t) (iblk m c 6 t)) from by rw [← DG_of m c t ht]; rfl]
  iintro ⟨⟨Hg, Hp, Hx1, Hf, Hg2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run3 c t ht _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hp]; · iexact Hp
  isplitl [Hf]; · iexact Hf
  isplitl [Hg2]; · iexact Hg2
  isplitl [HW]; · iexact HW
  iintro ⟨H0, H1, H2, H3, H4, H5, H6, H7, H8, H9, H10, Hn0, Hn1, Hn2, Hn3, Hn4, Hn5, Hn6, ⟨%W', HW'⟩⟩
  isplitl [Hg Hx1 Hn0 Hn2 Hn1 Hn3 Hn5 Hn4 Hn6]
  · isplitl [Hg]; · iexact Hg
    isplitl [Hx1]; · iexact Hx1
    isplitl [Hn0]; · iexact Hn0
    isplitl [Hn2]; · iexact Hn2
    isplitl [Hn1]; · iexact Hn1
    isplitl [Hn3]; · iexact Hn3
    isplitl [Hn5]; · iexact Hn5
    isplitl [Hn4]; · iexact Hn4
    iexact Hn6
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (t : Fin cfg0.N) : bodyPre m c t ⊢ wp frame (wpE (defs₀ (F := F)) Variants.none c none) Set.univ (bodyAt0 t) (fun _ => bodyPost m c t) := by
  have hN := lt_of_lt_of_eq t.isLt (show cfg0.N = 4 from N_0)
  rcases (show t.val = 0 ∨ t.val = 1 ∨ t.val = 2 ∨ t.val = 3 by omega) with h | h | h | h
  · exact sound0 m c t h
  · exact sound1 m c t h
  · exact sound2 m c t h
  · exact sound3 m c t h
theorem defs₀_row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end, from any memory with zero counters: the windows' arrays hold what the data say, the result
    written by the body's own copies holds `gx`, every other buffer what the host lines before the call left. -/
theorem run_main : θ_run defs (onTc (τ := τ) (main (F := F))) (s₀ m ρ)
    (fun r => Pipeline.FramePostRG cfgs (dats m) 0 R0 (V m) (Gx m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (Gx m) (hin := hin m) (hout := hout m)

/-- The three results hold what the data say, the arguments end unchanged and every semaphore counter is zero. -/
theorem run_results : θ_run defs (onTc (τ := τ) (main (F := F))) ⟨m, fun _ => 0, ρ⟩ (fun r =>
      (∀ c : Dev nD, r.2.mem ((c.tc : Thread nD τ).loc main_v8_0) = gx m c
        ∧ r.2.mem ((c.tc : Thread nD τ).loc main_v8_1) = (dats m 0 c).arrAt 9 cfg0.N
        ∧ r.2.mem ((c.tc : Thread nD τ).loc main_v8_2) = (dats m 0 c).arrAt 10 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) ∧ r.2.sem = fun _ => 0) :=
  (θ_run defs _ _).mono (fun r h => ⟨fun c => ⟨(h.1.2 c main_v8_0 (by decide)).trans (Gx_at m c), (h.1.1 c).1 9, (h.1.1 c).1 10,
    ((h.1.1 c).1 0).trans (((dats m 0 c).arrAt_in 0 rfl _).trans ((A_eq m c 0).trans (V_main_arg0 m c))),
    ((h.1.1 c).1 1).trans (((dats m 0 c).arrAt_in 1 rfl _).trans ((A_eq m c 1).trans (V_main_arg1 m c))),
    ((h.1.1 c).1 2).trans (((dats m 0 c).arrAt_in 2 rfl _).trans ((A_eq m c 2).trans (V_main_arg2 m c))),
    ((h.1.1 c).1 3).trans (((dats m 0 c).arrAt_in 3 rfl _).trans ((A_eq m c 3).trans (V_main_arg3 m c))),
    ((h.1.1 c).1 4).trans (((dats m 0 c).arrAt_in 4 rfl _).trans ((A_eq m c 4).trans (V_main_arg4 m c))),
    ((h.1.1 c).2 main_arg5 (Finset.mem_sdiff.mpr ⟨Pipeline.mem_restRefs_of main_arg5 (by decide) (by decide), by decide⟩)).trans (V_main_arg5 m c),
    ((h.1.1 c).2 main_arg6 (Finset.mem_sdiff.mpr ⟨Pipeline.mem_restRefs_of main_arg6 (by decide) (by decide), by decide⟩)).trans (V_main_arg6 m c),
    ((h.1.1 c).2 main_arg7 (Finset.mem_sdiff.mpr ⟨Pipeline.mem_restRefs_of main_arg7 (by decide) (by decide), by decide⟩)).trans (V_main_arg7 m c),
    ((h.1.1 c).1 7).trans (((dats m 0 c).arrAt_in 7 rfl _).trans ((A_eq m c 7).trans (V_main_arg8 m c))),
    ((h.1.1 c).1 8).trans (((dats m 0 c).arrAt_in 8 rfl _).trans ((A_eq m c 8).trans (V_main_arg9 m c)))⟩, h.2⟩) (run_main m ρ)

/-- The arguments end unchanged and every semaphore counter is zero. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) ∧ r.2.sem = fun _ => 0) :=
  (θ_run defs _ _).mono (fun r h => ⟨fun c => (h.1 c).2.2.2, h.2⟩) (run_results m ρ)

end Cert.Inproj

end
-- ==== Proof.InpBlocks.lean ====
/-
  WHAT THE STEPS OF THE NORM'S BACKWARD PASS READ, AND ITS RESULTS: the host's prepared arrays, each window's block of
  them at a grid step, and each output, entry by entry, as the real numbers of the rows.
-/
module

public import proofs.«01_k».proof.Proof.InpArgs
public import proofs.«01_k».proof.Proof.InpRows
public import proofs.«01_k».proof.Proof.InpFrame
public import Idealize.ShloMosaic.Lib.KernelVsHost
public import Idealize.ShloMosaic.Lib.Claim
public import Idealize.ShloMosaic.Lib.Pipeline.ValueKit.Geometry

@[expose] public section

set_option maxRecDepth 16384

noncomputable section

namespace Cert.Inproj

open Cert.Kernel2Ideal Cert.Kernel2Ideal.Gen Idealize.ShloMosaic Idealize.ShloMosaic.TcCoe Idealize.SL.Sem
open Cert.Lift Cert.Mid

variable (m : (ℓ : Loc nD τ sig) → Buf (Elt Ideal) ℓ) (c : Dev nD)

/-- An argument array, as launched. -/
abbrev arg (b : Ref sig .tc) : Buf (Elt Ideal) ((c : Thread nD τ).loc b) := m ((c : Thread nD τ).loc b)

/-- The rows that the host prepares: the meta tokens set before the examples, after 48 rows of zeros. -/
theorem V4 : V m c main_v4 = (shapeCast S4224x1024 (Host.dynamicUpdateSlice
      (pad S2x2112x1024 ![0, 64, 0] ![0, 0, 0] ![0, 0, 0] (arg m c main_arg5) (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 (arg m c main_arg6)))
      ![0, 48, 0] updateFits_S2x2112x1024_S2x16x1024) shapeCasts_S2x2112x1024_S4224x1024 :
      S4224x1024.Idx → EReal) := by
  unfold_abbrev_sides
  simp only [hostOps0, hostOps0_1, hostOps0_2, hostOps0_3, List.flatten_cons, List.flatten_nil, List.append_nil, List.cons_append, List.nil_append]
  after_results
  funext i
  refine congrFun (congrArg (fun y => shapeCast S4224x1024 y shapeCasts_S2x2112x1024_S4224x1024)
    (congrArg (fun st => Host.dynamicUpdateSlice (pad S2x2112x1024 ![0, 64, 0] ![0, 0, 0] ![0, 0, 0] (arg m c main_arg5) (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 (arg m c main_arg6))) st updateFits_S2x2112x1024_S2x16x1024) (funext fun k => ?_))) i
  match k with
  | ⟨0, _⟩ =>
    rfl
  | ⟨1, _⟩ =>
    rfl
  | ⟨2, _⟩ =>
    rfl

/-- A prepared row, read. -/
theorem rows_apply (R : Fin 4224) (l : Fin 1024) (x : Vec Ideal S2x2048x1024 .f32) (mt : Vec Ideal S16x1024 .f32) : (shapeCast S4224x1024 (Host.dynamicUpdateSlice
      (pad S2x2112x1024 ![0, 64, 0] ![0, 0, 0] ![0, 0, 0] x (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 mt))
      ![0, 48, 0] updateFits_S2x2112x1024_S2x16x1024) shapeCasts_S2x2112x1024_S4224x1024 (ix2 R l) :
      EReal) = if h : 64 ≤ R.val % 2112 then x (ix3 (⟨R.val / 2112, by omega⟩ : Fin 2) (⟨R.val % 2112 - 64, by omega⟩ : Fin 2048) l)
        else if h' : 48 ≤ R.val % 2112 then mt (ix2 (⟨R.val % 2112 - 48, by omega⟩ : Fin 16) l) else 0 := by
  pointwise
  have h0 : ∀ h, Host.clampedStart S2x2112x1024 S2x16x1024 h ![0, 48, 0] 0 = 0 := fun _ => rfl
  have h1 : ∀ h, Host.clampedStart S2x2112x1024 S2x16x1024 h ![0, 48, 0] 1 = 48 := fun _ => rfl
  have h2 : ∀ h, Host.clampedStart S2x2112x1024 S2x16x1024 h ![0, 48, 0] 2 = 0 := fun _ => rfl
  simp only [h0, h1, h2]
  have hR := R.isLt
  have hm := Nat.mod_lt R.val (show 0 < 2112 by omega)
  split_ifs
  all_goals first | omega | rfl | exact sitofp_zero (φ := .f32)

/-- The padded projection, read. -/
theorem proj_apply (x : Vec Ideal S1x1024x2576 .f32) (k : Fin 1024) (l : Fin 2688) :
    (pad S1024x2688 ![0, 0] ![0, 112] ![0, 0] (truncf (F := Ideal) .bf16 (shapeCast S1024x2576 x
      shapeCasts_S1x1024x2576_S1024x2576) bitsLt_bf16_f32) (sitofp (F := Ideal) .bf16 (constantI S_ 32 0#32))
      pads_S1024x2576_S1024x2688_000_01120 h_S_ (ix2 k l) : EReal) = if h : l.val < 2576 then x (ix3 0 k ⟨l.val, h⟩) else 0 := by
  pointwise
  have hl := l.isLt
  have hk := k.isLt
  split_ifs
  all_goals first | omega | rfl | exact sitofp_zero (φ := .bf16)

theorem V7 (k : Fin 1024) (l : Fin 2688) : (V m c main_v7 (ix2 k l) : EReal) =
    if h : l.val < 2576 then arg m c main_arg7 (ix3 0 k ⟨l.val, h⟩) else (0 : EReal) := by
  have h : V m c main_v7 = (pad S1024x2688 ![0, 0] ![0, 112] ![0, 0] (truncf (F := Ideal) .bf16 (shapeCast S1024x2576 (arg m c main_arg7)
      shapeCasts_S1x1024x2576_S1024x2576) bitsLt_bf16_f32) (sitofp (F := Ideal) .bf16 (constantI S_ 32 0#32))
      pads_S1024x2576_S1024x2688_000_01120 h_S_ : S1024x2688.Idx → EReal) := by
    unfold_abbrev_sides
    simp only [hostOps0, hostOps0_1, hostOps0_2, hostOps0_3, List.flatten_cons, List.flatten_nil, List.append_nil, List.cons_append, List.nil_append]
    after_results
    rfl
  exact (congrFun h _).trans (proj_apply _ k l)

variable (t : Fin cfg0.N)

/-- A block's row among the device's. -/
abbrev rowAt (r : Fin 1056) : Fin 4224 := ⟨1056 * t.val + r.val, by have := t.isLt; have : cfg0.N = 4 := N_0; omega⟩

theorem index_rows : ∀ t : Fin cfg0.N, win0_0.index t = ![t.val, 0] ∧ win0_1.index t = ![t.val, 0] ∧
    win0_2.index t = ![t.val, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![t.val, 0] ∧
    win0_2.index t = ![t.val, 0] ∧ win0_3.index t = ![t.val, 0] ∧ win0_4.index t = ![t.val, 0] ∧ win0_5.index t = ![t.val, 0])
theorem index_whole : ∀ t : Fin cfg0.N, win0_6.index t = ![0, 0] ∧ win0_7.index t = ![0, 0] :=
  (by decide +kernel : ∀ t : Fin grid0.N, win0_6.index t = ![0, 0] ∧ win0_7.index t = ![0, 0])

theorem block0 (r : Fin 1056) (l : Fin 1024) : (iblk m c 0 t (ix2 r l) : EReal) = V m c main_arg0 (ix2 (rowAt t r) l) := by
  have h := (index_rows t).1
  blk_ext [iblk, h]

theorem block1 (r : Fin 1056) (l : Fin 512) : (iblk m c 1 t (ix2 r l) : EReal) = V m c main_arg1 (ix2 (rowAt t r) l) := by
  have h := (index_rows t).2.1
  blk_ext [iblk, h]

theorem block2 (r : Fin 1056) (l : Fin 1024) : (iblk m c 2 t (ix2 r l) : EReal) = V m c main_arg2 (ix2 (rowAt t r) l) := by
  have h := (index_rows t).2.2.1
  blk_ext [iblk, h]

theorem block3 (r : Fin 1056) (l : Fin 128) : (iblk m c 3 t (ix2 r l) : EReal) = V m c main_arg3 (ix2 (rowAt t r) l) := by
  have h := (index_rows t).2.2.2.1
  blk_ext [iblk, h]

theorem block4 (r : Fin 1056) (l : Fin 1024) : (iblk m c 4 t (ix2 r l) : EReal) = V m c main_arg4 (ix2 (rowAt t r) l) := by
  have h := (index_rows t).2.2.2.2.1
  blk_ext [iblk, h]

theorem block5 (r : Fin 1056) (l : Fin 1024) : (iblk m c 5 t (ix2 r l) : EReal) = V m c main_v4 (ix2 (rowAt t r) l) := by
  have h := (index_rows t).2.2.2.2.2
  blk_ext [iblk, h]

theorem block6 (r : Fin 1024) (l : Fin 2688) : (iblk m c 6 t (ix2 r l) : EReal) = V m c main_v7 (ix2 r l) := by
  have h := (index_whole t).1
  blk_ext [iblk, h]

theorem block7 (r : Fin 1) (l : Fin 1024) : (iblk m c 7 t (ix2 r l) : EReal) = V m c main_arg8 (ix2 r l) := by
  have h := (index_whole t).2
  blk_ext [iblk, h]

/-- The launch's argument arrays hold the numbers `A`. -/
abbrev Given (A : InArgs) : Prop := InLifted A (arg m c main_arg0) (arg m c main_arg1) (arg m c main_arg2) (arg m c main_arg3)
    (arg m c main_arg4) (arg m c main_arg5) (arg m c main_arg6) (arg m c main_arg7) (arg m c main_arg8)

variable {m c} {A : InArgs} (H : Given m c A)
include H

/-- A step's blocks are its rows and the weights. -/
theorem b0 (r : Fin 1056) (k : Fin 1024) : (iblk m c 0 t (ix2 r k) : EReal) = (((A.row (rowAt t r)).d0 k : ℝ) : EReal) := by
  rw [block0, V_main_arg0]; exact H.d0 _ _
theorem b1 (r : Fin 1056) (k : Fin 512) : (iblk m c 1 t (ix2 r k) : EReal) = (((A.row (rowAt t r)).d1 k : ℝ) : EReal) := by
  rw [block1, V_main_arg1]; exact H.d1 _ _
theorem b2 (r : Fin 1056) (k : Fin 1024) : (iblk m c 2 t (ix2 r k) : EReal) = (((A.row (rowAt t r)).d2 k : ℝ) : EReal) := by
  rw [block2, V_main_arg2]; exact H.d2 _ _
theorem b3 (r : Fin 1056) (k : Fin 128) : (iblk m c 3 t (ix2 r k) : EReal) = (((A.row (rowAt t r)).d3 k : ℝ) : EReal) := by
  rw [block3, V_main_arg3]; exact H.d3 _ _
theorem b4 (r : Fin 1056) (k : Fin 1024) : (iblk m c 4 t (ix2 r k) : EReal) = (((A.row (rowAt t r)).dh k : ℝ) : EReal) := by
  rw [block4, V_main_arg4]; exact H.dh _ _
theorem b5 (r : Fin 1056) (l : Fin 1024) : (iblk m c 5 t (ix2 r l) : EReal) = (((A.row (rowAt t r)).h l : ℝ) : EReal) := by
  rw [block5, V4, rows_apply]
  show _ = ((A.h _ l : ℝ) : EReal)
  unfold InArgs.h
  split_ifs
  · exact H.x _ _ _
  · exact H.mt _ _
  · rfl
theorem b6 (l : Fin 1024) (k : Fin 2688) : (iblk m c 6 t (ix2 l k) : EReal) = ((A.W.wp l k : ℝ) : EReal) := by
  rw [block6, V7]
  unfold InWeights.wp
  split_ifs
  · exact H.wi _ _
  · rfl
theorem b7 (l : Fin 1024) : (iblk m c 7 t (ix2 0 l) : EReal) = ((A.W.g l : ℝ) : EReal) := by
  rw [block7, V_main_arg8]; exact H.g _

/-- Step `k`'s gradient of the stream, and its part of the gain's. -/
theorem DH_real (k : ℕ) (hk : k < 4) (r : Fin 1056) (l : Fin 1024) :
    DH m c k (ix2 r l) = (((A.row ⟨1056 * k + r.val, by omega⟩).dx A.W l : ℝ) : EReal) := by
  have ht : (pt k).val = k := Nat.mod_eq_of_lt hk
  refine (dx_real A.W (fun r => A.row (rowAt (pt k) r)) (b0 _ H) (b1 _ H) (b2 _ H) (b3 _ H) (b4 _ H) (b5 _ H) (b6 _ H) (b7 _ H) r l).trans ?_
  refine congrArg (fun R => (((A.row R).dx A.W l : ℝ) : EReal)) (Fin.ext ?_)
  show 1056 * (pt k).val + r.val = 1056 * k + r.val
  rw [ht]
theorem TT_real (k : ℕ) (hk : k < 4) (r : Fin 1056) (l : Fin 1024) :
    TT m c k (ix3 0 r l) = (((A.row ⟨1056 * k + r.val, by omega⟩).dx A.W l : ℝ) : EReal) :=
  (tile_apply r l).trans (DH_real H k hk r l)
theorem DG_real (k : ℕ) (hk : k < 4) (l : Fin 1024) :
    DG m c k (ix2 0 l) = ((∑ r : Fin 1056, (A.row ⟨1056 * k + r.val, by omega⟩).dg A.W l : ℝ) : EReal) := by
  have ht : (pt k).val = k := Nat.mod_eq_of_lt hk
  refine (dg_real A.W (fun r => A.row (rowAt (pt k) r)) (b0 _ H) (b1 _ H) (b2 _ H) (b3 _ H) (b5 _ H) (b6 _ H) l).trans ?_
  refine congrArg _ (Finset.sum_congr rfl fun r _ => congrArg (fun R => (A.row R).dg A.W l) (Fin.ext ?_))
  show 1056 * (pt k).val + r.val = 1056 * k + r.val
  rw [ht]

/-- The examples' gradient. -/
theorem gx_real : gx m c = fun i : S2x2048x1024.Idx => ((A.gx (i 0) (i 1) (i 2) : ℝ) : EReal) := by
  funext j
  obtain ⟨e, p, l, rfl⟩ : ∃ (e : Fin 2) (p : Fin 2048) (l : Fin 1024), j = (ix3 e p l : S2x2048x1024.Idx) := ⟨j 0, j 1, j 2, (ix3_eta _).symm⟩
  show gx m c (ix3 e p l) = ((A.gx e p l : ℝ) : EReal)
  unfold gx InArgs.gx
  by_cases hp : p.val < 992
  · rw [dif_pos (show ((ix3 e p l : S2x2048x1024.Idx) 1).val < 992 from hp)]
    refine (TT_real H (2 * e.val) (by omega) ⟨p.val + 64, by omega⟩ l).trans ?_
    refine congrArg (fun R => (((A.row R).dx A.W l : ℝ) : EReal)) (Fin.ext ?_)
    show 1056 * (2 * e.val) + (p.val + 64) = 2112 * e.val + 64 + p.val
    omega
  · rw [dif_neg (show ¬ ((ix3 e p l : S2x2048x1024.Idx) 1).val < 992 from hp)]
    refine (TT_real H (2 * e.val + 1) (by omega) ⟨p.val - 992, by omega⟩ l).trans ?_
    refine congrArg (fun R => (((A.row R).dx A.W l : ℝ) : EReal)) (Fin.ext ?_)
    show 1056 * (2 * e.val + 1) + (p.val - 992) = 2112 * e.val + 64 + p.val
    omega

omit H in
/-- The rows of the four blocks are all rows. -/
theorem sum_rows (f : Fin 4224 → ℝ) : ∑ s : Fin 4, ∑ r : Fin 1056, f ⟨1056 * s.val + r.val, by omega⟩ = ∑ R, f R := by
  rw [← Fintype.sum_prod_type', ← (finProdFinEquiv (m := 4) (n := 1056)).sum_comp]
  refine Finset.sum_congr rfl fun p _ => congrArg f (Fin.ext ?_)
  simp [finProdFinEquiv, Nat.add_comm]

/-- The gain's gradient after the last step. -/
theorem P9_real (q : Fin 8) (l : Fin 1024) : P9 m c 3 (ix2 q l) = ((A.part q l : ℝ) : EReal) := by
  have g0 := DG_real H 0 (by omega) l
  have g1 := DG_real H 1 (by omega) l
  have g2 := DG_real H 2 (by omega) l
  have g3 := DG_real H 3 (by omega) l
  simp only [P9]
  rw [part_apply]
  unfold InArgs.part
  by_cases hq : q.val = 0
  · rw [if_pos hq, if_pos hq]
    simp only [part_apply, Fin.val_zero, if_true, zero8, g0, g1, g2, g3, lift]
    refine congrArg _ ?_
    rw [← sum_rows, Fin.sum_univ_four]
    simp only [zero_add]
    rfl
  · rw [if_neg hq, if_neg hq]
    simp only [part_apply, if_neg hq, zero8]

/-- The meta tokens' gradient after the last step. -/
theorem M10_real (k : Fin 16) (l : Fin 1024) : M10 m c 3 (ix2 k l) = ((A.dmeta k l : ℝ) : EReal) := by
  have g0 := DH_real H 0 (by omega) ⟨48 + k.val, by omega⟩ l
  have g2 := DH_real H 2 (by omega) ⟨48 + k.val, by omega⟩ l
  simp only [M10]
  rw [meta_apply, meta_apply, zero16, g0, g2]
  simp only [lift, zero_add]
  unfold InArgs.dmeta
  refine congrArg _ (congrArg₂ _ (congrArg (fun R => (A.row R).dx A.W l) (Fin.ext ?_)) (congrArg (fun R => (A.row R).dx A.W l) (Fin.ext ?_)))
  · show 1056 * 0 + (48 + k.val) = 48 + k.val
    omega
  · show 1056 * 2 + (48 + k.val) = 2160 + k.val
    omega

theorem final9 : (dats m 0 c).arrAt 9 cfg0.N = fun i : S8x1024.Idx => ((A.part (i 0) (i 1) : ℝ) : EReal) := by
  refine (dats m 0 c).arrAt_eq_of_after_last 9 t0_3 (by decide +kernel) _ fun j => ?_
  blk_simp
  rw [after_9]
  obtain ⟨q, l, rfl⟩ : ∃ (q : Fin 8) (l : Fin 1024), j = (ix2 q l : S8x1024.Idx) := ⟨j 0, j 1, (ix2_eta _).symm⟩
  exact P9_real H q l

theorem final10 : (dats m 0 c).arrAt 10 cfg0.N = fun i : S16x1024.Idx => ((A.dmeta (i 0) (i 1) : ℝ) : EReal) := by
  refine (dats m 0 c).arrAt_eq_of_after_last 10 t0_3 (by decide +kernel) _ fun j => ?_
  blk_simp
  rw [after_10]
  obtain ⟨q, l, rfl⟩ : ∃ (q : Fin 16) (l : Fin 1024), j = (ix2 q l : S16x1024.Idx) := ⟨j 0, j 1, (ix2_eta _).symm⟩
  exact M10_real H q l

end Cert.Inproj

end
-- ==== Proof.InpIndex.lean ====
/-
  THE REFERENCE OF THE NORM'S BACKWARD PASS, READ AT AN INDEX: where each layout operation reads its operand (`idx_…`,
  `lidx_…`, `ridx_…` are the operand's indices of a broadcast, a reshape, a slice, a sum or a product), and the joined arrays.
-/
module

public import proofs.«01_k».proof.Proof.InpSpec
public import proofs.«01_k».proof.Proof.Gen.Reference2Ideal.Read
public import Idealize.ShloMosaic.Lib.Pointwise

@[expose] public section

set_option maxRecDepth 16384

namespace Cert.Inproj.Ref

open Cert.Reference2Ideal Cert.Reference2Ideal.Gen Cert.Reference2Ideal.Read Idealize.ShloMosaic

theorem ix_idx_v3 (R : Fin 4224) (q : Fin 16) : idx_main_v3 (ix2 R q) = ix2 R (⟨q.val, by omega⟩ : Fin 128) := funext fun a => by fin_cases a <;> rfl
theorem ix_idx_v6 (z : Fin 1) (q : Fin 16) (l : Fin 1024) : idx_main_v6 (ix3 z q l) = ix2 q l := funext fun a => by fin_cases a <;> rfl
theorem ix_idx_v7 (e : Fin 2) (q : Fin 16) (l : Fin 1024) : idx_main_v7 (ix3 e q l) = ix3 (0 : Fin 1) q l := funext fun a => by fin_cases a <;> rfl
theorem ix_idx_v11 (R : Fin 4224) (l : Fin 1024) : idx_main_v11 (ix2 R l) = ix3 (⟨R.val / 2112, by omega⟩ : Fin 2) (⟨R.val % 2112, by omega⟩ : Fin 2112) l := funext fun a => by
  fin_cases a
  · exact Fin.ext (show (R.val * 1024 + l.val) / 2162688 = R.val / 2112 by omega)
  · exact Fin.ext (show (R.val * 1024 + l.val) / 1024 % 2112 = R.val % 2112 by omega)
  · exact Fin.ext (show (R.val * 1024 + l.val) % 1024 = l.val by omega)
theorem ix_idx_v12 (l : Fin 1024) : idx_main_v12 (ix1 l) = ix2 (0 : Fin 1) l := funext fun a => by
  fin_cases a
  · exact Fin.ext (show 0 = 0 by omega)
  · exact Fin.ext (show (l.val) % 1024 = l.val by omega)
theorem ix_idx_v14 (R : Fin 4224) (c : Fin 1024) : idx_main_v14 (ix1 R) c = ix2 R c := funext fun a => by fin_cases a <;> rfl
theorem ix_idx_v15 (R : Fin 4224) (z : Fin 1) : idx_main_v15 (ix2 R z) = ix1 R := funext fun a => by fin_cases a <;> rfl
theorem ix_idx_v24 (R : Fin 4224) (l : Fin 1024) : idx_main_v24 (ix2 R l) = ix2 R (0 : Fin 1) := funext fun a => by fin_cases a <;> rfl
theorem ix_idx_v26 (z : Fin 1) (l : Fin 1024) : idx_main_v26 (ix2 z l) = ix1 l := funext fun a => by fin_cases a <;> rfl
theorem ix_idx_v29 (l : Fin 1024) (k : Fin 2576) : idx_main_v29 (ix2 l k) = ix3 (0 : Fin 1) l k := funext fun a => by
  fin_cases a
  · exact Fin.ext (show 0 = 0 by omega)
  · exact Fin.ext (show (l.val * 2576 + k.val) / 2576 % 1024 = l.val by omega)
  · exact Fin.ext (show (l.val * 2576 + k.val) % 2576 = k.val by omega)
theorem ix_lidx_v31 (R : Fin 4224) (l : Fin 1024) (c : Fin 2576) : lidx_main_v31 (ix2 R l) c = ix2 R c := funext fun a => by fin_cases a <;> rfl
theorem ix_ridx_v31 (R : Fin 4224) (l : Fin 1024) (c : Fin 2576) : ridx_main_v31 (ix2 R l) c = ix2 l c := funext fun a => by fin_cases a <;> rfl
theorem ix_idx_v33 (l : Fin 1024) (c : Fin 4224) : idx_main_v33 (ix1 l) c = ix2 c l := funext fun a => by fin_cases a <;> rfl
theorem ix_idx_v34 (z : Fin 1) (l : Fin 1024) : idx_main_v34 (ix2 z l) = ix1 l := funext fun a => by
  fin_cases a
  · exact Fin.ext (show z.val * 1024 + l.val = l.val by omega)
theorem ix_idx_v35 (R : Fin 4224) (l : Fin 1024) : idx_main_v35 (ix2 R l) = ix2 (0 : Fin 1) l := funext fun a => by fin_cases a <;> rfl
theorem ix_idx_v37 (l : Fin 1024) (c : Fin 1) : idx_main_v37 (ix1 l) c = ix2 c l := funext fun a => by fin_cases a <;> rfl
theorem ix_idx_v39 (R : Fin 4224) (c : Fin 1024) : idx_main_v39 (ix1 R) c = ix2 R c := funext fun a => by fin_cases a <;> rfl
theorem ix_idx_v40 (R : Fin 4224) (z : Fin 1) : idx_main_v40 (ix2 R z) = ix1 R := funext fun a => by
  fin_cases a
  · exact Fin.ext (show R.val * 1 + z.val = R.val by omega)
theorem ix_idx_v41 (R : Fin 4224) (l : Fin 1024) : idx_main_v41 (ix2 R l) = ix2 R (0 : Fin 1) := funext fun a => by fin_cases a <;> rfl
theorem ix_idx_v47 (R : Fin 4224) (c : Fin 1) : idx_main_v47 (ix1 R) c = ix2 R c := funext fun a => by fin_cases a <;> rfl
theorem ix_idx_v48 (R : Fin 4224) (l : Fin 1024) : idx_main_v48 (ix2 R l) = ix1 R := funext fun a => by fin_cases a <;> rfl
theorem ix_idx_v53 (z : Fin 1) (l : Fin 1024) : idx_main_v53 (ix2 z l) = ix1 l := funext fun a => by fin_cases a <;> rfl
theorem ix_idx_v54 (e : Fin 2) (p : Fin 2112) (l : Fin 1024) : idx_main_v54 (ix3 e p l) = ix2 (⟨e.val * 2112 + p.val, by omega⟩ : Fin 4224) l := funext fun a => by
  fin_cases a
  · exact Fin.ext (show ((e.val * 2112 + p.val) * 1024 + l.val) / 1024 = e.val * 2112 + p.val by omega)
  · exact Fin.ext (show ((e.val * 2112 + p.val) * 1024 + l.val) % 1024 = l.val by omega)
theorem ix_idx_v56 (e : Fin 2) (q : Fin 16) (l : Fin 1024) : idx_main_v56 (ix3 e q l) = ix3 e (⟨48 + q.val, by omega⟩ : Fin 2112) l := funext fun a => by
  fin_cases a
  · exact Fin.ext (show e.val = e.val by omega)
  · exact Fin.ext (show 48 + q.val = 48 + q.val by omega)
  · exact Fin.ext (show l.val = l.val by omega)
theorem ix_idx_v57 (e : Fin 2) (p : Fin 2048) (l : Fin 1024) : idx_main_v57 (ix3 e p l) = ix3 e (⟨64 + p.val, by omega⟩ : Fin 2112) l := funext fun a => by
  fin_cases a
  · exact Fin.ext (show e.val = e.val by omega)
  · exact Fin.ext (show 64 + p.val = 64 + p.val by omega)
  · exact Fin.ext (show l.val = l.val by omega)
theorem ix_idx_v58 (q : Fin 16) (l : Fin 1024) (c : Fin 2) : idx_main_v58 (ix2 q l) c = ix3 c q l := funext fun a => by fin_cases a <;> rfl
theorem ix_idx_v59 (z : Fin 1) (q : Fin 16) (l : Fin 1024) : idx_main_v59 (ix3 z q l) = ix2 q l := funext fun a => by fin_cases a <;> rfl
theorem ix_idx_v60 (q : Fin 16) (l : Fin 1024) (c : Fin 1) : idx_main_v60 (ix2 q l) c = ix3 c q l := funext fun a => by fin_cases a <;> rfl

/-- An example's rows: 48 of padding, the meta tokens, the tokens. -/
theorem rows_apply (a : S2x48x1024.Idx → EReal) (b : S2x16x1024.Idx → EReal) (c : S2x2048x1024.Idx → EReal)
    (e : Fin 2) (p : Fin 2112) (l : Fin 1024) :
    concatenate S2x2112x1024 1 [⟨S2x48x1024, a⟩, ⟨S2x16x1024, b⟩, ⟨S2x2048x1024, c⟩]
      concatenates_S2x48x1024_S2x16x1024_S2x2048x1024_S2x2112x1024_d1 (ix3 e p l)
      = if h : p.val < 48 then a (ix3 e (⟨p.val, h⟩ : Fin 48) l)
        else if h : p.val < 64 then b (ix3 e (⟨p.val - 48, by omega⟩ : Fin 16) l)
        else c (ix3 e (⟨p.val - 64, by omega⟩ : Fin 2048) l) := by
  pointwise
  by_cases h0 : p.val < 48
  · simp only [dif_pos h0]
  by_cases h1 : p.val < 64
  · have h2 : p.val - 48 < 16 := by omega
    simp only [dif_neg h0, dif_pos h1, dif_pos h2]
  · have h2 : ¬ p.val - 48 < 16 := by omega
    simp only [dif_neg h0, dif_neg h1, dif_neg h2, Nat.sub_sub]

/-- The four groups of channels side by side. -/
theorem channels_apply (a : S4224x1024.Idx → EReal) (b : S4224x512.Idx → EReal) (c : S4224x1024.Idx → EReal) (d : S4224x16.Idx → EReal)
    (R : Fin 4224) (k : Fin 2576) :
    concatenate S4224x2576 1 [⟨S4224x1024, a⟩, ⟨S4224x512, b⟩, ⟨S4224x1024, c⟩, ⟨S4224x16, d⟩]
      concatenates_S4224x1024_S4224x512_S4224x1024_S4224x16_S4224x2576_d1 (ix2 R k)
      = if h : k.val < 1024 then a (ix2 R (⟨k.val, h⟩ : Fin 1024))
        else if h : k.val < 1536 then b (ix2 R (⟨k.val - 1024, by omega⟩ : Fin 512))
        else if h : k.val < 2560 then c (ix2 R (⟨k.val - 1536, by omega⟩ : Fin 1024))
        else d (ix2 R (⟨k.val - 2560, by omega⟩ : Fin 16)) := by
  pointwise
  by_cases h0 : k.val < 1024
  · simp only [dif_pos h0]
  by_cases h1 : k.val < 1536
  · have h2 : k.val - 1024 < 512 := by omega
    simp only [dif_neg h0, dif_pos h1, dif_pos h2]
  have h2 : ¬ k.val - 1024 < 512 := by omega
  by_cases h3 : k.val < 2560
  · have h4 : k.val - 1536 < 1024 := by omega
    simp only [dif_neg h0, dif_neg h1, dif_neg h2, dif_pos h3, Nat.sub_sub, Nat.reduceAdd, dif_pos h4]
  · have h4 : ¬ k.val - 1536 < 1024 := by omega
    simp only [dif_neg h0, dif_neg h1, dif_neg h2, dif_neg h3, Nat.sub_sub, Nat.reduceAdd, dif_neg h4]

/-- One row set above seven. -/
theorem part_apply (a : S1x1024.Idx → EReal) (b : S7x1024.Idx → EReal) (q : Fin 8) (l : Fin 1024) :
    concatenate S8x1024 0 [⟨S1x1024, a⟩, ⟨S7x1024, b⟩] concatenates_S1x1024_S7x1024_S8x1024_d0 (ix2 q l)
      = if h : q.val = 0 then a (ix2 0 l) else b (ix2 (⟨q.val - 1, by omega⟩ : Fin 7) l) := by
  pointwise
  by_cases h : q.val = 0
  · have h' : q.val < 1 := by omega
    simp only [dif_pos h, dif_pos h']
    exact congrArg a (congrArg (fun z => ix2 z l) (Fin.ext h))
  · have h' : ¬ q.val < 1 := by omega
    simp only [dif_neg h, dif_neg h']

end Cert.Inproj.Ref

end
-- ==== Proof.InpRef.lean ====
/-
  THE REFERENCE OF THE NORM'S BACKWARD PASS, ROW BY ROW: what its operations compute at row `R`, as the real-valued row
  functions of Proof/InpSpec.lean, when the arguments hold finite numbers; and its three results.
-/
module

public import proofs.«01_k».proof.Proof.InpIndex
public import proofs.«01_k».proof.Proof.InpArgs

@[expose] public section

set_option maxRecDepth 16384

noncomputable section

namespace Cert.Inproj.Ref

open Cert.Reference2Ideal Cert.Reference2Ideal.Gen Cert.Reference2Ideal.Read Idealize.ShloMosaic Idealize.ShloMosaic.TcCoe
open Cert.Mid

variable {A : InArgs}
variable {x0 x2 : (⟨S4224x1024, .bf16⟩ : BufTy).Contents (Elt Ideal)} {x1 : (⟨S4224x512, .bf16⟩ : BufTy).Contents (Elt Ideal)}
  {x3 : (⟨S4224x128, .bf16⟩ : BufTy).Contents (Elt Ideal)} {x4 : (⟨S4224x1024, .f32⟩ : BufTy).Contents (Elt Ideal)}
  {x5 : (⟨S2x2048x1024, .f32⟩ : BufTy).Contents (Elt Ideal)} {x6 : (⟨S16x1024, .f32⟩ : BufTy).Contents (Elt Ideal)}
  {x7 : (⟨S1x1024x2576, .f32⟩ : BufTy).Contents (Elt Ideal)} {x8 : (⟨S1x1024, .f32⟩ : BufTy).Contents (Elt Ideal)}

/-- The joined rows: padding, meta tokens, tokens. -/
theorem v11 (H : InLifted A x0 x1 x2 x3 x4 x5 x6 x7 x8) (R : Fin 4224) (l : Fin 1024) :
    (val_main_v11 (F := Ideal) x5 x6 (ix2 R l) : EReal) = (((A.row R).h l : ℝ) : EReal) := by
  rw [val_main_v11_apply, ix_idx_v11]
  unfold val_main_v9
  refine (rows_apply _ _ _ _ _ _).trans ?_
  show _ = ((A.h R l : ℝ) : EReal)
  unfold InArgs.h
  by_cases h0 : R.val % 2112 < 48
  · rw [dif_pos h0, dif_neg (by omega), dif_neg (by omega), val_main_v8_apply, val_main_cst_apply, Ideal.ofBits_def, Lift.ofBits_zero]
  by_cases h1 : R.val % 2112 < 64
  · rw [dif_neg h0, dif_pos h1, dif_neg (by omega), dif_pos (by omega), val_main_v7_apply, ix_idx_v7, val_main_v6_apply, ix_idx_v6, H.mt]
  · rw [dif_neg h0, dif_neg h1, dif_pos (by omega), H.x]

/-- The joined channels' gradients. -/
theorem v5_0 (H : InLifted A x0 x1 x2 x3 x4 x5 x6 x7 x8) (R : Fin 4224) (k : Fin 1024) :
    (val_main_v5 (F := Ideal) x0 x1 x2 x3 (ix2 R (ch0 k)) : EReal) = (((A.row R).d0 k : ℝ) : EReal) := by
  unfold val_main_v5
  refine (channels_apply _ _ _ _ R (ch0 k)).trans ?_
  rw [dif_pos k.isLt, val_main_v0_apply, Ideal.extf_def]
  exact H.d0 R k
theorem v5_1 (H : InLifted A x0 x1 x2 x3 x4 x5 x6 x7 x8) (R : Fin 4224) (k : Fin 512) :
    (val_main_v5 (F := Ideal) x0 x1 x2 x3 (ix2 R (ch1 k)) : EReal) = (((A.row R).d1 k : ℝ) : EReal) := by
  unfold val_main_v5
  refine (channels_apply _ _ _ _ R (ch1 k)).trans ?_
  rw [dif_neg (show ¬ 1024 + k.val < 1024 by omega), dif_pos (show 1024 + k.val < 1536 by omega), val_main_v1_apply, Ideal.extf_def]
  refine (congrArg (fun z => x1 (ix2 R z)) (Fin.ext ?_)).trans (H.d1 R k)
  show 1024 + k.val - 1024 = k.val
  omega
theorem v5_2 (H : InLifted A x0 x1 x2 x3 x4 x5 x6 x7 x8) (R : Fin 4224) (k : Fin 1024) :
    (val_main_v5 (F := Ideal) x0 x1 x2 x3 (ix2 R (ch2 k)) : EReal) = (((A.row R).d2 k : ℝ) : EReal) := by
  unfold val_main_v5
  refine (channels_apply _ _ _ _ R (ch2 k)).trans ?_
  rw [dif_neg (show ¬ 1536 + k.val < 1024 by omega), dif_neg (show ¬ 1536 + k.val < 1536 by omega), dif_pos (show 1536 + k.val < 2560 by omega),
    val_main_v2_apply, Ideal.extf_def]
  refine (congrArg (fun z => x2 (ix2 R z)) (Fin.ext ?_)).trans (H.d2 R k)
  show 1536 + k.val - 1536 = k.val
  omega
theorem v5_3 (H : InLifted A x0 x1 x2 x3 x4 x5 x6 x7 x8) (R : Fin 4224) (k : Fin 16) :
    (val_main_v5 (F := Ideal) x0 x1 x2 x3 (ix2 R (ch3 k)) : EReal) = (((A.row R).d3 ⟨k.val, by omega⟩ : ℝ) : EReal) := by
  unfold val_main_v5
  refine (channels_apply _ _ _ _ R (ch3 k)).trans ?_
  rw [dif_neg (show ¬ 2560 + k.val < 1024 by omega), dif_neg (show ¬ 2560 + k.val < 1536 by omega), dif_neg (show ¬ 2560 + k.val < 2560 by omega),
    val_main_v4_apply, Ideal.extf_def, val_main_v3_apply, ix_idx_v3]
  refine (congrArg (fun z => x3 (ix2 R z)) (Fin.ext ?_)).trans (H.d3 R ⟨k.val, by omega⟩)
  show 2560 + k.val - 2560 = k.val
  omega

/-- The gradient of the normed row. -/
theorem v31 (H : InLifted A x0 x1 x2 x3 x4 x5 x6 x7 x8) (R : Fin 4224) (l : Fin 1024) :
    (val_main_v31 (F := Ideal) x0 x1 x2 x3 x7 (ix2 R l) : EReal) = (((A.row R).dn A.W l : ℝ) : EReal) := by
  rw [val_main_v31_apply, sum_channels]
  simp only [ix_lidx_v31, ix_ridx_v31, v5_0 H, v5_1 H, v5_2 H, v5_3 H, val_main_v29_apply, ix_idx_v29, H.wi]
  simp only [Lift.lift]
  rfl

/-- The mean square of a row plus the stabiliser. -/
theorem v19 (H : InLifted A x0 x1 x2 x3 x4 x5 x6 x7 x8) (R : Fin 4224) (z : Fin 1) :
    (val_main_v19 (F := Ideal) x5 x6 (ix2 R z) : EReal) = ((ms (A.row R).h : ℝ) : EReal) := by
  simp only [val_main_v19_apply, val_main_v17_apply, val_main_v15_apply, val_main_v14_apply, val_main_cst_1_apply, val_main_v13_apply, val_main_v16_apply, val_main_cst_2_apply, val_main_v18_apply, val_main_cst_3_apply, ix_idx_v14, ix_idx_v15, v11 H, pointwise]
  simp (disch := first | positivity | exact (ms_pos _).ne' | exact (ms_pos _)) only [Lift.lift, Lift.rsqrt_coe_pos]
  rw [zero_add]
  rfl

theorem v20 (H : InLifted A x0 x1 x2 x3 x4 x5 x6 x7 x8) (R : Fin 4224) (z : Fin 1) :
    (val_main_v20 (F := Ideal) x5 x6 (ix2 R z) : EReal) = ((rn (A.row R).h : ℝ) : EReal) := by
  simp only [val_main_v20_apply, v19 H, pointwise]
  simp (disch := first | positivity | exact (ms_pos _).ne' | exact (ms_pos _)) only [Lift.lift, Lift.rsqrt_coe_pos]
  rfl

theorem v23 (H : InLifted A x0 x1 x2 x3 x4 x5 x6 x7 x8) (R : Fin 4224) (z : Fin 1) :
    (val_main_v23 (F := Ideal) x5 x6 (ix2 R z) : EReal) = ((nd (A.row R).h : ℝ) : EReal) := by
  simp only [val_main_v23_apply, val_main_v22_apply, val_main_cst_4_apply, val_main_v21_apply, v19 H, v20 H, pointwise]
  simp (disch := first | positivity | exact (ms_pos _).ne' | exact (ms_pos _)) only [Lift.lift, Lift.rsqrt_coe_pos]
  rfl

/-- The normed row. -/
theorem v25 (H : InLifted A x0 x1 x2 x3 x4 x5 x6 x7 x8) (R : Fin 4224) (l : Fin 1024) :
    (val_main_v25 (F := Ideal) x5 x6 (ix2 R l) : EReal) = (((A.row R).xh l : ℝ) : EReal) := by
  simp only [val_main_v25_apply, val_main_v24_apply, ix_idx_v24, v11 H, v20 H, pointwise]
  simp (disch := first | positivity | exact (ms_pos _).ne' | exact (ms_pos _)) only [Lift.lift, Lift.rsqrt_coe_pos]
  rfl

/-- The gradient of the normed row, before the gain. -/
theorem v36 (H : InLifted A x0 x1 x2 x3 x4 x5 x6 x7 x8) (R : Fin 4224) (l : Fin 1024) :
    (val_main_v36 (F := Ideal) x0 x1 x2 x3 x7 x8 (ix2 R l) : EReal) = (((A.row R).dn A.W l * A.W.g l : ℝ) : EReal) := by
  simp only [val_main_v36_apply, val_main_v35_apply, val_main_v26_apply, val_main_v12_apply, ix_idx_v12, ix_idx_v26, ix_idx_v35, v31 H, H.g, pointwise]
  simp (disch := first | positivity | exact (ms_pos _).ne' | exact (ms_pos _)) only [Lift.lift, Lift.rsqrt_coe_pos]

/-- The gradient through the norm itself. -/
theorem v48 (H : InLifted A x0 x1 x2 x3 x4 x5 x6 x7 x8) (R : Fin 4224) (l : Fin 1024) :
    (val_main_v48 (F := Ideal) x0 x1 x2 x3 x5 x6 x7 x8 (ix2 R l) : EReal) = ((corr (A.row R).h fun k => (A.row R).dn A.W k * A.W.g k : ℝ) : EReal) := by
  simp only [val_main_v48_apply, val_main_v47_apply, val_main_cst_9_apply, val_main_v46_apply, val_main_v44_apply, val_main_v40_apply, val_main_v39_apply, val_main_cst_7_apply, val_main_v38_apply, val_main_v45_apply, val_main_cst_8_apply, ix_idx_v39, ix_idx_v40, ix_idx_v47, ix_idx_v48, v11 H, v23 H, v36 H, pointwise]
  simp (disch := first | positivity | exact (ms_pos _).ne' | exact (ms_pos _)) only [Lift.lift, Lift.rsqrt_coe_pos]
  refine congrArg (fun r : ℝ => (r : EReal)) ?_
  rw [Fin.sum_univ_one]; unfold corr; ring

/-- The gradient of the stream. -/
theorem v52 (H : InLifted A x0 x1 x2 x3 x4 x5 x6 x7 x8) (R : Fin 4224) (l : Fin 1024) :
    (val_main_v52 (F := Ideal) x0 x1 x2 x3 x4 x5 x6 x7 x8 (ix2 R l) : EReal) = (((A.row R).dx A.W l : ℝ) : EReal) := by
  simp only [val_main_v52_apply, val_main_v50_apply, val_main_v43_apply, val_main_v42_apply, val_main_v41_apply, val_main_v49_apply, val_main_v51_apply, ix_idx_v41, v11 H, v20 H, v36 H, v48 H, H.dh, pointwise]
  simp (disch := first | positivity | exact (ms_pos _).ne' | exact (ms_pos _)) only [Lift.lift, Lift.rsqrt_coe_pos]
  refine congrArg (fun r : ℝ => (r : EReal)) ?_
  exact grad' (A.dh R l) (A.row R).h (fun k => (A.row R).dn A.W k * A.W.g k) l

/-- The gradient of the gain. -/
theorem v53 (H : InLifted A x0 x1 x2 x3 x4 x5 x6 x7 x8) (z : Fin 1) (l : Fin 1024) :
    (val_main_v53 (F := Ideal) x0 x1 x2 x3 x5 x6 x7 (ix2 z l) : EReal) = ((∑ R, (A.row R).dg A.W l : ℝ) : EReal) := by
  simp only [val_main_v53_apply, val_main_v37_apply, val_main_cst_6_apply, val_main_v34_apply, val_main_v33_apply, val_main_cst_5_apply, val_main_v32_apply, ix_idx_v33, ix_idx_v34, ix_idx_v37, ix_idx_v53, v25 H, v31 H, pointwise]
  simp (disch := first | positivity | exact (ms_pos _).ne' | exact (ms_pos _)) only [Lift.lift, Lift.rsqrt_coe_pos]
  refine congrArg (fun r : ℝ => (r : EReal)) ?_
  simp only [Fin.sum_univ_one, zero_add]
  exact Finset.sum_congr rfl fun R _ => mul_comm ((A.row R).xh l) ((A.row R).dn A.W l)

/-- The three results. -/
theorem final57 (H : InLifted A x0 x1 x2 x3 x4 x5 x6 x7 x8) :
    val_main_v57 (F := Ideal) x0 x1 x2 x3 x4 x5 x6 x7 x8 = fun i : S2x2048x1024.Idx => ((A.gx (i 0) (i 1) (i 2) : ℝ) : EReal) := by
  funext i
  obtain ⟨e, p, l, rfl⟩ : ∃ (e : Fin 2) (p : Fin 2048) (l : Fin 1024), i = (ix3 e p l : S2x2048x1024.Idx) := ⟨i 0, i 1, i 2, (ix3_eta _).symm⟩
  rw [val_main_v57_apply, ix_idx_v57, val_main_v54_apply, ix_idx_v54, v52 H]
  show _ = ((A.gx e p l : ℝ) : EReal)
  unfold InArgs.gx
  refine congrArg (fun R => (((A.row R).dx A.W l : ℝ) : EReal)) (Fin.ext ?_)
  show e.val * 2112 + (64 + p.val) = 2112 * e.val + 64 + p.val
  omega

theorem final62 (H : InLifted A x0 x1 x2 x3 x4 x5 x6 x7 x8) :
    val_main_v62 (F := Ideal) x0 x1 x2 x3 x5 x6 x7 = fun i : S8x1024.Idx => ((A.part (i 0) (i 1) : ℝ) : EReal) := by
  funext i
  obtain ⟨q, l, rfl⟩ : ∃ (q : Fin 8) (l : Fin 1024), i = (ix2 q l : S8x1024.Idx) := ⟨i 0, i 1, (ix2_eta _).symm⟩
  unfold val_main_v62
  refine (part_apply _ _ q l).trans ?_
  show _ = ((A.part q l : ℝ) : EReal)
  unfold InArgs.part
  by_cases h : q.val = 0
  · rw [dif_pos h, if_pos h, v53 H]
  · rw [dif_neg h, if_neg h, val_main_v61_apply, val_main_cst_12_apply, Ideal.ofBits_def, Lift.ofBits_zero]

theorem final60 (H : InLifted A x0 x1 x2 x3 x4 x5 x6 x7 x8) :
    val_main_v60 (F := Ideal) x0 x1 x2 x3 x4 x5 x6 x7 x8 = fun i : S16x1024.Idx => ((A.dmeta (i 0) (i 1) : ℝ) : EReal) := by
  funext i
  obtain ⟨q, l, rfl⟩ : ∃ (q : Fin 16) (l : Fin 1024), i = (ix2 q l : S16x1024.Idx) := ⟨i 0, i 1, (ix2_eta _).symm⟩
  simp only [val_main_v60_apply, val_main_v59_apply, val_main_v58_apply, val_main_v56_apply, val_main_v54_apply, val_main_cst_10_apply,
    val_main_cst_11_apply, ix_idx_v60, ix_idx_v59, ix_idx_v58, ix_idx_v56, ix_idx_v54, v52 H, pointwise]
  simp (disch := first | positivity | exact (ms_pos _).ne' | exact (ms_pos _)) only [Lift.lift, Lift.rsqrt_coe_pos]
  show _ = ((A.dmeta q l : ℝ) : EReal)
  unfold InArgs.dmeta
  refine congrArg (fun r : ℝ => (r : EReal)) ?_
  simp only [Fin.sum_univ_one, Fin.sum_univ_two, zero_add]
  refine congrArg₂ _ (congrArg (fun R => (A.row R).dx A.W l) (Fin.ext ?_)) (congrArg (fun R => (A.row R).dx A.W l) (Fin.ext ?_))
  · show 0 * 2112 + (48 + q.val) = 48 + q.val
    omega
  · show 1 * 2112 + (48 + q.val) = 2160 + q.val
    omega

end Cert.Inproj.Ref

end
-- ==== Proof.InpFinite.lean ====
/-
  FINITE ARGUMENTS ARE REAL NUMBERS, for the backward pass of the first norm: when every entry's absolute value compares
  below infinity, the arguments' entries are the real numbers of an `InArgs`.
-/
module

public import proofs.«01_k».proof.Proof.InpArgs
public import proofs.«01_k».proof.Proof.Finite
public import proofs.«01_k».proof.Proof.Gen.Pre_finite_inproj
public import Idealize.ShloMosaic.Lib.ReduceAll
public import Idealize.ShloMosaic.PureOps.Ideal.Laws

@[expose] public section

set_option maxRecDepth 16384

noncomputable section

namespace Cert.Inproj.Finite

open Idealize.ShloMosaic Cert.Pre_finite_inproj Cert.Pre_finite_inproj.Gen

/-- An array whose entries all compare so holds real numbers. -/
theorem all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : (((x i : EReal).toReal : ℝ) : EReal) = x i := by
  haveI : Subsingleton S_.Idx := ⟨fun y z => funext fun a => a.elim0⟩
  exact Mid.Finite.entry (x i) (Host.reduce_andi_all _ _ hr h_S_ j h i)

/-- The precondition, decoded. -/
theorem lifted (x0 : FVec Ideal S4224x1024 .bf16) (x1 : FVec Ideal S4224x512 .bf16) (x2 : FVec Ideal S4224x1024 .bf16)
    (x3 : FVec Ideal S4224x128 .bf16) (x4 : FVec Ideal S4224x1024 .f32) (x5 : FVec Ideal S2x2048x1024 .f32)
    (x6 : FVec Ideal S16x1024 .f32) (x7 : FVec Ideal S1x1024x2576 .f32) (x8 : FVec Ideal S1x1024 .f32) (x9 : FVec Ideal S8x128 .f32)
    (h : fn (F := Ideal) x0 x1 x2 x3 x4 x5 x6 x7 x8 x9 = fun _ => 1#1) :
    ∃ A : InArgs, InLifted A x0 x1 x2 x3 x4 x5 x6 x7 x8 := by
  have e := congrFun h fun a => a.elim0
  simp only [fn, fn_part1, fn_part2, andi, IntOp.andi_eq_one] at e
  obtain ⟨⟨⟨⟨⟨⟨⟨⟨⟨-, h0⟩, h1⟩, h2⟩, h3⟩, h4⟩, h5⟩, h6⟩, h7⟩, h8⟩ := e
  exact ⟨⟨fun R k => (x0 (ix2 R k) : EReal).toReal, fun R k => (x1 (ix2 R k) : EReal).toReal,
      fun R k => (x2 (ix2 R k) : EReal).toReal, fun R k => (x3 (ix2 R k) : EReal).toReal,
      fun R k => (x4 (ix2 R k) : EReal).toReal, fun e p l => (x5 (ix3 e p l) : EReal).toReal,
      fun p l => (x6 (ix2 p l) : EReal).toReal,
      ⟨fun k l => (x7 (ix3 0 k l) : EReal).toReal, fun l => (x8 (ix2 0 l) : EReal).toReal⟩⟩,
    fun R k => (all _ _ _ _ h0 (ix2 R k)).symm, fun R k => (all _ _ _ _ h1 (ix2 R k)).symm,
    fun R k => (all _ _ _ _ h2 (ix2 R k)).symm, fun R k => (all _ _ _ _ h3 (ix2 R k)).symm,
    fun R k => (all _ _ _ _ h4 (ix2 R k)).symm, fun e p l => (all _ _ _ _ h5 (ix3 e p l)).symm,
    fun p l => (all _ _ _ _ h6 (ix2 p l)).symm, fun k l => (all _ _ _ _ h7 (ix3 0 k l)).symm,
    fun l => (all _ _ _ _ h8 (ix2 0 l)).symm⟩

end Cert.Inproj.Finite

end
-- ==== Proof.InpClaims.lean ====
/-
  THE CLAIMS ABOUT THE PROGRAMS OF `bwd_inproj`: the frames of the kernel and of the reference, and that both return the same
  three arrays of extended reals when the arguments are finite.
-/
module

public import proofs.«01_k».proof.Defs
public import proofs.«01_k».proof.Proof.Gen.Kernel2
public import proofs.«01_k».proof.Proof.InpBlocks
public import proofs.«01_k».proof.Proof.InpRef
public import proofs.«01_k».proof.Proof.InpFinite
public import Idealize.ShloMosaic.Adequacy
public import Idealize.ShloMosaic.Init

@[expose] public section

set_option maxRecDepth 16384

noncomputable section

namespace Cert.Inproj

open Idealize.ShloMosaic Idealize.ShloMosaic.TcCoe Idealize.ShloMosaic.Tactic Idealize.SL.Sem Idealize.ShloMosaic.StableHlo

/-- The kernel's program, at bits: the idealized program has the same text, and its run holds over any floats. -/
theorem frame_kernel : Cert.quiescent_Kernel2 (hKernel2 := Cert.Kernel2.Gen.facts) := fun m ρ _ =>
  Eq.mp (by sl_kernel_rfl) (frame (F := Bits) m ρ)

/-- The kernel's program, idealized. -/
theorem frame_ideal : Cert.quiescent_Kernel2Ideal (hKernel2Ideal := Cert.Kernel2Ideal.Gen.facts) := fun m ρ _ => frame (F := Ideal) m ρ

/-- The reference runs, keeps its arguments and leaves no semaphore raised: it has none. -/
theorem frame_reference : Cert.quiescent_Reference2Ideal (hReference2Ideal := Cert.Reference2Ideal.Gen.facts) := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

set_option maxHeartbeats 1600000 in
/-- The gradient of the residual rows, the sums for the norm's gain and those of the prepended rows are the reference's. -/
theorem algebraic : Cert.algebraic_Kernel2Ideal_Reference2Ideal_pre_finite_inproj (hKernel2Ideal := Cert.Kernel2Ideal.Gen.facts)
    (hReference2Ideal := Cert.Reference2Ideal.Gen.facts) (hPre_finite_inproj := Cert.Pre_finite_inproj.Gen.facts) := by
  intro m g m' g' hpre hargs
  have hA : ∀ c, ∃ A, Given m c A := fun c => Finite.lifted _ _ _ _ _ _ _ _ _ _ (hpre c)
  have hR : ∀ c, ∃ A, Given m c A ∧ InLifted A
      (m' (c.tc.loc Cert.Reference2Ideal.main_arg0)) (m' (c.tc.loc Cert.Reference2Ideal.main_arg1))
      (m' (c.tc.loc Cert.Reference2Ideal.main_arg2)) (m' (c.tc.loc Cert.Reference2Ideal.main_arg3))
      (m' (c.tc.loc Cert.Reference2Ideal.main_arg4)) (m' (c.tc.loc Cert.Reference2Ideal.main_arg5))
      (m' (c.tc.loc Cert.Reference2Ideal.main_arg6)) (m' (c.tc.loc Cert.Reference2Ideal.main_arg7))
      (m' (c.tc.loc Cert.Reference2Ideal.main_arg8)) := fun c => by
    obtain ⟨A, H⟩ := hA c
    obtain ⟨e0, e1, e2, e3, e4, e5, e6, e7, e8, -⟩ := hargs c
    refine ⟨A, H, ?_⟩
    rw [e0, e1, e2, e3, e4, e5, e6, e7, e8]
    exact H
  refine ⟨fun c => gx m c, fun c => (Cert.Inproj.dats m 0 c).arrAt 9 Cert.Kernel2Ideal.cfg0.N,
    fun c => (Cert.Inproj.dats m 0 c).arrAt 10 Cert.Kernel2Ideal.cfg0.N,
    (θ_run Cert.Kernel2Ideal.defs _ _).mono (fun r h => h.1) (run_results m g), ?_⟩
  refine (θ_run Cert.Reference2Ideal.defs _ _).mono (fun r h c => ?_) (Cert.Reference2Ideal.Value.run (F := Ideal) m' g')
  obtain ⟨A, H, H'⟩ := hR c
  obtain ⟨h0, h1, h2, hk⟩ := h c
  exact ⟨h0.trans ((Cert.Reference2Ideal.Read.val_main_v57_eq m' c).trans ((Ref.final57 H').trans (gx_real H).symm)),
    h1.trans ((Cert.Reference2Ideal.Read.val_main_v62_eq _ _ _ _ _ _ _).trans ((Ref.final62 H').trans (final9 H).symm)),
    h2.trans ((Cert.Reference2Ideal.Read.val_main_v60_eq m' c).trans ((Ref.final60 H').trans (final10 H).symm)), hk⟩

end Cert.Inproj

end
-- ==== Proof.FwdSpec.lean ====
/-
  THE FIRST NORM AND THE INPUT PROJECTION, one row at a time, over the extended reals: what `fwd_inproj` returns, whatever
  numbers or infinities the arguments hold.
-/
module

public import Idealize.ShloMosaic.PureOps.Ideal
public import Idealize.ShloMosaic.Lib.Pointwise

@[expose] public section

noncomputable section

namespace Cert.Fwd

open Idealize.ShloMosaic

/-- A device's rows are two examples of 2112: 48 rows of zeros, the 16 meta tokens, the example's 2048 tokens. -/
def h (x : (⟨3, ![2, 2048, 1024]⟩ : Shape).Idx → EReal) (mt : (⟨2, ![16, 1024]⟩ : Shape).Idx → EReal)
    (R : Fin 4224) (l : Fin 1024) : EReal :=
  if h : 64 ≤ R.val % 2112 then x (ix3 (⟨R.val / 2112, by omega⟩ : Fin 2) (⟨R.val % 2112 - 64, by omega⟩ : Fin 2048) l)
  else if h' : 48 ≤ R.val % 2112 then mt (ix2 (⟨R.val % 2112 - 48, by omega⟩ : Fin 16) l) else 0

/-- A row divided by its root mean square, with a gain. -/
def n (v g : Fin 1024 → EReal) (l : Fin 1024) : EReal :=
  v l * Ideal.rsqrt (Ideal.div (∑ k, v k * v k) (Ideal.ofBits .f32 0x44800000#32) + Ideal.ofBits .f32 0x358637BD#32) * g l

/-- The normed row's product with one column. -/
def u (v g w : Fin 1024 → EReal) : EReal := ∑ k, n v g k * w k

end Cert.Fwd

end
-- ==== Proof.FwdBlocks.lean ====
/-
  THE KERNEL `fwd_inproj`, row by row: a grid point works on 1056 rows, and its five results hold, for each row, the row's norm
  and its products with the projection's columns.
-/
module

public import proofs.«01_k».proof.Proof.FwdSpec
public import proofs.«01_k».proof.Proof.InpBlocks
public import proofs.«01_k».proof.Proof.Gen.Kernel3Ideal.Value

@[expose] public section

set_option maxRecDepth 16384

noncomputable section

namespace Cert.Fwd

open Cert.Kernel3Ideal Cert.Kernel3Ideal.Gen Idealize.ShloMosaic Idealize.ShloMosaic.TcCoe Idealize.SL.Sem

section Row

variable (v : Fin 1056 → Fin 1024 → EReal) (g : Fin 1024 → EReal) (w : Fin 1024 → Fin 2688 → EReal)
  {x0 : Vec Ideal S1056x1024 .f32} {x1 : Vec Ideal S1x1024 .f32} {x2 : Vec Ideal S1024x2688 .bf16}

theorem n_row (h0 : ∀ r k, (x0 (ix2 r k) : EReal) = v r k) (h1 : ∀ k, (x1 (ix2 0 k) : EReal) = g k) (r : Fin 1056) (l : Fin 1024) :
    (k0_pay2 x0 x1 (ix2 r l) : EReal) = n (v r) g l := by
  pointwise [k0_pay2]
  simp only [h0, h1]
  rfl

theorem uc_row (h0 : ∀ r k, (x0 (ix2 r k) : EReal) = v r k) (h1 : ∀ k, (x1 (ix2 0 k) : EReal) = g k)
    (y : Vec Ideal S1024x1024 .bf16) (r : Fin 1056) (l : Fin 1024) : (k0_pay3 x0 x1 y (ix2 r l) : EReal) = u (v r) g (fun k => y (ix2 k l)) := by
  pointwise [k0_pay3]
  simp only [n_row v g h0 h1]
  rfl

theorem qk_row (h0 : ∀ r k, (x0 (ix2 r k) : EReal) = v r k) (h1 : ∀ k, (x1 (ix2 0 k) : EReal) = g k)
    (y : Vec Ideal S1024x512 .bf16) (r : Fin 1056) (l : Fin 512) : (k0_pay4 x0 x1 y (ix2 r l) : EReal) = u (v r) g (fun k => y (ix2 k l)) := by
  pointwise [k0_pay4]
  simp only [n_row v g h0 h1]
  rfl

theorem vg_row (h0 : ∀ r k, (x0 (ix2 r k) : EReal) = v r k) (h1 : ∀ k, (x1 (ix2 0 k) : EReal) = g k)
    (y : Vec Ideal S1024x1024 .bf16) (r : Fin 1056) (l : Fin 1024) : (k0_pay5 x0 x1 y (ix2 r l) : EReal) = u (v r) g (fun k => y (ix2 k l)) := by
  pointwise [k0_pay5]
  simp only [n_row v g h0 h1]
  rfl

theorem lr_row (h0 : ∀ r k, (x0 (ix2 r k) : EReal) = v r k) (h1 : ∀ k, (x1 (ix2 0 k) : EReal) = g k)
    (y : Vec Ideal S1024x128 .bf16) (r : Fin 1056) (l : Fin 128) : (k0_pay1 (k0_pay2 x0 x1) y (ix2 r l) : EReal) = u (v r) g (fun k => y (ix2 k l)) := by
  pointwise [k0_pay1]
  simp only [n_row v g h0 h1]
  rfl

end Row

variable (m : (ℓ : Loc nD τ sig) → Buf (Elt Ideal) ℓ) (c : Dev nD)

/-- An argument array, as launched. -/
abbrev arg (b : Ref sig .tc) : Buf (Elt Ideal) ((c : Thread nD τ).loc b) := m ((c : Thread nD τ).loc b)

/-- The rows that the host prepares. -/
theorem V4 (R : Fin 4224) (l : Fin 1024) : (V m c main_v4 (ix2 R l) : EReal) = h (arg m c main_arg0) (arg m c main_arg1) R l := by
  have e : V m c main_v4 = (shapeCast S4224x1024 (Host.dynamicUpdateSlice
      (pad S2x2112x1024 ![0, 64, 0] ![0, 0, 0] ![0, 0, 0] (arg m c main_arg0) (sitofp (F := Ideal) .f32 (constantI S_ 32 0#32))
        pads_S2x2048x1024_S2x2112x1024_000_6400_000 h_S_)
      (broadcastInDim S2x16x1024 ![0, 1, 2] bcast_S1x16x1024_S2x16x1024_0_1_2
        (broadcastInDim S1x16x1024 ![1, 2] bcast_S16x1024_S1x16x1024_1_2 (arg m c main_arg1)))
      ![0, 48, 0] updateFits_S2x2112x1024_S2x16x1024) shapeCasts_S2x2112x1024_S4224x1024 :
      S4224x1024.Idx → EReal) := by
    unfold_abbrev_sides
    simp only [hostOps0, hostOps0_1, hostOps0_2, hostOps0_3, List.flatten_cons, List.flatten_nil, List.append_nil, List.cons_append, List.nil_append]
    after_results
    funext i
    refine congrFun (congrArg (fun y => shapeCast S4224x1024 y shapeCasts_S2x2112x1024_S4224x1024)
      (congrArg (fun st => Host.dynamicUpdateSlice (pad S2x2112x1024 ![0, 64, 0] ![0, 0, 0] ![0, 0, 0] (arg m c main_arg0) (sitofp (F := Ideal) .f32 (constantI S_ 32 0#32))
          pads_S2x2048x1024_S2x2112x1024_000_6400_000 h_S_)
        (broadcastInDim S2x16x1024 ![0, 1, 2] bcast_S1x16x1024_S2x16x1024_0_1_2
          (broadcastInDim S1x16x1024 ![1, 2] bcast_S16x1024_S1x16x1024_1_2 (arg m c main_arg1))) st updateFits_S2x2112x1024_S2x16x1024) (funext fun k => ?_))) i
    match k with
    | ⟨0, _⟩ => rfl
    | ⟨1, _⟩ => rfl
    | ⟨2, _⟩ => rfl
  exact (congrFun e _).trans (Inproj.rows_apply R l _ _)

/-- The padded projection. -/
theorem V7 (k : Fin 1024) (l : Fin 2688) : (V m c main_v7 (ix2 k l) : EReal) =
    if h : l.val < 2576 then arg m c main_arg2 (ix3 0 k ⟨l.val, h⟩) else (0 : EReal) := by
  have h : V m c main_v7 = (pad S1024x2688 ![0, 0] ![0, 112] ![0, 0] (truncf (F := Ideal) .bf16 (shapeCast S1024x2576 (arg m c main_arg2)
      shapeCasts_S1x1024x2576_S1024x2576) bitsLt_bf16_f32) (sitofp (F := Ideal) .bf16 (constantI S_ 32 0#32))
      pads_S1024x2576_S1024x2688_000_01120 h_S_ : S1024x2688.Idx → EReal) := by
    unfold_abbrev_sides
    simp only [hostOps0, hostOps0_1, hostOps0_2, hostOps0_3, List.flatten_cons, List.flatten_nil, List.append_nil, List.cons_append, List.nil_append]
    after_results
    rfl
  exact (congrFun h _).trans (Inproj.proj_apply _ k l)

variable (t : Fin cfg0.N)

/-- A block's row among the device's. -/
abbrev rowAt (r : Fin 1056) : Fin 4224 := ⟨1056 * t.val + r.val, by have := t.isLt; have : cfg0.N = 4 := N_0; omega⟩

theorem index_in : ∀ t : Fin cfg0.N, win0_0.index t = ![t.val, 0] ∧ win0_1.index t = ![0, 0] ∧ win0_2.index t = ![0, 0] :=
  (by decide +kernel : ∀ t : Fin grid0.N, win0_0.index t = ![t.val, 0] ∧ win0_1.index t = ![0, 0] ∧ win0_2.index t = ![0, 0])
theorem index_out : ∀ t : Fin cfg0.N, win0_3.index t = ![t.val, 0] ∧ win0_4.index t = ![t.val, 0] ∧ win0_5.index t = ![t.val, 0] ∧
    win0_6.index t = ![t.val, 0] ∧ win0_7.index t = ![t.val, 0] :=
  (by decide +kernel : ∀ t : Fin grid0.N, win0_3.index t = ![t.val, 0] ∧ win0_4.index t = ![t.val, 0] ∧ win0_5.index t = ![t.val, 0] ∧
    win0_6.index t = ![t.val, 0] ∧ win0_7.index t = ![t.val, 0])

theorem block0 (r : Fin 1056) (l : Fin 1024) :
    (iblk m c 0 t (ix2 r l) : EReal) = h (arg m c main_arg0) (arg m c main_arg1) (rowAt t r) l := by
  have e : (iblk m c 0 t (ix2 r l) : EReal) = V m c main_v4 (ix2 (rowAt t r) l) := by
    have h := (index_in t).1
    blk_ext [iblk, h]
  exact e.trans (V4 m c _ l)
theorem block1 (l : Fin 1024) : (iblk m c 1 t (ix2 0 l) : EReal) = arg m c main_arg3 (ix2 0 l) := by
  have e : (iblk m c 1 t (ix2 0 l) : EReal) = V m c main_arg3 (ix2 0 l) := by
    have h := (index_in t).2.1
    blk_ext [iblk, h]
  exact e.trans (congrFun (V_main_arg3 m c) _)
theorem block2 (r : Fin 1024) (l : Fin 2688) : (iblk m c 2 t (ix2 r l) : EReal) =
    if h : l.val < 2576 then arg m c main_arg2 (ix3 0 r ⟨l.val, h⟩) else (0 : EReal) := by
  have e : (iblk m c 2 t (ix2 r l) : EReal) = V m c main_v7 (ix2 r l) := by
    have h := (index_in t).2.2
    blk_ext [iblk, h]
  exact e.trans (V7 m c r l)

end Cert.Fwd

end
-- ==== Proof.FwdFinal.lean ====
/-
  THE FIVE RESULTS OF `fwd_inproj`: each output array, entry by entry, is the norm of its row or that row's product with one
  column of the projection.
-/
module

public import proofs.«01_k».proof.Proof.FwdBlocks
public import proofs.«01_k».proof.Proof.InpRows

@[expose] public section

set_option maxRecDepth 16384

noncomputable section

namespace Cert.Fwd

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The prepared rows. -/
abbrev H (R : Fin 4224) : Fin 1024 → EReal := h (arg m c main_arg0) (arg m c main_arg1) R
/-- The norm's gain. -/
abbrev G (k : Fin 1024) : EReal := arg m c main_arg3 (ix2 0 k)

/-- A row's product with column `l` of the projection. -/
def uc (R : Fin 4224) (l : Fin 1024) : EReal := u (H m c R) (G m c) (fun k => arg m c main_arg2 (ix3 0 k (⟨l.val, by omega⟩ : Fin 2576)))
/-- A row's product with column `1024 + l` of the projection. -/
def qk (R : Fin 4224) (l : Fin 512) : EReal := u (H m c R) (G m c) (fun k => arg m c main_arg2 (ix3 0 k (⟨1024 + l.val, by omega⟩ : Fin 2576)))
/-- A row's product with column `1536 + l` of the projection. -/
def vg (R : Fin 4224) (l : Fin 1024) : EReal := u (H m c R) (G m c) (fun k => arg m c main_arg2 (ix3 0 k (⟨1536 + l.val, by omega⟩ : Fin 2576)))
/-- A row's product with the last 16 columns of the projection, then zeros. -/
def lr (R : Fin 4224) (l : Fin 128) : EReal :=
  if h : l.val < 16 then u (H m c R) (G m c) (fun k => arg m c main_arg2 (ix3 0 k (⟨2560 + l.val, by omega⟩ : Fin 2576))) else 0
/-- A row's norm. -/
def nm (R : Fin 4224) (l : Fin 1024) : EReal := n (H m c R) (G m c) l

theorem zeros : (![0, 0] : Fin 2 → ℕ) = 0 := by decide

section Blocks
variable (t : Fin cfg0.N)

theorem ld0 (r : Fin 1056) (k : Fin 1024) : (View.ld (iblk m c 0 t) r0_0 (ix2 r k) : EReal) = H m c (rowAt t r) k := by
  rw [View.ld_unit_zero (S := S1056x1024) zeros]; exact block0 m c t r k
theorem ld1 (k : Fin 1024) : (View.ld (iblk m c 1 t) r0_1 (ix2 0 k) : EReal) = G m c k := by
  rw [View.ld_unit_zero (S := S1x1024) zeros]; exact block1 m c t k
theorem ld_uc (k : Fin 1024) (l : Fin 1024) : (View.ld (iblk m c 2 t) r0_2 (ix2 k l) : EReal) = arg m c main_arg2 (ix3 0 k (⟨l.val, by omega⟩ : Fin 2576)) :=
  (Inproj.ld_cols (iblk m c 2 t) 0 _ k l k ⟨l.val, by omega⟩ rfl (by simp)).trans
    ((block2 m c t _ _).trans (dif_pos (show l.val < 2576 by omega)))
theorem ld_qk (k : Fin 1024) (l : Fin 512) : (View.ld (iblk m c 2 t) r0_3 (ix2 k l) : EReal) = arg m c main_arg2 (ix3 0 k (⟨1024 + l.val, by omega⟩ : Fin 2576)) :=
  (Inproj.ld_cols (iblk m c 2 t) 1024 _ k l k ⟨1024 + l.val, by omega⟩ rfl rfl).trans
    ((block2 m c t _ _).trans (dif_pos (show 1024 + l.val < 2576 by omega)))
theorem ld_vg (k : Fin 1024) (l : Fin 1024) : (View.ld (iblk m c 2 t) r0_5 (ix2 k l) : EReal) = arg m c main_arg2 (ix3 0 k (⟨1536 + l.val, by omega⟩ : Fin 2576)) :=
  (Inproj.ld_cols (iblk m c 2 t) 1536 _ k l k ⟨1536 + l.val, by omega⟩ rfl rfl).trans
    ((block2 m c t _ _).trans (dif_pos (show 1536 + l.val < 2576 by omega)))
theorem ld_lr (k : Fin 1024) (l : Fin 128) : (View.ld (iblk m c 2 t) r0_6 (ix2 k l) : EReal) =
    if h : 2560 + l.val < 2576 then arg m c main_arg2 (ix3 0 k ⟨2560 + l.val, h⟩) else (0 : EReal) :=
  (Inproj.ld_cols (iblk m c 2 t) 2560 _ k l k ⟨2560 + l.val, by omega⟩ rfl rfl).trans (block2 m c t _ _)

end Blocks

theorem place3 (t : Fin cfg0.N) (r : Fin 1056) (l : Fin 1024) :
    (win0_3.blk t).view.emb (ix2 r l : S1056x1024.Idx) = (ix2 (rowAt t r) l : S4224x1024.Idx) := by
  have h := (index_out t).1
  funext a
  apply Fin.ext
  refine Fin.cases ?_ (fun a => ?_) a
  · blk_simp [h]; simp [ix2, Nat.mul_comm]
  · obtain rfl : a = 0 := by omega
    blk_simp [h]; simp [ix2]
theorem place4 (t : Fin cfg0.N) (r : Fin 1056) (l : Fin 512) :
    (win0_4.blk t).view.emb (ix2 r l : S1056x512.Idx) = (ix2 (rowAt t r) l : S4224x512.Idx) := by
  have h := (index_out t).2.1
  funext a
  apply Fin.ext
  refine Fin.cases ?_ (fun a => ?_) a
  · blk_simp [h]; simp [ix2, Nat.mul_comm]
  · obtain rfl : a = 0 := by omega
    blk_simp [h]; simp [ix2]
theorem place5 (t : Fin cfg0.N) (r : Fin 1056) (l : Fin 1024) :
    (win0_5.blk t).view.emb (ix2 r l : S1056x1024.Idx) = (ix2 (rowAt t r) l : S4224x1024.Idx) := by
  have h := (index_out t).2.2.1
  funext a
  apply Fin.ext
  refine Fin.cases ?_ (fun a => ?_) a
  · blk_simp [h]; simp [ix2, Nat.mul_comm]
  · obtain rfl : a = 0 := by omega
    blk_simp [h]; simp [ix2]
theorem place6 (t : Fin cfg0.N) (r : Fin 1056) (l : Fin 128) :
    (win0_6.blk t).view.emb (ix2 r l : S1056x128.Idx) = (ix2 (rowAt t r) l : S4224x128.Idx) := by
  have h := (index_out t).2.2.2.1
  funext a
  apply Fin.ext
  refine Fin.cases ?_ (fun a => ?_) a
  · blk_simp [h]; simp [ix2, Nat.mul_comm]
  · obtain rfl : a = 0 := by omega
    blk_simp [h]; simp [ix2]
theorem place7 (t : Fin cfg0.N) (r : Fin 1056) (l : Fin 1024) :
    (win0_7.blk t).view.emb (ix2 r l : S1056x1024.Idx) = (ix2 (rowAt t r) l : S4224x1024.Idx) := by
  have h := (index_out t).2.2.2.2
  funext a
  apply Fin.ext
  refine Fin.cases ?_ (fun a => ?_) a
  · blk_simp [h]; simp [ix2, Nat.mul_comm]
  · obtain rfl : a = 0 := by omega
    blk_simp [h]; simp [ix2]

theorem final3 : (dats m 0 c).arrAt 3 cfg0.N = fun i : S4224x1024.Idx =>
    uc m c (i 0) (i 1) := by
  refine (dats m 0 c).arrAt_eq_of_covers 3 _ (by decide +kernel) fun t hf y => ?_
  blk_simp
  rw [after0_3]
  obtain ⟨r, l, rfl⟩ : ∃ (r : Fin 1056) (l : Fin 1024), y = (ix2 r l : S1056x1024.Idx) := ⟨y 0, y 1, (ix2_eta _).symm⟩
  rw [show (win0_3.blk t).view.emb (ix2 r l : S1056x1024.Idx) = (ix2 (rowAt t r) l : S4224x1024.Idx) from place3 t r l]
  unfold out0_3
  rw [View.canon_unit_zero zeros]
  exact ((uc_row (fun r => H m c (rowAt t r)) (G m c) (ld0 m c t) (ld1 m c t) _ r l).trans
    (congrArg (u _ _) (funext fun k => ld_uc m c t k l)))

theorem final4 : (dats m 0 c).arrAt 4 cfg0.N = fun i : S4224x512.Idx =>
    qk m c (i 0) (i 1) := by
  refine (dats m 0 c).arrAt_eq_of_covers 4 _ (by decide +kernel) fun t hf y => ?_
  blk_simp
  rw [after0_4]
  obtain ⟨r, l, rfl⟩ : ∃ (r : Fin 1056) (l : Fin 512), y = (ix2 r l : S1056x512.Idx) := ⟨y 0, y 1, (ix2_eta _).symm⟩
  rw [show (win0_4.blk t).view.emb (ix2 r l : S1056x512.Idx) = (ix2 (rowAt t r) l : S4224x512.Idx) from place4 t r l]
  unfold out0_4
  rw [View.canon_unit_zero zeros]
  exact ((qk_row (fun r => H m c (rowAt t r)) (G m c) (ld0 m c t) (ld1 m c t) _ r l).trans
    (congrArg (u _ _) (funext fun k => ld_qk m c t k l)))

theorem final5 : (dats m 0 c).arrAt 5 cfg0.N = fun i : S4224x1024.Idx =>
    vg m c (i 0) (i 1) := by
  refine (dats m 0 c).arrAt_eq_of_covers 5 _ (by decide +kernel) fun t hf y => ?_
  blk_simp
  rw [after0_5]
  obtain ⟨r, l, rfl⟩ : ∃ (r : Fin 1056) (l : Fin 1024), y = (ix2 r l : S1056x1024.Idx) := ⟨y 0, y 1, (ix2_eta _).symm⟩
  rw [show (win0_5.blk t).view.emb (ix2 r l : S1056x1024.Idx) = (ix2 (rowAt t r) l : S4224x1024.Idx) from place5 t r l]
  unfold out0_5
  rw [View.canon_unit_zero zeros]
  exact ((vg_row (fun r => H m c (rowAt t r)) (G m c) (ld0 m c t) (ld1 m c t) _ r l).trans
    (congrArg (u _ _) (funext fun k => ld_vg m c t k l)))

theorem final6 : (dats m 0 c).arrAt 6 cfg0.N = fun i : S4224x128.Idx =>
    lr m c (i 0) (i 1) := by
  refine (dats m 0 c).arrAt_eq_of_covers 6 _ (by decide +kernel) fun t hf y => ?_
  blk_simp
  rw [after0_6]
  obtain ⟨r, l, rfl⟩ : ∃ (r : Fin 1056) (l : Fin 128), y = (ix2 r l : S1056x128.Idx) := ⟨y 0, y 1, (ix2_eta _).symm⟩
  rw [show (win0_6.blk t).view.emb (ix2 r l : S1056x128.Idx) = (ix2 (rowAt t r) l : S4224x128.Idx) from place6 t r l]
  unfold out0_6
  rw [View.canon_unit_zero zeros]
  refine (lr_row (fun r => H m c (rowAt t r)) (G m c) (ld0 m c t) (ld1 m c t) _ r l).trans ?_
  show _ = lr m c (rowAt t r) l
  unfold lr
  simp only [ld_lr]
  by_cases h : l.val < 16
  · simp only [show 2560 + l.val < 2576 by omega, dite_true]
    rw [dif_pos h]
  · simp only [show ¬ 2560 + l.val < 2576 by omega, dite_false]
    rw [dif_neg h]
    simp only [u, mul_zero, Finset.sum_const_zero]

theorem final7 : (dats m 0 c).arrAt 7 cfg0.N = fun i : S4224x1024.Idx =>
    nm m c (i 0) (i 1) := by
  refine (dats m 0 c).arrAt_eq_of_covers 7 _ (by decide +kernel) fun t hf y => ?_
  blk_simp
  rw [after0_7]
  obtain ⟨r, l, rfl⟩ : ∃ (r : Fin 1056) (l : Fin 1024), y = (ix2 r l : S1056x1024.Idx) := ⟨y 0, y 1, (ix2_eta _).symm⟩
  rw [show (win0_7.blk t).view.emb (ix2 r l : S1056x1024.Idx) = (ix2 (rowAt t r) l : S4224x1024.Idx) from place7 t r l]
  unfold out0_7
  rw [View.canon_unit_zero zeros]
  exact (n_row (fun r => H m c (rowAt t r)) (G m c) (ld0 m c t) (ld1 m c t) r l)

end Cert.Fwd

end
-- ==== Proof.FwdRef.lean ====
/-
  THE REFERENCE OF `fwd_inproj`, read at an index: its five results are the rows' norms and products.
-/
module

public import proofs.«01_k».proof.Proof.FwdSpec
public import proofs.«01_k».proof.Proof.InpIndex
public import proofs.«01_k».proof.Proof.Lift
public import Idealize.ShloMosaic.Lib.KernelVsHost
public import proofs.«01_k».proof.Proof.Gen.Reference3Ideal.Read

@[expose] public section

set_option maxRecDepth 16384

noncomputable section

namespace Cert.Fwd.Ref

open Cert.Reference3Ideal Cert.Reference3Ideal.Gen Cert.Reference3Ideal.Read Idealize.ShloMosaic

theorem ix_idx_v0 (z : Fin 1) (q : Fin 16) (l : Fin 1024) : idx_main_v0 (ix3 z q l) = ix2 q l := funext fun a => by fin_cases a <;> rfl
theorem ix_idx_v1 (e : Fin 2) (q : Fin 16) (l : Fin 1024) : idx_main_v1 (ix3 e q l) = ix3 (0 : Fin 1) q l := funext fun a => by fin_cases a <;> rfl
theorem ix_idx_v4 (R : Fin 4224) (l : Fin 1024) : idx_main_v4 (ix2 R l) = ix3 (⟨R.val / 2112, by omega⟩ : Fin 2) (⟨R.val % 2112, by omega⟩ : Fin 2112) l := funext fun a => by
  fin_cases a
  · exact Fin.ext (show (R.val * 1024 + l.val) / 2162688 = R.val / 2112 by omega)
  · exact Fin.ext (show (R.val * 1024 + l.val) / 1024 % 2112 = R.val % 2112 by omega)
  · exact Fin.ext (show (R.val * 1024 + l.val) % 1024 = l.val by omega)
theorem ix_idx_v5 (l : Fin 1024) : idx_main_v5 (ix1 l) = ix2 (0 : Fin 1) l := funext fun a => by
  fin_cases a
  · exact Fin.ext (show 0 = 0 by omega)
  · exact Fin.ext (show (l.val) % 1024 = l.val by omega)
theorem ix_idx_v7 (R : Fin 4224) (c : Fin 1024) : idx_main_v7 (ix1 R) c = ix2 R c := funext fun a => by fin_cases a <;> rfl
theorem ix_idx_v8 (R : Fin 4224) (z : Fin 1) : idx_main_v8 (ix2 R z) = ix1 R := funext fun a => by fin_cases a <;> rfl
theorem ix_idx_v14 (R : Fin 4224) (l : Fin 1024) : idx_main_v14 (ix2 R l) = ix2 R (0 : Fin 1) := funext fun a => by fin_cases a <;> rfl
theorem ix_idx_v16 (z : Fin 1) (l : Fin 1024) : idx_main_v16 (ix2 z l) = ix1 l := funext fun a => by fin_cases a <;> rfl
theorem ix_idx_v17 (R : Fin 4224) (l : Fin 1024) : idx_main_v17 (ix2 R l) = ix2 (0 : Fin 1) l := funext fun a => by fin_cases a <;> rfl
theorem ix_idx_v19 (l : Fin 1024) (k : Fin 2576) : idx_main_v19 (ix2 l k) = ix3 (0 : Fin 1) l k := funext fun a => by
  fin_cases a
  · exact Fin.ext (show 0 = 0 by omega)
  · exact Fin.ext (show (l.val * 2576 + k.val) / 2576 % 1024 = l.val by omega)
  · exact Fin.ext (show (l.val * 2576 + k.val) % 2576 = k.val by omega)
theorem ix_lidx_v20 (R : Fin 4224) (k : Fin 2576) (c : Fin 1024) : lidx_main_v20 (ix2 R k) c = ix2 R c := funext fun a => by fin_cases a <;> rfl
theorem ix_ridx_v20 (R : Fin 4224) (k : Fin 2576) (c : Fin 1024) : ridx_main_v20 (ix2 R k) c = ix2 c k := funext fun a => by fin_cases a <;> rfl
theorem ix_idx_v22 (R : Fin 4224) (l : Fin 1024) : idx_main_v22 (ix2 R l) = ix2 R (⟨l.val, by omega⟩ : Fin 2576) := funext fun a => by fin_cases a <;> rfl
theorem ix_idx_v23 (R : Fin 4224) (l : Fin 512) : idx_main_v23 (ix2 R l) = ix2 R (⟨1024 + l.val, by omega⟩ : Fin 2576) := funext fun a => by
  fin_cases a
  · exact Fin.ext (show R.val = R.val by omega)
  · exact Fin.ext (show 1024 + l.val = 1024 + l.val by omega)
theorem ix_idx_v24 (R : Fin 4224) (l : Fin 1024) : idx_main_v24 (ix2 R l) = ix2 R (⟨1536 + l.val, by omega⟩ : Fin 2576) := funext fun a => by
  fin_cases a
  · exact Fin.ext (show R.val = R.val by omega)
  · exact Fin.ext (show 1536 + l.val = 1536 + l.val by omega)
theorem ix_idx_v25 (R : Fin 4224) (l : Fin 16) : idx_main_v25 (ix2 R l) = ix2 R (⟨2560 + l.val, by omega⟩ : Fin 2576) := funext fun a => by
  fin_cases a
  · exact Fin.ext (show R.val = R.val by omega)
  · exact Fin.ext (show 2560 + l.val = 2560 + l.val by omega)

variable (x0 : (⟨S2x2048x1024, .f32⟩ : BufTy).Contents (Elt Ideal)) (x1 : (⟨S16x1024, .f32⟩ : BufTy).Contents (Elt Ideal))
  (x2 : (⟨S1x1024x2576, .f32⟩ : BufTy).Contents (Elt Ideal)) (x3 : (⟨S1x1024, .f32⟩ : BufTy).Contents (Elt Ideal))

/-- The joined rows: padding, meta tokens, tokens. -/
theorem v4 (R : Fin 4224) (l : Fin 1024) : (val_main_v4 (F := Ideal) x0 x1 (ix2 R l) : EReal) = h x0 x1 R l := by
  rw [val_main_v4_apply, ix_idx_v4]
  unfold val_main_v3
  refine (Inproj.Ref.rows_apply _ _ _ _ _ _).trans ?_
  unfold h
  have hm := Nat.mod_lt R.val (show 0 < 2112 by omega)
  by_cases h0 : R.val % 2112 < 48
  · rw [dif_pos h0, dif_neg (by omega), dif_neg (by omega), val_main_v2_apply, val_main_cst_apply, Ideal.ofBits_def, Lift.ofBits_zero, EReal.coe_zero]
  by_cases h1 : R.val % 2112 < 64
  · rw [dif_neg h0, dif_pos h1, dif_neg (by omega), dif_pos (by omega), val_main_v1_apply, ix_idx_v1, val_main_v0_apply, ix_idx_v0]
  · rw [dif_neg h0, dif_neg h1, dif_pos (by omega)]

/-- The normed rows. -/
theorem v18 (R : Fin 4224) (l : Fin 1024) : (val_main_v18 (F := Ideal) x0 x1 x3 (ix2 R l) : EReal) = n (h x0 x1 R) (fun k => x3 (ix2 0 k)) l := by
  simp only [val_main_v18_apply, val_main_v17_apply, val_main_v16_apply, val_main_v15_apply, val_main_v14_apply, val_main_v13_apply,
    val_main_v12_apply, val_main_v11_apply, val_main_v10_apply, val_main_v9_apply, val_main_v8_apply, val_main_v7_apply, val_main_v6_apply,
    val_main_v5_apply, val_main_cst_0_apply, val_main_cst_1_apply, val_main_cst_2_apply, ix_idx_v5, ix_idx_v7, ix_idx_v8, ix_idx_v14,
    ix_idx_v16, ix_idx_v17, v4, pointwise]
  simp only [Lift.ofBits_zero, EReal.coe_zero, zero_add]
  rfl

/-- The projected rows. -/
theorem v21 (R : Fin 4224) (k : Fin 2576) : (val_main_v21 (F := Ideal) x0 x1 x2 x3 (ix2 R k) : EReal)
    = u (h x0 x1 R) (fun k => x3 (ix2 0 k)) (fun j => x2 (ix3 0 j k)) := by
  simp only [val_main_v21_apply, val_main_v20_apply, val_main_v19_apply, ix_lidx_v20, ix_ridx_v20, ix_idx_v19, v18, pointwise]
  rfl

theorem final22 : (val_main_v22 (F := Ideal) x0 x1 x2 x3) = fun i : S4224x1024.Idx =>
    u (h x0 x1 (i 0)) (fun k => x3 (ix2 0 k)) (fun j => x2 (ix3 0 j (⟨(i 1).val, lt_of_lt_of_le (i 1).isLt (by decide)⟩ : Fin 2576))) := by
  funext i
  obtain ⟨R, l, rfl⟩ : ∃ (R : Fin 4224) (l : Fin 1024), i = (ix2 R l : S4224x1024.Idx) := ⟨i 0, i 1, (ix2_eta _).symm⟩
  rw [val_main_v22_apply, ix_idx_v22, v21]
  rfl
theorem final23 : (val_main_v23 (F := Ideal) x0 x1 x2 x3) = fun i : S4224x512.Idx =>
    u (h x0 x1 (i 0)) (fun k => x3 (ix2 0 k)) (fun j => x2 (ix3 0 j (⟨1024 + (i 1).val, by have : (i 1).val < 512 := (i 1).isLt; omega⟩ : Fin 2576))) := by
  funext i
  obtain ⟨R, l, rfl⟩ : ∃ (R : Fin 4224) (l : Fin 512), i = (ix2 R l : S4224x512.Idx) := ⟨i 0, i 1, (ix2_eta _).symm⟩
  rw [val_main_v23_apply, ix_idx_v23, v21]
  rfl
theorem final24 : (val_main_v24 (F := Ideal) x0 x1 x2 x3) = fun i : S4224x1024.Idx =>
    u (h x0 x1 (i 0)) (fun k => x3 (ix2 0 k)) (fun j => x2 (ix3 0 j (⟨1536 + (i 1).val, by have : (i 1).val < 1024 := (i 1).isLt; omega⟩ : Fin 2576))) := by
  funext i
  obtain ⟨R, l, rfl⟩ : ∃ (R : Fin 4224) (l : Fin 1024), i = (ix2 R l : S4224x1024.Idx) := ⟨i 0, i 1, (ix2_eta _).symm⟩
  rw [val_main_v24_apply, ix_idx_v24, v21]
  rfl
theorem final26 : (val_main_v26 (F := Ideal) x0 x1 x2 x3) = fun i : S4224x128.Idx =>
    if h' : (i 1).val < 16 then
      u (h x0 x1 (i 0)) (fun k => x3 (ix2 0 k)) (fun j => x2 (ix3 0 j (⟨2560 + (i 1).val, by omega⟩ : Fin 2576)))
    else 0 := by
  funext i
  obtain ⟨R, l, rfl⟩ : ∃ (R : Fin 4224) (l : Fin 128), i = (ix2 R l : S4224x128.Idx) := ⟨i 0, i 1, (ix2_eta _).symm⟩
  unfold val_main_v26
  show _ = if h' : l.val < 16 then _ else _
  have key : ∀ (y : Vec Ideal S4224x16 .bf16), (pad S4224x128 ![0, 0] ![0, 112] ![0, 0] y (val_main_call0_v0 (F := Ideal))
      pads_S4224x16_S4224x128_000_01120 h_S_ (ix2 R l) : EReal) = if h' : l.val < 16 then y (ix2 R ⟨l.val, h'⟩) else 0 := fun y => by
    unfold val_main_call0_v0 val_main_c
    pointwise
    have hR := R.isLt
    have hl := l.isLt
    split_ifs
    all_goals first | omega | rfl | exact sitofp_zero (φ := .bf16)
  refine (key _).trans ?_
  by_cases h' : l.val < 16
  · rw [dif_pos h', dif_pos h', val_main_v25_apply, ix_idx_v25, v21]
    rfl
  · rw [dif_neg h', dif_neg h']
theorem final27 : (val_main_v27 (F := Ideal) x0 x1 x3) = fun i : S4224x1024.Idx => n (h x0 x1 (i 0)) (fun k => x3 (ix2 0 k)) (i 1) := by
  funext i
  obtain ⟨R, l, rfl⟩ : ∃ (R : Fin 4224) (l : Fin 1024), i = (ix2 R l : S4224x1024.Idx) := ⟨i 0, i 1, (ix2_eta _).symm⟩
  rw [val_main_v27_apply]
  exact v18 x0 x1 x3 R l

end Cert.Fwd.Ref

end
-- ==== Proof.FwdClaims.lean ====
/-
  THE CLAIMS ABOUT THE PROGRAMS OF `fwd_inproj`: the frames of the kernel and of the reference, and that both return the same
  five arrays of extended reals, whatever the arguments.
-/
module

public import proofs.«01_k».proof.Defs
public import proofs.«01_k».proof.Proof.Gen.Kernel3.Frame
public import proofs.«01_k».proof.Proof.FwdFinal
public import proofs.«01_k».proof.Proof.FwdRef
public import proofs.«01_k».proof.Proof.Gen.Reference3Ideal.Run
public import proofs.«01_k».proof.Proof.Gen.Reference3Ideal.Read
public import Idealize.ShloMosaic.Adequacy
public import Idealize.ShloMosaic.Init

@[expose] public section

set_option maxRecDepth 16384

noncomputable section

namespace Cert.Fwd

open Idealize.ShloMosaic Idealize.ShloMosaic.TcCoe Idealize.SL.Sem Idealize.ShloMosaic.StableHlo

/-- The reference runs, keeps its arguments and leaves no semaphore raised: it has none. -/
theorem frame_reference : Cert.quiescent_Reference3Ideal (hReference3Ideal := Cert.Reference3Ideal.Gen.facts) := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

set_option maxHeartbeats 1600000 in
/-- The four groups of products and the normed rows are the reference's. -/
theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    Cert.Kernel3Ideal.Value.run_blocks (F := Ideal) m g, ?_⟩
  refine (θ_run Cert.Reference3Ideal.defs _ _).mono (fun r h c => ?_) (Cert.Reference3Ideal.Value.run (F := Ideal) m' g')
  obtain ⟨e0, e1, e2, e3⟩ := hargs c
  obtain ⟨h0, h1, h2, h3, h4, hk⟩ := h c
  rw [e0, e1, e2, e3] at h0 h1 h2 h3
  rw [e0, e1, e3] at h4
  exact ⟨h0.trans ((Cert.Reference3Ideal.Read.val_main_v22_eq _ _ _ _).trans ((Ref.final22 _ _ _ _).trans (final3 m c).symm)),
    h1.trans ((Cert.Reference3Ideal.Read.val_main_v23_eq _ _ _ _).trans ((Ref.final23 _ _ _ _).trans (final4 m c).symm)),
    h2.trans ((Cert.Reference3Ideal.Read.val_main_v24_eq _ _ _ _).trans ((Ref.final24 _ _ _ _).trans (final5 m c).symm)),
    h3.trans ((Cert.Reference3Ideal.Read.val_main_v26_eq _ _ _ _).trans ((Ref.final26 _ _ _ _).trans (final6 m c).symm)),
    h4.trans ((Cert.Reference3Ideal.Read.val_main_v27_eq _ _ _).trans ((Ref.final27 _ _ _).trans (final7 m c).symm)), hk⟩

end Cert.Fwd

end
-- ==== Proof.ConvRun.lean ====
module

public import proofs.«01_k».proof.Proof.Gen.Kernel4Ideal.Frame.Runs

/-! What one call of the body leaves in its outputs: the body runs from any entry contents, and each output ends with the pieces written into it. -/

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- From any contents of the outputs and of the scratch the body ends with the inputs as they were and with the pieces of the two lists written over the outputs' entry contents. -/
def convRun (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
    (x0 : Vec F S2112x1024 .bf16) (x1 : Vec F S32x512 .f32) (x2 : Vec F S1x512 .f32) (x3 : Vec F S1x512 .f32) (x4 : Vec F S1x512 .f32) (x5 : Vec F S8x128 .f32)
    (f6 : BufTy.Contents (Elt F) arg7.view.ty) (f7 : BufTy.Contents (Elt F) arg8.view.ty) (fs0 : BufTy.Contents (Elt F) arg9.view.ty) :
    { L : List (View.Piece (Elt F) S2112x512 .f32) × List (View.Piece (Elt F) S2112x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} (arg7.view.writes (Elt F) f6 L.1)) ∗ (arg8.view.loc (c : Thread nD τ) ↦[arg8.view.set]{fullShare} (arg8.view.writes (Elt F) f7 L.2)) ∗ (∃ d, owns (c : Thread nD τ) arg9 fullShare d)) -∗ K ⟨⟩))
          ⊢ wp frame (wpE (defs₀ (F := F)) Variants.none c none) E (cc0_fwd_conv i arg1 harg1 arg2 harg2 arg3 harg3 arg4 harg4 arg5 harg5 arg6 harg6 arg7 harg7 arg8 harg8 arg9 harg9) K } := by
  refine ⟨(?_, ?_), fun E K => ?run⟩
  case run =>
    simp only [cc0_fwd_conv_eq_skeleton]; unfold cc0_fwd_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, H7, HS0, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexact H7
    iexists _, _; isplitr; swap; · iexact HS0
    ipureintro; rfl

end Cert.Kernel4Ideal.Gen

end
-- ==== Proof.ConvPlain.lean ====
/-
  THE CALL `fwd_conv` runs, at any values, keeps its arguments and leaves no semaphore raised.
-/
module

public import proofs.«01_k».proof.Proof.ConvRun
public import Idealize.ShloMosaic.Lib.Claim

@[expose] public section

set_option maxRecDepth 16384

noncomputable section

namespace Cert.Conv.Plain

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body runs from any contents of its outputs and of its scratch and keeps its inputs. -/
theorem run (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
    (x0 : Vec F S2112x1024 .bf16) (x1 : Vec F S32x512 .f32) (x2 : Vec F S1x512 .f32) (x3 : Vec F S1x512 .f32) (x4 : Vec F S1x512 .f32) (x5 : Vec F S8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fwd_conv i arg1 harg1 arg2 harg2 arg3 harg3 arg4 harg4 arg5 harg5 arg6 harg6 arg7 harg7 arg8 harg8 arg9 harg9) K := by
  intro E K
  iintro ⟨H0, H1, H2, H3, H4, H5, ⟨%d6, H6⟩, ⟨%d7, H7⟩, ⟨%d8, H8⟩, Hk⟩
  unfold owns
  icases H6 with ⟨%f6, %h6, H6⟩
  icases H7 with ⟨%f7, %h7, H7⟩
  icases H8 with ⟨%f8, %h8, H8⟩
  iapply ((convRun c i arg1 harg1 arg2 harg2 arg3 harg3 arg4 harg4 arg5 harg5 arg6 harg6 arg7 harg7 arg8 harg8 arg9 harg9 x0 x1 x2 x3 x4 x5 f6 f7 f8).2 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _, _; isplitr; swap; · iexact H6
    ipureintro; rfl
  isplitl [H7]
  · iexists _, _; isplitr; swap; · iexact H7
    ipureintro; rfl
  iexact HS

/-- The outputs, of which nothing is said here. -/
def forgets0 : Fin 8 → Bool := fun w => w.val == 6 || w.val == 7

/-- The proof data: every input at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩) (run_main m ρ)

/-- The program terminates, keeps its arguments and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Conv.Plain

end
-- ==== Proof.ConvSpec.lean ====
/-
  THE CONVOLUTION BRANCH, row by row, over the extended reals: a gated value per row, a causal convolution over 31 rows in
  each lane, a layer norm over the lanes, and the result times its own sigmoid.
-/
module

public import Idealize.ShloMosaic.Lib.Pointwise

@[expose] public section

noncomputable section

namespace Cert.Conv

open Idealize.ShloMosaic

/-- `1 / (1 + exp (- x))`. -/
def sg (x : EReal) : EReal := Ideal.div 1 (1 + Ideal.exp (-x))

/-- The first 512 lanes times the sigmoid of the last 512. -/
def gl (u : Fin 2112 → Fin 1024 → EReal) (t : Fin 2112) (l : Fin 512) : EReal :=
  u t (⟨l.val, by omega⟩ : Fin 1024) * sg (u t (⟨512 + l.val, by omega⟩ : Fin 1024))

/-- Rows with 30 rows of zeros before them. -/
def vp (v : Fin 2112 → Fin 512 → EReal) (p : ℕ) (l : Fin 512) : EReal :=
  if h : 30 ≤ p ∧ p < 2142 then v ⟨p - 30, by omega⟩ l else 0

/-- The convolution of row `t` in lane `l`: rows `t - 30` to `t`, each times its tap, and the bias. -/
def cv (v : Fin 2112 → Fin 512 → EReal) (w : Fin 31 → Fin 512 → EReal) (b : Fin 512 → EReal) (t : Fin 2112) (l : Fin 512) : EReal :=
  (∑ j : Fin 31, vp v (t.val + j.val) l * w j l) + b l

/-- A row's mean. -/
def mean (r : Fin 512 → EReal) : EReal := Ideal.div (∑ k, r k) (Ideal.ofBits .f32 0x44000000#32)

/-- A row less its mean, divided by the root of its variance, with a gain and a shift. -/
def ln (r g b : Fin 512 → EReal) (l : Fin 512) : EReal :=
  (r l - mean r) * Ideal.rsqrt (mean (fun k => (r k - mean r) * (r k - mean r)) + Ideal.ofBits .f32 0x3727C5AC#32) * g l + b l

/-- The normed row times its sigmoid. -/
def act (r g b : Fin 512 → EReal) (l : Fin 512) : EReal := ln r g b l * sg (ln r g b l)

end Cert.Conv

end
-- ==== Proof.ConvTap.lean ====
/-
  THE CONVOLUTION'S TAPS: one block of 64 rows and 128 lanes adds, from the bias on, 31 rows of the buffer each times its tap, the rows
  read through rolled windows. Read at an element it is the convolution of that row in that lane.
-/
module

public import proofs.«01_k».proof.Proof.ConvRun
public import proofs.«01_k».proof.Proof.ConvSpec
public import Idealize.ShloMosaic.Lib.Pipeline.ValueKit.Geometry
public import Idealize.ShloMosaic.Lib.Pipeline.ValueKit.Tiles

@[expose] public section

set_option maxRecDepth 16384

noncomputable section

namespace Cert.Conv

open Cert.Kernel4Ideal Cert.Kernel4Ideal.Gen Idealize.ShloMosaic Idealize.ShloMosaic.TcCoe Idealize.SL.Sem

/-- A load through a rectangle of unit stride at an element. -/
theorem rd2 {sig : RefSig} {κ : Kind} {sp : Space} {e : EltTy} {Val : EltTy → Type} {n0 n1 z0 z1 : ℕ} (v : View sig κ sp ⟨2, ![n0, n1]⟩ e)
    (X : v.ty.Contents Val) (off : Fin 2 → ℕ) (inb) (a : Fin z0) (b : Fin z1) (i : Fin n0) (j : Fin n1) (hi : i.val = off 0 + a.val) (hj : j.val = off 1 + b.val) :
    View.readAt Val v (Rect.unit (s := ⟨2, ![n0, n1]⟩) off (⟨2, ![z0, z1]⟩ : Shape).size inb).toLoadRect X (ix2 a b) = v.read Val X (ix2 i j) :=
  View.ld_unit_apply_of (v.read Val X) off _ inb (ix2 a b) (ix2 i j) (fun c => by
    refine Fin.cases ?_ (fun c => ?_) c
    · exact hi
    · obtain rfl : c = 0 := by omega
      exact hj)

/-- The rows of the buffer: 64 rows of zeros, then the given rows. -/
def S9 (v : Fin 2112 → Fin 512 → EReal) : S2176x512.Idx → EReal := fun i => if h : 64 ≤ (i 0).val then v ⟨(i 0).val - 64, by have := (i 0).isLt; change (i 0).val < 2176 at this; omega⟩ (i 1) else 0

theorem swap (v : Fin 2112 → Fin 512 → EReal) (w : Fin 31 → Fin 512 → EReal) (b : Fin 512 → EReal) (t : Fin 2112) (l : Fin 512) :
    (∑ j : Fin 31, w j l * vp v (t.val + j.val) l) + b l = cv v w b t l := by
  unfold cv
  congr 1
  exact Finset.sum_congr rfl fun j _ => mul_comm _ _

/-- The 31 taps added in any order. -/
theorem order (b : EReal) (f : Fin 31 → EReal) :
    b + f 6 + f 14 + f 22 + f 30 + f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 = (∑ j, f j) + b := by
  simp only [Fin.sum_univ_castSucc, Fin.sum_univ_zero, zero_add]
  change _ = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + b
  ac_rfl

section Taps

variable (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
  {X2 : BufTy.Contents (Elt Ideal) arg2.view.ty} {X3 : BufTy.Contents (Elt Ideal) arg3.view.ty} {X9 : BufTy.Contents (Elt Ideal) arg9.view.ty}
  (v : Fin 2112 → Fin 512 → EReal) (w : Fin 31 → Fin 512 → EReal) (b : Fin 512 → EReal)

theorem s9_apply (v : Fin 2112 → Fin 512 → EReal) (k a : ℕ) (hk : k < 33) (ha : a < 96) (l : Fin 512) :
    S9 v (ix2 ⟨64 * k + 32 + a, by omega⟩ l) = vp v (64 * k + a - 2) l := by
  unfold S9 vp
  by_cases h : 64 ≤ 64 * k + 32 + a
  · rw [dif_pos (show 64 ≤ ((ix2 (⟨64 * k + 32 + a, by omega⟩ : Fin 2176) l) 0).val from h), dif_pos ⟨by omega, by omega⟩]
    congr 1
    apply Fin.ext
    show 64 * k + 32 + a - 64 = 64 * k + a - 2 - 30
    omega
  · rw [dif_neg (show ¬ 64 ≤ ((ix2 (⟨64 * k + 32 + a, by omega⟩ : Fin 2176) l) 0).val from h), dif_neg (by omega)]

theorem off4 : ∀ k : Fin k0_t2_loop.trips, k0_off4 k 0 = 64 * k.val + 32 ∧ k0_off4 k 1 = 0 := by decide +kernel

set_option maxHeartbeats 1600000 in
theorem tap0 (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (k : Fin k0_t2_loop.trips) (hk : k.val < 33) (r : Fin 64) (l : Fin 128) :
    ((k0_pay17 (trip_k0_t2.sl.r arg9 X9 k) (trip_k0_t2.sl.r_10 arg2 arg3 arg9 X2 X3 X9 k) (trip_k0_t2.sl.r_11 arg9 X9 k) (trip_k0_t2.sl.r_12 arg2 X2) (View.readAt (Elt Ideal) arg2.view (Rect.unit (s := S32x512) ![5, 0] S1x128.size inb_S32x512_S1x128_5_0).toLoadRect X2) (View.readAt (Elt Ideal) arg2.view (Rect.unit (s := S32x512) ![13, 0] S1x128.size inb_S32x512_S1x128_13_0).toLoadRect X2) (View.readAt (Elt Ideal) arg2.view (Rect.unit (s := S32x512) ![21, 0] S1x128.size inb_S32x512_S1x128_21_0).toLoadRect X2) (View.readAt (Elt Ideal) arg2.view (Rect.unit (s := S32x512) ![29, 0] S1x128.size inb_S32x512_S1x128_29_0).toLoadRect X2)) (ix2 r l) : EReal)
      = cv v w b ⟨64 * k.val + r.val, by omega⟩ ⟨l.val, by omega⟩ := by
  have hs : ∀ (a : ℕ) (h : a < 96), (View.readAt (Elt Ideal) arg9.view (Rect.unit (s := S2176x512) (k0_off4 k) S96x128.size (k0_off4_inb k)).toLoadRect X9 (ix2 ⟨a, h⟩ l) : EReal)
      = vp v (64 * k.val + a - 2) ⟨l.val, by omega⟩ := fun a h => by
    rw [← s9_apply v k.val a hk h, ← h9]
    exact rd2 arg9.view X9 _ _ _ _ _ _ (by rw [(off4 k).1]) (by have := (off4 k).2; dsimp only; omega)
  have hw : ∀ (j : Fin 31) (inb), (View.readAt (Elt Ideal) arg2.view (Rect.unit (s := S32x512) ![j.val, 0] S1x128.size inb).toLoadRect X2 (ix2 0 l) : EReal) = w j ⟨l.val, by omega⟩ := fun j inb => by
    rw [← h2]
    exact rd2 arg2.view X2 _ _ _ _ _ _ rfl (by simp)
  have hb : ∀ (inb), (View.readAt (Elt Ideal) arg3.view (Rect.unit (s := S1x512) ![0, 0] S1x128.size inb).toLoadRect X3 (ix2 0 l) : EReal) = b ⟨l.val, by omega⟩ := fun inb => by
    rw [← h3]
    exact rd2 arg3.view X3 _ _ _ _ _ _ rfl (by simp)
  have w0 : ∀ inb, (View.readAt (Elt Ideal) arg2.view (Rect.unit (s := S32x512) ![0, 0] S1x128.size inb).toLoadRect X2 (ix2 0 l) : EReal) = w 0 ⟨l.val, by omega⟩ := hw 0
  have w1 : ∀ inb, (View.readAt (Elt Ideal) arg2.view (Rect.unit (s := S32x512) ![1, 0] S1x128.size inb).toLoadRect X2 (ix2 0 l) : EReal) = w 1 ⟨l.val, by omega⟩ := hw 1
  have w2 : ∀ inb, (View.readAt (Elt Ideal) arg2.view (Rect.unit (s := S32x512) ![2, 0] S1x128.size inb).toLoadRect X2 (ix2 0 l) : EReal) = w 2 ⟨l.val, by omega⟩ := hw 2
  have w3 : ∀ inb, (View.readAt (Elt Ideal) arg2.view (Rect.unit (s := S32x512) ![3, 0] S1x128.size inb).toLoadRect X2 (ix2 0 l) : EReal) = w 3 ⟨l.val, by omega⟩ := hw 3
  have w4 : ∀ inb, (View.readAt (Elt Ideal) arg2.view (Rect.unit (s := S32x512) ![4, 0] S1x128.size inb).toLoadRect X2 (ix2 0 l) : EReal) = w 4 ⟨l.val, by omega⟩ := hw 4
  have w5 : ∀ inb, (View.readAt (Elt Ideal) arg2.view (Rect.unit (s := S32x512) ![5, 0] S1x128.size inb).toLoadRect X2 (ix2 0 l) : EReal) = w 5 ⟨l.val, by omega⟩ := hw 5
  have w6 : ∀ inb, (View.readAt (Elt Ideal) arg2.view (Rect.unit (s := S32x512) ![6, 0] S1x128.size inb).toLoadRect X2 (ix2 0 l) : EReal) = w 6 ⟨l.val, by omega⟩ := hw 6
  have w7 : ∀ inb, (View.readAt (Elt Ideal) arg2.view (Rect.unit (s := S32x512) ![7, 0] S1x128.size inb).toLoadRect X2 (ix2 0 l) : EReal) = w 7 ⟨l.val, by omega⟩ := hw 7
  have w8 : ∀ inb, (View.readAt (Elt Ideal) arg2.view (Rect.unit (s := S32x512) ![8, 0] S1x128.size inb).toLoadRect X2 (ix2 0 l) : EReal) = w 8 ⟨l.val, by omega⟩ := hw 8
  have w9 : ∀ inb, (View.readAt (Elt Ideal) arg2.view (Rect.unit (s := S32x512) ![9, 0] S1x128.size inb).toLoadRect X2 (ix2 0 l) : EReal) = w 9 ⟨l.val, by omega⟩ := hw 9
  have w10 : ∀ inb, (View.readAt (Elt Ideal) arg2.view (Rect.unit (s := S32x512) ![10, 0] S1x128.size inb).toLoadRect X2 (ix2 0 l) : EReal) = w 10 ⟨l.val, by omega⟩ := hw 10
  have w11 : ∀ inb, (View.readAt (Elt Ideal) arg2.view (Rect.unit (s := S32x512) ![11, 0] S1x128.size inb).toLoadRect X2 (ix2 0 l) : EReal) = w 11 ⟨l.val, by omega⟩ := hw 11
  have w12 : ∀ inb, (View.readAt (Elt Ideal) arg2.view (Rect.unit (s := S32x512) ![12, 0] S1x128.size inb).toLoadRect X2 (ix2 0 l) : EReal) = w 12 ⟨l.val, by omega⟩ := hw 12
  have w13 : ∀ inb, (View.readAt (Elt Ideal) arg2.view (Rect.unit (s := S32x512) ![13, 0] S1x128.size inb).toLoadRect X2 (ix2 0 l) : EReal) = w 13 ⟨l.val, by omega⟩ := hw 13
  have w14 : ∀ inb, (View.readAt (Elt Ideal) arg2.view (Rect.unit (s := S32x512) ![14, 0] S1x128.size inb).toLoadRect X2 (ix2 0 l) : EReal) = w 14 ⟨l.val, by omega⟩ := hw 14
  have w15 : ∀ inb, (View.readAt (Elt Ideal) arg2.view (Rect.unit (s := S32x512) ![15, 0] S1x128.size inb).toLoadRect X2 (ix2 0 l) : EReal) = w 15 ⟨l.val, by omega⟩ := hw 15
  have w16 : ∀ inb, (View.readAt (Elt Ideal) arg2.view (Rect.unit (s := S32x512) ![16, 0] S1x128.size inb).toLoadRect X2 (ix2 0 l) : EReal) = w 16 ⟨l.val, by omega⟩ := hw 16
  have w17 : ∀ inb, (View.readAt (Elt Ideal) arg2.view (Rect.unit (s := S32x512) ![17, 0] S1x128.size inb).toLoadRect X2 (ix2 0 l) : EReal) = w 17 ⟨l.val, by omega⟩ := hw 17
  have w18 : ∀ inb, (View.readAt (Elt Ideal) arg2.view (Rect.unit (s := S32x512) ![18, 0] S1x128.size inb).toLoadRect X2 (ix2 0 l) : EReal) = w 18 ⟨l.val, by omega⟩ := hw 18
  have w19 : ∀ inb, (View.readAt (Elt Ideal) arg2.view (Rect.unit (s := S32x512) ![19, 0] S1x128.size inb).toLoadRect X2 (ix2 0 l) : EReal) = w 19 ⟨l.val, by omega⟩ := hw 19
  have w20 : ∀ inb, (View.readAt (Elt Ideal) arg2.view (Rect.unit (s := S32x512) ![20, 0] S1x128.size inb).toLoadRect X2 (ix2 0 l) : EReal) = w 20 ⟨l.val, by omega⟩ := hw 20
  have w21 : ∀ inb, (View.readAt (Elt Ideal) arg2.view (Rect.unit (s := S32x512) ![21, 0] S1x128.size inb).toLoadRect X2 (ix2 0 l) : EReal) = w 21 ⟨l.val, by omega⟩ := hw 21
  have w22 : ∀ inb, (View.readAt (Elt Ideal) arg2.view (Rect.unit (s := S32x512) ![22, 0] S1x128.size inb).toLoadRect X2 (ix2 0 l) : EReal) = w 22 ⟨l.val, by omega⟩ := hw 22
  have w23 : ∀ inb, (View.readAt (Elt Ideal) arg2.view (Rect.unit (s := S32x512) ![23, 0] S1x128.size inb).toLoadRect X2 (ix2 0 l) : EReal) = w 23 ⟨l.val, by omega⟩ := hw 23
  have w24 : ∀ inb, (View.readAt (Elt Ideal) arg2.view (Rect.unit (s := S32x512) ![24, 0] S1x128.size inb).toLoadRect X2 (ix2 0 l) : EReal) = w 24 ⟨l.val, by omega⟩ := hw 24
  have w25 : ∀ inb, (View.readAt (Elt Ideal) arg2.view (Rect.unit (s := S32x512) ![25, 0] S1x128.size inb).toLoadRect X2 (ix2 0 l) : EReal) = w 25 ⟨l.val, by omega⟩ := hw 25
  have w26 : ∀ inb, (View.readAt (Elt Ideal) arg2.view (Rect.unit (s := S32x512) ![26, 0] S1x128.size inb).toLoadRect X2 (ix2 0 l) : EReal) = w 26 ⟨l.val, by omega⟩ := hw 26
  have w27 : ∀ inb, (View.readAt (Elt Ideal) arg2.view (Rect.unit (s := S32x512) ![27, 0] S1x128.size inb).toLoadRect X2 (ix2 0 l) : EReal) = w 27 ⟨l.val, by omega⟩ := hw 27
  have w28 : ∀ inb, (View.readAt (Elt Ideal) arg2.view (Rect.unit (s := S32x512) ![28, 0] S1x128.size inb).toLoadRect X2 (ix2 0 l) : EReal) = w 28 ⟨l.val, by omega⟩ := hw 28
  have w29 : ∀ inb, (View.readAt (Elt Ideal) arg2.view (Rect.unit (s := S32x512) ![29, 0] S1x128.size inb).toLoadRect X2 (ix2 0 l) : EReal) = w 29 ⟨l.val, by omega⟩ := hw 29
  have w30 : ∀ inb, (View.readAt (Elt Ideal) arg2.view (Rect.unit (s := S32x512) ![30, 0] S1x128.size inb).toLoadRect X2 (ix2 0 l) : EReal) = w 30 ⟨l.val, by omega⟩ := hw 30
  pointwise [k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_6, trip_k0_t2.sl.r_7, trip_k0_t2.sl.r_8, trip_k0_t2.sl.r_9]
  simp only [hs, hb, w0, w1, w2, w3, w4, w5, w6, w7, w8, w9, w10, w11, w12, w13, w14, w15, w16, w17, w18, w19, w20, w21, w22, w23, w24, w25, w26, w27, w28, w29, w30]
  simp only [show 64 * k.val + (8 + r.val) - 2 = 64 * k.val + r.val + 6 from by omega,
    show 64 * k.val + (16 + r.val) - 2 = 64 * k.val + r.val + 14 from by omega,
    show 64 * k.val + (24 + r.val) - 2 = 64 * k.val + r.val + 22 from by omega,
    show 64 * k.val + (32 + r.val) - 2 = 64 * k.val + r.val + 30 from by omega,
    show 64 * k.val + ((8 + r.val + 96 - 95) % 96) - 2 = 64 * k.val + r.val + 7 from by omega,
    show 64 * k.val + ((16 + r.val + 96 - 95) % 96) - 2 = 64 * k.val + r.val + 15 from by omega,
    show 64 * k.val + ((24 + r.val + 96 - 95) % 96) - 2 = 64 * k.val + r.val + 23 from by omega,
    show 64 * k.val + ((r.val + 96 - 94) % 96) - 2 = 64 * k.val + r.val + 0 from by omega,
    show 64 * k.val + ((8 + r.val + 96 - 94) % 96) - 2 = 64 * k.val + r.val + 8 from by omega,
    show 64 * k.val + ((16 + r.val + 96 - 94) % 96) - 2 = 64 * k.val + r.val + 16 from by omega,
    show 64 * k.val + ((24 + r.val + 96 - 94) % 96) - 2 = 64 * k.val + r.val + 24 from by omega,
    show 64 * k.val + ((r.val + 96 - 93) % 96) - 2 = 64 * k.val + r.val + 1 from by omega,
    show 64 * k.val + ((8 + r.val + 96 - 93) % 96) - 2 = 64 * k.val + r.val + 9 from by omega,
    show 64 * k.val + ((16 + r.val + 96 - 93) % 96) - 2 = 64 * k.val + r.val + 17 from by omega,
    show 64 * k.val + ((24 + r.val + 96 - 93) % 96) - 2 = 64 * k.val + r.val + 25 from by omega,
    show 64 * k.val + ((r.val + 96 - 92) % 96) - 2 = 64 * k.val + r.val + 2 from by omega,
    show 64 * k.val + ((8 + r.val + 96 - 92) % 96) - 2 = 64 * k.val + r.val + 10 from by omega,
    show 64 * k.val + ((16 + r.val + 96 - 92) % 96) - 2 = 64 * k.val + r.val + 18 from by omega,
    show 64 * k.val + ((24 + r.val + 96 - 92) % 96) - 2 = 64 * k.val + r.val + 26 from by omega,
    show 64 * k.val + ((r.val + 96 - 91) % 96) - 2 = 64 * k.val + r.val + 3 from by omega,
    show 64 * k.val + ((8 + r.val + 96 - 91) % 96) - 2 = 64 * k.val + r.val + 11 from by omega,
    show 64 * k.val + ((16 + r.val + 96 - 91) % 96) - 2 = 64 * k.val + r.val + 19 from by omega,
    show 64 * k.val + ((24 + r.val + 96 - 91) % 96) - 2 = 64 * k.val + r.val + 27 from by omega,
    show 64 * k.val + ((r.val + 96 - 90) % 96) - 2 = 64 * k.val + r.val + 4 from by omega,
    show 64 * k.val + ((8 + r.val + 96 - 90) % 96) - 2 = 64 * k.val + r.val + 12 from by omega,
    show 64 * k.val + ((16 + r.val + 96 - 90) % 96) - 2 = 64 * k.val + r.val + 20 from by omega,
    show 64 * k.val + ((24 + r.val + 96 - 90) % 96) - 2 = 64 * k.val + r.val + 28 from by omega,
    show 64 * k.val + ((r.val + 96 - 89) % 96) - 2 = 64 * k.val + r.val + 5 from by omega,
    show 64 * k.val + ((8 + r.val + 96 - 89) % 96) - 2 = 64 * k.val + r.val + 13 from by omega,
    show 64 * k.val + ((16 + r.val + 96 - 89) % 96) - 2 = 64 * k.val + r.val + 21 from by omega,
    show 64 * k.val + ((24 + r.val + 96 - 89) % 96) - 2 = 64 * k.val + r.val + 29 from by omega]
  exact (order (b ⟨l.val, by omega⟩) (fun j => w j ⟨l.val, by omega⟩ * vp v (64 * k.val + r.val + j.val) ⟨l.val, by omega⟩)).trans
    (swap v w b ⟨64 * k.val + r.val, by omega⟩ ⟨l.val, by omega⟩)

theorem off6 : ∀ k : Fin k0_t2_loop.trips, k0_off6 k 0 = 64 * k.val + 32 ∧ k0_off6 k 1 = 128 := by decide +kernel

set_option maxHeartbeats 1600000 in
theorem tap1 (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (k : Fin k0_t2_loop.trips) (hk : k.val < 33) (r : Fin 64) (l : Fin 128) :
    ((k0_pay30 (trip_k0_t2.sl.r_24 arg9 X9 k) (trip_k0_t2.sl.r_25 arg2 arg3 arg9 X2 X3 X9 k) (View.readAt (Elt Ideal) arg2.view (Rect.unit (s := S32x512) ![21, 128] S1x128.size inb_S32x512_S1x128_21_128).toLoadRect X2) (View.readAt (Elt Ideal) arg2.view (Rect.unit (s := S32x512) ![29, 128] S1x128.size inb_S32x512_S1x128_29_128).toLoadRect X2)) (ix2 r l) : EReal)
      = cv v w b ⟨64 * k.val + r.val, by omega⟩ ⟨128 + l.val, by omega⟩ := by
  have hs : ∀ (a : ℕ) (h : a < 96), (View.readAt (Elt Ideal) arg9.view (Rect.unit (s := S2176x512) (k0_off6 k) S96x128.size (k0_off6_inb k)).toLoadRect X9 (ix2 ⟨a, h⟩ l) : EReal)
      = vp v (64 * k.val + a - 2) ⟨128 + l.val, by omega⟩ := fun a h => by
    rw [← s9_apply v k.val a hk h, ← h9]
    exact rd2 arg9.view X9 _ _ _ _ _ _ (by rw [(off6 k).1]) (by have := (off6 k).2; dsimp only; omega)
  have hw : ∀ (j : Fin 31) (inb), (View.readAt (Elt Ideal) arg2.view (Rect.unit (s := S32x512) ![j.val, 128] S1x128.size inb).toLoadRect X2 (ix2 0 l) : EReal) = w j ⟨128 + l.val, by omega⟩ := fun j inb => by
    rw [← h2]
    exact rd2 arg2.view X2 _ _ _ _ _ _ rfl (by simp)
  have hb : ∀ (inb), (View.readAt (Elt Ideal) arg3.view (Rect.unit (s := S1x512) ![0, 128] S1x128.size inb).toLoadRect X3 (ix2 0 l) : EReal) = b ⟨128 + l.val, by omega⟩ := fun inb => by
    rw [← h3]
    exact rd2 arg3.view X3 _ _ _ _ _ _ rfl (by simp)
  have w0 : ∀ inb, (View.readAt (Elt Ideal) arg2.view (Rect.unit (s := S32x512) ![0, 128] S1x128.size inb).toLoadRect X2 (ix2 0 l) : EReal) = w 0 ⟨128 + l.val, by omega⟩ := hw 0
  have w1 : ∀ inb, (View.readAt (Elt Ideal) arg2.view (Rect.unit (s := S32x512) ![1, 128] S1x128.size inb).toLoadRect X2 (ix2 0 l) : EReal) = w 1 ⟨128 + l.val, by omega⟩ := hw 1
  have w2 : ∀ inb, (View.readAt (Elt Ideal) arg2.view (Rect.unit (s := S32x512) ![2, 128] S1x128.size inb).toLoadRect X2 (ix2 0 l) : EReal) = w 2 ⟨128 + l.val, by omega⟩ := hw 2
  have w3 : ∀ inb, (View.readAt (Elt Ideal) arg2.view (Rect.unit (s := S32x512) ![3, 128] S1x128.size inb).toLoadRect X2 (ix2 0 l) : EReal) = w 3 ⟨128 + l.val, by omega⟩ := hw 3
  have w4 : ∀ inb, (View.readAt (Elt Ideal) arg2.view (Rect.unit (s := S32x512) ![4, 128] S1x128.size inb).toLoadRect X2 (ix2 0 l) : EReal) = w 4 ⟨128 + l.val, by omega⟩ := hw 4
  have w5 : ∀ inb, (View.readAt (Elt Ideal) arg2.view (Rect.unit (s := S32x512) ![5, 128] S1x128.size inb).toLoadRect X2 (ix2 0 l) : EReal) = w 5 ⟨128 + l.val, by omega⟩ := hw 5
  have w6 : ∀ inb, (View.readAt (Elt Ideal) arg2.view (Rect.unit (s := S32x512) ![6, 128] S1x128.size inb).toLoadRect X2 (ix2 0 l) : EReal) = w 6 ⟨128 + l.val, by omega⟩ := hw 6
  have w7 : ∀ inb, (View.readAt (Elt Ideal) arg2.view (Rect.unit (s := S32x512) ![7, 128] S1x128.size inb).toLoadRect X2 (ix2 0 l) : EReal) = w 7 ⟨128 + l.val, by omega⟩ := hw 7
  have w8 : ∀ inb, (View.readAt (Elt Ideal) arg2.view (Rect.unit (s := S32x512) ![8, 128] S1x128.size inb).toLoadRect X2 (ix2 0 l) : EReal) = w 8 ⟨128 + l.val, by omega⟩ := hw 8
  have w9 : ∀ inb, (View.readAt (Elt Ideal) arg2.view (Rect.unit (s := S32x512) ![9, 128] S1x128.size inb).toLoadRect X2 (ix2 0 l) : EReal) = w 9 ⟨128 + l.val, by omega⟩ := hw 9
  have w10 : ∀ inb, (View.readAt (Elt Ideal) arg2.view (Rect.unit (s := S32x512) ![10, 128] S1x128.size inb).toLoadRect X2 (ix2 0 l) : EReal) = w 10 ⟨128 + l.val, by omega⟩ := hw 10
  have w11 : ∀ inb, (View.readAt (Elt Ideal) arg2.view (Rect.unit (s := S32x512) ![11, 128] S1x128.size inb).toLoadRect X2 (ix2 0 l) : EReal) = w 11 ⟨128 + l.val, by omega⟩ := hw 11
  have w12 : ∀ inb, (View.readAt (Elt Ideal) arg2.view (Rect.unit (s := S32x512) ![12, 128] S1x128.size inb).toLoadRect X2 (ix2 0 l) : EReal) = w 12 ⟨128 + l.val, by omega⟩ := hw 12
  have w13 : ∀ inb, (View.readAt (Elt Ideal) arg2.view (Rect.unit (s := S32x512) ![13, 128] S1x128.size inb).toLoadRect X2 (ix2 0 l) : EReal) = w 13 ⟨128 + l.val, by omega⟩ := hw 13
  have w14 : ∀ inb, (View.readAt (Elt Ideal) arg2.view (Rect.unit (s := S32x512) ![14, 128] S1x128.size inb).toLoadRect X2 (ix2 0 l) : EReal) = w 14 ⟨128 + l.val, by omega⟩ := hw 14
  have w15 : ∀ inb, (View.readAt (Elt Ideal) arg2.view (Rect.unit (s := S32x512) ![15, 128] S1x128.size inb).toLoadRect X2 (ix2 0 l) : EReal) = w 15 ⟨128 + l.val, by omega⟩ := hw 15
  have w16 : ∀ inb, (View.readAt (Elt Ideal) arg2.view (Rect.unit (s := S32x512) ![16, 128] S1x128.size inb).toLoadRect X2 (ix2 0 l) : EReal) = w 16 ⟨128 + l.val, by omega⟩ := hw 16
  have w17 : ∀ inb, (View.readAt (Elt Ideal) arg2.view (Rect.unit (s := S32x512) ![17, 128] S1x128.size inb).toLoadRect X2 (ix2 0 l) : EReal) = w 17 ⟨128 + l.val, by omega⟩ := hw 17
  have w18 : ∀ inb, (View.readAt (Elt Ideal) arg2.view (Rect.unit (s := S32x512) ![18, 128] S1x128.size inb).toLoadRect X2 (ix2 0 l) : EReal) = w 18 ⟨128 + l.val, by omega⟩ := hw 18
  have w19 : ∀ inb, (View.readAt (Elt Ideal) arg2.view (Rect.unit (s := S32x512) ![19, 128] S1x128.size inb).toLoadRect X2 (ix2 0 l) : EReal) = w 19 ⟨128 + l.val, by omega⟩ := hw 19
  have w20 : ∀ inb, (View.readAt (Elt Ideal) arg2.view (Rect.unit (s := S32x512) ![20, 128] S1x128.size inb).toLoadRect X2 (ix2 0 l) : EReal) = w 20 ⟨128 + l.val, by omega⟩ := hw 20
  have w21 : ∀ inb, (View.readAt (Elt Ideal) arg2.view (Rect.unit (s := S32x512) ![21, 128] S1x128.size inb).toLoadRect X2 (ix2 0 l) : EReal) = w 21 ⟨128 + l.val, by omega⟩ := hw 21
  have w22 : ∀ inb, (View.readAt (Elt Ideal) arg2.view (Rect.unit (s := S32x512) ![22, 128] S1x128.size inb).toLoadRect X2 (ix2 0 l) : EReal) = w 22 ⟨128 + l.val, by omega⟩ := hw 22
  have w23 : ∀ inb, (View.readAt (Elt Ideal) arg2.view (Rect.unit (s := S32x512) ![23, 128] S1x128.size inb).toLoadRect X2 (ix2 0 l) : EReal) = w 23 ⟨128 + l.val, by omega⟩ := hw 23
  have w24 : ∀ inb, (View.readAt (Elt Ideal) arg2.view (Rect.unit (s := S32x512) ![24, 128] S1x128.size inb).toLoadRect X2 (ix2 0 l) : EReal) = w 24 ⟨128 + l.val, by omega⟩ := hw 24
  have w25 : ∀ inb, (View.readAt (Elt Ideal) arg2.view (Rect.unit (s := S32x512) ![25, 128] S1x128.size inb).toLoadRect X2 (ix2 0 l) : EReal) = w 25 ⟨128 + l.val, by omega⟩ := hw 25
  have w26 : ∀ inb, (View.readAt (Elt Ideal) arg2.view (Rect.unit (s := S32x512) ![26, 128] S1x128.size inb).toLoadRect X2 (ix2 0 l) : EReal) = w 26 ⟨128 + l.val, by omega⟩ := hw 26
  have w27 : ∀ inb, (View.readAt (Elt Ideal) arg2.view (Rect.unit (s := S32x512) ![27, 128] S1x128.size inb).toLoadRect X2 (ix2 0 l) : EReal) = w 27 ⟨128 + l.val, by omega⟩ := hw 27
  have w28 : ∀ inb, (View.readAt (Elt Ideal) arg2.view (Rect.unit (s := S32x512) ![28, 128] S1x128.size inb).toLoadRect X2 (ix2 0 l) : EReal) = w 28 ⟨128 + l.val, by omega⟩ := hw 28
  have w29 : ∀ inb, (View.readAt (Elt Ideal) arg2.view (Rect.unit (s := S32x512) ![29, 128] S1x128.size inb).toLoadRect X2 (ix2 0 l) : EReal) = w 29 ⟨128 + l.val, by omega⟩ := hw 29
  have w30 : ∀ inb, (View.readAt (Elt Ideal) arg2.view (Rect.unit (s := S32x512) ![30, 128] S1x128.size inb).toLoadRect X2 (ix2 0 l) : EReal) = w 30 ⟨128 + l.val, by omega⟩ := hw 30
  pointwise [k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_6, trip_k0_t2.sl.r_7, trip_k0_t2.sl.r_8, trip_k0_t2.sl.r_9]
  simp only [hs, hb, w0, w1, w2, w3, w4, w5, w6, w7, w8, w9, w10, w11, w12, w13, w14, w15, w16, w17, w18, w19, w20, w21, w22, w23, w24, w25, w26, w27, w28, w29, w30]
  simp only [show 64 * k.val + (8 + r.val) - 2 = 64 * k.val + r.val + 6 from by omega,
    show 64 * k.val + (16 + r.val) - 2 = 64 * k.val + r.val + 14 from by omega,
    show 64 * k.val + (24 + r.val) - 2 = 64 * k.val + r.val + 22 from by omega,
    show 64 * k.val + (32 + r.val) - 2 = 64 * k.val + r.val + 30 from by omega,
    show 64 * k.val + ((8 + r.val + 96 - 95) % 96) - 2 = 64 * k.val + r.val + 7 from by omega,
    show 64 * k.val + ((16 + r.val + 96 - 95) % 96) - 2 = 64 * k.val + r.val + 15 from by omega,
    show 64 * k.val + ((24 + r.val + 96 - 95) % 96) - 2 = 64 * k.val + r.val + 23 from by omega,
    show 64 * k.val + ((r.val + 96 - 94) % 96) - 2 = 64 * k.val + r.val + 0 from by omega,
    show 64 * k.val + ((8 + r.val + 96 - 94) % 96) - 2 = 64 * k.val + r.val + 8 from by omega,
    show 64 * k.val + ((16 + r.val + 96 - 94) % 96) - 2 = 64 * k.val + r.val + 16 from by omega,
    show 64 * k.val + ((24 + r.val + 96 - 94) % 96) - 2 = 64 * k.val + r.val + 24 from by omega,
    show 64 * k.val + ((r.val + 96 - 93) % 96) - 2 = 64 * k.val + r.val + 1 from by omega,
    show 64 * k.val + ((8 + r.val + 96 - 93) % 96) - 2 = 64 * k.val + r.val + 9 from by omega,
    show 64 * k.val + ((16 + r.val + 96 - 93) % 96) - 2 = 64 * k.val + r.val + 17 from by omega,
    show 64 * k.val + ((24 + r.val + 96 - 93) % 96) - 2 = 64 * k.val + r.val + 25 from by omega,
    show 64 * k.val + ((r.val + 96 - 92) % 96) - 2 = 64 * k.val + r.val + 2 from by omega,
    show 64 * k.val + ((8 + r.val + 96 - 92) % 96) - 2 = 64 * k.val + r.val + 10 from by omega,
    show 64 * k.val + ((16 + r.val + 96 - 92) % 96) - 2 = 64 * k.val + r.val + 18 from by omega,
    show 64 * k.val + ((24 + r.val + 96 - 92) % 96) - 2 = 64 * k.val + r.val + 26 from by omega,
    show 64 * k.val + ((r.val + 96 - 91) % 96) - 2 = 64 * k.val + r.val + 3 from by omega,
    show 64 * k.val + ((8 + r.val + 96 - 91) % 96) - 2 = 64 * k.val + r.val + 11 from by omega,
    show 64 * k.val + ((16 + r.val + 96 - 91) % 96) - 2 = 64 * k.val + r.val + 19 from by omega,
    show 64 * k.val + ((24 + r.val + 96 - 91) % 96) - 2 = 64 * k.val + r.val + 27 from by omega,
    show 64 * k.val + ((r.val + 96 - 90) % 96) - 2 = 64 * k.val + r.val + 4 from by omega,
    show 64 * k.val + ((8 + r.val + 96 - 90) % 96) - 2 = 64 * k.val + r.val + 12 from by omega,
    show 64 * k.val + ((16 + r.val + 96 - 90) % 96) - 2 = 64 * k.val + r.val + 20 from by omega,
    show 64 * k.val + ((24 + r.val + 96 - 90) % 96) - 2 = 64 * k.val + r.val + 28 from by omega,
    show 64 * k.val + ((r.val + 96 - 89) % 96) - 2 = 64 * k.val + r.val + 5 from by omega,
    show 64 * k.val + ((8 + r.val + 96 - 89) % 96) - 2 = 64 * k.val + r.val + 13 from by omega,
    show 64 * k.val + ((16 + r.val + 96 - 89) % 96) - 2 = 64 * k.val + r.val + 21 from by omega,
    show 64 * k.val + ((24 + r.val + 96 - 89) % 96) - 2 = 64 * k.val + r.val + 29 from by omega]
  exact (order (b ⟨128 + l.val, by omega⟩) (fun j => w j ⟨128 + l.val, by omega⟩ * vp v (64 * k.val + r.val + j.val) ⟨128 + l.val, by omega⟩)).trans
    (swap v w b ⟨64 * k.val + r.val, by omega⟩ ⟨128 + l.val, by omega⟩)

theorem off8 : ∀ k : Fin k0_t2_loop.trips, k0_off8 k 0 = 64 * k.val + 32 ∧ k0_off8 k 1 = 256 := by decide +kernel

set_option maxHeartbeats 1600000 in
theorem tap2 (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (k : Fin k0_t2_loop.trips) (hk : k.val < 33) (r : Fin 64) (l : Fin 128) :
    ((k0_pay42 (trip_k0_t2.sl.r_26 arg9 X9 k) (trip_k0_t2.sl.r_37 arg9 X9 k) (trip_k0_t2.sl.r_38 arg2 arg3 arg9 X2 X3 X9 k) (trip_k0_t2.sl.r_39 arg9 X9 k) (trip_k0_t2.sl.r_40 arg2 X2) (View.readAt (Elt Ideal) arg2.view (Rect.unit (s := S32x512) ![20, 256] S1x128.size inb_S32x512_S1x128_20_256).toLoadRect X2) (View.readAt (Elt Ideal) arg2.view (Rect.unit (s := S32x512) ![28, 256] S1x128.size inb_S32x512_S1x128_28_256).toLoadRect X2) (View.readAt (Elt Ideal) arg2.view (Rect.unit (s := S32x512) ![5, 256] S1x128.size inb_S32x512_S1x128_5_256).toLoadRect X2) (View.readAt (Elt Ideal) arg2.view (Rect.unit (s := S32x512) ![13, 256] S1x128.size inb_S32x512_S1x128_13_256).toLoadRect X2) (View.readAt (Elt Ideal) arg2.view (Rect.unit (s := S32x512) ![21, 256] S1x128.size inb_S32x512_S1x128_21_256).toLoadRect X2) (View.readAt (Elt Ideal) arg2.view (Rect.unit (s := S32x512) ![29, 256] S1x128.size inb_S32x512_S1x128_29_256).toLoadRect X2)) (ix2 r l) : EReal)
      = cv v w b ⟨64 * k.val + r.val, by omega⟩ ⟨256 + l.val, by omega⟩ := by
  have hs : ∀ (a : ℕ) (h : a < 96), (View.readAt (Elt Ideal) arg9.view (Rect.unit (s := S2176x512) (k0_off8 k) S96x128.size (k0_off8_inb k)).toLoadRect X9 (ix2 ⟨a, h⟩ l) : EReal)
      = vp v (64 * k.val + a - 2) ⟨256 + l.val, by omega⟩ := fun a h => by
    rw [← s9_apply v k.val a hk h, ← h9]
    exact rd2 arg9.view X9 _ _ _ _ _ _ (by rw [(off8 k).1]) (by have := (off8 k).2; dsimp only; omega)
  have hw : ∀ (j : Fin 31) (inb), (View.readAt (Elt Ideal) arg2.view (Rect.unit (s := S32x512) ![j.val, 256] S1x128.size inb).toLoadRect X2 (ix2 0 l) : EReal) = w j ⟨256 + l.val, by omega⟩ := fun j inb => by
    rw [← h2]
    exact rd2 arg2.view X2 _ _ _ _ _ _ rfl (by simp)
  have hb : ∀ (inb), (View.readAt (Elt Ideal) arg3.view (Rect.unit (s := S1x512) ![0, 256] S1x128.size inb).toLoadRect X3 (ix2 0 l) : EReal) = b ⟨256 + l.val, by omega⟩ := fun inb => by
    rw [← h3]
    exact rd2 arg3.view X3 _ _ _ _ _ _ rfl (by simp)
  have w0 : ∀ inb, (View.readAt (Elt Ideal) arg2.view (Rect.unit (s := S32x512) ![0, 256] S1x128.size inb).toLoadRect X2 (ix2 0 l) : EReal) = w 0 ⟨256 + l.val, by omega⟩ := hw 0
  have w1 : ∀ inb, (View.readAt (Elt Ideal) arg2.view (Rect.unit (s := S32x512) ![1, 256] S1x128.size inb).toLoadRect X2 (ix2 0 l) : EReal) = w 1 ⟨256 + l.val, by omega⟩ := hw 1
  have w2 : ∀ inb, (View.readAt (Elt Ideal) arg2.view (Rect.unit (s := S32x512) ![2, 256] S1x128.size inb).toLoadRect X2 (ix2 0 l) : EReal) = w 2 ⟨256 + l.val, by omega⟩ := hw 2
  have w3 : ∀ inb, (View.readAt (Elt Ideal) arg2.view (Rect.unit (s := S32x512) ![3, 256] S1x128.size inb).toLoadRect X2 (ix2 0 l) : EReal) = w 3 ⟨256 + l.val, by omega⟩ := hw 3
  have w4 : ∀ inb, (View.readAt (Elt Ideal) arg2.view (Rect.unit (s := S32x512) ![4, 256] S1x128.size inb).toLoadRect X2 (ix2 0 l) : EReal) = w 4 ⟨256 + l.val, by omega⟩ := hw 4
  have w5 : ∀ inb, (View.readAt (Elt Ideal) arg2.view (Rect.unit (s := S32x512) ![5, 256] S1x128.size inb).toLoadRect X2 (ix2 0 l) : EReal) = w 5 ⟨256 + l.val, by omega⟩ := hw 5
  have w6 : ∀ inb, (View.readAt (Elt Ideal) arg2.view (Rect.unit (s := S32x512) ![6, 256] S1x128.size inb).toLoadRect X2 (ix2 0 l) : EReal) = w 6 ⟨256 + l.val, by omega⟩ := hw 6
  have w7 : ∀ inb, (View.readAt (Elt Ideal) arg2.view (Rect.unit (s := S32x512) ![7, 256] S1x128.size inb).toLoadRect X2 (ix2 0 l) : EReal) = w 7 ⟨256 + l.val, by omega⟩ := hw 7
  have w8 : ∀ inb, (View.readAt (Elt Ideal) arg2.view (Rect.unit (s := S32x512) ![8, 256] S1x128.size inb).toLoadRect X2 (ix2 0 l) : EReal) = w 8 ⟨256 + l.val, by omega⟩ := hw 8
  have w9 : ∀ inb, (View.readAt (Elt Ideal) arg2.view (Rect.unit (s := S32x512) ![9, 256] S1x128.size inb).toLoadRect X2 (ix2 0 l) : EReal) = w 9 ⟨256 + l.val, by omega⟩ := hw 9
  have w10 : ∀ inb, (View.readAt (Elt Ideal) arg2.view (Rect.unit (s := S32x512) ![10, 256] S1x128.size inb).toLoadRect X2 (ix2 0 l) : EReal) = w 10 ⟨256 + l.val, by omega⟩ := hw 10
  have w11 : ∀ inb, (View.readAt (Elt Ideal) arg2.view (Rect.unit (s := S32x512) ![11, 256] S1x128.size inb).toLoadRect X2 (ix2 0 l) : EReal) = w 11 ⟨256 + l.val, by omega⟩ := hw 11
  have w12 : ∀ inb, (View.readAt (Elt Ideal) arg2.view (Rect.unit (s := S32x512) ![12, 256] S1x128.size inb).toLoadRect X2 (ix2 0 l) : EReal) = w 12 ⟨256 + l.val, by omega⟩ := hw 12
  have w13 : ∀ inb, (View.readAt (Elt Ideal) arg2.view (Rect.unit (s := S32x512) ![13, 256] S1x128.size inb).toLoadRect X2 (ix2 0 l) : EReal) = w 13 ⟨256 + l.val, by omega⟩ := hw 13
  have w14 : ∀ inb, (View.readAt (Elt Ideal) arg2.view (Rect.unit (s := S32x512) ![14, 256] S1x128.size inb).toLoadRect X2 (ix2 0 l) : EReal) = w 14 ⟨256 + l.val, by omega⟩ := hw 14
  have w15 : ∀ inb, (View.readAt (Elt Ideal) arg2.view (Rect.unit (s := S32x512) ![15, 256] S1x128.size inb).toLoadRect X2 (ix2 0 l) : EReal) = w 15 ⟨256 + l.val, by omega⟩ := hw 15
  have w16 : ∀ inb, (View.readAt (Elt Ideal) arg2.view (Rect.unit (s := S32x512) ![16, 256] S1x128.size inb).toLoadRect X2 (ix2 0 l) : EReal) = w 16 ⟨256 + l.val, by omega⟩ := hw 16
  have w17 : ∀ inb, (View.readAt (Elt Ideal) arg2.view (Rect.unit (s := S32x512) ![17, 256] S1x128.size inb).toLoadRect X2 (ix2 0 l) : EReal) = w 17 ⟨256 + l.val, by omega⟩ := hw 17
  have w18 : ∀ inb, (View.readAt (Elt Ideal) arg2.view (Rect.unit (s := S32x512) ![18, 256] S1x128.size inb).toLoadRect X2 (ix2 0 l) : EReal) = w 18 ⟨256 + l.val, by omega⟩ := hw 18
  have w19 : ∀ inb, (View.readAt (Elt Ideal) arg2.view (Rect.unit (s := S32x512) ![19, 256] S1x128.size inb).toLoadRect X2 (ix2 0 l) : EReal) = w 19 ⟨256 + l.val, by omega⟩ := hw 19
  have w20 : ∀ inb, (View.readAt (Elt Ideal) arg2.view (Rect.unit (s := S32x512) ![20, 256] S1x128.size inb).toLoadRect X2 (ix2 0 l) : EReal) = w 20 ⟨256 + l.val, by omega⟩ := hw 20
  have w21 : ∀ inb, (View.readAt (Elt Ideal) arg2.view (Rect.unit (s := S32x512) ![21, 256] S1x128.size inb).toLoadRect X2 (ix2 0 l) : EReal) = w 21 ⟨256 + l.val, by omega⟩ := hw 21
  have w22 : ∀ inb, (View.readAt (Elt Ideal) arg2.view (Rect.unit (s := S32x512) ![22, 256] S1x128.size inb).toLoadRect X2 (ix2 0 l) : EReal) = w 22 ⟨256 + l.val, by omega⟩ := hw 22
  have w23 : ∀ inb, (View.readAt (Elt Ideal) arg2.view (Rect.unit (s := S32x512) ![23, 256] S1x128.size inb).toLoadRect X2 (ix2 0 l) : EReal) = w 23 ⟨256 + l.val, by omega⟩ := hw 23
  have w24 : ∀ inb, (View.readAt (Elt Ideal) arg2.view (Rect.unit (s := S32x512) ![24, 256] S1x128.size inb).toLoadRect X2 (ix2 0 l) : EReal) = w 24 ⟨256 + l.val, by omega⟩ := hw 24
  have w25 : ∀ inb, (View.readAt (Elt Ideal) arg2.view (Rect.unit (s := S32x512) ![25, 256] S1x128.size inb).toLoadRect X2 (ix2 0 l) : EReal) = w 25 ⟨256 + l.val, by omega⟩ := hw 25
  have w26 : ∀ inb, (View.readAt (Elt Ideal) arg2.view (Rect.unit (s := S32x512) ![26, 256] S1x128.size inb).toLoadRect X2 (ix2 0 l) : EReal) = w 26 ⟨256 + l.val, by omega⟩ := hw 26
  have w27 : ∀ inb, (View.readAt (Elt Ideal) arg2.view (Rect.unit (s := S32x512) ![27, 256] S1x128.size inb).toLoadRect X2 (ix2 0 l) : EReal) = w 27 ⟨256 + l.val, by omega⟩ := hw 27
  have w28 : ∀ inb, (View.readAt (Elt Ideal) arg2.view (Rect.unit (s := S32x512) ![28, 256] S1x128.size inb).toLoadRect X2 (ix2 0 l) : EReal) = w 28 ⟨256 + l.val, by omega⟩ := hw 28
  have w29 : ∀ inb, (View.readAt (Elt Ideal) arg2.view (Rect.unit (s := S32x512) ![29, 256] S1x128.size inb).toLoadRect X2 (ix2 0 l) : EReal) = w 29 ⟨256 + l.val, by omega⟩ := hw 29
  have w30 : ∀ inb, (View.readAt (Elt Ideal) arg2.view (Rect.unit (s := S32x512) ![30, 256] S1x128.size inb).toLoadRect X2 (ix2 0 l) : EReal) = w 30 ⟨256 + l.val, by omega⟩ := hw 30
  pointwise [k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_6, trip_k0_t2.sl.r_7, trip_k0_t2.sl.r_8, trip_k0_t2.sl.r_9]
  simp only [hs, hb, w0, w1, w2, w3, w4, w5, w6, w7, w8, w9, w10, w11, w12, w13, w14, w15, w16, w17, w18, w19, w20, w21, w22, w23, w24, w25, w26, w27, w28, w29, w30]
  simp only [show 64 * k.val + (8 + r.val) - 2 = 64 * k.val + r.val + 6 from by omega,
    show 64 * k.val + (16 + r.val) - 2 = 64 * k.val + r.val + 14 from by omega,
    show 64 * k.val + (24 + r.val) - 2 = 64 * k.val + r.val + 22 from by omega,
    show 64 * k.val + (32 + r.val) - 2 = 64 * k.val + r.val + 30 from by omega,
    show 64 * k.val + ((8 + r.val + 96 - 95) % 96) - 2 = 64 * k.val + r.val + 7 from by omega,
    show 64 * k.val + ((16 + r.val + 96 - 95) % 96) - 2 = 64 * k.val + r.val + 15 from by omega,
    show 64 * k.val + ((24 + r.val + 96 - 95) % 96) - 2 = 64 * k.val + r.val + 23 from by omega,
    show 64 * k.val + ((r.val + 96 - 94) % 96) - 2 = 64 * k.val + r.val + 0 from by omega,
    show 64 * k.val + ((8 + r.val + 96 - 94) % 96) - 2 = 64 * k.val + r.val + 8 from by omega,
    show 64 * k.val + ((16 + r.val + 96 - 94) % 96) - 2 = 64 * k.val + r.val + 16 from by omega,
    show 64 * k.val + ((24 + r.val + 96 - 94) % 96) - 2 = 64 * k.val + r.val + 24 from by omega,
    show 64 * k.val + ((r.val + 96 - 93) % 96) - 2 = 64 * k.val + r.val + 1 from by omega,
    show 64 * k.val + ((8 + r.val + 96 - 93) % 96) - 2 = 64 * k.val + r.val + 9 from by omega,
    show 64 * k.val + ((16 + r.val + 96 - 93) % 96) - 2 = 64 * k.val + r.val + 17 from by omega,
    show 64 * k.val + ((24 + r.val + 96 - 93) % 96) - 2 = 64 * k.val + r.val + 25 from by omega,
    show 64 * k.val + ((r.val + 96 - 92) % 96) - 2 = 64 * k.val + r.val + 2 from by omega,
    show 64 * k.val + ((8 + r.val + 96 - 92) % 96) - 2 = 64 * k.val + r.val + 10 from by omega,
    show 64 * k.val + ((16 + r.val + 96 - 92) % 96) - 2 = 64 * k.val + r.val + 18 from by omega,
    show 64 * k.val + ((24 + r.val + 96 - 92) % 96) - 2 = 64 * k.val + r.val + 26 from by omega,
    show 64 * k.val + ((r.val + 96 - 91) % 96) - 2 = 64 * k.val + r.val + 3 from by omega,
    show 64 * k.val + ((8 + r.val + 96 - 91) % 96) - 2 = 64 * k.val + r.val + 11 from by omega,
    show 64 * k.val + ((16 + r.val + 96 - 91) % 96) - 2 = 64 * k.val + r.val + 19 from by omega,
    show 64 * k.val + ((24 + r.val + 96 - 91) % 96) - 2 = 64 * k.val + r.val + 27 from by omega,
    show 64 * k.val + ((r.val + 96 - 90) % 96) - 2 = 64 * k.val + r.val + 4 from by omega,
    show 64 * k.val + ((8 + r.val + 96 - 90) % 96) - 2 = 64 * k.val + r.val + 12 from by omega,
    show 64 * k.val + ((16 + r.val + 96 - 90) % 96) - 2 = 64 * k.val + r.val + 20 from by omega,
    show 64 * k.val + ((24 + r.val + 96 - 90) % 96) - 2 = 64 * k.val + r.val + 28 from by omega,
    show 64 * k.val + ((r.val + 96 - 89) % 96) - 2 = 64 * k.val + r.val + 5 from by omega,
    show 64 * k.val + ((8 + r.val + 96 - 89) % 96) - 2 = 64 * k.val + r.val + 13 from by omega,
    show 64 * k.val + ((16 + r.val + 96 - 89) % 96) - 2 = 64 * k.val + r.val + 21 from by omega,
    show 64 * k.val + ((24 + r.val + 96 - 89) % 96) - 2 = 64 * k.val + r.val + 29 from by omega]
  exact (order (b ⟨256 + l.val, by omega⟩) (fun j => w j ⟨256 + l.val, by omega⟩ * vp v (64 * k.val + r.val + j.val) ⟨256 + l.val, by omega⟩)).trans
    (swap v w b ⟨64 * k.val + r.val, by omega⟩ ⟨256 + l.val, by omega⟩)

theorem off10 : ∀ k : Fin k0_t2_loop.trips, k0_off10 k 0 = 64 * k.val + 32 ∧ k0_off10 k 1 = 384 := by decide +kernel

set_option maxHeartbeats 1600000 in
theorem tap3 (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (k : Fin k0_t2_loop.trips) (hk : k.val < 33) (r : Fin 64) (l : Fin 128) :
    ((k0_pay3 (trip_k0_t2.sl.r_48 arg2 arg3 arg9 X2 X3 X9 k) (trip_k0_t2.sl.r_49 arg9 X9 k) (View.readAt (Elt Ideal) arg2.view (Rect.unit (s := S32x512) ![5, 384] S1x128.size inb_S32x512_S1x128_5_384).toLoadRect X2) (View.readAt (Elt Ideal) arg2.view (Rect.unit (s := S32x512) ![13, 384] S1x128.size inb_S32x512_S1x128_13_384).toLoadRect X2) (View.readAt (Elt Ideal) arg2.view (Rect.unit (s := S32x512) ![21, 384] S1x128.size inb_S32x512_S1x128_21_384).toLoadRect X2) (View.readAt (Elt Ideal) arg2.view (Rect.unit (s := S32x512) ![29, 384] S1x128.size inb_S32x512_S1x128_29_384).toLoadRect X2)) (ix2 r l) : EReal)
      = cv v w b ⟨64 * k.val + r.val, by omega⟩ ⟨384 + l.val, by omega⟩ := by
  have hs : ∀ (a : ℕ) (h : a < 96), (View.readAt (Elt Ideal) arg9.view (Rect.unit (s := S2176x512) (k0_off10 k) S96x128.size (k0_off10_inb k)).toLoadRect X9 (ix2 ⟨a, h⟩ l) : EReal)
      = vp v (64 * k.val + a - 2) ⟨384 + l.val, by omega⟩ := fun a h => by
    rw [← s9_apply v k.val a hk h, ← h9]
    exact rd2 arg9.view X9 _ _ _ _ _ _ (by rw [(off10 k).1]) (by have := (off10 k).2; dsimp only; omega)
  have hw : ∀ (j : Fin 31) (inb), (View.readAt (Elt Ideal) arg2.view (Rect.unit (s := S32x512) ![j.val, 384] S1x128.size inb).toLoadRect X2 (ix2 0 l) : EReal) = w j ⟨384 + l.val, by omega⟩ := fun j inb => by
    rw [← h2]
    exact rd2 arg2.view X2 _ _ _ _ _ _ rfl (by simp)
  have hb : ∀ (inb), (View.readAt (Elt Ideal) arg3.view (Rect.unit (s := S1x512) ![0, 384] S1x128.size inb).toLoadRect X3 (ix2 0 l) : EReal) = b ⟨384 + l.val, by omega⟩ := fun inb => by
    rw [← h3]
    exact rd2 arg3.view X3 _ _ _ _ _ _ rfl (by simp)
  have w0 : ∀ inb, (View.readAt (Elt Ideal) arg2.view (Rect.unit (s := S32x512) ![0, 384] S1x128.size inb).toLoadRect X2 (ix2 0 l) : EReal) = w 0 ⟨384 + l.val, by omega⟩ := hw 0
  have w1 : ∀ inb, (View.readAt (Elt Ideal) arg2.view (Rect.unit (s := S32x512) ![1, 384] S1x128.size inb).toLoadRect X2 (ix2 0 l) : EReal) = w 1 ⟨384 + l.val, by omega⟩ := hw 1
  have w2 : ∀ inb, (View.readAt (Elt Ideal) arg2.view (Rect.unit (s := S32x512) ![2, 384] S1x128.size inb).toLoadRect X2 (ix2 0 l) : EReal) = w 2 ⟨384 + l.val, by omega⟩ := hw 2
  have w3 : ∀ inb, (View.readAt (Elt Ideal) arg2.view (Rect.unit (s := S32x512) ![3, 384] S1x128.size inb).toLoadRect X2 (ix2 0 l) : EReal) = w 3 ⟨384 + l.val, by omega⟩ := hw 3
  have w4 : ∀ inb, (View.readAt (Elt Ideal) arg2.view (Rect.unit (s := S32x512) ![4, 384] S1x128.size inb).toLoadRect X2 (ix2 0 l) : EReal) = w 4 ⟨384 + l.val, by omega⟩ := hw 4
  have w5 : ∀ inb, (View.readAt (Elt Ideal) arg2.view (Rect.unit (s := S32x512) ![5, 384] S1x128.size inb).toLoadRect X2 (ix2 0 l) : EReal) = w 5 ⟨384 + l.val, by omega⟩ := hw 5
  have w6 : ∀ inb, (View.readAt (Elt Ideal) arg2.view (Rect.unit (s := S32x512) ![6, 384] S1x128.size inb).toLoadRect X2 (ix2 0 l) : EReal) = w 6 ⟨384 + l.val, by omega⟩ := hw 6
  have w7 : ∀ inb, (View.readAt (Elt Ideal) arg2.view (Rect.unit (s := S32x512) ![7, 384] S1x128.size inb).toLoadRect X2 (ix2 0 l) : EReal) = w 7 ⟨384 + l.val, by omega⟩ := hw 7
  have w8 : ∀ inb, (View.readAt (Elt Ideal) arg2.view (Rect.unit (s := S32x512) ![8, 384] S1x128.size inb).toLoadRect X2 (ix2 0 l) : EReal) = w 8 ⟨384 + l.val, by omega⟩ := hw 8
  have w9 : ∀ inb, (View.readAt (Elt Ideal) arg2.view (Rect.unit (s := S32x512) ![9, 384] S1x128.size inb).toLoadRect X2 (ix2 0 l) : EReal) = w 9 ⟨384 + l.val, by omega⟩ := hw 9
  have w10 : ∀ inb, (View.readAt (Elt Ideal) arg2.view (Rect.unit (s := S32x512) ![10, 384] S1x128.size inb).toLoadRect X2 (ix2 0 l) : EReal) = w 10 ⟨384 + l.val, by omega⟩ := hw 10
  have w11 : ∀ inb, (View.readAt (Elt Ideal) arg2.view (Rect.unit (s := S32x512) ![11, 384] S1x128.size inb).toLoadRect X2 (ix2 0 l) : EReal) = w 11 ⟨384 + l.val, by omega⟩ := hw 11
  have w12 : ∀ inb, (View.readAt (Elt Ideal) arg2.view (Rect.unit (s := S32x512) ![12, 384] S1x128.size inb).toLoadRect X2 (ix2 0 l) : EReal) = w 12 ⟨384 + l.val, by omega⟩ := hw 12
  have w13 : ∀ inb, (View.readAt (Elt Ideal) arg2.view (Rect.unit (s := S32x512) ![13, 384] S1x128.size inb).toLoadRect X2 (ix2 0 l) : EReal) = w 13 ⟨384 + l.val, by omega⟩ := hw 13
  have w14 : ∀ inb, (View.readAt (Elt Ideal) arg2.view (Rect.unit (s := S32x512) ![14, 384] S1x128.size inb).toLoadRect X2 (ix2 0 l) : EReal) = w 14 ⟨384 + l.val, by omega⟩ := hw 14
  have w15 : ∀ inb, (View.readAt (Elt Ideal) arg2.view (Rect.unit (s := S32x512) ![15, 384] S1x128.size inb).toLoadRect X2 (ix2 0 l) : EReal) = w 15 ⟨384 + l.val, by omega⟩ := hw 15
  have w16 : ∀ inb, (View.readAt (Elt Ideal) arg2.view (Rect.unit (s := S32x512) ![16, 384] S1x128.size inb).toLoadRect X2 (ix2 0 l) : EReal) = w 16 ⟨384 + l.val, by omega⟩ := hw 16
  have w17 : ∀ inb, (View.readAt (Elt Ideal) arg2.view (Rect.unit (s := S32x512) ![17, 384] S1x128.size inb).toLoadRect X2 (ix2 0 l) : EReal) = w 17 ⟨384 + l.val, by omega⟩ := hw 17
  have w18 : ∀ inb, (View.readAt (Elt Ideal) arg2.view (Rect.unit (s := S32x512) ![18, 384] S1x128.size inb).toLoadRect X2 (ix2 0 l) : EReal) = w 18 ⟨384 + l.val, by omega⟩ := hw 18
  have w19 : ∀ inb, (View.readAt (Elt Ideal) arg2.view (Rect.unit (s := S32x512) ![19, 384] S1x128.size inb).toLoadRect X2 (ix2 0 l) : EReal) = w 19 ⟨384 + l.val, by omega⟩ := hw 19
  have w20 : ∀ inb, (View.readAt (Elt Ideal) arg2.view (Rect.unit (s := S32x512) ![20, 384] S1x128.size inb).toLoadRect X2 (ix2 0 l) : EReal) = w 20 ⟨384 + l.val, by omega⟩ := hw 20
  have w21 : ∀ inb, (View.readAt (Elt Ideal) arg2.view (Rect.unit (s := S32x512) ![21, 384] S1x128.size inb).toLoadRect X2 (ix2 0 l) : EReal) = w 21 ⟨384 + l.val, by omega⟩ := hw 21
  have w22 : ∀ inb, (View.readAt (Elt Ideal) arg2.view (Rect.unit (s := S32x512) ![22, 384] S1x128.size inb).toLoadRect X2 (ix2 0 l) : EReal) = w 22 ⟨384 + l.val, by omega⟩ := hw 22
  have w23 : ∀ inb, (View.readAt (Elt Ideal) arg2.view (Rect.unit (s := S32x512) ![23, 384] S1x128.size inb).toLoadRect X2 (ix2 0 l) : EReal) = w 23 ⟨384 + l.val, by omega⟩ := hw 23
  have w24 : ∀ inb, (View.readAt (Elt Ideal) arg2.view (Rect.unit (s := S32x512) ![24, 384] S1x128.size inb).toLoadRect X2 (ix2 0 l) : EReal) = w 24 ⟨384 + l.val, by omega⟩ := hw 24
  have w25 : ∀ inb, (View.readAt (Elt Ideal) arg2.view (Rect.unit (s := S32x512) ![25, 384] S1x128.size inb).toLoadRect X2 (ix2 0 l) : EReal) = w 25 ⟨384 + l.val, by omega⟩ := hw 25
  have w26 : ∀ inb, (View.readAt (Elt Ideal) arg2.view (Rect.unit (s := S32x512) ![26, 384] S1x128.size inb).toLoadRect X2 (ix2 0 l) : EReal) = w 26 ⟨384 + l.val, by omega⟩ := hw 26
  have w27 : ∀ inb, (View.readAt (Elt Ideal) arg2.view (Rect.unit (s := S32x512) ![27, 384] S1x128.size inb).toLoadRect X2 (ix2 0 l) : EReal) = w 27 ⟨384 + l.val, by omega⟩ := hw 27
  have w28 : ∀ inb, (View.readAt (Elt Ideal) arg2.view (Rect.unit (s := S32x512) ![28, 384] S1x128.size inb).toLoadRect X2 (ix2 0 l) : EReal) = w 28 ⟨384 + l.val, by omega⟩ := hw 28
  have w29 : ∀ inb, (View.readAt (Elt Ideal) arg2.view (Rect.unit (s := S32x512) ![29, 384] S1x128.size inb).toLoadRect X2 (ix2 0 l) : EReal) = w 29 ⟨384 + l.val, by omega⟩ := hw 29
  have w30 : ∀ inb, (View.readAt (Elt Ideal) arg2.view (Rect.unit (s := S32x512) ![30, 384] S1x128.size inb).toLoadRect X2 (ix2 0 l) : EReal) = w 30 ⟨384 + l.val, by omega⟩ := hw 30
  pointwise [k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_6, trip_k0_t2.sl.r_7, trip_k0_t2.sl.r_8, trip_k0_t2.sl.r_9]
  simp only [hs, hb, w0, w1, w2, w3, w4, w5, w6, w7, w8, w9, w10, w11, w12, w13, w14, w15, w16, w17, w18, w19, w20, w21, w22, w23, w24, w25, w26, w27, w28, w29, w30]
  simp only [show 64 * k.val + (8 + r.val) - 2 = 64 * k.val + r.val + 6 from by omega,
    show 64 * k.val + (16 + r.val) - 2 = 64 * k.val + r.val + 14 from by omega,
    show 64 * k.val + (24 + r.val) - 2 = 64 * k.val + r.val + 22 from by omega,
    show 64 * k.val + (32 + r.val) - 2 = 64 * k.val + r.val + 30 from by omega,
    show 64 * k.val + ((8 + r.val + 96 - 95) % 96) - 2 = 64 * k.val + r.val + 7 from by omega,
    show 64 * k.val + ((16 + r.val + 96 - 95) % 96) - 2 = 64 * k.val + r.val + 15 from by omega,
    show 64 * k.val + ((24 + r.val + 96 - 95) % 96) - 2 = 64 * k.val + r.val + 23 from by omega,
    show 64 * k.val + ((r.val + 96 - 94) % 96) - 2 = 64 * k.val + r.val + 0 from by omega,
    show 64 * k.val + ((8 + r.val + 96 - 94) % 96) - 2 = 64 * k.val + r.val + 8 from by omega,
    show 64 * k.val + ((16 + r.val + 96 - 94) % 96) - 2 = 64 * k.val + r.val + 16 from by omega,
    show 64 * k.val + ((24 + r.val + 96 - 94) % 96) - 2 = 64 * k.val + r.val + 24 from by omega,
    show 64 * k.val + ((r.val + 96 - 93) % 96) - 2 = 64 * k.val + r.val + 1 from by omega,
    show 64 * k.val + ((8 + r.val + 96 - 93) % 96) - 2 = 64 * k.val + r.val + 9 from by omega,
    show 64 * k.val + ((16 + r.val + 96 - 93) % 96) - 2 = 64 * k.val + r.val + 17 from by omega,
    show 64 * k.val + ((24 + r.val + 96 - 93) % 96) - 2 = 64 * k.val + r.val + 25 from by omega,
    show 64 * k.val + ((r.val + 96 - 92) % 96) - 2 = 64 * k.val + r.val + 2 from by omega,
    show 64 * k.val + ((8 + r.val + 96 - 92) % 96) - 2 = 64 * k.val + r.val + 10 from by omega,
    show 64 * k.val + ((16 + r.val + 96 - 92) % 96) - 2 = 64 * k.val + r.val + 18 from by omega,
    show 64 * k.val + ((24 + r.val + 96 - 92) % 96) - 2 = 64 * k.val + r.val + 26 from by omega,
    show 64 * k.val + ((r.val + 96 - 91) % 96) - 2 = 64 * k.val + r.val + 3 from by omega,
    show 64 * k.val + ((8 + r.val + 96 - 91) % 96) - 2 = 64 * k.val + r.val + 11 from by omega,
    show 64 * k.val + ((16 + r.val + 96 - 91) % 96) - 2 = 64 * k.val + r.val + 19 from by omega,
    show 64 * k.val + ((24 + r.val + 96 - 91) % 96) - 2 = 64 * k.val + r.val + 27 from by omega,
    show 64 * k.val + ((r.val + 96 - 90) % 96) - 2 = 64 * k.val + r.val + 4 from by omega,
    show 64 * k.val + ((8 + r.val + 96 - 90) % 96) - 2 = 64 * k.val + r.val + 12 from by omega,
    show 64 * k.val + ((16 + r.val + 96 - 90) % 96) - 2 = 64 * k.val + r.val + 20 from by omega,
    show 64 * k.val + ((24 + r.val + 96 - 90) % 96) - 2 = 64 * k.val + r.val + 28 from by omega,
    show 64 * k.val + ((r.val + 96 - 89) % 96) - 2 = 64 * k.val + r.val + 5 from by omega,
    show 64 * k.val + ((8 + r.val + 96 - 89) % 96) - 2 = 64 * k.val + r.val + 13 from by omega,
    show 64 * k.val + ((16 + r.val + 96 - 89) % 96) - 2 = 64 * k.val + r.val + 21 from by omega,
    show 64 * k.val + ((24 + r.val + 96 - 89) % 96) - 2 = 64 * k.val + r.val + 29 from by omega]
  exact (order (b ⟨384 + l.val, by omega⟩) (fun j => w j ⟨384 + l.val, by omega⟩ * vp v (64 * k.val + r.val + j.val) ⟨384 + l.val, by omega⟩)).trans
    (swap v w b ⟨64 * k.val + r.val, by omega⟩ ⟨384 + l.val, by omega⟩)

end Taps

end Cert.Conv

end
-- ==== Proof.ConvBody.lean ====
/-
  THE KERNEL `fwd_conv`, one block: its first loop leaves the gated rows in a buffer below 64 rows of zeros, its second the convolution of
  the block's rows in the first result, its third the normed and gated rows in the second.
-/
module

public import proofs.«01_k».proof.Proof.ConvTap

@[expose] public section

set_option maxRecDepth 16384

noncomputable section

namespace Cert.Conv

open Cert.Kernel4Ideal Cert.Kernel4Ideal.Gen Idealize.ShloMosaic Idealize.ShloMosaic.TcCoe Idealize.SL.Sem

section Lists

variable {S : Shape} {e : EltTy}

/-- Every piece holds the values of `G` at the places it is written to. -/
def Fits (L : List (View.Piece (Elt Ideal) S e)) (G : S.Idx → Elt Ideal e) : Prop :=
  ∀ p ∈ L, ∀ x : p.1.shape.Idx, p.2 x = G (p.1.emb x)

theorem fits_nil (G : S.Idx → Elt Ideal e) : Fits [] G := fun p hp => absurd hp List.not_mem_nil

theorem fits_cons {p : View.Piece (Elt Ideal) S e} {L : List (View.Piece (Elt Ideal) S e)} {G : S.Idx → Elt Ideal e}
    (hp : ∀ x : p.1.shape.Idx, p.2 x = G (p.1.emb x)) (hL : Fits L G) : Fits (p :: L) G := fun q hq => by
  rcases List.mem_cons.mp hq with rfl | hq
  · exact hp
  · exact hL q hq

theorem fits_append {L M : List (View.Piece (Elt Ideal) S e)} {G : S.Idx → Elt Ideal e} (hL : Fits L G) (hM : Fits M G) : Fits (L ++ M) G :=
  fun q hq => (List.mem_append.mp hq).elim (hL q) (hM q)

/-- The pieces of the trips so far, each trip's before those of the earlier ones. -/
theorem seq_fits {N : ℕ} {P : ℕ → List (View.Piece (Elt Ideal) S e)} {T : Fin N → List (View.Piece (Elt Ideal) S e)} {G : S.Idx → Elt Ideal e}
    (h0 : P 0 = []) (hs : ∀ k : Fin N, P (k.val + 1) = T k ++ P k.val) (hf : ∀ k, Fits (T k) G) : ∀ n, n ≤ N → Fits (P n) G
  | 0, _ => by rw [h0]; exact fits_nil G
  | n + 1, h => by rw [hs ⟨n, h⟩]; exact fits_append (hf _) (seq_fits h0 hs hf n (by omega))

theorem seq_mem {N : ℕ} {P : ℕ → List (View.Piece (Elt Ideal) S e)} {T : Fin N → List (View.Piece (Elt Ideal) S e)}
    (hs : ∀ k : Fin N, P (k.val + 1) = T k ++ P k.val) (k : Fin N) (p : View.Piece (Elt Ideal) S e) (hp : p ∈ T k) :
    ∀ n, k.val < n → n ≤ N → p ∈ P n
  | 0, h, _ => absurd h (Nat.not_lt_zero _)
  | n + 1, h, hn => by
    rw [hs ⟨n, hn⟩, List.mem_append]
    by_cases hk : k.val = n
    · left
      have : k = ⟨n, hn⟩ := Fin.ext hk
      rw [← this]; exact hp
    · right; exact seq_mem hs k p hp n (by omega) (by omega)

theorem fits_rect {n0 n1 z0 z1 : ℕ} (off : Fin 2 → ℕ) (inb) (w : (⟨2, ![z0, z1]⟩ : Shape).Idx → Elt Ideal e) (G : (⟨2, ![n0, n1]⟩ : Shape).Idx → Elt Ideal e)
    (h : ∀ (a : Fin z0) (b : Fin z1) (i : Fin n0) (j : Fin n1), i.val = off 0 + a.val → j.val = off 1 + b.val → w (ix2 a b) = G (ix2 i j)) :
    ∀ x : (Rect.unit (s := ⟨2, ![n0, n1]⟩) off (⟨2, ![z0, z1]⟩ : Shape).size inb).shape.Idx, w x = G ((Rect.unit (s := ⟨2, ![n0, n1]⟩) off (⟨2, ![z0, z1]⟩ : Shape).size inb).emb x) := fun x => by
  have hx : x = (ix2 (x 0) (x 1) : (⟨2, ![z0, z1]⟩ : Shape).Idx) := (ix2_eta _).symm
  have hy : (Rect.unit (s := ⟨2, ![n0, n1]⟩) off (⟨2, ![z0, z1]⟩ : Shape).size inb).emb x
      = (ix2 ((Rect.unit (s := ⟨2, ![n0, n1]⟩) off (⟨2, ![z0, z1]⟩ : Shape).size inb).emb x 0) ((Rect.unit (s := ⟨2, ![n0, n1]⟩) off (⟨2, ![z0, z1]⟩ : Shape).size inb).emb x 1) : (⟨2, ![n0, n1]⟩ : Shape).Idx) := (ix2_eta _).symm
  rw [hy]
  refine (congrArg w hx).trans (h (x 0) (x 1) _ _ ?_ ?_)
  · exact ValueKit.rect_emb_unit_val off _ inb x 0
  · exact ValueKit.rect_emb_unit_val off _ inb x 1

theorem fits_rcons {n0 n1 z0 z1 : ℕ} (off : Fin 2 → ℕ) (inb) (w : (⟨2, ![z0, z1]⟩ : Shape).Idx → Elt Ideal e) (G : (⟨2, ![n0, n1]⟩ : Shape).Idx → Elt Ideal e)
    (L : List (View.Piece (Elt Ideal) ⟨2, ![n0, n1]⟩ e)) (hL : Fits L G)
    (h : ∀ (a : Fin z0) (b : Fin z1) (i : Fin n0) (j : Fin n1), i.val = off 0 + a.val → j.val = off 1 + b.val → w (ix2 a b) = G (ix2 i j)) :
    Fits (⟨Rect.unit (s := ⟨2, ![n0, n1]⟩) off (⟨2, ![z0, z1]⟩ : Shape).size inb, w⟩ :: L) G :=
  fits_cons (fits_rect off inb w G h) hL

theorem mem_rect {n0 n1 z0 z1 : ℕ} (off : Fin 2 → ℕ) (inb) (i : Fin n0) (j : Fin n1)
    (h0 : off 0 ≤ i.val ∧ i.val < off 0 + z0) (h1 : off 1 ≤ j.val ∧ j.val < off 1 + z1) :
    (ix2 i j : (⟨2, ![n0, n1]⟩ : Shape).Idx) ∈ (Rect.unit (s := ⟨2, ![n0, n1]⟩) off (⟨2, ![z0, z1]⟩ : Shape).size inb).set :=
  Rect.mem_set_unit.mpr (fun a => by
    refine Fin.cases ?_ (fun a => ?_) a
    · exact h0
    · obtain rfl : a = 0 := by omega
      exact h1)

end Lists

section Body

variable (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)

theorem off1 : ∀ k : Fin k0_t1_loop.trips, k0_off1 k 0 = 64 * k.val ∧ k0_off1 k 1 = 0 := by decide +kernel
theorem off2 : ∀ k : Fin k0_t1_loop.trips, k0_off2 k 0 = 64 * k.val ∧ k0_off2 k 1 = 512 := by decide +kernel
theorem off3 : ∀ k : Fin k0_t1_loop.trips, k0_off3 k 0 = 64 * k.val + 64 ∧ k0_off3 k 1 = 0 := by decide +kernel
theorem off5 : ∀ k : Fin k0_t2_loop.trips, k0_off5 k 0 = 64 * k.val ∧ k0_off5 k 1 = 0 := by decide +kernel
theorem off7 : ∀ k : Fin k0_t2_loop.trips, k0_off7 k 0 = 64 * k.val ∧ k0_off7 k 1 = 128 := by decide +kernel
theorem off9 : ∀ k : Fin k0_t2_loop.trips, k0_off9 k 0 = 64 * k.val ∧ k0_off9 k 1 = 256 := by decide +kernel
theorem off11 : ∀ k : Fin k0_t2_loop.trips, k0_off11 k 0 = 64 * k.val ∧ k0_off11 k 1 = 384 := by decide +kernel
theorem off12 : ∀ k : Fin k0_t3_loop.trips, k0_off12 k 0 = 352 * k.val ∧ k0_off12 k 1 = 0 := by decide +kernel

theorem trips1 : k0_t1_loop.trips = 33 := by decide +kernel
theorem trips2 : k0_t2_loop.trips = 33 := by decide +kernel
theorem trips3 : k0_t3_loop.trips = 6 := by decide +kernel

/-! ### What one trip writes -/

theorem list1 (X1 : BufTy.Contents (Elt Ideal) arg1.view.ty) (k : Fin k0_t1_loop.trips) :
    (trip_k0_t1 (F := Ideal) Variants.none c none i arg1 harg1 arg2 harg2 arg3 harg3 arg4 harg4 arg5 harg5 arg6 harg6 arg7 harg7 arg8 harg8 arg9 harg9 X1 k).1
      = [⟨Rect.unit (s := S2176x512) (k0_off3 k) S64x512.size (k0_off3_inb k),
          k0_pay2 (View.readAt (Elt Ideal) arg1.view (Rect.unit (s := S2112x1024) (k0_off1 k) S64x512.size (k0_off1_inb k)).toLoadRect X1)
            (View.readAt (Elt Ideal) arg1.view (Rect.unit (s := S2112x1024) (k0_off2 k) S64x512.size (k0_off2_inb k)).toLoadRect X1)⟩] := by
  unfold trip_k0_t1; rfl

theorem list2 (X2 : BufTy.Contents (Elt Ideal) arg2.view.ty) (X3 : BufTy.Contents (Elt Ideal) arg3.view.ty) (X9 : BufTy.Contents (Elt Ideal) arg9.view.ty)
    (k : Fin k0_t2_loop.trips) :
    (trip_k0_t2 (F := Ideal) Variants.none c none i arg1 harg1 arg2 harg2 arg3 harg3 arg4 harg4 arg5 harg5 arg6 harg6 arg7 harg7 arg8 harg8 arg9 harg9 X2 X3 X9 k).1
      = [⟨Rect.unit (s := S2112x512) (k0_off11 k) S64x128.size (k0_off11_inb k), k0_pay3 (trip_k0_t2.sl.r_48 arg2 arg3 arg9 X2 X3 X9 k) (trip_k0_t2.sl.r_49 arg9 X9 k) (View.readAt (Elt Ideal) arg2.view (Rect.unit (s := S32x512) ![5, 384] S1x128.size inb_S32x512_S1x128_5_384).toLoadRect X2) (View.readAt (Elt Ideal) arg2.view (Rect.unit (s := S32x512) ![13, 384] S1x128.size inb_S32x512_S1x128_13_384).toLoadRect X2) (View.readAt (Elt Ideal) arg2.view (Rect.unit (s := S32x512) ![21, 384] S1x128.size inb_S32x512_S1x128_21_384).toLoadRect X2) (View.readAt (Elt Ideal) arg2.view (Rect.unit (s := S32x512) ![29, 384] S1x128.size inb_S32x512_S1x128_29_384).toLoadRect X2)⟩,
      ⟨Rect.unit (s := S2112x512) (k0_off9 k) S64x128.size (k0_off9_inb k), k0_pay42 (trip_k0_t2.sl.r_26 arg9 X9 k) (trip_k0_t2.sl.r_37 arg9 X9 k) (trip_k0_t2.sl.r_38 arg2 arg3 arg9 X2 X3 X9 k) (trip_k0_t2.sl.r_39 arg9 X9 k) (trip_k0_t2.sl.r_40 arg2 X2) (View.readAt (Elt Ideal) arg2.view (Rect.unit (s := S32x512) ![20, 256] S1x128.size inb_S32x512_S1x128_20_256).toLoadRect X2) (View.readAt (Elt Ideal) arg2.view (Rect.unit (s := S32x512) ![28, 256] S1x128.size inb_S32x512_S1x128_28_256).toLoadRect X2) (View.readAt (Elt Ideal) arg2.view (Rect.unit (s := S32x512) ![5, 256] S1x128.size inb_S32x512_S1x128_5_256).toLoadRect X2) (View.readAt (Elt Ideal) arg2.view (Rect.unit (s := S32x512) ![13, 256] S1x128.size inb_S32x512_S1x128_13_256).toLoadRect X2) (View.readAt (Elt Ideal) arg2.view (Rect.unit (s := S32x512) ![21, 256] S1x128.size inb_S32x512_S1x128_21_256).toLoadRect X2) (View.readAt (Elt Ideal) arg2.view (Rect.unit (s := S32x512) ![29, 256] S1x128.size inb_S32x512_S1x128_29_256).toLoadRect X2)⟩,
      ⟨Rect.unit (s := S2112x512) (k0_off7 k) S64x128.size (k0_off7_inb k), k0_pay30 (trip_k0_t2.sl.r_24 arg9 X9 k) (trip_k0_t2.sl.r_25 arg2 arg3 arg9 X2 X3 X9 k) (View.readAt (Elt Ideal) arg2.view (Rect.unit (s := S32x512) ![21, 128] S1x128.size inb_S32x512_S1x128_21_128).toLoadRect X2) (View.readAt (Elt Ideal) arg2.view (Rect.unit (s := S32x512) ![29, 128] S1x128.size inb_S32x512_S1x128_29_128).toLoadRect X2)⟩,
      ⟨Rect.unit (s := S2112x512) (k0_off5 k) S64x128.size (k0_off5_inb k), k0_pay17 (trip_k0_t2.sl.r arg9 X9 k) (trip_k0_t2.sl.r_10 arg2 arg3 arg9 X2 X3 X9 k) (trip_k0_t2.sl.r_11 arg9 X9 k) (trip_k0_t2.sl.r_12 arg2 X2) (View.readAt (Elt Ideal) arg2.view (Rect.unit (s := S32x512) ![5, 0] S1x128.size inb_S32x512_S1x128_5_0).toLoadRect X2) (View.readAt (Elt Ideal) arg2.view (Rect.unit (s := S32x512) ![13, 0] S1x128.size inb_S32x512_S1x128_13_0).toLoadRect X2) (View.readAt (Elt Ideal) arg2.view (Rect.unit (s := S32x512) ![21, 0] S1x128.size inb_S32x512_S1x128_21_0).toLoadRect X2) (View.readAt (Elt Ideal) arg2.view (Rect.unit (s := S32x512) ![29, 0] S1x128.size inb_S32x512_S1x128_29_0).toLoadRect X2)⟩] := by
  unfold trip_k0_t2; rfl

theorem list3 (X4 : BufTy.Contents (Elt Ideal) arg4.view.ty) (X5 : BufTy.Contents (Elt Ideal) arg5.view.ty) (X7 : BufTy.Contents (Elt Ideal) arg7.view.ty)
    (k : Fin k0_t3_loop.trips) :
    (trip_k0_t3 (F := Ideal) Variants.none c none i arg1 harg1 arg2 harg2 arg3 harg3 arg4 harg4 arg5 harg5 arg6 harg6 arg7 harg7 arg8 harg8 arg9 harg9 X4 X5 X7 k).1
      = [⟨Rect.unit (s := S2112x512) (k0_off12 k) S352x512.size (k0_off12_inb k),
          k0_pay4 (View.readAt (Elt Ideal) arg7.view (Rect.unit (s := S2112x512) (k0_off12 k) S352x512.size (k0_off12_inb k)).toLoadRect X7)
            (View.readAt (Elt Ideal) arg4.view (Rect.unit (s := S1x512) ![0, 0] S1x512.size inb_S1x512_S1x512_0_0).toLoadRect X4)
            (View.readAt (Elt Ideal) arg5.view (Rect.unit (s := S1x512) ![0, 0] S1x512.size inb_S1x512_S1x512_0_0).toLoadRect X5)⟩] := by
  unfold trip_k0_t3; rfl

/-! ### The first loop: the gated rows -/

theorem pay2_apply (x y : Vec Ideal S64x512 .bf16) (r : Fin 64) (l : Fin 512) : (k0_pay2 x y (ix2 r l) : EReal) = x (ix2 r l) * sg (y (ix2 r l)) := by
  pointwise [k0_pay2]
  unfold sg
  simp only [zero_sub]

theorem fits1 (u : Fin 2112 → Fin 1024 → EReal) (X1 : BufTy.Contents (Elt Ideal) arg1.view.ty)
    (h1 : ∀ t k, (arg1.view.read (Elt Ideal) X1 (ix2 t k) : EReal) = u t k) (k : Fin k0_t1_loop.trips) :
    Fits (trip_k0_t1 (F := Ideal) Variants.none c none i arg1 harg1 arg2 harg2 arg3 harg3 arg4 harg4 arg5 harg5 arg6 harg6 arg7 harg7 arg8 harg8 arg9 harg9 X1 k).1 (S9 (gl u)) := by
  have hk : k.val < 33 := Nat.lt_of_lt_of_eq k.isLt trips1
  rw [list1]
  refine fits_rcons (k0_off3 k) (k0_off3_inb k) _ _ _ (fits_nil _) fun a b y z hy hz => ?_
  rw [(off3 k).1] at hy
  rw [(off3 k).2] at hz
  obtain rfl : b = z := Fin.ext (by omega)
  refine (pay2_apply _ _ a b).trans ?_
  rw [rd2 arg1.view X1 (k0_off1 k) _ a b ⟨64 * k.val + a.val, by omega⟩ ⟨b.val, by omega⟩ (by rw [(off1 k).1]) (by have := (off1 k).2; dsimp only; omega),
    rd2 arg1.view X1 (k0_off2 k) _ a b ⟨64 * k.val + a.val, by omega⟩ ⟨512 + b.val, by omega⟩ (by rw [(off2 k).1]) (by rw [(off2 k).2]), h1, h1]
  unfold S9
  rw [dif_pos (show 64 ≤ ((ix2 y b : S2176x512.Idx) 0).val from by show 64 ≤ y.val; omega)]
  have e : (⟨((ix2 y b : S2176x512.Idx) 0).val - 64, by show y.val - 64 < 2112; omega⟩ : Fin 2112) = ⟨64 * k.val + a.val, by omega⟩ := Fin.ext (by show y.val - 64 = 64 * k.val + a.val; omega)
  rw [e]
  rfl

/-- After the first loop the buffer holds the zeros and the gated rows. -/
theorem read9 (u : Fin 2112 → Fin 1024 → EReal) (X1 : BufTy.Contents (Elt Ideal) arg1.view.ty)
    (h1 : ∀ t k, (arg1.view.read (Elt Ideal) X1 (ix2 t k) : EReal) = u t k) (f : BufTy.Contents (Elt Ideal) arg9.view.ty) :
    arg9.view.read (Elt Ideal) (arg9.view.writes (Elt Ideal) f
      (pb_k0_t1 (F := Ideal) Variants.none c none i arg1 harg1 arg2 harg2 arg3 harg3 arg4 harg4 arg5 harg5 arg6 harg6 arg7 harg7 arg8 harg8 arg9 harg9 X1 k0_t1_loop.trips ++ [⟨Rect.unit (s := S2176x512) ![0, 0] S64x512.size inb_S2176x512_S64x512_0_0, k0_pay1 (F := Ideal)⟩]))
      = S9 (gl u) := by
  funext y
  obtain ⟨p, l, rfl⟩ : ∃ (p : Fin 2176) (l : Fin 512), y = (ix2 p l : S2176x512.Idx) := ⟨y 0, y 1, (ix2_eta _).symm⟩
  refine View.read_writes_apply_of_pieces arg9.view f (S9 (gl u)) _ (fits_append
    (seq_fits rfl (pb_k0_t1_succ (F := Ideal) Variants.none c none i arg1 harg1 arg2 harg2 arg3 harg3 arg4 harg4 arg5 harg5 arg6 harg6 arg7 harg7 arg8 harg8 arg9 harg9 X1) (fits1 c i arg1 harg1 arg2 harg2 arg3 harg3 arg4 harg4 arg5 harg5 arg6 harg6 arg7 harg7 arg8 harg8 arg9 harg9 u X1 h1) _ le_rfl)
    (fits_rcons ![0, 0] inb_S2176x512_S64x512_0_0 _ _ _ (fits_nil _) fun a b y z hy hz => ?_)) _ ?_
  · have hy' : y.val = 0 + a.val := hy
    unfold S9
    rw [dif_neg (show ¬ 64 ≤ ((ix2 y z : S2176x512.Idx) 0).val from by show ¬ 64 ≤ y.val; omega)]
    pointwise [k0_pay1]
  · by_cases hp : p.val < 64
    · exact ⟨_, List.mem_append_right _ List.mem_cons_self, mem_rect ![0, 0] inb_S2176x512_S64x512_0_0 _ _ ⟨Nat.zero_le _, by show p.val < 0 + 64; omega⟩ ⟨Nat.zero_le _, by show l.val < 0 + 512; omega⟩⟩
    · have hk : (p.val - 64) / 64 < k0_t1_loop.trips := by rw [trips1]; omega
      refine ⟨_, List.mem_append_left _ (seq_mem (pb_k0_t1_succ (F := Ideal) Variants.none c none i arg1 harg1 arg2 harg2 arg3 harg3 arg4 harg4 arg5 harg5 arg6 harg6 arg7 harg7 arg8 harg8 arg9 harg9 X1) ⟨(p.val - 64) / 64, hk⟩ _
        (by unfold tripL_k0_t1; rw [list1]; exact List.mem_cons_self) _ hk le_rfl), ?_⟩
      refine mem_rect (k0_off3 _) (k0_off3_inb _) _ _ ?_ ?_
      · rw [(off3 _).1]; dsimp only; omega
      · rw [(off3 _).2]; omega

/-! ### The second loop: the convolution -/

/-- The convolution of a block's rows. -/
def Yv (v : Fin 2112 → Fin 512 → EReal) (w : Fin 31 → Fin 512 → EReal) (b : Fin 512 → EReal) : S2112x512.Idx → EReal := fun i => cv v w b (i 0) (i 1)

theorem fits2 (v : Fin 2112 → Fin 512 → EReal) (w : Fin 31 → Fin 512 → EReal) (b : Fin 512 → EReal)
    (X2 : BufTy.Contents (Elt Ideal) arg2.view.ty) (X3 : BufTy.Contents (Elt Ideal) arg3.view.ty) (X9 : BufTy.Contents (Elt Ideal) arg9.view.ty)
    (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (k : Fin k0_t2_loop.trips) :
    Fits (trip_k0_t2 (F := Ideal) Variants.none c none i arg1 harg1 arg2 harg2 arg3 harg3 arg4 harg4 arg5 harg5 arg6 harg6 arg7 harg7 arg8 harg8 arg9 harg9 X2 X3 X9 k).1 (Yv v w b) := by
  have hk : k.val < 33 := Nat.lt_of_lt_of_eq k.isLt trips2
  rw [list2]
  refine fits_rcons (k0_off11 k) (k0_off11_inb k) _ _ _ (fits_rcons (k0_off9 k) (k0_off9_inb k) _ _ _ (fits_rcons (k0_off7 k) (k0_off7_inb k) _ _ _
    (fits_rcons (k0_off5 k) (k0_off5_inb k) _ _ _ (fits_nil _) fun a l y z hy hz => ?_) fun a l y z hy hz => ?_) fun a l y z hy hz => ?_) fun a l y z hy hz => ?_
  · rw [(off5 k).1] at hy
    rw [(off5 k).2] at hz
    have hlt : 64 * k.val + a.val < 2112 := by omega
    have hlz : l.val < 512 := by omega
    obtain rfl : y = ⟨64 * k.val + a.val, hlt⟩ := Fin.ext hy
    obtain rfl : z = ⟨l.val, hlz⟩ := Fin.ext (by dsimp only; omega)
    exact tap0 arg2 arg3 arg9 v w b h9 h2 h3 k hk a l
  · rw [(off7 k).1] at hy
    rw [(off7 k).2] at hz
    have hlt : 64 * k.val + a.val < 2112 := by omega
    have hlz : 128 + l.val < 512 := by omega
    obtain rfl : y = ⟨64 * k.val + a.val, hlt⟩ := Fin.ext hy
    obtain rfl : z = ⟨128 + l.val, hlz⟩ := Fin.ext (by dsimp only; omega)
    exact tap1 arg2 arg3 arg9 v w b h9 h2 h3 k hk a l
  · rw [(off9 k).1] at hy
    rw [(off9 k).2] at hz
    have hlt : 64 * k.val + a.val < 2112 := by omega
    have hlz : 256 + l.val < 512 := by omega
    obtain rfl : y = ⟨64 * k.val + a.val, hlt⟩ := Fin.ext hy
    obtain rfl : z = ⟨256 + l.val, hlz⟩ := Fin.ext (by dsimp only; omega)
    exact tap2 arg2 arg3 arg9 v w b h9 h2 h3 k hk a l
  · rw [(off11 k).1] at hy
    rw [(off11 k).2] at hz
    have hlt : 64 * k.val + a.val < 2112 := by omega
    have hlz : 384 + l.val < 512 := by omega
    obtain rfl : y = ⟨64 * k.val + a.val, hlt⟩ := Fin.ext hy
    obtain rfl : z = ⟨384 + l.val, hlz⟩ := Fin.ext (by dsimp only; omega)
    exact tap3 arg2 arg3 arg9 v w b h9 h2 h3 k hk a l

theorem read7 (v : Fin 2112 → Fin 512 → EReal) (w : Fin 31 → Fin 512 → EReal) (b : Fin 512 → EReal)
    (X2 : BufTy.Contents (Elt Ideal) arg2.view.ty) (X3 : BufTy.Contents (Elt Ideal) arg3.view.ty) (X9 : BufTy.Contents (Elt Ideal) arg9.view.ty)
    (h9 : (arg9.view.read (Elt Ideal) X9 : S2176x512.Idx → EReal) = S9 v) (h2 : ∀ (j : Fin 31) l, (arg2.view.read (Elt Ideal) X2 (ix2 ⟨j.val, by omega⟩ l) : EReal) = w j l)
    (h3 : ∀ l, (arg3.view.read (Elt Ideal) X3 (ix2 0 l) : EReal) = b l) (f : BufTy.Contents (Elt Ideal) arg7.view.ty) :
    arg7.view.read (Elt Ideal) (arg7.view.writes (Elt Ideal) f
      (pb_k0_t2 (F := Ideal) Variants.none c none i arg1 harg1 arg2 harg2 arg3 harg3 arg4 harg4 arg5 harg5 arg6 harg6 arg7 harg7 arg8 harg8 arg9 harg9 X2 X3 X9 k0_t2_loop.trips)) = Yv v w b := by
  funext y
  obtain ⟨p, l, rfl⟩ : ∃ (p : Fin 2112) (l : Fin 512), y = (ix2 p l : S2112x512.Idx) := ⟨y 0, y 1, (ix2_eta _).symm⟩
  refine View.read_writes_apply_of_pieces arg7.view f (Yv v w b) _
    (seq_fits rfl (pb_k0_t2_succ (F := Ideal) Variants.none c none i arg1 harg1 arg2 harg2 arg3 harg3 arg4 harg4 arg5 harg5 arg6 harg6 arg7 harg7 arg8 harg8 arg9 harg9 X2 X3 X9) (fits2 c i arg1 harg1 arg2 harg2 arg3 harg3 arg4 harg4 arg5 harg5 arg6 harg6 arg7 harg7 arg8 harg8 arg9 harg9 v w b X2 X3 X9 h9 h2 h3) _ le_rfl) _ ?_
  have hk : p.val / 64 < k0_t2_loop.trips := by rw [trips2]; omega
  have hl : l.val < 128 ∨ (128 ≤ l.val ∧ l.val < 256) ∨ (256 ≤ l.val ∧ l.val < 384) ∨ (384 ≤ l.val ∧ l.val < 512) := by omega
  rcases hl with hl | hl | hl | hl
  · refine ⟨_, seq_mem (pb_k0_t2_succ (F := Ideal) Variants.none c none i arg1 harg1 arg2 harg2 arg3 harg3 arg4 harg4 arg5 harg5 arg6 harg6 arg7 harg7 arg8 harg8 arg9 harg9 X2 X3 X9) ⟨p.val / 64, hk⟩ _
      (by unfold tripL_k0_t2; rw [list2]; exact List.mem_cons_of_mem _ (List.mem_cons_of_mem _ (List.mem_cons_of_mem _ List.mem_cons_self))) _ hk le_rfl, ?_⟩
    refine mem_rect (k0_off5 _) (k0_off5_inb _) _ _ ?_ ?_
    · rw [(off5 _).1]; dsimp only; omega
    · rw [(off5 _).2]; omega
  · refine ⟨_, seq_mem (pb_k0_t2_succ (F := Ideal) Variants.none c none i arg1 harg1 arg2 harg2 arg3 harg3 arg4 harg4 arg5 harg5 arg6 harg6 arg7 harg7 arg8 harg8 arg9 harg9 X2 X3 X9) ⟨p.val / 64, hk⟩ _
      (by unfold tripL_k0_t2; rw [list2]; exact List.mem_cons_of_mem _ (List.mem_cons_of_mem _ List.mem_cons_self)) _ hk le_rfl, ?_⟩
    refine mem_rect (k0_off7 _) (k0_off7_inb _) _ _ ?_ ?_
    · rw [(off7 _).1]; dsimp only; omega
    · rw [(off7 _).2]; omega
  · refine ⟨_, seq_mem (pb_k0_t2_succ (F := Ideal) Variants.none c none i arg1 harg1 arg2 harg2 arg3 harg3 arg4 harg4 arg5 harg5 arg6 harg6 arg7 harg7 arg8 harg8 arg9 harg9 X2 X3 X9) ⟨p.val / 64, hk⟩ _
      (by unfold tripL_k0_t2; rw [list2]; exact List.mem_cons_of_mem _ List.mem_cons_self) _ hk le_rfl, ?_⟩
    refine mem_rect (k0_off9 _) (k0_off9_inb _) _ _ ?_ ?_
    · rw [(off9 _).1]; dsimp only; omega
    · rw [(off9 _).2]; omega
  · refine ⟨_, seq_mem (pb_k0_t2_succ (F := Ideal) Variants.none c none i arg1 harg1 arg2 harg2 arg3 harg3 arg4 harg4 arg5 harg5 arg6 harg6 arg7 harg7 arg8 harg8 arg9 harg9 X2 X3 X9) ⟨p.val / 64, hk⟩ _
      (by unfold tripL_k0_t2; rw [list2]; exact List.mem_cons_self) _ hk le_rfl, ?_⟩
    refine mem_rect (k0_off11 _) (k0_off11_inb _) _ _ ?_ ?_
    · rw [(off11 _).1]; dsimp only; omega
    · rw [(off11 _).2]; omega

/-! ### The third loop: the normed and gated rows -/

/-- The normed and gated rows of a block. -/
def Zv (y : S2112x512.Idx → EReal) (g s : Fin 512 → EReal) : S2112x512.Idx → EReal := fun i => act (fun k => y (ix2 (i 0) k)) g s (i 1)

theorem pay4_apply (x : Vec Ideal S352x512 .f32) (g s : Vec Ideal S1x512 .f32) (r : Fin 352) (l : Fin 512) :
    (k0_pay4 x g s (ix2 r l) : EReal) = act (fun k => x (ix2 r k)) (fun k => g (ix2 0 k)) (fun k => s (ix2 0 k)) l := by
  pointwise [k0_pay4]
  unfold act sg ln mean
  simp only [zero_sub]
  try rfl

theorem fits3 (y : S2112x512.Idx → EReal) (g s : Fin 512 → EReal)
    (X4 : BufTy.Contents (Elt Ideal) arg4.view.ty) (X5 : BufTy.Contents (Elt Ideal) arg5.view.ty) (X7 : BufTy.Contents (Elt Ideal) arg7.view.ty)
    (h7 : (arg7.view.read (Elt Ideal) X7 : S2112x512.Idx → EReal) = y) (h4 : ∀ l, (arg4.view.read (Elt Ideal) X4 (ix2 0 l) : EReal) = g l)
    (h5 : ∀ l, (arg5.view.read (Elt Ideal) X5 (ix2 0 l) : EReal) = s l) (k : Fin k0_t3_loop.trips) :
    Fits (trip_k0_t3 (F := Ideal) Variants.none c none i arg1 harg1 arg2 harg2 arg3 harg3 arg4 harg4 arg5 harg5 arg6 harg6 arg7 harg7 arg8 harg8 arg9 harg9 X4 X5 X7 k).1 (Zv y g s) := by
  have hk : k.val < 6 := Nat.lt_of_lt_of_eq k.isLt trips3
  rw [list3]
  refine fits_rcons (k0_off12 k) (k0_off12_inb k) _ _ _ (fits_nil _) fun a b p z hy hz => ?_
  rw [(off12 k).1] at hy
  rw [(off12 k).2] at hz
  obtain rfl : b = z := Fin.ext (by omega)
  refine (pay4_apply _ _ _ a b).trans ?_
  have e7 : ∀ q : Fin 512, (View.readAt (Elt Ideal) arg7.view (Rect.unit (s := S2112x512) (k0_off12 k) S352x512.size (k0_off12_inb k)).toLoadRect X7 (ix2 a q) : EReal) = y (ix2 p q) := fun q => by
    rw [← h7]
    exact rd2 arg7.view X7 _ _ _ _ _ _ (by rw [(off12 k).1]; exact hy) (by have := (off12 k).2; omega)
  have e4 : ∀ q : Fin 512, (View.readAt (Elt Ideal) arg4.view (Rect.unit (s := S1x512) ![0, 0] S1x512.size inb_S1x512_S1x512_0_0).toLoadRect X4 (ix2 0 q) : EReal) = g q := fun q => by
    rw [← h4]
    exact rd2 arg4.view X4 _ _ _ _ _ _ rfl (by simp)
  have e5 : ∀ q : Fin 512, (View.readAt (Elt Ideal) arg5.view (Rect.unit (s := S1x512) ![0, 0] S1x512.size inb_S1x512_S1x512_0_0).toLoadRect X5 (ix2 0 q) : EReal) = s q := fun q => by
    rw [← h5]
    exact rd2 arg5.view X5 _ _ _ _ _ _ rfl (by simp)
  simp only [e7, e4, e5]
  rfl

theorem read8 (y : S2112x512.Idx → EReal) (g s : Fin 512 → EReal)
    (X4 : BufTy.Contents (Elt Ideal) arg4.view.ty) (X5 : BufTy.Contents (Elt Ideal) arg5.view.ty) (X7 : BufTy.Contents (Elt Ideal) arg7.view.ty)
    (h7 : (arg7.view.read (Elt Ideal) X7 : S2112x512.Idx → EReal) = y) (h4 : ∀ l, (arg4.view.read (Elt Ideal) X4 (ix2 0 l) : EReal) = g l)
    (h5 : ∀ l, (arg5.view.read (Elt Ideal) X5 (ix2 0 l) : EReal) = s l) (f : BufTy.Contents (Elt Ideal) arg8.view.ty) :
    arg8.view.read (Elt Ideal) (arg8.view.writes (Elt Ideal) f
      (pb_k0_t3 (F := Ideal) Variants.none c none i arg1 harg1 arg2 harg2 arg3 harg3 arg4 harg4 arg5 harg5 arg6 harg6 arg7 harg7 arg8 harg8 arg9 harg9 X4 X5 X7 k0_t3_loop.trips)) = Zv y g s := by
  funext q
  obtain ⟨p, l, rfl⟩ : ∃ (p : Fin 2112) (l : Fin 512), q = (ix2 p l : S2112x512.Idx) := ⟨q 0, q 1, (ix2_eta _).symm⟩
  refine View.read_writes_apply_of_pieces arg8.view f (Zv y g s) _
    (seq_fits rfl (pb_k0_t3_succ (F := Ideal) Variants.none c none i arg1 harg1 arg2 harg2 arg3 harg3 arg4 harg4 arg5 harg5 arg6 harg6 arg7 harg7 arg8 harg8 arg9 harg9 X4 X5 X7) (fits3 c i arg1 harg1 arg2 harg2 arg3 harg3 arg4 harg4 arg5 harg5 arg6 harg6 arg7 harg7 arg8 harg8 arg9 harg9 y g s X4 X5 X7 h7 h4 h5) _ le_rfl) _ ?_
  have hk : p.val / 352 < k0_t3_loop.trips := by rw [trips3]; omega
  refine ⟨_, seq_mem (pb_k0_t3_succ (F := Ideal) Variants.none c none i arg1 harg1 arg2 harg2 arg3 harg3 arg4 harg4 arg5 harg5 arg6 harg6 arg7 harg7 arg8 harg8 arg9 harg9 X4 X5 X7) ⟨p.val / 352, hk⟩ _
    (by unfold tripL_k0_t3; rw [list3]; exact List.mem_cons_self) _ hk le_rfl, ?_⟩
  refine mem_rect (k0_off12 _) (k0_off12_inb _) _ _ ?_ ?_
  · rw [(off12 _).1]; dsimp only; omega
  · rw [(off12 _).2]; omega

end Body

end Cert.Conv

end
-- ==== Proof.ConvFrame.lean ====
/-
  THE CALL `fwd_conv` over the extended reals: each grid point leaves the two results of its block, so the program ends with the arrays that the
  proof data name.
-/
module

public import proofs.«01_k».proof.Proof.ConvRun
public import proofs.«01_k».proof.Proof.ConvBody
public import Idealize.ShloMosaic.Lib.Claim

@[expose] public section

set_option maxRecDepth 16384

noncomputable section

namespace Cert.Conv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A block's first result. -/
def oy (x0 : Vec Ideal S2112x1024 .bf16) (x1 : Vec Ideal S32x512 .f32) (x2 : Vec Ideal S1x512 .f32) : Vec Ideal S2112x512 .f32 :=
  Yv (gl fun t k => x0 (ix2 t k)) (fun j l => x1 (ix2 (⟨j.val, by omega⟩ : Fin 32) l)) (fun l => x2 (ix2 0 l))
/-- A block's second result. -/
def oz (x0 : Vec Ideal S2112x1024 .bf16) (x1 : Vec Ideal S32x512 .f32) (x2 x3 x4 : Vec Ideal S1x512 .f32) : Vec Ideal S2112x512 .bf16 :=
  Zv (oy x0 x1 x2) (fun l => x3 (ix2 0 l)) (fun l => x4 (ix2 0 l))

/-- What the body leaves in its first output. -/
theorem run7 (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
    (x0 : Vec Ideal S2112x1024 .bf16) (x1 : Vec Ideal S32x512 .f32) (x2 : Vec Ideal S1x512 .f32) (x3 : Vec Ideal S1x512 .f32) (x4 : Vec Ideal S1x512 .f32) (x5 : Vec Ideal S8x128 .f32)
    (f6 : BufTy.Contents (Elt Ideal) arg7.view.ty) (f7 : BufTy.Contents (Elt Ideal) arg8.view.ty) (fs0 : BufTy.Contents (Elt Ideal) arg9.view.ty) :
    arg7.view.read (Elt Ideal) (arg7.view.writes (Elt Ideal) f6 (convRun c i arg1 harg1 arg2 harg2 arg3 harg3 arg4 harg4 arg5 harg5 arg6 harg6 arg7 harg7 arg8 harg8 arg9 harg9 x0 x1 x2 x3 x4 x5 f6 f7 fs0).1.1) = oy x0 x1 x2 := by
  unfold convRun
  dsimp only
  exact read7 c i arg1 harg1 arg2 harg2 arg3 harg3 arg4 harg4 arg5 harg5 arg6 harg6 arg7 harg7 arg8 harg8 arg9 harg9 _ _ _ (harg2.unread x1) (harg3.unread x2) _
    (read9 c i arg1 harg1 arg2 harg2 arg3 harg3 arg4 harg4 arg5 harg5 arg6 harg6 arg7 harg7 arg8 harg8 arg9 harg9 (fun t k => x0 (ix2 t k)) (harg1.unread x0) (fun t k => congrFun (harg1.read_unread x0) _) fs0)
    (fun j l => congrFun (harg2.read_unread x1) _) (fun l => congrFun (harg3.read_unread x2) _) f6

/-- What the body leaves in its second output. -/
theorem run8 (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
    (x0 : Vec Ideal S2112x1024 .bf16) (x1 : Vec Ideal S32x512 .f32) (x2 : Vec Ideal S1x512 .f32) (x3 : Vec Ideal S1x512 .f32) (x4 : Vec Ideal S1x512 .f32) (x5 : Vec Ideal S8x128 .f32)
    (f6 : BufTy.Contents (Elt Ideal) arg7.view.ty) (f7 : BufTy.Contents (Elt Ideal) arg8.view.ty) (fs0 : BufTy.Contents (Elt Ideal) arg9.view.ty) :
    arg8.view.read (Elt Ideal) (arg8.view.writes (Elt Ideal) f7 (convRun c i arg1 harg1 arg2 harg2 arg3 harg3 arg4 harg4 arg5 harg5 arg6 harg6 arg7 harg7 arg8 harg8 arg9 harg9 x0 x1 x2 x3 x4 x5 f6 f7 fs0).1.2) = oz x0 x1 x2 x3 x4 := by
  unfold convRun
  dsimp only
  exact read8 c i arg1 harg1 arg2 harg2 arg3 harg3 arg4 harg4 arg5 harg5 arg6 harg6 arg7 harg7 arg8 harg8 arg9 harg9 _ _ _ (harg4.unread x3) (harg5.unread x4) _
    (read7 c i arg1 harg1 arg2 harg2 arg3 harg3 arg4 harg4 arg5 harg5 arg6 harg6 arg7 harg7 arg8 harg8 arg9 harg9 _ _ _ (harg2.unread x1) (harg3.unread x2) _
      (read9 c i arg1 harg1 arg2 harg2 arg3 harg3 arg4 harg4 arg5 harg5 arg6 harg6 arg7 harg7 arg8 harg8 arg9 harg9 (fun t k => x0 (ix2 t k)) (harg1.unread x0) (fun t k => congrFun (harg1.read_unread x0) _) fs0)
      (fun j l => congrFun (harg2.read_unread x1) _) (fun l => congrFun (harg3.read_unread x2) _) f6)
    (fun l => congrFun (harg4.read_unread x3) _) (fun l => congrFun (harg5.read_unread x4) _) f7

/-- The body keeps its inputs and leaves the two results of the block. -/
theorem run (c : Dev nD) (i : grid0.Coords) (arg1 : Memref sig .tc .vmem S2112x1024 .bf16) (harg1 : arg1.IsWhole) (arg2 : Memref sig .tc .vmem S32x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S2112x512 .f32) (harg7 : arg7.IsWhole) (arg8 : Memref sig .tc .vmem S2112x512 .bf16) (harg8 : arg8.IsWhole) (arg9 : Memref sig .tc .vmem S2176x512 .f32) (harg9 : arg9.IsWhole)
    (x0 : Vec Ideal S2112x1024 .bf16) (x1 : Vec Ideal S32x512 .f32) (x2 : Vec Ideal S1x512 .f32) (x3 : Vec Ideal S1x512 .f32) (x4 : Vec Ideal S1x512 .f32) (x5 : Vec Ideal S8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oy x0 x1 x2) ∗ owns (c : Thread nD τ) arg8 fullShare (oz x0 x1 x2 x3 x4) ∗ (∃ d, owns (c : Thread nD τ) arg9 fullShare d)) -∗ K ⟨⟩))
          ⊢ wp frame (wpE (defs₀ (F := Ideal)) Variants.none c none) E (cc0_fwd_conv i arg1 harg1 arg2 harg2 arg3 harg3 arg4 harg4 arg5 harg5 arg6 harg6 arg7 harg7 arg8 harg8 arg9 harg9) K := by
  intro E K
  iintro ⟨H0, H1, H2, H3, H4, H5, ⟨%d6, H6⟩, ⟨%d7, H7⟩, ⟨%d8, H8⟩, Hk⟩
  unfold owns
  icases H6 with ⟨%f6, %h6, H6⟩
  icases H7 with ⟨%f7, %h7, H7⟩
  icases H8 with ⟨%f8, %h8, H8⟩
  iapply ((convRun c i arg1 harg1 arg2 harg2 arg3 harg3 arg4 harg4 arg5 harg5 arg6 harg6 arg7 harg7 arg8 harg8 arg9 harg9 x0 x1 x2 x3 x4 x5 f6 f7 f8).2 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact run7 c i arg1 harg1 arg2 harg2 arg3 harg3 arg4 harg4 arg5 harg5 arg6 harg6 arg7 harg7 arg8 harg8 arg9 harg9 x0 x1 x2 x3 x4 x5 f6 f7 f8
  isplitl [H7]
  · iexists _; isplitr; swap; · iexact H7
    ipureintro; exact run8 c i arg1 harg1 arg2 harg2 arg3 harg3 arg4 harg4 arg5 harg5 arg6 harg6 arg7 harg7 arg8 harg8 arg9 harg9 x0 x1 x2 x3 x4 x5 f6 f7 f8
  iexact HS

/-- The proof data: every input at its block, the outputs at what the block gives. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oy (iblk m c 0 t) (iblk m c 1 t) (iblk m c 2 t)
    | ⟨7, _⟩ => oz (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oy (iblk m c 0 t) (iblk m c 1 t) (iblk m c 2 t) := by dsimp only [dats]
theorem after0_7 (c : Dev nD) (t : Fin cfg0.N) : (dats m 0 c).after 7 t = oz (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs. -/
theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The program terminates, keeps its arguments and leaves every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The program's two results, and its arguments unchanged. -/
theorem run_blocks : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, (h.1 c).1 7, h.2 c⟩) (θ_run_and (run_main m ρ) (unchanged m ρ))

end Cert.Conv

end
-- ==== Proof.ConvRef.lean ====
/-
  THE REFERENCE, read at an index: each of its two results is the row function of ConvSpec.lean at that row and lane.
-/
module

public import proofs.«01_k».proof.Proof.ConvSpec
public import proofs.«01_k».proof.Proof.Lift
public import Idealize.ShloMosaic.Lib.KernelVsHost
public import proofs.«01_k».proof.Proof.Gen.Reference4Ideal.Read

@[expose] public section

set_option maxRecDepth 16384

noncomputable section

namespace Cert.Conv.Ref

open Cert.Reference4Ideal Cert.Reference4Ideal.Gen Cert.Reference4Ideal.Read Idealize.ShloMosaic

theorem ix_idx_v1 (a0 : Fin 2) (a1 : Fin 2112) (a2 : Fin 1024) : idx_main_v1 (ix3 a0 a1 a2) = ix2 (⟨a0.val * 2112 + a1.val, by omega⟩ : Fin 4224) a2 := funext fun a => by
  fin_cases a
  · exact Fin.ext (show ((a0.val * 2112 + a1.val) * 1024 + a2.val) / 1024 = a0.val * 2112 + a1.val by omega)
  · exact Fin.ext (show ((a0.val * 2112 + a1.val) * 1024 + a2.val) % 1024 = a2.val by omega)
theorem ix_idx_v2 (a0 : Fin 2) (a1 : Fin 2112) (a2 : Fin 512) : idx_main_v2 (ix3 a0 a1 a2) = ix3 a0 a1 (⟨a2.val, by omega⟩ : Fin 1024) := funext fun a => by fin_cases a <;> rfl
theorem ix_idx_v3 (a0 : Fin 2) (a1 : Fin 2112) (a2 : Fin 512) : idx_main_v3 (ix3 a0 a1 a2) = ix3 a0 a1 (⟨512 + a2.val, by omega⟩ : Fin 1024) := funext fun a => by fin_cases a <;> rfl
theorem ix_idx_v13 (a0 : Fin 2112) (a1 : Fin 1) : idx_main_v13 (ix2 a0 a1) = ix1 a0 := funext fun a => by fin_cases a <;> rfl
theorem ix_idx_v15 (a0 : Fin 1) (a1 : Fin 31) : idx_main_v15 (ix2 a0 a1) = ix1 a1 := funext fun a => by fin_cases a <;> rfl
theorem ix_idx_v16 (a0 : Fin 2112) (a1 : Fin 31) : idx_main_v16 (ix2 a0 a1) = ix2 a0 (0 : Fin 1) := funext fun a => by fin_cases a <;> rfl
theorem ix_idx_v17 (a0 : Fin 2112) (a1 : Fin 31) : idx_main_v17 (ix2 a0 a1) = ix2 (0 : Fin 1) a1 := funext fun a => by fin_cases a <;> rfl
theorem ix_idx_v24 (a0 : Fin 2112) (a1 : Fin 31) (a2 : Fin 1) : idx_main_v24 (ix3 a0 a1 a2) = ix2 a0 a1 := funext fun a => by fin_cases a <;> rfl
theorem ix_idx_v26 (a0 : Fin 31) (a1 : Fin 512) : idx_main_v26 (ix2 a0 a1) = ix3 (0 : Fin 1) a0 a1 := funext fun a => by
  fin_cases a
  · exact Fin.ext (show 0 = 0 by omega)
  · exact Fin.ext (show (a0.val * 512 + a1.val) / 512 % 31 = a0.val by omega)
  · exact Fin.ext (show (a0.val * 512 + a1.val) % 512 = a1.val by omega)
theorem ix_idx_v27 (a0 : Fin 1) (a1 : Fin 1) (a2 : Fin 31) (a3 : Fin 512) : idx_main_v27 (ix4 a0 a1 a2 a3) = ix2 a2 a3 := funext fun a => by fin_cases a <;> rfl
theorem ix_idx_v28 (a0 : Fin 2) (a1 : Fin 2112) (a2 : Fin 31) (a3 : Fin 512) : idx_main_v28 (ix4 a0 a1 a2 a3) = ix4 (0 : Fin 1) (0 : Fin 1) a2 a3 := funext fun a => by fin_cases a <;> rfl
theorem ix_idx_v30 (a0 : Fin 2) (a1 : Fin 2112) (a2 : Fin 512) (k : Fin 31) : idx_main_v30 (ix3 a0 a1 a2) k = ix4 a0 a1 k a2 := funext fun a => by fin_cases a <;> rfl
theorem ix_idx_v31 (a0 : Fin 512) : idx_main_v31 (ix1 a0) = ix2 (0 : Fin 1) a0 := funext fun a => by
  fin_cases a
  · exact Fin.ext (show 0 = 0 by omega)
  · exact Fin.ext (show a0.val % 512 = a0.val by omega)
theorem ix_idx_v32 (a0 : Fin 1) (a1 : Fin 1) (a2 : Fin 512) : idx_main_v32 (ix3 a0 a1 a2) = ix1 a2 := funext fun a => by fin_cases a <;> rfl
theorem ix_idx_v33 (a0 : Fin 2) (a1 : Fin 2112) (a2 : Fin 512) : idx_main_v33 (ix3 a0 a1 a2) = ix3 (0 : Fin 1) (0 : Fin 1) a2 := funext fun a => by fin_cases a <;> rfl
theorem ix_idx_v35 (a0 : Fin 2) (a1 : Fin 2112) (k : Fin 512) : idx_main_v35 (ix2 a0 a1) k = ix3 a0 a1 k := funext fun a => by fin_cases a <;> rfl
theorem ix_idx_v36 (a0 : Fin 2) (a1 : Fin 2112) (a2 : Fin 1) : idx_main_v36 (ix3 a0 a1 a2) = ix2 a0 a1 := funext fun a => by fin_cases a <;> rfl
theorem ix_idx_v39 (a0 : Fin 2) (a1 : Fin 2112) (a2 : Fin 512) : idx_main_v39 (ix3 a0 a1 a2) = ix3 a0 a1 (0 : Fin 1) := funext fun a => by fin_cases a <;> rfl
theorem ix_idx_v42 (a0 : Fin 2) (a1 : Fin 2112) (k : Fin 512) : idx_main_v42 (ix2 a0 a1) k = ix3 a0 a1 k := funext fun a => by fin_cases a <;> rfl
theorem ix_idx_v43 (a0 : Fin 2) (a1 : Fin 2112) (a2 : Fin 1) : idx_main_v43 (ix3 a0 a1 a2) = ix2 a0 a1 := funext fun a => by fin_cases a <;> rfl
theorem ix_idx_v46 (a0 : Fin 2) (a1 : Fin 2112) (a2 : Fin 512) : idx_main_v46 (ix3 a0 a1 a2) = ix3 a0 a1 (0 : Fin 1) := funext fun a => by fin_cases a <;> rfl
theorem ix_idx_v51 (a0 : Fin 2) (a1 : Fin 2112) (a2 : Fin 512) : idx_main_v51 (ix3 a0 a1 a2) = ix3 a0 a1 (0 : Fin 1) := funext fun a => by fin_cases a <;> rfl
theorem ix_idx_v53 (a0 : Fin 512) : idx_main_v53 (ix1 a0) = ix2 (0 : Fin 1) a0 := funext fun a => by
  fin_cases a
  · exact Fin.ext (show 0 = 0 by omega)
  · exact Fin.ext (show a0.val % 512 = a0.val by omega)
theorem ix_idx_v54 (a0 : Fin 1) (a1 : Fin 1) (a2 : Fin 512) : idx_main_v54 (ix3 a0 a1 a2) = ix1 a2 := funext fun a => by fin_cases a <;> rfl
theorem ix_idx_v55 (a0 : Fin 2) (a1 : Fin 2112) (a2 : Fin 512) : idx_main_v55 (ix3 a0 a1 a2) = ix3 (0 : Fin 1) (0 : Fin 1) a2 := funext fun a => by fin_cases a <;> rfl
theorem ix_idx_v57 (a0 : Fin 512) : idx_main_v57 (ix1 a0) = ix2 (0 : Fin 1) a0 := funext fun a => by
  fin_cases a
  · exact Fin.ext (show 0 = 0 by omega)
  · exact Fin.ext (show a0.val % 512 = a0.val by omega)
theorem ix_idx_v58 (a0 : Fin 1) (a1 : Fin 1) (a2 : Fin 512) : idx_main_v58 (ix3 a0 a1 a2) = ix1 a2 := funext fun a => by fin_cases a <;> rfl
theorem ix_idx_v59 (a0 : Fin 2) (a1 : Fin 2112) (a2 : Fin 512) : idx_main_v59 (ix3 a0 a1 a2) = ix3 (0 : Fin 1) (0 : Fin 1) a2 := funext fun a => by fin_cases a <;> rfl
theorem ix_idx_v61 (a0 : Fin 4224) (a1 : Fin 512) : idx_main_v61 (ix2 a0 a1) = ix3 (⟨a0.val / 2112, by omega⟩ : Fin 2) (⟨a0.val % 2112, by omega⟩ : Fin 2112) a1 := funext fun a => by
  fin_cases a
  · exact Fin.ext (show (a0.val * 512 + a1.val) / 1081344 = a0.val / 2112 by omega)
  · exact Fin.ext (show (a0.val * 512 + a1.val) / 512 % 2112 = a0.val % 2112 by omega)
  · exact Fin.ext (show (a0.val * 512 + a1.val) % 512 = a1.val by omega)
theorem ix_idx_v63 (a0 : Fin 4224) (a1 : Fin 512) : idx_main_v63 (ix2 a0 a1) = ix3 (⟨a0.val / 2112, by omega⟩ : Fin 2) (⟨a0.val % 2112, by omega⟩ : Fin 2112) a1 := funext fun a => by
  fin_cases a
  · exact Fin.ext (show (a0.val * 512 + a1.val) / 1081344 = a0.val / 2112 by omega)
  · exact Fin.ext (show (a0.val * 512 + a1.val) / 512 % 2112 = a0.val % 2112 by omega)
  · exact Fin.ext (show (a0.val * 512 + a1.val) % 512 = a1.val by omega)

/-- The gather read at an index: the row its start index names. -/
theorem gather_apply {α : Type} (x : S2x2142x512.Idx → α) (idx : IVec S2112x31x1 32) (e : Fin 2) (t : Fin 2112) (j : Fin 31) (l : Fin 512) :
    Host.gather gather_S2x2142x512_S2112x31x1_S2x2112x31x512_03_1_n_n_1_2_21512 x idx (ix4 e t j l)
      = x (ix3 e (⟨min (idx (ix3 t j (0 : Fin 1))).toInt.toNat 2141, by omega⟩ : Fin 2142) l) := by
  unfold Host.gather
  congr 1
  funext a
  refine Fin.ext ?_
  have hsi : ∀ z, gather_S2x2142x512_S2112x31x1_S2x2112x31x512_03_1_n_n_1_2_21512.siIdx (ix4 e t j l) z = ix3 t j (0 : Fin 1) := fun z => by
    funext b; refine Fin.ext ?_
    match b with
    | ⟨0, _⟩ => rfl
    | ⟨1, _⟩ => rfl
    | ⟨2, _⟩ => exact Nat.lt_one_iff.mp (Fin.isLt _)
  match a with
  | ⟨0, _⟩ => exact Nat.zero_add e.val
  | ⟨1, _⟩ =>
    show gather_S2x2142x512_S2112x31x1_S2x2112x31x512_03_1_n_n_1_2_21512.start (ix4 e t j l) idx 1 + _ + _ = _
    unfold GatherDims.start
    rw [dif_pos (show (1 : Fin 3) ∈ gather_S2x2142x512_S2112x31x1_S2x2112x31x512_03_1_n_n_1_2_21512.startIndexMap from List.mem_singleton.mpr rfl), hsi]
    rfl
  | ⟨2, _⟩ => exact Nat.zero_add l.val

/-- The row that tap `j` of row `t` reads. -/
theorem start (t : Fin 2112) (j : Fin 31) : (val_main_v24 (F := Ideal) (ix3 t j (0 : Fin 1))).toInt.toNat = t.val + j.val := by
  simp only [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_c_1_apply,
    val_main_c_2_apply, ix_idx_v24, ix_idx_v17, ix_idx_v16, ix_idx_v15, ix_idx_v13, pointwise]
  have ht := t.isLt
  have hj := j.isLt
  have h : IntOp.addi (BitVec.ofNat 32 t.val) (BitVec.ofNat 32 j.val) = BitVec.ofNat 32 (t.val + j.val) := (BitVec.ofNat_add ..).symm
  have hi : (BitVec.ofNat 32 (t.val + j.val)).toInt = ((t.val + j.val : ℕ) : ℤ) := by
    rw [BitVec.toInt_eq_toNat_of_lt (by rw [BitVec.toNat_ofNat]; omega), BitVec.toNat_ofNat, Nat.mod_eq_of_lt (by omega)]
  have hc : IntOp.cmpi CmpIPredicate.slt (BitVec.ofNat 32 (t.val + j.val)) 0#32 = 0#1 := by
    simp only [IntOp.cmpi, BitVec.slt, hi, BitVec.toInt_zero]
    rw [decide_eq_false (by omega)]; rfl
  rw [h, hc]
  show (BitVec.toInt (BitVec.ofNat 32 (t.val + j.val))).toNat = _
  rw [hi]; rfl

variable (x0 : (⟨S4224x1024, .bf16⟩ : BufTy).Contents (Elt Ideal)) (x1 : (⟨S1x31x512, .f32⟩ : BufTy).Contents (Elt Ideal))
  (x2 x3 x4 : (⟨S1x512, .f32⟩ : BufTy).Contents (Elt Ideal))

/-- An example's rows. -/
abbrev U (e : Fin 2) (t : Fin 2112) (k : Fin 1024) : EReal := x0 (ix2 (⟨e.val * 2112 + t.val, by omega⟩ : Fin 4224) k)

/-- The gated rows. -/
theorem v10 (e : Fin 2) (t : Fin 2112) (l : Fin 512) : (val_main_v10 (F := Ideal) x0 (ix3 e t l) : EReal) = gl (U x0 e) t l := by
  simp only [val_main_v10_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, ix_idx_v1, ix_idx_v2,
    ix_idx_v3, pointwise]
  rfl

/-- The gated rows with 30 rows of zeros before them. -/
theorem v11 (e : Fin 2) (p : Fin 2142) (l : Fin 512) : (val_main_v11 (F := Ideal) x0 (ix3 e p l) : EReal) = vp (gl (U x0 e)) p.val l := by
  unfold val_main_v11
  have key : ∀ (y : Vec Ideal S2x2112x512 .f32), (pad S2x2142x512 ![0, 30, 0] ![0, 0, 0] ![0, 0, 0] y (val_main_call0_v0 (F := Ideal))
      pads_S2x2112x512_S2x2142x512_000_3000_000 h_S_ (ix3 e p l) : EReal) = if h : 30 ≤ p.val then y (ix3 e (⟨p.val - 30, by omega⟩ : Fin 2112) l) else 0 := fun y => by
    unfold val_main_call0_v0 val_main_c
    pointwise
    have hp := p.isLt
    have hl := l.isLt
    split_ifs
    all_goals first | omega | rfl | exact sitofp_zero (φ := .f32)
  refine (key _).trans ?_
  unfold vp
  by_cases h : 30 ≤ p.val
  · rw [dif_pos h, dif_pos ⟨h, p.isLt⟩, v10]
  · rw [dif_neg h, dif_neg (fun q => h q.1)]

/-- The convolved rows. -/
theorem v34 (e : Fin 2) (t : Fin 2112) (l : Fin 512) : (val_main_v34 (F := Ideal) x0 x1 x2 (ix3 e t l) : EReal) =
    cv (gl (U x0 e)) (fun j k => x1 (ix3 0 j k)) (fun k => x2 (ix2 0 k)) t l := by
  have h25 : ∀ j : Fin 31, (val_main_v25 (F := Ideal) x0 (ix4 e t j l) : EReal) = vp (gl (U x0 e)) (t.val + j.val) l := fun j => by
    unfold val_main_v25
    rw [gather_apply, v11]
    congr 1
    show min (BitVec.toInt (val_main_v24 (F := Ideal) (ix3 t j 0))).toNat 2141 = t.val + j.val
    rw [start]
    omega
  simp only [val_main_v34_apply, val_main_v33_apply, val_main_v32_apply, val_main_v31_apply, val_main_v30_apply, val_main_v29_apply, val_main_v28_apply,
    val_main_v27_apply, val_main_v26_apply, val_main_cst_3_apply, ix_idx_v26, ix_idx_v27, ix_idx_v28, ix_idx_v30, ix_idx_v31, ix_idx_v32, ix_idx_v33,
    h25, pointwise]
  simp only [Lift.ofBits_zero, EReal.coe_zero, zero_add]
  rfl

/-- The normed rows. -/
theorem v60 (e : Fin 2) (t : Fin 2112) (l : Fin 512) : (val_main_v60 (F := Ideal) x0 x1 x2 x3 x4 (ix3 e t l) : EReal) =
    ln (cv (gl (U x0 e)) (fun j k => x1 (ix3 0 j k)) (fun k => x2 (ix2 0 k)) t) (fun k => x3 (ix2 0 k)) (fun k => x4 (ix2 0 k)) l := by
  simp only [val_main_v60_apply, val_main_v59_apply, val_main_v58_apply, val_main_v57_apply, val_main_v56_apply, val_main_v55_apply, val_main_v54_apply,
    val_main_v53_apply, val_main_v52_apply, val_main_v51_apply, val_main_v50_apply, val_main_v49_apply, val_main_v48_apply, val_main_v47_apply,
    val_main_v46_apply, val_main_v45_apply, val_main_v44_apply, val_main_v43_apply, val_main_v42_apply, val_main_v41_apply, val_main_v40_apply,
    val_main_v39_apply, val_main_v38_apply, val_main_v37_apply, val_main_v36_apply, val_main_v35_apply, val_main_cst_4_apply, val_main_cst_5_apply,
    val_main_cst_6_apply, val_main_cst_7_apply, val_main_cst_8_apply, ix_idx_v35, ix_idx_v36, ix_idx_v39, ix_idx_v42, ix_idx_v43, ix_idx_v46,
    ix_idx_v51, ix_idx_v53, ix_idx_v54, ix_idx_v55, ix_idx_v57, ix_idx_v58, ix_idx_v59, v34, pointwise]
  simp only [Lift.ofBits_zero, EReal.coe_zero, zero_add]
  rfl

/-- A device's row among the examples'. -/
abbrev ex (R : Fin 4224) : Fin 2 := ⟨R.val / 2112, by omega⟩
abbrev rw_ (R : Fin 4224) : Fin 2112 := ⟨R.val % 2112, by omega⟩

theorem final61 : val_main_v61 (F := Ideal) x0 x1 x2 = fun i : S4224x512.Idx =>
    cv (gl (U x0 (ex (i 0)))) (fun j k => x1 (ix3 0 j k)) (fun k => x2 (ix2 0 k)) (rw_ (i 0)) (i 1) := by
  funext i
  obtain ⟨R, l, rfl⟩ : ∃ (R : Fin 4224) (l : Fin 512), i = (ix2 R l : S4224x512.Idx) := ⟨i 0, i 1, (ix2_eta _).symm⟩
  rw [val_main_v61_apply, ix_idx_v61]
  exact v34 x0 x1 x2 _ _ l

theorem final64 : val_main_v64 (F := Ideal) x0 x1 x2 x3 x4 = fun i : S4224x512.Idx =>
    act (cv (gl (U x0 (ex (i 0)))) (fun j k => x1 (ix3 0 j k)) (fun k => x2 (ix2 0 k)) (rw_ (i 0))) (fun k => x3 (ix2 0 k)) (fun k => x4 (ix2 0 k)) (i 1) := by
  funext i
  obtain ⟨R, l, rfl⟩ : ∃ (R : Fin 4224) (l : Fin 512), i = (ix2 R l : S4224x512.Idx) := ⟨i 0, i 1, (ix2_eta _).symm⟩
  simp only [val_main_v64_apply, val_main_v63_apply, val_main_v62_apply, val_main_call1_v5_apply, val_main_call1_v4_apply, val_main_call1_v3_apply, val_main_call1_v2_apply,
    val_main_call1_v1_apply, val_main_call1_v0_apply, val_main_call1_cst_apply, val_main_call1_cst_0_apply, ix_idx_v63, v60, pointwise]
  rfl

end Cert.Conv.Ref

end
-- ==== Proof.ConvFinal.lean ====
/-
  THE TWO RESULTS OF `fwd_conv`: each output array, entry by entry, is the convolution at that row and lane, or the normed and gated row.
-/
module

public import proofs.«01_k».proof.Proof.ConvFrame
public import proofs.«01_k».proof.Proof.ConvRef

@[expose] public section

set_option maxRecDepth 16384

noncomputable section

namespace Cert.Conv

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- An argument array, as launched. -/
abbrev arg (b : Ref sig .tc) : Buf (Elt Ideal) ((c : Thread nD τ).loc b) := m ((c : Thread nD τ).loc b)

theorem taps_apply (x : Vec Ideal S1x31x512 .f32) (j : Fin 31) (l : Fin 512) :
    (pad S32x512 ![0, 0] ![1, 0] ![0, 0] (shapeCast S31x512 x shapeCasts_S1x31x512_S31x512) (sitofp (F := Ideal) .f32 (constantI S_ 32 0#32))
      pads_S31x512_S32x512_010_000 h_S_ (ix2 (⟨j.val, by omega⟩ : Fin 32) l) : EReal) = x (ix3 0 j l) := by
  pointwise

/-- The taps, below which the host puts a row of zeros. -/
theorem V1 (j : Fin 31) (l : Fin 512) : (V m c main_v1 (ix2 (⟨j.val, by omega⟩ : Fin 32) l) : EReal) = arg m c main_arg1 (ix3 0 j l) := by
  have h : V m c main_v1 = (pad S32x512 ![0, 0] ![1, 0] ![0, 0] (shapeCast S31x512 (arg m c main_arg1) shapeCasts_S1x31x512_S31x512)
      (sitofp (F := Ideal) .f32 (constantI S_ 32 0#32)) pads_S31x512_S32x512_010_000 h_S_ : S32x512.Idx → EReal) := by
    unfold_abbrev_sides
    simp only [hostOps0, hostOps0_1, List.flatten_cons, List.flatten_nil, List.append_nil, List.cons_append, List.nil_append]
    after_results
    rfl
  exact (congrFun h _).trans (taps_apply _ j l)

variable (t : Fin cfg0.N)

theorem point_lt : t.val < 2 := by have := t.isLt; have : cfg0.N = 2 := N_0; omega

/-- A block's row among the device's. -/
abbrev rowAt (r : Fin 2112) : Fin 4224 := ⟨2112 * t.val + r.val, by have := point_lt t; omega⟩

theorem index_in : ∀ t : Fin cfg0.N, win0_0.index t = ![t.val, 0] ∧ win0_1.index t = ![0, 0] ∧ win0_2.index t = ![0, 0] ∧ win0_3.index t = ![0, 0] ∧ win0_4.index t = ![0, 0] :=
  (by decide +kernel : ∀ t : Fin grid0.N, win0_0.index t = ![t.val, 0] ∧ win0_1.index t = ![0, 0] ∧ win0_2.index t = ![0, 0] ∧ win0_3.index t = ![0, 0] ∧ win0_4.index t = ![0, 0])
theorem index_out : ∀ t : Fin cfg0.N, win0_6.index t = ![t.val, 0] ∧ win0_7.index t = ![t.val, 0] :=
  (by decide +kernel : ∀ t : Fin grid0.N, win0_6.index t = ![t.val, 0] ∧ win0_7.index t = ![t.val, 0])

theorem block0 (r : Fin 2112) (l : Fin 1024) : (iblk m c 0 t (ix2 r l) : EReal) = arg m c main_arg0 (ix2 (rowAt t r) l) := by
  have e : (iblk m c 0 t (ix2 r l) : EReal) = V m c main_arg0 (ix2 (rowAt t r) l) := by
    have h := (index_in t).1
    blk_ext [iblk, h]
  exact e.trans (congrFun (V_main_arg0 m c) _)
theorem block1 (j : Fin 31) (l : Fin 512) : (iblk m c 1 t (ix2 (⟨j.val, by omega⟩ : Fin 32) l) : EReal) = arg m c main_arg1 (ix3 0 j l) := by
  have e : (iblk m c 1 t (ix2 (⟨j.val, by omega⟩ : Fin 32) l) : EReal) = V m c main_v1 (ix2 (⟨j.val, by omega⟩ : Fin 32) l) := by
    have h := (index_in t).2.1
    blk_ext [iblk, h]
  exact e.trans (V1 m c j l)
theorem block2 (l : Fin 512) : (iblk m c 2 t (ix2 0 l) : EReal) = arg m c main_arg2 (ix2 0 l) := by
  have e : (iblk m c 2 t (ix2 0 l) : EReal) = V m c main_arg2 (ix2 0 l) := by
    have h := (index_in t).2.2.1
    blk_ext [iblk, h]
  exact e.trans (congrFun (V_main_arg2 m c) _)
theorem block3 (l : Fin 512) : (iblk m c 3 t (ix2 0 l) : EReal) = arg m c main_arg3 (ix2 0 l) := by
  have e : (iblk m c 3 t (ix2 0 l) : EReal) = V m c main_arg3 (ix2 0 l) := by
    have h := (index_in t).2.2.2.1
    blk_ext [iblk, h]
  exact e.trans (congrFun (V_main_arg3 m c) _)
theorem block4 (l : Fin 512) : (iblk m c 4 t (ix2 0 l) : EReal) = arg m c main_arg4 (ix2 0 l) := by
  have e : (iblk m c 4 t (ix2 0 l) : EReal) = V m c main_arg4 (ix2 0 l) := by
    have h := (index_in t).2.2.2.2
    blk_ext [iblk, h]
  exact e.trans (congrFun (V_main_arg4 m c) _)

theorem place6 (t : Fin cfg0.N) (r : Fin 2112) (l : Fin 512) :
    (win0_6.blk t).view.emb (ix2 r l : S2112x512.Idx) = (ix2 (rowAt t r) l : S4224x512.Idx) := by
  have h := (index_out t).1
  funext a
  apply Fin.ext
  refine Fin.cases ?_ (fun a => ?_) a
  · blk_simp [h]; simp [ix2, Nat.mul_comm]
  · obtain rfl : a = 0 := by omega
    blk_simp [h]; simp [ix2]
theorem place7 (t : Fin cfg0.N) (r : Fin 2112) (l : Fin 512) :
    (win0_7.blk t).view.emb (ix2 r l : S2112x512.Idx) = (ix2 (rowAt t r) l : S4224x512.Idx) := by
  have h := (index_out t).2
  funext a
  apply Fin.ext
  refine Fin.cases ?_ (fun a => ?_) a
  · blk_simp [h]; simp [ix2, Nat.mul_comm]
  · obtain rfl : a = 0 := by omega
    blk_simp [h]; simp [ix2]

/-- The convolved row `R`. -/
def yy (R : Fin 4224) : Fin 512 → EReal :=
  cv (gl (Ref.U (arg m c main_arg0) (Ref.ex R))) (fun j k => arg m c main_arg1 (ix3 0 j k)) (fun k => arg m c main_arg2 (ix2 0 k)) (Ref.rw_ R)
/-- The normed and gated row `R`. -/
def zz (R : Fin 4224) : Fin 512 → EReal :=
  act (yy m c R) (fun k => arg m c main_arg3 (ix2 0 k)) (fun k => arg m c main_arg4 (ix2 0 k))

theorem oy_row (r : Fin 2112) (l : Fin 512) : (oy (iblk m c 0 t) (iblk m c 1 t) (iblk m c 2 t) (ix2 r l) : EReal) = yy m c (rowAt t r) l := by
  have e1 : Ref.ex (rowAt t r) = ⟨t.val, point_lt t⟩ := Fin.ext (by show (2112 * t.val + r.val) / 2112 = t.val; have := r.isLt; omega)
  have e2 : Ref.rw_ (rowAt t r) = r := Fin.ext (by show (2112 * t.val + r.val) % 2112 = r.val; have := r.isLt; omega)
  unfold yy
  rw [e1, e2]
  have h0 : (fun (q : Fin 2112) (k : Fin 1024) => (iblk m c 0 t (ix2 q k) : EReal)) = Ref.U (arg m c main_arg0) ⟨t.val, point_lt t⟩ :=
    funext fun q => funext fun k => (block0 m c t q k).trans (congrArg (fun R : Fin 4224 => (arg m c main_arg0 (ix2 R k) : EReal)) (Fin.ext (by show 2112 * t.val + q.val = t.val * 2112 + q.val; omega)))
  have h1 : (fun (j : Fin 31) (k : Fin 512) => (iblk m c 1 t (ix2 (⟨j.val, by omega⟩ : Fin 32) k) : EReal)) = fun j k => arg m c main_arg1 (ix3 0 j k) :=
    funext fun j => funext fun k => block1 m c t j k
  have h2 : (fun k : Fin 512 => (iblk m c 2 t (ix2 0 k) : EReal)) = fun k => arg m c main_arg2 (ix2 0 k) := funext fun k => block2 m c t k
  rw [← h0, ← h1, ← h2]
  rfl

theorem oz_row (r : Fin 2112) (l : Fin 512) :
    (oz (iblk m c 0 t) (iblk m c 1 t) (iblk m c 2 t) (iblk m c 3 t) (iblk m c 4 t) (ix2 r l) : EReal) = zz m c (rowAt t r) l := by
  have h : (fun k : Fin 512 => (oy (iblk m c 0 t) (iblk m c 1 t) (iblk m c 2 t) (ix2 r k) : EReal)) = yy m c (rowAt t r) := funext fun k => oy_row m c t r k
  have h3 : (fun k : Fin 512 => (iblk m c 3 t (ix2 0 k) : EReal)) = fun k => arg m c main_arg3 (ix2 0 k) := funext fun k => block3 m c t k
  have h4 : (fun k : Fin 512 => (iblk m c 4 t (ix2 0 k) : EReal)) = fun k => arg m c main_arg4 (ix2 0 k) := funext fun k => block4 m c t k
  unfold zz
  rw [← h, ← h3, ← h4]
  rfl

theorem final6 : (dats m 0 c).arrAt 6 cfg0.N = fun i : S4224x512.Idx => yy m c (i 0) (i 1) := by
  refine (dats m 0 c).arrAt_eq_of_covers 6 _ (by decide +kernel) fun t hf y => ?_
  blk_simp
  rw [after0_6]
  obtain ⟨r, l, rfl⟩ : ∃ (r : Fin 2112) (l : Fin 512), y = (ix2 r l : S2112x512.Idx) := ⟨y 0, y 1, (ix2_eta _).symm⟩
  rw [show (win0_6.blk t).view.emb (ix2 r l : S2112x512.Idx) = (ix2 (rowAt t r) l : S4224x512.Idx) from place6 t r l]
  exact oy_row m c t r l

theorem final7 : (dats m 0 c).arrAt 7 cfg0.N = fun i : S4224x512.Idx => zz m c (i 0) (i 1) := by
  refine (dats m 0 c).arrAt_eq_of_covers 7 _ (by decide +kernel) fun t hf y => ?_
  blk_simp
  rw [after0_7]
  obtain ⟨r, l, rfl⟩ : ∃ (r : Fin 2112) (l : Fin 512), y = (ix2 r l : S2112x512.Idx) := ⟨y 0, y 1, (ix2_eta _).symm⟩
  rw [show (win0_7.blk t).view.emb (ix2 r l : S2112x512.Idx) = (ix2 (rowAt t r) l : S4224x512.Idx) from place7 t r l]
  exact oz_row m c t r l

end Cert.Conv

end
-- ==== Proof.ConvClaims.lean ====
/-
  THE CLAIMS ABOUT THE PROGRAMS OF `fwd_conv`: the frames of the kernel and of the reference, and that both return the same two
  arrays of extended reals, whatever the arguments.
-/
module

public import proofs.«01_k».proof.Defs
public import proofs.«01_k».proof.Proof.Gen.Kernel4.Frame.Runs
public import proofs.«01_k».proof.Proof.ConvPlain
public import proofs.«01_k».proof.Proof.ConvFinal
public import proofs.«01_k».proof.Proof.Gen.Reference4Ideal.Run
public import proofs.«01_k».proof.Proof.Gen.Reference4Ideal.Read
public import Idealize.ShloMosaic.Adequacy
public import Idealize.ShloMosaic.Init

@[expose] public section

set_option maxRecDepth 16384

noncomputable section

namespace Cert.Conv

open Idealize.ShloMosaic Idealize.ShloMosaic.TcCoe Idealize.SL.Sem Idealize.ShloMosaic.StableHlo Idealize.ShloMosaic.Tactic

/-- The kernel at machine words runs, keeps its arguments and leaves no semaphore raised: its text is the idealized kernel's. -/
theorem frame_kernel : Cert.quiescent_Kernel4 (hKernel4 := Cert.Kernel4.Gen.facts) := fun m ρ _ =>
  Eq.mp (by sl_kernel_rfl) (Plain.frame (F := Bits) m ρ)

/-- The idealized kernel likewise. -/
theorem frame_ideal : Cert.quiescent_Kernel4Ideal (hKernel4Ideal := Cert.Kernel4Ideal.Gen.facts) := fun m ρ _ => frame m ρ

/-- The reference runs, keeps its arguments and leaves no semaphore raised: it has none. -/
theorem frame_reference : Cert.quiescent_Reference4Ideal (hReference4Ideal := Cert.Reference4Ideal.Gen.facts) := fun m ρ _ =>
  (θ_run Cert.Reference4Ideal.defs _ _).mono
    (fun r h => ⟨fun c => (h c).2.2, sem_eq_zero_of_no_sems (by decide) r.2⟩)
    (Cert.Reference4Ideal.Value.run (F := Ideal) m ρ)

set_option maxHeartbeats 1600000 in
/-- The convolved rows and the normed and gated rows are the reference's. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => (dats m 0 c).arrAt 6 Cert.Kernel4Ideal.cfg0.N, fun c => (dats m 0 c).arrAt 7 Cert.Kernel4Ideal.cfg0.N, run_blocks m g, ?_⟩
  refine (θ_run Cert.Reference4Ideal.defs _ _).mono (fun r h c => ?_) (Cert.Reference4Ideal.Value.run (F := Ideal) m' g')
  obtain ⟨e0, e1, e2, e3, e4, e5⟩ := hargs c
  obtain ⟨h0, h1, hk⟩ := h c
  rw [e0, e1, e2] at h0
  have h1' := h1.trans (Cert.Reference4Ideal.Read.val_main_v64_eq m' c)
  rw [e0, e1, e2, e3, e4] at h1'
  exact ⟨h0.trans ((Cert.Reference4Ideal.Read.val_main_v61_eq _ _ _).trans ((Ref.final61 _ _ _).trans (final6 m c).symm)),
    h1'.trans ((Ref.final64 _ _ _ _ _).trans (final7 m c).symm), hk⟩

end Cert.Conv

end
-- ==== Proof.BcPlain.lean ====
/-
  THE CALL `bwd_conv` runs, at any values, keeps its arguments and leaves no semaphore raised.
-/
module

public import proofs.«01_k».proof.Proof.Gen.Kernel5Ideal.Frame
public import proofs.«01_k».proof.Proof.Gen.Kernel5Ideal.Loops
public import Idealize.ShloMosaic.Lib.Claim

@[expose] public section

set_option maxRecDepth 16384

noncomputable section

namespace Cert.Bconv.Plain

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at a point, and that it is whole. -/
abbrev ms0_0 (t : Fin cfg0.N) : Memref sig .tc .vmem S2112x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2112x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2112x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2112x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x512 .f32 := win0_9.stage (cfg0.slots t 9)
abbrev hs0_9 (t : Fin cfg0.N) : (ms0_9 t).IsWhole := hstage0_9 ((cfg0.slots t 9).cast nbuf0_9)
/-- The scratch buffers. -/
abbrev scM0_0 : Memref sig .tc .vmem S2176x512 .f32 := Memref.whole cc0_scratch0
abbrev scM0_1 : Memref sig .tc .vmem S2176x512 .f32 := Memref.whole cc0_scratch1
abbrev scM0_2 : Memref sig .tc .vmem S256x512 .f32 := Memref.whole cc0_scratch2

/-- The invariant, the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 4000000 in
/-- The body runs from any contents of its outputs and of its scratch and keeps its inputs, at the first point, where it sets the
parameters' gradients to zero, as at the second, where it does not. -/
theorem run (c : Dev nD) (i : grid0.Coords) (arg1 : Memref sig .tc .vmem S2112x1024 .bf16) (harg1 : arg1.IsWhole) (arg2 : Memref sig .tc .vmem S2112x512 .f32) (harg2 : arg2.IsWhole) (arg3 : Memref sig .tc .vmem S2112x512 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S8x128 .f32) (harg7 : arg7.IsWhole) (arg8 : Memref sig .tc .vmem S2112x1024 .bf16) (harg8 : arg8.IsWhole) (arg9 : Memref sig .tc .vmem S32x512 .f32) (harg9 : arg9.IsWhole) (arg10 : Memref sig .tc .vmem S8x512 .f32) (harg10 : arg10.IsWhole) (arg11 : Memref sig .tc .vmem S2176x512 .f32) (harg11 : arg11.IsWhole) (arg12 : Memref sig .tc .vmem S2176x512 .f32) (harg12 : arg12.IsWhole) (arg13 : Memref sig .tc .vmem S256x512 .f32) (harg13 : arg13.IsWhole)
    (x0 : Vec F S2112x1024 .bf16) (x1 : Vec F S2112x512 .f32) (x2 : Vec F S2112x512 .f32) (x3 : Vec F S32x512 .f32) (x4 : Vec F S1x512 .f32) (x5 : Vec F S1x512 .f32) (x6 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_bwd_conv i arg1 harg1 arg2 harg2 arg3 harg3 arg4 harg4 arg5 harg5 arg6 harg6 arg7 harg7 arg8 harg8 arg9 harg9 arg10 harg10 arg11 harg11 arg12 harg12 arg13 harg13) K := by
  simp only [cc0_bwd_conv_eq_skeleton]; unfold cc0_bwd_conv_skel
  simp only [k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, HS0⟩, ⟨%d11, %f11, %hf11, HS1⟩, ⟨%d12, %f12, %hf12, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  by_cases hc0 : (Scalar.cmpi .ne (Scalar.extui (Scalar.cmpi .eq (BitVec.ofNat 32 (i 0).val) 0#32)) 0#32) = 1#1
  all_goals
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The outputs, of which nothing is said here. -/
def forgets0 : Fin 10 → Bool := fun w => w.val == 7 || w.val == 8 || w.val == 9

/-- The proof data: every input at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1600000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      (Pipeline.RDat.FramePost.arr_in h c 2 rfl).trans ((A_eq m c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c))⟩) (run_main m ρ)

/-- The program terminates, keeps its arguments and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Bconv.Plain

end
-- ==== Proof.BcClaims.lean ====
/-
  THE CLAIMS ABOUT THE PROGRAMS OF `bwd_conv`: the kernel runs, keeps its arguments and leaves no semaphore raised.
-/
module

public import proofs.«01_k».proof.Defs
public import proofs.«01_k».proof.Proof.Gen.Kernel5.Frame
public import proofs.«01_k».proof.Proof.BcPlain

@[expose] public section

set_option maxRecDepth 16384

noncomputable section

namespace Cert.Bconv

open Idealize.ShloMosaic Idealize.ShloMosaic.TcCoe Idealize.SL.Sem Idealize.ShloMosaic.StableHlo Idealize.ShloMosaic.Tactic

/-- The kernel at machine words runs, keeps its arguments and leaves no semaphore raised: its text is the idealized kernel's. -/
theorem frame_kernel : Cert.quiescent_Kernel5 (hKernel5 := Cert.Kernel5.Gen.facts) := fun m ρ _ =>
  Eq.mp (by sl_kernel_rfl) (Plain.frame (F := Bits) m ρ)

/-- The idealized kernel likewise. -/
theorem frame_ideal : Cert.quiescent_Kernel5Ideal (hKernel5Ideal := Cert.Kernel5Ideal.Gen.facts) := fun m ρ _ => Plain.frame (F := Ideal) m ρ

end Cert.Bconv

end
-- ==== Proof.GlaPlain.lean ====
/-
  THE CALL `bwd_gla` runs, at any values, keeps its arguments and leaves no semaphore raised.
-/
module

public import proofs.«01_k».proof.Proof.Gen.Kernel6Ideal.Frame
public import proofs.«01_k».proof.Proof.Gen.Kernel6Ideal.Skeleton
public import Idealize.ShloMosaic.Lib.Claim

@[expose] public section

set_option maxRecDepth 16384

noncomputable section

namespace Cert.Bgla

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at a point, and that it is whole. -/
abbrev ms0_0 (t : Fin cfg0.N) : Memref sig .tc .vmem S704x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S704x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S704x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S704x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S11x2x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S704x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S704x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S704x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S704x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S704x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S704x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S704x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1024x1024 .bf16 := win0_18.stage (cfg0.slots t 18)
abbrev hs0_18 (t : Fin cfg0.N) : (ms0_18 t).IsWhole := hstage0_18 ((cfg0.slots t 18).cast nbuf0_18)
/-- The scratch buffers. -/
abbrev scM0_0 : Memref sig .tc .vmem S2x128x128 .f32 := Memref.whole cc0_scratch0
abbrev scM0_1 : Memref sig .tc .vmem S704x256 .f32 := Memref.whole cc0_scratch1
abbrev scM0_2 : Memref sig .tc .vmem S1024x1024 .f32 := Memref.whole cc0_scratch2

/-- The invariant, the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000000 in
/-- The body runs from any contents of its outputs and of its scratch and keeps its inputs, at every point of the grid. -/
theorem run (c : Dev nD) (t : Fin grid0.N) (i : grid0.Coords) (hi : i = grid0.coords t) (arg2 : Memref sig .tc .vmem S704x512 .bf16) (harg2 : arg2.IsWhole) (arg3 : Memref sig .tc .vmem S704x1024 .bf16) (harg3 : arg3.IsWhole) (arg4 : Memref sig .tc .vmem S704x128 .bf16) (harg4 : arg4.IsWhole) (arg5 : Memref sig .tc .vmem S704x512 .f32) (harg5 : arg5.IsWhole) (arg6 : Memref sig .tc .vmem S11x2x128x128 .f32) (harg6 : arg6.IsWhole) (arg7 : Memref sig .tc .vmem S704x512 .f32) (harg7 : arg7.IsWhole) (arg8 : Memref sig .tc .vmem S128x256 .bf16) (harg8 : arg8.IsWhole) (arg9 : Memref sig .tc .vmem S1x256 .f32) (harg9 : arg9.IsWhole) (arg10 : Memref sig .tc .vmem S1x128 .f32) (harg10 : arg10.IsWhole) (arg11 : Memref sig .tc .vmem S704x512 .bf16) (harg11 : arg11.IsWhole) (arg12 : Memref sig .tc .vmem S704x512 .bf16) (harg12 : arg12.IsWhole) (arg13 : Memref sig .tc .vmem S704x1024 .bf16) (harg13 : arg13.IsWhole) (arg14 : Memref sig .tc .vmem S8x128 .f32) (harg14 : arg14.IsWhole) (arg15 : Memref sig .tc .vmem S704x512 .bf16) (harg15 : arg15.IsWhole) (arg16 : Memref sig .tc .vmem S704x1024 .bf16) (harg16 : arg16.IsWhole) (arg17 : Memref sig .tc .vmem S704x128 .bf16) (harg17 : arg17.IsWhole) (arg18 : Memref sig .tc .vmem S128x256 .f32) (harg18 : arg18.IsWhole) (arg19 : Memref sig .tc .vmem S8x256 .f32) (harg19 : arg19.IsWhole) (arg20 : Memref sig .tc .vmem S1024x1024 .bf16) (harg20 : arg20.IsWhole) (arg21 : Memref sig .tc .vmem S2x128x128 .f32) (harg21 : arg21.IsWhole) (arg22 : Memref sig .tc .vmem S704x256 .f32) (harg22 : arg22.IsWhole) (arg23 : Memref sig .tc .vmem S1024x1024 .f32) (harg23 : arg23.IsWhole)
    (x0 : Vec F S704x512 .bf16) (x1 : Vec F S704x1024 .bf16) (x2 : Vec F S704x128 .bf16) (x3 : Vec F S704x512 .f32) (x4 : Vec F S11x2x128x128 .f32) (x5 : Vec F S704x512 .f32) (x6 : Vec F S128x256 .bf16) (x7 : Vec F S1x256 .f32) (x8 : Vec F S1x128 .f32) (x9 : Vec F S704x512 .bf16) (x10 : Vec F S704x512 .bf16) (x11 : Vec F S704x1024 .bf16) (x12 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_bwd_gla i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_bwd_gla_eq_skeleton]; unfold cc0_bwd_gla_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, HS0⟩, ⟨%d20, %f20, %hf20, HS1⟩, ⟨%d21, %f21, %hf21, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  have hs : (Scalar.cmpi .ne (Scalar.extui (Scalar.cmpi .eq (BitVec.ofNat 32 (i 1).val) 0#32)) 0#32 = 1#1) ∧ (Scalar.cmpi .ne (Scalar.extui (Scalar.andi (Scalar.cmpi .eq (BitVec.ofNat 32 (i 1).val) 0#32) (Scalar.cmpi .eq (BitVec.ofNat 32 (i 0).val) 0#32))) 0#32 = 1#1) ∧ ¬(k0_cond3 i = 1#1) ∨ (Scalar.cmpi .ne (Scalar.extui (Scalar.cmpi .eq (BitVec.ofNat 32 (i 1).val) 0#32)) 0#32 = 1#1) ∧ ¬(Scalar.cmpi .ne (Scalar.extui (Scalar.andi (Scalar.cmpi .eq (BitVec.ofNat 32 (i 1).val) 0#32) (Scalar.cmpi .eq (BitVec.ofNat 32 (i 0).val) 0#32))) 0#32 = 1#1) ∧ ¬(k0_cond3 i = 1#1) ∨ ¬(Scalar.cmpi .ne (Scalar.extui (Scalar.cmpi .eq (BitVec.ofNat 32 (i 1).val) 0#32)) 0#32 = 1#1) ∧ ¬(Scalar.cmpi .ne (Scalar.extui (Scalar.andi (Scalar.cmpi .eq (BitVec.ofNat 32 (i 1).val) 0#32) (Scalar.cmpi .eq (BitVec.ofNat 32 (i 0).val) 0#32))) 0#32 = 1#1) ∧ k0_cond3 i = 1#1 ∨ ¬(Scalar.cmpi .ne (Scalar.extui (Scalar.cmpi .eq (BitVec.ofNat 32 (i 1).val) 0#32)) 0#32 = 1#1) ∧ ¬(Scalar.cmpi .ne (Scalar.extui (Scalar.andi (Scalar.cmpi .eq (BitVec.ofNat 32 (i 1).val) 0#32) (Scalar.cmpi .eq (BitVec.ofNat 32 (i 0).val) 0#32))) 0#32 = 1#1) ∧ ¬(k0_cond3 i = 1#1) := by
    subst hi; revert t; decide +kernel
  clear hi
  obtain ⟨h1, h2, h3⟩ | ⟨h1, h2, h3⟩ | ⟨h1, h2, h3⟩ | ⟨h1, h2, h3⟩ := hs
  all_goals
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The outputs, of which nothing is said here. -/
def forgets0 : Fin 19 → Bool := fun w => 13 ≤ w.val

/-- The proof data: every input at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨k + 19, h⟩ => (Nat.not_lt_of_le (Nat.le_add_left 19 k) h).elim
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (run c t (grid0.coords t) rfl _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 4000000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c)),
      (Pipeline.RDat.FramePost.arr_in h c 8 rfl).trans ((A_eq m c 8).trans (V_main_arg8 m c)),
      (Pipeline.RDat.FramePost.arr_in h c 9 rfl).trans ((A_eq m c 9).trans (V_main_arg9 m c)),
      (Pipeline.RDat.FramePost.arr_in h c 10 rfl).trans ((A_eq m c 10).trans (V_main_arg10 m c)),
      (Pipeline.RDat.FramePost.arr_in h c 11 rfl).trans ((A_eq m c 11).trans (V_main_arg11 m c)),
      (Pipeline.RDat.FramePost.arr_in h c 12 rfl).trans ((A_eq m c 12).trans (V_main_arg12 m c))⟩) (run_main m ρ)

/-- The program terminates, keeps its arguments and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Bgla

end
-- ==== Proof.GlaClaims.lean ====
/-
  THE CLAIMS ABOUT THE PROGRAMS OF `bwd_gla`: the kernel runs, keeps its arguments and leaves no semaphore raised.
-/
module

public import proofs.«01_k».proof.Defs
public import proofs.«01_k».proof.Proof.Gen.Kernel6.Frame
public import proofs.«01_k».proof.Proof.GlaPlain

@[expose] public section

set_option maxRecDepth 16384

noncomputable section

namespace Cert.Bgla

open Idealize.ShloMosaic Idealize.ShloMosaic.TcCoe Idealize.SL.Sem Idealize.ShloMosaic.StableHlo Idealize.ShloMosaic.Tactic

/-- The kernel at machine words runs, keeps its arguments and leaves no semaphore raised: its text is the idealized kernel's. -/
theorem frame_kernel : Cert.quiescent_Kernel6 (hKernel6 := Cert.Kernel6.Gen.facts) := fun m ρ _ =>
  Eq.mp (by sl_kernel_rfl) (frame (F := Bits) m ρ)

/-- The idealized kernel likewise. -/
theorem frame_ideal : Cert.quiescent_Kernel6Ideal (hKernel6Ideal := Cert.Kernel6Ideal.Gen.facts) := fun m ρ _ => frame (F := Ideal) m ρ

end Cert.Bgla

end
-- ==== Proof.DwFinal.lean ====
/-
  THE PRODUCT `dw_gate`: the weight's gradient, 1408 of its rows at a time, added up over three blocks of 1408 rows of the two factors.
-/
module

public import proofs.«01_k».proof.Proof.FwdBlocks
public import proofs.«01_k».proof.Proof.Gen.Kernel7Ideal.Value
public import Idealize.ShloMosaic.Lib.WritesUnit

@[expose] public section

set_option maxRecDepth 16384

noncomputable section

namespace Cert.Dw

open Cert.Kernel7Ideal Cert.Kernel7Ideal.Gen Idealize.ShloMosaic Idealize.ShloMosaic.TcCoe Idealize.SL.Sem

/-- One block's part of an entry of the product. -/
def part (x0 : Vec Ideal S1408x1408 .bf16) (x1 : Vec Ideal S1408x1024 .bf16) (r : Fin 1408) (l : Fin 1024) : EReal :=
  ∑ k : Fin 1408, (x0 (ix2 k r) : EReal) * x1 (ix2 k l)

theorem pay2_apply (v : Vec Ideal S1408x1024 .f32) (x0 : Vec Ideal S1408x1408 .bf16) (x1 : Vec Ideal S1408x1024 .bf16) (r : Fin 1408) (l : Fin 1024) :
    (k0_pay2 v x0 x1 (ix2 r l) : EReal) = v (ix2 r l) + part x0 x1 r l := by
  pointwise [k0_pay2]
  rfl

/-- Three blocks of 1408 rows make all 4224. -/
theorem sum3 (f : Fin 4224 → EReal) : ∑ k, f k =
    (∑ k : Fin 1408, f ⟨k.val, by omega⟩) + (∑ k : Fin 1408, f ⟨1408 + k.val, by omega⟩) + ∑ k : Fin 1408, f ⟨2816 + k.val, by omega⟩ :=
  (Fin.sum_univ_add (a := 2816) (b := 1408) f).trans
    (congrArg (fun x : EReal => x + _) (Fin.sum_univ_add (a := 1408) (b := 1408) fun k => f (Fin.castAdd 1408 k)))

theorem zeros : ((![0, 0] : Fin 2 → ℕ)) = fun _ => 0 := by
  funext a; refine Fin.cases rfl (fun a => ?_) a; obtain rfl : a = 0 := Subsingleton.elim _ _; rfl

variable (m : (ℓ : Loc nD τ sig) → Buf (Elt Ideal) ℓ) (c : Dev nD) (t : Fin cfg0.N)

/-- What the accumulator holds after a point: at the first of three, its block's part, -/
theorem accA (h0 : t.val % 3 = 0) (h1 : ¬t.val % 3 = 2) (r : Fin 1408) (l : Fin 1024) :
    ((outsAt0 m c t.val t.isLt).2 (ix2 r l) : EReal) = part (iblk m c 0 t) (iblk m c 1 t) r l := by
  rw [outsAt0_A m c t h0 h1]
  dsimp only
  unfold sout0_A_0 kernelRun0_A
  dsimp only
  refine (View.read_writes_cons_rows_of_mem (o := 0) _ _ _ _ _ (ix2 r l) (ix2 r l) rfl (Nat.zero_add _).symm rfl).trans ?_
  refine (pay2_apply _ _ _ r l).trans ?_
  simp only [View.readAt_eq_ld, Memref.IsWhole.read_unread, View.ld_unit_zero (S := S1408x1408) zeros, View.ld_unit_zero (S := S1408x1024) zeros]
  have e : kernelRun0_A.sl.v3 (F := Ideal) c scM0_0 = k0_pay1 (F := Ideal) := by
    unfold kernelRun0_A.sl.v3 kernelRun0_A.sl.HS0_1
    exact View.readCov_full _ _ _ _ _
  rw [e]
  pointwise [k0_pay1]

/-- at the second, one more, -/
theorem accB (h0 : ¬t.val % 3 = 0) (h1 : ¬t.val % 3 = 2) (r : Fin 1408) (l : Fin 1024) :
    ((outsAt0 m c t.val t.isLt).2 (ix2 r l) : EReal) =
      (outsAt0 m c (t.val - 1) (Nat.lt_of_le_of_lt (Nat.sub_le _ _) t.isLt)).2 (ix2 r l) + part (iblk m c 0 t) (iblk m c 1 t) r l := by
  rw [outsAt0_B m c t h0 h1]
  dsimp only
  unfold sout0_B_0 kernelRun0_B
  dsimp only
  refine (View.read_writes_cons_rows_of_mem (o := 0) _ _ _ _ _ (ix2 r l) (ix2 r l) rfl (Nat.zero_add _).symm rfl).trans ?_
  refine (pay2_apply _ _ _ r l).trans ?_
  simp only [View.readAt_eq_ld, Memref.IsWhole.read_unread, View.ld_unit_zero (S := S1408x1408) zeros, View.ld_unit_zero (S := S1408x1024) zeros]
  exact congrArg (fun x : EReal => x + _) (congrFun (Memref.IsWhole.read_unread (Memref.isWhole_whole cc0_scratch0) _) (ix2 r l))

/-- and at the third the output is the whole sum. -/
theorem outC (h0 : ¬t.val % 3 = 0) (h1 : t.val % 3 = 2) (r : Fin 1408) (l : Fin 1024) :
    ((outsAt0 m c t.val t.isLt).1 (ix2 r l) : EReal) =
      (outsAt0 m c (t.val - 1) (Nat.lt_of_le_of_lt (Nat.sub_le _ _) t.isLt)).2 (ix2 r l) + part (iblk m c 0 t) (iblk m c 1 t) r l := by
  rw [outsAt0_C m c t h0 h1]
  dsimp only
  unfold out0_C_2 kernelRun0_C
  dsimp only
  refine (View.read_writes_cons_rows_of_mem (o := 0) _ _ _ _ _ (ix2 r l) (ix2 r l) rfl (Nat.zero_add _).symm rfl).trans ?_
  pointwise [k0_pay3]
  unfold kernelRun0_C.sl.v14 kernelRun0_C.sl.HS0_1
  rw [View.readCov_full]
  refine (pay2_apply _ _ _ r l).trans ?_
  simp only [View.readAt_eq_ld, Memref.IsWhole.read_unread, View.ld_unit_zero (S := S1408x1408) zeros, View.ld_unit_zero (S := S1408x1024) zeros]
  exact congrArg (fun x : EReal => x + _) (congrFun (Memref.IsWhole.read_unread (Memref.isWhole_whole cc0_scratch0) _) (ix2 r l))

theorem index_in : ∀ t : Fin cfg0.N, win0_0.index t = ![t.val % 3, t.val / 3] ∧ win0_1.index t = ![t.val % 3, 0] ∧ win0_2.index t = ![t.val / 3, 0] :=
  (by decide +kernel : ∀ t : Fin grid0.N, win0_0.index t = ![t.val % 3, t.val / 3] ∧ win0_1.index t = ![t.val % 3, 0] ∧ win0_2.index t = ![t.val / 3, 0])

/-- An argument array, as launched. -/
abbrev arg (b : Ref sig .tc) : Buf (Elt Ideal) ((c : Thread nD τ).loc b) := m ((c : Thread nD τ).loc b)

/-- An entry of the product. -/
def prod (a : S4224x2816.Idx → EReal) (b : S4224x1024.Idx → EReal) (r : Fin 2816) (l : Fin 1024) : EReal := ∑ k : Fin 4224, a (ix2 k r) * b (ix2 k l)

theorem lt6 : t.val < 6 := lt_of_lt_of_eq t.isLt N_0

theorem block0 (k r : Fin 1408) : (iblk m c 0 t (ix2 k r) : EReal) =
    arg m c main_arg0 (ix2 (⟨t.val % 3 * 1408 + k.val, by omega⟩ : Fin 4224) (⟨t.val / 3 * 1408 + r.val, by have := lt6 t; omega⟩ : Fin 2816)) := by
  have h := (index_in t).1
  blk_ext [iblk, h]
theorem block1 (k : Fin 1408) (l : Fin 1024) : (iblk m c 1 t (ix2 k l) : EReal) =
    arg m c main_arg1 (ix2 (⟨t.val % 3 * 1408 + k.val, by omega⟩ : Fin 4224) l) := by
  have h := (index_in t).2.1
  blk_ext [iblk, h]

theorem part_eq (r : Fin 1408) (l : Fin 1024) : part (iblk m c 0 t) (iblk m c 1 t) r l = ∑ k : Fin 1408, HMul.hMul (α := EReal) (β := EReal)
    (arg m c main_arg0 (ix2 (⟨t.val % 3 * 1408 + k.val, by omega⟩ : Fin 4224) (⟨t.val / 3 * 1408 + r.val, by have := lt6 t; omega⟩ : Fin 2816)))
       (arg m c main_arg1 (ix2 (⟨t.val % 3 * 1408 + k.val, by omega⟩ : Fin 4224) l) : EReal) :=
  Finset.sum_congr rfl fun k _ => by rw [block0, block1]

/-- What a block of the output ends with. -/
theorem out_eq (h : t.val % 3 = 2) (r : Fin 1408) (l : Fin 1024) : ((outsAt0 m c t.val t.isLt).1 (ix2 r l) : EReal) =
    prod (arg m c main_arg0) (arg m c main_arg1) ⟨t.val / 3 * 1408 + r.val, by have := lt6 t; omega⟩ l := by
  have h6 := lt6 t
  have e1 : (t.val - 1) < cfg0.N := Nat.lt_of_le_of_lt (Nat.sub_le _ _) t.isLt
  have e2 : (t.val - 1 - 1) < cfg0.N := Nat.lt_of_le_of_lt (Nat.sub_le _ _) e1
  rw [outC m c t (by omega) h, accB m c ⟨t.val - 1, e1⟩ (by show ¬(t.val - 1) % 3 = 0; omega) (by show ¬(t.val - 1) % 3 = 2; omega),
    accA m c ⟨t.val - 1 - 1, e2⟩ (by show (t.val - 1 - 1) % 3 = 0; omega) (by show ¬(t.val - 1 - 1) % 3 = 2; omega), part_eq, part_eq, part_eq]
  unfold prod
  rw [sum3]
  dsimp only
  simp only [h, show (t.val - 1) % 3 = 1 by omega, show (t.val - 1 - 1) % 3 = 0 by omega, show (t.val - 1) / 3 = t.val / 3 by omega, show (t.val - 1 - 1) / 3 = t.val / 3 by omega,
    Nat.zero_mul, Nat.one_mul, Nat.zero_add, show 2 * 1408 = 2816 from rfl]

theorem place (r : Fin 1408) (l : Fin 1024) : (win0_2.blk t).view.emb (ix2 r l : S1408x1024.Idx) =
    (ix2 (⟨t.val / 3 * 1408 + r.val, by have := lt6 t; omega⟩ : Fin 2816) l : S2816x1024.Idx) := by
  have h := (index_in t).2.2
  blk_ext [h]

/-- The output array after the run. -/
theorem final : (dats m 0 c).arrAt 2 cfg0.N = fun i : S2816x1024.Idx => prod (arg m c main_arg0) (arg m c main_arg1) (i 0) (i 1) := by
  refine (dats m 0 c).arrAt_eq_of_covers 2 _ (by decide +kernel) fun t hf y => ?_
  blk_simp
  rw [after0_2]
  obtain ⟨r, l, rfl⟩ : ∃ (r : Fin 1408) (l : Fin 1024), y = (ix2 r l : S1408x1024.Idx) := ⟨y 0, y 1, (ix2_eta _).symm⟩
  rw [show (win0_2.blk t).view.emb (ix2 r l : S1408x1024.Idx) = _ from place t r l]
  exact out_eq m c t ((flush0_2 t).mp hf) r l

end Cert.Dw

end
-- ==== Proof.DwClaims.lean ====
/-
  THE CLAIMS ABOUT THE PROGRAMS OF `dw_gate`: the frames of the kernel and of the reference, and that both return the same array of
  extended reals, whatever the arguments.
-/
module

public import proofs.«01_k».proof.Defs
public import proofs.«01_k».proof.Proof.Gen.Kernel7.Frame
public import proofs.«01_k».proof.Proof.DwFinal
public import proofs.«01_k».proof.Proof.Gen.Reference7Ideal.Run
public import proofs.«01_k».proof.Proof.Gen.Reference7Ideal.Read
public import Idealize.ShloMosaic.Adequacy
public import Idealize.ShloMosaic.Init

@[expose] public section

set_option maxRecDepth 16384

noncomputable section

namespace Cert.Dw

open Idealize.ShloMosaic Idealize.ShloMosaic.TcCoe Idealize.SL.Sem Idealize.ShloMosaic.StableHlo

/-- The reference runs, keeps its arguments and leaves no semaphore raised: it has none. -/
theorem frame_reference : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩)
    (Cert.Reference7Ideal.Value.run (F := Ideal) m ρ)

open Cert.Reference7Ideal Cert.Reference7Ideal.Read in
/-- The reference's result, entry by entry. -/
theorem final7 (a : (⟨S4224x2816, .bf16⟩ : BufTy).Contents (Elt Ideal)) (b : (⟨S4224x1024, .bf16⟩ : BufTy).Contents (Elt Ideal)) :
    val_main_v7 (F := Ideal) a b = fun i : S2816x1024.Idx => prod a b (i 0) (i 1) := by
  funext i
  refine (val_main_v7_apply (F := Ideal) a b i).trans ?_
  rw [val_main_v6_apply, val_main_v5_apply, val_main_v4_apply]
  refine Finset.sum_congr rfl fun k _ => ?_
  rw [val_main_v3_apply, val_main_v1_apply]
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

set_option maxHeartbeats 1600000 in
/-- The product is the reference's. -/
theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => (Cert.Kernel7Ideal.Gen.dats m 0 c).arrAt 2 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨e0, e1⟩ := hargs c
  obtain ⟨h0, hk⟩ := h c
  rw [e0, e1] at h0
  exact ⟨h0.trans ((Cert.Reference7Ideal.Read.val_main_v7_eq _ _).trans ((final7 _ _).trans (final m c).symm)), hk⟩

end Cert.Dw

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Claims
public import proofs.«01_k».proof.Proof.Gen.Reference2Ideal.Run
public import proofs.«01_k».proof.Proof.Gen.Reference2Ideal.Read
public import proofs.«01_k».proof.Proof.InpClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_inproj
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame.Runs
public import proofs.«01_k».proof.Proof.Gen.Kernel4Ideal.Frame.Runs
public import proofs.«01_k».proof.Proof.Gen.Kernel4Ideal.Loops
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Loops
public import proofs.«01_k».proof.Proof.Gen.Kernel6.Frame
public import proofs.«01_k».proof.Proof.Gen.Kernel6.Skeleton
public import proofs.«01_k».proof.Proof.Gen.Kernel6Ideal.Frame
public import proofs.«01_k».proof.Proof.Gen.Kernel6Ideal.Skeleton
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.FwdClaims
public import proofs.«01_k».proof.Proof.ConvClaims
public import proofs.«01_k».proof.Proof.BcClaims
public import proofs.«01_k».proof.Proof.GlaClaims
public import proofs.«01_k».proof.Proof.DwClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts,
  Cert.Kernel6.Gen.facts, Cert.Kernel6Ideal.Gen.facts,
  Cert.Kernel7.Gen.facts, Cert.Kernel7Ideal.Gen.facts, Cert.Reference7Ideal.Gen.facts, Cert.Pre_finite.Gen.facts, Cert.Pre_finite_inproj.Gen.facts,
  fun m ρ _ => Cert.Kernel.Gen.frame m ρ, fun m ρ _ => Cert.KernelIdeal.Gen.frame m ρ, fun m ρ _ => Cert.KernelIdeal.Gen.frame m ρ,
  Cert.Mid.frame_reference, fun m ρ _ => Cert.Mid.frame_reference m ρ trivial,
  Cert.Inproj.frame_kernel, Cert.Inproj.frame_ideal, fun m ρ _ => Cert.Inproj.frame_ideal m ρ trivial,
  Cert.Inproj.frame_reference, fun m ρ _ => Cert.Inproj.frame_reference m ρ trivial,
  fun m ρ _ => Cert.Kernel3.Gen.frame m ρ, fun m ρ _ => Cert.Kernel3Ideal.Gen.frame m ρ, Cert.Fwd.frame_reference,
  Cert.Conv.frame_kernel, Cert.Conv.frame_ideal, Cert.Conv.frame_reference,
  Cert.Bconv.frame_kernel, Cert.Bconv.frame_ideal,
  Cert.Bgla.frame_kernel, Cert.Bgla.frame_ideal,
  fun m ρ _ => Cert.Kernel7.Gen.frame m ρ, fun m ρ _ => Cert.Kernel7Ideal.Gen.frame m ρ, Cert.Dw.frame_reference,
  trivial, Cert.Mid.algebraic, trivial, Cert.Inproj.algebraic, trivial, Cert.Fwd.algebraic, trivial, Cert.Conv.algebraic, trivial, trivial, trivial, Cert.Dw.algebraic⟩

end Cert.Proof

end
